-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  IdealRules.named_const.Statement Cert.Kernel16Ideal.κ "c1" .f32 0x3FC48605#32 ((8388608 / 5463681 : ℝ) : EReal)
  ∧ IdealRules.named_const.Statement Cert.Kernel16Ideal.κ "c2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "c1" .f32 0x3FC48605#32 ((8388608 / 5463681 : ℝ) : EReal)
  ∧ IdealRules.named_const.Statement Cert.Kernel17Ideal.κ "c2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "c1" .f32 0x3FC48605#32 ((8388608 / 5463681 : ℝ) : EReal)
  ∧ IdealRules.named_const.Statement Cert.Kernel18Ideal.κ "c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "c1" .f32 0x3FC48605#32 ((8388608 / 5463681 : ℝ) : EReal)
  ∧ IdealRules.named_const.Statement Cert.Kernel19Ideal.κ "c2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "c1" .f32 0x3FC48605#32 ((8388608 / 5463681 : ℝ) : EReal)
  ∧ IdealRules.named_const.Statement Cert.Kernel20Ideal.κ "c2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "c1" .f32 0x3FC48605#32 ((8388608 / 5463681 : ℝ) : EReal)
  ∧ IdealRules.named_const.Statement Cert.Kernel21Ideal.κ "c2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "c1" .f32 0x3FC48605#32 ((8388608 / 5463681 : ℝ) : EReal)
  ∧ IdealRules.named_const.Statement Cert.Kernel22Ideal.κ "c2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v34) = v0 c
          ∧ r.2.mem ((c.tc : Thread Cert.Reference27Ideal.nD Cert.Reference27Ideal.τ).loc Cert.Reference27Ideal.main_v17) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S4x2048x512 : Shape := ⟨3, ![4, 2048, 512]⟩
abbrev S4x32x8x64x64 : Shape := ⟨5, ![4, 32, 8, 64, 64]⟩
abbrev S_ : Shape := ⟨0, ![]⟩

class Facts : Prop where
  bcast_S_S4x2048x512 : S_.BroadcastsInDim S4x2048x512 (![] : Fin 0 → Fin S4x2048x512.rank)
  bcast_S_S4x32x8x64x64 : S_.BroadcastsInDim S4x32x8x64x64 (![] : Fin 0 → Fin S4x32x8x64x64.rank)

variable [Facts]

def fn_part1 {F : FTy → Type} [FloatOps F] (main_arg6 : FVec F S4x32x8x64x64 .f32) (main_arg7 : FVec F S4x2048x512 .f32) (main_v2 : IVec S4x2048x512 1) (main_v5 : IVec S4x2048x512 1) (main_v8 : IVec S4x2048x512 1) (main_v11 : IVec S4x2048x512 1) (main_v14 : IVec S4x2048x512 1) (main_v17 : IVec S4x2048x512 1) : IVec S4x2048x512 1 × IVec S4x2048x512 1 × IVec S4x2048x512 1 × IVec S4x2048x512 1 × IVec S4x2048x512 1 × IVec S4x2048x512 1 × IVec S4x32x8x64x64 1 × IVec S4x2048x512 1 :=
  let main_v18 : FVec F S4x32x8x64x64 .f32 := Host.absf main_arg6
  let main_cst_5 : FVec F S_ .f32 := constant S_ .f32 0x7F800000#32
  let main_v19 : FVec F S4x32x8x64x64 .f32 := broadcastInDim S4x32x8x64x64 ![] bcast_S_S4x32x8x64x64 main_cst_5
  let main_v20 : IVec S4x32x8x64x64 1 := cmpf .olt main_v18 main_v19
  let main_v21 : FVec F S4x2048x512 .f32 := Host.absf main_arg7
  let main_cst_6 : FVec F S_ .f32 := constant S_ .f32 0x7F800000#32
  let main_v22 : FVec F S4x2048x512 .f32 := broadcastInDim S4x2048x512 ![] bcast_S_S4x2048x512 main_cst_6
  let main_v23 : IVec S4x2048x512 1 := cmpf .olt main_v21 main_v22
  (main_v2, main_v5, main_v8, main_v11, main_v14, main_v17, main_v20, main_v23)

def fn {F : FTy → Type} [FloatOps F] (main_arg0 : FVec F S4x2048x512 .f32) (main_arg1 : FVec F S4x2048x512 .f32) (main_arg2 : FVec F S4x2048x512 .f32) (main_arg3 : FVec F S4x2048x512 .f32) (main_arg4 : FVec F S4x2048x512 .f32) (main_arg5 : FVec F S4x2048x512 .f32) (main_arg6 : FVec F S4x32x8x64x64 .f32) (main_arg7 : FVec F S4x2048x512 .f32) : IVec S4x2048x512 1 × IVec S4x2048x512 1 × IVec S4x2048x512 1 × IVec S4x2048x512 1 × IVec S4x2048x512 1 × IVec S4x2048x512 1 × IVec S4x32x8x64x64 1 × IVec S4x2048x512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S4x2048x512 .f32 := Host.absf main_arg2
  let main_cst_1 : FVec F S_ .f32 := constant S_ .f32 0x7F800000#32
  let main_v7 : FVec F S4x2048x512 .f32 := broadcastInDim S4x2048x512 ![] bcast_S_S4x2048x512 main_cst_1
  let main_v8 : IVec S4x2048x512 1 := cmpf .olt main_v6 main_v7
  let main_v9 : FVec F S4x2048x512 .f32 := Host.absf main_arg3
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_v12 : FVec F S4x2048x512 .f32 := Host.absf main_arg4
  let main_cst_3 : FVec F S_ .f32 := constant S_ .f32 0x7F800000#32
  let main_v13 : FVec F S4x2048x512 .f32 := broadcastInDim S4x2048x512 ![] bcast_S_S4x2048x512 main_cst_3
  let main_v14 : IVec S4x2048x512 1 := cmpf .olt main_v12 main_v13
  let main_v15 : FVec F S4x2048x512 .f32 := Host.absf main_arg5
  let main_cst_4 : FVec F S_ .f32 := constant S_ .f32 0x7F800000#32
  let main_v16 : FVec F S4x2048x512 .f32 := broadcastInDim S4x2048x512 ![] bcast_S_S4x2048x512 main_cst_4
  let main_v17 : IVec S4x2048x512 1 := cmpf .olt main_v15 main_v16
  fn_part1 (F := F) main_arg6 main_arg7 main_v2 main_v5 main_v8 main_v11 main_v14 main_v17
-- ==== Kernel.lean ====
abbrev S4x2048x512 : Shape := ⟨3, ![4, 2048, 512]⟩
abbrev S4x32x8x64x64 : Shape := ⟨5, ![4, 32, 8, 64, 64]⟩
abbrev S4x64x512 : Shape := ⟨3, ![4, 64, 512]⟩
abbrev S4x1x8x64x64 : Shape := ⟨5, ![4, 1, 8, 64, 64]⟩
abbrev S32x64x64 : Shape := ⟨3, ![32, 64, 64]⟩
abbrev S1x64x512 : Shape := ⟨3, ![1, 64, 512]⟩
abbrev S64x512 : Shape := ⟨2, ![64, 512]⟩
abbrev S64x64 : Shape := ⟨2, ![64, 64]⟩
abbrev S1x64x64 : Shape := ⟨3, ![1, 64, 64]⟩
abbrev S8x64x64 : Shape := ⟨3, ![8, 64, 64]⟩
abbrev S1x1x8x64x64 : Shape := ⟨5, ![1, 1, 8, 64, 64]⟩
abbrev S32x128x64 : Shape := ⟨3, ![32, 128, 64]⟩
abbrev S64x128 : Shape := ⟨2, ![64, 128]⟩
abbrev S128x128 : Shape := ⟨2, ![128, 128]⟩
abbrev S32x128x128 : Shape := ⟨3, ![32, 128, 128]⟩
abbrev S1x128x128 : Shape := ⟨3, ![1, 128, 128]⟩
abbrev S32x64x128 : Shape := ⟨3, ![32, 64, 128]⟩
abbrev S32x64x192 : Shape := ⟨3, ![32, 64, 192]⟩
abbrev S32x192x64 : Shape := ⟨3, ![32, 192, 64]⟩
abbrev S32x1x64 : Shape := ⟨3, ![32, 1, 64]⟩
abbrev S32x64 : Shape := ⟨2, ![32, 64]⟩
abbrev S32x63x64 : Shape := ⟨3, ![32, 63, 64]⟩

abbrev nBuf : Space → Nat
  | .hbm => 14
  | .vmem => 29
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x32x8x64x64, .f32⟩
  | .hbm, ⟨7, _⟩ => ⟨S4x2048x512, .f32⟩
  | .hbm, ⟨8, _⟩ => ⟨S4x2048x512, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .local _ .vmem, ⟨0, _⟩ => ⟨S4x64x512, .f32⟩
  | .local _ .vmem, ⟨1, _⟩ => ⟨S4x64x512, .f32⟩
  | .local _ .vmem, ⟨2, _⟩ => ⟨S4x64x512, .f32⟩
  | .local _ .vmem, ⟨3, _⟩ => ⟨S4x64x512, .f32⟩
  | .local _ .vmem, ⟨4, _⟩ => ⟨S4x64x512, .f32⟩
  | .local _ .vmem, ⟨5, _⟩ => ⟨S4x64x512, .f32⟩
  | .local _ .vmem, ⟨6, _⟩ => ⟨S4x64x512, .f32⟩
  | .local _ .vmem, ⟨7, _⟩ => ⟨S4x64x512, .f32⟩
  | .local _ .vmem, ⟨8, _⟩ => ⟨S4x64x512, .f32⟩
  | .local _ .vmem, ⟨9, _⟩ => ⟨S4x64x512, .f32⟩
  | .local _ .vmem, ⟨10, _⟩ => ⟨S4x64x512, .f32⟩
  | .local _ .vmem, ⟨11, _⟩ => ⟨S4x64x512, .f32⟩
  | .local _ .vmem, ⟨12, _⟩ => ⟨S4x1x8x64x64, .f32⟩
  | .local _ .vmem, ⟨13, _⟩ => ⟨S4x1x8x64x64, .f32⟩
  | .local _ .vmem, ⟨14, _⟩ => ⟨S4x64x512, .f32⟩
  | .local _ .vmem, ⟨15, _⟩ => ⟨S4x64x512, .f32⟩
  | .local _ .vmem, ⟨16, _⟩ => ⟨S4x64x512, .f32⟩
  | .local _ .vmem, ⟨17, _⟩ => ⟨S4x64x512, .f32⟩
  | .local _ .vmem, ⟨18, _⟩ => ⟨S4x64x512, .f32⟩
  | .local _ .vmem, ⟨19, _⟩ => ⟨S4x64x512, .f32⟩
  | .local _ .vmem, ⟨20, _⟩ => ⟨S4x64x512, .f32⟩
  | .local _ .vmem, ⟨21, _⟩ => ⟨S4x64x512, .f32⟩
  | .local _ .vmem, ⟨22, _⟩ => ⟨S4x64x512, .f32⟩
  | .local _ .vmem, ⟨23, _⟩ => ⟨S4x64x512, .f32⟩
  | .local _ .vmem, ⟨24, _⟩ => ⟨S4x64x512, .f32⟩
  | .local _ .vmem, ⟨25, _⟩ => ⟨S4x64x512, .f32⟩
  | .local _ .vmem, ⟨26, _⟩ => ⟨S4x64x512, .f32⟩
  | .local _ .vmem, ⟨27, _⟩ => ⟨S4x64x512, .f32⟩
  | .local _ .vmem, ⟨28, _⟩ => ⟨S32x64x64, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_6 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4x2048x512 : Shape := ⟨3, ![4, 2048, 512]⟩
abbrev S4x32x8x64x64 : Shape := ⟨5, ![4, 32, 8, 64, 64]⟩
abbrev S32x4x8x64x64 : Shape := ⟨5, ![32, 4, 8, 64, 64]⟩
abbrev S4x2048x8x64 : Shape := ⟨4, ![4, 2048, 8, 64]⟩
abbrev S2048x4x8x64 : Shape := ⟨4, ![2048, 4, 8, 64]⟩
abbrev S_ : Shape := ⟨0, ![]⟩
abbrev S4x8x64x64 : Shape := ⟨4, ![4, 8, 64, 64]⟩
abbrev S2048x4x8x64x64 : Shape := ⟨5, ![2048, 4, 8, 64, 64]⟩
abbrev S1x4x8x64x64 : Shape := ⟨5, ![1, 4, 8, 64, 64]⟩
abbrev S1x4x8x64 : Shape := ⟨4, ![1, 4, 8, 64]⟩
abbrev S4x8x64 : Shape := ⟨3, ![4, 8, 64]⟩
abbrev S4x8x1x64 : Shape := ⟨4, ![4, 8, 1, 64]⟩
abbrev S4x8x64x1 : Shape := ⟨4, ![4, 8, 64, 1]⟩

abbrev nBuf : Space → Nat
  | .hbm => 271
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x2048x512, .f32⟩
  | 3 => ⟨S4x2048x512, .f32⟩
  | 4 => ⟨S4x2048x512, .f32⟩
  | 5 => ⟨S4x2048x512, .f32⟩
  | 6 => ⟨S4x32x8x64x64, .f32⟩
  | 7 => ⟨S4x2048x512, .f32⟩
  | 8 => ⟨S32x4x8x64x64, .f32⟩
  | 9 => ⟨S4x2048x8x64, .f32⟩
  | 10 => ⟨S2048x4x8x64, .f32⟩
  | 11 => ⟨S4x2048x8x64, .f32⟩
  | 12 => ⟨S2048x4x8x64, .f32⟩
  | 13 => ⟨S4x2048x8x64, .f32⟩
  | 14 => ⟨S2048x4x8x64, .f32⟩
  | 15 => ⟨S4x2048x8x64, .f32⟩
  | 16 => ⟨S2048x4x8x64, .f32⟩
  | 17 => ⟨S4x2048x8x64, .f32⟩
  | 18 => ⟨S2048x4x8x64, .f32⟩
  | 19 => ⟨S4x2048x8x64, .f32⟩
  | 20 => ⟨S2048x4x8x64, .f32⟩
  | 21 => ⟨S4x2048x8x64, .f32⟩
  | 22 => ⟨S2048x4x8x64, .f32⟩
  | 23 => ⟨S_, .f32⟩
  | 24 => ⟨S4x8x64x64, .f32⟩
  | 25 => ⟨S_, .f32⟩
  | 26 => ⟨S2048x4x8x64x64, .f32⟩
  | 27 => ⟨S_, .f32⟩
  | 28 => ⟨S2048x4x8x64, .f32⟩
  | 29 => ⟨S_, .f32⟩
  | 30 => ⟨S2048x4x8x64, .f32⟩
  | 31 => ⟨S_, .f32⟩
  | 32 => ⟨S2048x4x8x64, .f32⟩
  | 33 => ⟨S_, .f32⟩
  | 34 => ⟨S2048x4x8x64, .f32⟩
  | 35 => ⟨S_, .f32⟩
  | 36 => ⟨S2048x4x8x64, .f32⟩
  | 37 => ⟨S_, .f32⟩
  | 38 => ⟨S2048x4x8x64, .f32⟩
  | 39 => ⟨S_, .i32⟩
  | 40 => ⟨S_, .i32⟩
  | 41 => ⟨S32x4x8x64x64, .f32⟩
  | 42 => ⟨S2048x4x8x64, .f32⟩
  | 43 => ⟨S2048x4x8x64, .f32⟩
  | 44 => ⟨S2048x4x8x64, .f32⟩
  | 45 => ⟨S2048x4x8x64, .f32⟩
  | 46 => ⟨S2048x4x8x64, .f32⟩
  | 47 => ⟨S2048x4x8x64, .f32⟩
  | 48 => ⟨S2048x4x8x64, .f32⟩
  | 49 => ⟨S_, .i32⟩
  | 50 => ⟨S_, .i32⟩
  | 51 => ⟨S4x8x64x64, .f32⟩
  | 52 => ⟨S4x8x64x64, .f32⟩
  | 53 => ⟨S2048x4x8x64x64, .f32⟩
  | 54 => ⟨S2048x4x8x64, .f32⟩
  | 55 => ⟨S2048x4x8x64, .f32⟩
  | 56 => ⟨S2048x4x8x64, .f32⟩
  | 57 => ⟨S2048x4x8x64, .f32⟩
  | 58 => ⟨S2048x4x8x64, .f32⟩
  | 59 => ⟨S2048x4x8x64, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S1x4x8x64x64, .f32⟩
  | 80 => ⟨S4x8x64x64, .f32⟩
  | 81 => ⟨S4x8x64x64, .f32⟩
  | 82 => ⟨S_, .i32⟩
  | 83 => ⟨S_, .i32⟩
  | 84 => ⟨S_, .i32⟩
  | 85 => ⟨S_, .i32⟩
  | 86 => ⟨S1x4x8x64x64, .f32⟩
  | 87 => ⟨S4x8x64x64, .f32⟩
  | 88 => ⟨S4x8x64x64, .f32⟩
  | 89 => ⟨S_, .i32⟩
  | 90 => ⟨S_, .i32⟩
  | 91 => ⟨S_, .i32⟩
  | 92 => ⟨S1x4x8x64, .f32⟩
  | 93 => ⟨S4x8x64, .f32⟩
  | 94 => ⟨S_, .i32⟩
  | 95 => ⟨S_, .i32⟩
  | 96 => ⟨S_, .i32⟩
  | 97 => ⟨S1x4x8x64, .f32⟩
  | 98 => ⟨S4x8x64, .f32⟩
  | 99 => ⟨S_, .i32⟩
  | 100 => ⟨S_, .i32⟩
  | 101 => ⟨S_, .i32⟩
  | 102 => ⟨S1x4x8x64, .f32⟩
  | 103 => ⟨S4x8x64, .f32⟩
  | 104 => ⟨S_, .i32⟩
  | 105 => ⟨S_, .i32⟩
  | 106 => ⟨S_, .i32⟩
  | 107 => ⟨S1x4x8x64, .f32⟩
  | 108 => ⟨S4x8x64, .f32⟩
  | 109 => ⟨S_, .i32⟩
  | 110 => ⟨S_, .i32⟩
  | 111 => ⟨S_, .i32⟩
  | 112 => ⟨S1x4x8x64, .f32⟩
  | 113 => ⟨S4x8x64, .f32⟩
  | 114 => ⟨S_, .i32⟩
  | 115 => ⟨S_, .i32⟩
  | 116 => ⟨S_, .i32⟩
  | 117 => ⟨S1x4x8x64, .f32⟩
  | 118 => ⟨S4x8x64, .f32⟩
  | 119 => ⟨S4x8x64, .f32⟩
  | 120 => ⟨S4x8x1x64, .f32⟩
  | 121 => ⟨S4x8x64x64, .f32⟩
  | 122 => ⟨S4x8x64x64, .f32⟩
  | 123 => ⟨S_, .f32⟩
  | 124 => ⟨S4x8x64, .f32⟩
  | 125 => ⟨S4x8x64, .f32⟩
  | 126 => ⟨S4x8x1x64, .f32⟩
  | 127 => ⟨S4x8x64x64, .f32⟩
  | _ => ⟨S4x2048x512, .f32⟩

abbrev hbmTy0_1 (i : Nat) : BufTy := match i % 128 with
  | 0 => ⟨S4x8x64x64, .f32⟩
  | 1 => ⟨S4x8x64x1, .f32⟩
  | 2 => ⟨S4x8x64, .f32⟩
  | 3 => ⟨S4x8x1x64, .f32⟩
  | 4 => ⟨S4x8x64x64, .f32⟩
  | 5 => ⟨S4x8x64x64, .f32⟩
  | 6 => ⟨S4x8x64x64, .f32⟩
  | 7 => ⟨S4x8x64x64, .f32⟩
  | 8 => ⟨S4x8x64x1, .f32⟩
  | 9 => ⟨S4x8x1x64, .f32⟩
  | 10 => ⟨S4x8x64x64, .f32⟩
  | 11 => ⟨S4x8x64x64, .f32⟩
  | 12 => ⟨S4x8x64x64, .f32⟩
  | 13 => ⟨S4x8x64x64, .f32⟩
  | 14 => ⟨S4x8x1x64, .f32⟩
  | 15 => ⟨S4x8x64x64, .f32⟩
  | 16 => ⟨S4x8x64x64, .f32⟩
  | 17 => ⟨S_, .f32⟩
  | 18 => ⟨S4x8x64, .f32⟩
  | 19 => ⟨S_, .i32⟩
  | 20 => ⟨S_, .i32⟩
  | 21 => ⟨S_, .i32⟩
  | 22 => ⟨S1x4x8x64, .f32⟩
  | 23 => ⟨S4x8x64, .f32⟩
  | 24 => ⟨S4x8x64x64, .f32⟩
  | 25 => ⟨S4x8x64x64, .f32⟩
  | 26 => ⟨S_, .f32⟩
  | 27 => ⟨S4x8x64, .f32⟩
  | 28 => ⟨S4x8x1x64, .f32⟩
  | 29 => ⟨S4x8x64x64, .f32⟩
  | 30 => ⟨S4x8x64x64, .f32⟩
  | 31 => ⟨S4x8x64x64, .f32⟩
  | 32 => ⟨S_, .f32⟩
  | 33 => ⟨S4x8x64, .f32⟩
  | 34 => ⟨S4x8x64x64, .f32⟩
  | 35 => ⟨S4x8x64x64, .f32⟩
  | 36 => ⟨S_, .f32⟩
  | 37 => ⟨S4x8x64, .f32⟩
  | 38 => ⟨S4x8x1x64, .f32⟩
  | 39 => ⟨S4x8x64x64, .f32⟩
  | 40 => ⟨S4x8x64x64, .f32⟩
  | 41 => ⟨S_, .f32⟩
  | 42 => ⟨S4x8x64, .f32⟩
  | 43 => ⟨S4x8x64x1, .f32⟩
  | 44 => ⟨S_, .f32⟩
  | 45 => ⟨S4x8x64, .f32⟩
  | 46 => ⟨S_, .f32⟩
  | 47 => ⟨S4x8x64, .f32⟩
  | 48 => ⟨S4x8x64x64, .f32⟩
  | 49 => ⟨S4x8x64x64, .f32⟩
  | 50 => ⟨S_, .f32⟩
  | 51 => ⟨S4x8x64, .f32⟩
  | 52 => ⟨S4x8x1x64, .f32⟩
  | 53 => ⟨S4x8x64x64, .f32⟩
  | 54 => ⟨S4x8x64x64, .f32⟩
  | 55 => ⟨S_, .f32⟩
  | 56 => ⟨S4x8x64, .f32⟩
  | 57 => ⟨S4x8x64x1, .f32⟩
  | 58 => ⟨S_, .f32⟩
  | 59 => ⟨S4x8x64, .f32⟩
  | 60 => ⟨S4x8x64, .f32⟩
  | 61 => ⟨S4x8x64, .f32⟩
  | 62 => ⟨S_, .f32⟩
  | 63 => ⟨S4x8x64, .f32⟩
  | 64 => ⟨S4x8x64x64, .f32⟩
  | 65 => ⟨S_, .f32⟩
  | 66 => ⟨S4x8x64, .f32⟩
  | 67 => ⟨S4x8x1x64, .f32⟩
  | 68 => ⟨S4x8x64x64, .f32⟩
  | 69 => ⟨S4x8x64x64, .f32⟩
  | 70 => ⟨S_, .f32⟩
  | 71 => ⟨S4x8x64, .f32⟩
  | 72 => ⟨S4x8x64, .f32⟩
  | 73 => ⟨S4x8x64x64, .f32⟩
  | 74 => ⟨S4x8x64x64, .f32⟩
  | 75 => ⟨S_, .f32⟩
  | 76 => ⟨S4x8x64, .f32⟩
  | 77 => ⟨S4x8x1x64, .f32⟩
  | 78 => ⟨S4x8x64x64, .f32⟩
  | 79 => ⟨S4x8x64x64, .f32⟩
  | 80 => ⟨S4x8x64x64, .f32⟩
  | 81 => ⟨S_, .f32⟩
  | 82 => ⟨S4x8x64, .f32⟩
  | 83 => ⟨S4x8x64, .f32⟩
  | 84 => ⟨S4x8x64, .f32⟩
  | 85 => ⟨S4x8x64x64, .f32⟩
  | 86 => ⟨S1x4x8x64x64, .f32⟩
  | 87 => ⟨S_, .i32⟩
  | 88 => ⟨S_, .i32⟩
  | 89 => ⟨S_, .i32⟩
  | 90 => ⟨S_, .i32⟩
  | 91 => ⟨S2048x4x8x64x64, .f32⟩
  | 92 => ⟨S2048x4x8x64x64, .f32⟩
  | 93 => ⟨S1x4x8x64, .f32⟩
  | 94 => ⟨S_, .i32⟩
  | 95 => ⟨S_, .i32⟩
  | 96 => ⟨S_, .i32⟩
  | 97 => ⟨S2048x4x8x64, .f32⟩
  | 98 => ⟨S2048x4x8x64, .f32⟩
  | 99 => ⟨S1x4x8x64, .f32⟩
  | 100 => ⟨S_, .i32⟩
  | 101 => ⟨S_, .i32⟩
  | 102 => ⟨S_, .i32⟩
  | 103 => ⟨S2048x4x8x64, .f32⟩
  | 104 => ⟨S2048x4x8x64, .f32⟩
  | 105 => ⟨S1x4x8x64, .f32⟩
  | 106 => ⟨S_, .i32⟩
  | 107 => ⟨S_, .i32⟩
  | 108 => ⟨S_, .i32⟩
  | 109 => ⟨S2048x4x8x64, .f32⟩
  | 110 => ⟨S2048x4x8x64, .f32⟩
  | 111 => ⟨S1x4x8x64, .f32⟩
  | 112 => ⟨S_, .i32⟩
  | 113 => ⟨S_, .i32⟩
  | 114 => ⟨S_, .i32⟩
  | 115 => ⟨S2048x4x8x64, .f32⟩
  | 116 => ⟨S2048x4x8x64, .f32⟩
  | 117 => ⟨S1x4x8x64, .f32⟩
  | 118 => ⟨S_, .i32⟩
  | 119 => ⟨S_, .i32⟩
  | 120 => ⟨S_, .i32⟩
  | 121 => ⟨S2048x4x8x64, .f32⟩
  | 122 => ⟨S2048x4x8x64, .f32⟩
  | 123 => ⟨S1x4x8x64, .f32⟩
  | 124 => ⟨S_, .i32⟩
  | 125 => ⟨S_, .i32⟩
  | 126 => ⟨S_, .i32⟩
  | 127 => ⟨S2048x4x8x64, .f32⟩
  | _ => ⟨S4x2048x512, .f32⟩

abbrev hbmTy0_2 (i : Nat) : BufTy := match i % 128 with
  | 0 => ⟨S2048x4x8x64, .f32⟩
  | 1 => ⟨S_, .i32⟩
  | 2 => ⟨S_, .i32⟩
  | 3 => ⟨S4x2048x8x64, .f32⟩
  | 4 => ⟨S4x2048x512, .f32⟩
  | 5 => ⟨S4x2048x8x64, .f32⟩
  | 6 => ⟨S4x2048x512, .f32⟩
  | 7 => ⟨S4x2048x8x64, .f32⟩
  | 8 => ⟨S4x2048x512, .f32⟩
  | 9 => ⟨S4x2048x8x64, .f32⟩
  | 10 => ⟨S4x2048x512, .f32⟩
  | 11 => ⟨S4x2048x8x64, .f32⟩
  | 12 => ⟨S4x2048x512, .f32⟩
  | 13 => ⟨S4x2048x8x64, .f32⟩
  | 14 => ⟨S4x2048x512, .f32⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_c : Ref sig .tc := ⟨.hbm, 39, rfl⟩
abbrev main_c_7 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev main_v23_4 : Ref sig .tc := ⟨.hbm, 45, rfl⟩
abbrev main_v23_5 : Ref sig .tc := ⟨.hbm, 46, rfl⟩
abbrev main_v23_6 : Ref sig .tc := ⟨.hbm, 47, rfl⟩
abbrev main_v23_7 : Ref sig .tc := ⟨.hbm, 48, rfl⟩
abbrev main_v23_8 : Ref sig .tc := ⟨.hbm, 49, rfl⟩
abbrev main_v23_9 : Ref sig .tc := ⟨.hbm, 50, rfl⟩
abbrev main_v23_10 : Ref sig .tc := ⟨.hbm, 51, rfl⟩
abbrev main_v23_11 : Ref sig .tc := ⟨.hbm, 52, rfl⟩
abbrev main_v23_12 : Ref sig .tc := ⟨.hbm, 53, rfl⟩
abbrev main_v23_13 : Ref sig .tc := ⟨.hbm, 54, rfl⟩
abbrev main_v23_14 : Ref sig .tc := ⟨.hbm, 55, rfl⟩
abbrev main_v23_15 : Ref sig .tc := ⟨.hbm, 56, rfl⟩
abbrev main_v23_16 : Ref sig .tc := ⟨.hbm, 57, rfl⟩
abbrev main_v23_17 : Ref sig .tc := ⟨.hbm, 58, rfl⟩
abbrev main_v23_18 : Ref sig .tc := ⟨.hbm, 59, rfl⟩
abbrev main_while0c_c_26 : Ref sig .tc := ⟨.hbm, 60, rfl⟩
abbrev main_while0c_v36 : Ref sig .tc := ⟨.hbm, 61, rfl⟩
abbrev main_while0b_c_26 : Ref sig .tc := ⟨.hbm, 62, rfl⟩
abbrev main_while0b_v36 : Ref sig .tc := ⟨.hbm, 63, rfl⟩
abbrev main_while0b_c_27 : Ref sig .tc := ⟨.hbm, 64, rfl⟩
abbrev main_while0b_v37 : Ref sig .tc := ⟨.hbm, 65, rfl⟩
abbrev main_while0b_v38 : Ref sig .tc := ⟨.hbm, 66, rfl⟩
abbrev main_while0b_c_28 : Ref sig .tc := ⟨.hbm, 67, rfl⟩
abbrev main_while0b_v39 : Ref sig .tc := ⟨.hbm, 68, rfl⟩
abbrev main_while0b_c_29 : Ref sig .tc := ⟨.hbm, 69, rfl⟩
abbrev main_while0b_v40 : Ref sig .tc := ⟨.hbm, 70, rfl⟩
abbrev main_while0b_c_30 : Ref sig .tc := ⟨.hbm, 71, rfl⟩
abbrev main_while0b_v41 : Ref sig .tc := ⟨.hbm, 72, rfl⟩
abbrev main_while0b_c_31 : Ref sig .tc := ⟨.hbm, 73, rfl⟩
abbrev main_while0b_v42 : Ref sig .tc := ⟨.hbm, 74, rfl⟩
abbrev main_while0b_call0_c : Ref sig .tc := ⟨.hbm, 75, rfl⟩
abbrev main_while0b_call0_c_0 : Ref sig .tc := ⟨.hbm, 76, rfl⟩
abbrev main_while0b_call0_c_1 : Ref sig .tc := ⟨.hbm, 77, rfl⟩
abbrev main_while0b_call0_c_2 : Ref sig .tc := ⟨.hbm, 78, rfl⟩
abbrev main_while0b_call0_v0 : Ref sig .tc := ⟨.hbm, 79, rfl⟩
abbrev main_while0b_v43 : Ref sig .tc := ⟨.hbm, 80, rfl⟩
abbrev main_while0b_v44 : Ref sig .tc := ⟨.hbm, 81, rfl⟩
abbrev main_while0b_call2_c : Ref sig .tc := ⟨.hbm, 82, rfl⟩
abbrev main_while0b_call2_c_0 : Ref sig .tc := ⟨.hbm, 83, rfl⟩
abbrev main_while0b_call2_c_1 : Ref sig .tc := ⟨.hbm, 84, rfl⟩
abbrev main_while0b_call2_c_2 : Ref sig .tc := ⟨.hbm, 85, rfl⟩
abbrev main_while0b_call2_v0 : Ref sig .tc := ⟨.hbm, 86, rfl⟩
abbrev main_while0b_v45 : Ref sig .tc := ⟨.hbm, 87, rfl⟩
abbrev main_while0b_v46 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_v0 : Ref sig .tc := ⟨.hbm, 92, rfl⟩
abbrev main_while0b_v47 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_v0 : Ref sig .tc := ⟨.hbm, 97, rfl⟩
abbrev main_while0b_v48 : Ref sig .tc := ⟨.hbm, 98, rfl⟩
abbrev main_while0b_call6_c : Ref sig .tc := ⟨.hbm, 99, rfl⟩
abbrev main_while0b_call6_c_0 : Ref sig .tc := ⟨.hbm, 100, rfl⟩
abbrev main_while0b_call6_c_1 : Ref sig .tc := ⟨.hbm, 101, rfl⟩
abbrev main_while0b_call6_v0 : Ref sig .tc := ⟨.hbm, 102, rfl⟩
abbrev main_while0b_v49 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_c_1 : Ref sig .tc := ⟨.hbm, 106, rfl⟩
abbrev main_while0b_call7_v0 : Ref sig .tc := ⟨.hbm, 107, rfl⟩
abbrev main_while0b_v50 : Ref sig .tc := ⟨.hbm, 108, rfl⟩
abbrev main_while0b_call8_c : Ref sig .tc := ⟨.hbm, 109, rfl⟩
abbrev main_while0b_call8_c_0 : Ref sig .tc := ⟨.hbm, 110, rfl⟩
abbrev main_while0b_call8_c_1 : Ref sig .tc := ⟨.hbm, 111, rfl⟩
abbrev main_while0b_call8_v0 : Ref sig .tc := ⟨.hbm, 112, rfl⟩
abbrev main_while0b_v51 : Ref sig .tc := ⟨.hbm, 113, rfl⟩
abbrev main_while0b_call9_c : Ref sig .tc := ⟨.hbm, 114, rfl⟩
abbrev main_while0b_call9_c_0 : Ref sig .tc := ⟨.hbm, 115, rfl⟩
abbrev main_while0b_call9_c_1 : Ref sig .tc := ⟨.hbm, 116, rfl⟩
abbrev main_while0b_call9_v0 : Ref sig .tc := ⟨.hbm, 117, rfl⟩
abbrev main_while0b_v52 : Ref sig .tc := ⟨.hbm, 118, rfl⟩
abbrev main_while0b_v53 : Ref sig .tc := ⟨.hbm, 119, rfl⟩
abbrev main_while0b_v54 : Ref sig .tc := ⟨.hbm, 120, rfl⟩
abbrev main_while0b_v55 : Ref sig .tc := ⟨.hbm, 121, rfl⟩
abbrev main_while0b_v56 : Ref sig .tc := ⟨.hbm, 122, rfl⟩
abbrev main_while0b_cst_32 : Ref sig .tc := ⟨.hbm, 123, rfl⟩
abbrev main_while0b_v57 : Ref sig .tc := ⟨.hbm, 124, rfl⟩
abbrev main_while0b_v58 : Ref sig .tc := ⟨.hbm, 125, rfl⟩
abbrev main_while0b_v59 : Ref sig .tc := ⟨.hbm, 126, rfl⟩
abbrev main_while0b_v60 : Ref sig .tc := ⟨.hbm, 127, rfl⟩
abbrev main_while0b_v61 : Ref sig .tc := ⟨.hbm, 128, rfl⟩
abbrev main_while0b_v62 : Ref sig .tc := ⟨.hbm, 129, rfl⟩
abbrev main_while0b_v63 : Ref sig .tc := ⟨.hbm, 130, rfl⟩
abbrev main_while0b_v64 : Ref sig .tc := ⟨.hbm, 131, rfl⟩
abbrev main_while0b_v65 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_v71 : Ref sig .tc := ⟨.hbm, 138, rfl⟩
abbrev main_while0b_v72 : Ref sig .tc := ⟨.hbm, 139, rfl⟩
abbrev main_while0b_v73 : Ref sig .tc := ⟨.hbm, 140, rfl⟩
abbrev main_while0b_v74 : Ref sig .tc := ⟨.hbm, 141, rfl⟩
abbrev main_while0b_v75 : Ref sig .tc := ⟨.hbm, 142, rfl⟩
abbrev main_while0b_v76 : Ref sig .tc := ⟨.hbm, 143, rfl⟩
abbrev main_while0b_v77 : Ref sig .tc := ⟨.hbm, 144, rfl⟩
abbrev main_while0b_cst_33 : Ref sig .tc := ⟨.hbm, 145, rfl⟩
abbrev main_while0b_v78 : Ref sig .tc := ⟨.hbm, 146, rfl⟩
abbrev main_while0b_call10_c : Ref sig .tc := ⟨.hbm, 147, rfl⟩
abbrev main_while0b_call10_c_0 : Ref sig .tc := ⟨.hbm, 148, rfl⟩
abbrev main_while0b_call10_c_1 : Ref sig .tc := ⟨.hbm, 149, rfl⟩
abbrev main_while0b_call10_v0 : Ref sig .tc := ⟨.hbm, 150, rfl⟩
abbrev main_while0b_v79 : Ref sig .tc := ⟨.hbm, 151, rfl⟩
abbrev main_while0b_v80 : Ref sig .tc := ⟨.hbm, 152, rfl⟩
abbrev main_while0b_v81 : Ref sig .tc := ⟨.hbm, 153, rfl⟩
abbrev main_while0b_cst_34 : Ref sig .tc := ⟨.hbm, 154, rfl⟩
abbrev main_while0b_v82 : Ref sig .tc := ⟨.hbm, 155, rfl⟩
abbrev main_while0b_v83 : Ref sig .tc := ⟨.hbm, 156, rfl⟩
abbrev main_while0b_v84 : Ref sig .tc := ⟨.hbm, 157, rfl⟩
abbrev main_while0b_v85 : Ref sig .tc := ⟨.hbm, 158, rfl⟩
abbrev main_while0b_v86 : Ref sig .tc := ⟨.hbm, 159, rfl⟩
abbrev main_while0b_cst_35 : Ref sig .tc := ⟨.hbm, 160, rfl⟩
abbrev main_while0b_v87 : Ref sig .tc := ⟨.hbm, 161, rfl⟩
abbrev main_while0b_v88 : Ref sig .tc := ⟨.hbm, 162, rfl⟩
abbrev main_while0b_v89 : Ref sig .tc := ⟨.hbm, 163, rfl⟩
abbrev main_while0b_cst_36 : Ref sig .tc := ⟨.hbm, 164, rfl⟩
abbrev main_while0b_v90 : Ref sig .tc := ⟨.hbm, 165, rfl⟩
abbrev main_while0b_v91 : Ref sig .tc := ⟨.hbm, 166, rfl⟩
abbrev main_while0b_v92 : Ref sig .tc := ⟨.hbm, 167, rfl⟩
abbrev main_while0b_v93 : Ref sig .tc := ⟨.hbm, 168, rfl⟩
abbrev main_while0b_cst_37 : Ref sig .tc := ⟨.hbm, 169, rfl⟩
abbrev main_while0b_v94 : Ref sig .tc := ⟨.hbm, 170, rfl⟩
abbrev main_while0b_v95 : Ref sig .tc := ⟨.hbm, 171, rfl⟩
abbrev main_while0b_cst_38 : Ref sig .tc := ⟨.hbm, 172, rfl⟩
abbrev main_while0b_v96 : Ref sig .tc := ⟨.hbm, 173, rfl⟩
abbrev main_while0b_cst_39 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_cst_40 : Ref sig .tc := ⟨.hbm, 178, rfl⟩
abbrev main_while0b_v100 : Ref sig .tc := ⟨.hbm, 179, rfl⟩
abbrev main_while0b_v101 : Ref sig .tc := ⟨.hbm, 180, rfl⟩
abbrev main_while0b_v102 : Ref sig .tc := ⟨.hbm, 181, rfl⟩
abbrev main_while0b_v103 : Ref sig .tc := ⟨.hbm, 182, rfl⟩
abbrev main_while0b_cst_41 : Ref sig .tc := ⟨.hbm, 183, rfl⟩
abbrev main_while0b_v104 : Ref sig .tc := ⟨.hbm, 184, rfl⟩
abbrev main_while0b_v105 : Ref sig .tc := ⟨.hbm, 185, rfl⟩
abbrev main_while0b_cst_42 : Ref sig .tc := ⟨.hbm, 186, rfl⟩
abbrev main_while0b_v106 : Ref sig .tc := ⟨.hbm, 187, rfl⟩
abbrev main_while0b_v107 : Ref sig .tc := ⟨.hbm, 188, rfl⟩
abbrev main_while0b_v108 : Ref sig .tc := ⟨.hbm, 189, rfl⟩
abbrev main_while0b_cst_43 : Ref sig .tc := ⟨.hbm, 190, rfl⟩
abbrev main_while0b_v109 : Ref sig .tc := ⟨.hbm, 191, rfl⟩
abbrev main_while0b_v110 : Ref sig .tc := ⟨.hbm, 192, rfl⟩
abbrev main_while0b_cst_44 : Ref sig .tc := ⟨.hbm, 193, rfl⟩
abbrev main_while0b_v111 : Ref sig .tc := ⟨.hbm, 194, rfl⟩
abbrev main_while0b_v112 : Ref sig .tc := ⟨.hbm, 195, rfl⟩
abbrev main_while0b_v113 : Ref sig .tc := ⟨.hbm, 196, rfl⟩
abbrev main_while0b_v114 : Ref sig .tc := ⟨.hbm, 197, rfl⟩
abbrev main_while0b_cst_45 : Ref sig .tc := ⟨.hbm, 198, rfl⟩
abbrev main_while0b_v115 : Ref sig .tc := ⟨.hbm, 199, rfl⟩
abbrev main_while0b_v116 : Ref sig .tc := ⟨.hbm, 200, rfl⟩
abbrev main_while0b_v117 : Ref sig .tc := ⟨.hbm, 201, rfl⟩
abbrev main_while0b_v118 : Ref sig .tc := ⟨.hbm, 202, rfl⟩
abbrev main_while0b_cst_46 : Ref sig .tc := ⟨.hbm, 203, rfl⟩
abbrev main_while0b_v119 : Ref sig .tc := ⟨.hbm, 204, rfl⟩
abbrev main_while0b_v120 : Ref sig .tc := ⟨.hbm, 205, rfl⟩
abbrev main_while0b_v121 : Ref sig .tc := ⟨.hbm, 206, rfl⟩
abbrev main_while0b_v122 : Ref sig .tc := ⟨.hbm, 207, rfl⟩
abbrev main_while0b_v123 : Ref sig .tc := ⟨.hbm, 208, rfl⟩
abbrev main_while0b_cst_47 : Ref sig .tc := ⟨.hbm, 209, rfl⟩
abbrev main_while0b_v124 : Ref sig .tc := ⟨.hbm, 210, rfl⟩
abbrev main_while0b_v125 : Ref sig .tc := ⟨.hbm, 211, rfl⟩
abbrev main_while0b_v126 : Ref sig .tc := ⟨.hbm, 212, rfl⟩
abbrev main_while0b_v127 : Ref sig .tc := ⟨.hbm, 213, rfl⟩
abbrev main_while0b_call12_v0 : Ref sig .tc := ⟨.hbm, 214, rfl⟩
abbrev main_while0b_call12_c : Ref sig .tc := ⟨.hbm, 215, rfl⟩
abbrev main_while0b_call12_c_0 : Ref sig .tc := ⟨.hbm, 216, rfl⟩
abbrev main_while0b_call12_c_1 : Ref sig .tc := ⟨.hbm, 217, rfl⟩
abbrev main_while0b_call12_c_2 : Ref sig .tc := ⟨.hbm, 218, rfl⟩
abbrev main_while0b_v128 : Ref sig .tc := ⟨.hbm, 219, rfl⟩
abbrev main_while0b_v129 : Ref sig .tc := ⟨.hbm, 220, rfl⟩
abbrev main_while0b_call14_v0 : Ref sig .tc := ⟨.hbm, 221, rfl⟩
abbrev main_while0b_call14_c : Ref sig .tc := ⟨.hbm, 222, rfl⟩
abbrev main_while0b_call14_c_0 : Ref sig .tc := ⟨.hbm, 223, rfl⟩
abbrev main_while0b_call14_c_1 : Ref sig .tc := ⟨.hbm, 224, rfl⟩
abbrev main_while0b_v130 : Ref sig .tc := ⟨.hbm, 225, rfl⟩
abbrev main_while0b_v131 : Ref sig .tc := ⟨.hbm, 226, rfl⟩
abbrev main_while0b_call16_v0 : Ref sig .tc := ⟨.hbm, 227, rfl⟩
abbrev main_while0b_call16_c : Ref sig .tc := ⟨.hbm, 228, rfl⟩
abbrev main_while0b_call16_c_0 : Ref sig .tc := ⟨.hbm, 229, rfl⟩
abbrev main_while0b_call16_c_1 : Ref sig .tc := ⟨.hbm, 230, rfl⟩
abbrev main_while0b_v132 : Ref sig .tc := ⟨.hbm, 231, rfl⟩
abbrev main_while0b_v133 : Ref sig .tc := ⟨.hbm, 232, rfl⟩
abbrev main_while0b_call18_v0 : Ref sig .tc := ⟨.hbm, 233, rfl⟩
abbrev main_while0b_call18_c : Ref sig .tc := ⟨.hbm, 234, rfl⟩
abbrev main_while0b_call18_c_0 : Ref sig .tc := ⟨.hbm, 235, rfl⟩
abbrev main_while0b_call18_c_1 : Ref sig .tc := ⟨.hbm, 236, rfl⟩
abbrev main_while0b_v134 : Ref sig .tc := ⟨.hbm, 237, rfl⟩
abbrev main_while0b_v135 : Ref sig .tc := ⟨.hbm, 238, rfl⟩
abbrev main_while0b_call20_v0 : Ref sig .tc := ⟨.hbm, 239, rfl⟩
abbrev main_while0b_call20_c : Ref sig .tc := ⟨.hbm, 240, rfl⟩
abbrev main_while0b_call20_c_0 : Ref sig .tc := ⟨.hbm, 241, rfl⟩
abbrev main_while0b_call20_c_1 : Ref sig .tc := ⟨.hbm, 242, rfl⟩
abbrev main_while0b_v136 : Ref sig .tc := ⟨.hbm, 243, rfl⟩
abbrev main_while0b_v137 : Ref sig .tc := ⟨.hbm, 244, rfl⟩
abbrev main_while0b_call22_v0 : Ref sig .tc := ⟨.hbm, 245, rfl⟩
abbrev main_while0b_call22_c : Ref sig .tc := ⟨.hbm, 246, rfl⟩
abbrev main_while0b_call22_c_0 : Ref sig .tc := ⟨.hbm, 247, rfl⟩
abbrev main_while0b_call22_c_1 : Ref sig .tc := ⟨.hbm, 248, rfl⟩
abbrev main_while0b_v138 : Ref sig .tc := ⟨.hbm, 249, rfl⟩
abbrev main_while0b_v139 : Ref sig .tc := ⟨.hbm, 250, rfl⟩
abbrev main_while0b_call24_v0 : Ref sig .tc := ⟨.hbm, 251, rfl⟩
abbrev main_while0b_call24_c : Ref sig .tc := ⟨.hbm, 252, rfl⟩
abbrev main_while0b_call24_c_0 : Ref sig .tc := ⟨.hbm, 253, rfl⟩
abbrev main_while0b_call24_c_1 : Ref sig .tc := ⟨.hbm, 254, rfl⟩
abbrev main_while0b_v140 : Ref sig .tc := ⟨.hbm, 255, rfl⟩
abbrev main_while0b_v141 : Ref sig .tc := ⟨.hbm, 256, rfl⟩
abbrev main_while0b_c_48 : Ref sig .tc := ⟨.hbm, 257, rfl⟩
abbrev main_while0b_v142 : Ref sig .tc := ⟨.hbm, 258, rfl⟩
abbrev main_v24 : Ref sig .tc := ⟨.hbm, 259, rfl⟩
abbrev main_v25 : Ref sig .tc := ⟨.hbm, 260, rfl⟩
abbrev main_v26 : Ref sig .tc := ⟨.hbm, 261, rfl⟩
abbrev main_v27 : Ref sig .tc := ⟨.hbm, 262, rfl⟩
abbrev main_v28 : Ref sig .tc := ⟨.hbm, 263, rfl⟩
abbrev main_v29 : Ref sig .tc := ⟨.hbm, 264, rfl⟩
abbrev main_v30 : Ref sig .tc := ⟨.hbm, 265, rfl⟩
abbrev main_v31 : Ref sig .tc := ⟨.hbm, 266, rfl⟩
abbrev main_v32 : Ref sig .tc := ⟨.hbm, 267, rfl⟩
abbrev main_v33 : Ref sig .tc := ⟨.hbm, 268, rfl⟩
abbrev main_v34 : Ref sig .tc := ⟨.hbm, 269, rfl⟩
abbrev main_v35 : Ref sig .tc := ⟨.hbm, 270, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x2816 : Shape := ⟨2, ![8192, 2816]⟩
abbrev S2816x1024 : Shape := ⟨2, ![2816, 1024]⟩
abbrev S1024x2816 : Shape := ⟨2, ![1024, 2816]⟩
abbrev S_ : Shape := ⟨0, ![]⟩
abbrev S8192x1024 : Shape := ⟨2, ![8192, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S1024x2816, .f32⟩
  | .hbm, ⟨8, _⟩ => ⟨S_, .f32⟩
  | .hbm, ⟨9, _⟩ => ⟨S8192x1024, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x1024, .f32⟩
  | .hbm, ⟨15, _⟩ => ⟨S8192x1024, .f32⟩
  | .hbm, ⟨16, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference5Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x1024 : Shape := ⟨2, ![8192, 1024]⟩
abbrev S1536x1024 : Shape := ⟨2, ![1536, 1024]⟩
abbrev S8192x1536 : Shape := ⟨2, ![8192, 1536]⟩
abbrev S512x1024 : Shape := ⟨2, ![512, 1024]⟩
abbrev S768x1024 : Shape := ⟨2, ![768, 1024]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1536, .bf16⟩
  | .local _ .vmem, ⟨0, _⟩ => ⟨S512x1024, .bf16⟩
  | .local _ .vmem, ⟨1, _⟩ => ⟨S512x1024, .bf16⟩
  | .local _ .vmem, ⟨2, _⟩ => ⟨S768x1024, .bf16⟩
  | .local _ .vmem, ⟨3, _⟩ => ⟨S768x1024, .bf16⟩
  | .local _ .vmem, ⟨4, _⟩ => ⟨S512x768, .bf16⟩
  | .local _ .vmem, ⟨5, _⟩ => ⟨S512x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1536x1024 : Shape := ⟨2, ![1536, 1024]⟩
abbrev S1024x1536 : Shape := ⟨2, ![1024, 1536]⟩
abbrev S8192x1536 : Shape := ⟨2, ![8192, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1024, .f32⟩
  | .hbm, ⟨3, _⟩ => ⟨S1536x1024, .f32⟩
  | .hbm, ⟨4, _⟩ => ⟨S1024x1536, .f32⟩
  | .hbm, ⟨5, _⟩ => ⟨S8192x1536, .f32⟩
  | .hbm, ⟨6, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S1792x1024 : Shape := ⟨2, ![1792, 1024]⟩
abbrev S8192x1792 : Shape := ⟨2, ![8192, 1792]⟩
abbrev S512x1024 : Shape := ⟨2, ![512, 1024]⟩
abbrev S896x1024 : Shape := ⟨2, ![896, 1024]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1792x1024, .bf16⟩
  | .hbm, ⟨2, _⟩ => ⟨S8192x1792, .f32⟩
  | .local _ .vmem, ⟨0, _⟩ => ⟨S512x1024, .bf16⟩
  | .local _ .vmem, ⟨1, _⟩ => ⟨S512x1024, .bf16⟩
  | .local _ .vmem, ⟨2, _⟩ => ⟨S896x1024, .bf16⟩
  | .local _ .vmem, ⟨3, _⟩ => ⟨S896x1024, .bf16⟩
  | .local _ .vmem, ⟨4, _⟩ => ⟨S512x896, .f32⟩
  | .local _ .vmem, ⟨5, _⟩ => ⟨S512x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1792x1024 : Shape := ⟨2, ![1792, 1024]⟩
abbrev S1024x1792 : Shape := ⟨2, ![1024, 1792]⟩
abbrev S8192x1792 : Shape := ⟨2, ![8192, 1792]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1792x1024, .bf16⟩
  | .hbm, ⟨2, _⟩ => ⟨S8192x1024, .f32⟩
  | .hbm, ⟨3, _⟩ => ⟨S1792x1024, .f32⟩
  | .hbm, ⟨4, _⟩ => ⟨S1024x1792, .f32⟩
  | .hbm, ⟨5, _⟩ => ⟨S8192x1792, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S1024x2048, .f32⟩
  | .hbm, ⟨5, _⟩ => ⟨S8192x2048, .f32⟩
  | .hbm, ⟨6, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference10Ideal.lean ====
abbrev S8192x512 : Shape := ⟨2, ![8192, 512]⟩
abbrev S512x1024 : Shape := ⟨2, ![512, 1024]⟩
abbrev S1024x512 : Shape := ⟨2, ![1024, 512]⟩
abbrev S_ : Shape := ⟨0, ![]⟩
abbrev S8192x1024 : Shape := ⟨2, ![8192, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S512x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S512x1024, .f32⟩
  | .hbm, ⟨11, _⟩ => ⟨S1024x512, .f32⟩
  | .hbm, ⟨12, _⟩ => ⟨S_, .f32⟩
  | .hbm, ⟨13, _⟩ => ⟨S8192x1024, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel11.lean ====
abbrev S8192x1792 : Shape := ⟨2, ![8192, 1792]⟩
abbrev S1792x1024 : Shape := ⟨2, ![1792, 1024]⟩
abbrev S8192x1024 : Shape := ⟨2, ![8192, 1024]⟩
abbrev S512x896 : Shape := ⟨2, ![512, 896]⟩
abbrev S896x1024 : Shape := ⟨2, ![896, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .local _ .vmem, ⟨0, _⟩ => ⟨S512x896, .bf16⟩
  | .local _ .vmem, ⟨1, _⟩ => ⟨S512x896, .bf16⟩
  | .local _ .vmem, ⟨2, _⟩ => ⟨S896x1024, .bf16⟩
  | .local _ .vmem, ⟨3, _⟩ => ⟨S896x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x1792 : Shape := ⟨2, ![8192, 1792]⟩
abbrev S1792x1024 : Shape := ⟨2, ![1792, 1024]⟩
abbrev S8192x1024 : Shape := ⟨2, ![8192, 1024]⟩
abbrev S1024x1792 : Shape := ⟨2, ![1024, 1792]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S1792x1024, .f32⟩
  | .hbm, ⟨4, _⟩ => ⟨S1024x1792, .f32⟩
  | .hbm, ⟨5, _⟩ => ⟨S_, .f32⟩
  | .hbm, ⟨6, _⟩ => ⟨S8192x1024, .f32⟩
  | .hbm, ⟨7, _⟩ => ⟨S8192x1792, .f32⟩
  | .hbm, ⟨8, _⟩ => ⟨S8192x1792, .f32⟩
  | .hbm, ⟨9, _⟩ => ⟨S8192x1024, .f32⟩
  | .hbm, ⟨10, _⟩ => ⟨S8192x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .hbm, ⟨3, _⟩ => ⟨S1024x1024, .bf16⟩
  | .hbm, ⟨4, _⟩ => ⟨S8192x1024, .f32⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel13.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel13Ideal.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S512x1024, .f32⟩
  | .hbm, ⟨5, _⟩ => ⟨S1024x512, .f32⟩
  | .hbm, ⟨6, _⟩ => ⟨S8192x512, .f32⟩
  | .hbm, ⟨7, _⟩ => ⟨S8192x512, .f32⟩
  | .hbm, ⟨8, _⟩ => ⟨S512x1024, .f32⟩
  | .hbm, ⟨9, _⟩ => ⟨S1024x512, .f32⟩
  | .hbm, ⟨10, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S8192x1792 : Shape := ⟨2, ![8192, 1792]⟩
abbrev S8192x1024 : Shape := ⟨2, ![8192, 1024]⟩
abbrev S1792x1024 : Shape := ⟨2, ![1792, 1024]⟩
abbrev S512x896 : Shape := ⟨2, ![512, 896]⟩
abbrev S512x1024 : Shape := ⟨2, ![512, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S1792x1024, .f32⟩
  | .local _ .vmem, ⟨0, _⟩ => ⟨S512x896, .bf16⟩
  | .local _ .vmem, ⟨1, _⟩ => ⟨S512x896, .bf16⟩
  | .local _ .vmem, ⟨2, _⟩ => ⟨S512x1024, .bf16⟩
  | .local _ .vmem, ⟨3, _⟩ => ⟨S512x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S8192x1792 : Shape := ⟨2, ![8192, 1792]⟩
abbrev S8192x1024 : Shape := ⟨2, ![8192, 1024]⟩
abbrev S1792x1024 : Shape := ⟨2, ![1792, 1024]⟩
abbrev S512x896 : Shape := ⟨2, ![512, 896]⟩
abbrev S512x1024 : Shape := ⟨2, ![512, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S1792x1024, .f32⟩
  | .local _ .vmem, ⟨0, _⟩ => ⟨S512x896, .bf16⟩
  | .local _ .vmem, ⟨1, _⟩ => ⟨S512x896, .bf16⟩
  | .local _ .vmem, ⟨2, _⟩ => ⟨S512x1024, .bf16⟩
  | .local _ .vmem, ⟨3, _⟩ => ⟨S512x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1792 : Shape := ⟨2, ![8192, 1792]⟩
abbrev S8192x1024 : Shape := ⟨2, ![8192, 1024]⟩
abbrev S_ : Shape := ⟨0, ![]⟩
abbrev S1792x1024 : Shape := ⟨2, ![1792, 1024]⟩
abbrev S1024x1792 : Shape := ⟨2, ![1024, 1792]⟩

abbrev nBuf : Space → Nat
  | .hbm => 11
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1792x1024, .f32⟩
  | .hbm, ⟨5, _⟩ => ⟨S1024x1792, .f32⟩
  | .hbm, ⟨6, _⟩ => ⟨S8192x1792, .f32⟩
  | .hbm, ⟨7, _⟩ => ⟨S8192x1792, .f32⟩
  | .hbm, ⟨8, _⟩ => ⟨S1792x1024, .f32⟩
  | .hbm, ⟨9, _⟩ => ⟨S1024x1792, .f32⟩
  | .hbm, ⟨10, _⟩ => ⟨S1792x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S1344x1024 : Shape := ⟨2, ![1344, 1024]⟩
abbrev S224x1024 : Shape := ⟨2, ![224, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1344x1024, .f32⟩
  | .hbm, ⟨1, _⟩ => ⟨S1344x1024, .f32⟩
  | .hbm, ⟨2, _⟩ => ⟨S1344x1024, .f32⟩
  | .hbm, ⟨3, _⟩ => ⟨S1344x1024, .f32⟩
  | .hbm, ⟨4, _⟩ => ⟨S1344x1024, .f32⟩
  | .hbm, ⟨5, _⟩ => ⟨S1344x1024, .f32⟩
  | .hbm, ⟨6, _⟩ => ⟨S1344x1024, .f32⟩
  | .local _ .vmem, ⟨0, _⟩ => ⟨S224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | .local _ .vmem, ⟨9, _⟩ => ⟨S224x1024, .f32⟩
  | .local _ .vmem, ⟨10, _⟩ => ⟨S224x1024, .f32⟩
  | .local _ .vmem, ⟨11, _⟩ => ⟨S224x1024, .f32⟩
  | .local _ .vmem, ⟨12, _⟩ => ⟨S224x1024, .f32⟩
  | .local _ .vmem, ⟨13, _⟩ => ⟨S224x1024, .f32⟩
  | _, _ => ⟨S1344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S1344x1024 : Shape := ⟨2, ![1344, 1024]⟩
abbrev S224x1024 : Shape := ⟨2, ![224, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1344x1024, .f32⟩
  | .hbm, ⟨1, _⟩ => ⟨S1344x1024, .f32⟩
  | .hbm, ⟨2, _⟩ => ⟨S1344x1024, .f32⟩
  | .hbm, ⟨3, _⟩ => ⟨S1344x1024, .f32⟩
  | .hbm, ⟨4, _⟩ => ⟨S1344x1024, .f32⟩
  | .hbm, ⟨5, _⟩ => ⟨S1344x1024, .f32⟩
  | .hbm, ⟨6, _⟩ => ⟨S1344x1024, .f32⟩
  | .local _ .vmem, ⟨0, _⟩ => ⟨S224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | .local _ .vmem, ⟨9, _⟩ => ⟨S224x1024, .f32⟩
  | .local _ .vmem, ⟨10, _⟩ => ⟨S224x1024, .f32⟩
  | .local _ .vmem, ⟨11, _⟩ => ⟨S224x1024, .f32⟩
  | .local _ .vmem, ⟨12, _⟩ => ⟨S224x1024, .f32⟩
  | .local _ .vmem, ⟨13, _⟩ => ⟨S224x1024, .f32⟩
  | _, _ => ⟨S1344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1344x1024 : Shape := ⟨2, ![1344, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1344x1024, .f32⟩
  | .hbm, ⟨1, _⟩ => ⟨S1344x1024, .f32⟩
  | .hbm, ⟨2, _⟩ => ⟨S1344x1024, .f32⟩
  | .hbm, ⟨3, _⟩ => ⟨S1344x1024, .f32⟩
  | .hbm, ⟨4, _⟩ => ⟨S_, .f32⟩
  | .hbm, ⟨5, _⟩ => ⟨S1344x1024, .f32⟩
  | .hbm, ⟨6, _⟩ => ⟨S1344x1024, .f32⟩
  | .hbm, ⟨7, _⟩ => ⟨S_, .f32⟩
  | .hbm, ⟨8, _⟩ => ⟨S1344x1024, .f32⟩
  | .hbm, ⟨9, _⟩ => ⟨S1344x1024, .f32⟩
  | .hbm, ⟨10, _⟩ => ⟨S1344x1024, .f32⟩
  | .hbm, ⟨11, _⟩ => ⟨S_, .f32⟩
  | .hbm, ⟨12, _⟩ => ⟨S1344x1024, .f32⟩
  | .hbm, ⟨13, _⟩ => ⟨S1344x1024, .f32⟩
  | .hbm, ⟨14, _⟩ => ⟨S1344x1024, .f32⟩
  | .hbm, ⟨15, _⟩ => ⟨S_, .f32⟩
  | .hbm, ⟨16, _⟩ => ⟨S1344x1024, .f32⟩
  | .hbm, ⟨17, _⟩ => ⟨S1344x1024, .f32⟩
  | .hbm, ⟨18, _⟩ => ⟨S1344x1024, .f32⟩
  | .hbm, ⟨19, _⟩ => ⟨S_, .f32⟩
  | .hbm, ⟨20, _⟩ => ⟨S1344x1024, .f32⟩
  | .hbm, ⟨21, _⟩ => ⟨S1344x1024, .f32⟩
  | .hbm, ⟨22, _⟩ => ⟨S_, .f32⟩
  | .hbm, ⟨23, _⟩ => ⟨S1344x1024, .f32⟩
  | .hbm, ⟨24, _⟩ => ⟨S1344x1024, .f32⟩
  | .hbm, ⟨25, _⟩ => ⟨S1344x1024, .f32⟩
  | .hbm, ⟨26, _⟩ => ⟨S_, .f32⟩
  | .hbm, ⟨27, _⟩ => ⟨S1344x1024, .f32⟩
  | .hbm, ⟨28, _⟩ => ⟨S1344x1024, .f32⟩
  | .hbm, ⟨29, _⟩ => ⟨S1344x1024, .f32⟩
  | .hbm, ⟨30, _⟩ => ⟨S_, .f32⟩
  | .hbm, ⟨31, _⟩ => ⟨S1344x1024, .f32⟩
  | .hbm, ⟨32, _⟩ => ⟨S1344x1024, .f32⟩
  | .hbm, ⟨33, _⟩ => ⟨S1344x1024, .f32⟩
  | .hbm, ⟨34, _⟩ => ⟨S_, .f32⟩
  | .hbm, ⟨35, _⟩ => ⟨S1344x1024, .f32⟩
  | .hbm, ⟨36, _⟩ => ⟨S1344x1024, .f32⟩
  | _, _ => ⟨S1344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel19Ideal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S128x128 : Shape := ⟨2, ![128, 128]⟩

abbrev nBuf : Space → Nat
  | .hbm => 7
  | .vmem => 7
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
abbrev S128x128 : Shape := ⟨2, ![128, 128]⟩

abbrev nBuf : Space → Nat
  | .hbm => 7
  | .vmem => 7
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S128x128 : Shape := ⟨2, ![128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S128x128, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S128x64 : Shape := ⟨2, ![128, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S_, .f32⟩
  | .hbm, ⟨5, _⟩ => ⟨S128x64, .f32⟩
  | .hbm, ⟨6, _⟩ => ⟨S128x64, .f32⟩
  | .hbm, ⟨7, _⟩ => ⟨S_, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S_, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S_, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S_, .f32⟩
  | .hbm, ⟨20, _⟩ => ⟨S128x64, .f32⟩
  | .hbm, ⟨21, _⟩ => ⟨S128x64, .f32⟩
  | .hbm, ⟨22, _⟩ => ⟨S_, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S_, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S_, .f32⟩
  | .hbm, ⟨35, _⟩ => ⟨S128x64, .f32⟩
  | .hbm, ⟨36, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S96x128 : Shape := ⟨2, ![96, 128]⟩

abbrev nBuf : Space → Nat
  | .hbm => 7
  | .vmem => 7
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference22Ideal.lean ====
abbrev S96x128 : Shape := ⟨2, ![96, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S96x128, .f32⟩
  | .hbm, ⟨7, _⟩ => ⟨S_, .f32⟩
  | .hbm, ⟨8, _⟩ => ⟨S96x128, .f32⟩
  | .hbm, ⟨9, _⟩ => ⟨S96x128, .f32⟩
  | .hbm, ⟨10, _⟩ => ⟨S96x128, .f32⟩
  | .hbm, ⟨11, _⟩ => ⟨S_, .f32⟩
  | .hbm, ⟨12, _⟩ => ⟨S96x128, .f32⟩
  | .hbm, ⟨13, _⟩ => ⟨S96x128, .f32⟩
  | .hbm, ⟨14, _⟩ => ⟨S96x128, .f32⟩
  | .hbm, ⟨15, _⟩ => ⟨S_, .f32⟩
  | .hbm, ⟨16, _⟩ => ⟨S96x128, .f32⟩
  | .hbm, ⟨17, _⟩ => ⟨S96x128, .f32⟩
  | .hbm, ⟨18, _⟩ => ⟨S96x128, .f32⟩
  | .hbm, ⟨19, _⟩ => ⟨S_, .f32⟩
  | .hbm, ⟨20, _⟩ => ⟨S96x128, .f32⟩
  | .hbm, ⟨21, _⟩ => ⟨S96x128, .f32⟩
  | .hbm, ⟨22, _⟩ => ⟨S_, .f32⟩
  | .hbm, ⟨23, _⟩ => ⟨S96x128, .f32⟩
  | .hbm, ⟨24, _⟩ => ⟨S96x128, .f32⟩
  | .hbm, ⟨25, _⟩ => ⟨S96x128, .f32⟩
  | .hbm, ⟨26, _⟩ => ⟨S_, .f32⟩
  | .hbm, ⟨27, _⟩ => ⟨S96x128, .f32⟩
  | .hbm, ⟨28, _⟩ => ⟨S96x128, .f32⟩
  | .hbm, ⟨29, _⟩ => ⟨S96x128, .f32⟩
  | .hbm, ⟨30, _⟩ => ⟨S_, .f32⟩
  | .hbm, ⟨31, _⟩ => ⟨S96x128, .f32⟩
  | .hbm, ⟨32, _⟩ => ⟨S96x128, .f32⟩
  | .hbm, ⟨33, _⟩ => ⟨S96x128, .f32⟩
  | .hbm, ⟨34, _⟩ => ⟨S_, .f32⟩
  | .hbm, ⟨35, _⟩ => ⟨S96x128, .f32⟩
  | .hbm, ⟨36, _⟩ => ⟨S96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S8192x512 : Shape := ⟨2, ![8192, 512]⟩
abbrev S1024x512 : Shape := ⟨2, ![1024, 512]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .bf16⟩
  | .local _ .vmem, ⟨4, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x512 : Shape := ⟨2, ![8192, 512]⟩
abbrev S1024x512 : Shape := ⟨2, ![1024, 512]⟩
abbrev S512x1024 : Shape := ⟨2, ![512, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x512, .f32⟩
  | .hbm, ⟨3, _⟩ => ⟨S1024x512, .f32⟩
  | .hbm, ⟨4, _⟩ => ⟨S512x1024, .f32⟩
  | .hbm, ⟨5, _⟩ => ⟨S8192x1024, .f32⟩
  | .hbm, ⟨6, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel24.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S1024x512 : Shape := ⟨2, ![1024, 512]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S1024x512, .f32⟩
  | .hbm, ⟨3, _⟩ => ⟨S512x1024, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Loop.lean ====
/- The reference's run stated over one trip of its loop: what a valuation holding a state holds after a trip, and the results as
   fields of the state after all trips. -/
module

public import proofs.«01_k».proof.Proof.Gen.ReferenceIdeal.Run
public import proofs.«01_k».proof.Proof.Gen.ReferenceIdeal.Step

@[expose] public section

noncomputable section

namespace Cert.Wkv.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

set_option maxRecDepth 8192

/-- What a buffer of the reference holds. -/
abbrev Held (F : FTy → Type) [FloatOps F] (b : Ref sig .tc) : Type := (Proc.devRef .tc b : DevRef τ sig).ty.Contents (Elt F)

variable {F : FTy → Type} [FloatOps F]

variable (V0 : Valuation τ sig (Elt F)) (s : State F) (j : ℕ)

/-- The valuation holds the state, the set-up values and the trip's number. -/
structure Holds : Prop where
  f_10 : V0 (Proc.devRef .tc main_v23_10) = s.main_v23_10
  f_11 : V0 (Proc.devRef .tc main_v23_11) = s.main_v23_11
  f_12 : V0 (Proc.devRef .tc main_v23_12) = s.main_v23_12
  f_13 : V0 (Proc.devRef .tc main_v23_13) = s.main_v23_13
  f_14 : V0 (Proc.devRef .tc main_v23_14) = s.main_v23_14
  f_15 : V0 (Proc.devRef .tc main_v23_15) = s.main_v23_15
  f_16 : V0 (Proc.devRef .tc main_v23_16) = s.main_v23_16
  f_17 : V0 (Proc.devRef .tc main_v23_17) = s.main_v23_17
  f_18 : V0 (Proc.devRef .tc main_v23_18) = s.main_v23_18
  f_0 : V0 (Proc.devRef .tc main_v23_0) = s.main_v23_0
  f_1 : V0 (Proc.devRef .tc main_v23_1) = s.main_v23_1
  f_2 : V0 (Proc.devRef .tc main_v23_2) = s.main_v23_2
  f_3 : V0 (Proc.devRef .tc main_v23_3) = s.main_v23_3
  f_4 : V0 (Proc.devRef .tc main_v23_4) = s.main_v23_4
  f_5 : V0 (Proc.devRef .tc main_v23_5) = s.main_v23_5
  f_6 : V0 (Proc.devRef .tc main_v23_6) = s.main_v23_6
  f_7 : V0 (Proc.devRef .tc main_v23_7) = s.main_v23_7
  n_8 : V0 (Proc.devRef .tc main_v23_8) = constantI S_ 32 (BitVec.ofNat 32 j)
  n_9 : V0 (Proc.devRef .tc main_v23_9) = constantI S_ 32 (BitVec.ofNat 32 j)

variable {V0 s j}

theorem al_0 (h : Holds V0 s j) : (constantI S_ 32 1#32 : Held F main_while0b_c_26) = Step.b0 j s := by
  unfold Step.b0
  rfl
theorem al_1 (h : Holds V0 s j) : (addi (V0 (Proc.devRef .tc main_v23_9)) (constantI S_ 32 1#32) : Held F main_while0b_v36) = Step.b1 j s := by
  unfold Step.b1
  rw [← al_0 h, h.n_9]
  try rfl
theorem al_2 (h : Holds V0 s j) : (constantI S_ 32 4095#32 : Held F main_while0b_c_27) = Step.b2 j s := by
  unfold Step.b2
  rfl
theorem al_3 (h : Holds V0 s j) : (subi (constantI S_ 32 4095#32) (V0 (Proc.devRef .tc main_v23_9)) : Held F main_while0b_v37) = Step.b3 j s := by
  unfold Step.b3
  rw [← al_2 h, h.n_9]
  try rfl
theorem al_4 (h : Holds V0 s j) : (res_main_while0b_v38 V0 : Held F main_while0b_v38) = Step.b4 j s := by
  unfold res_main_while0b_v38 Step.b4
  rw [← al_3 h, h.n_9]
  try rfl
theorem al_5 (h : Holds V0 s j) : (constantI S_ 32 2048#32 : Held F main_while0b_c_28) = Step.b5 j s := by
  unfold Step.b5
  rfl
theorem al_6 (h : Holds V0 s j) : (res_main_while0b_v39 V0 : Held F main_while0b_v39) = Step.b6 j s := by
  unfold res_main_while0b_v39 Step.b6
  rw [← al_5 h, h.n_9]
  try rfl
theorem al_7 (h : Holds V0 s j) : (constantI S_ 32 64#32 : Held F main_while0b_c_29) = Step.b7 j s := by
  unfold Step.b7
  rfl
theorem al_8 (h : Holds V0 s j) : (Host.remsi (res_main_while0b_v38 V0) (constantI S_ 32 64#32) : Held F main_while0b_v40) = Step.b8 j s := by
  unfold Step.b8
  rw [← al_4 h, ← al_7 h]
  try rfl
theorem al_9 (h : Holds V0 s j) : (constantI S_ 32 0#32 : Held F main_while0b_c_30) = Step.b9 j s := by
  unfold Step.b9
  rfl
theorem al_10 (h : Holds V0 s j) : (cmpi .eq (Host.remsi (res_main_while0b_v38 V0) (constantI S_ 32 64#32)) (constantI S_ 32 0#32) : Held F main_while0b_v41) = Step.b10 j s := by
  unfold Step.b10
  rw [← al_8 h, ← al_9 h]
  try rfl
theorem al_11 (h : Holds V0 s j) : (constantI S_ 32 64#32 : Held F main_while0b_c_31) = Step.b11 j s := by
  unfold Step.b11
  rfl
theorem al_12 (h : Holds V0 s j) : (Host.divsi (res_main_while0b_v38 V0) (constantI S_ 32 64#32) : Held F main_while0b_v42) = Step.b12 j s := by
  unfold Step.b12
  rw [← al_4 h, ← al_11 h]
  try rfl
theorem al_13 (h : Holds V0 s j) : (constantI S_ 32 0#32 : Held F main_while0b_call0_c) = Step.b13 j s := by
  unfold Step.b13
  rfl
theorem al_14 (h : Holds V0 s j) : (constantI S_ 32 0#32 : Held F main_while0b_call0_c_0) = Step.b14 j s := by
  unfold Step.b14
  rfl
theorem al_15 (h : Holds V0 s j) : (constantI S_ 32 0#32 : Held F main_while0b_call0_c_1) = Step.b15 j s := by
  unfold Step.b15
  rfl
theorem al_16 (h : Holds V0 s j) : (constantI S_ 32 0#32 : Held F main_while0b_call0_c_2) = Step.b16 j s := by
  unfold Step.b16
  rfl
theorem al_17 (h : Holds V0 s j) : (Host.dynamicSlice S1x4x8x64x64 (V0 (Proc.devRef .tc main_v23_0)) (fun k => (((![Host.divsi (res_main_while0b_v38 V0) (constantI S_ 32 64#32), constantI S_ 32 0#32, constantI S_ 32 0#32, constantI S_ 32 0#32, constantI S_ 32 0#32] : Fin 5 → (⟨S_, .i32⟩ : BufTy).Contents (Elt F))) k (Shape.Idx.first h_S_)).toInt) sliceFits_S32x4x8x64x64_S1x4x8x64x64 : Held F main_while0b_call0_v0) = Step.b17 j s := by
  unfold Step.b17
  rw [← al_12 h, ← al_13 h, ← al_14 h, ← al_15 h, ← al_16 h, h.f_0]
  try rfl
theorem al_18 (h : Holds V0 s j) : (shapeCast S4x8x64x64 (Host.dynamicSlice S1x4x8x64x64 (V0 (Proc.devRef .tc main_v23_0)) (fun k => (((![Host.divsi (res_main_while0b_v38 V0) (constantI S_ 32 64#32), constantI S_ 32 0#32, constantI S_ 32 0#32, constantI S_ 32 0#32, constantI S_ 32 0#32] : Fin 5 → (⟨S_, .i32⟩ : BufTy).Contents (Elt F))) k (Shape.Idx.first h_S_)).toInt) sliceFits_S32x4x8x64x64_S1x4x8x64x64) shapeCasts_S1x4x8x64x64_S4x8x64x64 : Held F main_while0b_v43) = Step.b18 j s := by
  unfold Step.b18
  rw [← al_17 h]
  try rfl
theorem al_19 (h : Holds V0 s j) : (select (broadcastInDim S4x8x64x64 ![] bcast_S_S4x8x64x64 (cmpi .eq (Host.remsi (res_main_while0b_v38 V0) (constantI S_ 32 64#32)) (constantI S_ 32 0#32))) (shapeCast S4x8x64x64 (Host.dynamicSlice S1x4x8x64x64 (V0 (Proc.devRef .tc main_v23_0)) (fun k => (((![Host.divsi (res_main_while0b_v38 V0) (constantI S_ 32 64#32), constantI S_ 32 0#32, constantI S_ 32 0#32, constantI S_ 32 0#32, constantI S_ 32 0#32] : Fin 5 → (⟨S_, .i32⟩ : BufTy).Contents (Elt F))) k (Shape.Idx.first h_S_)).toInt) sliceFits_S32x4x8x64x64_S1x4x8x64x64) shapeCasts_S1x4x8x64x64_S4x8x64x64) (V0 (Proc.devRef .tc main_v23_10)) : Held F main_while0b_v44) = Step.b19 j s := by
  unfold Step.b19
  rw [← al_10 h, ← al_18 h, h.f_10]
  try rfl
theorem al_20 (h : Holds V0 s j) : (constantI S_ 32 0#32 : Held F main_while0b_call2_c) = Step.b20 j s := by
  unfold Step.b20
  rfl
theorem al_21 (h : Holds V0 s j) : (constantI S_ 32 0#32 : Held F main_while0b_call2_c_0) = Step.b21 j s := by
  unfold Step.b21
  rfl
theorem al_22 (h : Holds V0 s j) : (constantI S_ 32 0#32 : Held F main_while0b_call2_c_1) = Step.b22 j s := by
  unfold Step.b22
  rfl
theorem al_23 (h : Holds V0 s j) : (constantI S_ 32 0#32 : Held F main_while0b_call2_c_2) = Step.b23 j s := by
  unfold Step.b23
  rfl
theorem al_24 (h : Holds V0 s j) : (Host.dynamicSlice S1x4x8x64x64 (V0 (Proc.devRef .tc main_v23_12)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S2048x4x8x64x64_S1x4x8x64x64 : Held F main_while0b_call2_v0) = Step.b24 j s := by
  unfold Step.b24
  rw [← al_4 h, ← al_20 h, ← al_21 h, ← al_22 h, ← al_23 h, h.f_12]
  try rfl
theorem al_25 (h : Holds V0 s j) : (shapeCast S4x8x64x64 (Host.dynamicSlice S1x4x8x64x64 (V0 (Proc.devRef .tc main_v23_12)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S2048x4x8x64x64_S1x4x8x64x64) shapeCasts_S1x4x8x64x64_S4x8x64x64 : Held F main_while0b_v45) = Step.b25 j s := by
  unfold Step.b25
  rw [← al_24 h]
  try rfl
theorem al_26 (h : Holds V0 s j) : (res_main_while0b_v46 V0 : Held F main_while0b_v46) = Step.b26 j s := by
  unfold res_main_while0b_v46 Step.b26
  rw [← al_6 h, ← al_19 h, ← al_25 h]
  try rfl
theorem al_27 (h : Holds V0 s j) : (constantI S_ 32 0#32 : Held F main_while0b_call4_c) = Step.b27 j s := by
  unfold Step.b27
  rfl
theorem al_28 (h : Holds V0 s j) : (constantI S_ 32 0#32 : Held F main_while0b_call4_c_0) = Step.b28 j s := by
  unfold Step.b28
  rfl
theorem al_29 (h : Holds V0 s j) : (constantI S_ 32 0#32 : Held F main_while0b_call4_c_1) = Step.b29 j s := by
  unfold Step.b29
  rfl
theorem al_30 (h : Holds V0 s j) : (Host.dynamicSlice S1x4x8x64 (V0 (Proc.devRef .tc main_v23_1)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64 : Held F main_while0b_call4_v0) = Step.b30 j s := by
  unfold Step.b30
  rw [← al_4 h, ← al_27 h, ← al_28 h, ← al_29 h, h.f_1]
  try rfl
theorem al_31 (h : Holds V0 s j) : (shapeCast S4x8x64 (Host.dynamicSlice S1x4x8x64 (V0 (Proc.devRef .tc main_v23_1)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64) shapeCasts_S1x4x8x64_S4x8x64 : Held F main_while0b_v47) = Step.b31 j s := by
  unfold Step.b31
  rw [← al_30 h]
  try rfl
theorem al_32 (h : Holds V0 s j) : (constantI S_ 32 0#32 : Held F main_while0b_call5_c) = Step.b32 j s := by
  unfold Step.b32
  rfl
theorem al_33 (h : Holds V0 s j) : (constantI S_ 32 0#32 : Held F main_while0b_call5_c_0) = Step.b33 j s := by
  unfold Step.b33
  rfl
theorem al_34 (h : Holds V0 s j) : (constantI S_ 32 0#32 : Held F main_while0b_call5_c_1) = Step.b34 j s := by
  unfold Step.b34
  rfl
theorem al_35 (h : Holds V0 s j) : (Host.dynamicSlice S1x4x8x64 (V0 (Proc.devRef .tc main_v23_2)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64 : Held F main_while0b_call5_v0) = Step.b35 j s := by
  unfold Step.b35
  rw [← al_4 h, ← al_32 h, ← al_33 h, ← al_34 h, h.f_2]
  try rfl
theorem al_36 (h : Holds V0 s j) : (shapeCast S4x8x64 (Host.dynamicSlice S1x4x8x64 (V0 (Proc.devRef .tc main_v23_2)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64) shapeCasts_S1x4x8x64_S4x8x64 : Held F main_while0b_v48) = Step.b36 j s := by
  unfold Step.b36
  rw [← al_35 h]
  try rfl
theorem al_37 (h : Holds V0 s j) : (constantI S_ 32 0#32 : Held F main_while0b_call6_c) = Step.b37 j s := by
  unfold Step.b37
  rfl
theorem al_38 (h : Holds V0 s j) : (constantI S_ 32 0#32 : Held F main_while0b_call6_c_0) = Step.b38 j s := by
  unfold Step.b38
  rfl
theorem al_39 (h : Holds V0 s j) : (constantI S_ 32 0#32 : Held F main_while0b_call6_c_1) = Step.b39 j s := by
  unfold Step.b39
  rfl
theorem al_40 (h : Holds V0 s j) : (Host.dynamicSlice S1x4x8x64 (V0 (Proc.devRef .tc main_v23_3)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64 : Held F main_while0b_call6_v0) = Step.b40 j s := by
  unfold Step.b40
  rw [← al_4 h, ← al_37 h, ← al_38 h, ← al_39 h, h.f_3]
  try rfl
theorem al_41 (h : Holds V0 s j) : (shapeCast S4x8x64 (Host.dynamicSlice S1x4x8x64 (V0 (Proc.devRef .tc main_v23_3)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64) shapeCasts_S1x4x8x64_S4x8x64 : Held F main_while0b_v49) = Step.b41 j s := by
  unfold Step.b41
  rw [← al_40 h]
  try rfl
theorem al_42 (h : Holds V0 s j) : (constantI S_ 32 0#32 : Held F main_while0b_call7_c) = Step.b42 j s := by
  unfold Step.b42
  rfl
theorem al_43 (h : Holds V0 s j) : (constantI S_ 32 0#32 : Held F main_while0b_call7_c_0) = Step.b43 j s := by
  unfold Step.b43
  rfl
theorem al_44 (h : Holds V0 s j) : (constantI S_ 32 0#32 : Held F main_while0b_call7_c_1) = Step.b44 j s := by
  unfold Step.b44
  rfl
theorem al_45 (h : Holds V0 s j) : (Host.dynamicSlice S1x4x8x64 (V0 (Proc.devRef .tc main_v23_4)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64 : Held F main_while0b_call7_v0) = Step.b45 j s := by
  unfold Step.b45
  rw [← al_4 h, ← al_42 h, ← al_43 h, ← al_44 h, h.f_4]
  try rfl
theorem al_46 (h : Holds V0 s j) : (shapeCast S4x8x64 (Host.dynamicSlice S1x4x8x64 (V0 (Proc.devRef .tc main_v23_4)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64) shapeCasts_S1x4x8x64_S4x8x64 : Held F main_while0b_v50) = Step.b46 j s := by
  unfold Step.b46
  rw [← al_45 h]
  try rfl
theorem al_47 (h : Holds V0 s j) : (constantI S_ 32 0#32 : Held F main_while0b_call8_c) = Step.b47 j s := by
  unfold Step.b47
  rfl
theorem al_48 (h : Holds V0 s j) : (constantI S_ 32 0#32 : Held F main_while0b_call8_c_0) = Step.b48 j s := by
  unfold Step.b48
  rfl
theorem al_49 (h : Holds V0 s j) : (constantI S_ 32 0#32 : Held F main_while0b_call8_c_1) = Step.b49 j s := by
  unfold Step.b49
  rfl
theorem al_50 (h : Holds V0 s j) : (Host.dynamicSlice S1x4x8x64 (V0 (Proc.devRef .tc main_v23_5)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64 : Held F main_while0b_call8_v0) = Step.b50 j s := by
  unfold Step.b50
  rw [← al_4 h, ← al_47 h, ← al_48 h, ← al_49 h, h.f_5]
  try rfl
theorem al_51 (h : Holds V0 s j) : (res_main_while0b_v51 V0 : Held F main_while0b_v51) = Step.b51 j s := by
  unfold res_main_while0b_v51 Step.b51
  rw [← al_50 h]
  try rfl
theorem al_52 (h : Holds V0 s j) : (constantI S_ 32 0#32 : Held F main_while0b_call9_c) = Step.b52 j s := by
  unfold Step.b52
  rfl
theorem al_53 (h : Holds V0 s j) : (constantI S_ 32 0#32 : Held F main_while0b_call9_c_0) = Step.b53 j s := by
  unfold Step.b53
  rfl
theorem al_54 (h : Holds V0 s j) : (constantI S_ 32 0#32 : Held F main_while0b_call9_c_1) = Step.b54 j s := by
  unfold Step.b54
  rfl
theorem al_55 (h : Holds V0 s j) : (Host.dynamicSlice S1x4x8x64 (V0 (Proc.devRef .tc main_v23_6)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64 : Held F main_while0b_call9_v0) = Step.b55 j s := by
  unfold Step.b55
  rw [← al_4 h, ← al_52 h, ← al_53 h, ← al_54 h, h.f_6]
  try rfl
theorem al_56 (h : Holds V0 s j) : (res_main_while0b_v52 V0 : Held F main_while0b_v52) = Step.b56 j s := by
  unfold res_main_while0b_v52 Step.b56
  rw [← al_55 h]
  try rfl
theorem al_57 (h : Holds V0 s j) : (Host.negf (res_main_while0b_v51 V0) : Held F main_while0b_v53) = Step.b57 j s := by
  unfold Step.b57
  rw [← al_51 h]
  try rfl
theorem al_58 (h : Holds V0 s j) : (res_main_while0b_v54 V0 : Held F main_while0b_v54) = Step.b58 j s := by
  unfold res_main_while0b_v54 Step.b58
  rw [← al_57 h]
  try rfl
theorem al_59 (h : Holds V0 s j) : (broadcastInDim S4x8x64x64 ![0, 1, 2, 3] bcast_S4x8x1x64_S4x8x64x64_0_1_2_3 (res_main_while0b_v54 V0) : Held F main_while0b_v55) = Step.b59 j s := by
  unfold Step.b59
  rw [← al_58 h]
  try rfl
theorem al_60 (h : Holds V0 s j) : (mulf (res_main_while0b_v46 V0) (broadcastInDim S4x8x64x64 ![0, 1, 2, 3] bcast_S4x8x1x64_S4x8x64x64_0_1_2_3 (res_main_while0b_v54 V0)) : Held F main_while0b_v56) = Step.b60 j s := by
  unfold Step.b60
  rw [← al_26 h, ← al_59 h]
  try rfl
theorem al_61 (h : Holds V0 s j) : (constant S_ .f32 0x00000000#32 : Held F main_while0b_cst_32) = Step.b61 j s := by
  unfold Step.b61
  rfl
theorem al_62 (h : Holds V0 s j) : (Host.reduceAdd (mulf (res_main_while0b_v46 V0) (broadcastInDim S4x8x64x64 ![0, 1, 2, 3] bcast_S4x8x1x64_S4x8x64x64_0_1_2_3 (res_main_while0b_v54 V0))) (constant S_ .f32 0x00000000#32) reducesTo_S4x8x64x64_S4x8x64_d3 h_S_ : Held F main_while0b_v57) = Step.b62 j s := by
  unfold Step.b62
  rw [← al_60 h, ← al_61 h]
  try rfl
theorem al_63 (h : Holds V0 s j) : (res_main_while0b_v58 V0 : Held F main_while0b_v58) = Step.b63 j s := by
  unfold res_main_while0b_v58 Step.b63
  rw [← al_36 h]
  try rfl
theorem al_64 (h : Holds V0 s j) : (res_main_while0b_v59 V0 : Held F main_while0b_v59) = Step.b64 j s := by
  unfold res_main_while0b_v59 Step.b64
  rw [← al_63 h]
  try rfl
theorem al_65 (h : Holds V0 s j) : (broadcastInDim S4x8x64x64 ![0, 1, 2, 3] bcast_S4x8x1x64_S4x8x64x64_0_1_2_3 (res_main_while0b_v59 V0) : Held F main_while0b_v60) = Step.b65 j s := by
  unfold Step.b65
  rw [← al_64 h]
  try rfl
theorem al_66 (h : Holds V0 s j) : (mulf (res_main_while0b_v46 V0) (broadcastInDim S4x8x64x64 ![0, 1, 2, 3] bcast_S4x8x1x64_S4x8x64x64_0_1_2_3 (res_main_while0b_v59 V0)) : Held F main_while0b_v61) = Step.b66 j s := by
  unfold Step.b66
  rw [← al_26 h, ← al_65 h]
  try rfl
theorem al_67 (h : Holds V0 s j) : (res_main_while0b_v62 V0 : Held F main_while0b_v62) = Step.b67 j s := by
  unfold res_main_while0b_v62 Step.b67
  rw [← al_62 h]
  try rfl
theorem al_68 (h : Holds V0 s j) : (mulf (res_main_while0b_v51 V0) (res_main_while0b_v52 V0) : Held F main_while0b_v63) = Step.b68 j s := by
  unfold Step.b68
  rw [← al_51 h, ← al_56 h]
  try rfl
theorem al_69 (h : Holds V0 s j) : (res_main_while0b_v64 V0 : Held F main_while0b_v64) = Step.b69 j s := by
  unfold res_main_while0b_v64 Step.b69
  rw [← al_68 h]
  try rfl
theorem al_70 (h : Holds V0 s j) : (broadcastInDim S4x8x64x64 ![0, 1, 2, 3] bcast_S4x8x64x1_S4x8x64x64_0_1_2_3 (res_main_while0b_v62 V0) : Held F main_while0b_v65) = Step.b70 j s := by
  unfold Step.b70
  rw [← al_67 h]
  try rfl
theorem al_71 (h : Holds V0 s j) : (broadcastInDim S4x8x64x64 ![0, 1, 2, 3] bcast_S4x8x1x64_S4x8x64x64_0_1_2_3 (res_main_while0b_v64 V0) : Held F main_while0b_v66) = Step.b71 j s := by
  unfold Step.b71
  rw [← al_69 h]
  try rfl
theorem al_72 (h : Holds V0 s j) : (mulf (broadcastInDim S4x8x64x64 ![0, 1, 2, 3] bcast_S4x8x64x1_S4x8x64x64_0_1_2_3 (res_main_while0b_v62 V0)) (broadcastInDim S4x8x64x64 ![0, 1, 2, 3] bcast_S4x8x1x64_S4x8x64x64_0_1_2_3 (res_main_while0b_v64 V0)) : Held F main_while0b_v67) = Step.b72 j s := by
  unfold Step.b72
  rw [← al_70 h, ← al_71 h]
  try rfl
theorem al_73 (h : Holds V0 s j) : (addf (mulf (res_main_while0b_v46 V0) (broadcastInDim S4x8x64x64 ![0, 1, 2, 3] bcast_S4x8x1x64_S4x8x64x64_0_1_2_3 (res_main_while0b_v59 V0))) (mulf (broadcastInDim S4x8x64x64 ![0, 1, 2, 3] bcast_S4x8x64x1_S4x8x64x64_0_1_2_3 (res_main_while0b_v62 V0)) (broadcastInDim S4x8x64x64 ![0, 1, 2, 3] bcast_S4x8x1x64_S4x8x64x64_0_1_2_3 (res_main_while0b_v64 V0))) : Held F main_while0b_v68) = Step.b73 j s := by
  unfold Step.b73
  rw [← al_66 h, ← al_72 h]
  try rfl
theorem al_74 (h : Holds V0 s j) : (res_main_while0b_v69 V0 : Held F main_while0b_v69) = Step.b74 j s := by
  unfold res_main_while0b_v69 Step.b74
  rw [← al_46 h]
  try rfl
theorem al_75 (h : Holds V0 s j) : (res_main_while0b_v70 V0 : Held F main_while0b_v70) = Step.b75 j s := by
  unfold res_main_while0b_v70 Step.b75
  rw [← al_41 h]
  try rfl
theorem al_76 (h : Holds V0 s j) : (broadcastInDim S4x8x64x64 ![0, 1, 2, 3] bcast_S4x8x64x1_S4x8x64x64_0_1_2_3 (res_main_while0b_v69 V0) : Held F main_while0b_v71) = Step.b76 j s := by
  unfold Step.b76
  rw [← al_74 h]
  try rfl
theorem al_77 (h : Holds V0 s j) : (broadcastInDim S4x8x64x64 ![0, 1, 2, 3] bcast_S4x8x1x64_S4x8x64x64_0_1_2_3 (res_main_while0b_v70 V0) : Held F main_while0b_v72) = Step.b77 j s := by
  unfold Step.b77
  rw [← al_75 h]
  try rfl
theorem al_78 (h : Holds V0 s j) : (mulf (broadcastInDim S4x8x64x64 ![0, 1, 2, 3] bcast_S4x8x64x1_S4x8x64x64_0_1_2_3 (res_main_while0b_v69 V0)) (broadcastInDim S4x8x64x64 ![0, 1, 2, 3] bcast_S4x8x1x64_S4x8x64x64_0_1_2_3 (res_main_while0b_v70 V0)) : Held F main_while0b_v73) = Step.b78 j s := by
  unfold Step.b78
  rw [← al_76 h, ← al_77 h]
  try rfl
theorem al_79 (h : Holds V0 s j) : (res_main_while0b_v74 V0 : Held F main_while0b_v74) = Step.b79 j s := by
  unfold res_main_while0b_v74 Step.b79
  rw [← al_73 h, ← al_78 h]
  try rfl
theorem al_80 (h : Holds V0 s j) : (res_main_while0b_v75 V0 : Held F main_while0b_v75) = Step.b80 j s := by
  unfold res_main_while0b_v75 Step.b80
  rw [← al_31 h]
  try rfl
theorem al_81 (h : Holds V0 s j) : (broadcastInDim S4x8x64x64 ![0, 1, 2, 3] bcast_S4x8x1x64_S4x8x64x64_0_1_2_3 (res_main_while0b_v75 V0) : Held F main_while0b_v76) = Step.b81 j s := by
  unfold Step.b81
  rw [← al_80 h]
  try rfl
theorem al_82 (h : Holds V0 s j) : (mulf (res_main_while0b_v74 V0) (broadcastInDim S4x8x64x64 ![0, 1, 2, 3] bcast_S4x8x1x64_S4x8x64x64_0_1_2_3 (res_main_while0b_v75 V0)) : Held F main_while0b_v77) = Step.b82 j s := by
  unfold Step.b82
  rw [← al_79 h, ← al_81 h]
  try rfl
theorem al_83 (h : Holds V0 s j) : (constant S_ .f32 0x00000000#32 : Held F main_while0b_cst_33) = Step.b83 j s := by
  unfold Step.b83
  rfl
theorem al_84 (h : Holds V0 s j) : (Host.reduceAdd (mulf (res_main_while0b_v74 V0) (broadcastInDim S4x8x64x64 ![0, 1, 2, 3] bcast_S4x8x1x64_S4x8x64x64_0_1_2_3 (res_main_while0b_v75 V0))) (constant S_ .f32 0x00000000#32) reducesTo_S4x8x64x64_S4x8x64_d3 h_S_ : Held F main_while0b_v78) = Step.b84 j s := by
  unfold Step.b84
  rw [← al_82 h, ← al_83 h]
  try rfl
theorem al_85 (h : Holds V0 s j) : (constantI S_ 32 0#32 : Held F main_while0b_call10_c) = Step.b85 j s := by
  unfold Step.b85
  rfl
theorem al_86 (h : Holds V0 s j) : (constantI S_ 32 0#32 : Held F main_while0b_call10_c_0) = Step.b86 j s := by
  unfold Step.b86
  rfl
theorem al_87 (h : Holds V0 s j) : (constantI S_ 32 0#32 : Held F main_while0b_call10_c_1) = Step.b87 j s := by
  unfold Step.b87
  rfl
theorem al_88 (h : Holds V0 s j) : (Host.dynamicSlice S1x4x8x64 (V0 (Proc.devRef .tc main_v23_7)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64 : Held F main_while0b_call10_v0) = Step.b88 j s := by
  unfold Step.b88
  rw [← al_4 h, ← al_85 h, ← al_86 h, ← al_87 h, h.f_7]
  try rfl
theorem al_89 (h : Holds V0 s j) : (shapeCast S4x8x64 (Host.dynamicSlice S1x4x8x64 (V0 (Proc.devRef .tc main_v23_7)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S2048x4x8x64_S1x4x8x64) shapeCasts_S1x4x8x64_S4x8x64 : Held F main_while0b_v79) = Step.b89 j s := by
  unfold Step.b89
  rw [← al_88 h]
  try rfl
theorem al_90 (h : Holds V0 s j) : (res_main_while0b_v80 V0 : Held F main_while0b_v80) = Step.b90 j s := by
  unfold res_main_while0b_v80 Step.b90
  rw [← al_89 h]
  try rfl
theorem al_91 (h : Holds V0 s j) : (mulf (res_main_while0b_v74 V0) (res_main_while0b_v80 V0) : Held F main_while0b_v81) = Step.b91 j s := by
  unfold Step.b91
  rw [← al_79 h, ← al_90 h]
  try rfl
theorem al_92 (h : Holds V0 s j) : (constant S_ .f32 0x00000000#32 : Held F main_while0b_cst_34) = Step.b92 j s := by
  unfold Step.b92
  rfl
theorem al_93 (h : Holds V0 s j) : (Host.reduceAdd (mulf (res_main_while0b_v74 V0) (res_main_while0b_v80 V0)) (constant S_ .f32 0x00000000#32) reducesTo_S4x8x64x64_S4x8x64_d2 h_S_ : Held F main_while0b_v82) = Step.b93 j s := by
  unfold Step.b93
  rw [← al_91 h, ← al_92 h]
  try rfl
theorem al_94 (h : Holds V0 s j) : (shapeCast S4x8x1x64 (Host.reduceAdd (mulf (res_main_while0b_v74 V0) (res_main_while0b_v80 V0)) (constant S_ .f32 0x00000000#32) reducesTo_S4x8x64x64_S4x8x64_d2 h_S_) shapeCasts_S4x8x64_S4x8x1x64 : Held F main_while0b_v83) = Step.b94 j s := by
  unfold Step.b94
  rw [← al_93 h]
  try rfl
theorem al_95 (h : Holds V0 s j) : (broadcastInDim S4x8x64x64 ![0, 1, 2, 3] bcast_S4x8x1x64_S4x8x64x64_0_1_2_3 (res_main_while0b_v75 V0) : Held F main_while0b_v84) = Step.b95 j s := by
  unfold Step.b95
  rw [← al_80 h]
  try rfl
theorem al_96 (h : Holds V0 s j) : (mulf (res_main_while0b_v80 V0) (broadcastInDim S4x8x64x64 ![0, 1, 2, 3] bcast_S4x8x1x64_S4x8x64x64_0_1_2_3 (res_main_while0b_v75 V0)) : Held F main_while0b_v85) = Step.b96 j s := by
  unfold Step.b96
  rw [← al_90 h, ← al_95 h]
  try rfl
theorem al_97 (h : Holds V0 s j) : (res_main_while0b_v86 V0 : Held F main_while0b_v86) = Step.b97 j s := by
  unfold res_main_while0b_v86 Step.b97
  rw [← al_96 h, h.f_11]
  try rfl
theorem al_98 (h : Holds V0 s j) : (constant S_ .f32 0x00000000#32 : Held F main_while0b_cst_35) = Step.b98 j s := by
  unfold Step.b98
  rfl
theorem al_99 (h : Holds V0 s j) : (Host.reduceAdd (shapeCast S4x8x1x64 (Host.reduceAdd (mulf (res_main_while0b_v74 V0) (res_main_while0b_v80 V0)) (constant S_ .f32 0x00000000#32) reducesTo_S4x8x64x64_S4x8x64_d2 h_S_) shapeCasts_S4x8x64_S4x8x1x64) (constant S_ .f32 0x00000000#32) reducesTo_S4x8x1x64_S4x8x64_d2 h_S_ : Held F main_while0b_v87) = Step.b99 j s := by
  unfold Step.b99
  rw [← al_94 h, ← al_98 h]
  try rfl
theorem al_100 (h : Holds V0 s j) : (broadcastInDim S4x8x64x64 ![0, 1, 2, 3] bcast_S4x8x64x1_S4x8x64x64_0_1_2_3 (res_main_while0b_v69 V0) : Held F main_while0b_v88) = Step.b100 j s := by
  unfold Step.b100
  rw [← al_74 h]
  try rfl
theorem al_101 (h : Holds V0 s j) : (mulf (broadcastInDim S4x8x64x64 ![0, 1, 2, 3] bcast_S4x8x64x1_S4x8x64x64_0_1_2_3 (res_main_while0b_v69 V0)) (res_main_while0b_v86 V0) : Held F main_while0b_v89) = Step.b101 j s := by
  unfold Step.b101
  rw [← al_100 h, ← al_97 h]
  try rfl
theorem al_102 (h : Holds V0 s j) : (constant S_ .f32 0x00000000#32 : Held F main_while0b_cst_36) = Step.b102 j s := by
  unfold Step.b102
  rfl
theorem al_103 (h : Holds V0 s j) : (Host.reduceAdd (mulf (broadcastInDim S4x8x64x64 ![0, 1, 2, 3] bcast_S4x8x64x1_S4x8x64x64_0_1_2_3 (res_main_while0b_v69 V0)) (res_main_while0b_v86 V0)) (constant S_ .f32 0x00000000#32) reducesTo_S4x8x64x64_S4x8x64_d2 h_S_ : Held F main_while0b_v90) = Step.b103 j s := by
  unfold Step.b103
  rw [← al_101 h, ← al_102 h]
  try rfl
theorem al_104 (h : Holds V0 s j) : (shapeCast S4x8x1x64 (Host.reduceAdd (mulf (broadcastInDim S4x8x64x64 ![0, 1, 2, 3] bcast_S4x8x64x1_S4x8x64x64_0_1_2_3 (res_main_while0b_v69 V0)) (res_main_while0b_v86 V0)) (constant S_ .f32 0x00000000#32) reducesTo_S4x8x64x64_S4x8x64_d2 h_S_) shapeCasts_S4x8x64_S4x8x1x64 : Held F main_while0b_v91) = Step.b104 j s := by
  unfold Step.b104
  rw [← al_103 h]
  try rfl
theorem al_105 (h : Holds V0 s j) : (broadcastInDim S4x8x64x64 ![0, 1, 2, 3] bcast_S4x8x1x64_S4x8x64x64_0_1_2_3 (res_main_while0b_v70 V0) : Held F main_while0b_v92) = Step.b105 j s := by
  unfold Step.b105
  rw [← al_75 h]
  try rfl
theorem al_106 (h : Holds V0 s j) : (mulf (res_main_while0b_v86 V0) (broadcastInDim S4x8x64x64 ![0, 1, 2, 3] bcast_S4x8x1x64_S4x8x64x64_0_1_2_3 (res_main_while0b_v70 V0)) : Held F main_while0b_v93) = Step.b106 j s := by
  unfold Step.b106
  rw [← al_97 h, ← al_105 h]
  try rfl
theorem al_107 (h : Holds V0 s j) : (constant S_ .f32 0x00000000#32 : Held F main_while0b_cst_37) = Step.b107 j s := by
  unfold Step.b107
  rfl
theorem al_108 (h : Holds V0 s j) : (Host.reduceAdd (mulf (res_main_while0b_v86 V0) (broadcastInDim S4x8x64x64 ![0, 1, 2, 3] bcast_S4x8x1x64_S4x8x64x64_0_1_2_3 (res_main_while0b_v70 V0))) (constant S_ .f32 0x00000000#32) reducesTo_S4x8x64x64_S4x8x64_d3 h_S_ : Held F main_while0b_v94) = Step.b108 j s := by
  unfold Step.b108
  rw [← al_106 h, ← al_107 h]
  try rfl
theorem al_109 (h : Holds V0 s j) : (shapeCast S4x8x64x1 (Host.reduceAdd (mulf (res_main_while0b_v86 V0) (broadcastInDim S4x8x64x64 ![0, 1, 2, 3] bcast_S4x8x1x64_S4x8x64x64_0_1_2_3 (res_main_while0b_v70 V0))) (constant S_ .f32 0x00000000#32) reducesTo_S4x8x64x64_S4x8x64_d3 h_S_) shapeCasts_S4x8x64_S4x8x64x1 : Held F main_while0b_v95) = Step.b109 j s := by
  unfold Step.b109
  rw [← al_108 h]
  try rfl
theorem al_110 (h : Holds V0 s j) : (constant S_ .f32 0x00000000#32 : Held F main_while0b_cst_38) = Step.b110 j s := by
  unfold Step.b110
  rfl
theorem al_111 (h : Holds V0 s j) : (Host.reduceAdd (shapeCast S4x8x1x64 (Host.reduceAdd (mulf (broadcastInDim S4x8x64x64 ![0, 1, 2, 3] bcast_S4x8x64x1_S4x8x64x64_0_1_2_3 (res_main_while0b_v69 V0)) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_ : Held F main_while0b_v96) = Step.b111 j s := by
  unfold Step.b111
  rw [← al_104 h, ← al_110 h]
  try rfl
theorem al_112 (h : Holds V0 s j) : (constant S_ .f32 0x00000000#32 : Held F main_while0b_cst_39) = Step.b112 j s := by
  unfold Step.b112
  rfl
theorem al_113 (h : Holds V0 s j) : (Host.reduceAdd (shapeCast S4x8x64x1 (Host.reduceAdd (mulf (res_main_while0b_v86 V0) (broadcastInDim S4x8x64x64 ![0, 1, 2, 3] bcast_S4x8x1x64_S4x8x64x64_0_1_2_3 (res_main_while0b_v70 V0))) (constant S_ .f32 0x00000000#32) reducesTo_S4x8x64x64_S4x8x64_d3 h_S_) shapeCasts_S4x8x64_S4x8x64x1) (constant S_ .f32 0x00000000#32) reducesTo_S4x8x64x1_S4x8x64_d3 h_S_ : Held F main_while0b_v97) = Step.b113 j s := by
  unfold Step.b113
  rw [← al_109 h, ← al_112 h]
  try rfl
theorem al_114 (h : Holds V0 s j) : (broadcastInDim S4x8x64x64 ![0, 1, 2, 3] bcast_S4x8x64x1_S4x8x64x64_0_1_2_3 (res_main_while0b_v62 V0) : Held F main_while0b_v98) = Step.b114 j s := by
  unfold Step.b114
  rw [← al_67 h]
  try rfl
theorem al_115 (h : Holds V0 s j) : (mulf (broadcastInDim S4x8x64x64 ![0, 1, 2, 3] bcast_S4x8x64x1_S4x8x64x64_0_1_2_3 (res_main_while0b_v62 V0)) (res_main_while0b_v86 V0) : Held F main_while0b_v99) = Step.b115 j s := by
  unfold Step.b115
  rw [← al_114 h, ← al_97 h]
  try rfl
theorem al_116 (h : Holds V0 s j) : (constant S_ .f32 0x00000000#32 : Held F main_while0b_cst_40) = Step.b116 j s := by
  unfold Step.b116
  rfl
theorem al_117 (h : Holds V0 s j) : (Host.reduceAdd (mulf (broadcastInDim S4x8x64x64 ![0, 1, 2, 3] bcast_S4x8x64x1_S4x8x64x64_0_1_2_3 (res_main_while0b_v62 V0)) (res_main_while0b_v86 V0)) (constant S_ .f32 0x00000000#32) reducesTo_S4x8x64x64_S4x8x64_d2 h_S_ : Held F main_while0b_v100) = Step.b117 j s := by
  unfold Step.b117
  rw [← al_115 h, ← al_116 h]
  try rfl
theorem al_118 (h : Holds V0 s j) : (shapeCast S4x8x1x64 (Host.reduceAdd (mulf (broadcastInDim S4x8x64x64 ![0, 1, 2, 3] bcast_S4x8x64x1_S4x8x64x64_0_1_2_3 (res_main_while0b_v62 V0)) (res_main_while0b_v86 V0)) (constant S_ .f32 0x00000000#32) reducesTo_S4x8x64x64_S4x8x64_d2 h_S_) shapeCasts_S4x8x64_S4x8x1x64 : Held F main_while0b_v101) = Step.b118 j s := by
  unfold Step.b118
  rw [← al_117 h]
  try rfl
theorem al_119 (h : Holds V0 s j) : (broadcastInDim S4x8x64x64 ![0, 1, 2, 3] bcast_S4x8x1x64_S4x8x64x64_0_1_2_3 (res_main_while0b_v64 V0) : Held F main_while0b_v102) = Step.b119 j s := by
  unfold Step.b119
  rw [← al_69 h]
  try rfl
theorem al_120 (h : Holds V0 s j) : (mulf (res_main_while0b_v86 V0) (broadcastInDim S4x8x64x64 ![0, 1, 2, 3] bcast_S4x8x1x64_S4x8x64x64_0_1_2_3 (res_main_while0b_v64 V0)) : Held F main_while0b_v103) = Step.b120 j s := by
  unfold Step.b120
  rw [← al_97 h, ← al_119 h]
  try rfl
theorem al_121 (h : Holds V0 s j) : (constant S_ .f32 0x00000000#32 : Held F main_while0b_cst_41) = Step.b121 j s := by
  unfold Step.b121
  rfl
theorem al_122 (h : Holds V0 s j) : (Host.reduceAdd (mulf (res_main_while0b_v86 V0) (broadcastInDim S4x8x64x64 ![0, 1, 2, 3] bcast_S4x8x1x64_S4x8x64x64_0_1_2_3 (res_main_while0b_v64 V0))) (constant S_ .f32 0x00000000#32) reducesTo_S4x8x64x64_S4x8x64_d3 h_S_ : Held F main_while0b_v104) = Step.b122 j s := by
  unfold Step.b122
  rw [← al_120 h, ← al_121 h]
  try rfl
theorem al_123 (h : Holds V0 s j) : (shapeCast S4x8x64x1 (Host.reduceAdd (mulf (res_main_while0b_v86 V0) (broadcastInDim S4x8x64x64 ![0, 1, 2, 3] bcast_S4x8x1x64_S4x8x64x64_0_1_2_3 (res_main_while0b_v64 V0))) (constant S_ .f32 0x00000000#32) reducesTo_S4x8x64x64_S4x8x64_d3 h_S_) shapeCasts_S4x8x64_S4x8x64x1 : Held F main_while0b_v105) = Step.b123 j s := by
  unfold Step.b123
  rw [← al_122 h]
  try rfl
theorem al_124 (h : Holds V0 s j) : (constant S_ .f32 0x00000000#32 : Held F main_while0b_cst_42) = Step.b124 j s := by
  unfold Step.b124
  rfl
theorem al_125 (h : Holds V0 s j) : (res_main_while0b_v106 V0 : Held F main_while0b_v106) = Step.b125 j s := by
  unfold res_main_while0b_v106 Step.b125
  rw [← al_118 h, ← al_124 h]
  try rfl
theorem al_126 (h : Holds V0 s j) : (mulf (res_main_while0b_v51 V0) (res_main_while0b_v106 V0) : Held F main_while0b_v107) = Step.b126 j s := by
  unfold Step.b126
  rw [← al_51 h, ← al_125 h]
  try rfl
theorem al_127 (h : Holds V0 s j) : (mulf (res_main_while0b_v106 V0) (res_main_while0b_v52 V0) : Held F main_while0b_v108) = Step.b127 j s := by
  unfold Step.b127
  rw [← al_125 h, ← al_56 h]
  try rfl
theorem al_128 (h : Holds V0 s j) : (constant S_ .f32 0x00000000#32 : Held F main_while0b_cst_43) = Step.b128 j s := by
  unfold Step.b128
  rfl
theorem al_129 (h : Holds V0 s j) : (Host.reduceAdd (shapeCast S4x8x64x1 (Host.reduceAdd (mulf (res_main_while0b_v86 V0) (broadcastInDim S4x8x64x64 ![0, 1, 2, 3] bcast_S4x8x1x64_S4x8x64x64_0_1_2_3 (res_main_while0b_v64 V0))) (constant S_ .f32 0x00000000#32) reducesTo_S4x8x64x64_S4x8x64_d3 h_S_) shapeCasts_S4x8x64_S4x8x64x1) (constant S_ .f32 0x00000000#32) reducesTo_S4x8x64x1_S4x8x64_d3 h_S_ : Held F main_while0b_v109) = Step.b129 j s := by
  unfold Step.b129
  rw [← al_123 h, ← al_128 h]
  try rfl
theorem al_130 (h : Holds V0 s j) : (mulf (res_main_while0b_v46 V0) (res_main_while0b_v86 V0) : Held F main_while0b_v110) = Step.b130 j s := by
  unfold Step.b130
  rw [← al_26 h, ← al_97 h]
  try rfl
theorem al_131 (h : Holds V0 s j) : (constant S_ .f32 0x00000000#32 : Held F main_while0b_cst_44) = Step.b131 j s := by
  unfold Step.b131
  rfl
theorem al_132 (h : Holds V0 s j) : (Host.reduceAdd (mulf (res_main_while0b_v46 V0) (res_main_while0b_v86 V0)) (constant S_ .f32 0x00000000#32) reducesTo_S4x8x64x64_S4x8x64_d2 h_S_ : Held F main_while0b_v111) = Step.b132 j s := by
  unfold Step.b132
  rw [← al_130 h, ← al_131 h]
  try rfl
theorem al_133 (h : Holds V0 s j) : (shapeCast S4x8x1x64 (Host.reduceAdd (mulf (res_main_while0b_v46 V0) (res_main_while0b_v86 V0)) (constant S_ .f32 0x00000000#32) reducesTo_S4x8x64x64_S4x8x64_d2 h_S_) shapeCasts_S4x8x64_S4x8x1x64 : Held F main_while0b_v112) = Step.b133 j s := by
  unfold Step.b133
  rw [← al_132 h]
  try rfl
theorem al_134 (h : Holds V0 s j) : (broadcastInDim S4x8x64x64 ![0, 1, 2, 3] bcast_S4x8x1x64_S4x8x64x64_0_1_2_3 (res_main_while0b_v59 V0) : Held F main_while0b_v113) = Step.b134 j s := by
  unfold Step.b134
  rw [← al_64 h]
  try rfl
theorem al_135 (h : Holds V0 s j) : (mulf (res_main_while0b_v86 V0) (broadcastInDim S4x8x64x64 ![0, 1, 2, 3] bcast_S4x8x1x64_S4x8x64x64_0_1_2_3 (res_main_while0b_v59 V0)) : Held F main_while0b_v114) = Step.b135 j s := by
  unfold Step.b135
  rw [← al_97 h, ← al_134 h]
  try rfl
theorem al_136 (h : Holds V0 s j) : (constant S_ .f32 0x00000000#32 : Held F main_while0b_cst_45) = Step.b136 j s := by
  unfold Step.b136
  rfl
theorem al_137 (h : Holds V0 s j) : (Host.reduceAdd (shapeCast S4x8x1x64 (Host.reduceAdd (mulf (res_main_while0b_v46 V0) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_ : Held F main_while0b_v115) = Step.b137 j s := by
  unfold Step.b137
  rw [← al_133 h, ← al_136 h]
  try rfl
theorem al_138 (h : Holds V0 s j) : (mulf (Host.reduceAdd (shapeCast S4x8x1x64 (Host.reduceAdd (mulf (res_main_while0b_v46 V0) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_) (res_main_while0b_v58 V0) : Held F main_while0b_v116) = Step.b138 j s := by
  unfold Step.b138
  rw [← al_137 h, ← al_63 h]
  try rfl
theorem al_139 (h : Holds V0 s j) : (res_main_while0b_v117 V0 : Held F main_while0b_v117) = Step.b139 j s := by
  unfold res_main_while0b_v117 Step.b139
  rw [← al_129 h]
  try rfl
theorem al_140 (h : Holds V0 s j) : (mulf (res_main_while0b_v46 V0) (res_main_while0b_v117 V0) : Held F main_while0b_v118) = Step.b140 j s := by
  unfold Step.b140
  rw [← al_26 h, ← al_139 h]
  try rfl
theorem al_141 (h : Holds V0 s j) : (constant S_ .f32 0x00000000#32 : Held F main_while0b_cst_46) = Step.b141 j s := by
  unfold Step.b141
  rfl
theorem al_142 (h : Holds V0 s j) : (Host.reduceAdd (mulf (res_main_while0b_v46 V0) (res_main_while0b_v117 V0)) (constant S_ .f32 0x00000000#32) reducesTo_S4x8x64x64_S4x8x64_d2 h_S_ : Held F main_while0b_v119) = Step.b142 j s := by
  unfold Step.b142
  rw [← al_140 h, ← al_141 h]
  try rfl
theorem al_143 (h : Holds V0 s j) : (shapeCast S4x8x1x64 (Host.reduceAdd (mulf (res_main_while0b_v46 V0) (res_main_while0b_v117 V0)) (constant S_ .f32 0x00000000#32) reducesTo_S4x8x64x64_S4x8x64_d2 h_S_) shapeCasts_S4x8x64_S4x8x1x64 : Held F main_while0b_v120) = Step.b143 j s := by
  unfold Step.b143
  rw [← al_142 h]
  try rfl
theorem al_144 (h : Holds V0 s j) : (broadcastInDim S4x8x64x64 ![0, 1, 2, 3] bcast_S4x8x1x64_S4x8x64x64_0_1_2_3 (res_main_while0b_v54 V0) : Held F main_while0b_v121) = Step.b144 j s := by
  unfold Step.b144
  rw [← al_58 h]
  try rfl
theorem al_145 (h : Holds V0 s j) : (mulf (res_main_while0b_v117 V0) (broadcastInDim S4x8x64x64 ![0, 1, 2, 3] bcast_S4x8x1x64_S4x8x64x64_0_1_2_3 (res_main_while0b_v54 V0)) : Held F main_while0b_v122) = Step.b145 j s := by
  unfold Step.b145
  rw [← al_139 h, ← al_144 h]
  try rfl
theorem al_146 (h : Holds V0 s j) : (addf (mulf (res_main_while0b_v86 V0) (broadcastInDim S4x8x64x64 ![0, 1, 2, 3] bcast_S4x8x1x64_S4x8x64x64_0_1_2_3 (res_main_while0b_v59 V0))) (mulf (res_main_while0b_v117 V0) (broadcastInDim S4x8x64x64 ![0, 1, 2, 3] bcast_S4x8x1x64_S4x8x64x64_0_1_2_3 (res_main_while0b_v54 V0))) : Held F main_while0b_v123) = Step.b146 j s := by
  unfold Step.b146
  rw [← al_135 h, ← al_145 h]
  try rfl
theorem al_147 (h : Holds V0 s j) : (constant S_ .f32 0x00000000#32 : Held F main_while0b_cst_47) = Step.b147 j s := by
  unfold Step.b147
  rfl
theorem al_148 (h : Holds V0 s j) : (Host.reduceAdd (shapeCast S4x8x1x64 (Host.reduceAdd (mulf (res_main_while0b_v46 V0) (res_main_while0b_v117 V0)) (constant S_ .f32 0x00000000#32) reducesTo_S4x8x64x64_S4x8x64_d2 h_S_) shapeCasts_S4x8x64_S4x8x1x64) (constant S_ .f32 0x00000000#32) reducesTo_S4x8x1x64_S4x8x64_d2 h_S_ : Held F main_while0b_v124) = Step.b148 j s := by
  unfold Step.b148
  rw [← al_143 h, ← al_147 h]
  try rfl
theorem al_149 (h : Holds V0 s j) : (Host.negf (Host.reduceAdd (shapeCast S4x8x1x64 (Host.reduceAdd (mulf (res_main_while0b_v46 V0) (res_main_while0b_v117 V0)) (constant S_ .f32 0x00000000#32) reducesTo_S4x8x64x64_S4x8x64_d2 h_S_) shapeCasts_S4x8x64_S4x8x1x64) (constant S_ .f32 0x00000000#32) reducesTo_S4x8x1x64_S4x8x64_d2 h_S_) : Held F main_while0b_v125) = Step.b149 j s := by
  unfold Step.b149
  rw [← al_148 h]
  try rfl
theorem al_150 (h : Holds V0 s j) : (addf (mulf (res_main_while0b_v106 V0) (res_main_while0b_v52 V0)) (Host.negf (Host.reduceAdd (shapeCast S4x8x1x64 (Host.reduceAdd (mulf (res_main_while0b_v46 V0) (res_main_while0b_v117 V0)) (constant S_ .f32 0x00000000#32) reducesTo_S4x8x64x64_S4x8x64_d2 h_S_) shapeCasts_S4x8x64_S4x8x1x64) (constant S_ .f32 0x00000000#32) reducesTo_S4x8x1x64_S4x8x64_d2 h_S_)) : Held F main_while0b_v126) = Step.b150 j s := by
  unfold Step.b150
  rw [← al_127 h, ← al_149 h]
  try rfl
theorem al_151 (h : Holds V0 s j) : (select (broadcastInDim S4x8x64x64 ![] bcast_S_S4x8x64x64 (res_main_while0b_v39 V0)) (V0 (Proc.devRef .tc main_v23_11)) (addf (mulf (res_main_while0b_v86 V0) (broadcastInDim S4x8x64x64 ![0, 1, 2, 3] bcast_S4x8x1x64_S4x8x64x64_0_1_2_3 (res_main_while0b_v59 V0))) (mulf (res_main_while0b_v117 V0) (broadcastInDim S4x8x64x64 ![0, 1, 2, 3] bcast_S4x8x1x64_S4x8x64x64_0_1_2_3 (res_main_while0b_v54 V0)))) : Held F main_while0b_v127) = Step.b151 j s := by
  unfold Step.b151
  rw [← al_6 h, ← al_146 h, h.f_11]
  try rfl
theorem al_152 (h : Holds V0 s j) : (broadcastInDim S1x4x8x64x64 ![1, 2, 3, 4] bcast_S4x8x64x64_S1x4x8x64x64_1_2_3_4 (res_main_while0b_v46 V0) : Held F main_while0b_call12_v0) = Step.b152 j s := by
  unfold Step.b152
  rw [← al_26 h]
  try rfl
theorem al_153 (h : Holds V0 s j) : (constantI S_ 32 0#32 : Held F main_while0b_call12_c) = Step.b153 j s := by
  unfold Step.b153
  rfl
theorem al_154 (h : Holds V0 s j) : (constantI S_ 32 0#32 : Held F main_while0b_call12_c_0) = Step.b154 j s := by
  unfold Step.b154
  rfl
theorem al_155 (h : Holds V0 s j) : (constantI S_ 32 0#32 : Held F main_while0b_call12_c_1) = Step.b155 j s := by
  unfold Step.b155
  rfl
theorem al_156 (h : Holds V0 s j) : (constantI S_ 32 0#32 : Held F main_while0b_call12_c_2) = Step.b156 j s := by
  unfold Step.b156
  rfl
theorem al_157 (h : Holds V0 s j) : (Host.dynamicUpdateSlice (V0 (Proc.devRef .tc main_v23_12)) (broadcastInDim S1x4x8x64x64 ![1, 2, 3, 4] bcast_S4x8x64x64_S1x4x8x64x64_1_2_3_4 (res_main_while0b_v46 V0)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S2048x4x8x64x64_S1x4x8x64x64 : Held F main_while0b_v128) = Step.b157 j s := by
  unfold Step.b157
  rw [← al_152 h, ← al_4 h, ← al_153 h, ← al_154 h, ← al_155 h, ← al_156 h, h.f_12]
  try rfl
theorem al_158 (h : Holds V0 s j) : (select (broadcastInDim S2048x4x8x64x64 ![] bcast_S_S2048x4x8x64x64 (res_main_while0b_v39 V0)) (Host.dynamicUpdateSlice (V0 (Proc.devRef .tc main_v23_12)) (broadcastInDim S1x4x8x64x64 ![1, 2, 3, 4] bcast_S4x8x64x64_S1x4x8x64x64_1_2_3_4 (res_main_while0b_v46 V0)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S2048x4x8x64x64_S1x4x8x64x64) (V0 (Proc.devRef .tc main_v23_12)) : Held F main_while0b_v129) = Step.b158 j s := by
  unfold Step.b158
  rw [← al_6 h, ← al_157 h, h.f_12]
  try rfl
theorem al_159 (h : Holds V0 s j) : (broadcastInDim S1x4x8x64 ![1, 2, 3] bcast_S4x8x64_S1x4x8x64_1_2_3 (Host.reduceAdd (shapeCast S4x8x1x64 (Host.reduceAdd (mulf (res_main_while0b_v74 V0) (res_main_while0b_v80 V0)) (constant S_ .f32 0x00000000#32) reducesTo_S4x8x64x64_S4x8x64_d2 h_S_) shapeCasts_S4x8x64_S4x8x1x64) (constant S_ .f32 0x00000000#32) reducesTo_S4x8x1x64_S4x8x64_d2 h_S_) : Held F main_while0b_call14_v0) = Step.b159 j s := by
  unfold Step.b159
  rw [← al_99 h]
  try rfl
theorem al_160 (h : Holds V0 s j) : (constantI S_ 32 0#32 : Held F main_while0b_call14_c) = Step.b160 j s := by
  unfold Step.b160
  rfl
theorem al_161 (h : Holds V0 s j) : (constantI S_ 32 0#32 : Held F main_while0b_call14_c_0) = Step.b161 j s := by
  unfold Step.b161
  rfl
theorem al_162 (h : Holds V0 s j) : (constantI S_ 32 0#32 : Held F main_while0b_call14_c_1) = Step.b162 j s := by
  unfold Step.b162
  rfl
theorem al_163 (h : Holds V0 s j) : (Host.dynamicUpdateSlice (V0 (Proc.devRef .tc main_v23_13)) (broadcastInDim S1x4x8x64 ![1, 2, 3] bcast_S4x8x64_S1x4x8x64_1_2_3 (Host.reduceAdd (shapeCast S4x8x1x64 (Host.reduceAdd (mulf (res_main_while0b_v74 V0) (res_main_while0b_v80 V0)) (constant S_ .f32 0x00000000#32) reducesTo_S4x8x64x64_S4x8x64_d2 h_S_) shapeCasts_S4x8x64_S4x8x1x64) (constant S_ .f32 0x00000000#32) reducesTo_S4x8x1x64_S4x8x64_d2 h_S_)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64 : Held F main_while0b_v130) = Step.b163 j s := by
  unfold Step.b163
  rw [← al_159 h, ← al_4 h, ← al_160 h, ← al_161 h, ← al_162 h, h.f_13]
  try rfl
theorem al_164 (h : Holds V0 s j) : (select (broadcastInDim S2048x4x8x64 ![] bcast_S_S2048x4x8x64 (res_main_while0b_v39 V0)) (V0 (Proc.devRef .tc main_v23_13)) (Host.dynamicUpdateSlice (V0 (Proc.devRef .tc main_v23_13)) (broadcastInDim S1x4x8x64 ![1, 2, 3] bcast_S4x8x64_S1x4x8x64_1_2_3 (Host.reduceAdd (shapeCast S4x8x1x64 (Host.reduceAdd (mulf (res_main_while0b_v74 V0) (res_main_while0b_v80 V0)) (constant S_ .f32 0x00000000#32) reducesTo_S4x8x64x64_S4x8x64_d2 h_S_) shapeCasts_S4x8x64_S4x8x1x64) (constant S_ .f32 0x00000000#32) reducesTo_S4x8x1x64_S4x8x64_d2 h_S_)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64) : Held F main_while0b_v131) = Step.b164 j s := by
  unfold Step.b164
  rw [← al_6 h, ← al_163 h, h.f_13]
  try rfl
theorem al_165 (h : Holds V0 s j) : (broadcastInDim S1x4x8x64 ![1, 2, 3] bcast_S4x8x64_S1x4x8x64_1_2_3 (mulf (Host.reduceAdd (shapeCast S4x8x1x64 (Host.reduceAdd (mulf (res_main_while0b_v46 V0) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_) (res_main_while0b_v58 V0)) : Held F main_while0b_call16_v0) = Step.b165 j s := by
  unfold Step.b165
  rw [← al_138 h]
  try rfl
theorem al_166 (h : Holds V0 s j) : (constantI S_ 32 0#32 : Held F main_while0b_call16_c) = Step.b166 j s := by
  unfold Step.b166
  rfl
theorem al_167 (h : Holds V0 s j) : (constantI S_ 32 0#32 : Held F main_while0b_call16_c_0) = Step.b167 j s := by
  unfold Step.b167
  rfl
theorem al_168 (h : Holds V0 s j) : (constantI S_ 32 0#32 : Held F main_while0b_call16_c_1) = Step.b168 j s := by
  unfold Step.b168
  rfl
theorem al_169 (h : Holds V0 s j) : (Host.dynamicUpdateSlice (V0 (Proc.devRef .tc main_v23_14)) (broadcastInDim S1x4x8x64 ![1, 2, 3] bcast_S4x8x64_S1x4x8x64_1_2_3 (mulf (Host.reduceAdd (shapeCast S4x8x1x64 (Host.reduceAdd (mulf (res_main_while0b_v46 V0) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_) (res_main_while0b_v58 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64 : Held F main_while0b_v132) = Step.b169 j s := by
  unfold Step.b169
  rw [← al_165 h, ← al_4 h, ← al_166 h, ← al_167 h, ← al_168 h, h.f_14]
  try rfl
theorem al_170 (h : Holds V0 s j) : (select (broadcastInDim S2048x4x8x64 ![] bcast_S_S2048x4x8x64 (res_main_while0b_v39 V0)) (V0 (Proc.devRef .tc main_v23_14)) (Host.dynamicUpdateSlice (V0 (Proc.devRef .tc main_v23_14)) (broadcastInDim S1x4x8x64 ![1, 2, 3] bcast_S4x8x64_S1x4x8x64_1_2_3 (mulf (Host.reduceAdd (shapeCast S4x8x1x64 (Host.reduceAdd (mulf (res_main_while0b_v46 V0) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_) (res_main_while0b_v58 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64) : Held F main_while0b_v133) = Step.b170 j s := by
  unfold Step.b170
  rw [← al_6 h, ← al_169 h, h.f_14]
  try rfl
theorem al_171 (h : Holds V0 s j) : (broadcastInDim S1x4x8x64 ![1, 2, 3] bcast_S4x8x64_S1x4x8x64_1_2_3 (Host.reduceAdd (shapeCast S4x8x1x64 (Host.reduceAdd (mulf (broadcastInDim S4x8x64x64 ![0, 1, 2, 3] bcast_S4x8x64x1_S4x8x64x64_0_1_2_3 (res_main_while0b_v69 V0)) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_) : Held F main_while0b_call18_v0) = Step.b171 j s := by
  unfold Step.b171
  rw [← al_111 h]
  try rfl
theorem al_172 (h : Holds V0 s j) : (constantI S_ 32 0#32 : Held F main_while0b_call18_c) = Step.b172 j s := by
  unfold Step.b172
  rfl
theorem al_173 (h : Holds V0 s j) : (constantI S_ 32 0#32 : Held F main_while0b_call18_c_0) = Step.b173 j s := by
  unfold Step.b173
  rfl
theorem al_174 (h : Holds V0 s j) : (constantI S_ 32 0#32 : Held F main_while0b_call18_c_1) = Step.b174 j s := by
  unfold Step.b174
  rfl
theorem al_175 (h : Holds V0 s j) : (Host.dynamicUpdateSlice (V0 (Proc.devRef .tc main_v23_15)) (broadcastInDim S1x4x8x64 ![1, 2, 3] bcast_S4x8x64_S1x4x8x64_1_2_3 (Host.reduceAdd (shapeCast S4x8x1x64 (Host.reduceAdd (mulf (broadcastInDim S4x8x64x64 ![0, 1, 2, 3] bcast_S4x8x64x1_S4x8x64x64_0_1_2_3 (res_main_while0b_v69 V0)) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64 : Held F main_while0b_v134) = Step.b175 j s := by
  unfold Step.b175
  rw [← al_171 h, ← al_4 h, ← al_172 h, ← al_173 h, ← al_174 h, h.f_15]
  try rfl
theorem al_176 (h : Holds V0 s j) : (select (broadcastInDim S2048x4x8x64 ![] bcast_S_S2048x4x8x64 (res_main_while0b_v39 V0)) (V0 (Proc.devRef .tc main_v23_15)) (Host.dynamicUpdateSlice (V0 (Proc.devRef .tc main_v23_15)) (broadcastInDim S1x4x8x64 ![1, 2, 3] bcast_S4x8x64_S1x4x8x64_1_2_3 (Host.reduceAdd (shapeCast S4x8x1x64 (Host.reduceAdd (mulf (broadcastInDim S4x8x64x64 ![0, 1, 2, 3] bcast_S4x8x64x1_S4x8x64x64_0_1_2_3 (res_main_while0b_v69 V0)) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64) : Held F main_while0b_v135) = Step.b176 j s := by
  unfold Step.b176
  rw [← al_6 h, ← al_175 h, h.f_15]
  try rfl
theorem al_177 (h : Holds V0 s j) : (broadcastInDim S1x4x8x64 ![1, 2, 3] bcast_S4x8x64_S1x4x8x64_1_2_3 (Host.reduceAdd (shapeCast S4x8x64x1 (Host.reduceAdd (mulf (res_main_while0b_v86 V0) (broadcastInDim S4x8x64x64 ![0, 1, 2, 3] bcast_S4x8x1x64_S4x8x64x64_0_1_2_3 (res_main_while0b_v70 V0))) (constant S_ .f32 0x00000000#32) reducesTo_S4x8x64x64_S4x8x64_d3 h_S_) shapeCasts_S4x8x64_S4x8x64x1) (constant S_ .f32 0x00000000#32) reducesTo_S4x8x64x1_S4x8x64_d3 h_S_) : Held F main_while0b_call20_v0) = Step.b177 j s := by
  unfold Step.b177
  rw [← al_113 h]
  try rfl
theorem al_178 (h : Holds V0 s j) : (constantI S_ 32 0#32 : Held F main_while0b_call20_c) = Step.b178 j s := by
  unfold Step.b178
  rfl
theorem al_179 (h : Holds V0 s j) : (constantI S_ 32 0#32 : Held F main_while0b_call20_c_0) = Step.b179 j s := by
  unfold Step.b179
  rfl
theorem al_180 (h : Holds V0 s j) : (constantI S_ 32 0#32 : Held F main_while0b_call20_c_1) = Step.b180 j s := by
  unfold Step.b180
  rfl
theorem al_181 (h : Holds V0 s j) : (Host.dynamicUpdateSlice (V0 (Proc.devRef .tc main_v23_16)) (broadcastInDim S1x4x8x64 ![1, 2, 3] bcast_S4x8x64_S1x4x8x64_1_2_3 (Host.reduceAdd (shapeCast S4x8x64x1 (Host.reduceAdd (mulf (res_main_while0b_v86 V0) (broadcastInDim S4x8x64x64 ![0, 1, 2, 3] bcast_S4x8x1x64_S4x8x64x64_0_1_2_3 (res_main_while0b_v70 V0))) (constant S_ .f32 0x00000000#32) reducesTo_S4x8x64x64_S4x8x64_d3 h_S_) shapeCasts_S4x8x64_S4x8x64x1) (constant S_ .f32 0x00000000#32) reducesTo_S4x8x64x1_S4x8x64_d3 h_S_)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64 : Held F main_while0b_v136) = Step.b181 j s := by
  unfold Step.b181
  rw [← al_177 h, ← al_4 h, ← al_178 h, ← al_179 h, ← al_180 h, h.f_16]
  try rfl
theorem al_182 (h : Holds V0 s j) : (select (broadcastInDim S2048x4x8x64 ![] bcast_S_S2048x4x8x64 (res_main_while0b_v39 V0)) (V0 (Proc.devRef .tc main_v23_16)) (Host.dynamicUpdateSlice (V0 (Proc.devRef .tc main_v23_16)) (broadcastInDim S1x4x8x64 ![1, 2, 3] bcast_S4x8x64_S1x4x8x64_1_2_3 (Host.reduceAdd (shapeCast S4x8x64x1 (Host.reduceAdd (mulf (res_main_while0b_v86 V0) (broadcastInDim S4x8x64x64 ![0, 1, 2, 3] bcast_S4x8x1x64_S4x8x64x64_0_1_2_3 (res_main_while0b_v70 V0))) (constant S_ .f32 0x00000000#32) reducesTo_S4x8x64x64_S4x8x64_d3 h_S_) shapeCasts_S4x8x64_S4x8x64x1) (constant S_ .f32 0x00000000#32) reducesTo_S4x8x64x1_S4x8x64_d3 h_S_)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64) : Held F main_while0b_v137) = Step.b182 j s := by
  unfold Step.b182
  rw [← al_6 h, ← al_181 h, h.f_16]
  try rfl
theorem al_183 (h : Holds V0 s j) : (broadcastInDim S1x4x8x64 ![1, 2, 3] bcast_S4x8x64_S1x4x8x64_1_2_3 (addf (mulf (res_main_while0b_v106 V0) (res_main_while0b_v52 V0)) (Host.negf (Host.reduceAdd (shapeCast S4x8x1x64 (Host.reduceAdd (mulf (res_main_while0b_v46 V0) (res_main_while0b_v117 V0)) (constant S_ .f32 0x00000000#32) reducesTo_S4x8x64x64_S4x8x64_d2 h_S_) shapeCasts_S4x8x64_S4x8x1x64) (constant S_ .f32 0x00000000#32) reducesTo_S4x8x1x64_S4x8x64_d2 h_S_))) : Held F main_while0b_call22_v0) = Step.b183 j s := by
  unfold Step.b183
  rw [← al_150 h]
  try rfl
theorem al_184 (h : Holds V0 s j) : (constantI S_ 32 0#32 : Held F main_while0b_call22_c) = Step.b184 j s := by
  unfold Step.b184
  rfl
theorem al_185 (h : Holds V0 s j) : (constantI S_ 32 0#32 : Held F main_while0b_call22_c_0) = Step.b185 j s := by
  unfold Step.b185
  rfl
theorem al_186 (h : Holds V0 s j) : (constantI S_ 32 0#32 : Held F main_while0b_call22_c_1) = Step.b186 j s := by
  unfold Step.b186
  rfl
theorem al_187 (h : Holds V0 s j) : (Host.dynamicUpdateSlice (V0 (Proc.devRef .tc main_v23_17)) (broadcastInDim S1x4x8x64 ![1, 2, 3] bcast_S4x8x64_S1x4x8x64_1_2_3 (addf (mulf (res_main_while0b_v106 V0) (res_main_while0b_v52 V0)) (Host.negf (Host.reduceAdd (shapeCast S4x8x1x64 (Host.reduceAdd (mulf (res_main_while0b_v46 V0) (res_main_while0b_v117 V0)) (constant S_ .f32 0x00000000#32) reducesTo_S4x8x64x64_S4x8x64_d2 h_S_) shapeCasts_S4x8x64_S4x8x1x64) (constant S_ .f32 0x00000000#32) reducesTo_S4x8x1x64_S4x8x64_d2 h_S_)))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64 : Held F main_while0b_v138) = Step.b187 j s := by
  unfold Step.b187
  rw [← al_183 h, ← al_4 h, ← al_184 h, ← al_185 h, ← al_186 h, h.f_17]
  try rfl
theorem al_188 (h : Holds V0 s j) : (select (broadcastInDim S2048x4x8x64 ![] bcast_S_S2048x4x8x64 (res_main_while0b_v39 V0)) (V0 (Proc.devRef .tc main_v23_17)) (Host.dynamicUpdateSlice (V0 (Proc.devRef .tc main_v23_17)) (broadcastInDim S1x4x8x64 ![1, 2, 3] bcast_S4x8x64_S1x4x8x64_1_2_3 (addf (mulf (res_main_while0b_v106 V0) (res_main_while0b_v52 V0)) (Host.negf (Host.reduceAdd (shapeCast S4x8x1x64 (Host.reduceAdd (mulf (res_main_while0b_v46 V0) (res_main_while0b_v117 V0)) (constant S_ .f32 0x00000000#32) reducesTo_S4x8x64x64_S4x8x64_d2 h_S_) shapeCasts_S4x8x64_S4x8x1x64) (constant S_ .f32 0x00000000#32) reducesTo_S4x8x1x64_S4x8x64_d2 h_S_)))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64) : Held F main_while0b_v139) = Step.b188 j s := by
  unfold Step.b188
  rw [← al_6 h, ← al_187 h, h.f_17]
  try rfl
theorem al_189 (h : Holds V0 s j) : (broadcastInDim S1x4x8x64 ![1, 2, 3] bcast_S4x8x64_S1x4x8x64_1_2_3 (mulf (res_main_while0b_v51 V0) (res_main_while0b_v106 V0)) : Held F main_while0b_call24_v0) = Step.b189 j s := by
  unfold Step.b189
  rw [← al_126 h]
  try rfl
theorem al_190 (h : Holds V0 s j) : (constantI S_ 32 0#32 : Held F main_while0b_call24_c) = Step.b190 j s := by
  unfold Step.b190
  rfl
theorem al_191 (h : Holds V0 s j) : (constantI S_ 32 0#32 : Held F main_while0b_call24_c_0) = Step.b191 j s := by
  unfold Step.b191
  rfl
theorem al_192 (h : Holds V0 s j) : (constantI S_ 32 0#32 : Held F main_while0b_call24_c_1) = Step.b192 j s := by
  unfold Step.b192
  rfl
theorem al_193 (h : Holds V0 s j) : (Host.dynamicUpdateSlice (V0 (Proc.devRef .tc main_v23_18)) (broadcastInDim S1x4x8x64 ![1, 2, 3] bcast_S4x8x64_S1x4x8x64_1_2_3 (mulf (res_main_while0b_v51 V0) (res_main_while0b_v106 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64 : Held F main_while0b_v140) = Step.b193 j s := by
  unfold Step.b193
  rw [← al_189 h, ← al_4 h, ← al_190 h, ← al_191 h, ← al_192 h, h.f_18]
  try rfl
theorem al_194 (h : Holds V0 s j) : (select (broadcastInDim S2048x4x8x64 ![] bcast_S_S2048x4x8x64 (res_main_while0b_v39 V0)) (V0 (Proc.devRef .tc main_v23_18)) (Host.dynamicUpdateSlice (V0 (Proc.devRef .tc main_v23_18)) (broadcastInDim S1x4x8x64 ![1, 2, 3] bcast_S4x8x64_S1x4x8x64_1_2_3 (mulf (res_main_while0b_v51 V0) (res_main_while0b_v106 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64) : Held F main_while0b_v141) = Step.b194 j s := by
  unfold Step.b194
  rw [← al_6 h, ← al_193 h, h.f_18]
  try rfl

/-! One trip's step of the carried values is `step`, field by field; a counter steps to the next number. -/

theorem step_10 (h : Holds V0 s j) : step_main_v23_10 V0 = (step j s).main_v23_10 := by
  unfold step_main_v23_10 Step.step
  show id (res_main_while0b_v74 V0) = _
  exact al_79 h
theorem step_11 (h : Holds V0 s j) : step_main_v23_11 V0 = (step j s).main_v23_11 := by
  unfold step_main_v23_11 Step.step
  show id (select (broadcastInDim S4x8x64x64 ![] bcast_S_S4x8x64x64 (res_main_while0b_v39 V0)) (V0 (Proc.devRef .tc main_v23_11)) (addf (mulf (res_main_while0b_v86 V0) (broadcastInDim S4x8x64x64 ![0, 1, 2, 3] bcast_S4x8x1x64_S4x8x64x64_0_1_2_3 (res_main_while0b_v59 V0))) (mulf (res_main_while0b_v117 V0) (broadcastInDim S4x8x64x64 ![0, 1, 2, 3] bcast_S4x8x1x64_S4x8x64x64_0_1_2_3 (res_main_while0b_v54 V0))))) = _
  exact al_151 h
theorem step_12 (h : Holds V0 s j) : step_main_v23_12 V0 = (step j s).main_v23_12 := by
  unfold step_main_v23_12 Step.step
  show id (select (broadcastInDim S2048x4x8x64x64 ![] bcast_S_S2048x4x8x64x64 (res_main_while0b_v39 V0)) (Host.dynamicUpdateSlice (V0 (Proc.devRef .tc main_v23_12)) (broadcastInDim S1x4x8x64x64 ![1, 2, 3, 4] bcast_S4x8x64x64_S1x4x8x64x64_1_2_3_4 (res_main_while0b_v46 V0)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S2048x4x8x64x64_S1x4x8x64x64) (V0 (Proc.devRef .tc main_v23_12))) = _
  exact al_158 h
theorem step_13 (h : Holds V0 s j) : step_main_v23_13 V0 = (step j s).main_v23_13 := by
  unfold step_main_v23_13 Step.step
  show id (select (broadcastInDim S2048x4x8x64 ![] bcast_S_S2048x4x8x64 (res_main_while0b_v39 V0)) (V0 (Proc.devRef .tc main_v23_13)) (Host.dynamicUpdateSlice (V0 (Proc.devRef .tc main_v23_13)) (broadcastInDim S1x4x8x64 ![1, 2, 3] bcast_S4x8x64_S1x4x8x64_1_2_3 (Host.reduceAdd (shapeCast S4x8x1x64 (Host.reduceAdd (mulf (res_main_while0b_v74 V0) (res_main_while0b_v80 V0)) (constant S_ .f32 0x00000000#32) reducesTo_S4x8x64x64_S4x8x64_d2 h_S_) shapeCasts_S4x8x64_S4x8x1x64) (constant S_ .f32 0x00000000#32) reducesTo_S4x8x1x64_S4x8x64_d2 h_S_)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64)) = _
  exact al_164 h
theorem step_14 (h : Holds V0 s j) : step_main_v23_14 V0 = (step j s).main_v23_14 := by
  unfold step_main_v23_14 Step.step
  show id (select (broadcastInDim S2048x4x8x64 ![] bcast_S_S2048x4x8x64 (res_main_while0b_v39 V0)) (V0 (Proc.devRef .tc main_v23_14)) (Host.dynamicUpdateSlice (V0 (Proc.devRef .tc main_v23_14)) (broadcastInDim S1x4x8x64 ![1, 2, 3] bcast_S4x8x64_S1x4x8x64_1_2_3 (mulf (Host.reduceAdd (shapeCast S4x8x1x64 (Host.reduceAdd (mulf (res_main_while0b_v46 V0) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_) (res_main_while0b_v58 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64)) = _
  exact al_170 h
theorem step_15 (h : Holds V0 s j) : step_main_v23_15 V0 = (step j s).main_v23_15 := by
  unfold step_main_v23_15 Step.step
  show id (select (broadcastInDim S2048x4x8x64 ![] bcast_S_S2048x4x8x64 (res_main_while0b_v39 V0)) (V0 (Proc.devRef .tc main_v23_15)) (Host.dynamicUpdateSlice (V0 (Proc.devRef .tc main_v23_15)) (broadcastInDim S1x4x8x64 ![1, 2, 3] bcast_S4x8x64_S1x4x8x64_1_2_3 (Host.reduceAdd (shapeCast S4x8x1x64 (Host.reduceAdd (mulf (broadcastInDim S4x8x64x64 ![0, 1, 2, 3] bcast_S4x8x64x1_S4x8x64x64_0_1_2_3 (res_main_while0b_v69 V0)) (res_main_while0b_v86 V0)) (constant S_ .f32 0x00000000#32) reducesTo_S4x8x64x64_S4x8x64_d2 h_S_) shapeCasts_S4x8x64_S4x8x1x64) (constant S_ .f32 0x00000000#32) reducesTo_S4x8x1x64_S4x8x64_d2 h_S_)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64)) = _
  exact al_176 h
theorem step_16 (h : Holds V0 s j) : step_main_v23_16 V0 = (step j s).main_v23_16 := by
  unfold step_main_v23_16 Step.step
  show id (select (broadcastInDim S2048x4x8x64 ![] bcast_S_S2048x4x8x64 (res_main_while0b_v39 V0)) (V0 (Proc.devRef .tc main_v23_16)) (Host.dynamicUpdateSlice (V0 (Proc.devRef .tc main_v23_16)) (broadcastInDim S1x4x8x64 ![1, 2, 3] bcast_S4x8x64_S1x4x8x64_1_2_3 (Host.reduceAdd (shapeCast S4x8x64x1 (Host.reduceAdd (mulf (res_main_while0b_v86 V0) (broadcastInDim S4x8x64x64 ![0, 1, 2, 3] bcast_S4x8x1x64_S4x8x64x64_0_1_2_3 (res_main_while0b_v70 V0))) (constant S_ .f32 0x00000000#32) reducesTo_S4x8x64x64_S4x8x64_d3 h_S_) shapeCasts_S4x8x64_S4x8x64x1) (constant S_ .f32 0x00000000#32) reducesTo_S4x8x64x1_S4x8x64_d3 h_S_)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64)) = _
  exact al_182 h
theorem step_17 (h : Holds V0 s j) : step_main_v23_17 V0 = (step j s).main_v23_17 := by
  unfold step_main_v23_17 Step.step
  show id (select (broadcastInDim S2048x4x8x64 ![] bcast_S_S2048x4x8x64 (res_main_while0b_v39 V0)) (V0 (Proc.devRef .tc main_v23_17)) (Host.dynamicUpdateSlice (V0 (Proc.devRef .tc main_v23_17)) (broadcastInDim S1x4x8x64 ![1, 2, 3] bcast_S4x8x64_S1x4x8x64_1_2_3 (addf (mulf (res_main_while0b_v106 V0) (res_main_while0b_v52 V0)) (Host.negf (Host.reduceAdd (shapeCast S4x8x1x64 (Host.reduceAdd (mulf (res_main_while0b_v46 V0) (res_main_while0b_v117 V0)) (constant S_ .f32 0x00000000#32) reducesTo_S4x8x64x64_S4x8x64_d2 h_S_) shapeCasts_S4x8x64_S4x8x1x64) (constant S_ .f32 0x00000000#32) reducesTo_S4x8x1x64_S4x8x64_d2 h_S_)))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64)) = _
  exact al_188 h
theorem step_18 (h : Holds V0 s j) : step_main_v23_18 V0 = (step j s).main_v23_18 := by
  unfold step_main_v23_18 Step.step
  show id (select (broadcastInDim S2048x4x8x64 ![] bcast_S_S2048x4x8x64 (res_main_while0b_v39 V0)) (V0 (Proc.devRef .tc main_v23_18)) (Host.dynamicUpdateSlice (V0 (Proc.devRef .tc main_v23_18)) (broadcastInDim S1x4x8x64 ![1, 2, 3] bcast_S4x8x64_S1x4x8x64_1_2_3 (mulf (res_main_while0b_v51 V0) (res_main_while0b_v106 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S2048x4x8x64_S1x4x8x64)) = _
  exact al_194 h
theorem step_8 (h : Holds V0 s j) : step_main_v23_8 V0 = constantI S_ 32 (BitVec.ofNat 32 (j + 1)) := by
  unfold step_main_v23_8
  rw [h.n_8]
  funext i
  show BitVec.ofNat 32 j + 1#32 = BitVec.ofNat 32 (j + 1)
  simp only [BitVec.ofNat_add]
theorem step_9 (h : Holds V0 s j) : step_main_v23_9 V0 = constantI S_ 32 (BitVec.ofNat 32 (j + 1)) := by
  unfold step_main_v23_9
  rw [h.n_9]
  funext i
  show BitVec.ofNat 32 j + 1#32 = BitVec.ofNat 32 (j + 1)
  simp only [BitVec.ofNat_add]

theorem out_main_v25_holds (h : Holds V0 s j) : out_main_v25 V0 = Step.R_main_v25 s := by
  unfold out_main_v25 Step.R_main_v25
  rw [h.f_13]
  try rfl

theorem out_main_v27_holds (h : Holds V0 s j) : out_main_v27 V0 = Step.R_main_v27 s := by
  unfold out_main_v27 Step.R_main_v27
  rw [h.f_14]
  try rfl

theorem out_main_v29_holds (h : Holds V0 s j) : out_main_v29 V0 = Step.R_main_v29 s := by
  unfold out_main_v29 Step.R_main_v29
  rw [h.f_15]
  try rfl

theorem out_main_v31_holds (h : Holds V0 s j) : out_main_v31 V0 = Step.R_main_v31 s := by
  unfold out_main_v31 Step.R_main_v31
  rw [h.f_16]
  try rfl

theorem out_main_v33_holds (h : Holds V0 s j) : out_main_v33 V0 = Step.R_main_v33 s := by
  unfold out_main_v33 Step.R_main_v33
  rw [h.f_17]
  try rfl

theorem out_main_v35_holds (h : Holds V0 s j) : out_main_v35 V0 = Step.R_main_v35 s := by
  unfold out_main_v35 Step.R_main_v35
  rw [h.f_18]
  try rfl

/-- One trip keeps the valuation holding: `step` of the state, the same set-up values, the next number. -/
theorem holds_step (h : Holds V0 s j) : Holds (STEP V0) (step j s) (j + 1) where
  f_10 := (STEP_main_v23_10 V0).trans (step_10 h)
  f_11 := (STEP_main_v23_11 V0).trans (step_11 h)
  f_12 := (STEP_main_v23_12 V0).trans (step_12 h)
  f_13 := (STEP_main_v23_13 V0).trans (step_13 h)
  f_14 := (STEP_main_v23_14 V0).trans (step_14 h)
  f_15 := (STEP_main_v23_15 V0).trans (step_15 h)
  f_16 := (STEP_main_v23_16 V0).trans (step_16 h)
  f_17 := (STEP_main_v23_17 V0).trans (step_17 h)
  f_18 := (STEP_main_v23_18 V0).trans (step_18 h)
  n_8 := (STEP_main_v23_8 V0).trans (step_8 h)
  n_9 := (STEP_main_v23_9 V0).trans (step_9 h)
  f_0 := (STEP_main_v23_0 V0).trans h.f_0
  f_1 := (STEP_main_v23_1 V0).trans h.f_1
  f_2 := (STEP_main_v23_2 V0).trans h.f_2
  f_3 := (STEP_main_v23_3 V0).trans h.f_3
  f_4 := (STEP_main_v23_4 V0).trans h.f_4
  f_5 := (STEP_main_v23_5 V0).trans h.f_5
  f_6 := (STEP_main_v23_6 V0).trans h.f_6
  f_7 := (STEP_main_v23_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v25) = Step.R_main_v25 (it c 4096)
      ∧ r.2.mem ((c.tc : Thread nD τ).loc main_v27) = Step.R_main_v27 (it c 4096)
      ∧ r.2.mem ((c.tc : Thread nD τ).loc main_v29) = Step.R_main_v29 (it c 4096)
      ∧ r.2.mem ((c.tc : Thread nD τ).loc main_v31) = Step.R_main_v31 (it c 4096)
      ∧ r.2.mem ((c.tc : Thread nD τ).loc main_v33) = Step.R_main_v33 (it c 4096)
      ∧ r.2.mem ((c.tc : Thread nD τ).loc main_v35) = Step.R_main_v35 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 4096
    ⟨(h c).1.trans (out_main_v25_holds hk), (h c).2.1.trans (out_main_v27_holds hk), (h c).2.2.1.trans (out_main_v29_holds hk), (h c).2.2.2.1.trans (out_main_v31_holds hk), (h c).2.2.2.2.1.trans (out_main_v33_holds hk), (h c).2.2.2.2.2.1.trans (out_main_v35_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.Wkv.Loop

end
-- ==== Proof.Recur.lean ====
/- The gradient of one chunk of the recurrence, in real numbers. Times are natural numbers below `C`; `S t` is the state before
   step `t`, `D t` the gradient of the state before step `t`. The statements write every quantity of the recurrence and of its
   derivative through the chunk's first state, its last gradient and sums over the steps of the chunk. -/
module

public import Mathlib.Analysis.SpecialFunctions.Exp
public import Mathlib.Algebra.BigOperators.Intervals
public import Mathlib.Tactic.LinearCombination
public import Mathlib.Tactic.Ring

@[expose] public section

noncomputable section

namespace Cert.Wkv

open Finset Real

variable {I J : Type} [Fintype I] [Fintype J]

/-- The running sum of the decays' logarithms before step `t`. -/
def run (lw : ℕ → J → ℝ) (t : ℕ) (j : J) : ℝ := ∑ s ∈ range t, lw s j

theorem run_succ (lw : ℕ → J → ℝ) (t : ℕ) (j : J) : run lw (t + 1) j = run lw t j + lw t j := sum_range_succ _ _

/-- What a chunk of the recurrence and of its derivative satisfies. -/
structure Recur (C : ℕ) (r lw k kap a : ℕ → J → ℝ) (v dy sa q : ℕ → I → ℝ) (S D G : ℕ → I → J → ℝ) : Prop where
  sa_eq : ∀ t, t < C → ∀ i, sa t i = ∑ j, S t i j * -kap t j
  S_eq : ∀ t, t < C → ∀ i j, S (t + 1) i j = S t i j * exp (lw t j) + sa t i * (kap t j * a t j) + v t i * k t j
  G_eq : ∀ t, t < C → ∀ i j, G t i j = D (t + 1) i j + dy t i * r t j
  q_eq : ∀ t, t < C → ∀ i, q t i = ∑ j, G t i j * (kap t j * a t j)
  D_eq : ∀ t, t < C → ∀ i j, D t i j = G t i j * exp (lw t j) + q t i * -kap t j

namespace Recur

variable {C : ℕ} {r lw k kap a : ℕ → J → ℝ} {v dy sa q : ℕ → I → ℝ} {S D G : ℕ → I → J → ℝ}

/-- The key with which a step reads the scaled state. -/
def al (lw kap : ℕ → J → ℝ) (t : ℕ) (j : J) : ℝ := -kap t j * exp (run lw t j)
/-- The receptance with which a step reads the scaled state. -/
def rt (lw r : ℕ → J → ℝ) (t : ℕ) (j : J) : ℝ := r t j * exp (run lw (t + 1) j)
/-- The scaled key under which a step puts back what was lost. -/
def be (lw kap a : ℕ → J → ℝ) (t : ℕ) (j : J) : ℝ := kap t j * a t j * exp (-run lw (t + 1) j)
/-- The scaled key under which a step puts its value. -/
def kt (lw k : ℕ → J → ℝ) (t : ℕ) (j : J) : ℝ := k t j * exp (-run lw (t + 1) j)

/-- The scaled state before step `t`. -/
def Sh (lw k kap a : ℕ → J → ℝ) (v sa : ℕ → I → ℝ) (S0 : I → J → ℝ) (t : ℕ) (i : I) (j : J) : ℝ :=
  S0 i j + ∑ s ∈ range t, (sa s i * be lw kap a s j + v s i * kt lw k s j)

/-- The scaled gradient of the state after step `t` and of what step `t` reads of it. -/
def Gh (C : ℕ) (r lw kap : ℕ → J → ℝ) (dy q : ℕ → I → ℝ) (E : I → J → ℝ) (t : ℕ) (i : I) (j : J) : ℝ :=
  E i j + ∑ s ∈ Ico t C, dy s i * rt lw r s j + ∑ s ∈ Ico (t + 1) C, q s i * al lw kap s j

theorem exp_cancel (x : ℝ) : exp x * exp (-x) = 1 := by rw [← exp_add, add_neg_cancel, exp_zero]

theorem S_scaled (h : Recur C r lw k kap a v dy sa q S D G) (t : ℕ) (ht : t ≤ C) (i : I) (j : J) :
    S t i j * exp (-run lw t j) = Sh lw k kap a v sa (S 0) t i j := by
  induction t with
  | zero => simp [run, Sh]
  | succ t ih =>
    have ih := ih (by omega)
    rw [Sh, sum_range_succ, ← add_assoc, ← Sh, ← ih, h.S_eq t (by omega), be, kt, run_succ, neg_add, exp_add]
    linear_combination (S t i j * exp (-run lw t j)) * exp_cancel (lw t j)

theorem S_eq_scaled (h : Recur C r lw k kap a v dy sa q S D G) (t : ℕ) (ht : t ≤ C) (i : I) (j : J) :
    S t i j = Sh lw k kap a v sa (S 0) t i j * exp (run lw t j) := by
  rw [← h.S_scaled t ht]
  linear_combination -(S t i j) * exp_cancel (run lw t j)

theorem D_scaled (h : Recur C r lw k kap a v dy sa q S D G) (t : ℕ) (ht : t ≤ C) (i : I) (j : J) :
    D t i j * exp (run lw t j) = D C i j * exp (run lw C j) + ∑ s ∈ Ico t C, dy s i * rt lw r s j
      + ∑ s ∈ Ico t C, q s i * al lw kap s j := by
  induction ht using Nat.decreasingInduction with
  | self => simp
  | of_succ t ht ih =>
    rw [sum_eq_sum_Ico_succ_bot ht, sum_eq_sum_Ico_succ_bot ht, h.D_eq t ht, h.G_eq t ht, rt, al]
    rw [run_succ, exp_add] at ih ⊢
    linear_combination ih

theorem G_scaled (h : Recur C r lw k kap a v dy sa q S D G) (t : ℕ) (ht : t < C) (i : I) (j : J) :
    G t i j * exp (run lw (t + 1) j) = Gh C r lw kap dy q (fun i j => D C i j * exp (run lw C j)) t i j := by
  rw [Gh, sum_eq_sum_Ico_succ_bot ht, h.G_eq t ht]
  have := h.D_scaled (t + 1) ht i j
  rw [rt]
  linear_combination this

theorem G_eq_scaled (h : Recur C r lw k kap a v dy sa q S D G) (t : ℕ) (ht : t < C) (i : I) (j : J) :
    G t i j = Gh C r lw kap dy q (fun i j => D C i j * exp (run lw C j)) t i j * exp (-run lw (t + 1) j) := by
  rw [← h.G_scaled t ht]
  linear_combination -(G t i j) * exp_cancel (run lw (t + 1) j)

theorem D_zero (h : Recur C r lw k kap a v dy sa q S D G) (i : I) (j : J) :
    D 0 i j = D C i j * exp (run lw C j) + ∑ s ∈ range C, dy s i * rt lw r s j + ∑ s ∈ range C, q s i * al lw kap s j := by
  have := h.D_scaled 0 (Nat.zero_le _) i j
  simpa [run] using this

/-- What is lost at step `t`, of what was lost before. -/
theorem sa_scaled (h : Recur C r lw k kap a v dy sa q S D G) (t : ℕ) (ht : t < C) (i : I) :
    sa t i = ∑ j, Sh lw k kap a v sa (S 0) t i j * al lw kap t j := by
  rw [h.sa_eq t ht]
  refine sum_congr rfl fun j _ => ?_
  rw [h.S_eq_scaled t ht.le, al]
  ring

/-- The gradient of what is lost at step `t`, of the later ones. -/
theorem q_scaled (h : Recur C r lw k kap a v dy sa q S D G) (t : ℕ) (ht : t < C) (i : I) :
    q t i = ∑ j, Gh C r lw kap dy q (fun i j => D C i j * exp (run lw C j)) t i j * be lw kap a t j := by
  rw [h.q_eq t ht]
  refine sum_congr rfl fun j _ => ?_
  rw [h.G_eq_scaled t ht, be]
  ring

theorem dr_scaled (h : Recur C r lw k kap a v dy sa q S D G) (t : ℕ) (ht : t < C) (j : J) :
    ∑ i, S (t + 1) i j * dy t i = (∑ i, Sh lw k kap a v sa (S 0) (t + 1) i j * dy t i) * exp (run lw (t + 1) j) := by
  rw [sum_mul]
  refine sum_congr rfl fun i _ => ?_
  rw [h.S_eq_scaled (t + 1) ht]
  ring

theorem dal_scaled (h : Recur C r lw k kap a v dy sa q S D G) (t : ℕ) (ht : t < C) (j : J) :
    ∑ i, S t i j * q t i = (∑ i, Sh lw k kap a v sa (S 0) t i j * q t i) * exp (run lw t j) := by
  rw [sum_mul]
  refine sum_congr rfl fun i _ => ?_
  rw [h.S_eq_scaled t ht.le]
  ring

theorem dk_scaled (h : Recur C r lw k kap a v dy sa q S D G) (x : ℕ → I → ℝ) (t : ℕ) (ht : t < C) (j : J) :
    ∑ i, G t i j * x t i
      = (∑ i, Gh C r lw kap dy q (fun i j => D C i j * exp (run lw C j)) t i j * x t i) * exp (-run lw (t + 1) j) := by
  rw [sum_mul]
  refine sum_congr rfl fun i _ => ?_
  rw [h.G_eq_scaled t ht]
  ring

theorem dv_scaled (h : Recur C r lw k kap a v dy sa q S D G) (t : ℕ) (ht : t < C) (i : I) :
    ∑ j, G t i j * k t j = ∑ j, Gh C r lw kap dy q (fun i j => D C i j * exp (run lw C j)) t i j * kt lw k t j := by
  refine sum_congr rfl fun j _ => ?_
  rw [h.G_eq_scaled t ht, kt]
  ring

/-- The change of the product of the state with its gradient over step `t`. -/
def dcum (r k kap a : ℕ → J → ℝ) (v dy sa q : ℕ → I → ℝ) (S G : ℕ → I → J → ℝ) (t : ℕ) (j : J) : ℝ :=
  -kap t j * ∑ i, S t i j * q t i + r t j * ∑ i, S (t + 1) i j * dy t i - kap t j * a t j * ∑ i, G t i j * sa t i
    - k t j * ∑ i, G t i j * v t i

theorem pair_step (h : Recur C r lw k kap a v dy sa q S D G) (t : ℕ) (ht : t < C) (j : J) :
    ∑ i, S t i j * D t i j = ∑ i, S (t + 1) i j * D (t + 1) i j + dcum r k kap a v dy sa q S G t j := by
  simp only [dcum, mul_sum, ← sum_add_distrib, ← sum_sub_distrib]
  refine sum_congr rfl fun i _ => ?_
  rw [h.D_eq t ht]
  have hG := h.G_eq t ht i j
  have hS := h.S_eq t ht i j
  linear_combination (S (t + 1) i j) * hG - (G t i j) * hS

/-- The gradient of the decay's logarithm: the product of the state with its gradient before the step, less what the step
    reads of the state. -/
theorem dlw_eq (h : Recur C r lw k kap a v dy sa q S D G) (t : ℕ) (ht : t < C) (j : J) :
    (∑ i, S t i j * G t i j) * exp (lw t j) = ∑ i, S C i j * D C i j + ∑ s ∈ Ico t C, dcum r k kap a v dy sa q S G s j
      - -kap t j * ∑ i, S t i j * q t i := by
  have key : ∀ t, t ≤ C → ∑ i, S t i j * D t i j = ∑ i, S C i j * D C i j + ∑ s ∈ Ico t C, dcum r k kap a v dy sa q S G s j := by
    intro t ht
    induction ht using Nat.decreasingInduction with
    | self => simp
    | of_succ t ht ih =>
      rw [h.pair_step t ht, ih, sum_eq_sum_Ico_succ_bot ht]
      ring
  rw [← key t ht.le, mul_sum, sum_mul, ← sum_sub_distrib]
  refine sum_congr rfl fun i _ => ?_
  rw [h.D_eq t ht]
  ring

end Recur

end Cert.Wkv

end
-- ==== Proof.Chunk.lean ====
/- One chunk of 64 steps of one head, as products of real matrices: the formulas by which the chunked calculation finds the
   gradients, and their agreement with the recurrence step by step. -/
module

public import proofs.«01_k».proof.Proof.Recur
public import Mathlib.Data.Matrix.Mul
public import Mathlib.Algebra.BigOperators.Fin
public import Mathlib.Tactic.NoncommRing

@[expose] public section

noncomputable section

namespace Cert.Wkv

open Finset Real Matrix

/-- The arrays of one chunk of one head, times by coordinates. -/
abbrev Mat := Matrix (Fin 64) (Fin 64) ℝ

/-- The entrywise product. -/
def had {m n : Type} (A B : Matrix m n ℝ) : Matrix m n ℝ := fun i j => A i j * B i j
/-- The entrywise exponential. -/
def mexp {m n : Type} (A : Matrix m n ℝ) : Matrix m n ℝ := fun i j => exp (A i j)

/-- Which steps are not after a step. -/
def incl : Mat := fun t s => if s.val ≤ t.val then 1 else 0
/-- Which steps are before a step. -/
def strict : Mat := fun t s => if s.val < t.val then 1 else 0

/-- Six powers of a matrix applied one after the other, each added to what is there. -/
def neumann (p0 p1 p2 p3 p4 p5 x : Mat) : Mat :=
  let x := x + p0 * x
  let x := x + p1 * x
  let x := x + p2 * x
  let x := x + p3 * x
  let x := x + p4 * x
  x + p5 * x

theorem neumann_step (p y : Mat) : (y - p * y) + p * (y - p * y) = y - (p * p) * y := by
  rw [Matrix.mul_sub, Matrix.mul_assoc]
  abel

theorem pow_zero_above (m : Mat) (hm : ∀ t s : Fin 64, t.val ≤ s.val → m t s = 0) (k : ℕ) (t s : Fin 64) (h : t.val < s.val + k) :
    (m ^ k) t s = 0 := by
  induction k generalizing t s with
  | zero => rw [pow_zero, Matrix.one_apply_ne]; rintro rfl; omega
  | succ k ih =>
    rw [pow_succ, Matrix.mul_apply]
    refine Finset.sum_eq_zero fun u _ => ?_
    by_cases hu : u.val ≤ s.val
    · rw [hm u s hu, mul_zero]
    · rw [ih t u (by omega), zero_mul]

theorem neumann_solves (m x y : Mat) (hm : (m ^ 64 : Mat) = 0) (hy : y = x + m * y) :
    neumann m (m * m) (m * m * (m * m)) (m * m * (m * m) * (m * m * (m * m)))
      (m * m * (m * m) * (m * m * (m * m)) * (m * m * (m * m) * (m * m * (m * m))))
      (m * m * (m * m) * (m * m * (m * m)) * (m * m * (m * m) * (m * m * (m * m)))
        * (m * m * (m * m) * (m * m * (m * m)) * (m * m * (m * m) * (m * m * (m * m))))) x = y := by
  have hx : x = y - m * y := by rw [eq_sub_iff_add_eq]; exact hy.symm
  rw [hx]
  simp only [neumann, neumann_step]
  have e : (m * m * (m * m) * (m * m * (m * m)) * (m * m * (m * m) * (m * m * (m * m)))
        * (m * m * (m * m) * (m * m * (m * m)) * (m * m * (m * m) * (m * m * (m * m))))
        * (m * m * (m * m) * (m * m * (m * m)) * (m * m * (m * m) * (m * m * (m * m)))
        * (m * m * (m * m) * (m * m * (m * m)) * (m * m * (m * m) * (m * m * (m * m)))))) = m ^ 64 := by
    simp only [← sq, ← pow_mul]
    norm_num
  rw [e, hm, Matrix.zero_mul, sub_zero]

/-- What one chunk of one head is given: the six arguments, the gradient of the result, the state before the chunk (value by key)
    and the gradient of the state after it. -/
structure In where
  r : Mat
  lw : Mat
  k : Mat
  v : Mat
  kap : Mat
  a : Mat
  dy : Mat
  S0 : Mat
  dS : Mat

namespace In

variable (x : In)

def cum : Mat := incl * x.lw
def ep : Mat := mexp x.cum
def en : Mat := mexp (-x.cum)
def ex : Mat := mexp (x.cum - x.lw)
def al : Mat := had (-x.kap) x.ex
def rt : Mat := had x.r x.ep
def be : Mat := had (had x.kap x.a) x.en
def kt : Mat := had x.k x.en
def mab : Mat := had (x.al * x.beᵀ) strict
def mak : Mat := had (x.al * x.ktᵀ) strict
def mrb : Mat := had (x.rt * x.beᵀ) incl
def mrk : Mat := had (x.rt * x.ktᵀ) incl
def m2 : Mat := x.mab * x.mab
def m4 : Mat := x.m2 * x.m2
def m8 : Mat := x.m4 * x.m4
def m16 : Mat := x.m8 * x.m8
def m32 : Mat := x.m16 * x.m16
/-- What is lost at every step. -/
def sa : Mat := neumann x.mab x.m2 x.m4 x.m8 x.m16 x.m32 (x.al * x.S0ᵀ + x.mak * x.v)
/-- The scaled state after the chunk. -/
def Send : Mat := x.S0 + (x.saᵀ * x.be + x.vᵀ * x.kt)
/-- The gradient of the scaled state after the chunk. -/
def E : Mat := fun i j => x.dS i j * x.ep 63 j
/-- The gradient of what is lost at every step. -/
def q : Mat := neumann x.mabᵀ x.m2ᵀ x.m4ᵀ x.m8ᵀ x.m16ᵀ x.m32ᵀ (x.be * x.Eᵀ + x.mrbᵀ * x.dy)
def gab : Mat := had (x.q * x.saᵀ) strict
def gak : Mat := had (x.q * x.vᵀ) strict
def grb : Mat := had (x.dy * x.saᵀ) incl
def grk : Mat := had (x.dy * x.vᵀ) incl
def dal : Mat := x.q * x.S0 + (x.gab * x.be + x.gak * x.kt)
def drt : Mat := x.dy * x.S0 + (x.grb * x.be + x.grk * x.kt)
def dbe : Mat := x.sa * x.E + (x.gabᵀ * x.al + x.grbᵀ * x.rt)
def dkt : Mat := x.v * x.E + (x.gakᵀ * x.al + x.grkᵀ * x.rt)
/-- The part of the last step's running sum that the state after the chunk contributes. -/
def tail : Mat := fun t j => if t.val < 63 then 0 else ∑ i, x.Send i j * x.dS i j
def dr : Mat := had x.drt x.ep
def dk : Mat := had x.dkt x.en
def dv : Mat := x.kt * x.Eᵀ + x.mrkᵀ * x.dy + x.makᵀ * x.q
def da : Mat := had x.kap (had x.dbe x.en)
def dkap : Mat := had (had x.dbe x.en) x.a - had x.dal x.ex
def w : Mat := had (had (-x.kap) x.dal) x.ex
def dlw : Mat := -x.w + inclᵀ * (x.w + -had (had x.k x.dkt + had (had x.kap x.a) x.dbe) x.en + had (x.tail + had x.r x.drt) x.ep)
/-- The gradient of the state before the chunk. -/
def dS0 : Mat := x.E + (x.rtᵀ * x.dy + x.alᵀ * x.q)ᵀ

end In

/-- A sum over the steps before a step. -/
theorem sum_range_fin (f : ℕ → ℝ) (t : ℕ) (ht : t ≤ 64) : ∑ s ∈ range t, f s = ∑ s : Fin 64, (if s.val < t then 1 else 0) * f s := by
  rw [Fin.sum_univ_eq_sum_range (fun s => (if s < t then 1 else 0) * f s) 64]
  simp only [ite_mul, one_mul, zero_mul]
  rw [← Finset.sum_filter]
  refine Finset.sum_congr ?_ fun _ _ => rfl
  ext s
  simp only [mem_range, mem_filter]
  omega

/-- A sum over the steps from a step on. -/
theorem sum_Ico_fin (f : ℕ → ℝ) (t : ℕ) : ∑ s ∈ Ico t 64, f s = ∑ s : Fin 64, (if t ≤ s.val then 1 else 0) * f s := by
  rw [Fin.sum_univ_eq_sum_range (fun s => (if t ≤ s then 1 else 0) * f s) 64]
  simp only [ite_mul, one_mul, zero_mul]
  rw [← Finset.sum_filter]
  refine Finset.sum_congr ?_ fun _ _ => rfl
  ext s
  simp only [mem_Ico, mem_range, mem_filter]
  omega

/-- A product with a state written as its first value and a sum over steps. -/
theorem expand {K : Type} [Fintype K] (A c : K → ℝ) (m n P Q : Fin 64 → ℝ) (b d : Fin 64 → K → ℝ) :
    ∑ j, (A j + ∑ s, (m s * (b s j * P s) + n s * (d s j * Q s))) * c j
      = ∑ j, c j * A j + (∑ s, (∑ j, c j * b s j) * m s * P s + ∑ s, (∑ j, c j * d s j) * n s * Q s) := by
  simp only [add_mul, sum_mul, sum_add_distrib]
  rw [sum_comm (f := fun j s => m s * (b s j * P s) * c j), sum_comm (f := fun j s => n s * (d s j * Q s) * c j)]
  refine congrArg₂ _ (sum_congr rfl fun j _ => mul_comm _ _) (congrArg₂ _ ?_ ?_) <;>
    refine sum_congr rfl fun s _ => sum_congr rfl fun j _ => by ring

section Agree

variable {r lw k kap a v dy sa q : ℕ → Fin 64 → ℝ} {S D G : ℕ → Fin 64 → Fin 64 → ℝ}

/-- The chunk's arrays are those of the recurrence. -/
structure Agrees (x : In) (r lw k kap a v dy : ℕ → Fin 64 → ℝ) (S0 D1 : Fin 64 → Fin 64 → ℝ) : Prop where
  r : ∀ (t : Fin 64) j, x.r t j = r t j
  lw : ∀ (t : Fin 64) j, x.lw t j = lw t j
  k : ∀ (t : Fin 64) j, x.k t j = k t j
  kap : ∀ (t : Fin 64) j, x.kap t j = kap t j
  a : ∀ (t : Fin 64) j, x.a t j = a t j
  v : ∀ (t : Fin 64) j, x.v t j = v t j
  dy : ∀ (t : Fin 64) j, x.dy t j = dy t j
  S0 : ∀ i j, x.S0 i j = S0 i j
  dS : ∀ i j, x.dS i j = D1 i j

namespace Agrees

variable {x : In} {S0 D1 : Fin 64 → Fin 64 → ℝ} (g : Agrees x r lw k kap a v dy S0 D1)
include g

theorem cum (t j : Fin 64) : x.cum t j = run lw (t.val + 1) j := by
  rw [run, sum_range_fin _ _ (by omega), In.cum, Matrix.mul_apply]
  refine sum_congr rfl fun s _ => ?_
  rw [g.lw, incl]
  simp only [Nat.lt_succ_iff]

theorem ep (t j : Fin 64) : x.ep t j = exp (run lw (t.val + 1) j) := by rw [In.ep, mexp, g.cum]
theorem en (t j : Fin 64) : x.en t j = exp (-run lw (t.val + 1) j) := by rw [In.en, mexp, Matrix.neg_apply, g.cum]
theorem ex (t j : Fin 64) : x.ex t j = exp (run lw t.val j) := by
  rw [In.ex, mexp, Matrix.sub_apply, g.cum, g.lw, run_succ, add_sub_cancel_right]
theorem al (t j : Fin 64) : x.al t j = Recur.al lw kap t j := by rw [In.al, had, Matrix.neg_apply, g.kap, g.ex, Recur.al]
theorem rt (t j : Fin 64) : x.rt t j = Recur.rt lw r t j := by rw [In.rt, had, g.r, g.ep, Recur.rt]
theorem be (t j : Fin 64) : x.be t j = Recur.be lw kap a t j := by rw [In.be, had, had, g.kap, g.a, g.en, Recur.be]
theorem kt (t j : Fin 64) : x.kt t j = Recur.kt lw k t j := by rw [In.kt, had, g.k, g.en, Recur.kt]
theorem E (i j : Fin 64) : x.E i j = D1 i j * exp (run lw 64 j) := by rw [In.E, g.dS, g.ep]; rfl

end Agrees

variable {x : In} (h : Recur 64 r lw k kap a v dy sa q S D G) (g : Agrees x r lw k kap a v dy (S 0) (D 64))

/-- The scaled state, summed over all steps of the chunk under a mask. -/
theorem Sh_fin (g : Agrees x r lw k kap a v dy (S 0) (D 64)) (sa : ℕ → Fin 64 → ℝ) (t : ℕ) (ht : t ≤ 64) (i j : Fin 64) :
    Recur.Sh lw k kap a v sa (S 0) t i j = x.S0 i j + ∑ s : Fin 64, ((if s.val < t then 1 else 0) * (sa s i * x.be s j)
      + (if s.val < t then 1 else 0) * (x.v s i * x.kt s j)) := by
  rw [Recur.Sh, sum_range_fin _ _ ht, g.S0]
  refine congrArg _ (sum_congr rfl fun s _ => ?_)
  rw [g.be, g.v, g.kt]
  ring

/-- The scaled gradient, summed over all steps of the chunk under a mask. -/
theorem Gh_fin (g : Agrees x r lw k kap a v dy (S 0) (D 64)) (q : ℕ → Fin 64 → ℝ) (t : ℕ) (i j : Fin 64) :
    Recur.Gh 64 r lw kap dy q (fun i j => D 64 i j * exp (run lw 64 j)) t i j
      = x.E i j + ∑ s : Fin 64, ((if t ≤ s.val then 1 else 0) * (x.dy s i * x.rt s j)
      + (if t < s.val then 1 else 0) * (q s i * x.al s j)) := by
  rw [Recur.Gh, sum_Ico_fin, sum_Ico_fin, add_assoc, ← sum_add_distrib, g.E]
  refine congrArg _ (sum_congr rfl fun s _ => ?_)
  rw [g.dy, g.rt, g.al]
  simp only [Nat.succ_le_iff]

include h g

theorem sa_eq (t i : Fin 64) : x.sa t i = sa t i := by
  obtain ⟨y, hy⟩ : ∃ y : Mat, ∀ t i, y t i = sa t i := ⟨fun t i => sa t i, fun _ _ => rfl⟩
  have e := neumann_solves x.mab (x.al * x.S0ᵀ + x.mak * x.v) y ?_ ?_
  · exact (congrFun (congrFun e t) i).trans (hy t i)
  · ext t s
    refine pow_zero_above _ (fun t s hts => ?_) 64 t s (by omega)
    rw [In.mab, had, strict, if_neg (by omega), mul_zero]
  · ext t i
    have := h.sa_scaled t.val t.isLt i
    simp only [Sh_fin g sa t.val t.isLt.le, ← g.al] at this
    rw [hy, this]
    simp only [mul_comm (sa _ _), mul_comm (x.v _ _)]
    refine (expand _ _ _ _ _ _ _ _).trans ?_
    simp only [Matrix.add_apply, Matrix.mul_apply, Matrix.transpose_apply, In.mak, In.mab, had, strict, hy]
    ring

theorem q_eq (t i : Fin 64) : x.q t i = q t i := by
  obtain ⟨y, hy⟩ : ∃ y : Mat, ∀ t i, y t i = q t i := ⟨fun t i => q t i, fun _ _ => rfl⟩
  have e := neumann_solves x.mabᵀ (x.be * x.Eᵀ + x.mrbᵀ * x.dy) y ?_ ?_
  · simp only [← Matrix.transpose_mul] at e
    exact (congrFun (congrFun e t) i).trans (hy t i)
  · rw [← Matrix.transpose_pow]
    ext s t
    refine pow_zero_above _ (fun t s hts => ?_) 64 t s (by omega)
    rw [In.mab, had, strict, if_neg (by omega), mul_zero]
  · ext t i
    have := h.q_scaled t.val t.isLt i
    simp only [Gh_fin g q t.val, ← g.be] at this
    rw [hy, this]
    simp only [mul_comm (q _ _), mul_comm (x.dy _ _)]
    refine (expand _ _ _ _ _ _ _ _).trans ?_
    simp only [Matrix.add_apply, Matrix.mul_apply, Matrix.transpose_apply, In.mrb, In.mab, had, strict, incl, hy, ← add_assoc, mul_comm]

theorem drt_eq (t j : Fin 64) : x.drt t j = ∑ i, Recur.Sh lw k kap a v sa (S 0) (t + 1) i j * dy t i := by
  simp only [Sh_fin g sa (t.val + 1) t.isLt, ← g.dy, ← sa_eq h g]
  refine Eq.trans ?_ (expand _ _ _ _ _ _ _ _).symm
  simp only [In.drt, In.grb, In.grk, Matrix.add_apply, Matrix.mul_apply, Matrix.transpose_apply, had, incl, Nat.lt_succ_iff]

theorem dal_eq (t j : Fin 64) : x.dal t j = ∑ i, Recur.Sh lw k kap a v sa (S 0) t i j * q t i := by
  simp only [Sh_fin g sa t.val t.isLt.le, ← q_eq h g, ← sa_eq h g]
  refine Eq.trans ?_ (expand _ _ _ _ _ _ _ _).symm
  simp only [In.dal, In.gab, In.gak, Matrix.add_apply, Matrix.mul_apply, Matrix.transpose_apply, had, strict]

theorem dkt_eq (t j : Fin 64) :
    x.dkt t j = ∑ i, Recur.Gh 64 r lw kap dy q (fun i j => D 64 i j * exp (run lw 64 j)) t i j * v t i := by
  simp only [Gh_fin g q t.val, ← q_eq h g, ← g.v]
  refine Eq.trans ?_ (expand _ _ _ _ _ _ _ _).symm
  simp only [In.dkt, In.gak, In.grk, Matrix.add_apply, Matrix.mul_apply, Matrix.transpose_apply, had, strict, incl]
  rw [add_comm (∑ s, _ * x.al s j)]
  simp only [mul_comm]

theorem dbe_eq (t j : Fin 64) :
    x.dbe t j = ∑ i, Recur.Gh 64 r lw kap dy q (fun i j => D 64 i j * exp (run lw 64 j)) t i j * sa t i := by
  simp only [Gh_fin g q t.val, ← q_eq h g, ← sa_eq h g]
  refine Eq.trans ?_ (expand _ _ _ _ _ _ _ _).symm
  simp only [In.dbe, In.gab, In.grb, Matrix.add_apply, Matrix.mul_apply, Matrix.transpose_apply, had, strict, incl]
  rw [add_comm (∑ s, _ * x.al s j)]
  simp only [mul_comm]

/-- The gradient of the receptance. -/
theorem dr_eq (t j : Fin 64) : x.dr t j = ∑ i, S (t.val + 1) i j * dy t i := by
  rw [h.dr_scaled t.val t.isLt, In.dr, had, drt_eq h g, g.ep]

/-- The gradient of the key. -/
theorem dk_eq (t j : Fin 64) : x.dk t j = ∑ i, G t i j * v t i := by
  rw [h.dk_scaled v t.val t.isLt, In.dk, had, dkt_eq h g, g.en]

theorem dbe_en (t j : Fin 64) : x.dbe t j * x.en t j = ∑ i, G t i j * sa t i := by
  rw [h.dk_scaled sa t.val t.isLt, dbe_eq h g, g.en]

theorem dal_ex (t j : Fin 64) : x.dal t j * x.ex t j = ∑ i, S t i j * q t i := by
  rw [h.dal_scaled t.val t.isLt, dal_eq h g, g.ex]

/-- The gradient of the share put back. -/
theorem da_eq (t j : Fin 64) : x.da t j = kap t j * ∑ i, G t i j * sa t i := by
  rw [In.da, had, had, dbe_en h g, g.kap]

/-- The gradient of the removal key. -/
theorem dkap_eq (t j : Fin 64) : x.dkap t j = (∑ i, G t i j * sa t i) * a t j - ∑ i, S t i j * q t i := by
  rw [In.dkap, Matrix.sub_apply, had, had, had, dbe_en h g, dal_ex h g, g.a]

/-- The gradient of the value. -/
theorem dv_eq (t i : Fin 64) : x.dv t i = ∑ j, G t i j * k t j := by
  rw [h.dv_scaled t.val t.isLt]
  simp only [Gh_fin g q t.val, ← q_eq h g, ← g.kt]
  simp only [mul_comm (x.q _ _), mul_comm (x.dy _ _)]
  refine Eq.trans ?_ (expand _ _ _ _ _ _ _ _).symm
  simp only [In.dv, In.mak, In.mrk, Matrix.add_apply, Matrix.mul_apply, Matrix.transpose_apply, had, strict, incl, mul_comm, ← add_assoc]

/-- The gradient of the state before the chunk. -/
theorem dS0_eq (i j : Fin 64) : x.dS0 i j = D 0 i j := by
  rw [h.D_zero, sum_range_fin _ _ le_rfl, sum_range_fin _ _ le_rfl, In.dS0]
  simp only [Matrix.add_apply, Matrix.mul_apply, Matrix.transpose_apply, g.E, g.rt, g.al, g.dy, q_eq h g, add_assoc]
  simp only [Fin.is_lt, if_true, one_mul, mul_comm]

theorem Send_eq (i j : Fin 64) : x.Send i j = Recur.Sh lw k kap a v sa (S 0) 64 i j := by
  rw [Sh_fin g sa 64 le_rfl, In.Send]
  simp only [Matrix.add_apply, Matrix.mul_apply, Matrix.transpose_apply, sa_eq h g, sum_add_distrib, Fin.is_lt, if_true, one_mul]

theorem tail_eq (t j : Fin 64) : x.tail t j * x.ep t j = if t.val < 63 then 0 else ∑ i, S 64 i j * D 64 i j := by
  rw [In.tail]
  split
  · rw [zero_mul]
  · next ht =>
    have ht : t.val + 1 = 64 := by omega
    rw [g.ep, ht, sum_mul]
    refine sum_congr rfl fun i _ => ?_
    rw [Send_eq h g, g.dS, h.S_eq_scaled 64 le_rfl]
    ring

/-- The gradient of the decay's logarithm. -/
theorem dlw_eq (t j : Fin 64) : x.dlw t j = (∑ i, S t i j * G t i j) * exp (lw t j) := by
  rw [h.dlw_eq t.val t.isLt, sum_Ico_fin, In.dlw, Matrix.add_apply, Matrix.neg_apply, Matrix.mul_apply]
  have hw : ∀ s j : Fin 64, x.w s j = -kap s j * ∑ i, S s i j * q s i := fun s j => by
    rw [In.w, had, had, mul_assoc, dal_ex h g, Matrix.neg_apply, g.kap]
  have hterm : ∀ s : Fin 64, (x.w + -had (had x.k x.dkt + had (had x.kap x.a) x.dbe) x.en + had (x.tail + had x.r x.drt) x.ep) s j
      = (if s.val < 63 then 0 else ∑ i, S 64 i j * D 64 i j) + Recur.dcum r k kap a v dy sa q S G s j := fun s => by
    have e1 := dk_eq h g s j
    have e2 := dbe_en h g s j
    have e3 := dr_eq h g s j
    have e4 := tail_eq h g s j
    rw [In.dk, had] at e1
    rw [In.dr, had] at e3
    rw [Recur.dcum, ← hw, ← e4, ← e1, ← e2, ← e3]
    simp only [Matrix.add_apply, Matrix.neg_apply, had, g.k, g.kap, g.a, g.r]
    ring
  simp only [hterm, mul_add, sum_add_distrib, Matrix.transpose_apply, incl]
  rw [hw]
  have h63 : ∑ s : Fin 64, (if t.val ≤ s.val then (1:ℝ) else 0) * (if s.val < 63 then 0 else ∑ i, S 64 i j * D 64 i j)
      = ∑ i, S 64 i j * D 64 i j := by
    rw [Finset.sum_eq_single (63 : Fin 64)]
    · have : t.val ≤ (63 : Fin 64).val := by have := t.isLt; change t.val ≤ 63; omega
      rw [if_pos this, if_neg (by decide), one_mul]
    · intro s _ hs
      have : s.val < 63 := by
        have h1 := s.isLt
        have h2 : s.val ≠ 63 := fun h => hs (Fin.ext h)
        omega
      rw [if_pos this, mul_zero]
    · intro h; exact absurd (mem_univ _) h
  rw [h63]
  ring

end Agree

end Cert.Wkv

end
-- ==== Proof.Head.lean ====
/- One head over all the steps: the states before the steps (every chunk of 64 steps from its given start), the gradients of the
   states from the last step to the first, and the gradients of the arguments; and that the chunked formulas find them. -/
module

public import proofs.«01_k».proof.Proof.Chunk

@[expose] public section

noncomputable section

namespace Cert.Wkv

open Finset Real Matrix

/-- What one head is given: the arguments at every step, and the state at the start of every chunk. -/
structure Head where
  r : ℕ → Fin 64 → ℝ
  lw : ℕ → Fin 64 → ℝ
  k : ℕ → Fin 64 → ℝ
  v : ℕ → Fin 64 → ℝ
  kap : ℕ → Fin 64 → ℝ
  a : ℕ → Fin 64 → ℝ
  dy : ℕ → Fin 64 → ℝ
  st : ℕ → Fin 64 → Fin 64 → ℝ

namespace Head

variable (H : Head)

/-- What a state loses at a step. -/
def lost (t : ℕ) (S : Fin 64 → Fin 64 → ℝ) (i : Fin 64) : ℝ := ∑ j, S i j * -H.kap t j
/-- The state after a step. -/
def next (t : ℕ) (S : Fin 64 → Fin 64 → ℝ) (i j : Fin 64) : ℝ :=
  S i j * exp (H.lw t j) + H.lost t S i * (H.kap t j * H.a t j) + H.v t i * H.k t j
/-- The state before a step. -/
def bef : ℕ → Fin 64 → Fin 64 → ℝ
  | 0 => H.st 0
  | t + 1 => if (t + 1) % 64 = 0 then H.st ((t + 1) / 64) else H.next t (bef t)
/-- The gradient of the state after a step, with what the step's own result adds. -/
def with_ (t : ℕ) (D : Fin 64 → Fin 64 → ℝ) (i j : Fin 64) : ℝ := D i j + H.dy t i * H.r t j
/-- The gradient of what is lost at a step. -/
def dlost (t : ℕ) (D : Fin 64 → Fin 64 → ℝ) (i : Fin 64) : ℝ := ∑ j, H.with_ t D i j * (H.kap t j * H.a t j)
/-- The gradient of the state before a step. -/
def prev (t : ℕ) (D : Fin 64 → Fin 64 → ℝ) (i j : Fin 64) : ℝ :=
  H.with_ t D i j * exp (H.lw t j) + H.dlost t D i * -H.kap t j
/-- The gradient of the state after `n` steps back from the last. -/
def back : ℕ → Fin 64 → Fin 64 → ℝ
  | 0 => fun _ _ => 0
  | n + 1 => H.prev (2047 - n) (back n)
/-- The gradient of the state before a step. -/
def D (t : ℕ) : Fin 64 → Fin 64 → ℝ := H.back (2048 - t)

theorem D_step (t : ℕ) (ht : t < 2048) : H.D t = H.prev t (H.D (t + 1)) := by
  unfold D
  rw [show 2048 - t = (2048 - (t + 1)) + 1 by omega, back, show 2047 - (2048 - (t + 1)) = t by omega]

def gr (t : ℕ) (j : Fin 64) : ℝ := ∑ i, H.next t (H.bef t) i j * H.dy t i
def gk (t : ℕ) (j : Fin 64) : ℝ := ∑ i, H.with_ t (H.D (t + 1)) i j * H.v t i
def ga (t : ℕ) (j : Fin 64) : ℝ := H.kap t j * ∑ i, H.with_ t (H.D (t + 1)) i j * H.lost t (H.bef t) i
def gkap (t : ℕ) (j : Fin 64) : ℝ :=
  (∑ i, H.with_ t (H.D (t + 1)) i j * H.lost t (H.bef t) i) * H.a t j - ∑ i, H.bef t i j * H.dlost t (H.D (t + 1)) i
def gv (t : ℕ) (i : Fin 64) : ℝ := ∑ j, H.with_ t (H.D (t + 1)) i j * H.k t j
def glw (t : ℕ) (j : Fin 64) : ℝ := (∑ i, H.bef t i j * H.with_ t (H.D (t + 1)) i j) * exp (H.lw t j)

/-- The states of a chunk, from its start on. -/
def chunkS (c : ℕ) : ℕ → Fin 64 → Fin 64 → ℝ
  | 0 => H.st c
  | s + 1 => H.next (64 * c + s) (chunkS c s)

theorem bef_chunk (c s : ℕ) (hs : s < 64) : H.bef (64 * c + s) = H.chunkS c s := by
  induction s with
  | zero =>
    cases c with
    | zero => rfl
    | succ c =>
      show H.bef (64 * c + 63 + 1) = _
      rw [bef, if_pos (by omega), show (64 * c + 63 + 1) / 64 = c + 1 by omega]
      rfl
  | succ s ih =>
    show H.bef (64 * c + s + 1) = _
    rw [bef, if_neg (by omega), ih (by omega)]
    rfl

/-- A chunk of the head. -/
def chunk (c : ℕ) : In where
  r := fun i j => H.r (64 * c + i.val) j
  lw := fun i j => H.lw (64 * c + i.val) j
  k := fun i j => H.k (64 * c + i.val) j
  v := fun i j => H.v (64 * c + i.val) j
  kap := fun i j => H.kap (64 * c + i.val) j
  a := fun i j => H.a (64 * c + i.val) j
  dy := fun i j => H.dy (64 * c + i.val) j
  S0 := H.st c
  dS := H.D (64 * c + 64)

theorem recur (c : ℕ) (hc : c < 32) : Recur 64 (fun s => H.r (64 * c + s)) (fun s => H.lw (64 * c + s)) (fun s => H.k (64 * c + s))
    (fun s => H.kap (64 * c + s)) (fun s => H.a (64 * c + s)) (fun s => H.v (64 * c + s)) (fun s => H.dy (64 * c + s))
    (fun s => H.lost (64 * c + s) (H.chunkS c s)) (fun s => H.dlost (64 * c + s) (H.D (64 * c + s + 1)))
    (H.chunkS c) (fun s => H.D (64 * c + s)) (fun s => H.with_ (64 * c + s) (H.D (64 * c + s + 1))) where
  sa_eq _ _ _ := rfl
  S_eq _ _ _ _ := rfl
  G_eq _ _ _ _ := rfl
  q_eq _ _ _ := rfl
  D_eq s hs i j := by
    rw [H.D_step _ (by omega)]
    rfl

theorem agrees (c : ℕ) : Agrees (H.chunk c) (fun s => H.r (64 * c + s)) (fun s => H.lw (64 * c + s)) (fun s => H.k (64 * c + s))
    (fun s => H.kap (64 * c + s)) (fun s => H.a (64 * c + s)) (fun s => H.v (64 * c + s)) (fun s => H.dy (64 * c + s))
    (H.chunkS c 0) (H.D (64 * c + 64)) := by
  constructor <;> intros <;> rfl

variable (c : ℕ) (hc : c < 32) (s j : Fin 64)

include hc

theorem chunk_dr : (H.chunk c).dr s j = H.gr (64 * c + s.val) j := by
  rw [dr_eq (H.recur c hc) (H.agrees c)]
  unfold gr
  rw [H.bef_chunk c s.val s.isLt]
  rfl
theorem chunk_dk : (H.chunk c).dk s j = H.gk (64 * c + s.val) j := by
  rw [dk_eq (H.recur c hc) (H.agrees c)]
  rfl
theorem chunk_da : (H.chunk c).da s j = H.ga (64 * c + s.val) j := by
  rw [da_eq (H.recur c hc) (H.agrees c)]
  unfold ga
  rw [H.bef_chunk c s.val s.isLt]
theorem chunk_dkap : (H.chunk c).dkap s j = H.gkap (64 * c + s.val) j := by
  rw [dkap_eq (H.recur c hc) (H.agrees c)]
  unfold gkap
  rw [H.bef_chunk c s.val s.isLt]
theorem chunk_dv : (H.chunk c).dv s j = H.gv (64 * c + s.val) j := by
  rw [dv_eq (H.recur c hc) (H.agrees c)]
  rfl
theorem chunk_dlw : (H.chunk c).dlw s j = H.glw (64 * c + s.val) j := by
  rw [dlw_eq (H.recur c hc) (H.agrees c)]
  unfold glw
  rw [H.bef_chunk c s.val s.isLt]
theorem chunk_dS0 : (H.chunk c).dS0 = H.D (64 * c) := by
  ext i j
  exact dS0_eq (H.recur c hc) (H.agrees c) i j

end Head

end Cert.Wkv

end
-- ==== Proof.Lift.lean ====
/- Arrays of finite numbers: batches of real matrices read as arrays of extended reals, what the operations of the body do to them,
   and the matrices made of blocks. -/
module

public import proofs.«01_k».proof.Proof.Chunk
public import proofs.«01_k».proof.Proof.Gen.KernelIdeal
public import Idealize.ShloMosaic.Lib.Pointwise
public import Idealize.ShloMosaic.Lib.WordCmp

@[expose] public section

set_option maxRecDepth 16384

noncomputable section

namespace Cert.Wkv

open Idealize.ShloMosaic Matrix
open Cert.KernelIdeal

/-- A batch of real matrices as an array. -/
def L (φ : FTy) {B M N : ℕ} (f : Fin B → Matrix (Fin M) (Fin N) ℝ) : FVec Ideal ⟨3, ![B, M, N]⟩ φ :=
  fun i => ((f (i 0) (i 1) (i 2) : ℝ) : EReal)

/-- A real matrix as an array. -/
def L2 (φ : FTy) {M N : ℕ} (f : Matrix (Fin M) (Fin N) ℝ) : FVec Ideal ⟨2, ![M, N]⟩ φ := fun i => ((f (i 0) (i 1) : ℝ) : EReal)

theorem L_ix {φ : FTy} {B M N : ℕ} (f : Fin B → Matrix (Fin M) (Fin N) ℝ) (b : Fin B) (i : Fin M) (j : Fin N) :
    L φ f (ix3 b i j) = ((f b i j : ℝ) : EReal) := rfl
theorem L2_ix {φ : FTy} {M N : ℕ} (f : Matrix (Fin M) (Fin N) ℝ) (i : Fin M) (j : Fin N) :
    L2 φ f (ix2 i j) = ((f i j : ℝ) : EReal) := rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section Elementwise

variable {φ : FTy} {B M N : ℕ} (f g : Fin B → Matrix (Fin M) (Fin N) ℝ)

theorem addf_L : addf (L φ f) (L φ g) = L φ (fun b => f b + g b) := by
  funext j; exact (EReal.coe_add _ _).symm
theorem subf_L : subf (L φ f) (L φ g) = L φ (fun b => f b - g b) := by
  funext j; exact (EReal.coe_sub _ _).symm
theorem mulf_L : mulf (L φ f) (L φ g) = L φ (fun b => had (f b) (g b)) := by
  funext j; exact (EReal.coe_mul _ _).symm
theorem exp_L : Idealize.ShloMosaic.exp (L φ f) = L φ (fun b => mexp (f b)) := by
  funext j; exact Ideal.exp_coe _
theorem truncf_L (h : FTy.bf16.bits < FTy.f32.bits) : truncf .bf16 (L .f32 f) h = L .bf16 f := rfl
theorem extf_L (h : FTy.bf16.bits < FTy.f32.bits) : extf .f32 (L .bf16 f) h = L .f32 f := rfl
theorem broadcast_L : broadcast ⟨3, ![B, M, N]⟩ (Scalar.ofBits .f32 0x00000000#32) = L .f32 (fun _ => 0 : Fin B → Matrix (Fin M) (Fin N) ℝ) := by
  funext j; exact Ideal.ofBits_zero_f32
theorem constant_L : constant ⟨3, ![B, M, N]⟩ .f32 0x00000000#32 = L .f32 (fun _ => 0 : Fin B → Matrix (Fin M) (Fin N) ℝ) := by
  funext j; exact Ideal.ofBits_zero_f32

end Elementwise

/-! ### Matrices made of blocks -/

variable {m n p : ℕ}

/-- Two blocks of 64 rows, one above the other. -/
def vcat (A B : Matrix (Fin 64) (Fin n) ℝ) : Matrix (Fin 128) (Fin n) ℝ :=
  fun i j => if h : i.val < 64 then A ⟨i.val, h⟩ j else B ⟨i.val - 64, by omega⟩ j
/-- Two blocks of 64 columns, side by side. -/
def hcat (A B : Matrix (Fin m) (Fin 64) ℝ) : Matrix (Fin m) (Fin 128) ℝ :=
  fun i j => if h : j.val < 64 then A i ⟨j.val, h⟩ else B i ⟨j.val - 64, by omega⟩
/-- Three blocks of 64 rows. -/
def vcat3 (A B C : Matrix (Fin 64) (Fin n) ℝ) : Matrix (Fin 192) (Fin n) ℝ :=
  fun i j => if h : i.val < 64 then A ⟨i.val, h⟩ j else if h' : i.val - 64 < 64 then B ⟨i.val - 64, h'⟩ j else C ⟨i.val - 64 - 64, by omega⟩ j
/-- Three blocks of 64 columns. -/
def hcat3 (A B C : Matrix (Fin m) (Fin 64) ℝ) : Matrix (Fin m) (Fin 192) ℝ :=
  fun i j => if h : j.val < 64 then A i ⟨j.val, h⟩ else if h' : j.val - 64 < 64 then B i ⟨j.val - 64, h'⟩ else C i ⟨j.val - 64 - 64, by omega⟩
/-- A block of 64 rows from a row on. -/
def rows (o : ℕ) {M : ℕ} (h : o + 64 ≤ M) (A : Matrix (Fin M) (Fin n) ℝ) : Matrix (Fin 64) (Fin n) ℝ := fun i j => A ⟨o + i.val, by omega⟩ j
/-- A block of 64 columns from a column on. -/
def cols (o : ℕ) {N : ℕ} (h : o + 64 ≤ N) (A : Matrix (Fin m) (Fin N) ℝ) : Matrix (Fin m) (Fin 64) ℝ := fun i j => A i ⟨o + j.val, by omega⟩
/-- The last row. -/
def lastRow (A : Mat) : Matrix (Fin 1) (Fin 64) ℝ := fun _ j => A 63 j
/-- One row at every step. -/
def spread (A : Matrix (Fin 1) (Fin 64) ℝ) : Mat := fun _ j => A 0 j
/-- The sums over the rows, at the last step. -/
def sumsLast (A : Mat) : Mat := fun t j => if t.val < 63 then 0 else ∑ i, A i j

theorem sum128 (f : Fin 128 → ℝ) : ∑ i, f i = (∑ i : Fin 64, f ⟨i.val, by omega⟩) + ∑ i : Fin 64, f ⟨64 + i.val, by omega⟩ :=
  Fin.sum_univ_add (a := 64) (b := 64) f

theorem vcat_lo (A B : Matrix (Fin 64) (Fin n) ℝ) (i : Fin 64) (h) (j) : vcat A B ⟨i.val, h⟩ j = A i j := dif_pos i.isLt
theorem vcat_hi (A B : Matrix (Fin 64) (Fin n) ℝ) (i : Fin 64) (h) (j) : vcat A B ⟨64 + i.val, h⟩ j = B i j := by
  refine (dif_neg (by simp)).trans ?_
  congr 1; ext; simp
theorem hcat_lo (A B : Matrix (Fin m) (Fin 64) ℝ) (i) (j : Fin 64) (h) : hcat A B i ⟨j.val, h⟩ = A i j := dif_pos j.isLt
theorem hcat_hi (A B : Matrix (Fin m) (Fin 64) ℝ) (i) (j : Fin 64) (h) : hcat A B i ⟨64 + j.val, h⟩ = B i j := by
  refine (dif_neg (by simp)).trans ?_
  congr 1; ext; simp

theorem hcat_mul_vcat (A B : Matrix (Fin m) (Fin 64) ℝ) (C D : Matrix (Fin 64) (Fin n) ℝ) : hcat A B * vcat C D = A * C + B * D := by
  ext i j
  simp only [Matrix.add_apply, Matrix.mul_apply, sum128, hcat_lo, hcat_hi, vcat_lo, vcat_hi]
theorem vcat_mul (A B : Matrix (Fin 64) (Fin p) ℝ) (C : Matrix (Fin p) (Fin n) ℝ) : vcat A B * C = vcat (A * C) (B * C) := by
  ext i j
  simp only [vcat, Matrix.mul_apply]
  split <;> rfl
theorem mul_hcat (A : Matrix (Fin m) (Fin p) ℝ) (B C : Matrix (Fin p) (Fin 64) ℝ) : A * hcat B C = hcat (A * B) (A * C) := by
  ext i j
  simp only [hcat, Matrix.mul_apply]
  split <;> rfl
theorem vcat_transpose (A B : Matrix (Fin 64) (Fin n) ℝ) : (vcat A B)ᵀ = hcat Aᵀ Bᵀ := by
  ext i j
  simp only [vcat, hcat, Matrix.transpose_apply]
theorem hcat_transpose (A B : Matrix (Fin m) (Fin 64) ℝ) : (hcat A B)ᵀ = vcat Aᵀ Bᵀ := by
  ext i j
  simp only [vcat, hcat, Matrix.transpose_apply]
theorem vcat_hcat (A B C D : Mat) : vcat (hcat A B) (hcat C D) = hcat (vcat A C) (vcat B D) := by
  ext i j
  simp only [vcat, hcat]
  split <;> split <;> rfl
theorem vcat_add (A B C D : Matrix (Fin 64) (Fin n) ℝ) : vcat A B + vcat C D = vcat (A + C) (B + D) := by
  ext i j
  simp only [vcat, Matrix.add_apply]
  split <;> rfl
theorem hcat_add (A B C D : Matrix (Fin m) (Fin 64) ℝ) : hcat A B + hcat C D = hcat (A + C) (B + D) := by
  ext i j
  simp only [hcat, Matrix.add_apply]
  split <;> rfl
theorem vcat_had (A B C D : Matrix (Fin 64) (Fin n) ℝ) : had (vcat A B) (vcat C D) = vcat (had A C) (had B D) := by
  ext i j
  simp only [vcat, had]
  split <;> rfl
theorem hcat_had (A B C D : Matrix (Fin m) (Fin 64) ℝ) : had (hcat A B) (hcat C D) = hcat (had A C) (had B D) := by
  ext i j
  simp only [hcat, had]
  split <;> rfl
theorem mul_hcat3 (A : Matrix (Fin m) (Fin p) ℝ) (B C D : Matrix (Fin p) (Fin 64) ℝ) : A * hcat3 B C D = hcat3 (A * B) (A * C) (A * D) := by
  ext i j
  simp only [hcat3, Matrix.mul_apply]
  split
  · rfl
  · split <;> rfl
theorem vcat3_mul (A B C : Matrix (Fin 64) (Fin p) ℝ) (D : Matrix (Fin p) (Fin n) ℝ) : vcat3 A B C * D = vcat3 (A * D) (B * D) (C * D) := by
  ext i j
  simp only [vcat3, Matrix.mul_apply]
  split
  · rfl
  · split <;> rfl
theorem vcat3_transpose (A B C : Matrix (Fin 64) (Fin n) ℝ) : (vcat3 A B C)ᵀ = hcat3 Aᵀ Bᵀ Cᵀ := by
  ext i j
  simp only [vcat3, hcat3, Matrix.transpose_apply]
theorem hcat3_transpose (A B C : Matrix (Fin m) (Fin 64) ℝ) : (hcat3 A B C)ᵀ = vcat3 Aᵀ Bᵀ Cᵀ := by
  ext i j
  simp only [vcat3, hcat3, Matrix.transpose_apply]

theorem rows_lo (A B : Matrix (Fin 64) (Fin n) ℝ) (h) : rows 0 h (vcat A B) = A := by
  ext i j
  simp [rows, vcat]
theorem rows_hi (A B : Matrix (Fin 64) (Fin n) ℝ) (h) : rows 64 h (vcat A B) = B := by
  ext i j
  simp [rows, vcat]
theorem cols_lo (A B : Matrix (Fin m) (Fin 64) ℝ) (h) : cols 0 h (hcat A B) = A := by
  ext i j
  simp [cols, hcat]
theorem cols_hi (A B : Matrix (Fin m) (Fin 64) ℝ) (h) : cols 64 h (hcat A B) = B := by
  ext i j
  simp [cols, hcat]
theorem rows3_0 (A B C : Matrix (Fin 64) (Fin n) ℝ) (h) : rows 0 h (vcat3 A B C) = A := by
  ext i j
  simp [rows, vcat3]
theorem rows3_1 (A B C : Matrix (Fin 64) (Fin n) ℝ) (h) : rows 64 h (vcat3 A B C) = B := by
  ext i j
  simp [rows, vcat3]
theorem rows3_2 (A B C : Matrix (Fin 64) (Fin n) ℝ) (h) : rows 128 h (vcat3 A B C) = C := by
  ext i j
  have h0 : ¬ 128 + i.val < 64 := by omega
  have h1 : ¬ 128 + i.val - 64 < 64 := by omega
  simp only [rows, vcat3, h0, h1, dite_false]
  congr 1; ext; simp; omega
theorem cols3_0 (A B C : Matrix (Fin m) (Fin 64) ℝ) (h) : cols 0 h (hcat3 A B C) = A := by
  ext i j
  simp [cols, hcat3]
theorem cols3_1 (A B C : Matrix (Fin m) (Fin 64) ℝ) (h) : cols 64 h (hcat3 A B C) = B := by
  ext i j
  simp [cols, hcat3]
theorem cols3_2 (A B C : Matrix (Fin m) (Fin 64) ℝ) (h) : cols 128 h (hcat3 A B C) = C := by
  ext i j
  have h0 : ¬ 128 + j.val < 64 := by omega
  have h1 : ¬ 128 + j.val - 64 < 64 := by omega
  simp only [cols, hcat3, h0, h1, dite_false]
  congr 1; ext; simp; omega

/-! ### What the operations of the body do to batches of matrices -/

theorem nn_64_64_64 {φ : FTy} (f : Fin 32 → Matrix (Fin 64) (Fin 64) ℝ) (g : Fin 32 → Matrix (Fin 64) (Fin 64) ℝ) :
    matmul (φ₁ := φ) (φ₂ := φ) dot_S32x64x64_S32x64x64_S32x64x64_2_1_1_2_0_0 none (L φ f) (L φ g) (L .f32 fun _ => 0) =
      L .f32 (fun b => f b * g b) := by
  funext j
  idx_vars j
  unfold dot_S32x64x64_S32x64x64_S32x64x64_2_1_1_2_0_0
  pointwise [L_ix]
  simp only [Matrix.zero_apply, EReal.coe_zero, zero_add, ← EReal.coe_mul, coe_sum]
  rfl

theorem nn_64_128_64 {φ : FTy} (f : Fin 32 → Matrix (Fin 64) (Fin 128) ℝ) (g : Fin 32 → Matrix (Fin 128) (Fin 64) ℝ) :
    matmul (φ₁ := φ) (φ₂ := φ) dot_S32x64x128_S32x128x64_S32x64x64_2_1_1_2_0_0 none (L φ f) (L φ g) (L .f32 fun _ => 0) =
      L .f32 (fun b => f b * g b) := by
  funext j
  idx_vars j
  unfold dot_S32x64x128_S32x128x64_S32x64x64_2_1_1_2_0_0
  pointwise [L_ix]
  simp only [Matrix.zero_apply, EReal.coe_zero, zero_add, ← EReal.coe_mul, coe_sum]
  rfl

theorem nn_128_64_64 {φ : FTy} (f : Fin 32 → Matrix (Fin 128) (Fin 64) ℝ) (g : Fin 32 → Matrix (Fin 64) (Fin 64) ℝ) :
    matmul (φ₁ := φ) (φ₂ := φ) dot_S32x128x64_S32x64x64_S32x128x64_2_1_1_2_0_0 none (L φ f) (L φ g) (L .f32 fun _ => 0) =
      L .f32 (fun b => f b * g b) := by
  funext j
  idx_vars j
  unfold dot_S32x128x64_S32x64x64_S32x128x64_2_1_1_2_0_0
  pointwise [L_ix]
  simp only [Matrix.zero_apply, EReal.coe_zero, zero_add, ← EReal.coe_mul, coe_sum]
  rfl

theorem nn_128_128_64 {φ : FTy} (f : Fin 32 → Matrix (Fin 128) (Fin 128) ℝ) (g : Fin 32 → Matrix (Fin 128) (Fin 64) ℝ) :
    matmul (φ₁ := φ) (φ₂ := φ) dot_S32x128x128_S32x128x64_S32x128x64_2_1_1_2_0_0 none (L φ f) (L φ g) (L .f32 fun _ => 0) =
      L .f32 (fun b => f b * g b) := by
  funext j
  idx_vars j
  unfold dot_S32x128x128_S32x128x64_S32x128x64_2_1_1_2_0_0
  pointwise [L_ix]
  simp only [Matrix.zero_apply, EReal.coe_zero, zero_add, ← EReal.coe_mul, coe_sum]
  rfl

theorem nt_128_64_128 {φ : FTy} (f : Fin 32 → Matrix (Fin 128) (Fin 64) ℝ) (g : Fin 32 → Matrix (Fin 128) (Fin 64) ℝ) :
    matmul (φ₁ := φ) (φ₂ := φ) dot_S32x128x64_S32x128x64_S32x128x128_2_2_1_1_0_0 none (L φ f) (L φ g) (L .f32 fun _ => 0) =
      L .f32 (fun b => f b * (g b)ᵀ) := by
  funext j
  idx_vars j
  unfold dot_S32x128x64_S32x128x64_S32x128x128_2_2_1_1_0_0
  pointwise [L_ix]
  simp only [Matrix.zero_apply, EReal.coe_zero, zero_add, ← EReal.coe_mul, coe_sum]
  rfl

theorem nt_128_64_64 {φ : FTy} (f : Fin 32 → Matrix (Fin 128) (Fin 64) ℝ) (g : Fin 32 → Matrix (Fin 64) (Fin 64) ℝ) :
    matmul (φ₁ := φ) (φ₂ := φ) dot_S32x128x64_S32x64x64_S32x128x64_2_2_1_1_0_0 none (L φ f) (L φ g) (L .f32 fun _ => 0) =
      L .f32 (fun b => f b * (g b)ᵀ) := by
  funext j
  idx_vars j
  unfold dot_S32x128x64_S32x64x64_S32x128x64_2_2_1_1_0_0
  pointwise [L_ix]
  simp only [Matrix.zero_apply, EReal.coe_zero, zero_add, ← EReal.coe_mul, coe_sum]
  rfl

theorem nt_64_64_192 {φ : FTy} (f : Fin 32 → Matrix (Fin 64) (Fin 64) ℝ) (g : Fin 32 → Matrix (Fin 192) (Fin 64) ℝ) :
    matmul (φ₁ := φ) (φ₂ := φ) dot_S32x64x64_S32x192x64_S32x64x192_2_2_1_1_0_0 none (L φ f) (L φ g) (L .f32 fun _ => 0) =
      L .f32 (fun b => f b * (g b)ᵀ) := by
  funext j
  idx_vars j
  unfold dot_S32x64x64_S32x192x64_S32x64x192_2_2_1_1_0_0
  pointwise [L_ix]
  simp only [Matrix.zero_apply, EReal.coe_zero, zero_add, ← EReal.coe_mul, coe_sum]
  rfl

theorem nt_64_64_64 {φ : FTy} (f : Fin 32 → Matrix (Fin 64) (Fin 64) ℝ) (g : Fin 32 → Matrix (Fin 64) (Fin 64) ℝ) :
    matmul (φ₁ := φ) (φ₂ := φ) dot_S32x64x64_S32x64x64_S32x64x64_2_2_1_1_0_0 none (L φ f) (L φ g) (L .f32 fun _ => 0) =
      L .f32 (fun b => f b * (g b)ᵀ) := by
  funext j
  idx_vars j
  unfold dot_S32x64x64_S32x64x64_S32x64x64_2_2_1_1_0_0
  pointwise [L_ix]
  simp only [Matrix.zero_apply, EReal.coe_zero, zero_add, ← EReal.coe_mul, coe_sum]
  rfl

theorem nt_64_64_128 {φ : FTy} (f : Fin 32 → Matrix (Fin 64) (Fin 64) ℝ) (g : Fin 32 → Matrix (Fin 128) (Fin 64) ℝ) :
    matmul (φ₁ := φ) (φ₂ := φ) dot_S32x64x64_S32x128x64_S32x64x128_2_2_1_1_0_0 none (L φ f) (L φ g) (L .f32 fun _ => 0) =
      L .f32 (fun b => f b * (g b)ᵀ) := by
  funext j
  idx_vars j
  unfold dot_S32x64x64_S32x128x64_S32x64x128_2_2_1_1_0_0
  pointwise [L_ix]
  simp only [Matrix.zero_apply, EReal.coe_zero, zero_add, ← EReal.coe_mul, coe_sum]
  rfl

theorem tn_64_128_64 {φ : FTy} (f : Fin 32 → Matrix (Fin 128) (Fin 64) ℝ) (g : Fin 32 → Matrix (Fin 128) (Fin 64) ℝ) :
    matmul (φ₁ := φ) (φ₂ := φ) dot_S32x128x64_S32x128x64_S32x64x64_1_1_2_2_0_0 none (L φ f) (L φ g) (L .f32 fun _ => 0) =
      L .f32 (fun b => (f b)ᵀ * g b) := by
  funext j
  idx_vars j
  unfold dot_S32x128x64_S32x128x64_S32x64x64_1_1_2_2_0_0
  pointwise [L_ix]
  simp only [Matrix.zero_apply, EReal.coe_zero, zero_add, ← EReal.coe_mul, coe_sum]
  rfl

theorem tn_192_64_64 {φ : FTy} (f : Fin 32 → Matrix (Fin 64) (Fin 192) ℝ) (g : Fin 32 → Matrix (Fin 64) (Fin 64) ℝ) :
    matmul (φ₁ := φ) (φ₂ := φ) dot_S32x64x192_S32x64x64_S32x192x64_1_1_2_2_0_0 none (L φ f) (L φ g) (L .f32 fun _ => 0) =
      L .f32 (fun b => (f b)ᵀ * g b) := by
  funext j
  idx_vars j
  unfold dot_S32x64x192_S32x64x64_S32x192x64_1_1_2_2_0_0
  pointwise [L_ix]
  simp only [Matrix.zero_apply, EReal.coe_zero, zero_add, ← EReal.coe_mul, coe_sum]
  rfl

theorem tn_64_64_64 {φ : FTy} (f : Fin 32 → Matrix (Fin 64) (Fin 64) ℝ) (g : Fin 32 → Matrix (Fin 64) (Fin 64) ℝ) :
    matmul (φ₁ := φ) (φ₂ := φ) dot_S32x64x64_S32x64x64_S32x64x64_1_1_2_2_0_0 none (L φ f) (L φ g) (L .f32 fun _ => 0) =
      L .f32 (fun b => (f b)ᵀ * g b) := by
  funext j
  idx_vars j
  unfold dot_S32x64x64_S32x64x64_S32x64x64_1_1_2_2_0_0
  pointwise [L_ix]
  simp only [Matrix.zero_apply, EReal.coe_zero, zero_add, ← EReal.coe_mul, coe_sum]
  rfl

theorem tn_128_64_64 {φ : FTy} (f : Fin 32 → Matrix (Fin 64) (Fin 128) ℝ) (g : Fin 32 → Matrix (Fin 64) (Fin 64) ℝ) :
    matmul (φ₁ := φ) (φ₂ := φ) dot_S32x64x128_S32x64x64_S32x128x64_1_1_2_2_0_0 none (L φ f) (L φ g) (L .f32 fun _ => 0) =
      L .f32 (fun b => (f b)ᵀ * g b) := by
  funext j
  idx_vars j
  unfold dot_S32x64x128_S32x64x64_S32x128x64_1_1_2_2_0_0
  pointwise [L_ix]
  simp only [Matrix.zero_apply, EReal.coe_zero, zero_add, ← EReal.coe_mul, coe_sum]
  rfl

theorem tn_128_128_64 {φ : FTy} (f : Fin 32 → Matrix (Fin 128) (Fin 128) ℝ) (g : Fin 32 → Matrix (Fin 128) (Fin 64) ℝ) :
    matmul (φ₁ := φ) (φ₂ := φ) dot_S32x128x128_S32x128x64_S32x128x64_1_1_2_2_0_0 none (L φ f) (L φ g) (L .f32 fun _ => 0) =
      L .f32 (fun b => (f b)ᵀ * g b) := by
  funext j
  idx_vars j
  unfold dot_S32x128x128_S32x128x64_S32x128x64_1_1_2_2_0_0
  pointwise [L_ix]
  simp only [Matrix.zero_apply, EReal.coe_zero, zero_add, ← EReal.coe_mul, coe_sum]
  rfl

theorem vcat_64 (f : Fin 32 → Matrix (Fin 64) (Fin 64) ℝ) (g : Fin 32 → Matrix (Fin 64) (Fin 64) ℝ) (h) :
    concatenate S32x128x64 1 [⟨S32x64x64, L .f32 f⟩, ⟨S32x64x64, L .f32 g⟩] h = L .f32 (fun b => vcat (f b) (g b)) := by
  funext j
  idx_vars j
  pointwise [L_ix]
  unfold vcat
  simp only [apply_dite Real.toEReal]

theorem hcat_64 (f : Fin 32 → Matrix (Fin 64) (Fin 64) ℝ) (g : Fin 32 → Matrix (Fin 64) (Fin 64) ℝ) (h) :
    concatenate S32x64x128 2 [⟨S32x64x64, L .f32 f⟩, ⟨S32x64x64, L .f32 g⟩] h = L .f32 (fun b => hcat (f b) (g b)) := by
  funext j
  idx_vars j
  pointwise [L_ix]
  unfold hcat
  simp only [apply_dite Real.toEReal]

theorem hcat_128 (f : Fin 32 → Matrix (Fin 128) (Fin 64) ℝ) (g : Fin 32 → Matrix (Fin 128) (Fin 64) ℝ) (h) :
    concatenate S32x128x128 2 [⟨S32x128x64, L .f32 f⟩, ⟨S32x128x64, L .f32 g⟩] h = L .f32 (fun b => hcat (f b) (g b)) := by
  funext j
  idx_vars j
  pointwise [L_ix]
  unfold hcat
  simp only [apply_dite Real.toEReal]

theorem vcat3_64 (f : Fin 32 → Matrix (Fin 64) (Fin 64) ℝ) (g : Fin 32 → Matrix (Fin 64) (Fin 64) ℝ) (k : Fin 32 → Matrix (Fin 64) (Fin 64) ℝ) (h) :
    concatenate S32x192x64 1 [⟨S32x64x64, L .f32 f⟩, ⟨S32x64x64, L .f32 g⟩, ⟨S32x64x64, L .f32 k⟩] h = L .f32 (fun b => vcat3 (f b) (g b) (k b)) := by
  funext j
  idx_vars j
  pointwise [L_ix]
  unfold vcat3
  simp only [apply_dite Real.toEReal]

theorem hcat3_64 (f : Fin 32 → Matrix (Fin 64) (Fin 64) ℝ) (g : Fin 32 → Matrix (Fin 64) (Fin 64) ℝ) (k : Fin 32 → Matrix (Fin 64) (Fin 64) ℝ) (h) :
    concatenate S32x64x192 2 [⟨S32x64x64, L .f32 f⟩, ⟨S32x64x64, L .f32 g⟩, ⟨S32x64x64, L .f32 k⟩] h = L .f32 (fun b => hcat3 (f b) (g b) (k b)) := by
  funext j
  idx_vars j
  pointwise [L_ix]
  unfold hcat3
  simp only [apply_dite Real.toEReal]

theorem sl_128_64_0 (f : Fin 32 → Matrix (Fin 128) (Fin 64) ℝ) (h) :
    extractStridedSlice S32x64x64 ![0, 0, 0] (L .f32 f) h = L .f32 (fun b => rows 0 (by decide) (f b)) := by
  funext j
  idx_vars j
  pointwise [L_ix]
  simp [L_ix, rows, cols]

theorem sl_128_64_1 (f : Fin 32 → Matrix (Fin 128) (Fin 64) ℝ) (h) :
    extractStridedSlice S32x64x64 ![0, 64, 0] (L .f32 f) h = L .f32 (fun b => rows 64 (by decide) (f b)) := by
  funext j
  idx_vars j
  pointwise [L_ix]
  simp [L_ix, rows, cols]

theorem sl_128_128_00 (f : Fin 32 → Matrix (Fin 128) (Fin 128) ℝ) (h) :
    extractStridedSlice S32x64x64 ![0, 0, 0] (L .f32 f) h = L .f32 (fun b => rows 0 (by decide) (cols 0 (by decide) (f b))) := by
  funext j
  idx_vars j
  pointwise [L_ix]
  simp [L_ix, rows, cols]

theorem sl_128_128_01 (f : Fin 32 → Matrix (Fin 128) (Fin 128) ℝ) (h) :
    extractStridedSlice S32x64x64 ![0, 0, 64] (L .f32 f) h = L .f32 (fun b => rows 0 (by decide) (cols 64 (by decide) (f b))) := by
  funext j
  idx_vars j
  pointwise [L_ix]
  simp [L_ix, rows, cols]

theorem sl_128_128_10 (f : Fin 32 → Matrix (Fin 128) (Fin 128) ℝ) (h) :
    extractStridedSlice S32x64x64 ![0, 64, 0] (L .f32 f) h = L .f32 (fun b => rows 64 (by decide) (cols 0 (by decide) (f b))) := by
  funext j
  idx_vars j
  pointwise [L_ix]
  simp [L_ix, rows, cols]

theorem sl_128_128_11 (f : Fin 32 → Matrix (Fin 128) (Fin 128) ℝ) (h) :
    extractStridedSlice S32x64x64 ![0, 64, 64] (L .f32 f) h = L .f32 (fun b => rows 64 (by decide) (cols 64 (by decide) (f b))) := by
  funext j
  idx_vars j
  pointwise [L_ix]
  simp [L_ix, rows, cols]

theorem sl_64_128_0 (f : Fin 32 → Matrix (Fin 64) (Fin 128) ℝ) (h) :
    extractStridedSlice S32x64x64 ![0, 0, 0] (L .f32 f) h = L .f32 (fun b => cols 0 (by decide) (f b)) := by
  funext j
  idx_vars j
  pointwise [L_ix]
  simp [L_ix, rows, cols]

theorem sl_64_128_1 (f : Fin 32 → Matrix (Fin 64) (Fin 128) ℝ) (h) :
    extractStridedSlice S32x64x64 ![0, 0, 64] (L .f32 f) h = L .f32 (fun b => cols 64 (by decide) (f b)) := by
  funext j
  idx_vars j
  pointwise [L_ix]
  simp [L_ix, rows, cols]

theorem sl_64_192_0 (f : Fin 32 → Matrix (Fin 64) (Fin 192) ℝ) (h) :
    extractStridedSlice S32x64x64 ![0, 0, 0] (L .f32 f) h = L .f32 (fun b => cols 0 (by decide) (f b)) := by
  funext j
  idx_vars j
  pointwise [L_ix]
  simp [L_ix, rows, cols]

theorem sl_192_64_0 (f : Fin 32 → Matrix (Fin 192) (Fin 64) ℝ) (h) :
    extractStridedSlice S32x64x64 ![0, 0, 0] (L .f32 f) h = L .f32 (fun b => rows 0 (by decide) (f b)) := by
  funext j
  idx_vars j
  pointwise [L_ix]
  simp [L_ix, rows, cols]

theorem sl_64_192_1 (f : Fin 32 → Matrix (Fin 64) (Fin 192) ℝ) (h) :
    extractStridedSlice S32x64x64 ![0, 0, 64] (L .f32 f) h = L .f32 (fun b => cols 64 (by decide) (f b)) := by
  funext j
  idx_vars j
  pointwise [L_ix]
  simp [L_ix, rows, cols]

theorem sl_192_64_1 (f : Fin 32 → Matrix (Fin 192) (Fin 64) ℝ) (h) :
    extractStridedSlice S32x64x64 ![0, 64, 0] (L .f32 f) h = L .f32 (fun b => rows 64 (by decide) (f b)) := by
  funext j
  idx_vars j
  pointwise [L_ix]
  simp [L_ix, rows, cols]

theorem sl_64_192_2 (f : Fin 32 → Matrix (Fin 64) (Fin 192) ℝ) (h) :
    extractStridedSlice S32x64x64 ![0, 0, 128] (L .f32 f) h = L .f32 (fun b => cols 128 (by decide) (f b)) := by
  funext j
  idx_vars j
  pointwise [L_ix]
  simp [L_ix, rows, cols]

theorem sl_192_64_2 (f : Fin 32 → Matrix (Fin 192) (Fin 64) ℝ) (h) :
    extractStridedSlice S32x64x64 ![0, 128, 0] (L .f32 f) h = L .f32 (fun b => rows 128 (by decide) (f b)) := by
  funext j
  idx_vars j
  pointwise [L_ix]
  simp [L_ix, rows, cols]

theorem last_L (f : Fin 32 → Mat) (h) : extractStridedSlice S32x1x64 ![0, 63, 0] (L .f32 f) h = L .f32 (fun b => lastRow (f b)) := by
  funext j
  idx_vars j
  pointwise [L_ix]
  fin_vals j1 with hk
  rfl
theorem spread_L (f : Fin 32 → Matrix (Fin 1) (Fin 64) ℝ) (h) : broadcastTo S32x64x64 (L .f32 f) h = L .f32 (fun b => spread (f b)) := by
  funext j
  idx_vars j
  pointwise [L_ix]
  rfl
theorem same_L {φ : FTy} (f : Fin 1 → Mat) (h) : broadcastTo S32x64x64 (L φ f) h = L φ (fun _ => f 0) := by
  funext j
  idx_vars j
  pointwise [L_ix]
theorem same_L_128 (f : Fin 1 → Matrix (Fin 128) (Fin 128) ℝ) (h) : broadcastTo S32x128x128 (L .f32 f) h = L .f32 (fun _ => f 0) := by
  funext j
  idx_vars j
  pointwise [L_ix]
theorem cast_L2 {φ : FTy} (f : Mat) (h) : shapeCast S1x64x64 (L2 φ f) h = L φ (fun _ => f) := by
  funext j
  idx_vars j
  pointwise [L2_ix, L_ix]
theorem cast_L2_128 (f : Matrix (Fin 128) (Fin 128) ℝ) (h) : shapeCast S1x128x128 (L2 .f32 f) h = L .f32 (fun _ => f) := by
  funext j
  idx_vars j
  pointwise [L2_ix, L_ix]
theorem truncf_L2 (f : Mat) (h : FTy.bf16.bits < FTy.f32.bits) : truncf .bf16 (L2 .f32 f) h = L2 .bf16 f := rfl
theorem transpose_L (f : Fin 32 → Mat) (h) : transpose S32x64x64 [0, 2, 1] (L .f32 f) h = L .f32 (fun b => (f b)ᵀ) := by
  funext j
  idx_vars j
  pointwise [L_ix]
  rfl
theorem hcat_L2 (f g : Mat) (h) : concatenate S64x128 1 [⟨S64x64, L2 .f32 f⟩, ⟨S64x64, L2 .f32 g⟩] h = L2 .f32 (hcat f g) := by
  funext j
  idx_vars j
  pointwise [L2_ix]
  unfold hcat
  simp only [apply_dite Real.toEReal]
theorem vcat_L2 (f g : Matrix (Fin 64) (Fin 128) ℝ) (h) : concatenate S128x128 0 [⟨S64x128, L2 .f32 f⟩, ⟨S64x128, L2 .f32 g⟩] h = L2 .f32 (vcat f g) := by
  funext j
  idx_vars j
  pointwise [L2_ix]
  unfold vcat
  simp only [apply_dite Real.toEReal]
theorem incl_L2 (h0 h1 h2) : (sitofp .f32 (extui 32 (cmpi .sle (iota .tc S64x64 32 ([(1 : Fin S64x64.rank)] : List (Fin 2)) h1 : IVec S64x64 32) (iota .tc S64x64 32 ([(0 : Fin S64x64.rank)] : List (Fin 2)) h0) : IVec S64x64 1) h2 : IVec S64x64 32) : FVec Ideal S64x64 .f32) = L2 .f32 incl := by
  funext j
  idx_vars j
  pointwise [L2_ix]
  rw [WordCmp.cmpi_sle_eq, WordCmp.toInt_ofNat_of_lt (by omega), WordCmp.toInt_ofNat_of_lt (by omega)]
  unfold incl
  by_cases h : j1.val ≤ j0.val
  · have h' : (j1.val : Int) ≤ j0.val := by omega
    rw [if_pos h, decide_eq_true h']
    show (((1 : Int) : ℝ) : EReal) = _
    norm_num
  · have h' : ¬ (j1.val : Int) ≤ j0.val := by omega
    rw [if_neg h, decide_eq_false h']
    show (((0 : Int) : ℝ) : EReal) = _
    norm_num
theorem strict_L2 (h0 h1 h2) : (sitofp .f32 (extui 32 (cmpi .slt (iota .tc S64x64 32 ([(1 : Fin S64x64.rank)] : List (Fin 2)) h1 : IVec S64x64 32) (iota .tc S64x64 32 ([(0 : Fin S64x64.rank)] : List (Fin 2)) h0) : IVec S64x64 1) h2 : IVec S64x64 32) : FVec Ideal S64x64 .f32) = L2 .f32 strict := by
  funext j
  idx_vars j
  pointwise [L2_ix]
  rw [WordCmp.cmpi_slt_eq, WordCmp.toInt_ofNat_of_lt (by omega), WordCmp.toInt_ofNat_of_lt (by omega)]
  unfold strict
  by_cases h : j1.val < j0.val
  · have h' : (j1.val : Int) < j0.val := by omega
    rw [if_pos h, decide_eq_true h']
    show (((1 : Int) : ℝ) : EReal) = _
    norm_num
  · have h' : ¬ (j1.val : Int) < j0.val := by omega
    rw [if_neg h, decide_eq_false h']
    show (((0 : Int) : ℝ) : EReal) = _
    norm_num
theorem sums_L (f : Fin 32 → Mat) (h1 h2 h3 h4 h5) : concatenate S32x64x64 1 [⟨S32x63x64, broadcast S32x63x64 (Scalar.ofBits .f32 0x00000000#32)⟩,
      ⟨S32x1x64, shapeCast S32x1x64 (multiReduction .add [1] S32x64 (L .f32 f) 0x00000000#32 h1 h2 h3) h4⟩] h5 = L .f32 (fun b => sumsLast (f b)) := by
  funext j
  idx_vars j
  pointwise [L_ix]
  unfold sumsLast
  split <;> rename_i h
  · rfl
  · exact coe_sum _ _
theorem vcat_of {x0 : FVec Ideal S32x64x64 .f32} {x1 : FVec Ideal S32x64x64 .f32} {f0 : Fin 32 → Matrix (Fin 64) (Fin 64) ℝ} {f1 : Fin 32 → Matrix (Fin 64) (Fin 64) ℝ} (h0 : x0 = L .f32 f0) (h1 : x1 = L .f32 f1) {h} :
    concatenate S32x128x64 1 [⟨S32x64x64, x0⟩, ⟨S32x64x64, x1⟩] h = L .f32 (fun b => vcat (f0 b) (f1 b)) := by
  subst h0 h1
  exact vcat_64 _ _ _
theorem hcat_of {x0 : FVec Ideal S32x64x64 .f32} {x1 : FVec Ideal S32x64x64 .f32} {f0 : Fin 32 → Matrix (Fin 64) (Fin 64) ℝ} {f1 : Fin 32 → Matrix (Fin 64) (Fin 64) ℝ} (h0 : x0 = L .f32 f0) (h1 : x1 = L .f32 f1) {h} :
    concatenate S32x64x128 2 [⟨S32x64x64, x0⟩, ⟨S32x64x64, x1⟩] h = L .f32 (fun b => hcat (f0 b) (f1 b)) := by
  subst h0 h1
  exact hcat_64 _ _ _
theorem hcat_128_of {x0 : FVec Ideal S32x128x64 .f32} {x1 : FVec Ideal S32x128x64 .f32} {f0 : Fin 32 → Matrix (Fin 128) (Fin 64) ℝ} {f1 : Fin 32 → Matrix (Fin 128) (Fin 64) ℝ} (h0 : x0 = L .f32 f0) (h1 : x1 = L .f32 f1) {h} :
    concatenate S32x128x128 2 [⟨S32x128x64, x0⟩, ⟨S32x128x64, x1⟩] h = L .f32 (fun b => hcat (f0 b) (f1 b)) := by
  subst h0 h1
  exact hcat_128 _ _ _
theorem vcat3_of {x0 : FVec Ideal S32x64x64 .f32} {x1 : FVec Ideal S32x64x64 .f32} {x2 : FVec Ideal S32x64x64 .f32} {f0 : Fin 32 → Matrix (Fin 64) (Fin 64) ℝ} {f1 : Fin 32 → Matrix (Fin 64) (Fin 64) ℝ} {f2 : Fin 32 → Matrix (Fin 64) (Fin 64) ℝ} (h0 : x0 = L .f32 f0) (h1 : x1 = L .f32 f1) (h2 : x2 = L .f32 f2) {h} :
    concatenate S32x192x64 1 [⟨S32x64x64, x0⟩, ⟨S32x64x64, x1⟩, ⟨S32x64x64, x2⟩] h = L .f32 (fun b => vcat3 (f0 b) (f1 b) (f2 b)) := by
  subst h0 h1 h2
  exact vcat3_64 _ _ _ _
theorem hcat3_of {x0 : FVec Ideal S32x64x64 .f32} {x1 : FVec Ideal S32x64x64 .f32} {x2 : FVec Ideal S32x64x64 .f32} {f0 : Fin 32 → Matrix (Fin 64) (Fin 64) ℝ} {f1 : Fin 32 → Matrix (Fin 64) (Fin 64) ℝ} {f2 : Fin 32 → Matrix (Fin 64) (Fin 64) ℝ} (h0 : x0 = L .f32 f0) (h1 : x1 = L .f32 f1) (h2 : x2 = L .f32 f2) {h} :
    concatenate S32x64x192 2 [⟨S32x64x64, x0⟩, ⟨S32x64x64, x1⟩, ⟨S32x64x64, x2⟩] h = L .f32 (fun b => hcat3 (f0 b) (f1 b) (f2 b)) := by
  subst h0 h1 h2
  exact hcat3_64 _ _ _ _
theorem sums_of {x : FVec Ideal S32x64x64 .f32} {f : Fin 32 → Mat} (h : x = L .f32 f) {h1 h2 h3 h4 h5} :
    concatenate S32x64x64 1 [⟨S32x63x64, broadcast S32x63x64 (Scalar.ofBits .f32 0x00000000#32)⟩,
      ⟨S32x1x64, shapeCast S32x1x64 (multiReduction .add [1] S32x64 x 0x00000000#32 h1 h2 h3) h4⟩] h5 = L .f32 (fun b => sumsLast (f b)) := by
  subst h
  exact sums_L f h1 h2 h3 h4 h5
theorem hcat_L2_of {x y : FVec Ideal S64x64 .f32} {f g : Mat} (hx : x = L2 .f32 f) (hy : y = L2 .f32 g) {h} :
    concatenate S64x128 1 [⟨S64x64, x⟩, ⟨S64x64, y⟩] h = L2 .f32 (hcat f g) := by
  subst hx hy
  exact hcat_L2 _ _ _
theorem vcat_L2_of {x y : FVec Ideal S64x128 .f32} {f g : Matrix (Fin 64) (Fin 128) ℝ} (hx : x = L2 .f32 f) (hy : y = L2 .f32 g) {h} :
    concatenate S128x128 0 [⟨S64x128, x⟩, ⟨S64x128, y⟩] h = L2 .f32 (vcat f g) := by
  subst hx hy
  exact vcat_L2 _ _ _

end Cert.Wkv

end
-- ==== Proof.Arrays.lean ====
/- The arrays of the call and its heads: the arguments of finite numbers read as the real arrays of every head, and the real arrays
   of every head laid out as a result. -/
module

public import proofs.«01_k».proof.Proof.Head
public import proofs.«01_k».proof.Proof.Lift

@[expose] public section

noncomputable section

namespace Cert.Wkv

open Idealize.ShloMosaic
open Cert.KernelIdeal

/-- Every entry of an array is a finite number. -/
def Fini {s : Shape} (x : FVec Ideal s .f32) : Prop := ∀ i, ((EReal.toReal (x i) : ℝ) : EReal) = x i

/-- One head of an array of the sequences' steps. -/
def at3 (x : FVec Ideal S4x2048x512 .f32) (b : Fin 4) (h : Fin 8) (t : ℕ) (j : Fin 64) : ℝ :=
  if ht : t < 2048 then EReal.toReal (x (ix3 b ⟨t, ht⟩ ⟨h.val * 64 + j.val, by omega⟩)) else 0

/-- One head of the states at the chunks' starts. -/
def at5 (x : FVec Ideal S4x32x8x64x64 .f32) (b : Fin 4) (h : Fin 8) (c : ℕ) (i j : Fin 64) : ℝ :=
  if hc : c < 32 then EReal.toReal (x (ix5 b ⟨c, hc⟩ h i j)) else 0

theorem at3_coe {x : FVec Ideal S4x2048x512 .f32} (hx : Fini x) (b : Fin 4) (h : Fin 8) (t : Fin 2048) (j : Fin 64) :
    ((at3 x b h t.val j : ℝ) : EReal) = x (ix3 b t ⟨h.val * 64 + j.val, by omega⟩) := by
  unfold at3
  rw [dif_pos t.isLt]
  exact hx _

theorem at5_coe {x : FVec Ideal S4x32x8x64x64 .f32} (hx : Fini x) (b : Fin 4) (h : Fin 8) (c : Fin 32) (i j : Fin 64) :
    ((at5 x b h c.val i j : ℝ) : EReal) = x (ix5 b c h i j) := by
  unfold at5
  rw [dif_pos c.isLt]
  exact hx _

/-- The arguments of the call. -/
structure Args where
  x0 : FVec Ideal S4x2048x512 .f32
  x1 : FVec Ideal S4x2048x512 .f32
  x2 : FVec Ideal S4x2048x512 .f32
  x3 : FVec Ideal S4x2048x512 .f32
  x4 : FVec Ideal S4x2048x512 .f32
  x5 : FVec Ideal S4x2048x512 .f32
  x6 : FVec Ideal S4x32x8x64x64 .f32
  x7 : FVec Ideal S4x2048x512 .f32

namespace Args

/-- One head of the arguments. -/
def head (x : Args) (b : Fin 4) (h : Fin 8) : Head where
  r := at3 x.x0 b h
  lw := at3 x.x1 b h
  k := at3 x.x2 b h
  v := at3 x.x3 b h
  kap := at3 x.x4 b h
  a := at3 x.x5 b h
  dy := at3 x.x7 b h
  st := at5 x.x6 b h

/-- The arguments are finite numbers. -/
structure Finite (x : Args) : Prop where
  f0 : Fini x.x0
  f1 : Fini x.x1
  f2 : Fini x.x2
  f3 : Fini x.x3
  f4 : Fini x.x4
  f5 : Fini x.x5
  f6 : Fini x.x6
  f7 : Fini x.x7

end Args

/-- The real arrays of every head, laid out as a result. -/
def lay (f : Fin 4 → Fin 8 → ℕ → Fin 64 → ℝ) : FVec Ideal S4x2048x512 .f32 := fun y =>
  ((f (y 0) ⟨(y 2).val / 64, by have := (y 2).isLt; simp at *; omega⟩ (y 1).val ⟨(y 2).val % 64, by omega⟩ : ℝ) : EReal)

end Cert.Wkv

end
-- ==== Proof.KernelBlock.lean ====
/- The operations of the gradient's body on batches of 32 heads of finite numbers: one lemma for each named value. -/
module

public import proofs.«01_k».proof.Proof.Lift
public import proofs.«01_k».proof.Proof.Gen.KernelIdeal.Skeleton

@[expose] public section

set_option maxRecDepth 16384

noncomputable section

namespace Cert.Wkv

open Idealize.ShloMosaic Matrix
open Cert.KernelIdeal Cert.KernelIdeal.Gen

variable (X : Fin 32 → In)

theorem p71 :
    k0_pay71 (F := Ideal)  = (L2 .f32 incl) := by
  simp only [k0_pay71, incl_L2]
  try rfl

theorem p72 :
    k0_pay72 (F := Ideal)  = (L2 .f32 strict) := by
  simp only [k0_pay72, strict_L2]
  try rfl

theorem p73 :
    k0_pay73 (F := Ideal) (L .f32 fun b => (X b).lw) = (L .f32 fun b => (X b).cum) := by
  simp only [k0_pay73, incl_L2, truncf_L2, cast_L2, same_L, truncf_L, constant_L, nn_64_64_64, extf_L, subf_L, sub_self, Matrix.mul_zero, addf_L, add_zero]
  try rfl

theorem p74 :
    k0_pay74 (F := Ideal) (L .f32 fun b => (X b).lw) = (L .f32 fun b => (X b).ep) := by
  simp only [k0_pay74, p73 X, exp_L]
  try rfl

theorem p75 :
    k0_pay75 (F := Ideal) (L .f32 fun b => (X b).lw) = (L .f32 fun b => -(X b).cum) := by
  simp only [k0_pay75, broadcast_L, p73 X, subf_L, zero_sub]
  try rfl

theorem p76 :
    k0_pay76 (F := Ideal) (L .f32 fun b => -(X b).cum) = (L .f32 fun b => (X b).en) := by
  simp only [k0_pay76, exp_L]
  try rfl

theorem p77 :
    k0_pay77 (F := Ideal) (L .f32 fun b => (X b).kap) = (L .f32 fun b => -(X b).kap) := by
  simp only [k0_pay77, broadcast_L, subf_L, zero_sub]
  try rfl

theorem p78 :
    k0_pay78 (F := Ideal) (L .f32 fun b => (X b).lw) (L .f32 fun b => (X b).cum) = (L .f32 fun b => (X b).ex) := by
  simp only [k0_pay78, subf_L, exp_L]
  try rfl

theorem p79 :
    k0_pay79 (F := Ideal) (L .f32 fun b => (X b).lw) (L .f32 fun b => (X b).kap) (L .f32 fun b => (X b).cum) = (L .f32 fun b => (X b).al) := by
  simp only [k0_pay79, p77 X, p78 X, mulf_L]
  try rfl

theorem p80 :
    k0_pay80 (F := Ideal) (L .f32 fun b => (X b).kap) (L .f32 fun b => (X b).a) = (L .f32 fun b => had (X b).kap (X b).a) := by
  simp only [k0_pay80, mulf_L]
  try rfl

theorem p81 :
    k0_pay81 (F := Ideal) (L .f32 fun b => (X b).r) (L .f32 fun b => (X b).ep) = (L .f32 fun b => (X b).rt) := by
  simp only [k0_pay81, mulf_L]
  try rfl

theorem p82 :
    k0_pay82 (F := Ideal) (L .f32 fun b => (X b).k) (L .f32 fun b => (X b).kap) (L .f32 fun b => (X b).a) (L .f32 fun b => -(X b).cum) = (L .f32 fun b => vcat (X b).be (X b).kt) := by
  unfold k0_pay82
  dsimp only
  refine vcat_of ?_ ?_ <;>
    (try simp only [p76 X, p80 X, addf_L, subf_L, mulf_L, exp_L, truncf_L, extf_L, broadcast_L, constant_L, hcat_mul_vcat, vcat_mul, mul_hcat, vcat_transpose, hcat_transpose, vcat_hcat, vcat_add, hcat_add, vcat_had, hcat_had, mul_hcat3, vcat3_mul, vcat3_transpose, hcat3_transpose, rows_lo, rows_hi, cols_lo, cols_hi, rows3_0, rows3_1, rows3_2, cols3_0, cols3_1, cols3_2, nn_64_64_64, nn_64_128_64, nn_128_64_64, nn_128_128_64, nt_128_64_128, nt_128_64_64, nt_64_64_192, nt_64_64_64, nt_64_64_128, tn_64_128_64, tn_192_64_64, tn_64_64_64, tn_128_64_64, tn_128_128_64, vcat_64, hcat_64, hcat_128, vcat3_64, hcat3_64, sl_128_64_0, sl_128_64_1, sl_128_128_00, sl_128_128_01, sl_128_128_10, sl_128_128_11, sl_64_128_0, sl_64_128_1, sl_64_192_0, sl_192_64_0, sl_64_192_1, sl_192_64_1, sl_64_192_2, sl_192_64_2, last_L, spread_L, same_L, same_L_128, cast_L2, cast_L2_128, truncf_L2, transpose_L, hcat_L2, vcat_L2, incl_L2, strict_L2, sums_L, sub_self, zero_sub, add_zero, zero_add, Matrix.mul_zero, Matrix.zero_mul, Matrix.transpose_zero, Matrix.transpose_transpose]) <;> try rfl

theorem p83 :
    k0_pay83 (F := Ideal) (L .f32 fun b => (X b).r) (L .f32 fun b => (X b).lw) (L .f32 fun b => (X b).kap) (L .f32 fun b => (X b).cum) (L .f32 fun b => (X b).ep) = (L .f32 fun b => vcat (X b).al (X b).rt) := by
  unfold k0_pay83
  dsimp only
  refine vcat_of ?_ ?_ <;>
    (try simp only [p79 X, p81 X, addf_L, subf_L, mulf_L, exp_L, truncf_L, extf_L, broadcast_L, constant_L, hcat_mul_vcat, vcat_mul, mul_hcat, vcat_transpose, hcat_transpose, vcat_hcat, vcat_add, hcat_add, vcat_had, hcat_had, mul_hcat3, vcat3_mul, vcat3_transpose, hcat3_transpose, rows_lo, rows_hi, cols_lo, cols_hi, rows3_0, rows3_1, rows3_2, cols3_0, cols3_1, cols3_2, nn_64_64_64, nn_64_128_64, nn_128_64_64, nn_128_128_64, nt_128_64_128, nt_128_64_64, nt_64_64_192, nt_64_64_64, nt_64_64_128, tn_64_128_64, tn_192_64_64, tn_64_64_64, tn_128_64_64, tn_128_128_64, vcat_64, hcat_64, hcat_128, vcat3_64, hcat3_64, sl_128_64_0, sl_128_64_1, sl_128_128_00, sl_128_128_01, sl_128_128_10, sl_128_128_11, sl_64_128_0, sl_64_128_1, sl_64_192_0, sl_192_64_0, sl_64_192_1, sl_192_64_1, sl_64_192_2, sl_192_64_2, last_L, spread_L, same_L, same_L_128, cast_L2, cast_L2_128, truncf_L2, transpose_L, hcat_L2, vcat_L2, incl_L2, strict_L2, sums_L, sub_self, zero_sub, add_zero, zero_add, Matrix.mul_zero, Matrix.zero_mul, Matrix.transpose_zero, Matrix.transpose_transpose]) <;> try rfl

theorem p84 :
    k0_pay84 (F := Ideal) (L2 .f32 incl) (L2 .f32 strict) = (L .f32 fun _ : Fin 1 => hcat (vcat strict incl) (vcat strict incl)) := by
  unfold k0_pay84
  dsimp only
  refine (congrArg (fun x => shapeCast S1x128x128 x _) (vcat_L2_of (hcat_L2_of rfl rfl) (hcat_L2_of rfl rfl))).trans ?_
  simp only [cast_L2_128, vcat_hcat]

theorem p85 :
    k0_pay85 (F := Ideal) (L .f32 fun b => (X b).r) (L .f32 fun b => (X b).lw) (L .f32 fun b => (X b).k) (L .f32 fun b => (X b).kap) (L .f32 fun b => (X b).a) (L2 .f32 incl) (L2 .f32 strict) (L .f32 fun b => (X b).cum) (L .f32 fun b => (X b).ep) (L .f32 fun b => -(X b).cum) = (L .f32 fun b => hcat (vcat (X b).mab (X b).mrb) (vcat (X b).mak (X b).mrk)) := by
  simp only [k0_pay85, p83 X, truncf_L, p82 X, constant_L, nt_128_64_128, vcat_transpose, mul_hcat, vcat_mul, extf_L, subf_L, sub_self, transpose_zero, Matrix.mul_zero, addf_L, add_zero, Matrix.zero_mul, p84, same_L_128, mulf_L, hcat_had, vcat_had]
  try rfl

theorem p86 :
    k0_pay86 (F := Ideal) (L .f32 fun b => (X b).r) (L .f32 fun b => (X b).lw) (L .f32 fun b => (X b).k) (L .f32 fun b => (X b).kap) (L .f32 fun b => (X b).a) (L2 .f32 incl) (L2 .f32 strict) (L .f32 fun b => (X b).cum) (L .f32 fun b => (X b).ep) (L .f32 fun b => -(X b).cum) = (L .f32 fun b => (X b).mab) := by
  simp only [k0_pay86, p85 X, sl_128_128_00, cols_lo, rows_lo]
  try rfl

theorem p87 :
    k0_pay87 (F := Ideal) (L .f32 fun b => (X b).r) (L .f32 fun b => (X b).lw) (L .f32 fun b => (X b).k) (L .f32 fun b => (X b).kap) (L .f32 fun b => (X b).a) (L2 .f32 incl) (L2 .f32 strict) (L .f32 fun b => (X b).cum) (L .f32 fun b => (X b).ep) (L .f32 fun b => -(X b).cum) = (L .f32 fun b => (X b).mrb) := by
  simp only [k0_pay87, p85 X, sl_128_128_10, cols_lo, rows_hi]
  try rfl

theorem p88 :
    k0_pay88 (F := Ideal) (L .f32 fun b => (X b).r) (L .f32 fun b => (X b).lw) (L .f32 fun b => (X b).k) (L .f32 fun b => (X b).kap) (L .f32 fun b => (X b).a) (L2 .f32 incl) (L2 .f32 strict) (L .f32 fun b => (X b).cum) (L .f32 fun b => (X b).ep) (L .f32 fun b => -(X b).cum) = (L .f32 fun b => (X b).mrk) := by
  simp only [k0_pay88, p85 X, sl_128_128_11, cols_hi, rows_hi]
  try rfl

theorem p89 :
    k0_pay89 (F := Ideal) (L .f32 fun b => (X b).S0) = (L .f32 fun b => (X b).S0ᵀ) := by
  simp only [k0_pay89]
  try rfl

theorem p90 :
    k0_pay90 (F := Ideal) (L .f32 fun b => (X b).r) (L .f32 fun b => (X b).lw) (L .f32 fun b => (X b).k) (L .f32 fun b => (X b).kap) (L .f32 fun b => (X b).a) (L2 .f32 incl) (L2 .f32 strict) (L .f32 fun b => (X b).cum) (L .f32 fun b => (X b).ep) (L .f32 fun b => -(X b).cum) = (L .f32 fun b => hcat (X b).al (X b).mak) := by
  unfold k0_pay90
  dsimp only
  refine hcat_of ?_ ?_ <;>
    (try simp only [p79 X, p85 X, addf_L, subf_L, mulf_L, exp_L, truncf_L, extf_L, broadcast_L, constant_L, hcat_mul_vcat, vcat_mul, mul_hcat, vcat_transpose, hcat_transpose, vcat_hcat, vcat_add, hcat_add, vcat_had, hcat_had, mul_hcat3, vcat3_mul, vcat3_transpose, hcat3_transpose, rows_lo, rows_hi, cols_lo, cols_hi, rows3_0, rows3_1, rows3_2, cols3_0, cols3_1, cols3_2, nn_64_64_64, nn_64_128_64, nn_128_64_64, nn_128_128_64, nt_128_64_128, nt_128_64_64, nt_64_64_192, nt_64_64_64, nt_64_64_128, tn_64_128_64, tn_192_64_64, tn_64_64_64, tn_128_64_64, tn_128_128_64, vcat_64, hcat_64, hcat_128, vcat3_64, hcat3_64, sl_128_64_0, sl_128_64_1, sl_128_128_00, sl_128_128_01, sl_128_128_10, sl_128_128_11, sl_64_128_0, sl_64_128_1, sl_64_192_0, sl_192_64_0, sl_64_192_1, sl_192_64_1, sl_64_192_2, sl_192_64_2, last_L, spread_L, same_L, same_L_128, cast_L2, cast_L2_128, truncf_L2, transpose_L, hcat_L2, vcat_L2, incl_L2, strict_L2, sums_L, sub_self, zero_sub, add_zero, zero_add, Matrix.mul_zero, Matrix.zero_mul, Matrix.transpose_zero, Matrix.transpose_transpose]) <;> try rfl

theorem p91 :
    k0_pay91 (F := Ideal) (L .f32 fun b => (X b).v) (L .f32 fun b => (X b).S0) = (L .f32 fun b => vcat (X b).S0ᵀ (X b).v) := by
  unfold k0_pay91
  dsimp only
  refine vcat_of ?_ ?_ <;>
    (try simp only [p89 X, addf_L, subf_L, mulf_L, exp_L, truncf_L, extf_L, broadcast_L, constant_L, hcat_mul_vcat, vcat_mul, mul_hcat, vcat_transpose, hcat_transpose, vcat_hcat, vcat_add, hcat_add, vcat_had, hcat_had, mul_hcat3, vcat3_mul, vcat3_transpose, hcat3_transpose, rows_lo, rows_hi, cols_lo, cols_hi, rows3_0, rows3_1, rows3_2, cols3_0, cols3_1, cols3_2, nn_64_64_64, nn_64_128_64, nn_128_64_64, nn_128_128_64, nt_128_64_128, nt_128_64_64, nt_64_64_192, nt_64_64_64, nt_64_64_128, tn_64_128_64, tn_192_64_64, tn_64_64_64, tn_128_64_64, tn_128_128_64, vcat_64, hcat_64, hcat_128, vcat3_64, hcat3_64, sl_128_64_0, sl_128_64_1, sl_128_128_00, sl_128_128_01, sl_128_128_10, sl_128_128_11, sl_64_128_0, sl_64_128_1, sl_64_192_0, sl_192_64_0, sl_64_192_1, sl_192_64_1, sl_64_192_2, sl_192_64_2, last_L, spread_L, same_L, same_L_128, cast_L2, cast_L2_128, truncf_L2, transpose_L, hcat_L2, vcat_L2, incl_L2, strict_L2, sums_L, sub_self, zero_sub, add_zero, zero_add, Matrix.mul_zero, Matrix.zero_mul, Matrix.transpose_zero, Matrix.transpose_transpose]) <;> try rfl

theorem p92 :
    k0_pay92 (F := Ideal) (L .f32 fun b => (X b).r) (L .f32 fun b => (X b).lw) (L .f32 fun b => (X b).k) (L .f32 fun b => (X b).v) (L .f32 fun b => (X b).kap) (L .f32 fun b => (X b).a) (L .f32 fun b => (X b).S0) (L2 .f32 incl) (L2 .f32 strict) (L .f32 fun b => (X b).cum) (L .f32 fun b => (X b).ep) (L .f32 fun b => -(X b).cum) = (L .f32 fun b => (X b).al * (X b).S0ᵀ + (X b).mak * (X b).v) := by
  simp only [k0_pay92, p90 X, truncf_L, p91 X, constant_L, nn_64_128_64, hcat_mul_vcat, extf_L, subf_L, sub_self, Matrix.mul_zero, addf_L, add_zero, Matrix.zero_mul]
  try rfl

theorem p93 :
    k0_pay93 (F := Ideal) (L .f32 fun b => (X b).r) (L .f32 fun b => (X b).lw) (L .f32 fun b => (X b).k) (L .f32 fun b => (X b).kap) (L .f32 fun b => (X b).a) (L2 .f32 incl) (L2 .f32 strict) (L .f32 fun b => (X b).cum) (L .f32 fun b => (X b).ep) (L .f32 fun b => -(X b).cum) = (L .bf16 fun b => (X b).mab) := by
  simp only [k0_pay93, p86 X, truncf_L]
  try rfl

theorem p94 :
    k0_pay94 (F := Ideal) (L .f32 fun b => (X b).r) (L .f32 fun b => (X b).lw) (L .f32 fun b => (X b).k) (L .f32 fun b => (X b).kap) (L .f32 fun b => (X b).a) (L2 .f32 incl) (L2 .f32 strict) (L .f32 fun b => (X b).cum) (L .f32 fun b => (X b).ep) (L .f32 fun b => -(X b).cum) = (L .bf16 fun b => (X b).mab) := by
  simp only [k0_pay94, p86 X, truncf_L]
  try rfl

theorem p95 :
    k0_pay95 (F := Ideal) (L .bf16 fun b => (X b).mab) (L .bf16 fun b => (X b).mab) = (L .f32 fun b => (X b).m2) := by
  simp only [k0_pay95, constant_L, nn_64_64_64]
  try rfl

theorem p96 :
    k0_pay96 (F := Ideal) (L .bf16 fun b => (X b).mab) (L .bf16 fun b => (X b).mab) = (L .f32 fun b => (X b).m4) := by
  simp only [k0_pay96, p95 X, truncf_L, constant_L, nn_64_64_64]
  try rfl

theorem p97 :
    k0_pay97 (F := Ideal) (L .bf16 fun b => (X b).mab) (L .bf16 fun b => (X b).mab) = (L .f32 fun b => (X b).m8) := by
  simp only [k0_pay97, p96 X, truncf_L, constant_L, nn_64_64_64]
  try rfl

theorem p98 :
    k0_pay98 (F := Ideal) (L .bf16 fun b => (X b).mab) (L .bf16 fun b => (X b).mab) = (L .f32 fun b => (X b).m16) := by
  simp only [k0_pay98, p97 X, truncf_L, constant_L, nn_64_64_64]
  try rfl

theorem p99 :
    k0_pay99 (F := Ideal) (L .bf16 fun b => (X b).mab) (L .bf16 fun b => (X b).mab) = (L .f32 fun b => (X b).m32) := by
  simp only [k0_pay99, p98 X, truncf_L, constant_L, nn_64_64_64]
  try rfl

theorem p100 :
    k0_pay100 (F := Ideal) (L .f32 fun b => (X b).mab) (L .f32 fun b => (X b).al * (X b).S0ᵀ + (X b).mak * (X b).v) (L .bf16 fun b => (X b).mab) (L .bf16 fun b => (X b).mab) = (L .f32 fun b => (X b).sa) := by
  simp only [k0_pay100, truncf_L, constant_L, nn_64_64_64, addf_L, p95 X, p96 X, p97 X, p98 X, p99 X]
  try rfl

theorem p101 :
    k0_pay101 (F := Ideal) (L .f32 fun b => (X b).rt) (L .f32 fun b => (X b).mrb) (L .f32 fun b => (X b).mrk) = (L .f32 fun b => hcat3 (X b).rt (X b).mrb (X b).mrk) := by
  unfold k0_pay101
  dsimp only
  refine hcat3_of ?_ ?_ ?_ <;>
    (try simp only [addf_L, subf_L, mulf_L, exp_L, truncf_L, extf_L, broadcast_L, constant_L, hcat_mul_vcat, vcat_mul, mul_hcat, vcat_transpose, hcat_transpose, vcat_hcat, vcat_add, hcat_add, vcat_had, hcat_had, mul_hcat3, vcat3_mul, vcat3_transpose, hcat3_transpose, rows_lo, rows_hi, cols_lo, cols_hi, rows3_0, rows3_1, rows3_2, cols3_0, cols3_1, cols3_2, nn_64_64_64, nn_64_128_64, nn_128_64_64, nn_128_128_64, nt_128_64_128, nt_128_64_64, nt_64_64_192, nt_64_64_64, nt_64_64_128, tn_64_128_64, tn_192_64_64, tn_64_64_64, tn_128_64_64, tn_128_128_64, vcat_64, hcat_64, hcat_128, vcat3_64, hcat3_64, sl_128_64_0, sl_128_64_1, sl_128_128_00, sl_128_128_01, sl_128_128_10, sl_128_128_11, sl_64_128_0, sl_64_128_1, sl_64_192_0, sl_192_64_0, sl_64_192_1, sl_192_64_1, sl_64_192_2, sl_192_64_2, last_L, spread_L, same_L, same_L_128, cast_L2, cast_L2_128, truncf_L2, transpose_L, hcat_L2, vcat_L2, incl_L2, strict_L2, sums_L, sub_self, zero_sub, add_zero, zero_add, Matrix.mul_zero, Matrix.zero_mul, Matrix.transpose_zero, Matrix.transpose_transpose]) <;> try rfl

theorem p102 :
    k0_pay102 (F := Ideal) (L .f32 fun b => (X b).v) (L .f32 fun b => (X b).mab) (L .f32 fun b => (X b).S0ᵀ) (L .f32 fun b => (X b).al * (X b).S0ᵀ + (X b).mak * (X b).v) (L .bf16 fun b => (X b).mab) (L .bf16 fun b => (X b).mab) = (L .f32 fun b => vcat3 (X b).S0ᵀ (X b).sa (X b).v) := by
  unfold k0_pay102
  dsimp only
  refine vcat3_of ?_ ?_ ?_ <;>
    (try simp only [p100 X, addf_L, subf_L, mulf_L, exp_L, truncf_L, extf_L, broadcast_L, constant_L, hcat_mul_vcat, vcat_mul, mul_hcat, vcat_transpose, hcat_transpose, vcat_hcat, vcat_add, hcat_add, vcat_had, hcat_had, mul_hcat3, vcat3_mul, vcat3_transpose, hcat3_transpose, rows_lo, rows_hi, cols_lo, cols_hi, rows3_0, rows3_1, rows3_2, cols3_0, cols3_1, cols3_2, nn_64_64_64, nn_64_128_64, nn_128_64_64, nn_128_128_64, nt_128_64_128, nt_128_64_64, nt_64_64_192, nt_64_64_64, nt_64_64_128, tn_64_128_64, tn_192_64_64, tn_64_64_64, tn_128_64_64, tn_128_128_64, vcat_64, hcat_64, hcat_128, vcat3_64, hcat3_64, sl_128_64_0, sl_128_64_1, sl_128_128_00, sl_128_128_01, sl_128_128_10, sl_128_128_11, sl_64_128_0, sl_64_128_1, sl_64_192_0, sl_192_64_0, sl_64_192_1, sl_192_64_1, sl_64_192_2, sl_192_64_2, last_L, spread_L, same_L, same_L_128, cast_L2, cast_L2_128, truncf_L2, transpose_L, hcat_L2, vcat_L2, incl_L2, strict_L2, sums_L, sub_self, zero_sub, add_zero, zero_add, Matrix.mul_zero, Matrix.zero_mul, Matrix.transpose_zero, Matrix.transpose_transpose]) <;> try rfl

theorem p103 :
    k0_pay103 (F := Ideal) (L .f32 fun b => (X b).v) (L .f32 fun b => (X b).mab) (L .f32 fun b => (X b).al * (X b).S0ᵀ + (X b).mak * (X b).v) (L .bf16 fun b => (X b).mab) (L .bf16 fun b => (X b).mab) = (L .f32 fun b => vcat (X b).sa (X b).v) := by
  unfold k0_pay103
  dsimp only
  refine vcat_of ?_ ?_ <;>
    (try simp only [p100 X, addf_L, subf_L, mulf_L, exp_L, truncf_L, extf_L, broadcast_L, constant_L, hcat_mul_vcat, vcat_mul, mul_hcat, vcat_transpose, hcat_transpose, vcat_hcat, vcat_add, hcat_add, vcat_had, hcat_had, mul_hcat3, vcat3_mul, vcat3_transpose, hcat3_transpose, rows_lo, rows_hi, cols_lo, cols_hi, rows3_0, rows3_1, rows3_2, cols3_0, cols3_1, cols3_2, nn_64_64_64, nn_64_128_64, nn_128_64_64, nn_128_128_64, nt_128_64_128, nt_128_64_64, nt_64_64_192, nt_64_64_64, nt_64_64_128, tn_64_128_64, tn_192_64_64, tn_64_64_64, tn_128_64_64, tn_128_128_64, vcat_64, hcat_64, hcat_128, vcat3_64, hcat3_64, sl_128_64_0, sl_128_64_1, sl_128_128_00, sl_128_128_01, sl_128_128_10, sl_128_128_11, sl_64_128_0, sl_64_128_1, sl_64_192_0, sl_192_64_0, sl_64_192_1, sl_192_64_1, sl_64_192_2, sl_192_64_2, last_L, spread_L, same_L, same_L_128, cast_L2, cast_L2_128, truncf_L2, transpose_L, hcat_L2, vcat_L2, incl_L2, strict_L2, sums_L, sub_self, zero_sub, add_zero, zero_add, Matrix.mul_zero, Matrix.zero_mul, Matrix.transpose_zero, Matrix.transpose_transpose]) <;> try rfl

theorem p104 :
    k0_pay104 (F := Ideal) (L .f32 fun b => (X b).v) (L .f32 fun b => (X b).S0) (L .f32 fun b => vcat (X b).be (X b).kt) (L .f32 fun b => (X b).mab) (L .f32 fun b => (X b).al * (X b).S0ᵀ + (X b).mak * (X b).v) (L .bf16 fun b => (X b).mab) (L .bf16 fun b => (X b).mab) = (L .f32 fun b => (X b).Send) := by
  simp only [k0_pay104, p103 X, truncf_L, constant_L, tn_64_128_64, vcat_transpose, hcat_mul_vcat, addf_L]
  try rfl

theorem p105 :
    k0_pay105 (F := Ideal) (L .f32 fun b => (X b).ep) = (L .f32 fun b => lastRow (X b).ep) := by
  simp only [k0_pay105, last_L]
  try rfl

theorem p118 :
    k0_pay118 (F := Ideal) (L .f32 fun b => lastRow (X b).ep) (L .f32 fun b => (X b).dS) = (L .f32 fun b => (X b).E) := by
  simp only [k0_pay118, spread_L, mulf_L]
  try rfl

theorem p119 :
    k0_pay119 (F := Ideal) (L .f32 fun b => (X b).Send) (L .f32 fun b => (X b).dS) = (L .f32 fun b => (X b).tail) := by
  unfold k0_pay119
  dsimp only
  refine sums_of ?_ <;>
    (try simp only [addf_L, subf_L, mulf_L, exp_L, truncf_L, extf_L, broadcast_L, constant_L, hcat_mul_vcat, vcat_mul, mul_hcat, vcat_transpose, hcat_transpose, vcat_hcat, vcat_add, hcat_add, vcat_had, hcat_had, mul_hcat3, vcat3_mul, vcat3_transpose, hcat3_transpose, rows_lo, rows_hi, cols_lo, cols_hi, rows3_0, rows3_1, rows3_2, cols3_0, cols3_1, cols3_2, nn_64_64_64, nn_64_128_64, nn_128_64_64, nn_128_128_64, nt_128_64_128, nt_128_64_64, nt_64_64_192, nt_64_64_64, nt_64_64_128, tn_64_128_64, tn_192_64_64, tn_64_64_64, tn_128_64_64, tn_128_128_64, vcat_64, hcat_64, hcat_128, vcat3_64, hcat3_64, sl_128_64_0, sl_128_64_1, sl_128_128_00, sl_128_128_01, sl_128_128_10, sl_128_128_11, sl_64_128_0, sl_64_128_1, sl_64_192_0, sl_192_64_0, sl_64_192_1, sl_192_64_1, sl_64_192_2, sl_192_64_2, last_L, spread_L, same_L, same_L_128, cast_L2, cast_L2_128, truncf_L2, transpose_L, hcat_L2, vcat_L2, incl_L2, strict_L2, sums_L, sub_self, zero_sub, add_zero, zero_add, Matrix.mul_zero, Matrix.zero_mul, Matrix.transpose_zero, Matrix.transpose_transpose]) <;> try rfl

theorem p120 :
    k0_pay120 (F := Ideal) (L .f32 fun b => vcat (X b).be (X b).kt) (L .f32 fun b => lastRow (X b).ep) (L .f32 fun b => (X b).dS) = (L .f32 fun b => vcat ((X b).be * (X b).Eᵀ) ((X b).kt * (X b).Eᵀ)) := by
  simp only [k0_pay120, truncf_L, p118 X, constant_L, nt_128_64_64, vcat_mul]
  try rfl

theorem p121 :
    k0_pay121 (F := Ideal) (L .f32 fun b => vcat (X b).sa (X b).v) (L .f32 fun b => lastRow (X b).ep) (L .f32 fun b => (X b).dS) = (L .f32 fun b => vcat ((X b).sa * (X b).E) ((X b).v * (X b).E)) := by
  simp only [k0_pay121, truncf_L, p118 X, constant_L, nn_128_64_64, vcat_mul]
  try rfl

theorem p122 :
    k0_pay122 (F := Ideal) (L .f32 fun b => vcat (X b).be (X b).kt) (L .f32 fun b => lastRow (X b).ep) (L .f32 fun b => (X b).dS) = (L .f32 fun b => (X b).be * (X b).Eᵀ) := by
  simp only [k0_pay122, p120 X, sl_128_64_0, rows_lo]
  try rfl

theorem p123 :
    k0_pay123 (F := Ideal) (L .f32 fun b => vcat (X b).be (X b).kt) (L .f32 fun b => lastRow (X b).ep) (L .f32 fun b => (X b).dS) = (L .f32 fun b => (X b).kt * (X b).Eᵀ) := by
  simp only [k0_pay123, p120 X, sl_128_64_1, rows_hi]
  try rfl

theorem p124 (v616 : FVec Ideal S8x64x64 .f32) (v635 : FVec Ideal S8x64x64 .f32) (v644 : FVec Ideal S64x64 .f32) (v645 : FVec Ideal S64x64 .f32) (v646 : FVec Ideal S1x64x64 .f32) (v647 : FVec Ideal S1x64x64 .f32) (v648 : FVec Ideal S1x64x64 .f32) (v649 : FVec Ideal S1x64x64 .f32) (v650 : FVec Ideal S1x64x64 .f32) (v651 : FVec Ideal S1x64x64 .f32) (v655 : FVec Ideal S1x64x512 .f32)
    (h : k0_pay117 v616 v635 v644 v645 v646 v647 v648 v649 v650 v651 v655 = L .f32 fun b => (X b).dy) :
    k0_pay124 (F := Ideal) v616 v635 v644 v645 v646 v647 v648 v649 v650 v651 v655 = (L .bf16 fun b => (X b).dy) := by
  simp only [k0_pay124, h, truncf_L]

theorem p125 :
    k0_pay125 (F := Ideal) (L .f32 fun b => vcat3 (X b).S0ᵀ (X b).sa (X b).v) = (L .bf16 fun b => vcat3 (X b).S0ᵀ (X b).sa (X b).v) := by
  simp only [k0_pay125, truncf_L]
  try rfl

theorem p126 (v616 : FVec Ideal S8x64x64 .f32) (v635 : FVec Ideal S8x64x64 .f32) (v644 : FVec Ideal S64x64 .f32) (v645 : FVec Ideal S64x64 .f32) (v646 : FVec Ideal S1x64x64 .f32) (v647 : FVec Ideal S1x64x64 .f32) (v648 : FVec Ideal S1x64x64 .f32) (v649 : FVec Ideal S1x64x64 .f32) (v650 : FVec Ideal S1x64x64 .f32) (v651 : FVec Ideal S1x64x64 .f32) (v655 : FVec Ideal S1x64x512 .f32)
    (h : k0_pay117 v616 v635 v644 v645 v646 v647 v648 v649 v650 v651 v655 = L .f32 fun b => (X b).dy) :
    k0_pay126 (F := Ideal) v616 v635 v644 v645 v646 v647 v648 v649 v650 v651 v655 = (L .bf16 fun _ : Fin 32 => (0 : Mat)) := by
  simp only [k0_pay126, h, p124 X v616 v635 v644 v645 v646 v647 v648 v649 v650 v651 v655 h, extf_L, subf_L, sub_self, truncf_L]

theorem p127 :
    k0_pay127 (F := Ideal) (L .f32 fun b => vcat3 (X b).S0ᵀ (X b).sa (X b).v) = (L .bf16 fun _ : Fin 32 => (0 : Matrix (Fin 192) (Fin 64) ℝ)) := by
  simp only [k0_pay127, p125 X, extf_L, subf_L, sub_self, truncf_L]
  try rfl

theorem p128 (v616 : FVec Ideal S8x64x64 .f32) (v635 : FVec Ideal S8x64x64 .f32) (v644 : FVec Ideal S64x64 .f32) (v645 : FVec Ideal S64x64 .f32) (v646 : FVec Ideal S1x64x64 .f32) (v647 : FVec Ideal S1x64x64 .f32) (v648 : FVec Ideal S1x64x64 .f32) (v649 : FVec Ideal S1x64x64 .f32) (v650 : FVec Ideal S1x64x64 .f32) (v651 : FVec Ideal S1x64x64 .f32) (v655 : FVec Ideal S1x64x512 .f32)
    (h : k0_pay117 v616 v635 v644 v645 v646 v647 v648 v649 v650 v651 v655 = L .f32 fun b => (X b).dy) :
    k0_pay128 (F := Ideal) (L .f32 fun b => vcat3 (X b).S0ᵀ (X b).sa (X b).v) v616 v635 v644 v645 v646 v647 v648 v649 v650 v651 v655 = (L .f32 fun b => hcat3 ((X b).dy * (X b).S0) ((X b).dy * (X b).saᵀ) ((X b).dy * (X b).vᵀ)) := by
  simp only [k0_pay128, p124 X v616 v635 v644 v645 v646 v647 v648 v649 v650 v651 v655 h, p125 X, constant_L, nt_64_64_192, vcat3_transpose, transpose_transpose, mul_hcat3]

theorem p129 :
    k0_pay129 (F := Ideal) (L .bf16 fun b => (X b).dy) (L .bf16 fun b => vcat3 (X b).S0ᵀ (X b).sa (X b).v) (L .bf16 fun _ : Fin 32 => (0 : Mat)) (L .bf16 fun _ : Fin 32 => (0 : Matrix (Fin 192) (Fin 64) ℝ)) (L .f32 fun b => hcat3 ((X b).dy * (X b).S0) ((X b).dy * (X b).saᵀ) ((X b).dy * (X b).vᵀ)) (L .f32 fun _ : Fin 32 => (0 : Matrix (Fin 64) (Fin 192) ℝ)) = (L .f32 fun b => hcat3 ((X b).dy * (X b).S0) ((X b).dy * (X b).saᵀ) ((X b).dy * (X b).vᵀ)) := by
  simp only [k0_pay129, nt_64_64_192, transpose_zero, Matrix.mul_zero, addf_L, add_zero, constant_L, vcat3_transpose, transpose_transpose, Matrix.zero_mul]
  try rfl

theorem p130 :
    k0_pay130 (F := Ideal) (L .f32 fun b => hcat3 (X b).rt (X b).mrb (X b).mrk) (L .f32 fun b => (X b).dy) = (L .f32 fun b => vcat3 ((X b).rtᵀ * (X b).dy) ((X b).mrbᵀ * (X b).dy) ((X b).mrkᵀ * (X b).dy)) := by
  simp only [k0_pay130, truncf_L, constant_L, tn_192_64_64, hcat3_transpose, vcat3_mul, extf_L, subf_L, sub_self, Matrix.mul_zero, addf_L, add_zero, transpose_zero, Matrix.zero_mul]
  try rfl

theorem p131 :
    k0_pay131 (F := Ideal) (L .f32 fun b => hcat3 (X b).rt (X b).mrb (X b).mrk) (L .f32 fun b => (X b).dy) = (L .f32 fun b => (X b).rtᵀ * (X b).dy) := by
  simp only [k0_pay131, p130 X, sl_192_64_0, rows3_0]
  try rfl

theorem p132 :
    k0_pay132 (F := Ideal) (L .f32 fun b => hcat3 (X b).rt (X b).mrb (X b).mrk) (L .f32 fun b => (X b).dy) (L .f32 fun b => (X b).kt * (X b).Eᵀ) = (L .f32 fun b => (X b).kt * (X b).Eᵀ + (X b).mrkᵀ * (X b).dy) := by
  simp only [k0_pay132, p130 X, sl_192_64_2, rows3_2, addf_L]
  try rfl

theorem p133 :
    k0_pay133 (F := Ideal) (L .bf16 fun b => (X b).dy) (L .bf16 fun b => vcat3 (X b).S0ᵀ (X b).sa (X b).v) (L .bf16 fun _ : Fin 32 => (0 : Mat)) (L .bf16 fun _ : Fin 32 => (0 : Matrix (Fin 192) (Fin 64) ℝ)) (L .f32 fun b => hcat3 ((X b).dy * (X b).S0) ((X b).dy * (X b).saᵀ) ((X b).dy * (X b).vᵀ)) (L .f32 fun _ : Fin 32 => (0 : Matrix (Fin 64) (Fin 192) ℝ)) = (L .f32 fun b => (X b).dy * (X b).S0) := by
  simp only [k0_pay133, p129 X, sl_64_192_0, cols3_0]
  try rfl

theorem p134 :
    k0_pay134 (F := Ideal) (L .bf16 fun b => (X b).dy) (L .bf16 fun b => vcat3 (X b).S0ᵀ (X b).sa (X b).v) (L .bf16 fun _ : Fin 32 => (0 : Mat)) (L .bf16 fun _ : Fin 32 => (0 : Matrix (Fin 192) (Fin 64) ℝ)) (L .f32 fun b => hcat3 ((X b).dy * (X b).S0) ((X b).dy * (X b).saᵀ) ((X b).dy * (X b).vᵀ)) (L .f32 fun _ : Fin 32 => (0 : Matrix (Fin 64) (Fin 192) ℝ)) = (L .f32 fun b => (X b).dy * (X b).saᵀ) := by
  simp only [k0_pay134, p129 X, sl_64_192_1, cols3_1]
  try rfl

theorem p135 :
    k0_pay135 (F := Ideal) (L .bf16 fun b => (X b).dy) (L .bf16 fun b => vcat3 (X b).S0ᵀ (X b).sa (X b).v) (L .bf16 fun _ : Fin 32 => (0 : Mat)) (L .bf16 fun _ : Fin 32 => (0 : Matrix (Fin 192) (Fin 64) ℝ)) (L .f32 fun b => hcat3 ((X b).dy * (X b).S0) ((X b).dy * (X b).saᵀ) ((X b).dy * (X b).vᵀ)) (L .f32 fun _ : Fin 32 => (0 : Matrix (Fin 64) (Fin 192) ℝ)) = (L .f32 fun b => (X b).dy * (X b).vᵀ) := by
  simp only [k0_pay135, p129 X, sl_64_192_2, cols3_2]
  try rfl

theorem p136 :
    k0_pay136 (F := Ideal) (L .f32 fun b => (X b).mab) (L .f32 fun b => (X b).m2) (L .f32 fun b => (X b).m4) (L .f32 fun b => (X b).m8) (L .f32 fun b => (X b).m16) (L .f32 fun b => (X b).m32) (L .f32 fun b => hcat3 (X b).rt (X b).mrb (X b).mrk) (L .f32 fun b => (X b).dy) (L .f32 fun b => (X b).be * (X b).Eᵀ) = (L .f32 fun b => (X b).q) := by
  simp only [k0_pay136, p130 X, sl_192_64_1, rows3_1, addf_L, truncf_L, constant_L, tn_64_64_64]
  try rfl

theorem p137 :
    k0_pay137 (F := Ideal) (L .f32 fun b => (X b).mab) (L .f32 fun b => (X b).m2) (L .f32 fun b => (X b).m4) (L .f32 fun b => (X b).m8) (L .f32 fun b => (X b).m16) (L .f32 fun b => (X b).m32) (L .f32 fun b => hcat3 (X b).rt (X b).mrb (X b).mrk) (L .f32 fun b => (X b).dy) (L .f32 fun b => (X b).be * (X b).Eᵀ) = (L .bf16 fun b => (X b).q) := by
  simp only [k0_pay137, p136 X, truncf_L]
  try rfl

theorem p138 :
    k0_pay138 (F := Ideal) (L .f32 fun b => (X b).sa) (L .bf16 fun b => (X b).q) = (L .f32 fun b => (X b).q * (X b).saᵀ) := by
  simp only [k0_pay138, truncf_L, constant_L, nt_64_64_64]
  try rfl

theorem p139 :
    k0_pay139 (F := Ideal) (L .f32 fun b => vcat (X b).S0ᵀ (X b).v) (L .f32 fun b => (X b).q) = (L .f32 fun b => hcat ((X b).q * (X b).S0) ((X b).q * (X b).vᵀ)) := by
  simp only [k0_pay139, truncf_L, constant_L, nt_64_64_128, vcat_transpose, transpose_transpose, mul_hcat, extf_L, subf_L, sub_self, transpose_zero, Matrix.mul_zero, addf_L, add_zero, Matrix.zero_mul]
  try rfl

theorem p140 :
    k0_pay140 (F := Ideal) (L .f32 fun b => hcat (X b).al (X b).mak) (L .f32 fun b => (X b).q) = (L .f32 fun b => vcat ((X b).alᵀ * (X b).q) ((X b).makᵀ * (X b).q)) := by
  simp only [k0_pay140, truncf_L, constant_L, tn_128_64_64, hcat_transpose, vcat_mul, extf_L, subf_L, sub_self, Matrix.mul_zero, addf_L, add_zero, transpose_zero, Matrix.zero_mul]
  try rfl

theorem p141 :
    k0_pay141 (F := Ideal) (L .f32 fun b => hcat (X b).al (X b).mak) (L .f32 fun b => (X b).kt * (X b).Eᵀ + (X b).mrkᵀ * (X b).dy) (L .f32 fun b => (X b).q) = (L .f32 fun b => (X b).dv) := by
  simp only [k0_pay141, p140 X, sl_128_64_1, rows_hi, addf_L]
  try rfl

theorem p142 :
    k0_pay142 (F := Ideal) (L .f32 fun b => vcat (X b).S0ᵀ (X b).v) (L .f32 fun b => (X b).q) = (L .f32 fun b => (X b).q * (X b).S0) := by
  simp only [k0_pay142, p139 X, sl_64_128_0, cols_lo]
  try rfl

theorem p143 :
    k0_pay143 (F := Ideal) (L .f32 fun b => hcat (X b).al (X b).mak) (L .f32 fun b => (X b).E) (L .f32 fun b => (X b).rtᵀ * (X b).dy) (L .f32 fun b => (X b).q) = (L .f32 fun b => (X b).dS0) := by
  simp only [k0_pay143, p140 X, sl_128_64_0, rows_lo, addf_L]
  try rfl

theorem p144 :
    k0_pay144 (F := Ideal) (L .f32 fun b => vcat (X b).S0ᵀ (X b).v) (L .f32 fun b => (X b).dy * (X b).saᵀ) (L .f32 fun b => (X b).dy * (X b).vᵀ) (L .f32 fun b => (X b).q) = (L .f32 fun b => hcat (vcat 0 ((X b).dy * (X b).saᵀ)) (vcat ((X b).q * (X b).vᵀ) ((X b).dy * (X b).vᵀ))) := by
  unfold k0_pay144
  dsimp only
  refine (congrArg₂ addf (congrArg₂ addf (hcat_128_of broadcast_L (vcat_of broadcast_L rfl))
    (hcat_128_of (vcat_of broadcast_L rfl) broadcast_L)) (hcat_128_of broadcast_L
    (vcat_of (f0 := fun b => (X b).q * (X b).vᵀ) ?_ broadcast_L))).trans ?_
  · simp only [p139 X, sl_64_128_1, cols_hi]
  · simp only [addf_L, hcat_add, vcat_add, zero_add, add_zero]

theorem p145 :
    k0_pay145 (F := Ideal) (L .f32 fun _ : Fin 1 => hcat (vcat strict incl) (vcat strict incl)) (L .f32 fun b => (X b).q * (X b).saᵀ) (L .f32 fun b => hcat (vcat 0 ((X b).dy * (X b).saᵀ)) (vcat ((X b).q * (X b).vᵀ) ((X b).dy * (X b).vᵀ))) = (L .f32 fun b => hcat (vcat (X b).gab (X b).grb) (vcat (X b).gak (X b).grk)) := by
  unfold k0_pay145
  dsimp only
  refine (congrArg₂ mulf (congrArg₂ addf rfl (hcat_128_of (vcat_of rfl broadcast_L) broadcast_L)) (same_L_128 _ _)).trans ?_
  simp only [addf_L, mulf_L, hcat_add, vcat_add, hcat_had, vcat_had, zero_add, add_zero]
  rfl

theorem p146 :
    k0_pay146 (F := Ideal) (L .f32 fun b => vcat (X b).be (X b).kt) (L .f32 fun _ : Fin 1 => hcat (vcat strict incl) (vcat strict incl)) (L .f32 fun b => (X b).q * (X b).saᵀ) (L .f32 fun b => hcat (vcat 0 ((X b).dy * (X b).saᵀ)) (vcat ((X b).q * (X b).vᵀ) ((X b).dy * (X b).vᵀ))) = (L .f32 fun b => vcat ((X b).gab * (X b).be + (X b).gak * (X b).kt) ((X b).grb * (X b).be + (X b).grk * (X b).kt)) := by
  simp only [k0_pay146, p145 X, truncf_L, constant_L, nn_128_128_64, hcat_mul_vcat, vcat_mul, vcat_add, extf_L, subf_L, sub_self, Matrix.mul_zero, addf_L, add_zero, Matrix.zero_mul]
  try rfl

theorem p147 :
    k0_pay147 (F := Ideal) (L .f32 fun b => vcat (X b).al (X b).rt) (L .f32 fun _ : Fin 1 => hcat (vcat strict incl) (vcat strict incl)) (L .f32 fun b => vcat ((X b).sa * (X b).E) ((X b).v * (X b).E)) (L .f32 fun b => (X b).q * (X b).saᵀ) (L .f32 fun b => hcat (vcat 0 ((X b).dy * (X b).saᵀ)) (vcat ((X b).q * (X b).vᵀ) ((X b).dy * (X b).vᵀ))) = (L .f32 fun b => vcat (X b).dbe (X b).dkt) := by
  simp only [k0_pay147, p145 X, truncf_L, constant_L, tn_128_128_64, hcat_transpose, vcat_transpose, vcat_hcat, hcat_mul_vcat, vcat_mul, vcat_add, extf_L, subf_L, sub_self, Matrix.mul_zero, addf_L, add_zero, transpose_zero, Matrix.zero_mul]
  try rfl

theorem p148 :
    k0_pay148 (F := Ideal) (L .f32 fun b => vcat (X b).be (X b).kt) (L .f32 fun _ : Fin 1 => hcat (vcat strict incl) (vcat strict incl)) (L .f32 fun b => (X b).q * (X b).saᵀ) (L .f32 fun b => (X b).q * (X b).S0) (L .f32 fun b => hcat (vcat 0 ((X b).dy * (X b).saᵀ)) (vcat ((X b).q * (X b).vᵀ) ((X b).dy * (X b).vᵀ))) = (L .f32 fun b => (X b).dal) := by
  simp only [k0_pay148, p146 X, sl_128_64_0, rows_lo, addf_L]
  try rfl

theorem p149 :
    k0_pay149 (F := Ideal) (L .f32 fun b => vcat (X b).be (X b).kt) (L .f32 fun _ : Fin 1 => hcat (vcat strict incl) (vcat strict incl)) (L .f32 fun b => (X b).dy * (X b).S0) (L .f32 fun b => (X b).q * (X b).saᵀ) (L .f32 fun b => hcat (vcat 0 ((X b).dy * (X b).saᵀ)) (vcat ((X b).q * (X b).vᵀ) ((X b).dy * (X b).vᵀ))) = (L .f32 fun b => (X b).drt) := by
  simp only [k0_pay149, p146 X, sl_128_64_1, rows_hi, addf_L]
  try rfl

theorem p150 :
    k0_pay150 (F := Ideal) (L .f32 fun b => vcat (X b).al (X b).rt) (L .f32 fun _ : Fin 1 => hcat (vcat strict incl) (vcat strict incl)) (L .f32 fun b => vcat ((X b).sa * (X b).E) ((X b).v * (X b).E)) (L .f32 fun b => (X b).q * (X b).saᵀ) (L .f32 fun b => hcat (vcat 0 ((X b).dy * (X b).saᵀ)) (vcat ((X b).q * (X b).vᵀ) ((X b).dy * (X b).vᵀ))) = (L .f32 fun b => (X b).dbe) := by
  simp only [k0_pay150, p147 X, sl_128_64_0, rows_lo]
  try rfl

theorem p151 :
    k0_pay151 (F := Ideal) (L .f32 fun b => vcat (X b).al (X b).rt) (L .f32 fun _ : Fin 1 => hcat (vcat strict incl) (vcat strict incl)) (L .f32 fun b => vcat ((X b).sa * (X b).E) ((X b).v * (X b).E)) (L .f32 fun b => (X b).q * (X b).saᵀ) (L .f32 fun b => hcat (vcat 0 ((X b).dy * (X b).saᵀ)) (vcat ((X b).q * (X b).vᵀ) ((X b).dy * (X b).vᵀ))) = (L .f32 fun b => (X b).dkt) := by
  simp only [k0_pay151, p147 X, sl_128_64_1, rows_hi]
  try rfl

theorem p152 :
    k0_pay152 (F := Ideal) (L .f32 fun b => (X b).r) (L .f32 fun b => vcat (X b).be (X b).kt) (L .f32 fun _ : Fin 1 => hcat (vcat strict incl) (vcat strict incl)) (L .f32 fun b => (X b).tail) (L .f32 fun b => (X b).dy * (X b).S0) (L .f32 fun b => (X b).q * (X b).saᵀ) (L .f32 fun b => hcat (vcat 0 ((X b).dy * (X b).saᵀ)) (vcat ((X b).q * (X b).vᵀ) ((X b).dy * (X b).vᵀ))) = (L .f32 fun b => (X b).tail + had (X b).r (X b).drt) := by
  simp only [k0_pay152, p149 X, mulf_L, addf_L]
  try rfl

theorem p153 :
    k0_pay153 (F := Ideal) (L .f32 fun b => (X b).ep) (L .f32 fun b => vcat (X b).be (X b).kt) (L .f32 fun _ : Fin 1 => hcat (vcat strict incl) (vcat strict incl)) (L .f32 fun b => (X b).dy * (X b).S0) (L .f32 fun b => (X b).q * (X b).saᵀ) (L .f32 fun b => hcat (vcat 0 ((X b).dy * (X b).saᵀ)) (vcat ((X b).q * (X b).vᵀ) ((X b).dy * (X b).vᵀ))) = (L .f32 fun b => (X b).dr) := by
  simp only [k0_pay153, p149 X, mulf_L]
  try rfl

theorem p154 :
    k0_pay154 (F := Ideal) (L .f32 fun b => (X b).en) (L .f32 fun b => vcat (X b).al (X b).rt) (L .f32 fun _ : Fin 1 => hcat (vcat strict incl) (vcat strict incl)) (L .f32 fun b => vcat ((X b).sa * (X b).E) ((X b).v * (X b).E)) (L .f32 fun b => (X b).q * (X b).saᵀ) (L .f32 fun b => hcat (vcat 0 ((X b).dy * (X b).saᵀ)) (vcat ((X b).q * (X b).vᵀ) ((X b).dy * (X b).vᵀ))) = (L .f32 fun b => (X b).dk) := by
  simp only [k0_pay154, p151 X, mulf_L]
  try rfl

theorem p155 :
    k0_pay155 (F := Ideal) (L .f32 fun b => (X b).k) (L .f32 fun b => had (X b).kap (X b).a) (L .f32 fun b => vcat (X b).al (X b).rt) (L .f32 fun _ : Fin 1 => hcat (vcat strict incl) (vcat strict incl)) (L .f32 fun b => vcat ((X b).sa * (X b).E) ((X b).v * (X b).E)) (L .f32 fun b => (X b).q * (X b).saᵀ) (L .f32 fun b => hcat (vcat 0 ((X b).dy * (X b).saᵀ)) (vcat ((X b).q * (X b).vᵀ) ((X b).dy * (X b).vᵀ))) = (L .f32 fun b => had (X b).k (X b).dkt + had (had (X b).kap (X b).a) (X b).dbe) := by
  simp only [k0_pay155, p151 X, mulf_L, p150 X, addf_L]
  try rfl

theorem p156 :
    k0_pay156 (F := Ideal) (L .f32 fun b => (X b).en) (L .f32 fun b => vcat (X b).al (X b).rt) (L .f32 fun _ : Fin 1 => hcat (vcat strict incl) (vcat strict incl)) (L .f32 fun b => vcat ((X b).sa * (X b).E) ((X b).v * (X b).E)) (L .f32 fun b => (X b).q * (X b).saᵀ) (L .f32 fun b => hcat (vcat 0 ((X b).dy * (X b).saᵀ)) (vcat ((X b).q * (X b).vᵀ) ((X b).dy * (X b).vᵀ))) = (L .f32 fun b => had (X b).dbe (X b).en) := by
  simp only [k0_pay156, p150 X, mulf_L]
  try rfl

theorem p157 :
    k0_pay157 (F := Ideal) (L .f32 fun b => (X b).kap) (L .f32 fun b => (X b).en) (L .f32 fun b => vcat (X b).al (X b).rt) (L .f32 fun _ : Fin 1 => hcat (vcat strict incl) (vcat strict incl)) (L .f32 fun b => vcat ((X b).sa * (X b).E) ((X b).v * (X b).E)) (L .f32 fun b => (X b).q * (X b).saᵀ) (L .f32 fun b => hcat (vcat 0 ((X b).dy * (X b).saᵀ)) (vcat ((X b).q * (X b).vᵀ) ((X b).dy * (X b).vᵀ))) = (L .f32 fun b => (X b).da) := by
  simp only [k0_pay157, p156 X, mulf_L]
  try rfl

theorem p158 :
    k0_pay158 (F := Ideal) (L .f32 fun b => (X b).a) (L .f32 fun b => (X b).en) (L .f32 fun b => vcat (X b).al (X b).rt) (L .f32 fun _ : Fin 1 => hcat (vcat strict incl) (vcat strict incl)) (L .f32 fun b => vcat ((X b).sa * (X b).E) ((X b).v * (X b).E)) (L .f32 fun b => (X b).q * (X b).saᵀ) (L .f32 fun b => hcat (vcat 0 ((X b).dy * (X b).saᵀ)) (vcat ((X b).q * (X b).vᵀ) ((X b).dy * (X b).vᵀ))) = (L .f32 fun b => had (had (X b).dbe (X b).en) (X b).a) := by
  simp only [k0_pay158, p156 X, mulf_L]
  try rfl

theorem p159 :
    k0_pay159 (F := Ideal) (L .f32 fun b => (X b).ex) (L .f32 fun b => vcat (X b).be (X b).kt) (L .f32 fun _ : Fin 1 => hcat (vcat strict incl) (vcat strict incl)) (L .f32 fun b => (X b).q * (X b).saᵀ) (L .f32 fun b => (X b).q * (X b).S0) (L .f32 fun b => hcat (vcat 0 ((X b).dy * (X b).saᵀ)) (vcat ((X b).q * (X b).vᵀ) ((X b).dy * (X b).vᵀ))) = (L .f32 fun b => had (X b).dal (X b).ex) := by
  simp only [k0_pay159, p148 X, mulf_L]
  try rfl

theorem p160 :
    k0_pay160 (F := Ideal) (L .f32 fun b => -(X b).kap) (L .f32 fun b => (X b).ex) (L .f32 fun b => vcat (X b).be (X b).kt) (L .f32 fun _ : Fin 1 => hcat (vcat strict incl) (vcat strict incl)) (L .f32 fun b => (X b).q * (X b).saᵀ) (L .f32 fun b => (X b).q * (X b).S0) (L .f32 fun b => hcat (vcat 0 ((X b).dy * (X b).saᵀ)) (vcat ((X b).q * (X b).vᵀ) ((X b).dy * (X b).vᵀ))) = (L .f32 fun b => (X b).w) := by
  simp only [k0_pay160, p148 X, mulf_L]
  try rfl

theorem p161 :
    k0_pay161 (F := Ideal) (L .f32 fun b => had (had (X b).dbe (X b).en) (X b).a) (L .f32 fun b => had (X b).dal (X b).ex) = (L .f32 fun b => (X b).dkap) := by
  simp only [k0_pay161, broadcast_L, subf_L, zero_sub, addf_L]
  try rfl

theorem p162 :
    k0_pay162 (F := Ideal) (L .f32 fun b => (X b).ep) (L .f32 fun b => (X b).en) (L .f32 fun b => (X b).tail + had (X b).r (X b).drt) (L .f32 fun b => had (X b).k (X b).dkt + had (had (X b).kap (X b).a) (X b).dbe) (L .f32 fun b => (X b).w) = (L .f32 fun b => (X b).dlw) := by
  simp only [k0_pay162, broadcast_L, subf_L, zero_sub, incl_L2, truncf_L2, cast_L2, same_L, mulf_L, addf_L, truncf_L, constant_L, tn_64_64_64, extf_L, sub_self, Matrix.mul_zero, add_zero]
  try rfl

theorem p163 :
    k0_pay163 (F := Ideal) (L .f32 fun b => (X b).dS0) = (L .f32 fun b => (X b).dS0) := by
  exact shapeCast_self _ _

end Cert.Wkv

end
-- ==== Proof.Pack.lean ====
/- How the body lays the heads of a block out as a batch, and how it lays a batch back out as a block. -/
module

public import proofs.«01_k».proof.Proof.KernelBlock
public import Idealize.ShloMosaic.Lib.Pipeline.Value

@[expose] public section

set_option maxRecDepth 16384

noncomputable section

namespace Cert.Wkv

open Idealize.ShloMosaic Matrix
open Cert.KernelIdeal Cert.KernelIdeal.Gen

/-- A block of 4 sequences of 8 heads side by side, as a batch of 32 heads. -/
def pack {α : Type} (x : S4x64x512.Idx → α) : S32x64x64.Idx → α := fun y =>
  x (ix3 ⟨(y 0).val / 8, by have := (y 0).isLt; simp at this; omega⟩ (y 1)
    ⟨64 * ((y 0).val % 8) + (y 2).val, by have := (y 2).isLt; simp at this; omega⟩)

/-- The block of states as a batch of 32 heads. -/
def packS {α : Type} (x : S4x1x8x64x64.Idx → α) : S32x64x64.Idx → α := fun y =>
  x (ix5 ⟨(y 0).val / 8, by have := (y 0).isLt; simp at this; omega⟩ 0 ⟨(y 0).val % 8, by omega⟩ (y 1) (y 2))

/-- A batch of 32 heads as a block of 4 sequences of 8 heads side by side. -/
def unpack {α : Type} (z : S32x64x64.Idx → α) : S4x64x512.Idx → α := fun y =>
  z (ix3 ⟨8 * (y 0).val + (y 2).val / 64, by have := (y 0).isLt; have := (y 2).isLt; simp at *; omega⟩ (y 1)
    ⟨(y 2).val % 64, by omega⟩)

variable {F : FTy → Type} [FloatOps F]

theorem ix3_congr {A B C : ℕ} {a a' : Fin A} {b b' : Fin B} {c c' : Fin C} (ha : a.val = a'.val) (hb : b.val = b'.val)
    (hc : c.val = c'.val) : (ix3 a b c : (⟨3, ![A, B, C]⟩ : Shape).Idx) = ix3 a' b' c' := by
  obtain rfl := Fin.ext ha
  obtain rfl := Fin.ext hb
  obtain rfl := Fin.ext hc
  rfl

theorem ix5_congr {A B C D E : ℕ} {a a' : Fin A} {b b' : Fin B} {c c' : Fin C} {d d' : Fin D} {e e' : Fin E} (ha : a.val = a'.val)
    (hb : b.val = b'.val) (hc : c.val = c'.val) (hd : d.val = d'.val) (he : e.val = e'.val) :
    (ix5 a b c d e : (⟨5, ![A, B, C, D, E]⟩ : Shape).Idx) = ix5 a' b' c' d' e' := by
  obtain rfl := Fin.ext ha
  obtain rfl := Fin.ext hb
  obtain rfl := Fin.ext hc
  obtain rfl := Fin.ext hd
  obtain rfl := Fin.ext he
  rfl

theorem heads_ix (u : FVec F S1x64x512 .f32) (h : Fin 8) (t j : Fin 64) :
    k0_pay3 u (ix3 h t j) = u (ix3 0 t ⟨64 * h.val + j.val, by omega⟩) := by
  unfold k0_pay3
  pointwise
  split_ifs <;> refine congrArg u (ix3_congr rfl rfl ?_) <;> first | omega | (simp; omega)

theorem pk (u0 u1 u2 u3 : FVec F S1x64x512 .f32) (x : FVec F S4x64x512 .f32)
    (h0 : ∀ t l, u0 (ix3 0 t l) = x (ix3 0 t l)) (h1 : ∀ t l, u1 (ix3 0 t l) = x (ix3 1 t l))
    (h2 : ∀ t l, u2 (ix3 0 t l) = x (ix3 2 t l)) (h3 : ∀ t l, u3 (ix3 0 t l) = x (ix3 3 t l)) :
    concatenate S32x64x64 0 [⟨S8x64x64, k0_pay3 u0⟩, ⟨S8x64x64, k0_pay3 u1⟩, ⟨S8x64x64, k0_pay3 u2⟩, ⟨S8x64x64, k0_pay3 u3⟩]
      concatenates_S8x64x64_S8x64x64_S8x64x64_S8x64x64_S32x64x64_d0 = pack x := by
  funext j
  idx_vars j
  pointwise [heads_ix]
  simp only [h0, h1, h2, h3]
  split_ifs <;> refine congrArg x (ix3_congr ?_ rfl ?_) <;> first | (show _ = _ / 8; simp; omega) | (show _ = 64 * (_ % 8) + _; simp; omega)

theorem pkS (u0 u1 u2 u3 : FVec F S1x1x8x64x64 .f32) (x : FVec F S4x1x8x64x64 .f32)
    (h0 : ∀ h i j, u0 (ix5 0 0 h i j) = x (ix5 0 0 h i j)) (h1 : ∀ h i j, u1 (ix5 0 0 h i j) = x (ix5 1 0 h i j))
    (h2 : ∀ h i j, u2 (ix5 0 0 h i j) = x (ix5 2 0 h i j)) (h3 : ∀ h i j, u3 (ix5 0 0 h i j) = x (ix5 3 0 h i j)) :
    k0_pay70 u0 u1 u2 u3 = packS x := by
  funext j
  idx_vars j
  unfold k0_pay70
  pointwise
  simp only [h0, h1, h2, h3]
  split_ifs <;> refine congrArg x (ix5_congr ?_ rfl ?_ rfl rfl) <;>
    first | (show _ = _ / 8; simp; omega) | (show _ = _ % 8; simp; omega)

theorem rd0 (a : Memref sig .tc .vmem S4x64x512 .f32) (h : a.IsWhole) (x : FVec F S4x64x512 .f32)
    (w : ∀ k, (![0, 0, 0] : Fin _ → ℕ) k + S1x64x512.size k ≤ S4x64x512.size k) (t : Fin 64) (l : Fin 512) :
    View.readAt (Elt F) a.view (Rect.unit (s := S4x64x512) ![0, 0, 0] S1x64x512.size w).toLoadRect (h.unread x) (ix3 0 t l) = x (ix3 0 t l) := by
  rw [View.readAt_eq_ld, h.read_unread]
  unfold View.ld
  refine congrArg x ?_
  pointwise

theorem rdS0 (a : Memref sig .tc .vmem S4x1x8x64x64 .f32) (h : a.IsWhole) (x : FVec F S4x1x8x64x64 .f32)
    (w : ∀ k, (![0, 0, 0, 0, 0] : Fin _ → ℕ) k + S1x1x8x64x64.size k ≤ S4x1x8x64x64.size k) (p : Fin 8) (i j : Fin 64) :
    View.readAt (Elt F) a.view (Rect.unit (s := S4x1x8x64x64) ![0, 0, 0, 0, 0] S1x1x8x64x64.size w).toLoadRect (h.unread x) (ix5 0 0 p i j) =
      x (ix5 0 0 p i j) := by
  rw [View.readAt_eq_ld, h.read_unread]
  unfold View.ld
  refine congrArg x ?_
  pointwise

theorem emb0 (w : ∀ k, (![0, 0, 0] : Fin _ → ℕ) k + S1x64x512.size k ≤ S4x64x512.size k) (t : Fin 64) (l : Fin 512) :
    (Rect.unit (s := S4x64x512) ![0, 0, 0] S1x64x512.size w).emb (ix3 0 t l) = ix3 0 t l := by
  show (Rect.unit (s := S4x64x512) ![0, 0, 0] S1x64x512.size w).toLoadRect.idx (ix3 0 t l) = ix3 0 t l
  pointwise

theorem rd1 (a : Memref sig .tc .vmem S4x64x512 .f32) (h : a.IsWhole) (x : FVec F S4x64x512 .f32)
    (w : ∀ k, (![1, 0, 0] : Fin _ → ℕ) k + S1x64x512.size k ≤ S4x64x512.size k) (t : Fin 64) (l : Fin 512) :
    View.readAt (Elt F) a.view (Rect.unit (s := S4x64x512) ![1, 0, 0] S1x64x512.size w).toLoadRect (h.unread x) (ix3 0 t l) = x (ix3 1 t l) := by
  rw [View.readAt_eq_ld, h.read_unread]
  unfold View.ld
  refine congrArg x ?_
  pointwise

theorem rdS1 (a : Memref sig .tc .vmem S4x1x8x64x64 .f32) (h : a.IsWhole) (x : FVec F S4x1x8x64x64 .f32)
    (w : ∀ k, (![1, 0, 0, 0, 0] : Fin _ → ℕ) k + S1x1x8x64x64.size k ≤ S4x1x8x64x64.size k) (p : Fin 8) (i j : Fin 64) :
    View.readAt (Elt F) a.view (Rect.unit (s := S4x1x8x64x64) ![1, 0, 0, 0, 0] S1x1x8x64x64.size w).toLoadRect (h.unread x) (ix5 0 0 p i j) =
      x (ix5 1 0 p i j) := by
  rw [View.readAt_eq_ld, h.read_unread]
  unfold View.ld
  refine congrArg x ?_
  pointwise

theorem emb1 (w : ∀ k, (![1, 0, 0] : Fin _ → ℕ) k + S1x64x512.size k ≤ S4x64x512.size k) (t : Fin 64) (l : Fin 512) :
    (Rect.unit (s := S4x64x512) ![1, 0, 0] S1x64x512.size w).emb (ix3 0 t l) = ix3 1 t l := by
  show (Rect.unit (s := S4x64x512) ![1, 0, 0] S1x64x512.size w).toLoadRect.idx (ix3 0 t l) = ix3 1 t l
  pointwise

theorem rd2 (a : Memref sig .tc .vmem S4x64x512 .f32) (h : a.IsWhole) (x : FVec F S4x64x512 .f32)
    (w : ∀ k, (![2, 0, 0] : Fin _ → ℕ) k + S1x64x512.size k ≤ S4x64x512.size k) (t : Fin 64) (l : Fin 512) :
    View.readAt (Elt F) a.view (Rect.unit (s := S4x64x512) ![2, 0, 0] S1x64x512.size w).toLoadRect (h.unread x) (ix3 0 t l) = x (ix3 2 t l) := by
  rw [View.readAt_eq_ld, h.read_unread]
  unfold View.ld
  refine congrArg x ?_
  pointwise

theorem rdS2 (a : Memref sig .tc .vmem S4x1x8x64x64 .f32) (h : a.IsWhole) (x : FVec F S4x1x8x64x64 .f32)
    (w : ∀ k, (![2, 0, 0, 0, 0] : Fin _ → ℕ) k + S1x1x8x64x64.size k ≤ S4x1x8x64x64.size k) (p : Fin 8) (i j : Fin 64) :
    View.readAt (Elt F) a.view (Rect.unit (s := S4x1x8x64x64) ![2, 0, 0, 0, 0] S1x1x8x64x64.size w).toLoadRect (h.unread x) (ix5 0 0 p i j) =
      x (ix5 2 0 p i j) := by
  rw [View.readAt_eq_ld, h.read_unread]
  unfold View.ld
  refine congrArg x ?_
  pointwise

theorem emb2 (w : ∀ k, (![2, 0, 0] : Fin _ → ℕ) k + S1x64x512.size k ≤ S4x64x512.size k) (t : Fin 64) (l : Fin 512) :
    (Rect.unit (s := S4x64x512) ![2, 0, 0] S1x64x512.size w).emb (ix3 0 t l) = ix3 2 t l := by
  show (Rect.unit (s := S4x64x512) ![2, 0, 0] S1x64x512.size w).toLoadRect.idx (ix3 0 t l) = ix3 2 t l
  pointwise

theorem rd3 (a : Memref sig .tc .vmem S4x64x512 .f32) (h : a.IsWhole) (x : FVec F S4x64x512 .f32)
    (w : ∀ k, (![3, 0, 0] : Fin _ → ℕ) k + S1x64x512.size k ≤ S4x64x512.size k) (t : Fin 64) (l : Fin 512) :
    View.readAt (Elt F) a.view (Rect.unit (s := S4x64x512) ![3, 0, 0] S1x64x512.size w).toLoadRect (h.unread x) (ix3 0 t l) = x (ix3 3 t l) := by
  rw [View.readAt_eq_ld, h.read_unread]
  unfold View.ld
  refine congrArg x ?_
  pointwise

theorem rdS3 (a : Memref sig .tc .vmem S4x1x8x64x64 .f32) (h : a.IsWhole) (x : FVec F S4x1x8x64x64 .f32)
    (w : ∀ k, (![3, 0, 0, 0, 0] : Fin _ → ℕ) k + S1x1x8x64x64.size k ≤ S4x1x8x64x64.size k) (p : Fin 8) (i j : Fin 64) :
    View.readAt (Elt F) a.view (Rect.unit (s := S4x1x8x64x64) ![3, 0, 0, 0, 0] S1x1x8x64x64.size w).toLoadRect (h.unread x) (ix5 0 0 p i j) =
      x (ix5 3 0 p i j) := by
  rw [View.readAt_eq_ld, h.read_unread]
  unfold View.ld
  refine congrArg x ?_
  pointwise

theorem emb3 (w : ∀ k, (![3, 0, 0] : Fin _ → ℕ) k + S1x64x512.size k ≤ S4x64x512.size k) (t : Fin 64) (l : Fin 512) :
    (Rect.unit (s := S4x64x512) ![3, 0, 0] S1x64x512.size w).emb (ix3 0 t l) = ix3 3 t l := by
  show (Rect.unit (s := S4x64x512) ![3, 0, 0] S1x64x512.size w).toLoadRect.idx (ix3 0 t l) = ix3 3 t l
  pointwise

theorem up0 (z : FVec F S32x64x64 .f32) {w8} {w0} {w1} {w2} {w3} {w4} {w5} {w6} {w7} {wc} {wd} (t : Fin 64) (l : Fin 512) :
    shapeCast S1x64x512 (concatenate S64x512 1 [⟨S64x64, shapeCast S64x64 (extractStridedSlice S1x64x64 ![0, 0, 0] (extractStridedSlice S8x64x64 ![0, 0, 0] z w8) w0) wc⟩, ⟨S64x64, shapeCast S64x64 (extractStridedSlice S1x64x64 ![1, 0, 0] (extractStridedSlice S8x64x64 ![0, 0, 0] z w8) w1) wc⟩, ⟨S64x64, shapeCast S64x64 (extractStridedSlice S1x64x64 ![2, 0, 0] (extractStridedSlice S8x64x64 ![0, 0, 0] z w8) w2) wc⟩, ⟨S64x64, shapeCast S64x64 (extractStridedSlice S1x64x64 ![3, 0, 0] (extractStridedSlice S8x64x64 ![0, 0, 0] z w8) w3) wc⟩, ⟨S64x64, shapeCast S64x64 (extractStridedSlice S1x64x64 ![4, 0, 0] (extractStridedSlice S8x64x64 ![0, 0, 0] z w8) w4) wc⟩, ⟨S64x64, shapeCast S64x64 (extractStridedSlice S1x64x64 ![5, 0, 0] (extractStridedSlice S8x64x64 ![0, 0, 0] z w8) w5) wc⟩, ⟨S64x64, shapeCast S64x64 (extractStridedSlice S1x64x64 ![6, 0, 0] (extractStridedSlice S8x64x64 ![0, 0, 0] z w8) w6) wc⟩, ⟨S64x64, shapeCast S64x64 (extractStridedSlice S1x64x64 ![7, 0, 0] (extractStridedSlice S8x64x64 ![0, 0, 0] z w8) w7) wc⟩]
      concatenates_S64x64_S64x64_S64x64_S64x64_S64x64_S64x64_S64x64_S64x64_S64x512_d1) wd (ix3 0 t l) =
      z (ix3 ⟨8 * 0 + l.val / 64, by omega⟩ t ⟨l.val % 64, by omega⟩) := by
  pointwise
  split_ifs <;> refine congrArg z (ix3_congr ?_ rfl ?_) <;> first | omega | (simp; omega)

theorem up1 (z : FVec F S32x64x64 .f32) {w8} {w0} {w1} {w2} {w3} {w4} {w5} {w6} {w7} {wc} {wd} (t : Fin 64) (l : Fin 512) :
    shapeCast S1x64x512 (concatenate S64x512 1 [⟨S64x64, shapeCast S64x64 (extractStridedSlice S1x64x64 ![0, 0, 0] (extractStridedSlice S8x64x64 ![8, 0, 0] z w8) w0) wc⟩, ⟨S64x64, shapeCast S64x64 (extractStridedSlice S1x64x64 ![1, 0, 0] (extractStridedSlice S8x64x64 ![8, 0, 0] z w8) w1) wc⟩, ⟨S64x64, shapeCast S64x64 (extractStridedSlice S1x64x64 ![2, 0, 0] (extractStridedSlice S8x64x64 ![8, 0, 0] z w8) w2) wc⟩, ⟨S64x64, shapeCast S64x64 (extractStridedSlice S1x64x64 ![3, 0, 0] (extractStridedSlice S8x64x64 ![8, 0, 0] z w8) w3) wc⟩, ⟨S64x64, shapeCast S64x64 (extractStridedSlice S1x64x64 ![4, 0, 0] (extractStridedSlice S8x64x64 ![8, 0, 0] z w8) w4) wc⟩, ⟨S64x64, shapeCast S64x64 (extractStridedSlice S1x64x64 ![5, 0, 0] (extractStridedSlice S8x64x64 ![8, 0, 0] z w8) w5) wc⟩, ⟨S64x64, shapeCast S64x64 (extractStridedSlice S1x64x64 ![6, 0, 0] (extractStridedSlice S8x64x64 ![8, 0, 0] z w8) w6) wc⟩, ⟨S64x64, shapeCast S64x64 (extractStridedSlice S1x64x64 ![7, 0, 0] (extractStridedSlice S8x64x64 ![8, 0, 0] z w8) w7) wc⟩]
      concatenates_S64x64_S64x64_S64x64_S64x64_S64x64_S64x64_S64x64_S64x64_S64x512_d1) wd (ix3 0 t l) =
      z (ix3 ⟨8 * 1 + l.val / 64, by omega⟩ t ⟨l.val % 64, by omega⟩) := by
  pointwise
  split_ifs <;> refine congrArg z (ix3_congr ?_ rfl ?_) <;> first | omega | (simp; omega)

theorem up2 (z : FVec F S32x64x64 .f32) {w8} {w0} {w1} {w2} {w3} {w4} {w5} {w6} {w7} {wc} {wd} (t : Fin 64) (l : Fin 512) :
    shapeCast S1x64x512 (concatenate S64x512 1 [⟨S64x64, shapeCast S64x64 (extractStridedSlice S1x64x64 ![0, 0, 0] (extractStridedSlice S8x64x64 ![16, 0, 0] z w8) w0) wc⟩, ⟨S64x64, shapeCast S64x64 (extractStridedSlice S1x64x64 ![1, 0, 0] (extractStridedSlice S8x64x64 ![16, 0, 0] z w8) w1) wc⟩, ⟨S64x64, shapeCast S64x64 (extractStridedSlice S1x64x64 ![2, 0, 0] (extractStridedSlice S8x64x64 ![16, 0, 0] z w8) w2) wc⟩, ⟨S64x64, shapeCast S64x64 (extractStridedSlice S1x64x64 ![3, 0, 0] (extractStridedSlice S8x64x64 ![16, 0, 0] z w8) w3) wc⟩, ⟨S64x64, shapeCast S64x64 (extractStridedSlice S1x64x64 ![4, 0, 0] (extractStridedSlice S8x64x64 ![16, 0, 0] z w8) w4) wc⟩, ⟨S64x64, shapeCast S64x64 (extractStridedSlice S1x64x64 ![5, 0, 0] (extractStridedSlice S8x64x64 ![16, 0, 0] z w8) w5) wc⟩, ⟨S64x64, shapeCast S64x64 (extractStridedSlice S1x64x64 ![6, 0, 0] (extractStridedSlice S8x64x64 ![16, 0, 0] z w8) w6) wc⟩, ⟨S64x64, shapeCast S64x64 (extractStridedSlice S1x64x64 ![7, 0, 0] (extractStridedSlice S8x64x64 ![16, 0, 0] z w8) w7) wc⟩]
      concatenates_S64x64_S64x64_S64x64_S64x64_S64x64_S64x64_S64x64_S64x64_S64x512_d1) wd (ix3 0 t l) =
      z (ix3 ⟨8 * 2 + l.val / 64, by omega⟩ t ⟨l.val % 64, by omega⟩) := by
  pointwise
  split_ifs <;> refine congrArg z (ix3_congr ?_ rfl ?_) <;> first | omega | (simp; omega)

theorem up3 (z : FVec F S32x64x64 .f32) {w8} {w0} {w1} {w2} {w3} {w4} {w5} {w6} {w7} {wc} {wd} (t : Fin 64) (l : Fin 512) :
    shapeCast S1x64x512 (concatenate S64x512 1 [⟨S64x64, shapeCast S64x64 (extractStridedSlice S1x64x64 ![0, 0, 0] (extractStridedSlice S8x64x64 ![24, 0, 0] z w8) w0) wc⟩, ⟨S64x64, shapeCast S64x64 (extractStridedSlice S1x64x64 ![1, 0, 0] (extractStridedSlice S8x64x64 ![24, 0, 0] z w8) w1) wc⟩, ⟨S64x64, shapeCast S64x64 (extractStridedSlice S1x64x64 ![2, 0, 0] (extractStridedSlice S8x64x64 ![24, 0, 0] z w8) w2) wc⟩, ⟨S64x64, shapeCast S64x64 (extractStridedSlice S1x64x64 ![3, 0, 0] (extractStridedSlice S8x64x64 ![24, 0, 0] z w8) w3) wc⟩, ⟨S64x64, shapeCast S64x64 (extractStridedSlice S1x64x64 ![4, 0, 0] (extractStridedSlice S8x64x64 ![24, 0, 0] z w8) w4) wc⟩, ⟨S64x64, shapeCast S64x64 (extractStridedSlice S1x64x64 ![5, 0, 0] (extractStridedSlice S8x64x64 ![24, 0, 0] z w8) w5) wc⟩, ⟨S64x64, shapeCast S64x64 (extractStridedSlice S1x64x64 ![6, 0, 0] (extractStridedSlice S8x64x64 ![24, 0, 0] z w8) w6) wc⟩, ⟨S64x64, shapeCast S64x64 (extractStridedSlice S1x64x64 ![7, 0, 0] (extractStridedSlice S8x64x64 ![24, 0, 0] z w8) w7) wc⟩]
      concatenates_S64x64_S64x64_S64x64_S64x64_S64x64_S64x64_S64x64_S64x64_S64x512_d1) wd (ix3 0 t l) =
      z (ix3 ⟨8 * 3 + l.val / 64, by omega⟩ t ⟨l.val % 64, by omega⟩) := by
  pointwise
  split_ifs <;> refine congrArg z (ix3_congr ?_ rfl ?_) <;> first | omega | (simp; omega)

theorem canon4 (z : FVec F S32x64x64 .f32) (P0 P1 P2 P3 : FVec F S1x64x512 .f32)
    (h0 : ∀ t l, P0 (ix3 0 t l) = z (ix3 ⟨8 * 0 + l.val / 64, by omega⟩ t ⟨l.val % 64, by omega⟩))
    (h1 : ∀ t l, P1 (ix3 0 t l) = z (ix3 ⟨8 * 1 + l.val / 64, by omega⟩ t ⟨l.val % 64, by omega⟩))
    (h2 : ∀ t l, P2 (ix3 0 t l) = z (ix3 ⟨8 * 2 + l.val / 64, by omega⟩ t ⟨l.val % 64, by omega⟩))
    (h3 : ∀ t l, P3 (ix3 0 t l) = z (ix3 ⟨8 * 3 + l.val / 64, by omega⟩ t ⟨l.val % 64, by omega⟩))
    {w0} {w1} {w2} {w3} :
    View.canon ([⟨Rect.unit (s := S4x64x512) ![3, 0, 0] S1x64x512.size w3, P3⟩, ⟨Rect.unit (s := S4x64x512) ![2, 0, 0] S1x64x512.size w2, P2⟩,
      ⟨Rect.unit (s := S4x64x512) ![1, 0, 0] S1x64x512.size w1, P1⟩, ⟨Rect.unit (s := S4x64x512) ![0, 0, 0] S1x64x512.size w0, P0⟩] :
        List (View.Piece (Elt F) S4x64x512 .f32)) = unpack z := by
  funext y
  refine View.canon_apply_of_pieces (Val := Elt F) (e := .f32) (unpack z) _ ?_ y ?_
  swap
  · idx_vars y
    have hm : ∀ (s : Fin 4) (w : ∀ k, (![s.val, 0, 0] : Fin _ → ℕ) k + S1x64x512.size k ≤ S4x64x512.size k),
        y0 = s → (ix3 y0 y1 y2 : S4x64x512.Idx) ∈ (Rect.unit (s := S4x64x512) ![s.val, 0, 0] S1x64x512.size w).set := by
      intro s w hs
      subst hs
      rw [Rect.mem_set_unit]
      intro k
      fin_cases k
      · exact ⟨le_refl _, Nat.lt_succ_self _⟩
      · exact ⟨Nat.zero_le _, by show y1.val < 0 + 64; omega⟩
      · exact ⟨Nat.zero_le _, by show y2.val < 0 + 512; omega⟩
    have h4 : y0 = 0 ∨ y0 = 1 ∨ y0 = 2 ∨ y0 = 3 := by omega
    rcases h4 with h | h | h | h
    · exact ⟨⟨Rect.unit (s := S4x64x512) ![0, 0, 0] S1x64x512.size w0, P0⟩, by simp, hm 0 w0 h⟩
    · exact ⟨⟨Rect.unit (s := S4x64x512) ![1, 0, 0] S1x64x512.size w1, P1⟩, by simp, hm 1 w1 h⟩
    · exact ⟨⟨Rect.unit (s := S4x64x512) ![2, 0, 0] S1x64x512.size w2, P2⟩, by simp, hm 2 w2 h⟩
    · exact ⟨⟨Rect.unit (s := S4x64x512) ![3, 0, 0] S1x64x512.size w3, P3⟩, by simp, hm 3 w3 h⟩
  intro p hp
  simp only [List.mem_cons, List.not_mem_nil, or_false] at hp
  rcases hp with rfl | rfl | rfl | rfl
  · intro (x : S1x64x512.Idx)
    idx_vars x
    obtain rfl : x0 = 0 := Subsingleton.elim _ _
    exact (h3 x1 x2).trans (congrArg (unpack z) (emb3 w3 x1 x2)).symm
  · intro (x : S1x64x512.Idx)
    idx_vars x
    obtain rfl : x0 = 0 := Subsingleton.elim _ _
    exact (h2 x1 x2).trans (congrArg (unpack z) (emb2 w2 x1 x2)).symm
  · intro (x : S1x64x512.Idx)
    idx_vars x
    obtain rfl : x0 = 0 := Subsingleton.elim _ _
    exact (h1 x1 x2).trans (congrArg (unpack z) (emb1 w1 x1 x2)).symm
  · intro (x : S1x64x512.Idx)
    idx_vars x
    obtain rfl : x0 = 0 := Subsingleton.elim _ _
    exact (h0 x1 x2).trans (congrArg (unpack z) (emb0 w0 x1 x2)).symm

/-- The arrays of a point are the batches of a chunk's inputs. -/
structure Packed (X : Fin 32 → In) (x0 x1 x2 x3 x4 x5 : FVec Ideal S4x64x512 .f32) (x6 : FVec Ideal S4x1x8x64x64 .f32)
    (x7 : FVec Ideal S4x64x512 .f32) : Prop where
  r : pack x0 = L .f32 fun b => (X b).r
  lw : pack x1 = L .f32 fun b => (X b).lw
  k : pack x2 = L .f32 fun b => (X b).k
  v : pack x3 = L .f32 fun b => (X b).v
  kap : pack x4 = L .f32 fun b => (X b).kap
  a : pack x5 = L .f32 fun b => (X b).a
  S0 : packS x6 = L .f32 fun b => (X b).S0
  dy : pack x7 = L .f32 fun b => (X b).dy

theorem cat4 {a0 a1 a2 a3 b0 b1 b2 b3 : FVec F S8x64x64 .f32} (h0 : a0 = b0) (h1 : a1 = b1) (h2 : a2 = b2) (h3 : a3 = b3) :
    concatenate S32x64x64 0 [⟨S8x64x64, a0⟩, ⟨S8x64x64, a1⟩, ⟨S8x64x64, a2⟩, ⟨S8x64x64, a3⟩]
      concatenates_S8x64x64_S8x64x64_S8x64x64_S8x64x64_S32x64x64_d0 =
    concatenate S32x64x64 0 [⟨S8x64x64, b0⟩, ⟨S8x64x64, b1⟩, ⟨S8x64x64, b2⟩, ⟨S8x64x64, b3⟩]
      concatenates_S8x64x64_S8x64x64_S8x64x64_S8x64x64_S32x64x64_d0 := by
  subst h0 h1 h2 h3
  rfl

theorem hz3 : (![0, 0, 0] : Fin S32x64x64.rank → ℕ) = fun _ => 0 := by
  funext k
  fin_cases k <;> rfl

theorem rdW (a : Memref sig .tc .vmem S32x64x64 .f32) (h : a.IsWhole) (x : FVec F S32x64x64 .f32)
    {w : ∀ k, (![0, 0, 0] : Fin _ → ℕ) k + S32x64x64.size k ≤ S32x64x64.size k} :
    View.readAt (Elt F) a.view (Rect.unit (s := S32x64x64) ![0, 0, 0] S32x64x64.size w).toLoadRect (h.unread x) = x := by
  rw [View.readAt_eq_ld, h.read_unread, View.ld_unit_zero (S := S32x64x64) hz3]
end Cert.Wkv

end
-- ==== Proof.PointA.lean ====
/- What the body leaves at a first point, as the values of the chunk. -/
module

public import proofs.«01_k».proof.Proof.Pack
public import proofs.«01_k».proof.Proof.Gen.KernelIdeal.Frame

@[expose] public section

set_option maxRecDepth 16384

noncomputable section

namespace Cert.Wkv

open Idealize.ShloMosaic Matrix
open Cert.KernelIdeal Cert.KernelIdeal.Gen Cert.KernelIdeal.Gen.kernelRun0_A

variable {X : Fin 32 → In} {c : Dev nD} {i : grid0.Coords}
  {arg2 : Memref sig .tc .vmem S4x64x512 .f32} {harg2 : arg2.IsWhole}
  {arg3 : Memref sig .tc .vmem S4x64x512 .f32} {harg3 : arg3.IsWhole}
  {arg4 : Memref sig .tc .vmem S4x64x512 .f32} {harg4 : arg4.IsWhole}
  {arg5 : Memref sig .tc .vmem S4x64x512 .f32} {harg5 : arg5.IsWhole}
  {arg6 : Memref sig .tc .vmem S4x64x512 .f32} {harg6 : arg6.IsWhole}
  {arg7 : Memref sig .tc .vmem S4x64x512 .f32} {harg7 : arg7.IsWhole}
  {arg8 : Memref sig .tc .vmem S4x1x8x64x64 .f32} {harg8 : arg8.IsWhole}
  {arg9 : Memref sig .tc .vmem S4x64x512 .f32} {harg9 : arg9.IsWhole}
  {arg10 : Memref sig .tc .vmem S4x64x512 .f32} {harg10 : arg10.IsWhole}
  {arg11 : Memref sig .tc .vmem S4x64x512 .f32} {harg11 : arg11.IsWhole}
  {arg12 : Memref sig .tc .vmem S4x64x512 .f32} {harg12 : arg12.IsWhole}
  {arg13 : Memref sig .tc .vmem S4x64x512 .f32} {harg13 : arg13.IsWhole}
  {arg14 : Memref sig .tc .vmem S4x64x512 .f32} {harg14 : arg14.IsWhole}
  {arg15 : Memref sig .tc .vmem S4x64x512 .f32} {harg15 : arg15.IsWhole}
  {arg16 : Memref sig .tc .vmem S32x64x64 .f32} {harg16 : arg16.IsWhole}
  {hc0 : cond0_0 i} {x0 x1 x2 x3 x4 x5 : FVec Ideal S4x64x512 .f32} {x6 : FVec Ideal S4x1x8x64x64 .f32} {x7 : FVec Ideal S4x64x512 .f32}

theorem A_v156 (hp : Packed X x0 x1 x2 x3 x4 x5 x6 x7) : sl.v156 (F := Ideal) c arg3 harg3 x1 = L .f32 fun b => (X b).lw :=
  Eq.trans (pk _ _ _ _ x1 (rd0 arg3 harg3 x1 _) (rd1 arg3 harg3 x1 _) (rd2 arg3 harg3 x1 _) (rd3 arg3 harg3 x1 _)) hp.lw

theorem A_r_9 (hp : Packed X x0 x1 x2 x3 x4 x5 x6 x7) : sl.r_9 (F := Ideal) c arg3 harg3 x1 = (L .f32 fun b => (X b).ep) := by
  unfold sl.r_9
  rw [A_v156 hp]
  exact p74 X

theorem A_v233 (hp : Packed X x0 x1 x2 x3 x4 x5 x6 x7) : sl.v233 (F := Ideal) c arg4 harg4 x2 = L .f32 fun b => (X b).k :=
  Eq.trans (pk _ _ _ _ x2 (rd0 arg4 harg4 x2 _) (rd1 arg4 harg4 x2 _) (rd2 arg4 harg4 x2 _) (rd3 arg4 harg4 x2 _)) hp.k

theorem A_v387 (hp : Packed X x0 x1 x2 x3 x4 x5 x6 x7) : sl.v387 (F := Ideal) c arg6 harg6 x4 = L .f32 fun b => (X b).kap :=
  Eq.trans (pk _ _ _ _ x4 (rd0 arg6 harg6 x4 _) (rd1 arg6 harg6 x4 _) (rd2 arg6 harg6 x4 _) (rd3 arg6 harg6 x4 _)) hp.kap

theorem A_r_6 (hp : Packed X x0 x1 x2 x3 x4 x5 x6 x7) : sl.r_6 (F := Ideal) c arg7 harg7 x5 = L .f32 fun b => (X b).a :=
  Eq.trans (pk _ _ _ _ x5 (rd0 arg7 harg7 x5 _) (rd1 arg7 harg7 x5 _) (rd2 arg7 harg7 x5 _) (rd3 arg7 harg7 x5 _)) hp.a

theorem A_r_10 (hp : Packed X x0 x1 x2 x3 x4 x5 x6 x7) : sl.r_10 (F := Ideal) c arg3 harg3 x1 = (L .f32 fun b => -(X b).cum) := by
  unfold sl.r_10
  rw [A_v156 hp]
  exact p75 X

theorem A_r_16 (hp : Packed X x0 x1 x2 x3 x4 x5 x6 x7) : sl.r_16 (F := Ideal) c arg3 harg3 arg4 harg4 arg6 harg6 arg7 harg7 x1 x2 x4 x5 = (L .f32 fun b => vcat (X b).be (X b).kt) := by
  unfold sl.r_16
  rw [A_v233 hp, A_v387 hp, A_r_6 hp, A_r_10 hp]
  exact p82 X

theorem A_r_18  : sl.r_18 (F := Ideal)  = (L .f32 fun _ : Fin 1 => hcat (vcat strict incl) (vcat strict incl)) := by
  unfold sl.r_18
  rw [p71, p72]
  exact p84

theorem A_r_39 (hp : Packed X x0 x1 x2 x3 x4 x5 x6 x7) : sl.r_39 (F := Ideal) c arg9 harg9 x7 = L .f32 fun b => (X b).dy :=
  Eq.trans (pk _ _ _ _ x7 (rd0 arg9 harg9 x7 _) (rd1 arg9 harg9 x7 _) (rd2 arg9 harg9 x7 _) (rd3 arg9 harg9 x7 _)) hp.dy

theorem A_r_45 (hp : Packed X x0 x1 x2 x3 x4 x5 x6 x7) : sl.r_45 (F := Ideal) c arg9 harg9 x7 = (L .bf16 fun b => (X b).dy) := by
  unfold sl.r_45
  exact p124 X _ _ _ _ _ _ _ _ _ _ _ (A_r_39 hp)

theorem A_v310 (hp : Packed X x0 x1 x2 x3 x4 x5 x6 x7) : sl.v310 (F := Ideal) c arg5 harg5 x3 = L .f32 fun b => (X b).v :=
  Eq.trans (pk _ _ _ _ x3 (rd0 arg5 harg5 x3 _) (rd1 arg5 harg5 x3 _) (rd2 arg5 harg5 x3 _) (rd3 arg5 harg5 x3 _)) hp.v

theorem A_pk_1 : sl.r_1 (F := Ideal) c arg2 harg2 x0 = k0_pay3 (View.readAt (Elt Ideal) arg2.view (Rect.unit (s := S4x64x512) ![1, 0, 0] S1x64x512.size inb_S4x64x512_S1x64x512_1_0_0).toLoadRect (harg2.unread x0)) := by
  unfold sl.r_1 k0_pay4 k0_pay3
  rfl

theorem A_pk_2 : sl.v59 (F := Ideal) c arg2 harg2 x0 = k0_pay3 (View.readAt (Elt Ideal) arg2.view (Rect.unit (s := S4x64x512) ![2, 0, 0] S1x64x512.size inb_S4x64x512_S1x64x512_2_0_0).toLoadRect (harg2.unread x0)) := by
  unfold sl.v59 sl.v51 sl.v52 sl.v53 sl.v54 sl.v55 sl.v56 sl.v57 sl.v58 sl.v46 sl.v47 sl.v48 sl.v49 sl.v50 sl.r_2 sl.r_3 sl.r_4 sl.r_5 k0_pay8 k0_pay7 k0_pay6 k0_pay5 k0_pay3
  rfl

theorem A_pk_3 : sl.v78 (F := Ideal) c arg2 harg2 x0 = k0_pay3 (View.readAt (Elt Ideal) arg2.view (Rect.unit (s := S4x64x512) ![3, 0, 0] S1x64x512.size inb_S4x64x512_S1x64x512_3_0_0).toLoadRect (harg2.unread x0)) := by
  unfold sl.v78 sl.v70 sl.v71 sl.v72 sl.v73 sl.v74 sl.v75 sl.v76 sl.v77 sl.v62 sl.v63 sl.v64 sl.v65 sl.v66 sl.v67 sl.v68 sl.v69 sl.v61 k0_pay3
  rfl

theorem A_v79 (hp : Packed X x0 x1 x2 x3 x4 x5 x6 x7) : sl.v79 (F := Ideal) c arg2 harg2 x0 = L .f32 fun b => (X b).r := by
  unfold sl.v79
  exact ((cat4 rfl A_pk_1 A_pk_2 A_pk_3).trans (pk (View.readAt (Elt Ideal) arg2.view (Rect.unit (s := S4x64x512) ![0, 0, 0] S1x64x512.size inb_S4x64x512_S1x64x512_0_0_0).toLoadRect (harg2.unread x0)) (View.readAt (Elt Ideal) arg2.view (Rect.unit (s := S4x64x512) ![1, 0, 0] S1x64x512.size inb_S4x64x512_S1x64x512_1_0_0).toLoadRect (harg2.unread x0)) (View.readAt (Elt Ideal) arg2.view (Rect.unit (s := S4x64x512) ![2, 0, 0] S1x64x512.size inb_S4x64x512_S1x64x512_2_0_0).toLoadRect (harg2.unread x0)) (View.readAt (Elt Ideal) arg2.view (Rect.unit (s := S4x64x512) ![3, 0, 0] S1x64x512.size inb_S4x64x512_S1x64x512_3_0_0).toLoadRect (harg2.unread x0)) x0 (rd0 arg2 harg2 x0 _) (rd1 arg2 harg2 x0 _) (rd2 arg2 harg2 x0 _) (rd3 arg2 harg2 x0 _))).trans hp.r

theorem A_r_8 (hp : Packed X x0 x1 x2 x3 x4 x5 x6 x7) : sl.r_8 (F := Ideal) c arg3 harg3 x1 = (L .f32 fun b => (X b).cum) := by
  unfold sl.r_8
  rw [A_v156 hp]
  exact p73 X

theorem A_r_19 (hp : Packed X x0 x1 x2 x3 x4 x5 x6 x7) : sl.r_19 (F := Ideal) c arg2 harg2 arg3 harg3 arg4 harg4 arg6 harg6 arg7 harg7 x0 x1 x2 x4 x5 = (L .f32 fun b => (X b).mab) := by
  unfold sl.r_19
  rw [A_v79 hp, A_v156 hp, A_v233 hp, A_v387 hp, A_r_6 hp, A_r_8 hp, A_r_9 hp, A_r_10 hp, p71, p72]
  exact p86 X

theorem A_r_7 (hp : Packed X x0 x1 x2 x3 x4 x5 x6 x7) : sl.r_7 (F := Ideal) c arg8 harg8 x6 = L .f32 fun b => (X b).S0 :=
  Eq.trans (pkS _ _ _ _ x6 (rdS0 arg8 harg8 x6 _) (rdS1 arg8 harg8 x6 _) (rdS2 arg8 harg8 x6 _) (rdS3 arg8 harg8 x6 _)) hp.S0

theorem A_r_22 (hp : Packed X x0 x1 x2 x3 x4 x5 x6 x7) : sl.r_22 (F := Ideal) c arg8 harg8 x6 = (L .f32 fun b => (X b).S0ᵀ) := by
  unfold sl.r_22
  rw [A_r_7 hp]
  exact p89 X

theorem A_r_25 (hp : Packed X x0 x1 x2 x3 x4 x5 x6 x7) : sl.r_25 (F := Ideal) c arg2 harg2 arg3 harg3 arg4 harg4 arg5 harg5 arg6 harg6 arg7 harg7 arg8 harg8 x0 x1 x2 x3 x4 x5 x6 = (L .f32 fun b => (X b).al * (X b).S0ᵀ + (X b).mak * (X b).v) := by
  unfold sl.r_25
  rw [A_v79 hp, A_v156 hp, A_v233 hp, A_v310 hp, A_v387 hp, A_r_6 hp, A_r_7 hp, A_r_8 hp, A_r_9 hp, A_r_10 hp, p71, p72]
  exact p92 X

theorem A_r_26 (hp : Packed X x0 x1 x2 x3 x4 x5 x6 x7) : sl.r_26 (F := Ideal) c arg2 harg2 arg3 harg3 arg4 harg4 arg6 harg6 arg7 harg7 x0 x1 x2 x4 x5 = (L .bf16 fun b => (X b).mab) := by
  unfold sl.r_26
  rw [A_v79 hp, A_v156 hp, A_v233 hp, A_v387 hp, A_r_6 hp, A_r_8 hp, A_r_9 hp, A_r_10 hp, p71, p72]
  exact p93 X

theorem A_r_27 (hp : Packed X x0 x1 x2 x3 x4 x5 x6 x7) : sl.r_27 (F := Ideal) c arg2 harg2 arg3 harg3 arg4 harg4 arg6 harg6 arg7 harg7 x0 x1 x2 x4 x5 = (L .bf16 fun b => (X b).mab) := by
  unfold sl.r_27
  rw [A_v79 hp, A_v156 hp, A_v233 hp, A_v387 hp, A_r_6 hp, A_r_8 hp, A_r_9 hp, A_r_10 hp, p71, p72]
  exact p94 X

theorem A_r_35 (hp : Packed X x0 x1 x2 x3 x4 x5 x6 x7) : sl.r_35 (F := Ideal) c arg2 harg2 arg3 harg3 arg4 harg4 arg5 harg5 arg6 harg6 arg7 harg7 arg8 harg8 x0 x1 x2 x3 x4 x5 x6 = (L .f32 fun b => vcat3 (X b).S0ᵀ (X b).sa (X b).v) := by
  unfold sl.r_35
  rw [A_v310 hp, A_r_19 hp, A_r_22 hp, A_r_25 hp, A_r_26 hp, A_r_27 hp]
  exact p102 X

theorem A_r_46 (hp : Packed X x0 x1 x2 x3 x4 x5 x6 x7) : sl.r_46 (F := Ideal) c arg2 harg2 arg3 harg3 arg4 harg4 arg5 harg5 arg6 harg6 arg7 harg7 arg8 harg8 x0 x1 x2 x3 x4 x5 x6 = (L .bf16 fun b => vcat3 (X b).S0ᵀ (X b).sa (X b).v) := by
  unfold sl.r_46
  rw [A_r_35 hp]
  exact p125 X

theorem A_r_47 (hp : Packed X x0 x1 x2 x3 x4 x5 x6 x7) : sl.r_47 (F := Ideal) c arg9 harg9 x7 = (L .bf16 fun _ : Fin 32 => (0 : Mat)) := by
  unfold sl.r_47
  exact p126 X _ _ _ _ _ _ _ _ _ _ _ (A_r_39 hp)

theorem A_r_48 (hp : Packed X x0 x1 x2 x3 x4 x5 x6 x7) : sl.r_48 (F := Ideal) c arg2 harg2 arg3 harg3 arg4 harg4 arg5 harg5 arg6 harg6 arg7 harg7 arg8 harg8 x0 x1 x2 x3 x4 x5 x6 = (L .bf16 fun _ : Fin 32 => (0 : Matrix (Fin 192) (Fin 64) ℝ)) := by
  unfold sl.r_48
  rw [A_r_35 hp]
  exact p127 X

theorem A_r_49 (hp : Packed X x0 x1 x2 x3 x4 x5 x6 x7) : sl.r_49 (F := Ideal) c arg2 harg2 arg3 harg3 arg4 harg4 arg5 harg5 arg6 harg6 arg7 harg7 arg8 harg8 arg9 harg9 x0 x1 x2 x3 x4 x5 x6 x7 = (L .f32 fun b => hcat3 ((X b).dy * (X b).S0) ((X b).dy * (X b).saᵀ) ((X b).dy * (X b).vᵀ)) := by
  unfold sl.r_49
  rw [A_r_35 hp]
  exact p128 X _ _ _ _ _ _ _ _ _ _ _ (A_r_39 hp)

theorem A_cst_130  : sl.cst_130 (F := Ideal)  = (L .f32 fun _ : Fin 32 => (0 : Matrix (Fin 64) (Fin 192) ℝ)) := constant_L

theorem A_r_52 (hp : Packed X x0 x1 x2 x3 x4 x5 x6 x7) : sl.r_52 (F := Ideal) c arg2 harg2 arg3 harg3 arg4 harg4 arg5 harg5 arg6 harg6 arg7 harg7 arg8 harg8 arg9 harg9 x0 x1 x2 x3 x4 x5 x6 x7 = (L .f32 fun b => (X b).dy * (X b).S0) := by
  unfold sl.r_52
  rw [A_r_45 hp, A_r_46 hp, A_r_47 hp, A_r_48 hp, A_r_49 hp, A_cst_130]
  exact p133 X

theorem A_r_33 (hp : Packed X x0 x1 x2 x3 x4 x5 x6 x7) : sl.r_33 (F := Ideal) c arg2 harg2 arg3 harg3 arg4 harg4 arg5 harg5 arg6 harg6 arg7 harg7 arg8 harg8 x0 x1 x2 x3 x4 x5 x6 = (L .f32 fun b => (X b).sa) := by
  unfold sl.r_33
  rw [A_r_19 hp, A_r_25 hp, A_r_26 hp, A_r_27 hp]
  exact p100 X

theorem A_r_28 (hp : Packed X x0 x1 x2 x3 x4 x5 x6 x7) : sl.r_28 (F := Ideal) c arg2 harg2 arg3 harg3 arg4 harg4 arg6 harg6 arg7 harg7 x0 x1 x2 x4 x5 = (L .f32 fun b => (X b).m2) := by
  unfold sl.r_28
  rw [A_r_26 hp, A_r_27 hp]
  exact p95 X

theorem A_r_29 (hp : Packed X x0 x1 x2 x3 x4 x5 x6 x7) : sl.r_29 (F := Ideal) c arg2 harg2 arg3 harg3 arg4 harg4 arg6 harg6 arg7 harg7 x0 x1 x2 x4 x5 = (L .f32 fun b => (X b).m4) := by
  unfold sl.r_29
  rw [A_r_26 hp, A_r_27 hp]
  exact p96 X

theorem A_r_30 (hp : Packed X x0 x1 x2 x3 x4 x5 x6 x7) : sl.r_30 (F := Ideal) c arg2 harg2 arg3 harg3 arg4 harg4 arg6 harg6 arg7 harg7 x0 x1 x2 x4 x5 = (L .f32 fun b => (X b).m8) := by
  unfold sl.r_30
  rw [A_r_26 hp, A_r_27 hp]
  exact p97 X

theorem A_r_31 (hp : Packed X x0 x1 x2 x3 x4 x5 x6 x7) : sl.r_31 (F := Ideal) c arg2 harg2 arg3 harg3 arg4 harg4 arg6 harg6 arg7 harg7 x0 x1 x2 x4 x5 = (L .f32 fun b => (X b).m16) := by
  unfold sl.r_31
  rw [A_r_26 hp, A_r_27 hp]
  exact p98 X

theorem A_r_32 (hp : Packed X x0 x1 x2 x3 x4 x5 x6 x7) : sl.r_32 (F := Ideal) c arg2 harg2 arg3 harg3 arg4 harg4 arg6 harg6 arg7 harg7 x0 x1 x2 x4 x5 = (L .f32 fun b => (X b).m32) := by
  unfold sl.r_32
  rw [A_r_26 hp, A_r_27 hp]
  exact p99 X

theorem A_r_15 (hp : Packed X x0 x1 x2 x3 x4 x5 x6 x7) : sl.r_15 (F := Ideal) c arg2 harg2 arg3 harg3 x0 x1 = (L .f32 fun b => (X b).rt) := by
  unfold sl.r_15
  rw [A_v79 hp, A_r_9 hp]
  exact p81 X

theorem A_r_20 (hp : Packed X x0 x1 x2 x3 x4 x5 x6 x7) : sl.r_20 (F := Ideal) c arg2 harg2 arg3 harg3 arg4 harg4 arg6 harg6 arg7 harg7 x0 x1 x2 x4 x5 = (L .f32 fun b => (X b).mrb) := by
  unfold sl.r_20
  rw [A_v79 hp, A_v156 hp, A_v233 hp, A_v387 hp, A_r_6 hp, A_r_8 hp, A_r_9 hp, A_r_10 hp, p71, p72]
  exact p87 X

theorem A_r_21 (hp : Packed X x0 x1 x2 x3 x4 x5 x6 x7) : sl.r_21 (F := Ideal) c arg2 harg2 arg3 harg3 arg4 harg4 arg6 harg6 arg7 harg7 x0 x1 x2 x4 x5 = (L .f32 fun b => (X b).mrk) := by
  unfold sl.r_21
  rw [A_v79 hp, A_v156 hp, A_v233 hp, A_v387 hp, A_r_6 hp, A_r_8 hp, A_r_9 hp, A_r_10 hp, p71, p72]
  exact p88 X

theorem A_r_34 (hp : Packed X x0 x1 x2 x3 x4 x5 x6 x7) : sl.r_34 (F := Ideal) c arg2 harg2 arg3 harg3 arg4 harg4 arg6 harg6 arg7 harg7 x0 x1 x2 x4 x5 = (L .f32 fun b => hcat3 (X b).rt (X b).mrb (X b).mrk) := by
  unfold sl.r_34
  rw [A_r_15 hp, A_r_20 hp, A_r_21 hp]
  exact p101 X

theorem A_r_38 (hp : Packed X x0 x1 x2 x3 x4 x5 x6 x7) : sl.r_38 (F := Ideal) c arg3 harg3 x1 = (L .f32 fun b => lastRow (X b).ep) := by
  unfold sl.r_38
  rw [A_r_9 hp]
  exact p105 X

theorem A_v675 (hs : (L .f32 (fun _ => 0 : Fin 32 → Mat) : FVec Ideal S32x64x64 .f32) = L .f32 fun b => (X b).dS) : sl.v675 (F := Ideal) c arg16 = L .f32 fun b => (X b).dS := by
  unfold sl.v675 sl.HS0_1
  rw [View.readCov_unit_zero (S := S32x64x64) _ hz3]
  refine Eq.trans ?_ hs
  unfold k0_pay2
  exact (shapeCast_self _ _).trans broadcast_L

theorem A_r_43 (hp : Packed X x0 x1 x2 x3 x4 x5 x6 x7) (hs : (L .f32 (fun _ => 0 : Fin 32 → Mat) : FVec Ideal S32x64x64 .f32) = L .f32 fun b => (X b).dS) : sl.r_43 (F := Ideal) c arg3 harg3 arg4 harg4 arg6 harg6 arg7 harg7 arg16 x1 x2 x4 x5 = (L .f32 fun b => (X b).be * (X b).Eᵀ) := by
  unfold sl.r_43
  rw [A_r_16 hp, A_r_38 hp, A_v675 hs]
  exact p122 X

theorem A_r_56 (hp : Packed X x0 x1 x2 x3 x4 x5 x6 x7) (hs : (L .f32 (fun _ => 0 : Fin 32 → Mat) : FVec Ideal S32x64x64 .f32) = L .f32 fun b => (X b).dS) : sl.r_56 (F := Ideal) c arg2 harg2 arg3 harg3 arg4 harg4 arg6 harg6 arg7 harg7 arg9 harg9 arg16 x0 x1 x2 x4 x5 x7 = (L .bf16 fun b => (X b).q) := by
  unfold sl.r_56
  rw [A_r_19 hp, A_r_28 hp, A_r_29 hp, A_r_30 hp, A_r_31 hp, A_r_32 hp, A_r_34 hp, A_r_39 hp, A_r_43 hp hs]
  exact p137 X

theorem A_r_57 (hp : Packed X x0 x1 x2 x3 x4 x5 x6 x7) (hs : (L .f32 (fun _ => 0 : Fin 32 → Mat) : FVec Ideal S32x64x64 .f32) = L .f32 fun b => (X b).dS) : sl.r_57 (F := Ideal) c arg2 harg2 arg3 harg3 arg4 harg4 arg5 harg5 arg6 harg6 arg7 harg7 arg8 harg8 arg9 harg9 arg16 x0 x1 x2 x3 x4 x5 x6 x7 = (L .f32 fun b => (X b).q * (X b).saᵀ) := by
  unfold sl.r_57
  rw [A_r_33 hp, A_r_56 hp hs]
  exact p138 X

theorem A_r_24 (hp : Packed X x0 x1 x2 x3 x4 x5 x6 x7) : sl.r_24 (F := Ideal) c arg5 harg5 arg8 harg8 x3 x6 = (L .f32 fun b => vcat (X b).S0ᵀ (X b).v) := by
  unfold sl.r_24
  rw [A_v310 hp, A_r_7 hp]
  exact p91 X

theorem A_r_53 (hp : Packed X x0 x1 x2 x3 x4 x5 x6 x7) : sl.r_53 (F := Ideal) c arg2 harg2 arg3 harg3 arg4 harg4 arg5 harg5 arg6 harg6 arg7 harg7 arg8 harg8 arg9 harg9 x0 x1 x2 x3 x4 x5 x6 x7 = (L .f32 fun b => (X b).dy * (X b).saᵀ) := by
  unfold sl.r_53
  rw [A_r_45 hp, A_r_46 hp, A_r_47 hp, A_r_48 hp, A_r_49 hp, A_cst_130]
  exact p134 X

theorem A_r_54 (hp : Packed X x0 x1 x2 x3 x4 x5 x6 x7) : sl.r_54 (F := Ideal) c arg2 harg2 arg3 harg3 arg4 harg4 arg5 harg5 arg6 harg6 arg7 harg7 arg8 harg8 arg9 harg9 x0 x1 x2 x3 x4 x5 x6 x7 = (L .f32 fun b => (X b).dy * (X b).vᵀ) := by
  unfold sl.r_54
  rw [A_r_45 hp, A_r_46 hp, A_r_47 hp, A_r_48 hp, A_r_49 hp, A_cst_130]
  exact p135 X

theorem A_r_55 (hp : Packed X x0 x1 x2 x3 x4 x5 x6 x7) (hs : (L .f32 (fun _ => 0 : Fin 32 → Mat) : FVec Ideal S32x64x64 .f32) = L .f32 fun b => (X b).dS) : sl.r_55 (F := Ideal) c arg2 harg2 arg3 harg3 arg4 harg4 arg6 harg6 arg7 harg7 arg9 harg9 arg16 x0 x1 x2 x4 x5 x7 = (L .f32 fun b => (X b).q) := by
  unfold sl.r_55
  rw [A_r_19 hp, A_r_28 hp, A_r_29 hp, A_r_30 hp, A_r_31 hp, A_r_32 hp, A_r_34 hp, A_r_39 hp, A_r_43 hp hs]
  exact p136 X

theorem A_r_61 (hp : Packed X x0 x1 x2 x3 x4 x5 x6 x7) (hs : (L .f32 (fun _ => 0 : Fin 32 → Mat) : FVec Ideal S32x64x64 .f32) = L .f32 fun b => (X b).dS) : sl.r_61 (F := Ideal) c arg2 harg2 arg3 harg3 arg4 harg4 arg5 harg5 arg6 harg6 arg7 harg7 arg8 harg8 arg9 harg9 arg16 x0 x1 x2 x3 x4 x5 x6 x7 = (L .f32 fun b => hcat (vcat 0 ((X b).dy * (X b).saᵀ)) (vcat ((X b).q * (X b).vᵀ) ((X b).dy * (X b).vᵀ))) := by
  unfold sl.r_61
  rw [A_r_24 hp, A_r_53 hp, A_r_54 hp, A_r_55 hp hs]
  exact p144 X

theorem A_r_63 (hp : Packed X x0 x1 x2 x3 x4 x5 x6 x7) (hs : (L .f32 (fun _ => 0 : Fin 32 → Mat) : FVec Ideal S32x64x64 .f32) = L .f32 fun b => (X b).dS) : sl.r_63 (F := Ideal) c arg2 harg2 arg3 harg3 arg4 harg4 arg5 harg5 arg6 harg6 arg7 harg7 arg8 harg8 arg9 harg9 arg16 x0 x1 x2 x3 x4 x5 x6 x7 = (L .f32 fun b => (X b).dr) := by
  unfold sl.r_63
  rw [A_r_9 hp, A_r_16 hp, A_r_18, A_r_52 hp, A_r_57 hp hs, A_r_61 hp hs]
  exact p153 X

theorem A_r_11 (hp : Packed X x0 x1 x2 x3 x4 x5 x6 x7) : sl.r_11 (F := Ideal) c arg3 harg3 x1 = (L .f32 fun b => (X b).en) := by
  unfold sl.r_11
  rw [A_r_10 hp]
  exact p76 X

theorem A_r_37 (hp : Packed X x0 x1 x2 x3 x4 x5 x6 x7) : sl.r_37 (F := Ideal) c arg2 harg2 arg3 harg3 arg4 harg4 arg5 harg5 arg6 harg6 arg7 harg7 arg8 harg8 x0 x1 x2 x3 x4 x5 x6 = (L .f32 fun b => (X b).Send) := by
  unfold sl.r_37
  rw [A_v310 hp, A_r_7 hp, A_r_16 hp, A_r_19 hp, A_r_25 hp, A_r_26 hp, A_r_27 hp]
  exact p104 X

theorem A_r_41 (hp : Packed X x0 x1 x2 x3 x4 x5 x6 x7) (hs : (L .f32 (fun _ => 0 : Fin 32 → Mat) : FVec Ideal S32x64x64 .f32) = L .f32 fun b => (X b).dS) : sl.r_41 (F := Ideal) c arg2 harg2 arg3 harg3 arg4 harg4 arg5 harg5 arg6 harg6 arg7 harg7 arg8 harg8 arg16 x0 x1 x2 x3 x4 x5 x6 = (L .f32 fun b => (X b).tail) := by
  unfold sl.r_41
  rw [A_r_37 hp, A_v675 hs]
  exact p119 X

theorem A_r_62 (hp : Packed X x0 x1 x2 x3 x4 x5 x6 x7) (hs : (L .f32 (fun _ => 0 : Fin 32 → Mat) : FVec Ideal S32x64x64 .f32) = L .f32 fun b => (X b).dS) : sl.r_62 (F := Ideal) c arg2 harg2 arg3 harg3 arg4 harg4 arg5 harg5 arg6 harg6 arg7 harg7 arg8 harg8 arg9 harg9 arg16 x0 x1 x2 x3 x4 x5 x6 x7 = (L .f32 fun b => (X b).tail + had (X b).r (X b).drt) := by
  unfold sl.r_62
  rw [A_v79 hp, A_r_16 hp, A_r_18, A_r_41 hp hs, A_r_52 hp, A_r_57 hp hs, A_r_61 hp hs]
  exact p152 X

theorem A_r_14 (hp : Packed X x0 x1 x2 x3 x4 x5 x6 x7) : sl.r_14 (F := Ideal) c arg6 harg6 arg7 harg7 x4 x5 = (L .f32 fun b => had (X b).kap (X b).a) := by
  unfold sl.r_14
  rw [A_v387 hp, A_r_6 hp]
  exact p80 X

theorem A_r_17 (hp : Packed X x0 x1 x2 x3 x4 x5 x6 x7) : sl.r_17 (F := Ideal) c arg2 harg2 arg3 harg3 arg6 harg6 x0 x1 x4 = (L .f32 fun b => vcat (X b).al (X b).rt) := by
  unfold sl.r_17
  rw [A_v79 hp, A_v156 hp, A_v387 hp, A_r_8 hp, A_r_9 hp]
  exact p83 X

theorem A_r_36 (hp : Packed X x0 x1 x2 x3 x4 x5 x6 x7) : sl.r_36 (F := Ideal) c arg2 harg2 arg3 harg3 arg4 harg4 arg5 harg5 arg6 harg6 arg7 harg7 arg8 harg8 x0 x1 x2 x3 x4 x5 x6 = (L .f32 fun b => vcat (X b).sa (X b).v) := by
  unfold sl.r_36
  rw [A_v310 hp, A_r_19 hp, A_r_25 hp, A_r_26 hp, A_r_27 hp]
  exact p103 X

theorem A_r_42 (hp : Packed X x0 x1 x2 x3 x4 x5 x6 x7) (hs : (L .f32 (fun _ => 0 : Fin 32 → Mat) : FVec Ideal S32x64x64 .f32) = L .f32 fun b => (X b).dS) : sl.r_42 (F := Ideal) c arg2 harg2 arg3 harg3 arg4 harg4 arg5 harg5 arg6 harg6 arg7 harg7 arg8 harg8 arg16 x0 x1 x2 x3 x4 x5 x6 = (L .f32 fun b => vcat ((X b).sa * (X b).E) ((X b).v * (X b).E)) := by
  unfold sl.r_42
  rw [A_r_36 hp, A_r_38 hp, A_v675 hs]
  exact p121 X

theorem A_r_65 (hp : Packed X x0 x1 x2 x3 x4 x5 x6 x7) (hs : (L .f32 (fun _ => 0 : Fin 32 → Mat) : FVec Ideal S32x64x64 .f32) = L .f32 fun b => (X b).dS) : sl.r_65 (F := Ideal) c arg2 harg2 arg3 harg3 arg4 harg4 arg5 harg5 arg6 harg6 arg7 harg7 arg8 harg8 arg9 harg9 arg16 x0 x1 x2 x3 x4 x5 x6 x7 = (L .f32 fun b => had (X b).k (X b).dkt + had (had (X b).kap (X b).a) (X b).dbe) := by
  unfold sl.r_65
  rw [A_v233 hp, A_r_14 hp, A_r_17 hp, A_r_18, A_r_42 hp hs, A_r_57 hp hs, A_r_61 hp hs]
  exact p155 X

theorem A_r_12 (hp : Packed X x0 x1 x2 x3 x4 x5 x6 x7) : sl.r_12 (F := Ideal) c arg6 harg6 x4 = (L .f32 fun b => -(X b).kap) := by
  unfold sl.r_12
  rw [A_v387 hp]
  exact p77 X

theorem A_r_13 (hp : Packed X x0 x1 x2 x3 x4 x5 x6 x7) : sl.r_13 (F := Ideal) c arg3 harg3 x1 = (L .f32 fun b => (X b).ex) := by
  unfold sl.r_13
  rw [A_v156 hp, A_r_8 hp]
  exact p78 X

theorem A_r_59 (hp : Packed X x0 x1 x2 x3 x4 x5 x6 x7) (hs : (L .f32 (fun _ => 0 : Fin 32 → Mat) : FVec Ideal S32x64x64 .f32) = L .f32 fun b => (X b).dS) : sl.r_59 (F := Ideal) c arg2 harg2 arg3 harg3 arg4 harg4 arg5 harg5 arg6 harg6 arg7 harg7 arg8 harg8 arg9 harg9 arg16 x0 x1 x2 x3 x4 x5 x6 x7 = (L .f32 fun b => (X b).q * (X b).S0) := by
  unfold sl.r_59
  rw [A_r_24 hp, A_r_55 hp hs]
  exact p142 X

theorem A_r_69 (hp : Packed X x0 x1 x2 x3 x4 x5 x6 x7) (hs : (L .f32 (fun _ => 0 : Fin 32 → Mat) : FVec Ideal S32x64x64 .f32) = L .f32 fun b => (X b).dS) : sl.r_69 (F := Ideal) c arg2 harg2 arg3 harg3 arg4 harg4 arg5 harg5 arg6 harg6 arg7 harg7 arg8 harg8 arg9 harg9 arg16 x0 x1 x2 x3 x4 x5 x6 x7 = (L .f32 fun b => (X b).w) := by
  unfold sl.r_69
  rw [A_r_12 hp, A_r_13 hp, A_r_16 hp, A_r_18, A_r_57 hp hs, A_r_59 hp hs, A_r_61 hp hs]
  exact p160 X

theorem A_r_71 (hp : Packed X x0 x1 x2 x3 x4 x5 x6 x7) (hs : (L .f32 (fun _ => 0 : Fin 32 → Mat) : FVec Ideal S32x64x64 .f32) = L .f32 fun b => (X b).dS) : sl.r_71 (F := Ideal) c arg2 harg2 arg3 harg3 arg4 harg4 arg5 harg5 arg6 harg6 arg7 harg7 arg8 harg8 arg9 harg9 arg16 x0 x1 x2 x3 x4 x5 x6 x7 = (L .f32 fun b => (X b).dlw) := by
  unfold sl.r_71
  rw [A_r_9 hp, A_r_11 hp, A_r_62 hp hs, A_r_65 hp hs, A_r_69 hp hs]
  exact p162 X

theorem A_r_64 (hp : Packed X x0 x1 x2 x3 x4 x5 x6 x7) (hs : (L .f32 (fun _ => 0 : Fin 32 → Mat) : FVec Ideal S32x64x64 .f32) = L .f32 fun b => (X b).dS) : sl.r_64 (F := Ideal) c arg2 harg2 arg3 harg3 arg4 harg4 arg5 harg5 arg6 harg6 arg7 harg7 arg8 harg8 arg9 harg9 arg16 x0 x1 x2 x3 x4 x5 x6 x7 = (L .f32 fun b => (X b).dk) := by
  unfold sl.r_64
  rw [A_r_11 hp, A_r_17 hp, A_r_18, A_r_42 hp hs, A_r_57 hp hs, A_r_61 hp hs]
  exact p154 X

theorem A_r_23 (hp : Packed X x0 x1 x2 x3 x4 x5 x6 x7) : sl.r_23 (F := Ideal) c arg2 harg2 arg3 harg3 arg4 harg4 arg6 harg6 arg7 harg7 x0 x1 x2 x4 x5 = (L .f32 fun b => hcat (X b).al (X b).mak) := by
  unfold sl.r_23
  rw [A_v79 hp, A_v156 hp, A_v233 hp, A_v387 hp, A_r_6 hp, A_r_8 hp, A_r_9 hp, A_r_10 hp, p71, p72]
  exact p90 X

theorem A_r_44 (hp : Packed X x0 x1 x2 x3 x4 x5 x6 x7) (hs : (L .f32 (fun _ => 0 : Fin 32 → Mat) : FVec Ideal S32x64x64 .f32) = L .f32 fun b => (X b).dS) : sl.r_44 (F := Ideal) c arg3 harg3 arg4 harg4 arg6 harg6 arg7 harg7 arg16 x1 x2 x4 x5 = (L .f32 fun b => (X b).kt * (X b).Eᵀ) := by
  unfold sl.r_44
  rw [A_r_16 hp, A_r_38 hp, A_v675 hs]
  exact p123 X

theorem A_r_51 (hp : Packed X x0 x1 x2 x3 x4 x5 x6 x7) (hs : (L .f32 (fun _ => 0 : Fin 32 → Mat) : FVec Ideal S32x64x64 .f32) = L .f32 fun b => (X b).dS) : sl.r_51 (F := Ideal) c arg2 harg2 arg3 harg3 arg4 harg4 arg6 harg6 arg7 harg7 arg9 harg9 arg16 x0 x1 x2 x4 x5 x7 = (L .f32 fun b => (X b).kt * (X b).Eᵀ + (X b).mrkᵀ * (X b).dy) := by
  unfold sl.r_51
  rw [A_r_34 hp, A_r_39 hp, A_r_44 hp hs]
  exact p132 X

theorem A_r_58 (hp : Packed X x0 x1 x2 x3 x4 x5 x6 x7) (hs : (L .f32 (fun _ => 0 : Fin 32 → Mat) : FVec Ideal S32x64x64 .f32) = L .f32 fun b => (X b).dS) : sl.r_58 (F := Ideal) c arg2 harg2 arg3 harg3 arg4 harg4 arg6 harg6 arg7 harg7 arg9 harg9 arg16 x0 x1 x2 x4 x5 x7 = (L .f32 fun b => (X b).dv) := by
  unfold sl.r_58
  rw [A_r_23 hp, A_r_51 hp hs, A_r_55 hp hs]
  exact p141 X

theorem A_r_67 (hp : Packed X x0 x1 x2 x3 x4 x5 x6 x7) (hs : (L .f32 (fun _ => 0 : Fin 32 → Mat) : FVec Ideal S32x64x64 .f32) = L .f32 fun b => (X b).dS) : sl.r_67 (F := Ideal) c arg2 harg2 arg3 harg3 arg4 harg4 arg5 harg5 arg6 harg6 arg7 harg7 arg8 harg8 arg9 harg9 arg16 x0 x1 x2 x3 x4 x5 x6 x7 = (L .f32 fun b => had (had (X b).dbe (X b).en) (X b).a) := by
  unfold sl.r_67
  rw [A_r_6 hp, A_r_11 hp, A_r_17 hp, A_r_18, A_r_42 hp hs, A_r_57 hp hs, A_r_61 hp hs]
  exact p158 X

theorem A_r_68 (hp : Packed X x0 x1 x2 x3 x4 x5 x6 x7) (hs : (L .f32 (fun _ => 0 : Fin 32 → Mat) : FVec Ideal S32x64x64 .f32) = L .f32 fun b => (X b).dS) : sl.r_68 (F := Ideal) c arg2 harg2 arg3 harg3 arg4 harg4 arg5 harg5 arg6 harg6 arg7 harg7 arg8 harg8 arg9 harg9 arg16 x0 x1 x2 x3 x4 x5 x6 x7 = (L .f32 fun b => had (X b).dal (X b).ex) := by
  unfold sl.r_68
  rw [A_r_13 hp, A_r_16 hp, A_r_18, A_r_57 hp hs, A_r_59 hp hs, A_r_61 hp hs]
  exact p159 X

theorem A_r_70 (hp : Packed X x0 x1 x2 x3 x4 x5 x6 x7) (hs : (L .f32 (fun _ => 0 : Fin 32 → Mat) : FVec Ideal S32x64x64 .f32) = L .f32 fun b => (X b).dS) : sl.r_70 (F := Ideal) c arg2 harg2 arg3 harg3 arg4 harg4 arg5 harg5 arg6 harg6 arg7 harg7 arg8 harg8 arg9 harg9 arg16 x0 x1 x2 x3 x4 x5 x6 x7 = (L .f32 fun b => (X b).dkap) := by
  unfold sl.r_70
  rw [A_r_67 hp hs, A_r_68 hp hs]
  exact p161 X

theorem A_r_66 (hp : Packed X x0 x1 x2 x3 x4 x5 x6 x7) (hs : (L .f32 (fun _ => 0 : Fin 32 → Mat) : FVec Ideal S32x64x64 .f32) = L .f32 fun b => (X b).dS) : sl.r_66 (F := Ideal) c arg2 harg2 arg3 harg3 arg4 harg4 arg5 harg5 arg6 harg6 arg7 harg7 arg8 harg8 arg9 harg9 arg16 x0 x1 x2 x3 x4 x5 x6 x7 = (L .f32 fun b => (X b).da) := by
  unfold sl.r_66
  rw [A_v387 hp, A_r_11 hp, A_r_17 hp, A_r_18, A_r_42 hp hs, A_r_57 hp hs, A_r_61 hp hs]
  exact p157 X

theorem A_r_40 (hp : Packed X x0 x1 x2 x3 x4 x5 x6 x7) (hs : (L .f32 (fun _ => 0 : Fin 32 → Mat) : FVec Ideal S32x64x64 .f32) = L .f32 fun b => (X b).dS) : sl.r_40 (F := Ideal) c arg3 harg3 arg16 x1 = (L .f32 fun b => (X b).E) := by
  unfold sl.r_40
  rw [A_r_38 hp, A_v675 hs]
  exact p118 X

theorem A_r_50 (hp : Packed X x0 x1 x2 x3 x4 x5 x6 x7) : sl.r_50 (F := Ideal) c arg2 harg2 arg3 harg3 arg4 harg4 arg6 harg6 arg7 harg7 arg9 harg9 x0 x1 x2 x4 x5 x7 = (L .f32 fun b => (X b).rtᵀ * (X b).dy) := by
  unfold sl.r_50
  rw [A_r_34 hp, A_r_39 hp]
  exact p131 X

theorem A_r_60 (hp : Packed X x0 x1 x2 x3 x4 x5 x6 x7) (hs : (L .f32 (fun _ => 0 : Fin 32 → Mat) : FVec Ideal S32x64x64 .f32) = L .f32 fun b => (X b).dS) : sl.r_60 (F := Ideal) c arg2 harg2 arg3 harg3 arg4 harg4 arg6 harg6 arg7 harg7 arg9 harg9 arg16 x0 x1 x2 x4 x5 x7 = (L .f32 fun b => (X b).dS0) := by
  unfold sl.r_60
  rw [A_r_23 hp, A_r_40 hp hs, A_r_50 hp, A_r_55 hp hs]
  exact p143 X

theorem A_out_8 (hp : Packed X x0 x1 x2 x3 x4 x5 x6 x7) (hs : (L .f32 (fun _ => 0 : Fin 32 → Mat) : FVec Ideal S32x64x64 .f32) = L .f32 fun b => (X b).dS) : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = unpack (L .f32 fun b => (X b).dr) := by
  unfold out0_A_8
  refine (View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)).trans ?_
  unfold kernelRun0_A
  dsimp only
  refine Eq.trans (canon4 (sl.r_63 c arg2 harg2 arg3 harg3 arg4 harg4 arg5 harg5 arg6 harg6 arg7 harg7 arg8 harg8 arg9 harg9 arg16 x0 x1 x2 x3 x4 x5 x6 x7) _ _ _ _ ?_ ?_ ?_ ?_) (congrArg unpack (A_r_63 hp hs))
  · intro t l
    unfold sl.v903 sl.r_72 k0_pay164
    exact up0 _ t l
  · intro t l
    unfold sl.v924 sl.v921 sl.v906 sl.v905 sl.v908 sl.v907 sl.v910 sl.v909 sl.v912 sl.v911 sl.v914 sl.v913 sl.v916 sl.v915 sl.v918 sl.v917 sl.v920 sl.v919 sl.v904
    exact up1 _ t l
  · intro t l
    unfold sl.v945 sl.v942 sl.v927 sl.v926 sl.v929 sl.v928 sl.v931 sl.v930 sl.v933 sl.v932 sl.v935 sl.v934 sl.v937 sl.v936 sl.v939 sl.v938 sl.v941 sl.v940 sl.v925
    exact up2 _ t l
  · intro t l
    unfold sl.v966 sl.v963 sl.v948 sl.v947 sl.v950 sl.v949 sl.v952 sl.v951 sl.v954 sl.v953 sl.v956 sl.v955 sl.v958 sl.v957 sl.v960 sl.v959 sl.v962 sl.v961 sl.v946
    exact up3 _ t l

theorem A_out_9 (hp : Packed X x0 x1 x2 x3 x4 x5 x6 x7) (hs : (L .f32 (fun _ => 0 : Fin 32 → Mat) : FVec Ideal S32x64x64 .f32) = L .f32 fun b => (X b).dS) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = unpack (L .f32 fun b => (X b).dlw) := by
  unfold out0_A_9
  refine (View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)).trans ?_
  unfold kernelRun0_A
  dsimp only
  refine Eq.trans (canon4 (sl.r_71 c arg2 harg2 arg3 harg3 arg4 harg4 arg5 harg5 arg6 harg6 arg7 harg7 arg8 harg8 arg9 harg9 arg16 x0 x1 x2 x3 x4 x5 x6 x7) _ _ _ _ ?_ ?_ ?_ ?_) (congrArg unpack (A_r_71 hp hs))
  · intro t l
    unfold sl.v987 sl.v984 sl.v969 sl.v968 sl.v971 sl.v970 sl.v973 sl.v972 sl.v975 sl.v974 sl.v977 sl.v976 sl.v979 sl.v978 sl.v981 sl.v980 sl.v983 sl.v982 sl.v967
    exact up0 _ t l
  · intro t l
    unfold sl.v1008 sl.v1005 sl.v990 sl.v989 sl.v992 sl.v991 sl.v994 sl.v993 sl.v996 sl.v995 sl.v998 sl.v997 sl.v1000 sl.v999 sl.v1002 sl.v1001 sl.v1004 sl.v1003 sl.v988
    exact up1 _ t l
  · intro t l
    unfold sl.v1029 sl.v1026 sl.v1011 sl.v1010 sl.v1013 sl.v1012 sl.v1015 sl.v1014 sl.v1017 sl.v1016 sl.v1019 sl.v1018 sl.v1021 sl.v1020 sl.v1023 sl.v1022 sl.v1025 sl.v1024 sl.v1009
    exact up2 _ t l
  · intro t l
    unfold sl.v1050 sl.v1047 sl.v1032 sl.v1031 sl.v1034 sl.v1033 sl.v1036 sl.v1035 sl.v1038 sl.v1037 sl.v1040 sl.v1039 sl.v1042 sl.v1041 sl.v1044 sl.v1043 sl.v1046 sl.v1045 sl.v1030
    exact up3 _ t l

theorem A_out_10 (hp : Packed X x0 x1 x2 x3 x4 x5 x6 x7) (hs : (L .f32 (fun _ => 0 : Fin 32 → Mat) : FVec Ideal S32x64x64 .f32) = L .f32 fun b => (X b).dS) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = unpack (L .f32 fun b => (X b).dk) := by
  unfold out0_A_10
  refine (View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)).trans ?_
  unfold kernelRun0_A
  dsimp only
  refine Eq.trans (canon4 (sl.r_64 c arg2 harg2 arg3 harg3 arg4 harg4 arg5 harg5 arg6 harg6 arg7 harg7 arg8 harg8 arg9 harg9 arg16 x0 x1 x2 x3 x4 x5 x6 x7) _ _ _ _ ?_ ?_ ?_ ?_) (congrArg unpack (A_r_64 hp hs))
  · intro t l
    unfold sl.v1071 sl.v1068 sl.v1053 sl.v1052 sl.v1055 sl.v1054 sl.v1057 sl.v1056 sl.v1059 sl.v1058 sl.v1061 sl.v1060 sl.v1063 sl.v1062 sl.v1065 sl.v1064 sl.v1067 sl.v1066 sl.v1051
    exact up0 _ t l
  · intro t l
    unfold sl.v1092 sl.v1089 sl.v1074 sl.v1073 sl.v1076 sl.v1075 sl.v1078 sl.v1077 sl.v1080 sl.v1079 sl.v1082 sl.v1081 sl.v1084 sl.v1083 sl.v1086 sl.v1085 sl.v1088 sl.v1087 sl.v1072
    exact up1 _ t l
  · intro t l
    unfold sl.v1113 sl.v1110 sl.v1095 sl.v1094 sl.v1097 sl.v1096 sl.v1099 sl.v1098 sl.v1101 sl.v1100 sl.v1103 sl.v1102 sl.v1105 sl.v1104 sl.v1107 sl.v1106 sl.v1109 sl.v1108 sl.v1093
    exact up2 _ t l
  · intro t l
    unfold sl.v1134 sl.v1131 sl.v1116 sl.v1115 sl.v1118 sl.v1117 sl.v1120 sl.v1119 sl.v1122 sl.v1121 sl.v1124 sl.v1123 sl.v1126 sl.v1125 sl.v1128 sl.v1127 sl.v1130 sl.v1129 sl.v1114
    exact up3 _ t l

theorem A_out_11 (hp : Packed X x0 x1 x2 x3 x4 x5 x6 x7) (hs : (L .f32 (fun _ => 0 : Fin 32 → Mat) : FVec Ideal S32x64x64 .f32) = L .f32 fun b => (X b).dS) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = unpack (L .f32 fun b => (X b).dv) := by
  unfold out0_A_11
  refine (View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)).trans ?_
  unfold kernelRun0_A
  dsimp only
  refine Eq.trans (canon4 (sl.r_58 c arg2 harg2 arg3 harg3 arg4 harg4 arg6 harg6 arg7 harg7 arg9 harg9 arg16 x0 x1 x2 x4 x5 x7) _ _ _ _ ?_ ?_ ?_ ?_) (congrArg unpack (A_r_58 hp hs))
  · intro t l
    unfold sl.v1155 sl.v1152 sl.v1137 sl.v1136 sl.v1139 sl.v1138 sl.v1141 sl.v1140 sl.v1143 sl.v1142 sl.v1145 sl.v1144 sl.v1147 sl.v1146 sl.v1149 sl.v1148 sl.v1151 sl.v1150 sl.v1135
    exact up0 _ t l
  · intro t l
    unfold sl.v1176 sl.v1173 sl.v1158 sl.v1157 sl.v1160 sl.v1159 sl.v1162 sl.v1161 sl.v1164 sl.v1163 sl.v1166 sl.v1165 sl.v1168 sl.v1167 sl.v1170 sl.v1169 sl.v1172 sl.v1171 sl.v1156
    exact up1 _ t l
  · intro t l
    unfold sl.v1197 sl.v1194 sl.v1179 sl.v1178 sl.v1181 sl.v1180 sl.v1183 sl.v1182 sl.v1185 sl.v1184 sl.v1187 sl.v1186 sl.v1189 sl.v1188 sl.v1191 sl.v1190 sl.v1193 sl.v1192 sl.v1177
    exact up2 _ t l
  · intro t l
    unfold sl.v1218 sl.v1215 sl.v1200 sl.v1199 sl.v1202 sl.v1201 sl.v1204 sl.v1203 sl.v1206 sl.v1205 sl.v1208 sl.v1207 sl.v1210 sl.v1209 sl.v1212 sl.v1211 sl.v1214 sl.v1213 sl.v1198
    exact up3 _ t l

theorem A_out_12 (hp : Packed X x0 x1 x2 x3 x4 x5 x6 x7) (hs : (L .f32 (fun _ => 0 : Fin 32 → Mat) : FVec Ideal S32x64x64 .f32) = L .f32 fun b => (X b).dS) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = unpack (L .f32 fun b => (X b).dkap) := by
  unfold out0_A_12
  refine (View.read_writes_eq_canon _ _ _ (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)).trans ?_
  unfold kernelRun0_A
  dsimp only
  refine Eq.trans (canon4 (sl.r_70 c arg2 harg2 arg3 harg3 arg4 harg4 arg5 harg5 arg6 harg6 arg7 harg7 arg8 harg8 arg9 harg9 arg16 x0 x1 x2 x3 x4 x5 x6 x7) _ _ _ _ ?_ ?_ ?_ ?_) (congrArg unpack (A_r_70 hp hs))
  · intro t l
    unfold sl.v1239 sl.v1236 sl.v1221 sl.v1220 sl.v1223 sl.v1222 sl.v1225 sl.v1224 sl.v1227 sl.v1226 sl.v1229 sl.v1228 sl.v1231 sl.v1230 sl.v1233 sl.v1232 sl.v1235 sl.v1234 sl.v1219
    exact up0 _ t l
  · intro t l
    unfold sl.v1260 sl.v1257 sl.v1242 sl.v1241 sl.v1244 sl.v1243 sl.v1246 sl.v1245 sl.v1248 sl.v1247 sl.v1250 sl.v1249 sl.v1252 sl.v1251 sl.v1254 sl.v1253 sl.v1256 sl.v1255 sl.v1240
    exact up1 _ t l
  · intro t l
    unfold sl.v1281 sl.v1278 sl.v1263 sl.v1262 sl.v1265 sl.v1264 sl.v1267 sl.v1266 sl.v1269 sl.v1268 sl.v1271 sl.v1270 sl.v1273 sl.v1272 sl.v1275 sl.v1274 sl.v1277 sl.v1276 sl.v1261
    exact up2 _ t l
  · intro t l
    unfold sl.v1302 sl.v1299 sl.v1284 sl.v1283 sl.v1286 sl.v1285 sl.v1288 sl.v1287 sl.v1290 sl.v1289 sl.v1292 sl.v1291 sl.v1294 sl.v1293 sl.v1296 sl.v1295 sl.v1298 sl.v1297 sl.v1282
    exact up3 _ t l

theorem A_out_13 (hp : Packed X x0 x1 x2 x3 x4 x5 x6 x7) (hs : (L .f32 (fun _ => 0 : Fin 32 → Mat) : FVec Ideal S32x64x64 .f32) = L .f32 fun b => (X b).dS) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = unpack (L .f32 fun b => (X b).da) := by
  unfold out0_A_13
  refine (View.read_writes_eq_canon _ _ _ (cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)).trans ?_
  unfold kernelRun0_A
  dsimp only
  refine Eq.trans (canon4 (sl.r_66 c arg2 harg2 arg3 harg3 arg4 harg4 arg5 harg5 arg6 harg6 arg7 harg7 arg8 harg8 arg9 harg9 arg16 x0 x1 x2 x3 x4 x5 x6 x7) _ _ _ _ ?_ ?_ ?_ ?_) (congrArg unpack (A_r_66 hp hs))
  · intro t l
    unfold sl.v1323 sl.v1320 sl.v1305 sl.v1304 sl.v1307 sl.v1306 sl.v1309 sl.v1308 sl.v1311 sl.v1310 sl.v1313 sl.v1312 sl.v1315 sl.v1314 sl.v1317 sl.v1316 sl.v1319 sl.v1318 sl.v1303
    exact up0 _ t l
  · intro t l
    unfold sl.v1344 sl.v1341 sl.v1326 sl.v1325 sl.v1328 sl.v1327 sl.v1330 sl.v1329 sl.v1332 sl.v1331 sl.v1334 sl.v1333 sl.v1336 sl.v1335 sl.v1338 sl.v1337 sl.v1340 sl.v1339 sl.v1324
    exact up1 _ t l
  · intro t l
    unfold k0_pay228
    exact up2 _ t l
  · intro t l
    unfold k0_pay1 sl.r_73 k0_pay229
    exact up3 _ t l

theorem A_sout (hp : Packed X x0 x1 x2 x3 x4 x5 x6 x7) (hs : (L .f32 (fun _ => 0 : Fin 32 → Mat) : FVec Ideal S32x64x64 .f32) = L .f32 fun b => (X b).dS) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = L .f32 fun b => (X b).dS0 := by
  unfold sout0_A_0
  refine (View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)).trans ?_
  unfold kernelRun0_A
  dsimp only
  rw [View.canon_cons_unit_zero (S := S32x64x64) hz3, A_r_60 hp hs]
  exact p163 X

end Cert.Wkv

end
-- ==== Proof.PointB.lean ====
/- What the body leaves at a later point, as the values of the chunk. -/
module

public import proofs.«01_k».proof.Proof.Pack
public import proofs.«01_k».proof.Proof.Gen.KernelIdeal.Frame

@[expose] public section

set_option maxRecDepth 16384

noncomputable section

namespace Cert.Wkv

open Idealize.ShloMosaic Matrix
open Cert.KernelIdeal Cert.KernelIdeal.Gen Cert.KernelIdeal.Gen.kernelRun0_B

variable {X : Fin 32 → In} {c : Dev nD} {i : grid0.Coords}
  {arg2 : Memref sig .tc .vmem S4x64x512 .f32} {harg2 : arg2.IsWhole}
  {arg3 : Memref sig .tc .vmem S4x64x512 .f32} {harg3 : arg3.IsWhole}
  {arg4 : Memref sig .tc .vmem S4x64x512 .f32} {harg4 : arg4.IsWhole}
  {arg5 : Memref sig .tc .vmem S4x64x512 .f32} {harg5 : arg5.IsWhole}
  {arg6 : Memref sig .tc .vmem S4x64x512 .f32} {harg6 : arg6.IsWhole}
  {arg7 : Memref sig .tc .vmem S4x64x512 .f32} {harg7 : arg7.IsWhole}
  {arg8 : Memref sig .tc .vmem S4x1x8x64x64 .f32} {harg8 : arg8.IsWhole}
  {arg9 : Memref sig .tc .vmem S4x64x512 .f32} {harg9 : arg9.IsWhole}
  {arg10 : Memref sig .tc .vmem S4x64x512 .f32} {harg10 : arg10.IsWhole}
  {arg11 : Memref sig .tc .vmem S4x64x512 .f32} {harg11 : arg11.IsWhole}
  {arg12 : Memref sig .tc .vmem S4x64x512 .f32} {harg12 : arg12.IsWhole}
  {arg13 : Memref sig .tc .vmem S4x64x512 .f32} {harg13 : arg13.IsWhole}
  {arg14 : Memref sig .tc .vmem S4x64x512 .f32} {harg14 : arg14.IsWhole}
  {arg15 : Memref sig .tc .vmem S4x64x512 .f32} {harg15 : arg15.IsWhole}
  {arg16 : Memref sig .tc .vmem S32x64x64 .f32} {harg16 : arg16.IsWhole}
  {hc0 : ¬cond0_0 i} {x0 x1 x2 x3 x4 x5 : FVec Ideal S4x64x512 .f32} {x6 : FVec Ideal S4x1x8x64x64 .f32} {x7 : FVec Ideal S4x64x512 .f32} {xs0 : FVec Ideal S32x64x64 .f32}

theorem B_v156 (hp : Packed X x0 x1 x2 x3 x4 x5 x6 x7) : sl.v156 (F := Ideal) c arg3 harg3 x1 = L .f32 fun b => (X b).lw :=
  Eq.trans (pk _ _ _ _ x1 (rd0 arg3 harg3 x1 _) (rd1 arg3 harg3 x1 _) (rd2 arg3 harg3 x1 _) (rd3 arg3 harg3 x1 _)) hp.lw

theorem B_r_9 (hp : Packed X x0 x1 x2 x3 x4 x5 x6 x7) : sl.r_9 (F := Ideal) c arg3 harg3 x1 = (L .f32 fun b => (X b).ep) := by
  unfold sl.r_9
  rw [B_v156 hp]
  exact p74 X

theorem B_v233 (hp : Packed X x0 x1 x2 x3 x4 x5 x6 x7) : sl.v233 (F := Ideal) c arg4 harg4 x2 = L .f32 fun b => (X b).k :=
  Eq.trans (pk _ _ _ _ x2 (rd0 arg4 harg4 x2 _) (rd1 arg4 harg4 x2 _) (rd2 arg4 harg4 x2 _) (rd3 arg4 harg4 x2 _)) hp.k

theorem B_v387 (hp : Packed X x0 x1 x2 x3 x4 x5 x6 x7) : sl.v387 (F := Ideal) c arg6 harg6 x4 = L .f32 fun b => (X b).kap :=
  Eq.trans (pk _ _ _ _ x4 (rd0 arg6 harg6 x4 _) (rd1 arg6 harg6 x4 _) (rd2 arg6 harg6 x4 _) (rd3 arg6 harg6 x4 _)) hp.kap

theorem B_r_6 (hp : Packed X x0 x1 x2 x3 x4 x5 x6 x7) : sl.r_6 (F := Ideal) c arg7 harg7 x5 = L .f32 fun b => (X b).a :=
  Eq.trans (pk _ _ _ _ x5 (rd0 arg7 harg7 x5 _) (rd1 arg7 harg7 x5 _) (rd2 arg7 harg7 x5 _) (rd3 arg7 harg7 x5 _)) hp.a

theorem B_r_10 (hp : Packed X x0 x1 x2 x3 x4 x5 x6 x7) : sl.r_10 (F := Ideal) c arg3 harg3 x1 = (L .f32 fun b => -(X b).cum) := by
  unfold sl.r_10
  rw [B_v156 hp]
  exact p75 X

theorem B_r_16 (hp : Packed X x0 x1 x2 x3 x4 x5 x6 x7) : sl.r_16 (F := Ideal) c arg3 harg3 arg4 harg4 arg6 harg6 arg7 harg7 x1 x2 x4 x5 = (L .f32 fun b => vcat (X b).be (X b).kt) := by
  unfold sl.r_16
  rw [B_v233 hp, B_v387 hp, B_r_6 hp, B_r_10 hp]
  exact p82 X

theorem B_r_18  : sl.r_18 (F := Ideal)  = (L .f32 fun _ : Fin 1 => hcat (vcat strict incl) (vcat strict incl)) := by
  unfold sl.r_18
  rw [p71, p72]
  exact p84

theorem B_r_39 (hp : Packed X x0 x1 x2 x3 x4 x5 x6 x7) : sl.r_39 (F := Ideal) c arg9 harg9 x7 = L .f32 fun b => (X b).dy :=
  Eq.trans (pk _ _ _ _ x7 (rd0 arg9 harg9 x7 _) (rd1 arg9 harg9 x7 _) (rd2 arg9 harg9 x7 _) (rd3 arg9 harg9 x7 _)) hp.dy

theorem B_r_45 (hp : Packed X x0 x1 x2 x3 x4 x5 x6 x7) : sl.r_45 (F := Ideal) c arg9 harg9 x7 = (L .bf16 fun b => (X b).dy) := by
  unfold sl.r_45
  exact p124 X _ _ _ _ _ _ _ _ _ _ _ (B_r_39 hp)

theorem B_v310 (hp : Packed X x0 x1 x2 x3 x4 x5 x6 x7) : sl.v310 (F := Ideal) c arg5 harg5 x3 = L .f32 fun b => (X b).v :=
  Eq.trans (pk _ _ _ _ x3 (rd0 arg5 harg5 x3 _) (rd1 arg5 harg5 x3 _) (rd2 arg5 harg5 x3 _) (rd3 arg5 harg5 x3 _)) hp.v

theorem B_pk_1 : sl.r_1 (F := Ideal) c arg2 harg2 x0 = k0_pay3 (View.readAt (Elt Ideal) arg2.view (Rect.unit (s := S4x64x512) ![1, 0, 0] S1x64x512.size inb_S4x64x512_S1x64x512_1_0_0).toLoadRect (harg2.unread x0)) := by
  unfold sl.r_1 k0_pay4 k0_pay3
  rfl

theorem B_pk_2 : sl.v59 (F := Ideal) c arg2 harg2 x0 = k0_pay3 (View.readAt (Elt Ideal) arg2.view (Rect.unit (s := S4x64x512) ![2, 0, 0] S1x64x512.size inb_S4x64x512_S1x64x512_2_0_0).toLoadRect (harg2.unread x0)) := by
  unfold sl.v59 sl.v51 sl.v52 sl.v53 sl.v54 sl.v55 sl.v56 sl.v57 sl.v58 sl.v46 sl.v47 sl.v48 sl.v49 sl.v50 sl.r_2 sl.r_3 sl.r_4 sl.r_5 k0_pay8 k0_pay7 k0_pay6 k0_pay5 k0_pay3
  rfl

theorem B_pk_3 : sl.v78 (F := Ideal) c arg2 harg2 x0 = k0_pay3 (View.readAt (Elt Ideal) arg2.view (Rect.unit (s := S4x64x512) ![3, 0, 0] S1x64x512.size inb_S4x64x512_S1x64x512_3_0_0).toLoadRect (harg2.unread x0)) := by
  unfold sl.v78 sl.v70 sl.v71 sl.v72 sl.v73 sl.v74 sl.v75 sl.v76 sl.v77 sl.v62 sl.v63 sl.v64 sl.v65 sl.v66 sl.v67 sl.v68 sl.v69 sl.v61 k0_pay3
  rfl

theorem B_v79 (hp : Packed X x0 x1 x2 x3 x4 x5 x6 x7) : sl.v79 (F := Ideal) c arg2 harg2 x0 = L .f32 fun b => (X b).r := by
  unfold sl.v79
  exact ((cat4 rfl B_pk_1 B_pk_2 B_pk_3).trans (pk (View.readAt (Elt Ideal) arg2.view (Rect.unit (s := S4x64x512) ![0, 0, 0] S1x64x512.size inb_S4x64x512_S1x64x512_0_0_0).toLoadRect (harg2.unread x0)) (View.readAt (Elt Ideal) arg2.view (Rect.unit (s := S4x64x512) ![1, 0, 0] S1x64x512.size inb_S4x64x512_S1x64x512_1_0_0).toLoadRect (harg2.unread x0)) (View.readAt (Elt Ideal) arg2.view (Rect.unit (s := S4x64x512) ![2, 0, 0] S1x64x512.size inb_S4x64x512_S1x64x512_2_0_0).toLoadRect (harg2.unread x0)) (View.readAt (Elt Ideal) arg2.view (Rect.unit (s := S4x64x512) ![3, 0, 0] S1x64x512.size inb_S4x64x512_S1x64x512_3_0_0).toLoadRect (harg2.unread x0)) x0 (rd0 arg2 harg2 x0 _) (rd1 arg2 harg2 x0 _) (rd2 arg2 harg2 x0 _) (rd3 arg2 harg2 x0 _))).trans hp.r

theorem B_r_8 (hp : Packed X x0 x1 x2 x3 x4 x5 x6 x7) : sl.r_8 (F := Ideal) c arg3 harg3 x1 = (L .f32 fun b => (X b).cum) := by
  unfold sl.r_8
  rw [B_v156 hp]
  exact p73 X

theorem B_r_19 (hp : Packed X x0 x1 x2 x3 x4 x5 x6 x7) : sl.r_19 (F := Ideal) c arg2 harg2 arg3 harg3 arg4 harg4 arg6 harg6 arg7 harg7 x0 x1 x2 x4 x5 = (L .f32 fun b => (X b).mab) := by
  unfold sl.r_19
  rw [B_v79 hp, B_v156 hp, B_v233 hp, B_v387 hp, B_r_6 hp, B_r_8 hp, B_r_9 hp, B_r_10 hp, p71, p72]
  exact p86 X

theorem B_r_7 (hp : Packed X x0 x1 x2 x3 x4 x5 x6 x7) : sl.r_7 (F := Ideal) c arg8 harg8 x6 = L .f32 fun b => (X b).S0 :=
  Eq.trans (pkS _ _ _ _ x6 (rdS0 arg8 harg8 x6 _) (rdS1 arg8 harg8 x6 _) (rdS2 arg8 harg8 x6 _) (rdS3 arg8 harg8 x6 _)) hp.S0

theorem B_r_22 (hp : Packed X x0 x1 x2 x3 x4 x5 x6 x7) : sl.r_22 (F := Ideal) c arg8 harg8 x6 = (L .f32 fun b => (X b).S0ᵀ) := by
  unfold sl.r_22
  rw [B_r_7 hp]
  exact p89 X

theorem B_r_25 (hp : Packed X x0 x1 x2 x3 x4 x5 x6 x7) : sl.r_25 (F := Ideal) c arg2 harg2 arg3 harg3 arg4 harg4 arg5 harg5 arg6 harg6 arg7 harg7 arg8 harg8 x0 x1 x2 x3 x4 x5 x6 = (L .f32 fun b => (X b).al * (X b).S0ᵀ + (X b).mak * (X b).v) := by
  unfold sl.r_25
  rw [B_v79 hp, B_v156 hp, B_v233 hp, B_v310 hp, B_v387 hp, B_r_6 hp, B_r_7 hp, B_r_8 hp, B_r_9 hp, B_r_10 hp, p71, p72]
  exact p92 X

theorem B_r_26 (hp : Packed X x0 x1 x2 x3 x4 x5 x6 x7) : sl.r_26 (F := Ideal) c arg2 harg2 arg3 harg3 arg4 harg4 arg6 harg6 arg7 harg7 x0 x1 x2 x4 x5 = (L .bf16 fun b => (X b).mab) := by
  unfold sl.r_26
  rw [B_v79 hp, B_v156 hp, B_v233 hp, B_v387 hp, B_r_6 hp, B_r_8 hp, B_r_9 hp, B_r_10 hp, p71, p72]
  exact p93 X

theorem B_r_27 (hp : Packed X x0 x1 x2 x3 x4 x5 x6 x7) : sl.r_27 (F := Ideal) c arg2 harg2 arg3 harg3 arg4 harg4 arg6 harg6 arg7 harg7 x0 x1 x2 x4 x5 = (L .bf16 fun b => (X b).mab) := by
  unfold sl.r_27
  rw [B_v79 hp, B_v156 hp, B_v233 hp, B_v387 hp, B_r_6 hp, B_r_8 hp, B_r_9 hp, B_r_10 hp, p71, p72]
  exact p94 X

theorem B_r_35 (hp : Packed X x0 x1 x2 x3 x4 x5 x6 x7) : sl.r_35 (F := Ideal) c arg2 harg2 arg3 harg3 arg4 harg4 arg5 harg5 arg6 harg6 arg7 harg7 arg8 harg8 x0 x1 x2 x3 x4 x5 x6 = (L .f32 fun b => vcat3 (X b).S0ᵀ (X b).sa (X b).v) := by
  unfold sl.r_35
  rw [B_v310 hp, B_r_19 hp, B_r_22 hp, B_r_25 hp, B_r_26 hp, B_r_27 hp]
  exact p102 X

theorem B_r_46 (hp : Packed X x0 x1 x2 x3 x4 x5 x6 x7) : sl.r_46 (F := Ideal) c arg2 harg2 arg3 harg3 arg4 harg4 arg5 harg5 arg6 harg6 arg7 harg7 arg8 harg8 x0 x1 x2 x3 x4 x5 x6 = (L .bf16 fun b => vcat3 (X b).S0ᵀ (X b).sa (X b).v) := by
  unfold sl.r_46
  rw [B_r_35 hp]
  exact p125 X

theorem B_r_47 (hp : Packed X x0 x1 x2 x3 x4 x5 x6 x7) : sl.r_47 (F := Ideal) c arg9 harg9 x7 = (L .bf16 fun _ : Fin 32 => (0 : Mat)) := by
  unfold sl.r_47
  exact p126 X _ _ _ _ _ _ _ _ _ _ _ (B_r_39 hp)

theorem B_r_48 (hp : Packed X x0 x1 x2 x3 x4 x5 x6 x7) : sl.r_48 (F := Ideal) c arg2 harg2 arg3 harg3 arg4 harg4 arg5 harg5 arg6 harg6 arg7 harg7 arg8 harg8 x0 x1 x2 x3 x4 x5 x6 = (L .bf16 fun _ : Fin 32 => (0 : Matrix (Fin 192) (Fin 64) ℝ)) := by
  unfold sl.r_48
  rw [B_r_35 hp]
  exact p127 X

theorem B_r_49 (hp : Packed X x0 x1 x2 x3 x4 x5 x6 x7) : sl.r_49 (F := Ideal) c arg2 harg2 arg3 harg3 arg4 harg4 arg5 harg5 arg6 harg6 arg7 harg7 arg8 harg8 arg9 harg9 x0 x1 x2 x3 x4 x5 x6 x7 = (L .f32 fun b => hcat3 ((X b).dy * (X b).S0) ((X b).dy * (X b).saᵀ) ((X b).dy * (X b).vᵀ)) := by
  unfold sl.r_49
  rw [B_r_35 hp]
  exact p128 X _ _ _ _ _ _ _ _ _ _ _ (B_r_39 hp)

theorem B_cst_130  : sl.cst_130 (F := Ideal)  = (L .f32 fun _ : Fin 32 => (0 : Matrix (Fin 64) (Fin 192) ℝ)) := constant_L

theorem B_r_52 (hp : Packed X x0 x1 x2 x3 x4 x5 x6 x7) : sl.r_52 (F := Ideal) c arg2 harg2 arg3 harg3 arg4 harg4 arg5 harg5 arg6 harg6 arg7 harg7 arg8 harg8 arg9 harg9 x0 x1 x2 x3 x4 x5 x6 x7 = (L .f32 fun b => (X b).dy * (X b).S0) := by
  unfold sl.r_52
  rw [B_r_45 hp, B_r_46 hp, B_r_47 hp, B_r_48 hp, B_r_49 hp, B_cst_130]
  exact p133 X

theorem B_r_33 (hp : Packed X x0 x1 x2 x3 x4 x5 x6 x7) : sl.r_33 (F := Ideal) c arg2 harg2 arg3 harg3 arg4 harg4 arg5 harg5 arg6 harg6 arg7 harg7 arg8 harg8 x0 x1 x2 x3 x4 x5 x6 = (L .f32 fun b => (X b).sa) := by
  unfold sl.r_33
  rw [B_r_19 hp, B_r_25 hp, B_r_26 hp, B_r_27 hp]
  exact p100 X

theorem B_r_28 (hp : Packed X x0 x1 x2 x3 x4 x5 x6 x7) : sl.r_28 (F := Ideal) c arg2 harg2 arg3 harg3 arg4 harg4 arg6 harg6 arg7 harg7 x0 x1 x2 x4 x5 = (L .f32 fun b => (X b).m2) := by
  unfold sl.r_28
  rw [B_r_26 hp, B_r_27 hp]
  exact p95 X

theorem B_r_29 (hp : Packed X x0 x1 x2 x3 x4 x5 x6 x7) : sl.r_29 (F := Ideal) c arg2 harg2 arg3 harg3 arg4 harg4 arg6 harg6 arg7 harg7 x0 x1 x2 x4 x5 = (L .f32 fun b => (X b).m4) := by
  unfold sl.r_29
  rw [B_r_26 hp, B_r_27 hp]
  exact p96 X

theorem B_r_30 (hp : Packed X x0 x1 x2 x3 x4 x5 x6 x7) : sl.r_30 (F := Ideal) c arg2 harg2 arg3 harg3 arg4 harg4 arg6 harg6 arg7 harg7 x0 x1 x2 x4 x5 = (L .f32 fun b => (X b).m8) := by
  unfold sl.r_30
  rw [B_r_26 hp, B_r_27 hp]
  exact p97 X

theorem B_r_31 (hp : Packed X x0 x1 x2 x3 x4 x5 x6 x7) : sl.r_31 (F := Ideal) c arg2 harg2 arg3 harg3 arg4 harg4 arg6 harg6 arg7 harg7 x0 x1 x2 x4 x5 = (L .f32 fun b => (X b).m16) := by
  unfold sl.r_31
  rw [B_r_26 hp, B_r_27 hp]
  exact p98 X

theorem B_r_32 (hp : Packed X x0 x1 x2 x3 x4 x5 x6 x7) : sl.r_32 (F := Ideal) c arg2 harg2 arg3 harg3 arg4 harg4 arg6 harg6 arg7 harg7 x0 x1 x2 x4 x5 = (L .f32 fun b => (X b).m32) := by
  unfold sl.r_32
  rw [B_r_26 hp, B_r_27 hp]
  exact p99 X

theorem B_r_15 (hp : Packed X x0 x1 x2 x3 x4 x5 x6 x7) : sl.r_15 (F := Ideal) c arg2 harg2 arg3 harg3 x0 x1 = (L .f32 fun b => (X b).rt) := by
  unfold sl.r_15
  rw [B_v79 hp, B_r_9 hp]
  exact p81 X

theorem B_r_20 (hp : Packed X x0 x1 x2 x3 x4 x5 x6 x7) : sl.r_20 (F := Ideal) c arg2 harg2 arg3 harg3 arg4 harg4 arg6 harg6 arg7 harg7 x0 x1 x2 x4 x5 = (L .f32 fun b => (X b).mrb) := by
  unfold sl.r_20
  rw [B_v79 hp, B_v156 hp, B_v233 hp, B_v387 hp, B_r_6 hp, B_r_8 hp, B_r_9 hp, B_r_10 hp, p71, p72]
  exact p87 X

theorem B_r_21 (hp : Packed X x0 x1 x2 x3 x4 x5 x6 x7) : sl.r_21 (F := Ideal) c arg2 harg2 arg3 harg3 arg4 harg4 arg6 harg6 arg7 harg7 x0 x1 x2 x4 x5 = (L .f32 fun b => (X b).mrk) := by
  unfold sl.r_21
  rw [B_v79 hp, B_v156 hp, B_v233 hp, B_v387 hp, B_r_6 hp, B_r_8 hp, B_r_9 hp, B_r_10 hp, p71, p72]
  exact p88 X

theorem B_r_34 (hp : Packed X x0 x1 x2 x3 x4 x5 x6 x7) : sl.r_34 (F := Ideal) c arg2 harg2 arg3 harg3 arg4 harg4 arg6 harg6 arg7 harg7 x0 x1 x2 x4 x5 = (L .f32 fun b => hcat3 (X b).rt (X b).mrb (X b).mrk) := by
  unfold sl.r_34
  rw [B_r_15 hp, B_r_20 hp, B_r_21 hp]
  exact p101 X

theorem B_r_38 (hp : Packed X x0 x1 x2 x3 x4 x5 x6 x7) : sl.r_38 (F := Ideal) c arg3 harg3 x1 = (L .f32 fun b => lastRow (X b).ep) := by
  unfold sl.r_38
  rw [B_r_9 hp]
  exact p105 X

theorem B_r_43 (hp : Packed X x0 x1 x2 x3 x4 x5 x6 x7) (hs : xs0 = L .f32 fun b => (X b).dS) : sl.r_43 (F := Ideal) c arg3 harg3 arg4 harg4 arg6 harg6 arg7 harg7 arg16 harg16 x1 x2 x4 x5 xs0 = (L .f32 fun b => (X b).be * (X b).Eᵀ) := by
  unfold sl.r_43
  rw [B_r_16 hp, B_r_38 hp, rdW arg16 harg16 xs0, hs]
  exact p122 X

theorem B_r_56 (hp : Packed X x0 x1 x2 x3 x4 x5 x6 x7) (hs : xs0 = L .f32 fun b => (X b).dS) : sl.r_56 (F := Ideal) c arg2 harg2 arg3 harg3 arg4 harg4 arg6 harg6 arg7 harg7 arg9 harg9 arg16 harg16 x0 x1 x2 x4 x5 x7 xs0 = (L .bf16 fun b => (X b).q) := by
  unfold sl.r_56
  rw [B_r_19 hp, B_r_28 hp, B_r_29 hp, B_r_30 hp, B_r_31 hp, B_r_32 hp, B_r_34 hp, B_r_39 hp, B_r_43 hp hs]
  exact p137 X

theorem B_r_57 (hp : Packed X x0 x1 x2 x3 x4 x5 x6 x7) (hs : xs0 = L .f32 fun b => (X b).dS) : sl.r_57 (F := Ideal) c arg2 harg2 arg3 harg3 arg4 harg4 arg5 harg5 arg6 harg6 arg7 harg7 arg8 harg8 arg9 harg9 arg16 harg16 x0 x1 x2 x3 x4 x5 x6 x7 xs0 = (L .f32 fun b => (X b).q * (X b).saᵀ) := by
  unfold sl.r_57
  rw [B_r_33 hp, B_r_56 hp hs]
  exact p138 X

theorem B_r_24 (hp : Packed X x0 x1 x2 x3 x4 x5 x6 x7) : sl.r_24 (F := Ideal) c arg5 harg5 arg8 harg8 x3 x6 = (L .f32 fun b => vcat (X b).S0ᵀ (X b).v) := by
  unfold sl.r_24
  rw [B_v310 hp, B_r_7 hp]
  exact p91 X

theorem B_r_53 (hp : Packed X x0 x1 x2 x3 x4 x5 x6 x7) : sl.r_53 (F := Ideal) c arg2 harg2 arg3 harg3 arg4 harg4 arg5 harg5 arg6 harg6 arg7 harg7 arg8 harg8 arg9 harg9 x0 x1 x2 x3 x4 x5 x6 x7 = (L .f32 fun b => (X b).dy * (X b).saᵀ) := by
  unfold sl.r_53
  rw [B_r_45 hp, B_r_46 hp, B_r_47 hp, B_r_48 hp, B_r_49 hp, B_cst_130]
  exact p134 X

theorem B_r_54 (hp : Packed X x0 x1 x2 x3 x4 x5 x6 x7) : sl.r_54 (F := Ideal) c arg2 harg2 arg3 harg3 arg4 harg4 arg5 harg5 arg6 harg6 arg7 harg7 arg8 harg8 arg9 harg9 x0 x1 x2 x3 x4 x5 x6 x7 = (L .f32 fun b => (X b).dy * (X b).vᵀ) := by
  unfold sl.r_54
  rw [B_r_45 hp, B_r_46 hp, B_r_47 hp, B_r_48 hp, B_r_49 hp, B_cst_130]
  exact p135 X

theorem B_r_55 (hp : Packed X x0 x1 x2 x3 x4 x5 x6 x7) (hs : xs0 = L .f32 fun b => (X b).dS) : sl.r_55 (F := Ideal) c arg2 harg2 arg3 harg3 arg4 harg4 arg6 harg6 arg7 harg7 arg9 harg9 arg16 harg16 x0 x1 x2 x4 x5 x7 xs0 = (L .f32 fun b => (X b).q) := by
  unfold sl.r_55
  rw [B_r_19 hp, B_r_28 hp, B_r_29 hp, B_r_30 hp, B_r_31 hp, B_r_32 hp, B_r_34 hp, B_r_39 hp, B_r_43 hp hs]
  exact p136 X

theorem B_r_61 (hp : Packed X x0 x1 x2 x3 x4 x5 x6 x7) (hs : xs0 = L .f32 fun b => (X b).dS) : sl.r_61 (F := Ideal) c arg2 harg2 arg3 harg3 arg4 harg4 arg5 harg5 arg6 harg6 arg7 harg7 arg8 harg8 arg9 harg9 arg16 harg16 x0 x1 x2 x3 x4 x5 x6 x7 xs0 = (L .f32 fun b => hcat (vcat 0 ((X b).dy * (X b).saᵀ)) (vcat ((X b).q * (X b).vᵀ) ((X b).dy * (X b).vᵀ))) := by
  unfold sl.r_61
  rw [B_r_24 hp, B_r_53 hp, B_r_54 hp, B_r_55 hp hs]
  exact p144 X

theorem B_r_63 (hp : Packed X x0 x1 x2 x3 x4 x5 x6 x7) (hs : xs0 = L .f32 fun b => (X b).dS) : sl.r_63 (F := Ideal) c arg2 harg2 arg3 harg3 arg4 harg4 arg5 harg5 arg6 harg6 arg7 harg7 arg8 harg8 arg9 harg9 arg16 harg16 x0 x1 x2 x3 x4 x5 x6 x7 xs0 = (L .f32 fun b => (X b).dr) := by
  unfold sl.r_63
  rw [B_r_9 hp, B_r_16 hp, B_r_18, B_r_52 hp, B_r_57 hp hs, B_r_61 hp hs]
  exact p153 X

theorem B_r_11 (hp : Packed X x0 x1 x2 x3 x4 x5 x6 x7) : sl.r_11 (F := Ideal) c arg3 harg3 x1 = (L .f32 fun b => (X b).en) := by
  unfold sl.r_11
  rw [B_r_10 hp]
  exact p76 X

theorem B_r_37 (hp : Packed X x0 x1 x2 x3 x4 x5 x6 x7) : sl.r_37 (F := Ideal) c arg2 harg2 arg3 harg3 arg4 harg4 arg5 harg5 arg6 harg6 arg7 harg7 arg8 harg8 x0 x1 x2 x3 x4 x5 x6 = (L .f32 fun b => (X b).Send) := by
  unfold sl.r_37
  rw [B_v310 hp, B_r_7 hp, B_r_16 hp, B_r_19 hp, B_r_25 hp, B_r_26 hp, B_r_27 hp]
  exact p104 X

theorem B_r_41 (hp : Packed X x0 x1 x2 x3 x4 x5 x6 x7) (hs : xs0 = L .f32 fun b => (X b).dS) : sl.r_41 (F := Ideal) c arg2 harg2 arg3 harg3 arg4 harg4 arg5 harg5 arg6 harg6 arg7 harg7 arg8 harg8 arg16 harg16 x0 x1 x2 x3 x4 x5 x6 xs0 = (L .f32 fun b => (X b).tail) := by
  unfold sl.r_41
  rw [B_r_37 hp, rdW arg16 harg16 xs0, hs]
  exact p119 X

theorem B_r_62 (hp : Packed X x0 x1 x2 x3 x4 x5 x6 x7) (hs : xs0 = L .f32 fun b => (X b).dS) : sl.r_62 (F := Ideal) c arg2 harg2 arg3 harg3 arg4 harg4 arg5 harg5 arg6 harg6 arg7 harg7 arg8 harg8 arg9 harg9 arg16 harg16 x0 x1 x2 x3 x4 x5 x6 x7 xs0 = (L .f32 fun b => (X b).tail + had (X b).r (X b).drt) := by
  unfold sl.r_62
  rw [B_v79 hp, B_r_16 hp, B_r_18, B_r_41 hp hs, B_r_52 hp, B_r_57 hp hs, B_r_61 hp hs]
  exact p152 X

theorem B_r_14 (hp : Packed X x0 x1 x2 x3 x4 x5 x6 x7) : sl.r_14 (F := Ideal) c arg6 harg6 arg7 harg7 x4 x5 = (L .f32 fun b => had (X b).kap (X b).a) := by
  unfold sl.r_14
  rw [B_v387 hp, B_r_6 hp]
  exact p80 X

theorem B_r_17 (hp : Packed X x0 x1 x2 x3 x4 x5 x6 x7) : sl.r_17 (F := Ideal) c arg2 harg2 arg3 harg3 arg6 harg6 x0 x1 x4 = (L .f32 fun b => vcat (X b).al (X b).rt) := by
  unfold sl.r_17
  rw [B_v79 hp, B_v156 hp, B_v387 hp, B_r_8 hp, B_r_9 hp]
  exact p83 X

theorem B_r_36 (hp : Packed X x0 x1 x2 x3 x4 x5 x6 x7) : sl.r_36 (F := Ideal) c arg2 harg2 arg3 harg3 arg4 harg4 arg5 harg5 arg6 harg6 arg7 harg7 arg8 harg8 x0 x1 x2 x3 x4 x5 x6 = (L .f32 fun b => vcat (X b).sa (X b).v) := by
  unfold sl.r_36
  rw [B_v310 hp, B_r_19 hp, B_r_25 hp, B_r_26 hp, B_r_27 hp]
  exact p103 X

theorem B_r_42 (hp : Packed X x0 x1 x2 x3 x4 x5 x6 x7) (hs : xs0 = L .f32 fun b => (X b).dS) : sl.r_42 (F := Ideal) c arg2 harg2 arg3 harg3 arg4 harg4 arg5 harg5 arg6 harg6 arg7 harg7 arg8 harg8 arg16 harg16 x0 x1 x2 x3 x4 x5 x6 xs0 = (L .f32 fun b => vcat ((X b).sa * (X b).E) ((X b).v * (X b).E)) := by
  unfold sl.r_42
  rw [B_r_36 hp, B_r_38 hp, rdW arg16 harg16 xs0, hs]
  exact p121 X

theorem B_r_65 (hp : Packed X x0 x1 x2 x3 x4 x5 x6 x7) (hs : xs0 = L .f32 fun b => (X b).dS) : sl.r_65 (F := Ideal) c arg2 harg2 arg3 harg3 arg4 harg4 arg5 harg5 arg6 harg6 arg7 harg7 arg8 harg8 arg9 harg9 arg16 harg16 x0 x1 x2 x3 x4 x5 x6 x7 xs0 = (L .f32 fun b => had (X b).k (X b).dkt + had (had (X b).kap (X b).a) (X b).dbe) := by
  unfold sl.r_65
  rw [B_v233 hp, B_r_14 hp, B_r_17 hp, B_r_18, B_r_42 hp hs, B_r_57 hp hs, B_r_61 hp hs]
  exact p155 X

theorem B_r_12 (hp : Packed X x0 x1 x2 x3 x4 x5 x6 x7) : sl.r_12 (F := Ideal) c arg6 harg6 x4 = (L .f32 fun b => -(X b).kap) := by
  unfold sl.r_12
  rw [B_v387 hp]
  exact p77 X

theorem B_r_13 (hp : Packed X x0 x1 x2 x3 x4 x5 x6 x7) : sl.r_13 (F := Ideal) c arg3 harg3 x1 = (L .f32 fun b => (X b).ex) := by
  unfold sl.r_13
  rw [B_v156 hp, B_r_8 hp]
  exact p78 X

theorem B_r_59 (hp : Packed X x0 x1 x2 x3 x4 x5 x6 x7) (hs : xs0 = L .f32 fun b => (X b).dS) : sl.r_59 (F := Ideal) c arg2 harg2 arg3 harg3 arg4 harg4 arg5 harg5 arg6 harg6 arg7 harg7 arg8 harg8 arg9 harg9 arg16 harg16 x0 x1 x2 x3 x4 x5 x6 x7 xs0 = (L .f32 fun b => (X b).q * (X b).S0) := by
  unfold sl.r_59
  rw [B_r_24 hp, B_r_55 hp hs]
  exact p142 X

theorem B_r_69 (hp : Packed X x0 x1 x2 x3 x4 x5 x6 x7) (hs : xs0 = L .f32 fun b => (X b).dS) : sl.r_69 (F := Ideal) c arg2 harg2 arg3 harg3 arg4 harg4 arg5 harg5 arg6 harg6 arg7 harg7 arg8 harg8 arg9 harg9 arg16 harg16 x0 x1 x2 x3 x4 x5 x6 x7 xs0 = (L .f32 fun b => (X b).w) := by
  unfold sl.r_69
  rw [B_r_12 hp, B_r_13 hp, B_r_16 hp, B_r_18, B_r_57 hp hs, B_r_59 hp hs, B_r_61 hp hs]
  exact p160 X

theorem B_r_71 (hp : Packed X x0 x1 x2 x3 x4 x5 x6 x7) (hs : xs0 = L .f32 fun b => (X b).dS) : sl.r_71 (F := Ideal) c arg2 harg2 arg3 harg3 arg4 harg4 arg5 harg5 arg6 harg6 arg7 harg7 arg8 harg8 arg9 harg9 arg16 harg16 x0 x1 x2 x3 x4 x5 x6 x7 xs0 = (L .f32 fun b => (X b).dlw) := by
  unfold sl.r_71
  rw [B_r_9 hp, B_r_11 hp, B_r_62 hp hs, B_r_65 hp hs, B_r_69 hp hs]
  exact p162 X

theorem B_r_64 (hp : Packed X x0 x1 x2 x3 x4 x5 x6 x7) (hs : xs0 = L .f32 fun b => (X b).dS) : sl.r_64 (F := Ideal) c arg2 harg2 arg3 harg3 arg4 harg4 arg5 harg5 arg6 harg6 arg7 harg7 arg8 harg8 arg9 harg9 arg16 harg16 x0 x1 x2 x3 x4 x5 x6 x7 xs0 = (L .f32 fun b => (X b).dk) := by
  unfold sl.r_64
  rw [B_r_11 hp, B_r_17 hp, B_r_18, B_r_42 hp hs, B_r_57 hp hs, B_r_61 hp hs]
  exact p154 X

theorem B_r_23 (hp : Packed X x0 x1 x2 x3 x4 x5 x6 x7) : sl.r_23 (F := Ideal) c arg2 harg2 arg3 harg3 arg4 harg4 arg6 harg6 arg7 harg7 x0 x1 x2 x4 x5 = (L .f32 fun b => hcat (X b).al (X b).mak) := by
  unfold sl.r_23
  rw [B_v79 hp, B_v156 hp, B_v233 hp, B_v387 hp, B_r_6 hp, B_r_8 hp, B_r_9 hp, B_r_10 hp, p71, p72]
  exact p90 X

theorem B_r_44 (hp : Packed X x0 x1 x2 x3 x4 x5 x6 x7) (hs : xs0 = L .f32 fun b => (X b).dS) : sl.r_44 (F := Ideal) c arg3 harg3 arg4 harg4 arg6 harg6 arg7 harg7 arg16 harg16 x1 x2 x4 x5 xs0 = (L .f32 fun b => (X b).kt * (X b).Eᵀ) := by
  unfold sl.r_44
  rw [B_r_16 hp, B_r_38 hp, rdW arg16 harg16 xs0, hs]
  exact p123 X

theorem B_r_51 (hp : Packed X x0 x1 x2 x3 x4 x5 x6 x7) (hs : xs0 = L .f32 fun b => (X b).dS) : sl.r_51 (F := Ideal) c arg2 harg2 arg3 harg3 arg4 harg4 arg6 harg6 arg7 harg7 arg9 harg9 arg16 harg16 x0 x1 x2 x4 x5 x7 xs0 = (L .f32 fun b => (X b).kt * (X b).Eᵀ + (X b).mrkᵀ * (X b).dy) := by
  unfold sl.r_51
  rw [B_r_34 hp, B_r_39 hp, B_r_44 hp hs]
  exact p132 X

theorem B_r_58 (hp : Packed X x0 x1 x2 x3 x4 x5 x6 x7) (hs : xs0 = L .f32 fun b => (X b).dS) : sl.r_58 (F := Ideal) c arg2 harg2 arg3 harg3 arg4 harg4 arg6 harg6 arg7 harg7 arg9 harg9 arg16 harg16 x0 x1 x2 x4 x5 x7 xs0 = (L .f32 fun b => (X b).dv) := by
  unfold sl.r_58
  rw [B_r_23 hp, B_r_51 hp hs, B_r_55 hp hs]
  exact p141 X

theorem B_r_67 (hp : Packed X x0 x1 x2 x3 x4 x5 x6 x7) (hs : xs0 = L .f32 fun b => (X b).dS) : sl.r_67 (F := Ideal) c arg2 harg2 arg3 harg3 arg4 harg4 arg5 harg5 arg6 harg6 arg7 harg7 arg8 harg8 arg9 harg9 arg16 harg16 x0 x1 x2 x3 x4 x5 x6 x7 xs0 = (L .f32 fun b => had (had (X b).dbe (X b).en) (X b).a) := by
  unfold sl.r_67
  rw [B_r_6 hp, B_r_11 hp, B_r_17 hp, B_r_18, B_r_42 hp hs, B_r_57 hp hs, B_r_61 hp hs]
  exact p158 X

theorem B_r_68 (hp : Packed X x0 x1 x2 x3 x4 x5 x6 x7) (hs : xs0 = L .f32 fun b => (X b).dS) : sl.r_68 (F := Ideal) c arg2 harg2 arg3 harg3 arg4 harg4 arg5 harg5 arg6 harg6 arg7 harg7 arg8 harg8 arg9 harg9 arg16 harg16 x0 x1 x2 x3 x4 x5 x6 x7 xs0 = (L .f32 fun b => had (X b).dal (X b).ex) := by
  unfold sl.r_68
  rw [B_r_13 hp, B_r_16 hp, B_r_18, B_r_57 hp hs, B_r_59 hp hs, B_r_61 hp hs]
  exact p159 X

theorem B_r_70 (hp : Packed X x0 x1 x2 x3 x4 x5 x6 x7) (hs : xs0 = L .f32 fun b => (X b).dS) : sl.r_70 (F := Ideal) c arg2 harg2 arg3 harg3 arg4 harg4 arg5 harg5 arg6 harg6 arg7 harg7 arg8 harg8 arg9 harg9 arg16 harg16 x0 x1 x2 x3 x4 x5 x6 x7 xs0 = (L .f32 fun b => (X b).dkap) := by
  unfold sl.r_70
  rw [B_r_67 hp hs, B_r_68 hp hs]
  exact p161 X

theorem B_r_66 (hp : Packed X x0 x1 x2 x3 x4 x5 x6 x7) (hs : xs0 = L .f32 fun b => (X b).dS) : sl.r_66 (F := Ideal) c arg2 harg2 arg3 harg3 arg4 harg4 arg5 harg5 arg6 harg6 arg7 harg7 arg8 harg8 arg9 harg9 arg16 harg16 x0 x1 x2 x3 x4 x5 x6 x7 xs0 = (L .f32 fun b => (X b).da) := by
  unfold sl.r_66
  rw [B_v387 hp, B_r_11 hp, B_r_17 hp, B_r_18, B_r_42 hp hs, B_r_57 hp hs, B_r_61 hp hs]
  exact p157 X

theorem B_r_40 (hp : Packed X x0 x1 x2 x3 x4 x5 x6 x7) (hs : xs0 = L .f32 fun b => (X b).dS) : sl.r_40 (F := Ideal) c arg3 harg3 arg16 harg16 x1 xs0 = (L .f32 fun b => (X b).E) := by
  unfold sl.r_40
  rw [B_r_38 hp, rdW arg16 harg16 xs0, hs]
  exact p118 X

theorem B_r_50 (hp : Packed X x0 x1 x2 x3 x4 x5 x6 x7) : sl.r_50 (F := Ideal) c arg2 harg2 arg3 harg3 arg4 harg4 arg6 harg6 arg7 harg7 arg9 harg9 x0 x1 x2 x4 x5 x7 = (L .f32 fun b => (X b).rtᵀ * (X b).dy) := by
  unfold sl.r_50
  rw [B_r_34 hp, B_r_39 hp]
  exact p131 X

theorem B_r_60 (hp : Packed X x0 x1 x2 x3 x4 x5 x6 x7) (hs : xs0 = L .f32 fun b => (X b).dS) : sl.r_60 (F := Ideal) c arg2 harg2 arg3 harg3 arg4 harg4 arg6 harg6 arg7 harg7 arg9 harg9 arg16 harg16 x0 x1 x2 x4 x5 x7 xs0 = (L .f32 fun b => (X b).dS0) := by
  unfold sl.r_60
  rw [B_r_23 hp, B_r_40 hp hs, B_r_50 hp, B_r_55 hp hs]
  exact p143 X

theorem B_out_8 (hp : Packed X x0 x1 x2 x3 x4 x5 x6 x7) (hs : xs0 = L .f32 fun b => (X b).dS) : out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = unpack (L .f32 fun b => (X b).dr) := by
  unfold out0_B_8
  refine (View.read_writes_eq_canon _ _ _ (cover0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)).trans ?_
  unfold kernelRun0_B
  dsimp only
  refine Eq.trans (canon4 (sl.r_63 c arg2 harg2 arg3 harg3 arg4 harg4 arg5 harg5 arg6 harg6 arg7 harg7 arg8 harg8 arg9 harg9 arg16 harg16 x0 x1 x2 x3 x4 x5 x6 x7 xs0) _ _ _ _ ?_ ?_ ?_ ?_) (congrArg unpack (B_r_63 hp hs))
  · intro t l
    unfold sl.v903 sl.r_72 k0_pay164
    exact up0 _ t l
  · intro t l
    unfold sl.v924 sl.v921 sl.v906 sl.v905 sl.v908 sl.v907 sl.v910 sl.v909 sl.v912 sl.v911 sl.v914 sl.v913 sl.v916 sl.v915 sl.v918 sl.v917 sl.v920 sl.v919 sl.v904
    exact up1 _ t l
  · intro t l
    unfold sl.v945 sl.v942 sl.v927 sl.v926 sl.v929 sl.v928 sl.v931 sl.v930 sl.v933 sl.v932 sl.v935 sl.v934 sl.v937 sl.v936 sl.v939 sl.v938 sl.v941 sl.v940 sl.v925
    exact up2 _ t l
  · intro t l
    unfold sl.v966 sl.v963 sl.v948 sl.v947 sl.v950 sl.v949 sl.v952 sl.v951 sl.v954 sl.v953 sl.v956 sl.v955 sl.v958 sl.v957 sl.v960 sl.v959 sl.v962 sl.v961 sl.v946
    exact up3 _ t l

theorem B_out_9 (hp : Packed X x0 x1 x2 x3 x4 x5 x6 x7) (hs : xs0 = L .f32 fun b => (X b).dS) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = unpack (L .f32 fun b => (X b).dlw) := by
  unfold out0_B_9
  refine (View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)).trans ?_
  unfold kernelRun0_B
  dsimp only
  refine Eq.trans (canon4 (sl.r_71 c arg2 harg2 arg3 harg3 arg4 harg4 arg5 harg5 arg6 harg6 arg7 harg7 arg8 harg8 arg9 harg9 arg16 harg16 x0 x1 x2 x3 x4 x5 x6 x7 xs0) _ _ _ _ ?_ ?_ ?_ ?_) (congrArg unpack (B_r_71 hp hs))
  · intro t l
    unfold sl.v987 sl.v984 sl.v969 sl.v968 sl.v971 sl.v970 sl.v973 sl.v972 sl.v975 sl.v974 sl.v977 sl.v976 sl.v979 sl.v978 sl.v981 sl.v980 sl.v983 sl.v982 sl.v967
    exact up0 _ t l
  · intro t l
    unfold sl.v1008 sl.v1005 sl.v990 sl.v989 sl.v992 sl.v991 sl.v994 sl.v993 sl.v996 sl.v995 sl.v998 sl.v997 sl.v1000 sl.v999 sl.v1002 sl.v1001 sl.v1004 sl.v1003 sl.v988
    exact up1 _ t l
  · intro t l
    unfold sl.v1029 sl.v1026 sl.v1011 sl.v1010 sl.v1013 sl.v1012 sl.v1015 sl.v1014 sl.v1017 sl.v1016 sl.v1019 sl.v1018 sl.v1021 sl.v1020 sl.v1023 sl.v1022 sl.v1025 sl.v1024 sl.v1009
    exact up2 _ t l
  · intro t l
    unfold sl.v1050 sl.v1047 sl.v1032 sl.v1031 sl.v1034 sl.v1033 sl.v1036 sl.v1035 sl.v1038 sl.v1037 sl.v1040 sl.v1039 sl.v1042 sl.v1041 sl.v1044 sl.v1043 sl.v1046 sl.v1045 sl.v1030
    exact up3 _ t l

theorem B_out_10 (hp : Packed X x0 x1 x2 x3 x4 x5 x6 x7) (hs : xs0 = L .f32 fun b => (X b).dS) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = unpack (L .f32 fun b => (X b).dk) := by
  unfold out0_B_10
  refine (View.read_writes_eq_canon _ _ _ (cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)).trans ?_
  unfold kernelRun0_B
  dsimp only
  refine Eq.trans (canon4 (sl.r_64 c arg2 harg2 arg3 harg3 arg4 harg4 arg5 harg5 arg6 harg6 arg7 harg7 arg8 harg8 arg9 harg9 arg16 harg16 x0 x1 x2 x3 x4 x5 x6 x7 xs0) _ _ _ _ ?_ ?_ ?_ ?_) (congrArg unpack (B_r_64 hp hs))
  · intro t l
    unfold sl.v1071 sl.v1068 sl.v1053 sl.v1052 sl.v1055 sl.v1054 sl.v1057 sl.v1056 sl.v1059 sl.v1058 sl.v1061 sl.v1060 sl.v1063 sl.v1062 sl.v1065 sl.v1064 sl.v1067 sl.v1066 sl.v1051
    exact up0 _ t l
  · intro t l
    unfold sl.v1092 sl.v1089 sl.v1074 sl.v1073 sl.v1076 sl.v1075 sl.v1078 sl.v1077 sl.v1080 sl.v1079 sl.v1082 sl.v1081 sl.v1084 sl.v1083 sl.v1086 sl.v1085 sl.v1088 sl.v1087 sl.v1072
    exact up1 _ t l
  · intro t l
    unfold sl.v1113 sl.v1110 sl.v1095 sl.v1094 sl.v1097 sl.v1096 sl.v1099 sl.v1098 sl.v1101 sl.v1100 sl.v1103 sl.v1102 sl.v1105 sl.v1104 sl.v1107 sl.v1106 sl.v1109 sl.v1108 sl.v1093
    exact up2 _ t l
  · intro t l
    unfold sl.v1134 sl.v1131 sl.v1116 sl.v1115 sl.v1118 sl.v1117 sl.v1120 sl.v1119 sl.v1122 sl.v1121 sl.v1124 sl.v1123 sl.v1126 sl.v1125 sl.v1128 sl.v1127 sl.v1130 sl.v1129 sl.v1114
    exact up3 _ t l

theorem B_out_11 (hp : Packed X x0 x1 x2 x3 x4 x5 x6 x7) (hs : xs0 = L .f32 fun b => (X b).dS) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = unpack (L .f32 fun b => (X b).dv) := by
  unfold out0_B_11
  refine (View.read_writes_eq_canon _ _ _ (cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)).trans ?_
  unfold kernelRun0_B
  dsimp only
  refine Eq.trans (canon4 (sl.r_58 c arg2 harg2 arg3 harg3 arg4 harg4 arg6 harg6 arg7 harg7 arg9 harg9 arg16 harg16 x0 x1 x2 x4 x5 x7 xs0) _ _ _ _ ?_ ?_ ?_ ?_) (congrArg unpack (B_r_58 hp hs))
  · intro t l
    unfold sl.v1155 sl.v1152 sl.v1137 sl.v1136 sl.v1139 sl.v1138 sl.v1141 sl.v1140 sl.v1143 sl.v1142 sl.v1145 sl.v1144 sl.v1147 sl.v1146 sl.v1149 sl.v1148 sl.v1151 sl.v1150 sl.v1135
    exact up0 _ t l
  · intro t l
    unfold sl.v1176 sl.v1173 sl.v1158 sl.v1157 sl.v1160 sl.v1159 sl.v1162 sl.v1161 sl.v1164 sl.v1163 sl.v1166 sl.v1165 sl.v1168 sl.v1167 sl.v1170 sl.v1169 sl.v1172 sl.v1171 sl.v1156
    exact up1 _ t l
  · intro t l
    unfold sl.v1197 sl.v1194 sl.v1179 sl.v1178 sl.v1181 sl.v1180 sl.v1183 sl.v1182 sl.v1185 sl.v1184 sl.v1187 sl.v1186 sl.v1189 sl.v1188 sl.v1191 sl.v1190 sl.v1193 sl.v1192 sl.v1177
    exact up2 _ t l
  · intro t l
    unfold sl.v1218 sl.v1215 sl.v1200 sl.v1199 sl.v1202 sl.v1201 sl.v1204 sl.v1203 sl.v1206 sl.v1205 sl.v1208 sl.v1207 sl.v1210 sl.v1209 sl.v1212 sl.v1211 sl.v1214 sl.v1213 sl.v1198
    exact up3 _ t l

theorem B_out_12 (hp : Packed X x0 x1 x2 x3 x4 x5 x6 x7) (hs : xs0 = L .f32 fun b => (X b).dS) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = unpack (L .f32 fun b => (X b).dkap) := by
  unfold out0_B_12
  refine (View.read_writes_eq_canon _ _ _ (cover0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)).trans ?_
  unfold kernelRun0_B
  dsimp only
  refine Eq.trans (canon4 (sl.r_70 c arg2 harg2 arg3 harg3 arg4 harg4 arg5 harg5 arg6 harg6 arg7 harg7 arg8 harg8 arg9 harg9 arg16 harg16 x0 x1 x2 x3 x4 x5 x6 x7 xs0) _ _ _ _ ?_ ?_ ?_ ?_) (congrArg unpack (B_r_70 hp hs))
  · intro t l
    unfold sl.v1239 sl.v1236 sl.v1221 sl.v1220 sl.v1223 sl.v1222 sl.v1225 sl.v1224 sl.v1227 sl.v1226 sl.v1229 sl.v1228 sl.v1231 sl.v1230 sl.v1233 sl.v1232 sl.v1235 sl.v1234 sl.v1219
    exact up0 _ t l
  · intro t l
    unfold sl.v1260 sl.v1257 sl.v1242 sl.v1241 sl.v1244 sl.v1243 sl.v1246 sl.v1245 sl.v1248 sl.v1247 sl.v1250 sl.v1249 sl.v1252 sl.v1251 sl.v1254 sl.v1253 sl.v1256 sl.v1255 sl.v1240
    exact up1 _ t l
  · intro t l
    unfold sl.v1281 sl.v1278 sl.v1263 sl.v1262 sl.v1265 sl.v1264 sl.v1267 sl.v1266 sl.v1269 sl.v1268 sl.v1271 sl.v1270 sl.v1273 sl.v1272 sl.v1275 sl.v1274 sl.v1277 sl.v1276 sl.v1261
    exact up2 _ t l
  · intro t l
    unfold sl.v1302 sl.v1299 sl.v1284 sl.v1283 sl.v1286 sl.v1285 sl.v1288 sl.v1287 sl.v1290 sl.v1289 sl.v1292 sl.v1291 sl.v1294 sl.v1293 sl.v1296 sl.v1295 sl.v1298 sl.v1297 sl.v1282
    exact up3 _ t l

theorem B_out_13 (hp : Packed X x0 x1 x2 x3 x4 x5 x6 x7) (hs : xs0 = L .f32 fun b => (X b).dS) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = unpack (L .f32 fun b => (X b).da) := by
  unfold out0_B_13
  refine (View.read_writes_eq_canon _ _ _ (cover0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)).trans ?_
  unfold kernelRun0_B
  dsimp only
  refine Eq.trans (canon4 (sl.r_66 c arg2 harg2 arg3 harg3 arg4 harg4 arg5 harg5 arg6 harg6 arg7 harg7 arg8 harg8 arg9 harg9 arg16 harg16 x0 x1 x2 x3 x4 x5 x6 x7 xs0) _ _ _ _ ?_ ?_ ?_ ?_) (congrArg unpack (B_r_66 hp hs))
  · intro t l
    unfold sl.v1323 sl.v1320 sl.v1305 sl.v1304 sl.v1307 sl.v1306 sl.v1309 sl.v1308 sl.v1311 sl.v1310 sl.v1313 sl.v1312 sl.v1315 sl.v1314 sl.v1317 sl.v1316 sl.v1319 sl.v1318 sl.v1303
    exact up0 _ t l
  · intro t l
    unfold sl.v1344 sl.v1341 sl.v1326 sl.v1325 sl.v1328 sl.v1327 sl.v1330 sl.v1329 sl.v1332 sl.v1331 sl.v1334 sl.v1333 sl.v1336 sl.v1335 sl.v1338 sl.v1337 sl.v1340 sl.v1339 sl.v1324
    exact up1 _ t l
  · intro t l
    unfold k0_pay228
    exact up2 _ t l
  · intro t l
    unfold k0_pay1 sl.r_73 k0_pay229
    exact up3 _ t l

theorem B_sout (hp : Packed X x0 x1 x2 x3 x4 x5 x6 x7) (hs : xs0 = L .f32 fun b => (X b).dS) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = L .f32 fun b => (X b).dS0 := by
  unfold sout0_B_0
  refine (View.read_writes_eq_canon _ _ _ (scover0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)).trans ?_
  unfold kernelRun0_B
  dsimp only
  rw [View.canon_unit_zero (S := S32x64x64) hz3, B_r_60 hp hs]
  exact p163 X

end Cert.Wkv

end
-- ==== Proof.KernelRun.lean ====
/- The kernel's run: what every point of the grid leaves, by induction from the last chunk to the first, and the results as the
   gradients of every head. -/
module

public import proofs.«01_k».proof.Proof.Arrays
public import proofs.«01_k».proof.Proof.PointA
public import proofs.«01_k».proof.Proof.PointB
public import proofs.«01_k».proof.Proof.Gen.KernelIdeal.Value

@[expose] public section

noncomputable section

namespace Cert.Wkv.Kernel

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The arguments a device holds. -/
def args (c : Dev nD) : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)

/-- What the heads of a point are given: the chunks run from the last to the first. -/
def X (c : Dev nD) (n : ℕ) (b : Fin 32) : In :=
  ((args m c).head ⟨b.val / 8, by omega⟩ ⟨b.val % 8, by omega⟩).chunk (31 - n)

theorem index0 : ∀ t : Fin cfg0.N, win0_0.index t 0 = 0 ∧ win0_0.index t 1 = 31 - t.val ∧ win0_0.index t 2 = 0 :=
  (by decide +kernel : ∀ t : Fin grid0.N, win0_0.index t 0 = 0 ∧ win0_0.index t 1 = 31 - t.val ∧ win0_0.index t 2 = 0)

theorem index1 : ∀ t : Fin cfg0.N, win0_1.index t 0 = 0 ∧ win0_1.index t 1 = 31 - t.val ∧ win0_1.index t 2 = 0 :=
  (by decide +kernel : ∀ t : Fin grid0.N, win0_1.index t 0 = 0 ∧ win0_1.index t 1 = 31 - t.val ∧ win0_1.index t 2 = 0)

theorem index2 : ∀ t : Fin cfg0.N, win0_2.index t 0 = 0 ∧ win0_2.index t 1 = 31 - t.val ∧ win0_2.index t 2 = 0 :=
  (by decide +kernel : ∀ t : Fin grid0.N, win0_2.index t 0 = 0 ∧ win0_2.index t 1 = 31 - t.val ∧ win0_2.index t 2 = 0)

theorem index3 : ∀ t : Fin cfg0.N, win0_3.index t 0 = 0 ∧ win0_3.index t 1 = 31 - t.val ∧ win0_3.index t 2 = 0 :=
  (by decide +kernel : ∀ t : Fin grid0.N, win0_3.index t 0 = 0 ∧ win0_3.index t 1 = 31 - t.val ∧ win0_3.index t 2 = 0)

theorem index4 : ∀ t : Fin cfg0.N, win0_4.index t 0 = 0 ∧ win0_4.index t 1 = 31 - t.val ∧ win0_4.index t 2 = 0 :=
  (by decide +kernel : ∀ t : Fin grid0.N, win0_4.index t 0 = 0 ∧ win0_4.index t 1 = 31 - t.val ∧ win0_4.index t 2 = 0)

theorem index5 : ∀ t : Fin cfg0.N, win0_5.index t 0 = 0 ∧ win0_5.index t 1 = 31 - t.val ∧ win0_5.index t 2 = 0 :=
  (by decide +kernel : ∀ t : Fin grid0.N, win0_5.index t 0 = 0 ∧ win0_5.index t 1 = 31 - t.val ∧ win0_5.index t 2 = 0)

theorem index7 : ∀ t : Fin cfg0.N, win0_7.index t 0 = 0 ∧ win0_7.index t 1 = 31 - t.val ∧ win0_7.index t 2 = 0 :=
  (by decide +kernel : ∀ t : Fin grid0.N, win0_7.index t 0 = 0 ∧ win0_7.index t 1 = 31 - t.val ∧ win0_7.index t 2 = 0)

theorem index8 : ∀ t : Fin cfg0.N, win0_8.index t 0 = 0 ∧ win0_8.index t 1 = 31 - t.val ∧ win0_8.index t 2 = 0 :=
  (by decide +kernel : ∀ t : Fin grid0.N, win0_8.index t 0 = 0 ∧ win0_8.index t 1 = 31 - t.val ∧ win0_8.index t 2 = 0)

theorem index9 : ∀ t : Fin cfg0.N, win0_9.index t 0 = 0 ∧ win0_9.index t 1 = 31 - t.val ∧ win0_9.index t 2 = 0 :=
  (by decide +kernel : ∀ t : Fin grid0.N, win0_9.index t 0 = 0 ∧ win0_9.index t 1 = 31 - t.val ∧ win0_9.index t 2 = 0)

theorem index10 : ∀ t : Fin cfg0.N, win0_10.index t 0 = 0 ∧ win0_10.index t 1 = 31 - t.val ∧ win0_10.index t 2 = 0 :=
  (by decide +kernel : ∀ t : Fin grid0.N, win0_10.index t 0 = 0 ∧ win0_10.index t 1 = 31 - t.val ∧ win0_10.index t 2 = 0)

theorem index11 : ∀ t : Fin cfg0.N, win0_11.index t 0 = 0 ∧ win0_11.index t 1 = 31 - t.val ∧ win0_11.index t 2 = 0 :=
  (by decide +kernel : ∀ t : Fin grid0.N, win0_11.index t 0 = 0 ∧ win0_11.index t 1 = 31 - t.val ∧ win0_11.index t 2 = 0)

theorem index12 : ∀ t : Fin cfg0.N, win0_12.index t 0 = 0 ∧ win0_12.index t 1 = 31 - t.val ∧ win0_12.index t 2 = 0 :=
  (by decide +kernel : ∀ t : Fin grid0.N, win0_12.index t 0 = 0 ∧ win0_12.index t 1 = 31 - t.val ∧ win0_12.index t 2 = 0)

theorem index13 : ∀ t : Fin cfg0.N, win0_13.index t 0 = 0 ∧ win0_13.index t 1 = 31 - t.val ∧ win0_13.index t 2 = 0 :=
  (by decide +kernel : ∀ t : Fin grid0.N, win0_13.index t 0 = 0 ∧ win0_13.index t 1 = 31 - t.val ∧ win0_13.index t 2 = 0)

theorem index6 : ∀ t : Fin cfg0.N, win0_6.index t 0 = 0 ∧ win0_6.index t 1 = 31 - t.val ∧ win0_6.index t 2 = 0 ∧ win0_6.index t 3 = 0 ∧ win0_6.index t 4 = 0 :=
  (by decide +kernel : ∀ t : Fin grid0.N, win0_6.index t 0 = 0 ∧ win0_6.index t 1 = 31 - t.val ∧ win0_6.index t 2 = 0 ∧ win0_6.index t 3 = 0 ∧ win0_6.index t 4 = 0)

theorem blk0 (c : Dev nD) (t : Fin cfg0.N) (s : Fin 4) (i : Fin 64) (l : Fin 512) :
    (iblk m c 0 t : FVec Ideal S4x64x512 .f32) (ix3 s i l) = (args m c).x0 (ix3 s ⟨64 * (31 - t.val) + i.val, by omega⟩ l) := by
  unfold iblk
  rw [View.read_apply]
  show V m c main_arg0 _ = m (c.tc.loc main_arg0) _
  unfold V
  congr 1
  funext a
  apply Fin.ext
  match a with
  | ⟨0, _⟩ => show win0_0.index t 0 * 4 + 1 * s.val = s.val; rw [(index0 t).1]; omega
  | ⟨1, _⟩ => show win0_0.index t 1 * 64 + 1 * i.val = 64 * (31 - t.val) + i.val; rw [(index0 t).2.1]; omega
  | ⟨2, _⟩ => show win0_0.index t 2 * 512 + 1 * l.val = l.val; rw [(index0 t).2.2]; omega

theorem blk1 (c : Dev nD) (t : Fin cfg0.N) (s : Fin 4) (i : Fin 64) (l : Fin 512) :
    (iblk m c 1 t : FVec Ideal S4x64x512 .f32) (ix3 s i l) = (args m c).x1 (ix3 s ⟨64 * (31 - t.val) + i.val, by omega⟩ l) := by
  unfold iblk
  rw [View.read_apply]
  show V m c main_arg1 _ = m (c.tc.loc main_arg1) _
  unfold V
  congr 1
  funext a
  apply Fin.ext
  match a with
  | ⟨0, _⟩ => show win0_1.index t 0 * 4 + 1 * s.val = s.val; rw [(index1 t).1]; omega
  | ⟨1, _⟩ => show win0_1.index t 1 * 64 + 1 * i.val = 64 * (31 - t.val) + i.val; rw [(index1 t).2.1]; omega
  | ⟨2, _⟩ => show win0_1.index t 2 * 512 + 1 * l.val = l.val; rw [(index1 t).2.2]; omega

theorem blk2 (c : Dev nD) (t : Fin cfg0.N) (s : Fin 4) (i : Fin 64) (l : Fin 512) :
    (iblk m c 2 t : FVec Ideal S4x64x512 .f32) (ix3 s i l) = (args m c).x2 (ix3 s ⟨64 * (31 - t.val) + i.val, by omega⟩ l) := by
  unfold iblk
  rw [View.read_apply]
  show V m c main_arg2 _ = m (c.tc.loc main_arg2) _
  unfold V
  congr 1
  funext a
  apply Fin.ext
  match a with
  | ⟨0, _⟩ => show win0_2.index t 0 * 4 + 1 * s.val = s.val; rw [(index2 t).1]; omega
  | ⟨1, _⟩ => show win0_2.index t 1 * 64 + 1 * i.val = 64 * (31 - t.val) + i.val; rw [(index2 t).2.1]; omega
  | ⟨2, _⟩ => show win0_2.index t 2 * 512 + 1 * l.val = l.val; rw [(index2 t).2.2]; omega

theorem blk3 (c : Dev nD) (t : Fin cfg0.N) (s : Fin 4) (i : Fin 64) (l : Fin 512) :
    (iblk m c 3 t : FVec Ideal S4x64x512 .f32) (ix3 s i l) = (args m c).x3 (ix3 s ⟨64 * (31 - t.val) + i.val, by omega⟩ l) := by
  unfold iblk
  rw [View.read_apply]
  show V m c main_arg3 _ = m (c.tc.loc main_arg3) _
  unfold V
  congr 1
  funext a
  apply Fin.ext
  match a with
  | ⟨0, _⟩ => show win0_3.index t 0 * 4 + 1 * s.val = s.val; rw [(index3 t).1]; omega
  | ⟨1, _⟩ => show win0_3.index t 1 * 64 + 1 * i.val = 64 * (31 - t.val) + i.val; rw [(index3 t).2.1]; omega
  | ⟨2, _⟩ => show win0_3.index t 2 * 512 + 1 * l.val = l.val; rw [(index3 t).2.2]; omega

theorem blk4 (c : Dev nD) (t : Fin cfg0.N) (s : Fin 4) (i : Fin 64) (l : Fin 512) :
    (iblk m c 4 t : FVec Ideal S4x64x512 .f32) (ix3 s i l) = (args m c).x4 (ix3 s ⟨64 * (31 - t.val) + i.val, by omega⟩ l) := by
  unfold iblk
  rw [View.read_apply]
  show V m c main_arg4 _ = m (c.tc.loc main_arg4) _
  unfold V
  congr 1
  funext a
  apply Fin.ext
  match a with
  | ⟨0, _⟩ => show win0_4.index t 0 * 4 + 1 * s.val = s.val; rw [(index4 t).1]; omega
  | ⟨1, _⟩ => show win0_4.index t 1 * 64 + 1 * i.val = 64 * (31 - t.val) + i.val; rw [(index4 t).2.1]; omega
  | ⟨2, _⟩ => show win0_4.index t 2 * 512 + 1 * l.val = l.val; rw [(index4 t).2.2]; omega

theorem blk5 (c : Dev nD) (t : Fin cfg0.N) (s : Fin 4) (i : Fin 64) (l : Fin 512) :
    (iblk m c 5 t : FVec Ideal S4x64x512 .f32) (ix3 s i l) = (args m c).x5 (ix3 s ⟨64 * (31 - t.val) + i.val, by omega⟩ l) := by
  unfold iblk
  rw [View.read_apply]
  show V m c main_arg5 _ = m (c.tc.loc main_arg5) _
  unfold V
  congr 1
  funext a
  apply Fin.ext
  match a with
  | ⟨0, _⟩ => show win0_5.index t 0 * 4 + 1 * s.val = s.val; rw [(index5 t).1]; omega
  | ⟨1, _⟩ => show win0_5.index t 1 * 64 + 1 * i.val = 64 * (31 - t.val) + i.val; rw [(index5 t).2.1]; omega
  | ⟨2, _⟩ => show win0_5.index t 2 * 512 + 1 * l.val = l.val; rw [(index5 t).2.2]; omega

theorem blk7 (c : Dev nD) (t : Fin cfg0.N) (s : Fin 4) (i : Fin 64) (l : Fin 512) :
    (iblk m c 7 t : FVec Ideal S4x64x512 .f32) (ix3 s i l) = (args m c).x7 (ix3 s ⟨64 * (31 - t.val) + i.val, by omega⟩ l) := by
  unfold iblk
  rw [View.read_apply]
  show V m c main_arg7 _ = m (c.tc.loc main_arg7) _
  unfold V
  congr 1
  funext a
  apply Fin.ext
  match a with
  | ⟨0, _⟩ => show win0_7.index t 0 * 4 + 1 * s.val = s.val; rw [(index7 t).1]; omega
  | ⟨1, _⟩ => show win0_7.index t 1 * 64 + 1 * i.val = 64 * (31 - t.val) + i.val; rw [(index7 t).2.1]; omega
  | ⟨2, _⟩ => show win0_7.index t 2 * 512 + 1 * l.val = l.val; rw [(index7 t).2.2]; omega

theorem blk6 (c : Dev nD) (t : Fin cfg0.N) (s : Fin 4) (z : Fin 1) (h : Fin 8) (i j : Fin 64) :
    (iblk m c 6 t : FVec Ideal S4x1x8x64x64 .f32) (ix5 s z h i j) = (args m c).x6 (ix5 s ⟨31 - t.val, by omega⟩ h i j) := by
  unfold iblk
  rw [View.read_apply]
  show V m c main_arg6 _ = m (c.tc.loc main_arg6) _
  unfold V
  congr 1
  funext a
  apply Fin.ext
  match a with
  | ⟨0, _⟩ => show win0_6.index t 0 * 4 + 1 * s.val = s.val; rw [(index6 t).1]; omega
  | ⟨1, _⟩ => show win0_6.index t 1 * 1 + 1 * z.val = 31 - t.val; rw [(index6 t).2.1]; omega
  | ⟨2, _⟩ => show win0_6.index t 2 * 8 + 1 * h.val = h.val; rw [(index6 t).2.2.1]; omega
  | ⟨3, _⟩ => show win0_6.index t 3 * 64 + 1 * i.val = i.val; rw [(index6 t).2.2.2.1]; omega
  | ⟨4, _⟩ => show win0_6.index t 4 * 64 + 1 * j.val = j.val; rw [(index6 t).2.2.2.2]; omega

/-- A chunk of a sequence's steps, packed, of finite numbers. -/
theorem pack_eq (x : FVec Ideal S4x2048x512 .f32) (hx : Fini x) (n : ℕ) (y : FVec Ideal S4x64x512 .f32)
    (hy : ∀ (s : Fin 4) (i : Fin 64) (l : Fin 512), y (ix3 s i l) = x (ix3 s ⟨64 * (31 - n) + i.val, by omega⟩ l)) :
    pack y = L .f32 fun b i j => at3 x ⟨b.val / 8, by omega⟩ ⟨b.val % 8, by omega⟩ (64 * (31 - n) + i.val) j := by
  funext j
  idx_vars j
  refine (hy _ _ _).trans (Eq.trans ?_ (at3_coe hx _ _ ⟨64 * (31 - n) + j1.val, by omega⟩ j2).symm)
  refine congrArg x (ix3_congr rfl rfl ?_)
  show 64 * (j0.val % 8) + j2.val = j0.val % 8 * 64 + j2.val
  omega

theorem packed (c : Dev nD) (t : Fin cfg0.N) (hf : (args m c).Finite) :
    Packed (X m c t.val) (iblk m c 0 t) (iblk m c 1 t) (iblk m c 2 t) (iblk m c 3 t) (iblk m c 4 t) (iblk m c 5 t) (iblk m c 6 t) (iblk m c 7 t) where
  r := pack_eq _ hf.f0 t.val _ (blk0 m c t)
  lw := pack_eq _ hf.f1 t.val _ (blk1 m c t)
  k := pack_eq _ hf.f2 t.val _ (blk2 m c t)
  v := pack_eq _ hf.f3 t.val _ (blk3 m c t)
  kap := pack_eq _ hf.f4 t.val _ (blk4 m c t)
  a := pack_eq _ hf.f5 t.val _ (blk5 m c t)
  dy := pack_eq _ hf.f7 t.val _ (blk7 m c t)
  S0 := by
    funext j
    idx_vars j
    exact (blk6 m c t _ _ _ _ _).trans (at5_coe hf.f6 _ _ ⟨31 - t.val, by omega⟩ _ _).symm

theorem tuple7 {A B : Type} {a0 b0 a1 b1 a2 b2 a3 b3 a4 b4 a5 b5 : A} {a6 b6 : B} (h0 : a0 = b0) (h1 : a1 = b1) (h2 : a2 = b2)
    (h3 : a3 = b3) (h4 : a4 = b4) (h5 : a5 = b5) (h6 : a6 = b6) : (a0, a1, a2, a3, a4, a5, a6) = (b0, b1, b2, b3, b4, b5, b6) := by
  subst h0 h1 h2 h3 h4 h5 h6
  rfl

theorem chunk_congr {H : Head} {a b : ℕ} (h : a = b) : H.chunk a = H.chunk b := by rw [h]

/-- The gradient of the state after the last chunk is zero. -/
theorem carry_first (c : Dev nD) :
    (L .f32 (fun _ => 0 : Fin 32 → Mat) : FVec Ideal S32x64x64 .f32) = L .f32 fun b => (X m c 0 b).dS := by
  refine congrArg (L .f32) (funext fun b => ?_)
  unfold X Head.chunk
  dsimp only
  unfold Head.D
  rfl

/-- The gradient a chunk leaves is the gradient of the state after the chunk before it. -/
theorem carry_next (c : Dev nD) (n : ℕ) (hn : n + 1 < 32) :
    (L .f32 (fun b => (X m c n b).dS0) : FVec Ideal S32x64x64 .f32) = L .f32 fun b => (X m c (n + 1) b).dS := by
  refine congrArg (L .f32) (funext fun b => ?_)
  unfold X
  rw [Head.chunk_dS0 _ _ (by omega)]
  show Head.D _ (64 * (31 - n)) = Head.D _ (64 * (31 - (n + 1)) + 64)
  rw [show 64 * (31 - n) = 64 * (31 - (n + 1)) + 64 by omega]

theorem outs (c : Dev nD) (hf : (args m c).Finite) : ∀ (n : ℕ) (hn : n < cfg0.N), outsAt0 m c n hn =
    (unpack (L .f32 fun b => (X m c n b).dr), unpack (L .f32 fun b => (X m c n b).dlw), unpack (L .f32 fun b => (X m c n b).dk), unpack (L .f32 fun b => (X m c n b).dv), unpack (L .f32 fun b => (X m c n b).dkap), unpack (L .f32 fun b => (X m c n b).da), L .f32 fun b => (X m c n b).dS0)
  | 0, hn => (outsAt0_A m c ⟨0, hn⟩ rfl).trans
      (tuple7 (A_out_8 (packed m c ⟨0, hn⟩ hf) (carry_first m c)) (A_out_9 (packed m c ⟨0, hn⟩ hf) (carry_first m c)) (A_out_10 (packed m c ⟨0, hn⟩ hf) (carry_first m c)) (A_out_11 (packed m c ⟨0, hn⟩ hf) (carry_first m c)) (A_out_12 (packed m c ⟨0, hn⟩ hf) (carry_first m c)) (A_out_13 (packed m c ⟨0, hn⟩ hf) (carry_first m c)) (A_sout (packed m c ⟨0, hn⟩ hf) (carry_first m c)))
  | n + 1, hn => by
    have hN : cfg0.N = 32 := N_0
    have hB : ¬(⟨n + 1, hn⟩ : Fin cfg0.N).val % 32 = 0 := by dsimp only; omega
    have hs : (outsAt0 m c n (Nat.lt_of_succ_lt hn)).2.2.2.2.2.2 = L .f32 fun b => (X m c (n + 1) b).dS := by
      rw [outs c hf n]
      exact carry_next m c n (by omega)
    exact (outsAt0_B m c ⟨n + 1, hn⟩ hB).trans
      (tuple7 (B_out_8 (packed m c ⟨n + 1, hn⟩ hf) hs) (B_out_9 (packed m c ⟨n + 1, hn⟩ hf) hs) (B_out_10 (packed m c ⟨n + 1, hn⟩ hf) hs) (B_out_11 (packed m c ⟨n + 1, hn⟩ hf) hs) (B_out_12 (packed m c ⟨n + 1, hn⟩ hf) hs) (B_out_13 (packed m c ⟨n + 1, hn⟩ hf) hs) (B_sout (packed m c ⟨n + 1, hn⟩ hf) hs))

/-- A chunk of a result of all heads is the chunk's own result, unpacked. -/
theorem unpack_eq (c : Dev nD) (n : ℕ) (d : In → Mat) (g : Head → ℕ → Fin 64 → ℝ)
    (h : ∀ (H : Head) (q : ℕ), q < 32 → ∀ s j : Fin 64, d (H.chunk q) s j = g H (64 * q + s.val) j)
    (s : Fin 4) (i : Fin 64) (l : Fin 512) :
    unpack (L .f32 fun b => d (X m c n b)) (ix3 s i l) =
      lay (fun b h => g ((args m c).head b h)) (ix3 s ⟨64 * (31 - n) + i.val, by omega⟩ l) := by
  show ((d (Head.chunk _ (31 - n)) i ⟨l.val % 64, _⟩ : ℝ) : EReal) = _
  rw [h _ _ (by omega)]
  have e1 : (⟨(8 * s.val + l.val / 64) / 8, by omega⟩ : Fin 4) = s := Fin.ext (by show (8 * s.val + l.val / 64) / 8 = s.val; omega)
  have e2 : (⟨(8 * s.val + l.val / 64) % 8, by omega⟩ : Fin 8) = ⟨l.val / 64, by omega⟩ := Fin.ext (by show (8 * s.val + l.val / 64) % 8 = l.val / 64; omega)
  show ((g ((args m c).head ⟨(8 * s.val + l.val / 64) / 8, _⟩ ⟨(8 * s.val + l.val / 64) % 8, _⟩) _ _ : ℝ) : EReal) = _
  rw [e1, e2]
  rfl

/-- The point that writes an entry. -/
def pt (i : S4x2048x512.Idx) : Fin cfg0.N := ⟨31 - (i 1).val / 64, lt_of_le_of_lt (Nat.sub_le _ _) (by rw [show cfg0.N = 32 from N_0]; decide)⟩

theorem flush8 : ∀ t : Fin cfg0.N, (cfg0.win 8).flush t = true := (by decide +kernel : ∀ t : Fin grid0.N, (cfg0.win 8).flush t = true)

theorem flush9 : ∀ t : Fin cfg0.N, (cfg0.win 9).flush t = true := (by decide +kernel : ∀ t : Fin grid0.N, (cfg0.win 9).flush t = true)

theorem flush10 : ∀ t : Fin cfg0.N, (cfg0.win 10).flush t = true := (by decide +kernel : ∀ t : Fin grid0.N, (cfg0.win 10).flush t = true)

theorem flush11 : ∀ t : Fin cfg0.N, (cfg0.win 11).flush t = true := (by decide +kernel : ∀ t : Fin grid0.N, (cfg0.win 11).flush t = true)

theorem flush12 : ∀ t : Fin cfg0.N, (cfg0.win 12).flush t = true := (by decide +kernel : ∀ t : Fin grid0.N, (cfg0.win 12).flush t = true)

theorem flush13 : ∀ t : Fin cfg0.N, (cfg0.win 13).flush t = true := (by decide +kernel : ∀ t : Fin grid0.N, (cfg0.win 13).flush t = true)

theorem flushed8 (c : Dev nD) (hf : (args m c).Finite) (t : Fin cfg0.N) :
    (dats m 0 c).flushed 8 t = ((cfg0.win 8).blk t).view.read (Elt Ideal) (lay fun b h => ((args m c).head b h).gr) := by
  rw [Value.flushed8, outs m c hf]
  funext (y : S4x64x512.Idx)
  idx_vars y
  rw [View.read_apply]
  refine (unpack_eq m c t.val In.dr Head.gr (fun H q hq s j => H.chunk_dr q hq s j) y0 y1 y2).trans ?_
  refine congrArg (lay _) ?_
  funext a
  apply Fin.ext
  match a with
  | ⟨0, _⟩ => show y0.val = win0_8.index t 0 * 4 + 1 * y0.val; rw [(index8 t).1]; omega
  | ⟨1, _⟩ => show 64 * (31 - t.val) + y1.val = win0_8.index t 1 * 64 + 1 * y1.val; rw [(index8 t).2.1]; omega
  | ⟨2, _⟩ => show y2.val = win0_8.index t 2 * 512 + 1 * y2.val; rw [(index8 t).2.2]; omega

theorem final8 (c : Dev nD) (hf : (args m c).Finite) :
    (dats m 0 c).arrAt 8 cfg0.N = lay fun b h => ((args m c).head b h).gr :=
  (dats m 0 c).arrAt_eq_of_cover 8 (lay fun b h => ((args m c).head b h).gr) (fun t _ => flushed8 m c hf t) fun (i : S4x2048x512.Idx) =>
    ⟨pt i, flush8 _, by
      show i ∈ ((View.whole main_v0_0).slice (win0_8.rect (pt i))).set
      rw [View.set_slice_whole, Rect.mem_set_unit]
      intro a
      have h0 : (i 0 : Nat) < 4 := (i 0).isLt
      have h1 : (i 1 : Nat) < 2048 := (i 1).isLt
      have h2 : (i 2 : Nat) < 512 := (i 2).isLt
      have hp : (pt i).val = 31 - (i 1).val / 64 := rfl
      match a with
      | ⟨0, _⟩ => show win0_8.index (pt i) 0 * 4 ≤ (i 0 : Nat) ∧ (i 0 : Nat) < win0_8.index (pt i) 0 * 4 + 4
                  rw [(index8 (pt i)).1]; omega
      | ⟨1, _⟩ => show win0_8.index (pt i) 1 * 64 ≤ (i 1 : Nat) ∧ (i 1 : Nat) < win0_8.index (pt i) 1 * 64 + 64
                  rw [(index8 (pt i)).2.1, hp]; omega
      | ⟨2, _⟩ => show win0_8.index (pt i) 2 * 512 ≤ (i 2 : Nat) ∧ (i 2 : Nat) < win0_8.index (pt i) 2 * 512 + 512
                  rw [(index8 (pt i)).2.2]; omega⟩

theorem flushed9 (c : Dev nD) (hf : (args m c).Finite) (t : Fin cfg0.N) :
    (dats m 0 c).flushed 9 t = ((cfg0.win 9).blk t).view.read (Elt Ideal) (lay fun b h => ((args m c).head b h).glw) := by
  rw [Value.flushed9, outs m c hf]
  funext (y : S4x64x512.Idx)
  idx_vars y
  rw [View.read_apply]
  refine (unpack_eq m c t.val In.dlw Head.glw (fun H q hq s j => H.chunk_dlw q hq s j) y0 y1 y2).trans ?_
  refine congrArg (lay _) ?_
  funext a
  apply Fin.ext
  match a with
  | ⟨0, _⟩ => show y0.val = win0_9.index t 0 * 4 + 1 * y0.val; rw [(index9 t).1]; omega
  | ⟨1, _⟩ => show 64 * (31 - t.val) + y1.val = win0_9.index t 1 * 64 + 1 * y1.val; rw [(index9 t).2.1]; omega
  | ⟨2, _⟩ => show y2.val = win0_9.index t 2 * 512 + 1 * y2.val; rw [(index9 t).2.2]; omega

theorem final9 (c : Dev nD) (hf : (args m c).Finite) :
    (dats m 0 c).arrAt 9 cfg0.N = lay fun b h => ((args m c).head b h).glw :=
  (dats m 0 c).arrAt_eq_of_cover 9 (lay fun b h => ((args m c).head b h).glw) (fun t _ => flushed9 m c hf t) fun (i : S4x2048x512.Idx) =>
    ⟨pt i, flush9 _, by
      show i ∈ ((View.whole main_v0_1).slice (win0_9.rect (pt i))).set
      rw [View.set_slice_whole, Rect.mem_set_unit]
      intro a
      have h0 : (i 0 : Nat) < 4 := (i 0).isLt
      have h1 : (i 1 : Nat) < 2048 := (i 1).isLt
      have h2 : (i 2 : Nat) < 512 := (i 2).isLt
      have hp : (pt i).val = 31 - (i 1).val / 64 := rfl
      match a with
      | ⟨0, _⟩ => show win0_9.index (pt i) 0 * 4 ≤ (i 0 : Nat) ∧ (i 0 : Nat) < win0_9.index (pt i) 0 * 4 + 4
                  rw [(index9 (pt i)).1]; omega
      | ⟨1, _⟩ => show win0_9.index (pt i) 1 * 64 ≤ (i 1 : Nat) ∧ (i 1 : Nat) < win0_9.index (pt i) 1 * 64 + 64
                  rw [(index9 (pt i)).2.1, hp]; omega
      | ⟨2, _⟩ => show win0_9.index (pt i) 2 * 512 ≤ (i 2 : Nat) ∧ (i 2 : Nat) < win0_9.index (pt i) 2 * 512 + 512
                  rw [(index9 (pt i)).2.2]; omega⟩

theorem flushed10 (c : Dev nD) (hf : (args m c).Finite) (t : Fin cfg0.N) :
    (dats m 0 c).flushed 10 t = ((cfg0.win 10).blk t).view.read (Elt Ideal) (lay fun b h => ((args m c).head b h).gk) := by
  rw [Value.flushed10, outs m c hf]
  funext (y : S4x64x512.Idx)
  idx_vars y
  rw [View.read_apply]
  refine (unpack_eq m c t.val In.dk Head.gk (fun H q hq s j => H.chunk_dk q hq s j) y0 y1 y2).trans ?_
  refine congrArg (lay _) ?_
  funext a
  apply Fin.ext
  match a with
  | ⟨0, _⟩ => show y0.val = win0_10.index t 0 * 4 + 1 * y0.val; rw [(index10 t).1]; omega
  | ⟨1, _⟩ => show 64 * (31 - t.val) + y1.val = win0_10.index t 1 * 64 + 1 * y1.val; rw [(index10 t).2.1]; omega
  | ⟨2, _⟩ => show y2.val = win0_10.index t 2 * 512 + 1 * y2.val; rw [(index10 t).2.2]; omega

theorem final10 (c : Dev nD) (hf : (args m c).Finite) :
    (dats m 0 c).arrAt 10 cfg0.N = lay fun b h => ((args m c).head b h).gk :=
  (dats m 0 c).arrAt_eq_of_cover 10 (lay fun b h => ((args m c).head b h).gk) (fun t _ => flushed10 m c hf t) fun (i : S4x2048x512.Idx) =>
    ⟨pt i, flush10 _, by
      show i ∈ ((View.whole main_v0_2).slice (win0_10.rect (pt i))).set
      rw [View.set_slice_whole, Rect.mem_set_unit]
      intro a
      have h0 : (i 0 : Nat) < 4 := (i 0).isLt
      have h1 : (i 1 : Nat) < 2048 := (i 1).isLt
      have h2 : (i 2 : Nat) < 512 := (i 2).isLt
      have hp : (pt i).val = 31 - (i 1).val / 64 := rfl
      match a with
      | ⟨0, _⟩ => show win0_10.index (pt i) 0 * 4 ≤ (i 0 : Nat) ∧ (i 0 : Nat) < win0_10.index (pt i) 0 * 4 + 4
                  rw [(index10 (pt i)).1]; omega
      | ⟨1, _⟩ => show win0_10.index (pt i) 1 * 64 ≤ (i 1 : Nat) ∧ (i 1 : Nat) < win0_10.index (pt i) 1 * 64 + 64
                  rw [(index10 (pt i)).2.1, hp]; omega
      | ⟨2, _⟩ => show win0_10.index (pt i) 2 * 512 ≤ (i 2 : Nat) ∧ (i 2 : Nat) < win0_10.index (pt i) 2 * 512 + 512
                  rw [(index10 (pt i)).2.2]; omega⟩

theorem flushed11 (c : Dev nD) (hf : (args m c).Finite) (t : Fin cfg0.N) :
    (dats m 0 c).flushed 11 t = ((cfg0.win 11).blk t).view.read (Elt Ideal) (lay fun b h => ((args m c).head b h).gv) := by
  rw [Value.flushed11, outs m c hf]
  funext (y : S4x64x512.Idx)
  idx_vars y
  rw [View.read_apply]
  refine (unpack_eq m c t.val In.dv Head.gv (fun H q hq s j => H.chunk_dv q hq s j) y0 y1 y2).trans ?_
  refine congrArg (lay _) ?_
  funext a
  apply Fin.ext
  match a with
  | ⟨0, _⟩ => show y0.val = win0_11.index t 0 * 4 + 1 * y0.val; rw [(index11 t).1]; omega
  | ⟨1, _⟩ => show 64 * (31 - t.val) + y1.val = win0_11.index t 1 * 64 + 1 * y1.val; rw [(index11 t).2.1]; omega
  | ⟨2, _⟩ => show y2.val = win0_11.index t 2 * 512 + 1 * y2.val; rw [(index11 t).2.2]; omega

theorem final11 (c : Dev nD) (hf : (args m c).Finite) :
    (dats m 0 c).arrAt 11 cfg0.N = lay fun b h => ((args m c).head b h).gv :=
  (dats m 0 c).arrAt_eq_of_cover 11 (lay fun b h => ((args m c).head b h).gv) (fun t _ => flushed11 m c hf t) fun (i : S4x2048x512.Idx) =>
    ⟨pt i, flush11 _, by
      show i ∈ ((View.whole main_v0_3).slice (win0_11.rect (pt i))).set
      rw [View.set_slice_whole, Rect.mem_set_unit]
      intro a
      have h0 : (i 0 : Nat) < 4 := (i 0).isLt
      have h1 : (i 1 : Nat) < 2048 := (i 1).isLt
      have h2 : (i 2 : Nat) < 512 := (i 2).isLt
      have hp : (pt i).val = 31 - (i 1).val / 64 := rfl
      match a with
      | ⟨0, _⟩ => show win0_11.index (pt i) 0 * 4 ≤ (i 0 : Nat) ∧ (i 0 : Nat) < win0_11.index (pt i) 0 * 4 + 4
                  rw [(index11 (pt i)).1]; omega
      | ⟨1, _⟩ => show win0_11.index (pt i) 1 * 64 ≤ (i 1 : Nat) ∧ (i 1 : Nat) < win0_11.index (pt i) 1 * 64 + 64
                  rw [(index11 (pt i)).2.1, hp]; omega
      | ⟨2, _⟩ => show win0_11.index (pt i) 2 * 512 ≤ (i 2 : Nat) ∧ (i 2 : Nat) < win0_11.index (pt i) 2 * 512 + 512
                  rw [(index11 (pt i)).2.2]; omega⟩

theorem flushed12 (c : Dev nD) (hf : (args m c).Finite) (t : Fin cfg0.N) :
    (dats m 0 c).flushed 12 t = ((cfg0.win 12).blk t).view.read (Elt Ideal) (lay fun b h => ((args m c).head b h).gkap) := by
  rw [Value.flushed12, outs m c hf]
  funext (y : S4x64x512.Idx)
  idx_vars y
  rw [View.read_apply]
  refine (unpack_eq m c t.val In.dkap Head.gkap (fun H q hq s j => H.chunk_dkap q hq s j) y0 y1 y2).trans ?_
  refine congrArg (lay _) ?_
  funext a
  apply Fin.ext
  match a with
  | ⟨0, _⟩ => show y0.val = win0_12.index t 0 * 4 + 1 * y0.val; rw [(index12 t).1]; omega
  | ⟨1, _⟩ => show 64 * (31 - t.val) + y1.val = win0_12.index t 1 * 64 + 1 * y1.val; rw [(index12 t).2.1]; omega
  | ⟨2, _⟩ => show y2.val = win0_12.index t 2 * 512 + 1 * y2.val; rw [(index12 t).2.2]; omega

theorem final12 (c : Dev nD) (hf : (args m c).Finite) :
    (dats m 0 c).arrAt 12 cfg0.N = lay fun b h => ((args m c).head b h).gkap :=
  (dats m 0 c).arrAt_eq_of_cover 12 (lay fun b h => ((args m c).head b h).gkap) (fun t _ => flushed12 m c hf t) fun (i : S4x2048x512.Idx) =>
    ⟨pt i, flush12 _, by
      show i ∈ ((View.whole main_v0_4).slice (win0_12.rect (pt i))).set
      rw [View.set_slice_whole, Rect.mem_set_unit]
      intro a
      have h0 : (i 0 : Nat) < 4 := (i 0).isLt
      have h1 : (i 1 : Nat) < 2048 := (i 1).isLt
      have h2 : (i 2 : Nat) < 512 := (i 2).isLt
      have hp : (pt i).val = 31 - (i 1).val / 64 := rfl
      match a with
      | ⟨0, _⟩ => show win0_12.index (pt i) 0 * 4 ≤ (i 0 : Nat) ∧ (i 0 : Nat) < win0_12.index (pt i) 0 * 4 + 4
                  rw [(index12 (pt i)).1]; omega
      | ⟨1, _⟩ => show win0_12.index (pt i) 1 * 64 ≤ (i 1 : Nat) ∧ (i 1 : Nat) < win0_12.index (pt i) 1 * 64 + 64
                  rw [(index12 (pt i)).2.1, hp]; omega
      | ⟨2, _⟩ => show win0_12.index (pt i) 2 * 512 ≤ (i 2 : Nat) ∧ (i 2 : Nat) < win0_12.index (pt i) 2 * 512 + 512
                  rw [(index12 (pt i)).2.2]; omega⟩

theorem flushed13 (c : Dev nD) (hf : (args m c).Finite) (t : Fin cfg0.N) :
    (dats m 0 c).flushed 13 t = ((cfg0.win 13).blk t).view.read (Elt Ideal) (lay fun b h => ((args m c).head b h).ga) := by
  rw [Value.flushed13, outs m c hf]
  funext (y : S4x64x512.Idx)
  idx_vars y
  rw [View.read_apply]
  refine (unpack_eq m c t.val In.da Head.ga (fun H q hq s j => H.chunk_da q hq s j) y0 y1 y2).trans ?_
  refine congrArg (lay _) ?_
  funext a
  apply Fin.ext
  match a with
  | ⟨0, _⟩ => show y0.val = win0_13.index t 0 * 4 + 1 * y0.val; rw [(index13 t).1]; omega
  | ⟨1, _⟩ => show 64 * (31 - t.val) + y1.val = win0_13.index t 1 * 64 + 1 * y1.val; rw [(index13 t).2.1]; omega
  | ⟨2, _⟩ => show y2.val = win0_13.index t 2 * 512 + 1 * y2.val; rw [(index13 t).2.2]; omega

theorem final13 (c : Dev nD) (hf : (args m c).Finite) :
    (dats m 0 c).arrAt 13 cfg0.N = lay fun b h => ((args m c).head b h).ga :=
  (dats m 0 c).arrAt_eq_of_cover 13 (lay fun b h => ((args m c).head b h).ga) (fun t _ => flushed13 m c hf t) fun (i : S4x2048x512.Idx) =>
    ⟨pt i, flush13 _, by
      show i ∈ ((View.whole main_v0_5).slice (win0_13.rect (pt i))).set
      rw [View.set_slice_whole, Rect.mem_set_unit]
      intro a
      have h0 : (i 0 : Nat) < 4 := (i 0).isLt
      have h1 : (i 1 : Nat) < 2048 := (i 1).isLt
      have h2 : (i 2 : Nat) < 512 := (i 2).isLt
      have hp : (pt i).val = 31 - (i 1).val / 64 := rfl
      match a with
      | ⟨0, _⟩ => show win0_13.index (pt i) 0 * 4 ≤ (i 0 : Nat) ∧ (i 0 : Nat) < win0_13.index (pt i) 0 * 4 + 4
                  rw [(index13 (pt i)).1]; omega
      | ⟨1, _⟩ => show win0_13.index (pt i) 1 * 64 ≤ (i 1 : Nat) ∧ (i 1 : Nat) < win0_13.index (pt i) 1 * 64 + 64
                  rw [(index13 (pt i)).2.1, hp]; omega
      | ⟨2, _⟩ => show win0_13.index (pt i) 2 * 512 ≤ (i 2 : Nat) ∧ (i 2 : Nat) < win0_13.index (pt i) 2 * 512 + 512
                  rw [(index13 (pt i)).2.2]; omega⟩

/-- The kernel's run: the results are the gradients of every head, and the arguments stay. -/
theorem run (hf : ∀ c, (args m c).Finite) : θ_run defs (onTc (τ := τ) (main (F := Ideal))) ⟨m, fun _ => 0, ρ⟩ fun r => ∀ c : Dev nD,
      r.2.mem ((c : Thread nD τ).loc main_v0_0) = lay (fun b h => ((args m c).head b h).gr)
      ∧ r.2.mem ((c : Thread nD τ).loc main_v0_1) = lay (fun b h => ((args m c).head b h).glw)
      ∧ r.2.mem ((c : Thread nD τ).loc main_v0_2) = lay (fun b h => ((args m c).head b h).gk)
      ∧ r.2.mem ((c : Thread nD τ).loc main_v0_3) = lay (fun b h => ((args m c).head b h).gv)
      ∧ r.2.mem ((c : Thread nD τ).loc main_v0_4) = lay (fun b h => ((args m c).head b h).gkap)
      ∧ r.2.mem ((c : Thread nD τ).loc main_v0_5) = lay (fun b h => ((args m c).head b h).ga)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final8 m c (hf c)), (h c).2.1.trans (final9 m c (hf c)), (h c).2.2.1.trans (final10 m c (hf c)), (h c).2.2.2.1.trans (final11 m c (hf c)), (h c).2.2.2.2.1.trans (final12 m c (hf c)), (h c).2.2.2.2.2.1.trans (final13 m c (hf c)), (h c).2.2.2.2.2.2⟩) (Value.run_blocks m ρ)

end Cert.Wkv.Kernel

end
-- ==== Proof.RefOps.lean ====
/- The reference's operations on arrays of real numbers, and the rows its loop reads and writes. -/
module

public import proofs.«01_k».proof.Proof.Arrays
public import proofs.«01_k».proof.Proof.Gen.ReferenceIdeal.Step
public import Idealize.ShloMosaic.Lib.Pointwise
public import Idealize.ShloMosaic.Lib.WordCmp
public import Idealize.ShloMosaic.Lib.WordArith
public import Idealize.ShloMosaic.Lib.Affine
public import Idealize.ShloMosaic.Lib.DynamicIndex

@[expose] public section

noncomputable section

namespace Cert.Wkv.Ref

open Idealize.ShloMosaic
open Cert.ReferenceIdeal Cert.ReferenceIdeal.Gen

/-- A matrix of every head. -/
def L4 (f : Fin 4 → Fin 8 → Fin 64 → Fin 64 → ℝ) : FVec Ideal S4x8x64x64 .f32 := fun y =>
  ((f (y 0) (y 1) (y 2) (y 3) : ℝ) : EReal)

/-- A vector of every head. -/
def L3 (f : Fin 4 → Fin 8 → Fin 64 → ℝ) : FVec Ideal S4x8x64 .f32 := fun y =>
  ((f (y 0) (y 1) (y 2) : ℝ) : EReal)

section Words

theorem toNat_divsi (u : ArithUnit) {x : BitVec 32} (hx : 2 * x.toNat < 2 ^ 32) (k : Nat) (hk : 0 < k) (hk' : 2 * k < 2 ^ 32) :
    (IntOp.divsi u x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  have hd : IntOp.divsi u x (BitVec.ofNat 32 k) = x.sdiv (BitVec.ofNat 32 k) :=
    if_neg (IntOp.not_corner_of_pos (by rw [BitVec.toInt_eq_toNat_of_lt (by omega)]; omega))
  rw [hd, BitVec.sdiv_eq, hm, hkm]
  show (x / BitVec.ofNat 32 k).toNat = _
  rw [BitVec.toNat_udiv, hkN]

end Words

section Elementwise

variable (f g : Fin 4 → Fin 8 → Fin 64 → Fin 64 → ℝ) (p q : Fin 4 → Fin 8 → Fin 64 → ℝ)

theorem mul4 : mulf (L4 f) (L4 g) = L4 fun b h i j => f b h i j * g b h i j := by
  funext y
  exact (EReal.coe_mul _ _).symm

theorem add4 : addf (L4 f) (L4 g) = L4 fun b h i j => f b h i j + g b h i j := by
  funext y
  exact (EReal.coe_add _ _).symm

theorem mul3 : mulf (L3 p) (L3 q) = L3 fun b h i => p b h i * q b h i := by
  funext y
  exact (EReal.coe_mul _ _).symm

theorem add3 : addf (L3 p) (L3 q) = L3 fun b h i => p b h i + q b h i := by
  funext y
  exact (EReal.coe_add _ _).symm

theorem neg3 : Host.negf (L3 p) = L3 fun b h i => -p b h i := by
  funext y
  exact (EReal.coe_neg _).symm

theorem exp3 : Host.exp (L3 p) = L3 fun b h i => Real.exp (p b h i) := by
  funext y
  exact Ideal.exp_coe _

theorem row4 : broadcastInDim S4x8x64x64 ![0, 1, 2, 3] bcast_S4x8x1x64_S4x8x64x64_0_1_2_3
    (broadcastInDim S4x8x1x64 ![0, 1, 3] bcast_S4x8x64_S4x8x1x64_0_1_3 (L3 p)) =
      L4 fun b h _ j => p b h j := by
  funext y
  pointwise [L3, L4]

theorem col4 : broadcastInDim S4x8x64x64 ![0, 1, 2, 3] bcast_S4x8x64x1_S4x8x64x64_0_1_2_3
    (broadcastInDim S4x8x64x1 ![0, 1, 2] bcast_S4x8x64_S4x8x64x1_0_1_2 (L3 p)) =
      L4 fun b h i _ => p b h i := by
  funext y
  pointwise [L3, L4]

theorem col4' : broadcastInDim S4x8x64x64 ![0, 1, 2] bcast_S4x8x64_S4x8x64x64_0_1_2 (L3 p) =
      L4 fun b h i _ => p b h i := by
  funext y
  pointwise [L3, L4]

theorem sumRow : Host.reduceAdd (L4 f) (constant S_ .f32 0x00000000#32) reducesTo_S4x8x64x64_S4x8x64_d3 h_S_ =
    L3 fun b h i => ∑ j, f b h i j := by
  funext y
  pointwise [L3, L4]
  simp only [zero_add, coe_sum]

theorem sumCol : Host.reduceAdd (L4 f) (constant S_ .f32 0x00000000#32) reducesTo_S4x8x64x64_S4x8x64_d2 h_S_ =
    L3 fun b h j => ∑ i, f b h i j := by
  funext y
  pointwise [L3, L4]
  simp only [zero_add, coe_sum]

theorem oneRow (h : S4x8x64.ShapeCasts S4x8x1x64) :
    Host.reduceAdd (shapeCast S4x8x1x64 (L3 p) h) (constant S_ .f32 0x00000000#32) reducesTo_S4x8x1x64_S4x8x64_d2 h_S_ = L3 p := by
  funext y
  pointwise [L3]
  simp

theorem oneCol (h : S4x8x64.ShapeCasts S4x8x64x1) :
    Host.reduceAdd (shapeCast S4x8x64x1 (L3 p) h) (constant S_ .f32 0x00000000#32) reducesTo_S4x8x64x1_S4x8x64_d3 h_S_ = L3 p := by
  funext y
  pointwise [L3]
  simp

end Elementwise

section Rows

theorem read3 (x : FVec Ideal S2048x4x8x64 .f32) (off : Fin 4 → ℤ) (hs) (hc) (t : Fin 2048)
    (e : ∀ a, off a = ((![t.val, 0, 0, 0] : Fin 4 → ℕ) a : ℤ)) :
    shapeCast S4x8x64 (Host.dynamicSlice S1x4x8x64 x off hs) hc = fun y => x (ix4 t (y 0) (y 1) (y 2)) := by
  rw [Host.dynamicSlice_eq_extractStridedSlice S1x4x8x64 x off ![t.val, 0, 0, 0] hs
    ⟨rfl, fun a => by fin_cases a <;> simp <;> omega⟩ e]
  funext y
  pointwise

theorem read5 (x : FVec Ideal S2048x4x8x64x64 .f32) (off : Fin 5 → ℤ) (hs) (hc) (t : Fin 2048)
    (e : ∀ a, off a = ((![t.val, 0, 0, 0, 0] : Fin 5 → ℕ) a : ℤ)) :
    shapeCast S4x8x64x64 (Host.dynamicSlice S1x4x8x64x64 x off hs) hc = fun y => x (ix5 t (y 0) (y 1) (y 2) (y 3)) := by
  rw [Host.dynamicSlice_eq_extractStridedSlice S1x4x8x64x64 x off ![t.val, 0, 0, 0, 0] hs
    ⟨rfl, fun a => by fin_cases a <;> simp <;> omega⟩ e]
  funext y
  pointwise

theorem readStart (x : FVec Ideal S32x4x8x64x64 .f32) (off : Fin 5 → ℤ) (hs) (hc) (t : Fin 32)
    (e : ∀ a, off a = ((![t.val, 0, 0, 0, 0] : Fin 5 → ℕ) a : ℤ)) :
    shapeCast S4x8x64x64 (Host.dynamicSlice S1x4x8x64x64 x off hs) hc = fun y => x (ix5 t (y 0) (y 1) (y 2) (y 3)) := by
  rw [Host.dynamicSlice_eq_extractStridedSlice S1x4x8x64x64 x off ![t.val, 0, 0, 0, 0] hs
    ⟨rfl, fun a => by fin_cases a <;> simp <;> omega⟩ e]
  funext y
  pointwise

theorem write3 (x : FVec Ideal S2048x4x8x64 .f32) (u : FVec Ideal S4x8x64 .f32) (off : Fin 4 → ℤ) (hs) (t : ℕ) (ht : t < 2048)
    (e : ∀ a, off a = ((![t, 0, 0, 0] : Fin 4 → ℕ) a : ℤ)) (r : Fin 2048) (b : Fin 4) (h : Fin 8) (j : Fin 64) :
    Host.dynamicUpdateSlice x (broadcastInDim S1x4x8x64 ![1, 2, 3] bcast_S4x8x64_S1x4x8x64_1_2_3 u) off hs
      (ix4 r b h j) = if r.val = t then u (ix3 b h j) else x (ix4 r b h j) := by
  rw [WordCmp.dynamicUpdateSlice_eq_update x _ off hs ![t, 0, 0, 0] ⟨rfl, fun a => by fin_cases a <;> simp <;> omega⟩ e]
  unfold updateSlice
  by_cases hr : r.val = t
  · rw [if_pos hr, dif_pos (by
      intro a; have := b.isLt; have := h.isLt; have := j.isLt
      fin_cases a <;> simp [ix4] <;> omega)]
    pointwise
  · rw [if_neg hr, dif_neg (by
      intro hh
      have := hh 0
      simp [ix4] at this
      omega)]

theorem write5 (x : FVec Ideal S2048x4x8x64x64 .f32) (u : FVec Ideal S4x8x64x64 .f32) (off : Fin 5 → ℤ) (hs) (t : ℕ) (ht : t < 2048)
    (e : ∀ a, off a = ((![t, 0, 0, 0, 0] : Fin 5 → ℕ) a : ℤ)) (r : Fin 2048) (b : Fin 4) (h : Fin 8) (i j : Fin 64) :
    Host.dynamicUpdateSlice x (broadcastInDim S1x4x8x64x64 ![1, 2, 3, 4] bcast_S4x8x64x64_S1x4x8x64x64_1_2_3_4 u) off hs
      (ix5 r b h i j) = if r.val = t then u (ix4 b h i j) else x (ix5 r b h i j) := by
  rw [WordCmp.dynamicUpdateSlice_eq_update x _ off hs ![t, 0, 0, 0, 0] ⟨rfl, fun a => by fin_cases a <;> simp <;> omega⟩ e]
  unfold updateSlice
  by_cases hr : r.val = t
  · rw [if_pos hr, dif_pos (by
      intro a; have := b.isLt; have := h.isLt; have := i.isLt; have := j.isLt
      fin_cases a <;> simp [ix5] <;> omega)]
    pointwise
  · rw [if_neg hr, dif_neg (by
      intro hh
      have := hh 0
      simp [ix5] at this
      omega)]

end Rows

end Cert.Wkv.Ref

end
-- ==== Proof.RefStep.lean ====
/- One trip of the reference's loop on arrays of real numbers: on the way out it stores the state before its step, on the way back it
   writes its step's gradients. -/
module

public import proofs.«01_k».proof.Proof.RefOps
public import proofs.«01_k».proof.Proof.Head

@[expose] public section

noncomputable section

namespace Cert.Wkv.Ref

open Idealize.ShloMosaic
open Cert.ReferenceIdeal Cert.ReferenceIdeal.Gen Cert.ReferenceIdeal.Step

section Scalars

variable (j : ℕ) (s : State Ideal)

theorem b4_nat (hj : j < 4096) (i : S_.Idx) : (b4 j s i).toNat = min j (4095 - j) := by
  have h1 : (BitVec.ofNat 32 j).toNat = j := by rw [BitVec.toNat_ofNat]; omega
  have h3 : (b3 j s i).toNat = 4095 - j := by
    show (4095#32 - BitVec.ofNat 32 j).toNat = _
    rw [BitVec.toNat_sub, h1]
    simp
    omega
  show (IntOp.minsi (BitVec.ofNat 32 j) (b3 j s i)).toNat = _
  rw [WordArith.toNat_minsi_of_lt _ _ (by omega) (by omega), h1, h3]

theorem b4_int (hj : j < 4096) (i : S_.Idx) : (b4 j s i).toInt = ((min j (4095 - j) : ℕ) : ℤ) := by
  rw [WordCmp.toInt_eq_toNat_of_lt_half (by rw [b4_nat j s hj]; omega), b4_nat j s hj]

theorem b12_int (hj : j < 4096) (i : S_.Idx) : (b12 j s i).toInt = ((min j (4095 - j) / 64 : ℕ) : ℤ) := by
  have h : (b12 j s i).toNat = min j (4095 - j) / 64 := by
    show (IntOp.divsi .host (b4 j s i) (BitVec.ofNat 32 64)).toNat = _
    rw [toNat_divsi _ (by rw [b4_nat j s hj]; omega) 64 (by omega) (by omega), b4_nat j s hj]
  rw [WordCmp.toInt_eq_toNat_of_lt_half (by rw [h]; omega), h]

theorem b10_eq (hj : j < 4096) (i : S_.Idx) : b10 j s i = BitVec.ofBool (decide (min j (4095 - j) % 64 = 0)) := by
  have h : (b8 j s i).toNat = min j (4095 - j) % 64 := by
    show (IntOp.remsi .host (b4 j s i) (BitVec.ofNat 32 64)).toNat = _
    rw [IntOp.toNat_remsi _ (by rw [b4_nat j s hj]; omega) 64 (by omega) (by omega), b4_nat j s hj]
  show IntOp.cmpi .eq (b8 j s i) 0#32 = _
  rw [WordCmp.cmpi_eq_eq]
  refine congrArg BitVec.ofBool (decide_eq_decide.mpr ?_)
  rw [← BitVec.toNat_inj, h]
  rfl

theorem b6_eq (hj : j < 4096) (i : S_.Idx) : b6 j s i = BitVec.ofBool (decide (j < 2048)) := by
  show IntOp.cmpi .slt (BitVec.ofNat 32 j) 2048#32 = _
  rw [WordCmp.cmpi_slt_eq]
  refine congrArg BitVec.ofBool (decide_eq_decide.mpr ?_)
  rw [toInt_ofNat_of_lt (by omega), show (2048#32 : BitVec 32).toInt = 2048 from by decide]
  omega

end Scalars

/-- A choice by one word of every entry: the first array where the word is one. -/
theorem sel_one {t : Shape} {α : Type} (hb : S_.BroadcastsInDim t (![] : Fin 0 → Fin t.rank)) (c : IVec S_ 1) (x y : t.Idx → α)
    (h : ∀ i, c i = 1#1) : select (broadcastInDim t ![] hb c) x y = x := by
  funext i
  show (if c _ = 1 then x i else y i) = x i
  rw [h]
  rfl

/-- And the second where it is zero. -/
theorem sel_zero {t : Shape} {α : Type} (hb : S_.BroadcastsInDim t (![] : Fin 0 → Fin t.rank)) (c : IVec S_ 1) (x y : t.Idx → α)
    (h : ∀ i, c i = 0#1) : select (broadcastInDim t ![] hb c) x y = y := by
  funext i
  show (if c _ = 1 then x i else y i) = y i
  rw [h]
  rfl

theorem off4 (w z1 z2 z3 : IVec S_ 32) (i : S_.Idx) (t : ℕ) (hw : (w i).toInt = (t : ℤ)) (h1 : z1 = constantI S_ 32 0#32)
    (h2 : z2 = constantI S_ 32 0#32) (h3 : z3 = constantI S_ 32 0#32) (a : Fin 4) :
    ((![w, z1, z2, z3] : Fin 4 → IVec S_ 32) a i).toInt = ((![t, 0, 0, 0] : Fin 4 → ℕ) a : ℤ) := by
  subst h1 h2 h3
  fin_cases a
  · exact hw
  all_goals rfl

theorem off5 (w z1 z2 z3 z4 : IVec S_ 32) (i : S_.Idx) (t : ℕ) (hw : (w i).toInt = (t : ℤ)) (h1 : z1 = constantI S_ 32 0#32)
    (h2 : z2 = constantI S_ 32 0#32) (h3 : z3 = constantI S_ 32 0#32) (h4 : z4 = constantI S_ 32 0#32) (a : Fin 5) :
    ((![w, z1, z2, z3, z4] : Fin 5 → IVec S_ 32) a i).toInt = ((![t, 0, 0, 0, 0] : Fin 5 → ℕ) a : ℤ) := by
  subst h1 h2 h3 h4
  fin_cases a
  · exact hw
  all_goals rfl

/-- What a trip reads: its step's rows, the state before the step and the gradient of the state after it. -/
structure Reads (H : Fin 4 → Fin 8 → Head) (t : ℕ) (S D : Fin 4 → Fin 8 → Fin 64 → Fin 64 → ℝ) (j : ℕ) (s : State Ideal) : Prop where
  r : b31 j s = L3 fun b h => (H b h).r t
  lw : b36 j s = L3 fun b h => (H b h).lw t
  k : b41 j s = L3 fun b h => (H b h).k t
  v : b46 j s = L3 fun b h => (H b h).v t
  kap : b51 j s = L3 fun b h => (H b h).kap t
  a : b56 j s = L3 fun b h => (H b h).a t
  dy : b89 j s = L3 fun b h => (H b h).dy t
  S : b26 j s = L4 S
  D : s.main_v23_11 = L4 D

section Values

variable {H : Fin 4 → Fin 8 → Head} {t : ℕ} {S D : Fin 4 → Fin 8 → Fin 64 → Fin 64 → ℝ} {j : ℕ} {s : State Ideal}
variable (R : Reads H t S D j s)

include R

theorem lost_eq : b62 j s = L3 fun b h => (H b h).lost t (S b h) := by
  unfold b62 b60 b59 b58 b57 b61
  rw [R.S, R.kap, neg3, row4, mul4, sumRow]
  rfl

theorem next_eq : b79 j s = L4 fun b h => (H b h).next t (S b h) := by
  unfold b79 b73 b66 b65 b64 b63 b72 b70 b67 b71 b69 b68 b78 b76 b74 b77 b75
  rw [lost_eq R, R.S, R.lw, R.kap, R.a, R.v, R.k, exp3, row4, mul4, mul3, col4, row4, mul4, add4, col4, row4, mul4, add4]
  rfl

theorem with_eq : b97 j s = L4 fun b h => (H b h).with_ t (D b h) := by
  unfold b97 b96 b95 b90 b80
  rw [R.D, R.dy, R.r, row4, col4', mul4, add4]
  rfl

theorem gr_eq : b99 j s = L3 fun b h i => ∑ o, (H b h).next t (S b h) o i * (H b h).dy t o := by
  unfold b99 b98 b94 b93 b92 b91 b90
  rw [next_eq R, R.dy, col4', mul4, sumCol, oneRow]

theorem gk_eq : b111 j s = L3 fun b h i => ∑ o, (H b h).with_ t (D b h) o i * (H b h).v t o := by
  unfold b111 b110 b104 b103 b102 b101 b100 b74
  rw [with_eq R, R.v, col4, mul4, sumCol, oneRow]
  simp only [mul_comm]

theorem gv_eq : b113 j s = L3 fun b h i => ∑ o, (H b h).with_ t (D b h) i o * (H b h).k t o := by
  unfold b113 b112 b109 b108 b107 b106 b105 b75
  rw [with_eq R, R.k, row4, mul4, sumRow, oneCol]

theorem gu_eq : b125 j s = L3 fun b h i => ∑ o, (H b h).with_ t (D b h) o i * (H b h).lost t (S b h) o := by
  unfold b125 b124 b118 b117 b116 b115 b114 b67
  rw [lost_eq R, with_eq R, col4, mul4, sumCol, oneRow]
  simp only [mul_comm]

theorem ga_eq : b126 j s = L3 fun b h i => (H b h).kap t i * ∑ o, (H b h).with_ t (D b h) o i * (H b h).lost t (S b h) o := by
  unfold b126
  rw [gu_eq R, R.kap, mul3]

theorem dlost_eq : b129 j s = L3 fun b h => (H b h).dlost t (D b h) := by
  unfold b129 b128 b123 b122 b121 b120 b119 b69 b68
  rw [with_eq R, R.kap, R.a, mul3, row4, mul4, sumRow, oneCol]
  rfl

theorem glw_eq : b138 j s = L3 fun b h i => (∑ o, S b h o i * (H b h).with_ t (D b h) o i) * Real.exp ((H b h).lw t i) := by
  unfold b138 b137 b136 b133 b132 b131 b130 b63
  rw [with_eq R, R.S, R.lw, exp3, mul4, sumCol, oneRow, mul3]

theorem gkap_eq : b150 j s = L3 fun b h i => (∑ o, (H b h).with_ t (D b h) o i * (H b h).lost t (S b h) o) * (H b h).a t i -
      ∑ o, S b h o i * (H b h).dlost t (D b h) o := by
  unfold b150 b127 b149 b148 b147 b143 b142 b141 b140 b139
  rw [gu_eq R, dlost_eq R, R.S, R.a, col4', mul3, mul4, sumCol, oneRow, neg3, add3]
  simp only [sub_eq_add_neg]

theorem prev_eq : b146 j s = L4 fun b h => (H b h).prev t (D b h) := by
  unfold b146 b145 b144 b139 b135 b134 b64 b63 b58 b57
  rw [with_eq R, dlost_eq R, R.lw, R.kap, exp3, neg3, row4, col4', row4, mul4, mul4, add4]
  rfl

end Values

end Cert.Wkv.Ref

end
-- ==== Proof.RefRun.lean ====
/- The reference's run: what its loop holds before every trip, by induction, and its results as the gradients of every head. -/
module

public import proofs.«01_k».proof.Proof.RefStep

@[expose] public section

noncomputable section

namespace Cert.Wkv.Ref

open Idealize.ShloMosaic
open Cert.ReferenceIdeal Cert.ReferenceIdeal.Gen Cert.ReferenceIdeal.Step

/-- What the loop holds before trip `n`. -/
structure Inv (H : Fin 4 → Fin 8 → Head) (n : ℕ) (s : State Ideal) : Prop where
  c0 : ∀ (c : Fin 32) (b : Fin 4) (h : Fin 8) (i j : Fin 64), s.main_v23_0 (ix5 c b h i j) = (((H b h).st c.val i j : ℝ) : EReal)
  c1 : ∀ (t : Fin 2048) (b : Fin 4) (h : Fin 8) (j : Fin 64), s.main_v23_1 (ix4 t b h j) = (((H b h).r t.val j : ℝ) : EReal)
  c2 : ∀ (t : Fin 2048) (b : Fin 4) (h : Fin 8) (j : Fin 64), s.main_v23_2 (ix4 t b h j) = (((H b h).lw t.val j : ℝ) : EReal)
  c3 : ∀ (t : Fin 2048) (b : Fin 4) (h : Fin 8) (j : Fin 64), s.main_v23_3 (ix4 t b h j) = (((H b h).k t.val j : ℝ) : EReal)
  c4 : ∀ (t : Fin 2048) (b : Fin 4) (h : Fin 8) (j : Fin 64), s.main_v23_4 (ix4 t b h j) = (((H b h).v t.val j : ℝ) : EReal)
  c5 : ∀ (t : Fin 2048) (b : Fin 4) (h : Fin 8) (j : Fin 64), s.main_v23_5 (ix4 t b h j) = (((H b h).kap t.val j : ℝ) : EReal)
  c6 : ∀ (t : Fin 2048) (b : Fin 4) (h : Fin 8) (j : Fin 64), s.main_v23_6 (ix4 t b h j) = (((H b h).a t.val j : ℝ) : EReal)
  c7 : ∀ (t : Fin 2048) (b : Fin 4) (h : Fin 8) (j : Fin 64), s.main_v23_7 (ix4 t b h j) = (((H b h).dy t.val j : ℝ) : EReal)
  st : n < 2048 → n % 64 ≠ 0 → s.main_v23_10 = L4 fun b h => (H b h).bef n
  d : s.main_v23_11 = L4 fun b h => (H b h).back (n - 2048)
  be : ∀ t : Fin 2048, t.val < n → ∀ (b : Fin 4) (h : Fin 8) (i j : Fin 64),
    s.main_v23_12 (ix5 t b h i j) = (((H b h).bef t.val i j : ℝ) : EReal)
  g13 : ∀ t : Fin 2048, 4096 ≤ n + t.val → ∀ (b : Fin 4) (h : Fin 8) (j : Fin 64),
    s.main_v23_13 (ix4 t b h j) = (((H b h).gr t.val j : ℝ) : EReal)
  g14 : ∀ t : Fin 2048, 4096 ≤ n + t.val → ∀ (b : Fin 4) (h : Fin 8) (j : Fin 64),
    s.main_v23_14 (ix4 t b h j) = (((H b h).glw t.val j : ℝ) : EReal)
  g15 : ∀ t : Fin 2048, 4096 ≤ n + t.val → ∀ (b : Fin 4) (h : Fin 8) (j : Fin 64),
    s.main_v23_15 (ix4 t b h j) = (((H b h).gk t.val j : ℝ) : EReal)
  g16 : ∀ t : Fin 2048, 4096 ≤ n + t.val → ∀ (b : Fin 4) (h : Fin 8) (j : Fin 64),
    s.main_v23_16 (ix4 t b h j) = (((H b h).gv t.val j : ℝ) : EReal)
  g17 : ∀ t : Fin 2048, 4096 ≤ n + t.val → ∀ (b : Fin 4) (h : Fin 8) (j : Fin 64),
    s.main_v23_17 (ix4 t b h j) = (((H b h).gkap t.val j : ℝ) : EReal)
  g18 : ∀ t : Fin 2048, 4096 ≤ n + t.val → ∀ (b : Fin 4) (h : Fin 8) (j : Fin 64),
    s.main_v23_18 (ix4 t b h j) = (((H b h).ga t.val j : ℝ) : EReal)

section Trip

variable {H : Fin 4 → Fin 8 → Head} {n : ℕ} {s : State Ideal}

/-- The state before the step, on the way out. -/
theorem out_state (I : Inv H n s) (hn : n < 2048) : b26 n s = L4 fun b h => (H b h).bef n := by
  have hm : min n (4095 - n) = n := by omega
  unfold b26
  rw [sel_one _ _ _ _ (fun i => by rw [b6_eq n s (by omega), decide_eq_true hn]; rfl)]
  unfold b19
  by_cases h : n % 64 = 0
  · rw [sel_one _ _ _ _ (fun i => by rw [b10_eq n s (by omega), hm, decide_eq_true h]; rfl)]
    unfold b18 b17
    refine (readStart _ _ _ _ ⟨n / 64, by omega⟩ (fun a => off5 _ _ _ _ _ _ _
      (by rw [b12_int n s (by omega), hm]) rfl rfl rfl rfl a)).trans ?_
    funext y
    refine (I.c0 _ _ _ _ _).trans ?_
    unfold L4
    refine congrArg _ (congrFun (congrFun ?_ _) _)
    cases n with
    | zero => rfl
    | succ m => rw [Head.bef, if_pos h]
  · rw [sel_zero _ _ _ _ (fun i => by rw [b10_eq n s (by omega), hm, decide_eq_false h]; rfl)]
    exact I.st hn h

/-- The state before the step, on the way back. -/
theorem back_state (I : Inv H n s) (hn : 2048 ≤ n) (hn' : n < 4096) : b26 n s = L4 fun b h => (H b h).bef (4095 - n) := by
  have hm : min n (4095 - n) = 4095 - n := by omega
  unfold b26
  rw [sel_zero _ _ _ _ (fun i => by rw [b6_eq n s (by omega), decide_eq_false (by omega)]; rfl)]
  unfold b25 b24
  refine (read5 _ _ _ _ ⟨4095 - n, by omega⟩ (fun a => off5 _ _ _ _ _ _ _
    (by rw [b4_int n s (by omega), hm]) rfl rfl rfl rfl a)).trans ?_
  funext y
  exact I.be _ (by simp; omega) _ _ _ _

theorem reads (I : Inv H n s) (hn : n < 4096) {S : Fin 4 → Fin 8 → Fin 64 → Fin 64 → ℝ} (hS : b26 n s = L4 S) :
    Reads H (min n (4095 - n)) S (fun b h => (H b h).back (n - 2048)) n s where
  r := by
    unfold b31 b30
    refine (read3 _ _ _ _ ⟨min n (4095 - n), by omega⟩ (fun a => off4 _ _ _ _ _ _ (b4_int n s hn _) rfl rfl rfl a)).trans ?_
    funext y
    exact I.c1 _ _ _ _
  lw := by
    unfold b36 b35
    refine (read3 _ _ _ _ ⟨min n (4095 - n), by omega⟩ (fun a => off4 _ _ _ _ _ _ (b4_int n s hn _) rfl rfl rfl a)).trans ?_
    funext y
    exact I.c2 _ _ _ _
  k := by
    unfold b41 b40
    refine (read3 _ _ _ _ ⟨min n (4095 - n), by omega⟩ (fun a => off4 _ _ _ _ _ _ (b4_int n s hn _) rfl rfl rfl a)).trans ?_
    funext y
    exact I.c3 _ _ _ _
  v := by
    unfold b46 b45
    refine (read3 _ _ _ _ ⟨min n (4095 - n), by omega⟩ (fun a => off4 _ _ _ _ _ _ (b4_int n s hn _) rfl rfl rfl a)).trans ?_
    funext y
    exact I.c4 _ _ _ _
  kap := by
    unfold b51 b50
    refine (read3 _ _ _ _ ⟨min n (4095 - n), by omega⟩ (fun a => off4 _ _ _ _ _ _ (b4_int n s hn _) rfl rfl rfl a)).trans ?_
    funext y
    exact I.c5 _ _ _ _
  a := by
    unfold b56 b55
    refine (read3 _ _ _ _ ⟨min n (4095 - n), by omega⟩ (fun a => off4 _ _ _ _ _ _ (b4_int n s hn _) rfl rfl rfl a)).trans ?_
    funext y
    exact I.c6 _ _ _ _
  dy := by
    unfold b89 b88
    refine (read3 _ _ _ _ ⟨min n (4095 - n), by omega⟩ (fun a => off4 _ _ _ _ _ _ (b4_int n s hn _) rfl rfl rfl a)).trans ?_
    funext y
    exact I.c7 _ _ _ _
  S := hS
  D := I.d

theorem back_reads (I : Inv H n s) (hn : 2048 ≤ n) (hn' : n < 4096) :
    Reads H (4095 - n) (fun b h => (H b h).bef (4095 - n)) (fun b h => (H b h).D (4095 - n + 1)) n s := by
  have R := reads I hn' (back_state I hn hn')
  rw [show min n (4095 - n) = 4095 - n by omega, show n - 2048 = 2048 - (4095 - n + 1) by omega] at R
  exact R

/-- A trip on the way out. -/
theorem step_out (I : Inv H n s) (hn : n < 2048) : Inv H (n + 1) (step n s) where
  c0 := I.c0
  c1 := I.c1
  c2 := I.c2
  c3 := I.c3
  c4 := I.c4
  c5 := I.c5
  c6 := I.c6
  c7 := I.c7
  st := fun h1 h2 => by
    rw [step_main_v23_10, next_eq (reads I (by omega) (out_state I hn)), show min n (4095 - n) = n by omega]
    funext y
    unfold L4
    refine congrArg _ (congrFun (congrFun ?_ _) _)
    rw [Head.bef, if_neg h2]
  d := by
    rw [step_main_v23_11]
    unfold b151
    rw [sel_one _ _ _ _ (fun i => by rw [b6_eq n s (by omega), decide_eq_true hn]; rfl), I.d,
      show n - 2048 = 0 by omega, show n + 1 - 2048 = 0 by omega]
  be := fun t ht b h i j => by
    rw [step_main_v23_12]
    unfold b158 b157 b152
    rw [sel_one _ _ _ _ (fun i => by rw [b6_eq n s (by omega), decide_eq_true hn]; rfl)]
    refine (write5 _ _ _ _ n hn (fun a => off5 _ _ _ _ _ _ _
      (by rw [b4_int n s (by omega), show min n (4095 - n) = n by omega]) rfl rfl rfl rfl a) t b h i j).trans ?_
    split
    · rename_i e
      rw [out_state I hn, e]
      rfl
    · exact I.be t (by omega) b h i j
  g13 := fun t ht b h j => by have := t.isLt; omega
  g14 := fun t ht b h j => by have := t.isLt; omega
  g15 := fun t ht b h j => by have := t.isLt; omega
  g16 := fun t ht b h j => by have := t.isLt; omega
  g17 := fun t ht b h j => by have := t.isLt; omega
  g18 := fun t ht b h j => by have := t.isLt; omega

/-- A trip on the way back. -/
theorem step_back (I : Inv H n s) (hn : 2048 ≤ n) (hn' : n < 4096) : Inv H (n + 1) (step n s) where
  c0 := I.c0
  c1 := I.c1
  c2 := I.c2
  c3 := I.c3
  c4 := I.c4
  c5 := I.c5
  c6 := I.c6
  c7 := I.c7
  st := fun h1 h2 => by omega
  d := by
    rw [step_main_v23_11]
    unfold b151
    rw [sel_zero _ _ _ _ (fun i => by rw [b6_eq n s (by omega), decide_eq_false (by omega)]; rfl),
      prev_eq (reads I hn' (back_state I hn hn')), show min n (4095 - n) = 2047 - (n - 2048) by omega,
      show n + 1 - 2048 = (n - 2048) + 1 by omega]
    rfl
  be := fun t ht b h i j => by
    rw [step_main_v23_12]
    unfold b158
    rw [sel_zero _ _ _ _ (fun i => by rw [b6_eq n s (by omega), decide_eq_false (by omega)]; rfl)]
    exact I.be t (by have := t.isLt; omega) b h i j
  g13 := fun t ht b h j => by
    rw [step_main_v23_13]
    unfold b164 b163 b159
    rw [sel_zero _ _ _ _ (fun i => by rw [b6_eq n s (by omega), decide_eq_false (by omega)]; rfl)]
    refine (write3 _ _ _ _ (min n (4095 - n)) (by omega)
      (fun a => off4 _ _ _ _ _ _ (b4_int n s hn' _) rfl rfl rfl a) t b h j).trans ?_
    split
    · rename_i e
      rw [gr_eq (back_reads I hn hn'), e, show min n (4095 - n) = 4095 - n by omega]
      rfl
    · exact I.g13 t (by omega) b h j
  g14 := fun t ht b h j => by
    rw [step_main_v23_14]
    unfold b170 b169 b165
    rw [sel_zero _ _ _ _ (fun i => by rw [b6_eq n s (by omega), decide_eq_false (by omega)]; rfl)]
    refine (write3 _ _ _ _ (min n (4095 - n)) (by omega)
      (fun a => off4 _ _ _ _ _ _ (b4_int n s hn' _) rfl rfl rfl a) t b h j).trans ?_
    split
    · rename_i e
      rw [glw_eq (back_reads I hn hn'), e, show min n (4095 - n) = 4095 - n by omega]
      rfl
    · exact I.g14 t (by omega) b h j
  g15 := fun t ht b h j => by
    rw [step_main_v23_15]
    unfold b176 b175 b171
    rw [sel_zero _ _ _ _ (fun i => by rw [b6_eq n s (by omega), decide_eq_false (by omega)]; rfl)]
    refine (write3 _ _ _ _ (min n (4095 - n)) (by omega)
      (fun a => off4 _ _ _ _ _ _ (b4_int n s hn' _) rfl rfl rfl a) t b h j).trans ?_
    split
    · rename_i e
      rw [gk_eq (back_reads I hn hn'), e, show min n (4095 - n) = 4095 - n by omega]
      rfl
    · exact I.g15 t (by omega) b h j
  g16 := fun t ht b h j => by
    rw [step_main_v23_16]
    unfold b182 b181 b177
    rw [sel_zero _ _ _ _ (fun i => by rw [b6_eq n s (by omega), decide_eq_false (by omega)]; rfl)]
    refine (write3 _ _ _ _ (min n (4095 - n)) (by omega)
      (fun a => off4 _ _ _ _ _ _ (b4_int n s hn' _) rfl rfl rfl a) t b h j).trans ?_
    split
    · rename_i e
      rw [gv_eq (back_reads I hn hn'), e, show min n (4095 - n) = 4095 - n by omega]
      rfl
    · exact I.g16 t (by omega) b h j
  g17 := fun t ht b h j => by
    rw [step_main_v23_17]
    unfold b188 b187 b183
    rw [sel_zero _ _ _ _ (fun i => by rw [b6_eq n s (by omega), decide_eq_false (by omega)]; rfl)]
    refine (write3 _ _ _ _ (min n (4095 - n)) (by omega)
      (fun a => off4 _ _ _ _ _ _ (b4_int n s hn' _) rfl rfl rfl a) t b h j).trans ?_
    split
    · rename_i e
      rw [gkap_eq (back_reads I hn hn'), e, show min n (4095 - n) = 4095 - n by omega]
      rfl
    · exact I.g17 t (by omega) b h j
  g18 := fun t ht b h j => by
    rw [step_main_v23_18]
    unfold b194 b193 b189
    rw [sel_zero _ _ _ _ (fun i => by rw [b6_eq n s (by omega), decide_eq_false (by omega)]; rfl)]
    refine (write3 _ _ _ _ (min n (4095 - n)) (by omega)
      (fun a => off4 _ _ _ _ _ _ (b4_int n s hn' _) rfl rfl rfl a) t b h j).trans ?_
    split
    · rename_i e
      rw [ga_eq (back_reads I hn hn'), e, show min n (4095 - n) = 4095 - n by omega]
      rfl
    · exact I.g18 t (by omega) b h j

theorem step_inv (I : Inv H n s) (hn : n < 4096) : Inv H (n + 1) (step n s) := by
  by_cases h : n < 2048
  · exact step_out I h
  · exact step_back I (by omega) hn

theorem iter_inv {it : ℕ → State Ideal} (h0 : Inv H 0 (it 0)) (hs : ∀ n, it (n + 1) = step n (it n)) (n : ℕ) (hn : n ≤ 4096) :
    Inv H n (it n) := by
  induction n with
  | zero => exact h0
  | succ n ih => rw [hs]; exact step_inv (ih (by omega)) (by omega)

end Trip

section Ends

variable (x : Args)

/-- The loop's first state is that of the arguments. -/
theorem inv_init (hx : x.Finite) : Inv x.head 0 (init x.x0 x.x1 x.x2 x.x3 x.x4 x.x5 x.x6 x.x7) where
  c0 := fun c b h i j => by
    refine Eq.trans ?_ (at5_coe hx.f6 b h c i j).symm
    show A_main_v0 (F := Ideal) x.x0 x.x1 x.x2 x.x3 x.x4 x.x5 x.x6 x.x7 (ix5 c b h i j) = _
    pointwise [A_main_v0]
  c1 := fun t b h j => by
    refine Eq.trans ?_ (at3_coe hx.f0 b h t j).symm
    show A_main_v2 (F := Ideal) x.x0 x.x1 x.x2 x.x3 x.x4 x.x5 x.x6 x.x7 (ix4 t b h j) = _
    pointwise [A_main_v2, A_main_v1]
  c2 := fun t b h j => by
    refine Eq.trans ?_ (at3_coe hx.f1 b h t j).symm
    show A_main_v4 (F := Ideal) x.x0 x.x1 x.x2 x.x3 x.x4 x.x5 x.x6 x.x7 (ix4 t b h j) = _
    pointwise [A_main_v4, A_main_v3]
  c3 := fun t b h j => by
    refine Eq.trans ?_ (at3_coe hx.f2 b h t j).symm
    show A_main_v6 (F := Ideal) x.x0 x.x1 x.x2 x.x3 x.x4 x.x5 x.x6 x.x7 (ix4 t b h j) = _
    pointwise [A_main_v6, A_main_v5]
  c4 := fun t b h j => by
    refine Eq.trans ?_ (at3_coe hx.f3 b h t j).symm
    show A_main_v8 (F := Ideal) x.x0 x.x1 x.x2 x.x3 x.x4 x.x5 x.x6 x.x7 (ix4 t b h j) = _
    pointwise [A_main_v8, A_main_v7]
  c5 := fun t b h j => by
    refine Eq.trans ?_ (at3_coe hx.f4 b h t j).symm
    show A_main_v10 (F := Ideal) x.x0 x.x1 x.x2 x.x3 x.x4 x.x5 x.x6 x.x7 (ix4 t b h j) = _
    pointwise [A_main_v10, A_main_v9]
  c6 := fun t b h j => by
    refine Eq.trans ?_ (at3_coe hx.f5 b h t j).symm
    show A_main_v12 (F := Ideal) x.x0 x.x1 x.x2 x.x3 x.x4 x.x5 x.x6 x.x7 (ix4 t b h j) = _
    pointwise [A_main_v12, A_main_v11]
  c7 := fun t b h j => by
    refine Eq.trans ?_ (at3_coe hx.f7 b h t j).symm
    show A_main_v14 (F := Ideal) x.x0 x.x1 x.x2 x.x3 x.x4 x.x5 x.x6 x.x7 (ix4 t b h j) = _
    pointwise [A_main_v14, A_main_v13]
  st := fun _ h => absurd rfl h
  d := by
    show K_main_v15 (F := Ideal) = _
    funext y
    pointwise [K_main_v15, K_main_cst]
    rfl
  be := fun t ht => absurd ht (Nat.not_lt_zero _)
  g13 := fun t ht b h j => by have := t.isLt; omega
  g14 := fun t ht b h j => by have := t.isLt; omega
  g15 := fun t ht b h j => by have := t.isLt; omega
  g16 := fun t ht b h j => by have := t.isLt; omega
  g17 := fun t ht b h j => by have := t.isLt; omega
  g18 := fun t ht b h j => by have := t.isLt; omega

theorem res13 {H : Fin 4 → Fin 8 → Head} {s : State Ideal} (I : Inv H 4096 s) : R_main_v25 s = lay fun b h => (H b h).gr := by
  funext y
  obtain ⟨b, t, c, rfl⟩ : ∃ (b : Fin 4) (t : Fin 2048) (c : Fin 512), y = ix3 b t c :=
    ⟨y 0, y 1, y 2, by funext a; fin_cases a <;> rfl⟩
  refine Eq.trans ?_ (I.g13 t (by omega) b ⟨c.val / 64, by omega⟩ ⟨c.val % 64, by omega⟩)
  pointwise [R_main_v25]

theorem res14 {H : Fin 4 → Fin 8 → Head} {s : State Ideal} (I : Inv H 4096 s) : R_main_v27 s = lay fun b h => (H b h).glw := by
  funext y
  obtain ⟨b, t, c, rfl⟩ : ∃ (b : Fin 4) (t : Fin 2048) (c : Fin 512), y = ix3 b t c :=
    ⟨y 0, y 1, y 2, by funext a; fin_cases a <;> rfl⟩
  refine Eq.trans ?_ (I.g14 t (by omega) b ⟨c.val / 64, by omega⟩ ⟨c.val % 64, by omega⟩)
  pointwise [R_main_v27]

theorem res15 {H : Fin 4 → Fin 8 → Head} {s : State Ideal} (I : Inv H 4096 s) : R_main_v29 s = lay fun b h => (H b h).gk := by
  funext y
  obtain ⟨b, t, c, rfl⟩ : ∃ (b : Fin 4) (t : Fin 2048) (c : Fin 512), y = ix3 b t c :=
    ⟨y 0, y 1, y 2, by funext a; fin_cases a <;> rfl⟩
  refine Eq.trans ?_ (I.g15 t (by omega) b ⟨c.val / 64, by omega⟩ ⟨c.val % 64, by omega⟩)
  pointwise [R_main_v29]

theorem res16 {H : Fin 4 → Fin 8 → Head} {s : State Ideal} (I : Inv H 4096 s) : R_main_v31 s = lay fun b h => (H b h).gv := by
  funext y
  obtain ⟨b, t, c, rfl⟩ : ∃ (b : Fin 4) (t : Fin 2048) (c : Fin 512), y = ix3 b t c :=
    ⟨y 0, y 1, y 2, by funext a; fin_cases a <;> rfl⟩
  refine Eq.trans ?_ (I.g16 t (by omega) b ⟨c.val / 64, by omega⟩ ⟨c.val % 64, by omega⟩)
  pointwise [R_main_v31]

theorem res17 {H : Fin 4 → Fin 8 → Head} {s : State Ideal} (I : Inv H 4096 s) : R_main_v33 s = lay fun b h => (H b h).gkap := by
  funext y
  obtain ⟨b, t, c, rfl⟩ : ∃ (b : Fin 4) (t : Fin 2048) (c : Fin 512), y = ix3 b t c :=
    ⟨y 0, y 1, y 2, by funext a; fin_cases a <;> rfl⟩
  refine Eq.trans ?_ (I.g17 t (by omega) b ⟨c.val / 64, by omega⟩ ⟨c.val % 64, by omega⟩)
  pointwise [R_main_v33]

theorem res18 {H : Fin 4 → Fin 8 → Head} {s : State Ideal} (I : Inv H 4096 s) : R_main_v35 s = lay fun b h => (H b h).ga := by
  funext y
  obtain ⟨b, t, c, rfl⟩ : ∃ (b : Fin 4) (t : Fin 2048) (c : Fin 512), y = ix3 b t c :=
    ⟨y 0, y 1, y 2, by funext a; fin_cases a <;> rfl⟩
  refine Eq.trans ?_ (I.g18 t (by omega) b ⟨c.val / 64, by omega⟩ ⟨c.val % 64, by omega⟩)
  pointwise [R_main_v35]

end Ends

end Cert.Wkv.Ref

end
-- ==== Proof.Finite.lean ====
/- What the precondition says: every entry of every argument is a finite number. -/
module

public import proofs.«01_k».proof.Proof.Arrays
public import proofs.«01_k».proof.Pre_finite

@[expose] public section

noncomputable section

namespace Cert.Wkv

open Idealize.ShloMosaic

theorem fini_of_entry (x : EReal) (h : Ideal.cmp .olt (max x (-x)) (Ideal.ofBits .f32 0x7F800000#32) = 1#1) :
    ((EReal.toReal x : ℝ) : EReal) = x := by
  have ht : Ideal.ofBits .f32 0x7F800000#32 = ⊤ := by simp [Ideal.ofBits, Ideal.ieee]
  rw [ht] at h
  induction x with
  | bot => simp [Ideal.cmp] at h
  | top => simp [Ideal.cmp] at h
  | coe x => rfl

theorem fini_of_pre {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32)) = fun _ => 1#1) :
    Fini x := fun i => fini_of_entry (x i) (congrFun h i)

end Cert.Wkv

end
-- ==== Proof.MixOut.lean ====
/- The mixer's products around its two recurrences — the output projections, the last product, and the derivatives of both
   in their rows: the kernel's results, entry by entry, and the references'. -/
module

public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import Idealize.ShloMosaic.Lib.Pointwise
public import Idealize.ShloMosaic.Lib.IdealHost

@[expose] public section

noncomputable section

namespace Cert.Mix.OutSb

open Idealize.ShloMosaic Idealize.ShloMosaic.TcCoe Idealize.SL.Sem
open Idealize.ShloMosaic.Pipeline (Dat)
open Cert.Kernel23Ideal Cert.Kernel23Ideal.Gen

/-- A block's product at an entry. -/
theorem pay_apply (v0 : FVec Ideal S512x512 .bf16) (v1 : FVec Ideal S1024x512 .bf16) (j : S512x1024.Idx) :
    (k0_pay1 v0 v1 : FVec Ideal S512x1024 .bf16) j = ∑ k : Fin 512, v0 (ix2 (j 0) k) * v1 (ix2 (j 1) k) := by
  unfold k0_pay1
  pointwise

variable (m : (ℓ : Loc nD τ sig) → Buf (Elt Ideal) ℓ) (ρ : Dev nD → PrngReg)

/-- The arguments a device holds. -/
def a0 (c : Dev nD) : FVec Ideal S8192x512 .bf16 := m ((c : Thread nD τ).loc main_arg0)
def a1 (c : Dev nD) : FVec Ideal S1024x512 .bf16 := m ((c : Thread nD τ).loc main_arg1)

/-- The whole product. -/
def prod (x : FVec Ideal S8192x512 .bf16) (w : FVec Ideal S1024x512 .bf16) : FVec Ideal S8192x1024 .bf16 :=
  fun j => ∑ k : Fin 512, x (ix2 (j 0) k) * w (ix2 (j 1) k)

theorem index : ∀ t : Fin cfg0.N, (win0_0.index t 0 = t.val ∧ win0_0.index t 1 = 0) ∧ (win0_1.index t 0 = 0 ∧ win0_1.index t 1 = 0)
      ∧ win0_2.index t 0 = t.val ∧ win0_2.index t 1 = 0 ∧ win0_2.flush t = true :=
  (by decide +kernel : ∀ t : Fin grid0.N, (win0_0.index t 0 = t.val ∧ win0_0.index t 1 = 0) ∧ (win0_1.index t 0 = 0 ∧ win0_1.index t 1 = 0)
      ∧ win0_2.index t 0 = t.val ∧ win0_2.index t 1 = 0 ∧ win0_2.flush t = true)

/-- A block of the rows, and the weight, at an entry. -/
theorem blk0 (c : Dev nD) (t : Fin cfg0.N) (p : Fin 512) (k : Fin 512) (q : Fin 8192) (hq : q.val = 512 * t.val + p.val) :
    (iblk m c 0 t : FVec Ideal S512x512 .bf16) (ix2 p k) = a0 m c (ix2 q k) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index t).1.1]; omega
  | ⟨1, _⟩ => show win0_0.index t 1 * 512 + 1 * k.val = k.val; rw [(index t).1.2]; omega

theorem blk1 (c : Dev nD) (t : Fin cfg0.N) (p r : Fin 1024) (k s : Fin 512) (hr : r.val = p.val) (hs : s.val = k.val) :
    (iblk m c 1 t : FVec Ideal S1024x512 .bf16) (ix2 p k) = a1 m c (ix2 r s) := by
  unfold iblk
  rw [View.read_apply]
  show V m c main_arg1 _ = m (c.tc.loc main_arg1) _
  unfold V
  congr 1
  funext a
  apply Fin.ext
  match a with
  | ⟨0, _⟩ => show win0_1.index t 0 * 1024 + 1 * p.val = r.val; rw [(index t).2.1.1]; omega
  | ⟨1, _⟩ => show win0_1.index t 1 * 512 + 1 * k.val = s.val; rw [(index t).2.1.2]; omega

theorem hz : (![0, 0] : Fin 2 → Nat) = fun _ => 0 := by decide

/-- A point writes its block of the product. -/
theorem flushed2 (c : Dev nD) (t : Fin cfg0.N) :
    (dats m 0 c).flushed 2 t = ((cfg0.win 2).blk t).view.read (Elt Ideal) (prod (a0 m c) (a1 m c)) := by
  rw [Cert.Kernel23Ideal.Value.flushed2]
  funext y
  rw [View.read_apply]
  show (out0_2 (iblk m c 0 t) (iblk m c 1 t) : FVec Ideal S512x1024 .bf16) y = _
  unfold out0_2
  rw [View.canon_unit_zero hz]
  simp only [View.ld_unit_zero (S := S512x512) hz, View.ld_unit_zero (S := S1024x512) hz]
  have e0 : (((cfg0.win 2).blk t).view.emb y 0).val = 512 * t.val + (y 0).val := by
    show win0_2.index t 0 * 512 + 1 * (y 0).val = _
    rw [(index t).2.2.1]
    omega
  have e1 : (((cfg0.win 2).blk t).view.emb y 1).val = (y 1).val := by
    show win0_2.index t 1 * 1024 + 1 * (y 1).val = _
    rw [(index t).2.2.2.1]
    omega
  exact (pay_apply _ _ y).trans (Finset.sum_congr rfl fun k _ => congrArg₂ (fun a b : EReal => a * b) (blk0 m c t _ k _ e0) (blk1 m c t _ _ k k e1 rfl))

/-- Every entry is in some point's block. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hb : (i 0).val / 512 < grid0.N := lt_of_lt_of_eq (by omega) N_0.symm
  obtain ⟨-, -, e0, e1, hf⟩ := index ⟨_, hb⟩
  refine ⟨⟨_, hb⟩, hf, ?_⟩
  show i ∈ ((View.whole main_v0).slice (win0_2.rect ⟨_, hb⟩)).set
  rw [View.set_slice_whole, Rect.mem_set_unit]
  intro a
  match a with
  | ⟨0, _⟩ => show win0_2.index ⟨_, hb⟩ 0 * 512 ≤ (i 0).val ∧ (i 0).val < win0_2.index ⟨_, hb⟩ 0 * 512 + 512; rw [e0]; dsimp only; omega
  | ⟨1, _⟩ => show win0_2.index ⟨_, hb⟩ 1 * 1024 ≤ (i 1).val ∧ (i 1).val < win0_2.index ⟨_, hb⟩ 1 * 1024 + 1024; rw [e1]; omega

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed2 m c t)
      cover2), (h c).2⟩)
    (Cert.Kernel23Ideal.Value.run_blocks m ρ)

end Cert.Mix.OutSb

namespace Cert.Mix.OutSb.Ref

open Idealize.ShloMosaic Idealize.ShloMosaic.TcCoe Idealize.SL.Sem
open Cert.Reference23Ideal Cert.Reference23Ideal.Gen

/-- The reference's result. -/
theorem res_eq (y0 : FVec Ideal S8192x512 .bf16) (y1 : FVec Ideal S1024x512 .bf16) :
    (truncf .bf16 (Host.dotGeneral dot_S8192x512_S512x1024_S8192x1024_1_0_0_1_n_n none (extf .f32 y0 bitsLt_bf16_f32) (transpose S512x1024 [1, 0] (extf .f32 y1 bitsLt_bf16_f32) transposes_S1024x512_S512x1024_1_0)) bitsLt_bf16_f32 : FVec Ideal S8192x1024 .bf16) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference23Ideal.Value.run m ρ)

end Cert.Mix.OutSb.Ref

namespace Cert.Mix.Last

open Idealize.ShloMosaic Idealize.ShloMosaic.TcCoe Idealize.SL.Sem
open Idealize.ShloMosaic.Pipeline (Dat)
open Cert.Kernel24Ideal Cert.Kernel24Ideal.Gen

/-- A block's product at an entry. -/
theorem pay_apply (v0 : FVec Ideal S512x1024 .bf16) (v1 : FVec Ideal S1024x1024 .bf16) (j : S512x1024.Idx) :
    (k0_pay1 v0 v1 : FVec Ideal S512x1024 .f32) j = ∑ k : Fin 1024, v0 (ix2 (j 0) k) * v1 (ix2 k (j 1)) := by
  unfold k0_pay1
  pointwise

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S1024x1024 .bf16 := m ((c : Thread nD τ).loc main_arg1)

/-- The whole product. -/
def prod (x : FVec Ideal S8192x1024 .bf16) (w : FVec Ideal S1024x1024 .bf16) : FVec Ideal S8192x1024 .f32 :=
  fun j => ∑ k : Fin 1024, x (ix2 (j 0) k) * w (ix2 k (j 1))

theorem index : ∀ t : Fin cfg0.N, (win0_0.index t 0 = t.val ∧ win0_0.index t 1 = 0) ∧ (win0_1.index t 0 = 0 ∧ win0_1.index t 1 = 0)
      ∧ win0_2.index t 0 = t.val ∧ win0_2.index t 1 = 0 ∧ win0_2.flush t = true :=
  (by decide +kernel : ∀ t : Fin grid0.N, (win0_0.index t 0 = t.val ∧ win0_0.index t 1 = 0) ∧ (win0_1.index t 0 = 0 ∧ win0_1.index t 1 = 0)
      ∧ win0_2.index t 0 = t.val ∧ win0_2.index t 1 = 0 ∧ win0_2.flush t = true)

/-- A block of the rows, and the weight, at an entry. -/
theorem blk0 (c : Dev nD) (t : Fin cfg0.N) (p : Fin 512) (k : Fin 1024) (q : Fin 8192) (hq : q.val = 512 * t.val + p.val) :
    (iblk m c 0 t : FVec Ideal S512x1024 .bf16) (ix2 p k) = a0 m c (ix2 q k) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index t).1.1]; omega
  | ⟨1, _⟩ => show win0_0.index t 1 * 1024 + 1 * k.val = k.val; rw [(index t).1.2]; omega

theorem blk1 (c : Dev nD) (t : Fin cfg0.N) (p r : Fin 1024) (k s : Fin 1024) (hr : r.val = p.val) (hs : s.val = k.val) :
    (iblk m c 1 t : FVec Ideal S1024x1024 .bf16) (ix2 p k) = a1 m c (ix2 r s) := by
  unfold iblk
  rw [View.read_apply]
  show V m c main_arg1 _ = m (c.tc.loc main_arg1) _
  unfold V
  congr 1
  funext a
  apply Fin.ext
  match a with
  | ⟨0, _⟩ => show win0_1.index t 0 * 1024 + 1 * p.val = r.val; rw [(index t).2.1.1]; omega
  | ⟨1, _⟩ => show win0_1.index t 1 * 1024 + 1 * k.val = s.val; rw [(index t).2.1.2]; omega

theorem hz : (![0, 0] : Fin 2 → Nat) = fun _ => 0 := by decide

/-- A point writes its block of the product. -/
theorem flushed2 (c : Dev nD) (t : Fin cfg0.N) :
    (dats m 0 c).flushed 2 t = ((cfg0.win 2).blk t).view.read (Elt Ideal) (prod (a0 m c) (a1 m c)) := by
  rw [Cert.Kernel24Ideal.Value.flushed2]
  funext y
  rw [View.read_apply]
  show (out0_2 (iblk m c 0 t) (iblk m c 1 t) : FVec Ideal S512x1024 .f32) y = _
  unfold out0_2
  rw [View.canon_unit_zero hz]
  simp only [View.ld_unit_zero (S := S512x1024) hz, View.ld_unit_zero (S := S1024x1024) hz]
  have e0 : (((cfg0.win 2).blk t).view.emb y 0).val = 512 * t.val + (y 0).val := by
    show win0_2.index t 0 * 512 + 1 * (y 0).val = _
    rw [(index t).2.2.1]
    omega
  have e1 : (((cfg0.win 2).blk t).view.emb y 1).val = (y 1).val := by
    show win0_2.index t 1 * 1024 + 1 * (y 1).val = _
    rw [(index t).2.2.2.1]
    omega
  exact (pay_apply _ _ y).trans (Finset.sum_congr rfl fun k _ => congrArg₂ (fun a b : EReal => a * b) (blk0 m c t _ k _ e0) (blk1 m c t k k _ _ rfl e1))

/-- Every entry is in some point's block. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hb : (i 0).val / 512 < grid0.N := lt_of_lt_of_eq (by omega) N_0.symm
  obtain ⟨-, -, e0, e1, hf⟩ := index ⟨_, hb⟩
  refine ⟨⟨_, hb⟩, hf, ?_⟩
  show i ∈ ((View.whole main_v0).slice (win0_2.rect ⟨_, hb⟩)).set
  rw [View.set_slice_whole, Rect.mem_set_unit]
  intro a
  match a with
  | ⟨0, _⟩ => show win0_2.index ⟨_, hb⟩ 0 * 512 ≤ (i 0).val ∧ (i 0).val < win0_2.index ⟨_, hb⟩ 0 * 512 + 512; rw [e0]; dsimp only; omega
  | ⟨1, _⟩ => show win0_2.index ⟨_, hb⟩ 1 * 1024 ≤ (i 1).val ∧ (i 1).val < win0_2.index ⟨_, hb⟩ 1 * 1024 + 1024; rw [e1]; omega

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed2 m c t)
      cover2), (h c).2⟩)
    (Cert.Kernel24Ideal.Value.run_blocks m ρ)

end Cert.Mix.Last

namespace Cert.Mix.Last.Ref

open Idealize.ShloMosaic Idealize.ShloMosaic.TcCoe Idealize.SL.Sem
open Cert.Reference24Ideal Cert.Reference24Ideal.Gen

/-- The reference's result. -/
theorem res_eq (y0 : FVec Ideal S8192x1024 .bf16) (y1 : FVec Ideal S1024x1024 .bf16) :
    (Host.dotGeneral dot_S8192x1024_S1024x1024_S8192x1024_1_0_0_1_n_n none (extf .f32 y0 bitsLt_bf16_f32) (extf .f32 y1 bitsLt_bf16_f32) : FVec Ideal S8192x1024 .f32) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference24Ideal.Value.run m ρ)

end Cert.Mix.Last.Ref

namespace Cert.Mix.LastBack

open Idealize.ShloMosaic Idealize.ShloMosaic.TcCoe Idealize.SL.Sem
open Idealize.ShloMosaic.Pipeline (Dat)
open Cert.Kernel25Ideal Cert.Kernel25Ideal.Gen

/-- A block's product at an entry. -/
theorem pay_apply (v0 : FVec Ideal S512x1024 .bf16) (v1 : FVec Ideal S1024x1024 .bf16) (j : S512x1024.Idx) :
    (k0_pay1 v0 v1 : FVec Ideal S512x1024 .bf16) j = ∑ k : Fin 1024, v0 (ix2 (j 0) k) * v1 (ix2 (j 1) k) := by
  unfold k0_pay1
  pointwise

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S1024x1024 .bf16 := m ((c : Thread nD τ).loc main_arg1)

/-- The whole product. -/
def prod (x : FVec Ideal S8192x1024 .bf16) (w : FVec Ideal S1024x1024 .bf16) : FVec Ideal S8192x1024 .bf16 :=
  fun j => ∑ k : Fin 1024, x (ix2 (j 0) k) * w (ix2 (j 1) k)

theorem index : ∀ t : Fin cfg0.N, (win0_0.index t 0 = t.val ∧ win0_0.index t 1 = 0) ∧ (win0_1.index t 0 = 0 ∧ win0_1.index t 1 = 0)
      ∧ win0_2.index t 0 = t.val ∧ win0_2.index t 1 = 0 ∧ win0_2.flush t = true :=
  (by decide +kernel : ∀ t : Fin grid0.N, (win0_0.index t 0 = t.val ∧ win0_0.index t 1 = 0) ∧ (win0_1.index t 0 = 0 ∧ win0_1.index t 1 = 0)
      ∧ win0_2.index t 0 = t.val ∧ win0_2.index t 1 = 0 ∧ win0_2.flush t = true)

/-- A block of the rows, and the weight, at an entry. -/
theorem blk0 (c : Dev nD) (t : Fin cfg0.N) (p : Fin 512) (k : Fin 1024) (q : Fin 8192) (hq : q.val = 512 * t.val + p.val) :
    (iblk m c 0 t : FVec Ideal S512x1024 .bf16) (ix2 p k) = a0 m c (ix2 q k) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index t).1.1]; omega
  | ⟨1, _⟩ => show win0_0.index t 1 * 1024 + 1 * k.val = k.val; rw [(index t).1.2]; omega

theorem blk1 (c : Dev nD) (t : Fin cfg0.N) (p r : Fin 1024) (k s : Fin 1024) (hr : r.val = p.val) (hs : s.val = k.val) :
    (iblk m c 1 t : FVec Ideal S1024x1024 .bf16) (ix2 p k) = a1 m c (ix2 r s) := by
  unfold iblk
  rw [View.read_apply]
  show V m c main_arg1 _ = m (c.tc.loc main_arg1) _
  unfold V
  congr 1
  funext a
  apply Fin.ext
  match a with
  | ⟨0, _⟩ => show win0_1.index t 0 * 1024 + 1 * p.val = r.val; rw [(index t).2.1.1]; omega
  | ⟨1, _⟩ => show win0_1.index t 1 * 1024 + 1 * k.val = s.val; rw [(index t).2.1.2]; omega

theorem hz : (![0, 0] : Fin 2 → Nat) = fun _ => 0 := by decide

/-- A point writes its block of the product. -/
theorem flushed2 (c : Dev nD) (t : Fin cfg0.N) :
    (dats m 0 c).flushed 2 t = ((cfg0.win 2).blk t).view.read (Elt Ideal) (prod (a0 m c) (a1 m c)) := by
  rw [Cert.Kernel25Ideal.Value.flushed2]
  funext y
  rw [View.read_apply]
  show (out0_2 (iblk m c 0 t) (iblk m c 1 t) : FVec Ideal S512x1024 .bf16) y = _
  unfold out0_2
  rw [View.canon_unit_zero hz]
  simp only [View.ld_unit_zero (S := S512x1024) hz, View.ld_unit_zero (S := S1024x1024) hz]
  have e0 : (((cfg0.win 2).blk t).view.emb y 0).val = 512 * t.val + (y 0).val := by
    show win0_2.index t 0 * 512 + 1 * (y 0).val = _
    rw [(index t).2.2.1]
    omega
  have e1 : (((cfg0.win 2).blk t).view.emb y 1).val = (y 1).val := by
    show win0_2.index t 1 * 1024 + 1 * (y 1).val = _
    rw [(index t).2.2.2.1]
    omega
  exact (pay_apply _ _ y).trans (Finset.sum_congr rfl fun k _ => congrArg₂ (fun a b : EReal => a * b) (blk0 m c t _ k _ e0) (blk1 m c t _ _ k k e1 rfl))

/-- Every entry is in some point's block. -/
theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hb : (i 0).val / 512 < grid0.N := lt_of_lt_of_eq (by omega) N_0.symm
  obtain ⟨-, -, e0, e1, hf⟩ := index ⟨_, hb⟩
  refine ⟨⟨_, hb⟩, hf, ?_⟩
  show i ∈ ((View.whole main_v0).slice (win0_2.rect ⟨_, hb⟩)).set
  rw [View.set_slice_whole, Rect.mem_set_unit]
  intro a
  match a with
  | ⟨0, _⟩ => show win0_2.index ⟨_, hb⟩ 0 * 512 ≤ (i 0).val ∧ (i 0).val < win0_2.index ⟨_, hb⟩ 0 * 512 + 512; rw [e0]; dsimp only; omega
  | ⟨1, _⟩ => show win0_2.index ⟨_, hb⟩ 1 * 1024 ≤ (i 1).val ∧ (i 1).val < win0_2.index ⟨_, hb⟩ 1 * 1024 + 1024; rw [e1]; omega

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed2 m c t)
      cover2), (h c).2⟩)
    (Cert.Kernel25Ideal.Value.run_blocks m ρ)

end Cert.Mix.LastBack

namespace Cert.Mix.LastBack.Ref

open Idealize.ShloMosaic Idealize.ShloMosaic.TcCoe Idealize.SL.Sem
open Cert.Reference25Ideal Cert.Reference25Ideal.Gen

/-- The reference's result. -/
theorem res_eq (y0 : FVec Ideal S8192x1024 .bf16) (y1 : FVec Ideal S1024x1024 .bf16) :
    (truncf .bf16 (Host.dotGeneral dot_S8192x1024_S1024x1024_S8192x1024_1_1_0_0_n_n none (extf .f32 y0 bitsLt_bf16_f32) (extf .f32 y1 bitsLt_bf16_f32)) bitsLt_bf16_f32 : FVec Ideal S8192x1024 .bf16) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference25Ideal.Value.run m ρ)

end Cert.Mix.LastBack.Ref

namespace Cert.Mix.OutBack

open Idealize.ShloMosaic Idealize.ShloMosaic.TcCoe Idealize.SL.Sem
open Idealize.ShloMosaic.Pipeline (Dat)
open Cert.Kernel26Ideal Cert.Kernel26Ideal.Gen

/-- A block's product at an entry. -/
theorem pay_apply (v0 : FVec Ideal S512x1024 .bf16) (v1 : FVec Ideal S1024x512 .bf16) (j : S512x512.Idx) :
    (k0_pay1 v0 v1 : FVec Ideal S512x512 .f32) j = ∑ k : Fin 1024, v0 (ix2 (j 0) k) * v1 (ix2 k (j 1)) := by
  unfold k0_pay1
  pointwise

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S1024x512 .bf16 := m ((c : Thread nD τ).loc main_arg1)

/-- The whole product. -/
def prod (x : FVec Ideal S8192x1024 .bf16) (w : FVec Ideal S1024x512 .bf16) : FVec Ideal S8192x512 .f32 :=
  fun j => ∑ k : Fin 1024, x (ix2 (j 0) k) * w (ix2 k (j 1))

theorem index : ∀ t : Fin cfg0.N, (win0_0.index t 0 = t.val ∧ win0_0.index t 1 = 0) ∧ (win0_1.index t 0 = 0 ∧ win0_1.index t 1 = 0)
      ∧ win0_2.index t 0 = t.val ∧ win0_2.index t 1 = 0 ∧ win0_2.flush t = true :=
  (by decide +kernel : ∀ t : Fin grid0.N, (win0_0.index t 0 = t.val ∧ win0_0.index t 1 = 0) ∧ (win0_1.index t 0 = 0 ∧ win0_1.index t 1 = 0)
      ∧ win0_2.index t 0 = t.val ∧ win0_2.index t 1 = 0 ∧ win0_2.flush t = true)

/-- A block of the rows, and the weight, at an entry. -/
theorem blk0 (c : Dev nD) (t : Fin cfg0.N) (p : Fin 512) (k : Fin 1024) (q : Fin 8192) (hq : q.val = 512 * t.val + p.val) :
    (iblk m c 0 t : FVec Ideal S512x1024 .bf16) (ix2 p k) = a0 m c (ix2 q k) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index t).1.1]; omega
  | ⟨1, _⟩ => show win0_0.index t 1 * 1024 + 1 * k.val = k.val; rw [(index t).1.2]; omega

theorem blk1 (c : Dev nD) (t : Fin cfg0.N) (p r : Fin 1024) (k s : Fin 512) (hr : r.val = p.val) (hs : s.val = k.val) :
    (iblk m c 1 t : FVec Ideal S1024x512 .bf16) (ix2 p k) = a1 m c (ix2 r s) := by
  unfold iblk
  rw [View.read_apply]
  show V m c main_arg1 _ = m (c.tc.loc main_arg1) _
  unfold V
  congr 1
  funext a
  apply Fin.ext
  match a with
  | ⟨0, _⟩ => show win0_1.index t 0 * 1024 + 1 * p.val = r.val; rw [(index t).2.1.1]; omega
  | ⟨1, _⟩ => show win0_1.index t 1 * 512 + 1 * k.val = s.val; rw [(index t).2.1.2]; omega

theorem hz : (![0, 0] : Fin 2 → Nat) = fun _ => 0 := by decide

/-- A point writes its block of the product. -/
theorem flushed2 (c : Dev nD) (t : Fin cfg0.N) :
    (dats m 0 c).flushed 2 t = ((cfg0.win 2).blk t).view.read (Elt Ideal) (prod (a0 m c) (a1 m c)) := by
  rw [Cert.Kernel26Ideal.Value.flushed2]
  funext y
  rw [View.read_apply]
  show (out0_2 (iblk m c 0 t) (iblk m c 1 t) : FVec Ideal S512x512 .f32) y = _
  unfold out0_2
  rw [View.canon_unit_zero hz]
  simp only [View.ld_unit_zero (S := S512x1024) hz, View.ld_unit_zero (S := S1024x512) hz]
  have e0 : (((cfg0.win 2).blk t).view.emb y 0).val = 512 * t.val + (y 0).val := by
    show win0_2.index t 0 * 512 + 1 * (y 0).val = _
    rw [(index t).2.2.1]
    omega
  have e1 : (((cfg0.win 2).blk t).view.emb y 1).val = (y 1).val := by
    show win0_2.index t 1 * 512 + 1 * (y 1).val = _
    rw [(index t).2.2.2.1]
    omega
  exact (pay_apply _ _ y).trans (Finset.sum_congr rfl fun k _ => congrArg₂ (fun a b : EReal => a * b) (blk0 m c t _ k _ e0) (blk1 m c t k k _ _ rfl e1))

/-- Every entry is in some point's block. -/
theorem cover2 (i : S8192x512.Idx) : ∃ t : Fin cfg0.N, (cfg0.win 2).flush t = true ∧ i ∈ ((cfg0.win 2).blk t).view.set := by
  have h0 : (i 0).val < 8192 := (i 0).isLt
  have h1 : (i 1).val < 512 := (i 1).isLt
  have hb : (i 0).val / 512 < grid0.N := lt_of_lt_of_eq (by omega) N_0.symm
  obtain ⟨-, -, e0, e1, hf⟩ := index ⟨_, hb⟩
  refine ⟨⟨_, hb⟩, hf, ?_⟩
  show i ∈ ((View.whole main_v0).slice (win0_2.rect ⟨_, hb⟩)).set
  rw [View.set_slice_whole, Rect.mem_set_unit]
  intro a
  match a with
  | ⟨0, _⟩ => show win0_2.index ⟨_, hb⟩ 0 * 512 ≤ (i 0).val ∧ (i 0).val < win0_2.index ⟨_, hb⟩ 0 * 512 + 512; rw [e0]; dsimp only; omega
  | ⟨1, _⟩ => show win0_2.index ⟨_, hb⟩ 1 * 512 ≤ (i 1).val ∧ (i 1).val < win0_2.index ⟨_, hb⟩ 1 * 512 + 512; rw [e1]; omega

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed2 m c t)
      cover2), (h c).2⟩)
    (Cert.Kernel26Ideal.Value.run_blocks m ρ)

end Cert.Mix.OutBack

namespace Cert.Mix.OutBack.Ref

open Idealize.ShloMosaic Idealize.ShloMosaic.TcCoe Idealize.SL.Sem
open Cert.Reference26Ideal Cert.Reference26Ideal.Gen

/-- The reference's result. -/
theorem res_eq (y0 : FVec Ideal S8192x1024 .bf16) (y1 : FVec Ideal S1024x512 .bf16) :
    (Host.dotGeneral dot_S8192x1024_S512x1024_S8192x512_1_1_0_0_n_n none (extf .f32 y0 bitsLt_bf16_f32) (transpose S512x1024 [1, 0] (extf .f32 y1 bitsLt_bf16_f32) transposes_S1024x512_S512x1024_1_0) : FVec Ideal S8192x512 .f32) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference26Ideal.Value.run m ρ)

end Cert.Mix.OutBack.Ref

end
-- ==== Proof.Parts.lean ====
/- A sum in equal parts. -/
module

public import Mathlib.Algebra.BigOperators.Fin
public import Mathlib.Logic.Equiv.Fin.Basic

@[expose] public section

namespace Cert.Ffn

/-- A sum over `N = n * b` numbers is the sum, over `n` parts, of each part's `b`. -/
theorem sum_parts {M : Type*} [AddCommMonoid M] (n b N : ℕ) (h : N = n * b) (f : Fin N → M) :
    ∑ k : Fin N, f k = ∑ s : Fin n, ∑ r : Fin b, f ⟨b * s.val + r.val, by
      have h1 : b * (s.val + 1) ≤ b * n := Nat.mul_le_mul_left b s.isLt
      have h2 := r.isLt
      rw [Nat.mul_add, Nat.mul_comm b n] at h1
      omega⟩ := by
  subst h
  rw [← Equiv.sum_comp finProdFinEquiv f, Fintype.sum_prod_type]
  refine Finset.sum_congr rfl fun s _ => Finset.sum_congr rfl fun r _ => ?_
  congr 1
  apply Fin.ext
  show r.val + b * s.val = b * s.val + r.val
  exact Nat.add_comm _ _

/-- The same of two parts. -/
theorem sum_two {M : Type*} [AddCommMonoid M] (b N : ℕ) (h : N = 2 * b) (f : Fin N → M) :
    ∑ k : Fin N, f k = ∑ r : Fin b, f ⟨b * 0 + r.val, by omega⟩ + ∑ r : Fin b, f ⟨b * 1 + r.val, by omega⟩ := by
  rw [sum_parts 2 b N h f, Fin.sum_univ_two]
  rfl

end Cert.Ffn
-- ==== Proof.Steps.lean ====
/- A sum gathered step by step over the points of a grid. -/
module

public import Mathlib.Algebra.BigOperators.Group.Finset.Basic

@[expose] public section

namespace Cert.Ffn

/-- What is gathered over the sixteen steps of a block: where a block's first step sets `scr` to its part and every later
    one but the last adds its own, a point holds the sum of its block's parts so far. -/
theorem gathered {J M : Type*} [AddCommMonoid M] (N : ℕ) (scr : (n : ℕ) → n < N → J → M) (part : ℕ → ℕ → J → M)
    (first : ∀ n h, n % 16 = 0 → ∀ j, scr n h j = part (n / 16) 0 j)
    (next : ∀ n h, ¬n % 16 = 0 → n % 16 < 15 → ∀ j,
      scr n h j = scr (n - 1) (Nat.lt_of_le_of_lt (Nat.sub_le _ _) h) j + part (n / 16) (n % 16) j) (j : J) :
    ∀ n h, n % 16 < 15 → scr n h j = ∑ s ∈ Finset.range (n % 16 + 1), part (n / 16) s j := by
  intro n
  induction n with
  | zero =>
    intro h _
    rw [first 0 h rfl]
    exact (Finset.sum_range_one fun s => part (0 / 16) s j).symm
  | succ n ih =>
    intro h hl
    by_cases h0 : (n + 1) % 16 = 0
    · rw [first (n + 1) h h0, h0]
      exact (Finset.sum_range_one fun s => part ((n + 1) / 16) s j).symm
    · have e : (n + 1) % 16 = n % 16 + 1 := by omega
      have e' : (n + 1) / 16 = n / 16 := by omega
      rw [next (n + 1) h h0 hl, Finset.sum_range_succ, e']
      refine congrArg₂ (· + ·) ?_ rfl
      rw [e]
      exact ih (Nat.lt_of_succ_lt h) (by omega)

end Cert.Ffn
-- ==== Proof.NormBack.lean ====
/- The derivative of the mixer's first norm: the kernel's two results, entry by entry, and the reference's. -/
module

public import proofs.«01_k».proof.Proof.Parts
public import proofs.«01_k».proof.Proof.Steps
public import proofs.«01_k».proof.Proof.Gen.Kernel27Ideal.Value
public import proofs.«01_k».proof.Proof.Gen.Reference27Ideal.Run
public import Idealize.ShloMosaic.Lib.Pointwise
public import Idealize.ShloMosaic.Lib.IdealHost

@[expose] public section

noncomputable section

namespace Cert.NormBack

open Idealize.ShloMosaic Idealize.ShloMosaic.TcCoe Idealize.SL.Sem
open Idealize.ShloMosaic.Pipeline (Dat)
open Cert.Kernel27Ideal Cert.Kernel27Ideal.Gen

/-- A row's mean square, with the norm's small constant added. -/
def square (x : Fin 1024 → EReal) : EReal :=
  Ideal.div (∑ k, x k * x k) (Ideal.ofBits .f32 1149239296#32) + Ideal.ofBits .f32 897988541#32

/-- What a row's mean square hands back to each of its entries, once for either factor of the square. -/
def pull (x d g : Fin 1024 → EReal) : EReal :=
  ∑ _ : Fin 1, Ideal.div ((∑ k, x k * (d k * g k)) * (Ideal.ofBits .f32 3204448256#32 * Ideal.div (Ideal.rsqrt (square x)) (square x)))
    (Ideal.ofBits .f32 1149239296#32)

/-- An entry of the rows' gradient, from its row and its own entries. -/
def gradAt (x d g : Fin 1024 → EReal) (xq dq gq rq : EReal) : EReal :=
  dq * gq * Ideal.rsqrt (square x) + xq * pull x d g + pull x d g * xq + rq

/-- What a row adds to an entry of the weight's gradient. -/
def weightAt (x : Fin 1024 → EReal) (xq dq : EReal) : EReal := xq * Ideal.rsqrt (square x) * dq

theorem gradAt_congr {x x' d d' g g' : Fin 1024 → EReal} {xq xq' dq dq' gq gq' rq rq' : EReal} (hx : x = x') (hd : d = d')
    (hg : g = g') (h1 : xq = xq') (h2 : dq = dq') (h3 : gq = gq') (h4 : rq = rq') :
    gradAt x d g xq dq gq rq = gradAt x' d' g' xq' dq' gq' rq' := by
  subst hx hd hg h1 h2 h3 h4
  rfl

theorem weightAt_congr {x x' : Fin 1024 → EReal} {xq xq' dq dq' : EReal} (hx : x = x') (h1 : xq = xq') (h2 : dq = dq') :
    weightAt x xq dq = weightAt x' xq' dq' := by
  subst hx h1 h2
  rfl

/-- What a block of rows adds to an entry of the weight's gradient. -/
def blkSum (v0 v2 : FVec Ideal S512x1024 .f32) (j : S1x1024.Idx) : EReal :=
  ∑ r : Fin 512, weightAt (fun k => v0 (ix2 r k)) (v0 (ix2 r (j 1))) (v2 (ix2 r (j 1)))

theorem pay6_apply (v0 : FVec Ideal S512x1024 .f32) (v1 : FVec Ideal S1x1024 .f32) (v2 v3 : FVec Ideal S512x1024 .f32) (j : S512x1024.Idx) :
    (k0_pay6 v0 v1 v2 v3 : FVec Ideal S512x1024 .f32) j
      = gradAt (fun k => v0 (ix2 (j 0) k)) (fun k => v2 (ix2 (j 0) k)) (fun k => v1 (ix2 0 k)) (v0 j) (v2 j) (v1 (ix2 0 (j 1))) (v3 j) := by
  unfold k0_pay6 k0_pay4 k0_pay3 gradAt pull square
  pointwise

theorem pay5_apply (v0 v2 : FVec Ideal S512x1024 .f32) (j : S1x1024.Idx) :
    (k0_pay5 v0 v2 : FVec Ideal S1x1024 .f32) j = blkSum v0 v2 j := by
  unfold k0_pay5 k0_pay4 k0_pay3 blkSum weightAt square
  pointwise

theorem pay2_apply (v0 v2 : FVec Ideal S512x1024 .f32) (x : FVec Ideal S1x1024 .f32) (j : S1x1024.Idx) :
    (k0_pay2 (k0_pay5 v0 v2) x : FVec Ideal S1x1024 .f32) j = x j + blkSum v0 v2 j := by
  unfold k0_pay2
  rw [shapeCast_self, ← pay5_apply]
  rfl

theorem pay1_apply (j : S1x1024.Idx) : (k0_pay1 : FVec Ideal S1x1024 .f32) j = 0 := by
  unfold k0_pay1
  pointwise

theorem hz : (![0, 0] : Fin 2 → Nat) = fun _ => 0 := by decide

/-- Every point writes its block of the rows' gradient; the first sets the weight's to its rows' part of it, a later one
    adds its own. -/
theorem rows {F : FTy → Type} [FloatOps F] (m : (ℓ : Loc nD τ sig) → Buf (Elt F) ℓ) (c : Dev nD) (t : Fin cfg0.N) :
    (outsAt0 m c t.val t.isLt).1 = k0_pay6 (iblk m c 0 t) (iblk m c 1 t) (iblk m c 2 t) (iblk m c 3 t) := by
  by_cases h0 : t.val % 16 = 0
  · rw [outsAt0_A m c t h0]
    dsimp only
    unfold out0_A_4
    rw [View.read_writes_eq_canon _ _ _ (cover0_A_4 _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, View.ld_unit_zero (S := S512x1024) hz, View.ld_unit_zero (S := S1x1024) hz]
  · rw [outsAt0_B m c t h0]
    dsimp only
    unfold out0_B_4
    rw [View.read_writes_eq_canon _ _ _ (cover0_B_4 _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, View.ld_unit_zero (S := S512x1024) hz, View.ld_unit_zero (S := S1x1024) hz]

theorem step_A {F : FTy → Type} [FloatOps F] (m : (ℓ : Loc nD τ sig) → Buf (Elt F) ℓ) (c : Dev nD) (t : Fin cfg0.N) (h0 : t.val % 16 = 0) :
    (outsAt0 m c t.val t.isLt).2 = k0_pay2 (k0_pay5 (iblk m c 0 t) (iblk m c 2 t)) k0_pay1 := by
  rw [outsAt0_A m c t h0]
  dsimp only
  unfold out0_A_5
  rw [View.read_writes_eq_canon _ _ _ (cover0_A_5 _ _ _ _ _ _ _ _ _ _ _ _ _ _ _ _ _ _ _)]
  unfold kernelRun0_A
  dsimp only
  sl_unfold_words
  rw [View.canon_cons_unit_zero hz, View.readCov_unit_zero (S := S1x1024) _ hz]
  simp only [View.readAt_eq_ld, (hs0_0 t).read_unread, (hs0_2 t).read_unread, View.ld_unit_zero (S := S512x1024) hz, View.ld_unit_zero (S := S1x1024) hz]

theorem step_B {F : FTy → Type} [FloatOps F] (m : (ℓ : Loc nD τ sig) → Buf (Elt F) ℓ) (c : Dev nD) (t : Fin cfg0.N) (h0 : ¬t.val % 16 = 0) :
    (outsAt0 m c t.val t.isLt).2
      = k0_pay2 (k0_pay5 (iblk m c 0 t) (iblk m c 2 t)) (outsAt0 m c (t.val - 1) (Nat.lt_of_le_of_lt (Nat.sub_le _ _) t.isLt)).2 := by
  rw [outsAt0_B m c t h0]
  dsimp only
  unfold out0_B_5
  rw [View.read_writes_eq_canon _ _ _ (cover0_B_5 _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_2 t).read_unread, (hs0_5 t).read_unread, View.ld_unit_zero (S := S512x1024) hz, View.ld_unit_zero (S := S1x1024) hz]

variable (m : (ℓ : Loc nD τ sig) → Buf (Elt Ideal) ℓ) (ρ : Dev nD → PrngReg)

/-- The arguments a device holds: the rows, the weight, the gradient of the norm's result, and what reaches the rows past the norm. -/
def a0 (c : Dev nD) : FVec Ideal S8192x1024 .f32 := m ((c : Thread nD τ).loc main_arg0)
def a1 (c : Dev nD) : FVec Ideal S1x1024 .f32 := m ((c : Thread nD τ).loc main_arg1)
def a2 (c : Dev nD) : FVec Ideal S8192x1024 .f32 := m ((c : Thread nD τ).loc main_arg2)
def a3 (c : Dev nD) : FVec Ideal S8192x1024 .f32 := m ((c : Thread nD τ).loc main_arg3)

/-- The rows' gradient, whole. -/
def gradX (x : FVec Ideal S8192x1024 .f32) (g : FVec Ideal S1x1024 .f32) (d r : FVec Ideal S8192x1024 .f32) : FVec Ideal S8192x1024 .f32 :=
  fun j => gradAt (fun k => x (ix2 (j 0) k)) (fun k => d (ix2 (j 0) k)) (fun k => g (ix2 0 k)) (x j) (d j) (g (ix2 0 (j 1))) (r j)

/-- The weight's gradient, whole. -/
def gradG (x d : FVec Ideal S8192x1024 .f32) : FVec Ideal S1x1024 .f32 :=
  fun j => ∑ r : Fin 8192, weightAt (fun k => x (ix2 r k)) (x (ix2 r (j 1))) (d (ix2 r (j 1)))

/-- One of its sixteen parts, over 512 rows. -/
def part (x d : FVec Ideal S8192x1024 .f32) (b s : ℕ) (j : S1x1024.Idx) : EReal :=
  if hs : s < 16 then
    ∑ r : Fin 512, weightAt (fun k => x (ix2 ⟨512 * s + r.val, by omega⟩ k)) (x (ix2 ⟨512 * s + r.val, by omega⟩ (j 1))) (d (ix2 ⟨512 * s + r.val, by omega⟩ (j 1)))
  else 0

/-- The sixteen make the whole. -/
theorem sum_part (x d : FVec Ideal S8192x1024 .f32) (b : ℕ) (j : S1x1024.Idx) : ∑ s ∈ Finset.range 16, part x d b s j = gradG x d j := by
  rw [Finset.sum_range]
  refine Eq.trans ?_ (Cert.Ffn.sum_parts (M := EReal) 16 512 8192 rfl fun r => weightAt (fun k => x (ix2 r k)) (x (ix2 r (j 1))) (d (ix2 r (j 1)))).symm
  exact Finset.sum_congr rfl fun s _ => dif_pos s.isLt

theorem index : ∀ t : Fin cfg0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = t.val ∧ win0_3.index t 1 = 0)
      ∧ (win0_4.index t 0 = t.val ∧ win0_4.index t 1 = 0 ∧ win0_4.flush t = true)
      ∧ win0_5.index t 0 = 0 ∧ win0_5.index t 1 = 0 ∧ (win0_5.flush t = true ↔ t.val = 15) :=
  (by decide +kernel : ∀ t : Fin grid0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = t.val ∧ win0_3.index t 1 = 0)
      ∧ (win0_4.index t 0 = t.val ∧ win0_4.index t 1 = 0 ∧ win0_4.flush t = true)
      ∧ win0_5.index t 0 = 0 ∧ win0_5.index t 1 = 0 ∧ (win0_5.flush t = true ↔ t.val = 15))

theorem lt_points (t : Fin cfg0.N) : t.val < 16 := lt_of_lt_of_eq t.isLt N_0

/-- A block of each argument, at an entry. -/
theorem blk0 (c : Dev nD) (t : Fin cfg0.N) (j : S512x1024.Idx) (i : S8192x1024.Idx) (h0 : (i 0).val = 512 * t.val + (j 0).val) (h1 : (i 1).val = (j 1).val) :
    (iblk m c 0 t : FVec Ideal S512x1024 .f32) j = a0 m c i := by
  unfold iblk
  rw [View.read_apply]
  show V m c main_arg0 _ = m (c.tc.loc main_arg0) _
  unfold V
  congr 1
  funext a
  apply Fin.ext
  match a with
  | ⟨0, _⟩ => show win0_0.index t 0 * 512 + 1 * (j 0).val = (i 0).val; rw [(index t).1.1]; omega
  | ⟨1, _⟩ => show win0_0.index t 1 * 1024 + 1 * (j 1).val = (i 1).val; rw [(index t).1.2]; omega

theorem blk1 (c : Dev nD) (t : Fin cfg0.N) (j i : S1x1024.Idx) (h1 : (i 1).val = (j 1).val) :
    (iblk m c 1 t : FVec Ideal S1x1024 .f32) j = a1 m c i := by
  unfold iblk
  rw [View.read_apply]
  show V m c main_arg1 _ = m (c.tc.loc main_arg1) _
  unfold V
  congr 1
  funext a
  apply Fin.ext
  have hi : (i 0).val < 1 := (i 0).isLt
  have hj : (j 0).val < 1 := (j 0).isLt
  match a with
  | ⟨0, _⟩ => show win0_1.index t 0 * 1 + 1 * (j 0).val = (i 0).val; rw [(index t).2.1.1]; omega
  | ⟨1, _⟩ => show win0_1.index t 1 * 1024 + 1 * (j 1).val = (i 1).val; rw [(index t).2.1.2]; omega

theorem blk2 (c : Dev nD) (t : Fin cfg0.N) (j : S512x1024.Idx) (i : S8192x1024.Idx) (h0 : (i 0).val = 512 * t.val + (j 0).val) (h1 : (i 1).val = (j 1).val) :
    (iblk m c 2 t : FVec Ideal S512x1024 .f32) j = a2 m c i := by
  unfold iblk
  rw [View.read_apply]
  show V m c main_arg2 _ = m (c.tc.loc main_arg2) _
  unfold V
  congr 1
  funext a
  apply Fin.ext
  match a with
  | ⟨0, _⟩ => show win0_2.index t 0 * 512 + 1 * (j 0).val = (i 0).val; rw [(index t).2.2.1.1]; omega
  | ⟨1, _⟩ => show win0_2.index t 1 * 1024 + 1 * (j 1).val = (i 1).val; rw [(index t).2.2.1.2]; omega

theorem blk3 (c : Dev nD) (t : Fin cfg0.N) (j : S512x1024.Idx) (i : S8192x1024.Idx) (h0 : (i 0).val = 512 * t.val + (j 0).val) (h1 : (i 1).val = (j 1).val) :
    (iblk m c 3 t : FVec Ideal S512x1024 .f32) j = a3 m c i := by
  unfold iblk
  rw [View.read_apply]
  show V m c main_arg3 _ = m (c.tc.loc main_arg3) _
  unfold V
  congr 1
  funext a
  apply Fin.ext
  match a with
  | ⟨0, _⟩ => show win0_3.index t 0 * 512 + 1 * (j 0).val = (i 0).val; rw [(index t).2.2.2.1.1]; omega
  | ⟨1, _⟩ => show win0_3.index t 1 * 1024 + 1 * (j 1).val = (i 1).val; rw [(index t).2.2.2.1.2]; omega

/-- A point's rows make one part of the weight's gradient. -/
theorem part_eq (c : Dev nD) (t : Fin cfg0.N) (b : ℕ) (j : S1x1024.Idx) :
    blkSum (iblk m c 0 t) (iblk m c 2 t) j = part (a0 m c) (a2 m c) b t.val j := by
  unfold part
  rw [dif_pos (lt_points t)]
  exact Finset.sum_congr rfl fun r _ => weightAt_congr (funext fun k => blk0 m c t _ _ rfl rfl) (blk0 m c t _ _ rfl rfl) (blk2 m c t _ _ rfl rfl)

/-- What the last point leaves. -/
theorem value_last (c : Dev nD) (t : Fin cfg0.N) (ht : t.val = 15) (j : S1x1024.Idx) :
    (outsAt0 m c t.val t.isLt).2 j = gradG (a0 m c) (a2 m c) j := by
  have hp : t.val - 1 < cfg0.N := Nat.lt_of_le_of_lt (Nat.sub_le _ _) t.isLt
  have e : (t.val - 1) % 16 + 1 = 15 := by omega
  have e' : (t.val - 1) / 16 = 0 := by omega
  have g := Cert.Ffn.gathered (M := EReal) cfg0.N (fun n h j => (outsAt0 m c n h).2 j) (part (a0 m c) (a2 m c))
    (fun n h h0 j => by
      have hn := lt_points ⟨n, h⟩
      have s := congrFun (step_A m c ⟨n, h⟩ h0) j
      rw [pay2_apply, pay1_apply, zero_add, part_eq m c _ (n / 16)] at s
      dsimp only at s hn
      obtain rfl : n = 0 := by omega
      exact s)
    (fun n h h0 hl j => by
      have hn := lt_points ⟨n, h⟩
      have s := congrFun (step_B m c ⟨n, h⟩ h0) j
      rw [pay2_apply, part_eq m c _ (n / 16)] at s
      dsimp only at s hn ⊢
      rw [show n % 16 = n by omega]
      exact s)
    j (t.val - 1) hp (by omega)
  rw [step_B m c t (by omega), pay2_apply, part_eq m c _ 0, g, e, e', ht, ← sum_part _ _ 0]
  exact (Finset.sum_range_succ _ 15).symm

/-- A point writes its block of the rows' gradient. -/
theorem flushed4 (c : Dev nD) (t : Fin cfg0.N) :
    (dats m 0 c).flushed 4 t = ((cfg0.win 4).blk t).view.read (Elt Ideal) (gradX (a0 m c) (a1 m c) (a2 m c) (a3 m c)) := by
  rw [Cert.Kernel27Ideal.Value.flushed4]
  funext y
  rw [View.read_apply]
  have e0 : (((cfg0.win 4).blk t).view.emb y 0).val = 512 * t.val + (y 0).val := by
    show win0_4.index t 0 * 512 + 1 * (y 0).val = _
    rw [(index t).2.2.2.2.1.1]
    omega
  have e1 : (((cfg0.win 4).blk t).view.emb y 1).val = (y 1).val := by
    show win0_4.index t 1 * 1024 + 1 * (y 1).val = _
    rw [(index t).2.2.2.2.1.2.1]
    omega
  refine Eq.trans (congrFun (rows m c t) y) ((pay6_apply _ _ _ _ y).trans ?_)
  exact gradAt_congr (funext fun k => blk0 m c t _ _ e0 rfl) (funext fun k => blk2 m c t _ _ e0 rfl) (funext fun k => blk1 m c t _ _ rfl)
    (blk0 m c t _ _ e0 e1) (blk2 m c t _ _ e0 e1) (blk1 m c t _ _ e1) (blk3 m c t _ _ e0 e1)

/-- The last point writes the weight's gradient. -/
theorem flushed5 (c : Dev nD) (t : Fin cfg0.N) (hf : (cfg0.win 5).flush t = true) :
    (dats m 0 c).flushed 5 t = ((cfg0.win 5).blk t).view.read (Elt Ideal) (gradG (a0 m c) (a2 m c)) := by
  rw [Cert.Kernel27Ideal.Value.flushed5]
  funext y
  rw [View.read_apply]
  have hp : ((cfg0.win 5).blk t).view.emb y = y := by
    funext a
    apply Fin.ext
    match a with
    | ⟨0, _⟩ => show win0_5.index t 0 * 1 + 1 * (y 0).val = (y 0).val; rw [(index t).2.2.2.2.2.1]; omega
    | ⟨1, _⟩ => show win0_5.index t 1 * 1024 + 1 * (y 1).val = (y 1).val; rw [(index t).2.2.2.2.2.2.1]; omega
  rw [hp]
  have e := value_last m c t ((index t).2.2.2.2.2.2.2.mp hf) y
  generalize gradG (a0 m c) (a2 m c) = P at e ⊢
  exact e

/-- Every entry of either result is in some point's block. -/
theorem cover4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hb : (i 0).val / 512 < grid0.N := lt_of_lt_of_eq (by omega) N_0.symm
  obtain ⟨e0, e1, hf⟩ := (index ⟨_, hb⟩).2.2.2.2.1
  refine ⟨⟨_, hb⟩, hf, ?_⟩
  show i ∈ ((View.whole main_v0_0).slice (win0_4.rect ⟨_, hb⟩)).set
  rw [View.set_slice_whole, Rect.mem_set_unit]
  intro a
  match a with
  | ⟨0, _⟩ => show win0_4.index ⟨_, hb⟩ 0 * 512 ≤ (i 0).val ∧ (i 0).val < win0_4.index ⟨_, hb⟩ 0 * 512 + 512; rw [e0]; dsimp only; omega
  | ⟨1, _⟩ => show win0_4.index ⟨_, hb⟩ 1 * 1024 ≤ (i 1).val ∧ (i 1).val < win0_4.index ⟨_, hb⟩ 1 * 1024 + 1024; rw [e1]; omega

theorem cover5 (i : S1x1024.Idx) : ∃ t : Fin cfg0.N, (cfg0.win 5).flush t = true ∧ i ∈ ((cfg0.win 5).blk t).view.set := by
  have h0 : (i 0).val < 1 := (i 0).isLt
  have h1 : (i 1).val < 1024 := (i 1).isLt
  have hb : 15 < grid0.N := lt_of_lt_of_eq (by omega) N_0.symm
  obtain ⟨e0, e1, hf⟩ := (index ⟨15, hb⟩).2.2.2.2.2
  refine ⟨⟨15, hb⟩, hf.mpr rfl, ?_⟩
  show i ∈ ((View.whole main_v0_1).slice (win0_5.rect ⟨15, hb⟩)).set
  rw [View.set_slice_whole, Rect.mem_set_unit]
  intro a
  match a with
  | ⟨0, _⟩ => show win0_5.index ⟨15, hb⟩ 0 * 1 ≤ (i 0).val ∧ (i 0).val < win0_5.index ⟨15, hb⟩ 0 * 1 + 1; rw [e0]; omega
  | ⟨1, _⟩ => show win0_5.index ⟨15, hb⟩ 1 * 1024 ≤ (i 1).val ∧ (i 1).val < win0_5.index ⟨15, hb⟩ 1 * 1024 + 1024; rw [e1]; omega

/-- The kernel's run, read. -/
theorem run : θ_run defs (onTc (τ := τ) (main (F := Ideal))) ⟨m, fun _ => 0, ρ⟩ fun r => ∀ c : Dev nD,
      r.2.mem ((c : Thread nD τ).loc main_v0_0) = gradX (a0 m c) (a1 m c) (a2 m c) (a3 m c)
      ∧ r.2.mem ((c : Thread nD τ).loc main_v0_1) = gradG (a0 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed4 m c t) cover4),
      (h c).2.1.trans ((dats m 0 c).arrAt_eq_of_cover 5 _ (fun t hf => flushed5 m c t hf) cover5), (h c).2.2⟩)
    (Cert.Kernel27Ideal.Value.run_blocks m ρ)

end Cert.NormBack

namespace Cert.NormBack.Ref

open Idealize.ShloMosaic Idealize.ShloMosaic.TcCoe Idealize.SL.Sem
open Cert.Reference27Ideal Cert.Reference27Ideal.Gen

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = gradX (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = gradG (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
      generalize m ((c.tc : Thread nD τ).loc main_arg0) = y0, m ((c.tc : Thread nD τ).loc main_arg1) = y1,
        m ((c.tc : Thread nD τ).loc main_arg2) = y2, m ((c.tc : Thread nD τ).loc main_arg3) = y3
      funext j
      unfold gradX gradAt pull square
      pointwise), (h c).2.1.trans (by
      generalize m ((c.tc : Thread nD τ).loc main_arg0) = y0, m ((c.tc : Thread nD τ).loc main_arg2) = y2
      funext j
      unfold gradG weightAt square
      pointwise), (h c).2.2⟩) (Cert.Reference27Ideal.Value.run m ρ)

end Cert.NormBack.Ref

end
-- ==== Proof.Gate.lean ====
/- The gate's activation over the extended reals: the half-angle form of the logistic function and of its slope. -/
module

public import Idealize.ShloMosaic.PureOps.Ideal.Laws
public import Idealize.ShloMosaic.Lib.Pointwise

@[expose] public section

noncomputable section

namespace Cert.Ffn

open Idealize.ShloMosaic

/-- The logistic function as the reference spells it. -/
def lgs (x : EReal) : EReal := Ideal.div 1 (1 + Ideal.exp (-x))

/-- One half. -/
def half : EReal := ((1 / 2 : ℝ) : EReal)

/-- The hyperbolic tangent of half of `x`. -/
def ht (x : EReal) : EReal := Ideal.tanh (half * x)

theorem ofBits_half_f32 : Ideal.ofBits .f32 0x3F000000#32 = half := by
  unfold half; simp [Ideal.ofBits, Ideal.ieee, -EReal.coe_mul]; norm_num

theorem half_pos : (0 : EReal) < half := by unfold half; exact_mod_cast (by norm_num : (0 : ℝ) < 1 / 2)

/-- The half-angle identity among the reals. -/
theorem real_half (r : ℝ) : 1 / 2 * (Real.tanh (1 / 2 * r) + 1) = (1 + Real.exp (-r))⁻¹ := by
  have hb : Real.exp (-r) = Real.exp (-(1 / 2 * r)) * Real.exp (-(1 / 2 * r)) := by rw [← Real.exp_add]; congr 1; ring
  have ha : Real.exp (1 / 2 * r) * Real.exp (-(1 / 2 * r)) = 1 := by rw [← Real.exp_add]; simp
  have pa := Real.exp_pos (1 / 2 * r)
  have pb := Real.exp_pos (-(1 / 2 * r))
  rw [Real.tanh_eq_sinh_div_cosh, Real.sinh_eq, Real.cosh_eq, hb]
  generalize Real.exp (1 / 2 * r) = a at *
  generalize Real.exp (-(1 / 2 * r)) = b at *
  have h1 : a + b ≠ 0 := by positivity
  have h2 : 1 + b * b ≠ 0 := by positivity
  field_simp
  nlinarith [ha]

/-- Both functions are real numbers everywhere, tied by the half-angle identity. -/
theorem spell (x : EReal) : ∃ t s : ℝ, ht x = (t : EReal) ∧ lgs x = (s : EReal) ∧ s = 1 / 2 * (t + 1) := by
  induction x with
  | bot =>
    refine ⟨-1, 0, ?_, ?_, by norm_num⟩
    · unfold ht; rw [EReal.mul_bot_of_pos half_pos, Ideal.tanh_bot, EReal.coe_neg, EReal.coe_one]
    · unfold lgs Ideal.div; rw [EReal.neg_bot, Ideal.exp_top, EReal.add_top_of_ne_bot (by decide)]; simp
  | top =>
    refine ⟨1, 1, ?_, ?_, by norm_num⟩
    · unfold ht; rw [EReal.mul_top_of_pos half_pos, Ideal.tanh_top]; norm_cast
    · unfold lgs Ideal.div; rw [EReal.neg_top, Ideal.exp_bot, add_zero, if_neg one_ne_zero, one_mul]; simp
  | coe r =>
    refine ⟨Real.tanh (1 / 2 * r), (1 + Real.exp (-r))⁻¹, ?_, ?_, (real_half r).symm⟩
    · unfold ht half; rw [← EReal.coe_mul, Ideal.tanh_coe]
    · unfold lgs Ideal.div
      have hp : (1 : ℝ) + Real.exp (-r) ≠ 0 := by positivity
      have e : (1 : EReal) + Ideal.exp (-(r : EReal)) = ((1 + Real.exp (-r) : ℝ) : EReal) := by
        rw [← EReal.coe_neg, Ideal.exp_coe]; norm_cast
      rw [e, if_neg (by exact_mod_cast hp), one_mul, ← EReal.coe_inv]

/-- The activation's factor, both ways. -/
theorem lgs_eq (x : EReal) : half * (ht x + 1) = lgs x := by
  obtain ⟨t, s, h1, h2, rfl⟩ := spell x
  rw [h1, h2]; unfold half; norm_cast

/-- The slope, both ways. -/
theorem slope_eq (x y : EReal) : half * ((half * y) * ((1 + ht x) * (1 - ht x))) = y * (lgs x * (1 - lgs x)) := by
  obtain ⟨t, s, h1, h2, rfl⟩ := spell x
  rw [h1, h2]
  have e : half * ((half * y) * ((1 + (t : EReal)) * (1 - (t : EReal)))) = y * (half * half * ((1 + (t : EReal)) * (1 - (t : EReal)))) := by
    rw [mul_assoc half y, mul_left_comm half y, mul_left_comm half y, mul_assoc half half]
  rw [e]
  congr 1
  unfold half
  norm_cast
  ring

/-- The gradient of the gate's input: `p` the product's entry, `u` and `x` the two inputs. -/
theorem dgate_eq (p u x : EReal) :
    (p * u) * (half * (ht x + 1)) + half * ((half * (x * (p * u))) * ((1 + ht x) * (1 - ht x))) =
      (p * u) * lgs x + (x * (p * u)) * (lgs x * (1 - lgs x)) := by
  rw [lgs_eq, slope_eq]

end Cert.Ffn

end
-- ==== Proof.FfnBase.lean ====
/- Products of matrices over the extended reals, read entry by entry. -/
module

public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
-- ==== Proof.FfnBack.lean ====
/- The gradient of the gated unit: the kernel's two result arrays, entry by entry, and the reference's. -/
module

public import proofs.«01_k».proof.Proof.Gate
public import proofs.«01_k».proof.Proof.FfnBase
public import Idealize.ShloMosaic.Lib.Pointwise
public import Idealize.ShloMosaic.Lib.IdealHost

@[expose] public section

noncomputable section

namespace Cert.Ffn.Back

open Idealize.ShloMosaic Idealize.ShloMosaic.TcCoe Idealize.SL.Sem
open Idealize.ShloMosaic.Pipeline (Dat)
open Cert.Kernel2Ideal Cert.Kernel2Ideal.Gen

/-- What each entry of the first result is, of the product's entry and the two inputs of the gated unit there. -/
def dgate (p u x : EReal) : EReal := (p * u) * lgs x + (x * (p * u)) * (lgs x * (1 - lgs x))

/-- What each entry of the second is. -/
def dup (p x : EReal) : EReal := (x * lgs x) * p

/-- A block's product at an entry. -/
def blkProd (v0 : FVec Ideal S512x1024 .bf16) (v1 : FVec Ideal S1408x1024 .bf16) (j : S512x1408.Idx) : EReal :=
  ∑ k : Fin 1024, v0 (ix2 (j 0) k) * v1 (ix2 (j 1) k)

theorem pay5_apply (v0 : FVec Ideal S512x1024 .bf16) (v1 : FVec Ideal S1408x1024 .bf16) (v3 v5 : FVec Ideal S512x1408 .bf16) (j : S512x1408.Idx) :
    (k0_pay5 v0 v1 v3 v5 : FVec Ideal S512x1408 .bf16) j = dgate (blkProd v0 v1 j) (v5 j) (v3 j) := by
  unfold dgate
  rw [← dgate_eq]
  unfold k0_pay5 k0_pay4 k0_pay3 k0_pay2 k0_pay1 blkProd ht
  simp only [← ofBits_half_f32]
  pointwise

theorem pay6_apply (v0 : FVec Ideal S512x1024 .bf16) (v1 : FVec Ideal S1408x1024 .bf16) (v3 : FVec Ideal S512x1408 .bf16) (j : S512x1408.Idx) :
    (k0_pay6 v0 v1 v3 : FVec Ideal S512x1408 .bf16) j = dup (blkProd v0 v1 j) (v3 j) := by
  unfold dup
  rw [← lgs_eq]
  unfold k0_pay6 k0_pay4 k0_pay3 k0_pay2 k0_pay1 blkProd ht
  simp only [← ofBits_half_f32]
  pointwise

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S2816x1024 .bf16 := m ((c : Thread nD τ).loc main_arg1)
def a2 (c : Dev nD) : FVec Ideal S8192x2816 .bf16 := m ((c : Thread nD τ).loc main_arg2)
def a3 (c : Dev nD) : FVec Ideal S8192x2816 .bf16 := m ((c : Thread nD τ).loc main_arg3)

/-- The whole product at an entry. -/
def prod (x : FVec Ideal S8192x1024 .bf16) (w : FVec Ideal S2816x1024 .bf16) (i : S8192x2816.Idx) : EReal :=
  ∑ k : Fin 1024, x (ix2 (i 0) k) * w (ix2 (i 1) k)

/-- The first result, of arrays. -/
def res0 (x : FVec Ideal S8192x1024 .bf16) (w : FVec Ideal S2816x1024 .bf16) (g u : FVec Ideal S8192x2816 .bf16) : FVec Ideal S8192x2816 .bf16 :=
  fun i => dgate (prod x w i) (u i) (g i)

/-- The second. -/
def res1 (x : FVec Ideal S8192x1024 .bf16) (w : FVec Ideal S2816x1024 .bf16) (g : FVec Ideal S8192x2816 .bf16) : FVec Ideal S8192x2816 .bf16 :=
  fun i => dup (prod x w i) (g i)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)
theorem index4 : ∀ t : Fin cfg0.N, win0_4.index t 0 = t.val / 2 ∧ win0_4.index t 1 = t.val % 2 :=
  (by decide +kernel : ∀ t : Fin grid0.N, win0_4.index t 0 = t.val / 2 ∧ win0_4.index t 1 = t.val % 2)
theorem index5 : ∀ t : Fin cfg0.N, win0_5.index t 0 = t.val / 2 ∧ win0_5.index t 1 = t.val % 2 :=
  (by decide +kernel : ∀ t : Fin grid0.N, win0_5.index t 0 = t.val / 2 ∧ win0_5.index t 1 = t.val % 2)
theorem flush4 : ∀ (q0 : Fin 16) (q1 : Fin 2), (cfg0.win 4).flush (⟨2 * q0.val + q1.val, lt_of_lt_of_eq (by omega) N_0.symm⟩ : Fin grid0.N) = true :=
  (by decide +kernel : ∀ (q0 : Fin 16) (q1 : Fin 2), win0_4.flush (⟨2 * q0.val + q1.val, lt_of_lt_of_eq (by omega) N_0.symm⟩ : Fin grid0.N) = true)
theorem flush5 : ∀ (q0 : Fin 16) (q1 : Fin 2), (cfg0.win 5).flush (⟨2 * q0.val + q1.val, lt_of_lt_of_eq (by omega) N_0.symm⟩ : Fin grid0.N) = true :=
  (by decide +kernel : ∀ (q0 : Fin 16) (q1 : Fin 2), win0_5.flush (⟨2 * q0.val + q1.val, lt_of_lt_of_eq (by omega) N_0.symm⟩ : Fin grid0.N) = true)

theorem lt_points (t : Fin cfg0.N) : t.val < 32 := lt_of_lt_of_eq t.isLt N_0

/-- A place of a point's block, in the array. -/
def place (t : Fin cfg0.N) (j : S512x1408.Idx) : S8192x2816.Idx :=
  ix2 ⟨512 * (t.val / 2) + (j 0).val, by have h := lt_points t; have h0 : (j 0).val < 512 := (j 0).isLt; omega⟩
    ⟨1408 * (t.val % 2) + (j 1).val, by have h1 : (j 1).val < 1408 := (j 1).isLt; omega⟩

theorem blk0 (c : Dev nD) (t : Fin cfg0.N) (j : S512x1408.Idx) (k : Fin 1024) :
    (iblk m c 0 t : FVec Ideal S512x1024 .bf16) (ix2 (j 0) k) = a0 m c (ix2 (place t j 0) k) := by
  unfold iblk
  rw [View.read_apply]
  show V m c main_arg0 _ = m (c.tc.loc main_arg0) _
  unfold V
  congr 1
  funext a
  apply Fin.ext
  match a with
  | ⟨0, _⟩ => show win0_0.index t 0 * 512 + 1 * (j 0).val = 512 * (t.val / 2) + (j 0).val; rw [(index0 t).1]; omega
  | ⟨1, _⟩ => show win0_0.index t 1 * 1024 + 1 * k.val = k.val; rw [(index0 t).2]; omega

theorem blk1 (c : Dev nD) (t : Fin cfg0.N) (j : S512x1408.Idx) (k : Fin 1024) :
    (iblk m c 1 t : FVec Ideal S1408x1024 .bf16) (ix2 (j 1) k) = a1 m c (ix2 (place t j 1) k) := by
  unfold iblk
  rw [View.read_apply]
  show V m c main_arg1 _ = m (c.tc.loc main_arg1) _
  unfold V
  congr 1
  funext a
  apply Fin.ext
  match a with
  | ⟨0, _⟩ => show win0_1.index t 0 * 1408 + 1 * (j 1).val = 1408 * (t.val % 2) + (j 1).val; rw [(index1 t).1]; omega
  | ⟨1, _⟩ => show win0_1.index t 1 * 1024 + 1 * k.val = k.val; rw [(index1 t).2]; omega

theorem blk2 (c : Dev nD) (t : Fin cfg0.N) (j : S512x1408.Idx) :
    (iblk m c 2 t : FVec Ideal S512x1408 .bf16) j = a2 m c (place t j) := by
  unfold iblk
  rw [View.read_apply]
  show V m c main_arg2 _ = m (c.tc.loc main_arg2) _
  unfold V
  congr 1
  funext a
  apply Fin.ext
  match a with
  | ⟨0, _⟩ => show win0_2.index t 0 * 512 + 1 * (j 0).val = 512 * (t.val / 2) + (j 0).val; rw [(index2 t).1]; omega
  | ⟨1, _⟩ => show win0_2.index t 1 * 1408 + 1 * (j 1).val = 1408 * (t.val % 2) + (j 1).val; rw [(index2 t).2]; omega

theorem blk3 (c : Dev nD) (t : Fin cfg0.N) (j : S512x1408.Idx) :
    (iblk m c 3 t : FVec Ideal S512x1408 .bf16) j = a3 m c (place t j) := by
  unfold iblk
  rw [View.read_apply]
  show V m c main_arg3 _ = m (c.tc.loc main_arg3) _
  unfold V
  congr 1
  funext a
  apply Fin.ext
  match a with
  | ⟨0, _⟩ => show win0_3.index t 0 * 512 + 1 * (j 0).val = 512 * (t.val / 2) + (j 0).val; rw [(index3 t).1]; omega
  | ⟨1, _⟩ => show win0_3.index t 1 * 1408 + 1 * (j 1).val = 1408 * (t.val % 2) + (j 1).val; rw [(index3 t).2]; omega

/-- A point's product is its part of the whole one. -/
theorem blkProd_eq (c : Dev nD) (t : Fin cfg0.N) (j : S512x1408.Idx) :
    blkProd (iblk m c 0 t) (iblk m c 1 t) j = prod (a0 m c) (a1 m c) (place t j) :=
  Finset.sum_congr rfl fun k _ => by rw [blk0, blk1]

theorem hz : (![0, 0] : Fin 2 → Nat) = fun _ => 0 := by decide

theorem flushed4 (c : Dev nD) (t : Fin cfg0.N) :
    (dats m 0 c).flushed 4 t = ((cfg0.win 4).blk t).view.read (Elt Ideal) (res0 (a0 m c) (a1 m c) (a2 m c) (a3 m c)) := by
  rw [Cert.Kernel2Ideal.Value.flushed4]
  funext y
  rw [View.read_apply]
  have hp : ((cfg0.win 4).blk t).view.emb y = place t y := by
    funext a
    apply Fin.ext
    match a with
    | ⟨0, _⟩ => show win0_4.index t 0 * 512 + 1 * (y 0).val = 512 * (t.val / 2) + (y 0).val; rw [(index4 t).1]; omega
    | ⟨1, _⟩ => show win0_4.index t 1 * 1408 + 1 * (y 1).val = 1408 * (t.val % 2) + (y 1).val; rw [(index4 t).2]; omega
  rw [hp]
  show (out0_4 (iblk m c 0 t) (iblk m c 1 t) (iblk m c 2 t) (iblk m c 3 t) : FVec Ideal S512x1408 .bf16) y = _
  unfold out0_4
  rw [View.canon_unit_zero hz]
  simp only [View.ld_unit_zero (S := S512x1024) hz, View.ld_unit_zero (S := S1408x1024) hz, View.ld_unit_zero (S := S512x1408) hz]
  refine (pay5_apply _ _ _ _ y).trans ?_
  rw [blkProd_eq, blk2, blk3]
  rfl

theorem flushed5 (c : Dev nD) (t : Fin cfg0.N) :
    (dats m 0 c).flushed 5 t = ((cfg0.win 5).blk t).view.read (Elt Ideal) (res1 (a0 m c) (a1 m c) (a2 m c)) := by
  rw [Cert.Kernel2Ideal.Value.flushed5]
  funext y
  rw [View.read_apply]
  have hp : ((cfg0.win 5).blk t).view.emb y = place t y := by
    funext a
    apply Fin.ext
    match a with
    | ⟨0, _⟩ => show win0_5.index t 0 * 512 + 1 * (y 0).val = 512 * (t.val / 2) + (y 0).val; rw [(index5 t).1]; omega
    | ⟨1, _⟩ => show win0_5.index t 1 * 1408 + 1 * (y 1).val = 1408 * (t.val % 2) + (y 1).val; rw [(index5 t).2]; omega
  rw [hp]
  show (out0_5 (iblk m c 0 t) (iblk m c 1 t) (iblk m c 2 t) (iblk m c 3 t) : FVec Ideal S512x1408 .bf16) y = _
  unfold out0_5
  rw [View.canon_unit_zero hz]
  simp only [View.ld_unit_zero (S := S512x1024) hz, View.ld_unit_zero (S := S1408x1024) hz, View.ld_unit_zero (S := S512x1408) hz]
  refine (pay6_apply _ _ _ y).trans ?_
  rw [blkProd_eq, blk2]
  rfl

/-- The point whose block holds an entry. -/
def pt (i : S8192x2816.Idx) : Fin grid0.N :=
  ⟨2 * ((i 0).val / 512) + (i 1).val / 1408, lt_of_lt_of_eq (by
    have h0 : (i 0).val < 8192 := (i 0).isLt
    have h1 : (i 1).val < 2816 := (i 1).isLt
    omega) N_0.symm⟩

theorem cover4 (i : S8192x2816.Idx) : ∃ t : Fin cfg0.N, (cfg0.win 4).flush t = true ∧ i ∈ ((cfg0.win 4).blk t).view.set := by
  have h0 : (i 0).val < 8192 := (i 0).isLt
  have h1 : (i 1).val < 2816 := (i 1).isLt
  refine ⟨pt i, flush4 ⟨(i 0).val / 512, by omega⟩ ⟨(i 1).val / 1408, by omega⟩, ?_⟩
  show i ∈ ((View.whole main_v0_0).slice (win0_4.rect (pt i))).set
  rw [View.set_slice_whole, Rect.mem_set_unit]
  have e0 : win0_4.index (pt i) 0 = (2 * ((i 0).val / 512) + (i 1).val / 1408) / 2 := (index4 (pt i)).1
  have e1 : win0_4.index (pt i) 1 = (2 * ((i 0).val / 512) + (i 1).val / 1408) % 2 := (index4 (pt i)).2
  intro a
  match a with
  | ⟨0, _⟩ => show win0_4.index (pt i) 0 * 512 ≤ (i 0).val ∧ (i 0).val < win0_4.index (pt i) 0 * 512 + 512; rw [e0]; omega
  | ⟨1, _⟩ => show win0_4.index (pt i) 1 * 1408 ≤ (i 1).val ∧ (i 1).val < win0_4.index (pt i) 1 * 1408 + 1408; rw [e1]; omega

theorem cover5 (i : S8192x2816.Idx) : ∃ t : Fin cfg0.N, (cfg0.win 5).flush t = true ∧ i ∈ ((cfg0.win 5).blk t).view.set := by
  have h0 : (i 0).val < 8192 := (i 0).isLt
  have h1 : (i 1).val < 2816 := (i 1).isLt
  refine ⟨pt i, flush5 ⟨(i 0).val / 512, by omega⟩ ⟨(i 1).val / 1408, by omega⟩, ?_⟩
  show i ∈ ((View.whole main_v0_1).slice (win0_5.rect (pt i))).set
  rw [View.set_slice_whole, Rect.mem_set_unit]
  have e0 : win0_5.index (pt i) 0 = (2 * ((i 0).val / 512) + (i 1).val / 1408) / 2 := (index5 (pt i)).1
  have e1 : win0_5.index (pt i) 1 = (2 * ((i 0).val / 512) + (i 1).val / 1408) % 2 := (index5 (pt i)).2
  intro a
  match a with
  | ⟨0, _⟩ => show win0_5.index (pt i) 0 * 512 ≤ (i 0).val ∧ (i 0).val < win0_5.index (pt i) 0 * 512 + 512; rw [e0]; omega
  | ⟨1, _⟩ => show win0_5.index (pt i) 1 * 1408 ≤ (i 1).val ∧ (i 1).val < win0_5.index (pt i) 1 * 1408 + 1408; rw [e1]; omega

/-- The kernel's run, read. -/
theorem run : θ_run defs (onTc (τ := τ) (main (F := Ideal))) ⟨m, fun _ => 0, ρ⟩ fun r => ∀ c : Dev nD,
      r.2.mem ((c : Thread nD τ).loc main_v0_0) = res0 (a0 m c) (a1 m c) (a2 m c) (a3 m c)
      ∧ r.2.mem ((c : Thread nD τ).loc main_v0_1) = res1 (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed4 m c t) cover4),
      (h c).2.1.trans ((dats m 0 c).arrAt_eq_of_cover 5 _ (fun t _ => flushed5 m c t) cover5), (h c).2.2⟩)
    (Cert.Kernel2Ideal.Value.run_blocks m ρ)

end Cert.Ffn.Back

namespace Cert.Ffn.Back.Ref

open Idealize.ShloMosaic Idealize.ShloMosaic.TcCoe Idealize.SL.Sem
open Cert.Reference2Ideal Cert.Reference2Ideal.Gen

/-- The reference's product, entry by entry. -/
theorem dot_apply (y0 : FVec Ideal S8192x1024 .bf16) (y1 : FVec Ideal S2816x1024 .bf16) (i : S8192x2816.Idx) :
    (Host.dotGeneral dot_S8192x1024_S2816x1024_S8192x2816_1_1_0_0_n_n none (extf .f32 y0 bitsLt_bf16_f32) (extf .f32 y1 bitsLt_bf16_f32) : FVec Ideal S8192x2816 .f32) i = prod y0 y1 i := by
  unfold prod
  pointwise

/-- The reference's first result. -/
theorem res0_eq (y0 : FVec Ideal S8192x1024 .bf16) (y1 : FVec Ideal S2816x1024 .bf16) (y2 y3 : FVec Ideal S8192x2816 .bf16) :
    (truncf .bf16 (addf (mulf (mulf (Host.dotGeneral dot_S8192x1024_S2816x1024_S8192x2816_1_1_0_0_n_n none (extf .f32 y0 bitsLt_bf16_f32) (extf .f32 y1 bitsLt_bf16_f32)) (extf .f32 y3 bitsLt_bf16_f32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 y2 bitsLt_bf16_f32)))))) (mulf (mulf (extf .f32 y2 bitsLt_bf16_f32) (mulf (Host.dotGeneral dot_S8192x1024_S2816x1024_S8192x2816_1_1_0_0_n_n none (extf .f32 y0 bitsLt_bf16_f32) (extf .f32 y1 bitsLt_bf16_f32)) (extf .f32 y3 bitsLt_bf16_f32))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 y2 bitsLt_bf16_f32))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 y2 bitsLt_bf16_f32))))))))) bitsLt_bf16_f32 : FVec Ideal S8192x2816 .bf16) = res0 y0 y1 y2 y3 := by
  funext i
  unfold res0 dgate
  rw [← dot_apply]
  generalize (Host.dotGeneral dot_S8192x1024_S2816x1024_S8192x2816_1_1_0_0_n_n none (extf .f32 y0 bitsLt_bf16_f32) (extf .f32 y1 bitsLt_bf16_f32) : FVec Ideal S8192x2816 .f32) = P
  unfold lgs
  pointwise

/-- The second. -/
theorem res1_eq (y0 : FVec Ideal S8192x1024 .bf16) (y1 : FVec Ideal S2816x1024 .bf16) (y2 : FVec Ideal S8192x2816 .bf16) :
    (truncf .bf16 (mulf (mulf (extf .f32 y2 bitsLt_bf16_f32) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 y2 bitsLt_bf16_f32)))))) (Host.dotGeneral dot_S8192x1024_S2816x1024_S8192x2816_1_1_0_0_n_n none (extf .f32 y0 bitsLt_bf16_f32) (extf .f32 y1 bitsLt_bf16_f32))) bitsLt_bf16_f32 : FVec Ideal S8192x2816 .bf16) = res1 y0 y1 y2 := by
  funext i
  unfold res1 dup
  rw [← dot_apply]
  generalize (Host.dotGeneral dot_S8192x1024_S2816x1024_S8192x2816_1_1_0_0_n_n none (extf .f32 y0 bitsLt_bf16_f32) (extf .f32 y1 bitsLt_bf16_f32) : FVec Ideal S8192x2816 .f32) = P
  unfold lgs
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = res0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v12) = res1 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (res0_eq _ _ _ _), (h c).2.1.trans (res1_eq _ _ _), (h c).2.2⟩)
    (Cert.Reference2Ideal.Value.run m ρ)

end Cert.Ffn.Back.Ref

end
-- ==== Proof.FfnDh.lean ====
/- The two products back through the gated unit's weights, added: the kernel's result, entry by entry, and the reference's. -/
module

public import proofs.«01_k».proof.Proof.Parts
public import proofs.«01_k».proof.Proof.FfnBase
public import Idealize.ShloMosaic.Lib.Pointwise
public import Idealize.ShloMosaic.Lib.IdealHost

@[expose] public section

noncomputable section

namespace Cert.Ffn.Dh

open Idealize.ShloMosaic Idealize.ShloMosaic.TcCoe Idealize.SL.Sem
open Idealize.ShloMosaic.Pipeline (Dat)
open Cert.Kernel3Ideal Cert.Kernel3Ideal.Gen

/-- A block's product at an entry. -/
def blkProd (v0 : FVec Ideal S512x1408 .bf16) (v1 : FVec Ideal S1408x1024 .bf16) (j : S512x1024.Idx) : EReal :=
  ∑ k : Fin 1408, v0 (ix2 (j 0) k) * v1 (ix2 k (j 1))

theorem pay1_apply (v0 : FVec Ideal S512x1408 .bf16) (v1 : FVec Ideal S1408x1024 .bf16) (v3 : FVec Ideal S512x1408 .bf16) (v4 : FVec Ideal S1408x1024 .bf16) (j : S512x1024.Idx) :
    (k0_pay1 v0 v1 v3 v4 : FVec Ideal S512x1024 .f32) j = blkProd v0 v1 j + blkProd v3 v4 j := by
  unfold k0_pay1 blkProd
  pointwise

theorem pay2_apply (v0 : FVec Ideal S512x1408 .bf16) (v1 : FVec Ideal S1408x1024 .bf16) (v3 : FVec Ideal S512x1408 .bf16) (v4 : FVec Ideal S1408x1024 .bf16) (j : S512x1024.Idx) :
    (k0_pay2 v0 v1 v3 v4 : FVec Ideal S512x1024 .f32) j = blkProd v0 v1 j + blkProd v3 v4 j := by
  unfold k0_pay2
  rw [shapeCast_self]
  exact pay1_apply v0 v1 v3 v4 j

theorem pay3_apply (v0 : FVec Ideal S512x1408 .bf16) (v1 : FVec Ideal S1408x1024 .bf16) (v3 : FVec Ideal S512x1408 .bf16) (v4 : FVec Ideal S1408x1024 .bf16) (x : FVec Ideal S512x1024 .f32) (j : S512x1024.Idx) :
    (k0_pay3 v0 v1 v3 v4 x : FVec Ideal S512x1024 .f32) j = x j + (blkProd v0 v1 j + blkProd v3 v4 j) := by
  unfold k0_pay3
  rw [shapeCast_self, ← pay1_apply]
  rfl

theorem hz : (![0, 0] : Fin 2 → Nat) = fun _ => 0 := by decide

/-- A first point leaves the first products, added, in the scratch. -/
theorem sout_A {F : FTy → Type} [FloatOps F] (c : Dev nD) (i : grid0.Coords) (a3 : Memref sig .tc .vmem S512x1408 .bf16) (h3 : a3.IsWhole)
    (a4 : Memref sig .tc .vmem S512x1408 .bf16) (h4 : a4.IsWhole) (a5 : Memref sig .tc .vmem S1408x1024 .bf16) (h5 : a5.IsWhole)
    (a6 : Memref sig .tc .vmem S1408x1024 .bf16) (h6 : a6.IsWhole) (a7 : Memref sig .tc .vmem S512x1024 .f32) (h7 : a7.IsWhole)
    (a8 : Memref sig .tc .vmem S512x1024 .f32) (h8 : a8.IsWhole) (hc0 : cond0_0 i) (hc1 : ¬cond0_1 i) (hc2 : ¬cond0_2 i)
    (x0 x1 : Vec F S512x1408 .bf16) (x2 x3 : Vec F S1408x1024 .bf16) :
    sout0_A_0 c i a3 h3 a4 h4 a5 h5 a6 h6 a7 h7 a8 h8 hc0 hc1 hc2 x0 x1 x2 x3 = k0_pay2 x0 x2 x1 x3 := by
  unfold sout0_A_0
  rw [View.read_writes_eq_canon _ _ _ (scover0_A_0 c i a3 h3 a4 h4 a5 h5 a6 h6 a7 h7 a8 h8 hc0 hc1 hc2 x0 x1 x2 x3)]
  unfold kernelRun0_A
  dsimp only
  sl_unfold_words
  rw [View.canon_unit_zero hz]
  simp only [View.readAt_eq_ld, h3.read_unread, h4.read_unread, h5.read_unread, h6.read_unread, View.ld_unit_zero (S := S512x1408) hz, View.ld_unit_zero (S := S1408x1024) hz]

/-- A last one adds its own and leaves the sum in the result's block. -/
theorem out_B {F : FTy → Type} [FloatOps F] (c : Dev nD) (i : grid0.Coords) (a3 : Memref sig .tc .vmem S512x1408 .bf16) (h3 : a3.IsWhole)
    (a4 : Memref sig .tc .vmem S512x1408 .bf16) (h4 : a4.IsWhole) (a5 : Memref sig .tc .vmem S1408x1024 .bf16) (h5 : a5.IsWhole)
    (a6 : Memref sig .tc .vmem S1408x1024 .bf16) (h6 : a6.IsWhole) (a7 : Memref sig .tc .vmem S512x1024 .f32) (h7 : a7.IsWhole)
    (a8 : Memref sig .tc .vmem S512x1024 .f32) (h8 : a8.IsWhole) (hc0 : ¬cond0_0 i) (hc1 : cond0_1 i) (hc2 : cond0_2 i)
    (x0 x1 : Vec F S512x1408 .bf16) (x2 x3 : Vec F S1408x1024 .bf16) (x : Vec F S512x1024 .f32) :
    out0_B_4 c i a3 h3 a4 h4 a5 h5 a6 h6 a7 h7 a8 h8 hc0 hc1 hc2 x0 x1 x2 x3 x = k0_pay3 x0 x2 x1 x3 x := by
  unfold out0_B_4
  rw [View.read_writes_eq_canon _ _ _ (cover0_B_4 c i a3 h3 a4 h4 a5 h5 a6 h6 a7 h7 a8 h8 hc0 hc1 hc2 x0 x1 x2 x3 x)]
  unfold kernelRun0_B
  dsimp only
  sl_unfold_words
  rw [View.canon_unit_zero hz, View.readCov_unit_zero (S := S512x1024) _ hz]
  simp only [View.readAt_eq_ld, h3.read_unread, h4.read_unread, h5.read_unread, h6.read_unread, h8.read_unread, View.ld_unit_zero (S := S512x1408) hz, View.ld_unit_zero (S := S1408x1024) hz, View.ld_unit_zero (S := S512x1024) hz]

variable (m : (ℓ : Loc nD τ sig) → Buf (Elt Ideal) ℓ) (ρ : Dev nD → PrngReg)

/-- The arguments a device holds. -/
def a0 (c : Dev nD) : FVec Ideal S8192x2816 .bf16 := m ((c : Thread nD τ).loc main_arg0)
def a1 (c : Dev nD) : FVec Ideal S8192x2816 .bf16 := m ((c : Thread nD τ).loc main_arg1)
def a2 (c : Dev nD) : FVec Ideal S2816x1024 .bf16 := m ((c : Thread nD τ).loc main_arg2)
def a3 (c : Dev nD) : FVec Ideal S2816x1024 .bf16 := m ((c : Thread nD τ).loc main_arg3)

/-- One whole product at an entry. -/
def prod (x : FVec Ideal S8192x2816 .bf16) (w : FVec Ideal S2816x1024 .bf16) (i : S8192x1024.Idx) : EReal :=
  ∑ k : Fin 2816, x (ix2 (i 0) k) * w (ix2 k (i 1))

/-- The two, added. -/
def res (x y : FVec Ideal S8192x2816 .bf16) (w z : FVec Ideal S2816x1024 .bf16) : FVec Ideal S8192x1024 .f32 :=
  fun i => prod x w i + prod y z i

theorem index0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem index1 : ∀ t : Fin cfg0.N, win0_1.index t 0 = t.val / 2 ∧ win0_1.index t 1 = t.val % 2 :=
  (by decide +kernel : ∀ t : Fin grid0.N, win0_1.index t 0 = t.val / 2 ∧ win0_1.index t 1 = t.val % 2)
theorem index2 : ∀ t : Fin cfg0.N, win0_2.index t 0 = t.val % 2 ∧ win0_2.index t 1 = 0 :=
  (by decide +kernel : ∀ t : Fin grid0.N, win0_2.index t 0 = t.val % 2 ∧ win0_2.index t 1 = 0)
theorem index3 : ∀ t : Fin cfg0.N, win0_3.index t 0 = t.val % 2 ∧ win0_3.index t 1 = 0 :=
  (by decide +kernel : ∀ t : Fin grid0.N, win0_3.index t 0 = t.val % 2 ∧ win0_3.index t 1 = 0)
theorem index4 : ∀ t : Fin cfg0.N, win0_4.index t 0 = t.val / 2 ∧ win0_4.index t 1 = 0 :=
  (by decide +kernel : ∀ t : Fin grid0.N, win0_4.index t 0 = t.val / 2 ∧ win0_4.index t 1 = 0)

theorem lt_points (t : Fin cfg0.N) : t.val < 32 := lt_of_lt_of_eq t.isLt N_0

/-- A place of a point's block, in the array. -/
def place (t : Fin cfg0.N) (j : S512x1024.Idx) : S8192x1024.Idx :=
  ix2 ⟨512 * (t.val / 2) + (j 0).val, by have h := lt_points t; have h0 : (j 0).val < 512 := (j 0).isLt; omega⟩ (j 1)

theorem blk0 (c : Dev nD) (t : Fin cfg0.N) (s : ℕ) (hs : t.val % 2 = s) (j : S512x1024.Idx) (k : Fin 1408) (hk : 1408 * s + k.val < 2816) :
    (iblk m c 0 t : FVec Ideal S512x1408 .bf16) (ix2 (j 0) k) = a0 m c (ix2 (place t j 0) ⟨1408 * s + k.val, hk⟩) := by
  unfold iblk
  rw [View.read_apply]
  show V m c main_arg0 _ = m (c.tc.loc main_arg0) _
  unfold V
  congr 1
  funext a
  apply Fin.ext
  match a with
  | ⟨0, _⟩ => show win0_0.index t 0 * 512 + 1 * (j 0).val = 512 * (t.val / 2) + (j 0).val; rw [(index0 t).1]; omega
  | ⟨1, _⟩ => show win0_0.index t 1 * 1408 + 1 * k.val = 1408 * s + k.val; rw [(index0 t).2]; omega

theorem blk1 (c : Dev nD) (t : Fin cfg0.N) (s : ℕ) (hs : t.val % 2 = s) (j : S512x1024.Idx) (k : Fin 1408) (hk : 1408 * s + k.val < 2816) :
    (iblk m c 1 t : FVec Ideal S512x1408 .bf16) (ix2 (j 0) k) = a1 m c (ix2 (place t j 0) ⟨1408 * s + k.val, hk⟩) := by
  unfold iblk
  rw [View.read_apply]
  show V m c main_arg1 _ = m (c.tc.loc main_arg1) _
  unfold V
  congr 1
  funext a
  apply Fin.ext
  match a with
  | ⟨0, _⟩ => show win0_1.index t 0 * 512 + 1 * (j 0).val = 512 * (t.val / 2) + (j 0).val; rw [(index1 t).1]; omega
  | ⟨1, _⟩ => show win0_1.index t 1 * 1408 + 1 * k.val = 1408 * s + k.val; rw [(index1 t).2]; omega

theorem blk2 (c : Dev nD) (t : Fin cfg0.N) (s : ℕ) (hs : t.val % 2 = s) (j : S512x1024.Idx) (k : Fin 1408) (hk : 1408 * s + k.val < 2816) :
    (iblk m c 2 t : FVec Ideal S1408x1024 .bf16) (ix2 k (j 1)) = a2 m c (ix2 ⟨1408 * s + k.val, hk⟩ (place t j 1)) := by
  unfold iblk
  rw [View.read_apply]
  show V m c main_arg2 _ = m (c.tc.loc main_arg2) _
  unfold V
  congr 1
  funext a
  apply Fin.ext
  match a with
  | ⟨0, _⟩ => show win0_2.index t 0 * 1408 + 1 * k.val = 1408 * s + k.val; rw [(index2 t).1]; omega
  | ⟨1, _⟩ => show win0_2.index t 1 * 1024 + 1 * (j 1).val = (j 1).val; rw [(index2 t).2]; omega

theorem blk3 (c : Dev nD) (t : Fin cfg0.N) (s : ℕ) (hs : t.val % 2 = s) (j : S512x1024.Idx) (k : Fin 1408) (hk : 1408 * s + k.val < 2816) :
    (iblk m c 3 t : FVec Ideal S1408x1024 .bf16) (ix2 k (j 1)) = a3 m c (ix2 ⟨1408 * s + k.val, hk⟩ (place t j 1)) := by
  unfold iblk
  rw [View.read_apply]
  show V m c main_arg3 _ = m (c.tc.loc main_arg3) _
  unfold V
  congr 1
  funext a
  apply Fin.ext
  match a with
  | ⟨0, _⟩ => show win0_3.index t 0 * 1408 + 1 * k.val = 1408 * s + k.val; rw [(index3 t).1]; omega
  | ⟨1, _⟩ => show win0_3.index t 1 * 1024 + 1 * (j 1).val = (j 1).val; rw [(index3 t).2]; omega

/-- A point's first product is one half of the whole one. -/
theorem half_eq (c : Dev nD) (t : Fin cfg0.N) (s : ℕ) (hs : t.val % 2 = s) (hs2 : s < 2) (j : S512x1024.Idx) :
    blkProd (iblk m c 0 t) (iblk m c 2 t) j = ∑ k : Fin 1408, a0 m c (ix2 (place t j 0) ⟨1408 * s + k.val, by omega⟩) * a2 m c (ix2 ⟨1408 * s + k.val, by omega⟩ (place t j 1)) :=
  Finset.sum_congr rfl fun k _ => by rw [blk0 m c t s hs j k (by omega), blk2 m c t s hs j k (by omega)]

/-- And its second of the other. -/
theorem half_eq' (c : Dev nD) (t : Fin cfg0.N) (s : ℕ) (hs : t.val % 2 = s) (hs2 : s < 2) (j : S512x1024.Idx) :
    blkProd (iblk m c 1 t) (iblk m c 3 t) j = ∑ k : Fin 1408, a1 m c (ix2 (place t j 0) ⟨1408 * s + k.val, by omega⟩) * a3 m c (ix2 ⟨1408 * s + k.val, by omega⟩ (place t j 1)) :=
  Finset.sum_congr rfl fun k _ => by rw [blk1 m c t s hs j k (by omega), blk3 m c t s hs j k (by omega)]

/-- What an odd point leaves. -/
theorem value_B (c : Dev nD) (t : Fin cfg0.N) (ht : t.val % 2 = 1) (j : S512x1024.Idx) :
    (outsAt0 m c t.val t.isLt).1 j = res (a0 m c) (a1 m c) (a2 m c) (a3 m c) (place t j) := by
  have hp : t.val - 1 < cfg0.N := Nat.lt_of_le_of_lt (Nat.sub_le _ _) t.isLt
  have e : outsAt0 m c (t.val - 1) hp = _ := outsAt0_A m c ⟨t.val - 1, hp⟩ (by dsimp only; omega) (by dsimp only; omega) (by dsimp only; omega)
  rw [outsAt0_B m c t (by omega) ht ht, e]
  dsimp only
  rw [out_B, sout_A, pay3_apply, pay2_apply, half_eq m c t 1 ht (by omega), half_eq' m c t 1 ht (by omega),
    half_eq m c ⟨t.val - 1, hp⟩ 0 (by dsimp only; omega) (by omega), half_eq' m c ⟨t.val - 1, hp⟩ 0 (by dsimp only; omega) (by omega)]
  have hq : place ⟨t.val - 1, hp⟩ j = place t j := by
    unfold place
    congr 1
    apply Fin.ext
    show 512 * ((t.val - 1) / 2) + (j 0).val = 512 * (t.val / 2) + (j 0).val
    omega
  rw [hq, add_add_add_comm]
  exact congrArg₂ (· + ·) (sum_two (M := EReal) 1408 2816 rfl fun k => a0 m c (ix2 (place t j 0) k) * a2 m c (ix2 k (place t j 1))).symm
    (sum_two (M := EReal) 1408 2816 rfl fun k => a1 m c (ix2 (place t j 0) k) * a3 m c (ix2 k (place t j 1))).symm

theorem flushed4 (c : Dev nD) (t : Fin cfg0.N) (hf : (cfg0.win 4).flush t = true) :
    (dats m 0 c).flushed 4 t = ((cfg0.win 4).blk t).view.read (Elt Ideal) (res (a0 m c) (a1 m c) (a2 m c) (a3 m c)) := by
  rw [Cert.Kernel3Ideal.Value.flushed4]
  funext y
  rw [View.read_apply]
  have hp : ((cfg0.win 4).blk t).view.emb y = place t y := by
    funext a
    apply Fin.ext
    match a with
    | ⟨0, _⟩ => show win0_4.index t 0 * 512 + 1 * (y 0).val = 512 * (t.val / 2) + (y 0).val; rw [(index4 t).1]; omega
    | ⟨1, _⟩ => show win0_4.index t 1 * 1024 + 1 * (y 1).val = (y 1).val; rw [(index4 t).2]; omega
  rw [hp]
  exact value_B m c t ((flush0_4 t).mp hf) y

/-- The point whose block holds an entry. -/
def pt (i : S8192x1024.Idx) : Fin grid0.N :=
  ⟨2 * ((i 0).val / 512) + 1, lt_of_lt_of_eq (by
    have h0 : (i 0).val < 8192 := (i 0).isLt
    omega) N_0.symm⟩

theorem cover4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  refine ⟨pt i, (flush0_4 (pt i)).mpr (show (2 * ((i 0).val / 512) + 1) % 2 = 1 by omega), ?_⟩
  show i ∈ ((View.whole main_v0).slice (win0_4.rect (pt i))).set
  rw [View.set_slice_whole, Rect.mem_set_unit]
  have e0 : win0_4.index (pt i) 0 = (2 * ((i 0).val / 512) + 1) / 2 := (index4 (pt i)).1
  have e1 : win0_4.index (pt i) 1 = 0 := (index4 (pt i)).2
  intro a
  match a with
  | ⟨0, _⟩ => show win0_4.index (pt i) 0 * 512 ≤ (i 0).val ∧ (i 0).val < win0_4.index (pt i) 0 * 512 + 512; rw [e0]; omega
  | ⟨1, _⟩ => show win0_4.index (pt i) 1 * 1024 ≤ (i 1).val ∧ (i 1).val < win0_4.index (pt i) 1 * 1024 + 1024; rw [e1]; omega

/-- The kernel's run, read. -/
theorem run : θ_run defs (onTc (τ := τ) (main (F := Ideal))) ⟨m, fun _ => 0, ρ⟩ fun r => ∀ c : Dev nD,
      r.2.mem ((c : Thread nD τ).loc main_v0) = res (a0 m c) (a1 m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t hf => flushed4 m c t hf) cover4), (h c).2⟩)
    (Cert.Kernel3Ideal.Value.run_blocks m ρ)

end Cert.Ffn.Dh

namespace Cert.Ffn.Dh.Ref

open Idealize.ShloMosaic Idealize.ShloMosaic.TcCoe Idealize.SL.Sem
open Cert.Reference3Ideal Cert.Reference3Ideal.Gen

/-- The reference's result. -/
theorem res_eq (y0 y1 : FVec Ideal S8192x2816 .bf16) (y2 y3 : FVec Ideal S2816x1024 .bf16) :
    (addf (Host.dotGeneral dot_S8192x2816_S1024x2816_S8192x1024_1_1_0_0_n_n none (extf .f32 y1 bitsLt_bf16_f32) (transpose S1024x2816 [1, 0] (extf .f32 y3 bitsLt_bf16_f32) transposes_S2816x1024_S1024x2816_1_0)) (Host.dotGeneral dot_S8192x2816_S1024x2816_S8192x1024_1_1_0_0_n_n none (extf .f32 y0 bitsLt_bf16_f32) (transpose S1024x2816 [1, 0] (extf .f32 y2 bitsLt_bf16_f32) transposes_S2816x1024_S1024x2816_1_0)) : FVec Ideal S8192x1024 .f32) = res y0 y1 y2 y3 := by
  funext i
  unfold res
  rw [add_comm]
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = res (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (res_eq _ _ _ _), (h c).2⟩)
    (Cert.Reference3Ideal.Value.run m ρ)

end Cert.Ffn.Dh.Ref

end
-- ==== Proof.FfnGw.lean ====
/- A weight's gradient, the product of two arrays over their rows: the kernel's result, entry by entry, and the reference's. -/
module

public import proofs.«01_k».proof.Proof.Parts
public import proofs.«01_k».proof.Proof.FfnBase
public import Idealize.ShloMosaic.Lib.Pointwise
public import Idealize.ShloMosaic.Lib.IdealHost

@[expose] public section

noncomputable section

namespace Cert.Ffn.Gw

open Idealize.ShloMosaic Idealize.ShloMosaic.TcCoe Idealize.SL.Sem
open Idealize.ShloMosaic.Pipeline (Dat)
open Cert.Kernel4Ideal Cert.Kernel4Ideal.Gen

/-- A block's product at an entry. -/
def blkProd (v0 : FVec Ideal S512x1408 .bf16) (v1 : FVec Ideal S512x1024 .bf16) (j : S1408x1024.Idx) : EReal :=
  ∑ k : Fin 512, v0 (ix2 k (j 0)) * v1 (ix2 k (j 1))

theorem pay1_apply (v0 : FVec Ideal S512x1408 .bf16) (v1 : FVec Ideal S512x1024 .bf16) (j : S1408x1024.Idx) :
    (k0_pay1 v0 v1 : FVec Ideal S1408x1024 .f32) j = blkProd v0 v1 j := by
  unfold k0_pay1 blkProd
  pointwise

theorem pay2_apply (v0 : FVec Ideal S512x1408 .bf16) (v1 : FVec Ideal S512x1024 .bf16) (j : S1408x1024.Idx) :
    (k0_pay2 v0 v1 : FVec Ideal S1408x1024 .f32) j = blkProd v0 v1 j := by
  unfold k0_pay2
  rw [shapeCast_self]
  exact pay1_apply v0 v1 j

theorem pay3_apply (v0 : FVec Ideal S512x1408 .bf16) (v1 : FVec Ideal S512x1024 .bf16) (x : FVec Ideal S1408x1024 .f32) (j : S1408x1024.Idx) :
    (k0_pay3 v0 v1 x : FVec Ideal S1408x1024 .f32) j = x j + blkProd v0 v1 j := by
  unfold k0_pay3
  rw [shapeCast_self, ← pay1_apply]
  rfl

theorem hz : (![0, 0] : Fin 2 → Nat) = fun _ => 0 := by decide

/-- A first point leaves the first product in the scratch. -/
theorem sout_A {F : FTy → Type} [FloatOps F] (c : Dev nD) (i : grid0.Coords) (a3 : Memref sig .tc .vmem S512x1408 .bf16) (h3 : a3.IsWhole)
    (a4 : Memref sig .tc .vmem S512x1024 .bf16) (h4 : a4.IsWhole) (a5 : Memref sig .tc .vmem S1408x1024 .f32) (h5 : a5.IsWhole)
    (a6 : Memref sig .tc .vmem S1408x1024 .f32) (h6 : a6.IsWhole) (hc0 : cond0_0 i) (hc1 : ¬cond0_1 i) (hc2 : ¬cond0_2 i)
    (x0 : Vec F S512x1408 .bf16) (x1 : Vec F S512x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S512x1408) hz, View.ld_unit_zero (S := S512x1024) hz]

/-- A middle one adds its own there. -/
theorem sout_B {F : FTy → Type} [FloatOps F] (c : Dev nD) (i : grid0.Coords) (a3 : Memref sig .tc .vmem S512x1408 .bf16) (h3 : a3.IsWhole)
    (a4 : Memref sig .tc .vmem S512x1024 .bf16) (h4 : a4.IsWhole) (a5 : Memref sig .tc .vmem S1408x1024 .f32) (h5 : a5.IsWhole)
    (a6 : Memref sig .tc .vmem S1408x1024 .f32) (h6 : a6.IsWhole) (hc0 : ¬cond0_0 i) (hc1 : cond0_1 i) (hc2 : ¬cond0_2 i)
    (x0 : Vec F S512x1408 .bf16) (x1 : Vec F S512x1024 .bf16) (x : Vec F S1408x1024 .f32) :
    sout0_B_0 c i a3 h3 a4 h4 a5 h5 a6 h6 hc0 hc1 hc2 x0 x1 x = k0_pay3 x0 x1 x := by
  unfold sout0_B_0
  rw [View.read_writes_eq_canon _ _ _ (scover0_B_0 c i a3 h3 a4 h4 a5 h5 a6 h6 hc0 hc1 hc2 x0 x1 x)]
  unfold kernelRun0_B
  dsimp only
  sl_unfold_words
  rw [View.canon_unit_zero hz]
  simp only [View.readAt_eq_ld, h3.read_unread, h4.read_unread, h6.read_unread, View.ld_unit_zero (S := S512x1408) hz, View.ld_unit_zero (S := S512x1024) hz, View.ld_unit_zero (S := S1408x1024) hz]

/-- The last one adds its own and leaves the sum in the result's block. -/
theorem out_C {F : FTy → Type} [FloatOps F] (c : Dev nD) (i : grid0.Coords) (a3 : Memref sig .tc .vmem S512x1408 .bf16) (h3 : a3.IsWhole)
    (a4 : Memref sig .tc .vmem S512x1024 .bf16) (h4 : a4.IsWhole) (a5 : Memref sig .tc .vmem S1408x1024 .f32) (h5 : a5.IsWhole)
    (a6 : Memref sig .tc .vmem S1408x1024 .f32) (h6 : a6.IsWhole) (hc0 : ¬cond0_0 i) (hc1 : cond0_1 i) (hc2 : cond0_2 i)
    (x0 : Vec F S512x1408 .bf16) (x1 : Vec F S512x1024 .bf16) (x : Vec F S1408x1024 .f32) :
    out0_C_2 c i a3 h3 a4 h4 a5 h5 a6 h6 hc0 hc1 hc2 x0 x1 x = k0_pay3 x0 x1 x := by
  unfold out0_C_2
  rw [View.read_writes_eq_canon _ _ _ (cover0_C_2 c i a3 h3 a4 h4 a5 h5 a6 h6 hc0 hc1 hc2 x0 x1 x)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S512x1408) hz, View.ld_unit_zero (S := S512x1024) hz, View.ld_unit_zero (S := S1408x1024) hz]

variable (m : (ℓ : Loc nD τ sig) → Buf (Elt Ideal) ℓ) (ρ : Dev nD → PrngReg)

/-- The arguments a device holds. -/
def a0 (c : Dev nD) : FVec Ideal S8192x2816 .bf16 := m ((c : Thread nD τ).loc main_arg0)
def a1 (c : Dev nD) : FVec Ideal S8192x1024 .bf16 := m ((c : Thread nD τ).loc main_arg1)

/-- The whole product. -/
def prod (x : FVec Ideal S8192x2816 .bf16) (h : FVec Ideal S8192x1024 .bf16) : FVec Ideal S2816x1024 .f32 :=
  fun i => ∑ k : Fin 8192, x (ix2 k (i 0)) * h (ix2 k (i 1))

/-- One of its sixteen parts, over 512 rows. -/
def part (x : FVec Ideal S8192x2816 .bf16) (h : FVec Ideal S8192x1024 .bf16) (i : S2816x1024.Idx) (s : ℕ) : EReal :=
  if hs : s < 16 then ∑ k : Fin 512, x (ix2 ⟨512 * s + k.val, by omega⟩ (i 0)) * h (ix2 ⟨512 * s + k.val, by omega⟩ (i 1)) else 0

/-- The sixteen make the whole. -/
theorem sum_part (x : FVec Ideal S8192x2816 .bf16) (h : FVec Ideal S8192x1024 .bf16) (i : S2816x1024.Idx) :
    ∑ s ∈ Finset.range 16, part x h i s = prod x h i := by
  rw [Finset.sum_range]
  refine Eq.trans ?_ (sum_parts (M := EReal) 16 512 8192 rfl fun k => x (ix2 k (i 0)) * h (ix2 k (i 1))).symm
  exact Finset.sum_congr rfl fun s _ => dif_pos s.isLt

theorem index0 : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)
theorem index1 : ∀ t : Fin cfg0.N, win0_1.index t 0 = t.val % 16 ∧ win0_1.index t 1 = 0 :=
  (by decide +kernel : ∀ t : Fin grid0.N, win0_1.index t 0 = t.val % 16 ∧ win0_1.index t 1 = 0)
theorem index2 : ∀ t : Fin cfg0.N, win0_2.index t 0 = t.val / 16 ∧ win0_2.index t 1 = 0 :=
  (by decide +kernel : ∀ t : Fin grid0.N, win0_2.index t 0 = t.val / 16 ∧ win0_2.index t 1 = 0)

theorem lt_points (t : Fin cfg0.N) : t.val < 32 := lt_of_lt_of_eq t.isLt N_0

/-- A place of a point's block, in the array. -/
def place (t : Fin cfg0.N) (j : S1408x1024.Idx) : S2816x1024.Idx :=
  ix2 ⟨1408 * (t.val / 16) + (j 0).val, by have h := lt_points t; have h0 : (j 0).val < 1408 := (j 0).isLt; omega⟩ (j 1)

theorem blk0 (c : Dev nD) (t : Fin cfg0.N) (j : S1408x1024.Idx) (k : Fin 512) (hk : 512 * (t.val % 16) + k.val < 8192) :
    (iblk m c 0 t : FVec Ideal S512x1408 .bf16) (ix2 k (j 0)) = a0 m c (ix2 ⟨512 * (t.val % 16) + k.val, hk⟩ (place t j 0)) := by
  unfold iblk
  rw [View.read_apply]
  show V m c main_arg0 _ = m (c.tc.loc main_arg0) _
  unfold V
  congr 1
  funext a
  apply Fin.ext
  match a with
  | ⟨0, _⟩ => show win0_0.index t 0 * 512 + 1 * k.val = 512 * (t.val % 16) + k.val; rw [(index0 t).1]; omega
  | ⟨1, _⟩ => show win0_0.index t 1 * 1408 + 1 * (j 0).val = 1408 * (t.val / 16) + (j 0).val; rw [(index0 t).2]; omega

theorem blk1 (c : Dev nD) (t : Fin cfg0.N) (j : S1408x1024.Idx) (k : Fin 512) (hk : 512 * (t.val % 16) + k.val < 8192) :
    (iblk m c 1 t : FVec Ideal S512x1024 .bf16) (ix2 k (j 1)) = a1 m c (ix2 ⟨512 * (t.val % 16) + k.val, hk⟩ (place t j 1)) := by
  unfold iblk
  rw [View.read_apply]
  show V m c main_arg1 _ = m (c.tc.loc main_arg1) _
  unfold V
  congr 1
  funext a
  apply Fin.ext
  match a with
  | ⟨0, _⟩ => show win0_1.index t 0 * 512 + 1 * k.val = 512 * (t.val % 16) + k.val; rw [(index1 t).1]; omega
  | ⟨1, _⟩ => show win0_1.index t 1 * 1024 + 1 * (j 1).val = (j 1).val; rw [(index1 t).2]; omega

/-- A point's product is one part of the whole one. -/
theorem part_eq (c : Dev nD) (t : Fin cfg0.N) (j : S1408x1024.Idx) :
    blkProd (iblk m c 0 t) (iblk m c 1 t) j = part (a0 m c) (a1 m c) (place t j) (t.val % 16) := by
  unfold part
  rw [dif_pos (by omega)]
  exact Finset.sum_congr rfl fun k _ => by rw [blk0 m c t j k (by omega), blk1 m c t j k (by omega)]

/-- The points of one block of the result share its places. -/
theorem place_pred (t : Fin cfg0.N) (hp : t.val - 1 < cfg0.N) (h0 : ¬t.val % 16 = 0) (j : S1408x1024.Idx) :
    place ⟨t.val - 1, hp⟩ j = place t j := by
  unfold place
  congr 1
  apply Fin.ext
  show 1408 * ((t.val - 1) / 16) + (j 0).val = 1408 * (t.val / 16) + (j 0).val
  omega

/-- What a point before the last leaves in the scratch: the sum of the parts so far. -/
theorem scratch_eq (c : Dev nD) (j : S1408x1024.Idx) : ∀ (n : ℕ) (h : n < cfg0.N), n % 16 < 15 →
    (outsAt0 m c n h).2 j = ∑ s ∈ Finset.range (n % 16 + 1), part (a0 m c) (a1 m c) (place ⟨n, h⟩ j) s := by
  intro n
  induction n with
  | zero =>
    intro h _
    rw [show outsAt0 m c 0 h = _ from outsAt0_A m c ⟨0, h⟩ (by dsimp only) (by dsimp only; omega) (by dsimp only; omega)]
    dsimp only
    rw [sout_A, pay2_apply, part_eq]
    exact (Finset.sum_range_one _).symm
  | succ n ih =>
    intro h hl
    by_cases h0 : (n + 1) % 16 = 0
    · rw [show outsAt0 m c (n + 1) h = _ from outsAt0_A m c ⟨n + 1, h⟩ h0 (by dsimp only; omega) (by dsimp only; omega)]
      dsimp only
      rw [sout_A, pay2_apply, part_eq, h0]
      exact (Finset.sum_range_one _).symm
    · have hp : (⟨n + 1, h⟩ : Fin cfg0.N).val - 1 < cfg0.N := Nat.lt_of_le_of_lt (Nat.sub_le _ _) h
      have ih' := ih hp (by omega)
      have hq := place_pred ⟨n + 1, h⟩ hp h0 j
      rw [show outsAt0 m c (n + 1) h = _ from outsAt0_B m c ⟨n + 1, h⟩ h0 (by dsimp only; omega) (by dsimp only; omega)]
      dsimp only
      rw [sout_B, pay3_apply, part_eq, Finset.sum_range_succ]
      have e : (n + 1) % 16 = n % 16 + 1 := by omega
      refine congrArg₂ (· + ·) ?_ rfl
      refine Eq.trans ih' ?_
      rw [e]
      exact Finset.sum_congr rfl fun s _ => congrArg (fun i => part (a0 m c) (a1 m c) i s) hq

/-- What a last point leaves. -/
theorem value_C (c : Dev nD) (t : Fin cfg0.N) (ht : t.val % 16 = 15) (j : S1408x1024.Idx) :
    (outsAt0 m c t.val t.isLt).1 j = prod (a0 m c) (a1 m c) (place t j) := by
  have hp : t.val - 1 < cfg0.N := Nat.lt_of_le_of_lt (Nat.sub_le _ _) t.isLt
  have e : (t.val - 1) % 16 + 1 = 15 := by omega
  rw [outsAt0_C m c t (by omega) (by omega) ht]
  dsimp only
  rw [out_C, pay3_apply, part_eq, scratch_eq m c j (t.val - 1) hp (by omega), place_pred t hp (by omega), e, ht,
    ← sum_part]
  exact (Finset.sum_range_succ _ 15).symm

theorem flushed2 (c : Dev nD) (t : Fin cfg0.N) (hf : (cfg0.win 2).flush t = true) :
    (dats m 0 c).flushed 2 t = ((cfg0.win 2).blk t).view.read (Elt Ideal) (prod (a0 m c) (a1 m c)) := by
  rw [Cert.Kernel4Ideal.Value.flushed2]
  funext y
  rw [View.read_apply]
  have hp : ((cfg0.win 2).blk t).view.emb y = place t y := by
    funext a
    apply Fin.ext
    match a with
    | ⟨0, _⟩ => show win0_2.index t 0 * 1408 + 1 * (y 0).val = 1408 * (t.val / 16) + (y 0).val; rw [(index2 t).1]; omega
    | ⟨1, _⟩ => show win0_2.index t 1 * 1024 + 1 * (y 1).val = (y 1).val; rw [(index2 t).2]; omega
  rw [hp]
  have ht : t.val % 16 = 15 := (flush0_2 t).mp hf
  have e : (outsAt0 m c t.val t.isLt).1 y = prod (a0 m c) (a1 m c) (place t y) := value_C m c t ht y
  generalize prod (a0 m c) (a1 m c) = P at e ⊢
  exact e

/-- The point whose block holds an entry. -/
def pt (i : S2816x1024.Idx) : Fin grid0.N :=
  ⟨16 * ((i 0).val / 1408) + 15, lt_of_lt_of_eq (by
    have h0 : (i 0).val < 2816 := (i 0).isLt
    omega) N_0.symm⟩

theorem cover2 (i : S2816x1024.Idx) : ∃ t : Fin cfg0.N, (cfg0.win 2).flush t = true ∧ i ∈ ((cfg0.win 2).blk t).view.set := by
  have h0 : (i 0).val < 2816 := (i 0).isLt
  have h1 : (i 1).val < 1024 := (i 1).isLt
  refine ⟨pt i, (flush0_2 (pt i)).mpr (show (16 * ((i 0).val / 1408) + 15) % 16 = 15 by omega), ?_⟩
  show i ∈ ((View.whole main_v0).slice (win0_2.rect (pt i))).set
  rw [View.set_slice_whole, Rect.mem_set_unit]
  have e0 : win0_2.index (pt i) 0 = (16 * ((i 0).val / 1408) + 15) / 16 := (index2 (pt i)).1
  have e1 : win0_2.index (pt i) 1 = 0 := (index2 (pt i)).2
  intro a
  match a with
  | ⟨0, _⟩ => show win0_2.index (pt i) 0 * 1408 ≤ (i 0).val ∧ (i 0).val < win0_2.index (pt i) 0 * 1408 + 1408; rw [e0]; omega
  | ⟨1, _⟩ => show win0_2.index (pt i) 1 * 1024 ≤ (i 1).val ∧ (i 1).val < win0_2.index (pt i) 1 * 1024 + 1024; rw [e1]; omega

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed2 m c t hf) cover2), (h c).2⟩)
    (Cert.Kernel4Ideal.Value.run_blocks m ρ)

end Cert.Ffn.Gw

namespace Cert.Ffn.Gw.Ref

open Idealize.ShloMosaic Idealize.ShloMosaic.TcCoe Idealize.SL.Sem
open Cert.Reference4Ideal Cert.Reference4Ideal.Gen

/-- The reference's result. -/
theorem res_eq (y0 : FVec Ideal S8192x2816 .bf16) (y1 : FVec Ideal S8192x1024 .bf16) :
    (transpose S2816x1024 [1, 0] (transpose S1024x2816 [1, 0] (Host.dotGeneral dot_S8192x2816_S8192x1024_S2816x1024_0_0_1_1_n_n none (extf .f32 y0 bitsLt_bf16_f32) (extf .f32 y1 bitsLt_bf16_f32)) transposes_S2816x1024_S1024x2816_1_0) transposes_S1024x2816_S2816x1024_1_0 : FVec Ideal S2816x1024 .f32) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩)
    (Cert.Reference4Ideal.Value.run m ρ)

end Cert.Ffn.Gw.Ref

end
-- ==== Proof.FfnIn.lean ====
/- The gated unit's three arrays: the kernel's results, entry by entry, and the reference's. -/
module

public import proofs.«01_k».proof.Proof.Gate
public import proofs.«01_k».proof.Proof.FfnBase
public import Idealize.ShloMosaic.Lib.Pointwise
public import Idealize.ShloMosaic.Lib.IdealHost

@[expose] public section

noncomputable section

namespace Cert.Ffn.In

open Idealize.ShloMosaic Idealize.ShloMosaic.TcCoe Idealize.SL.Sem
open Idealize.ShloMosaic.Pipeline (Dat)
open Cert.Kernel5Ideal Cert.Kernel5Ideal.Gen

/-- A block's product at an entry. -/
def blkProd (v0 : FVec Ideal S512x1024 .bf16) (v1 : FVec Ideal S1408x1024 .bf16) (j : S512x1408.Idx) : EReal :=
  ∑ k : Fin 1024, v0 (ix2 (j 0) k) * v1 (ix2 (j 1) k)

/-- The gated unit of a gate and of what it lets through. -/
def unit (g u : EReal) : EReal := (g * lgs g) * u

theorem pay3_apply (v0 : FVec Ideal S512x1024 .bf16) (v1 : FVec Ideal S1408x1024 .bf16) (j : S512x1408.Idx) :
    (k0_pay3 v0 v1 : FVec Ideal S512x1408 .bf16) j = blkProd v0 v1 j := by
  unfold k0_pay3 k0_pay1 blkProd
  pointwise

theorem pay4_apply (v0 : FVec Ideal S512x1024 .bf16) (v1 : FVec Ideal S1408x1024 .bf16) (j : S512x1408.Idx) :
    (k0_pay4 v0 v1 : FVec Ideal S512x1408 .bf16) j = blkProd v0 v1 j := by
  unfold k0_pay4 k0_pay2 blkProd
  pointwise

theorem pay5_apply (v0 : FVec Ideal S512x1024 .bf16) (v1 : FVec Ideal S1408x1024 .bf16) (v3 : FVec Ideal S512x1024 .bf16)
    (v4 : FVec Ideal S1408x1024 .bf16) (j : S512x1408.Idx) :
    (k0_pay5 v0 v1 v3 v4 : FVec Ideal S512x1408 .bf16) j = unit (blkProd v0 v1 j) (blkProd v3 v4 j) := by
  unfold unit
  rw [← lgs_eq]
  unfold k0_pay5 k0_pay2 k0_pay1 blkProd ht
  simp only [← ofBits_half_f32]
  pointwise

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S2816x1024 .bf16 := m ((c : Thread nD τ).loc main_arg1)
def a2 (c : Dev nD) : FVec Ideal S2816x1024 .bf16 := m ((c : Thread nD τ).loc main_arg2)

/-- The whole product of the rows and one matrix. -/
def prod (x : FVec Ideal S8192x1024 .bf16) (w : FVec Ideal S2816x1024 .bf16) : FVec Ideal S8192x2816 .bf16 :=
  fun i => ∑ k : Fin 1024, x (ix2 (i 0) k) * w (ix2 (i 1) k)

/-- The gated unit of the two products. -/
def units (x : FVec Ideal S8192x1024 .bf16) (wg wu : FVec Ideal S2816x1024 .bf16) : FVec Ideal S8192x2816 .bf16 :=
  fun i => unit (prod x wg i) (prod x wu i)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val / 2 ∧ win0_1.index t 1 = 0 :=
  (by decide +kernel : ∀ t : Fin grid0.N, win0_1.index t 0 = t.val / 2 ∧ win0_1.index t 1 = 0)
theorem index2 : ∀ t : Fin cfg0.N, win0_2.index t 0 = t.val % 2 ∧ win0_2.index t 1 = 0 :=
  (by decide +kernel : ∀ t : Fin grid0.N, win0_2.index t 0 = t.val % 2 ∧ win0_2.index t 1 = 0)
theorem index3 : ∀ t : Fin cfg0.N, win0_3.index t 0 = t.val % 2 ∧ win0_3.index t 1 = 0 :=
  (by decide +kernel : ∀ t : Fin grid0.N, win0_3.index t 0 = t.val % 2 ∧ win0_3.index t 1 = 0)
theorem index4 : ∀ t : Fin cfg0.N, win0_4.index t 0 = t.val / 2 ∧ win0_4.index t 1 = t.val % 2 :=
  (by decide +kernel : ∀ t : Fin grid0.N, win0_4.index t 0 = t.val / 2 ∧ win0_4.index t 1 = t.val % 2)
theorem index5 : ∀ t : Fin cfg0.N, win0_5.index t 0 = t.val / 2 ∧ win0_5.index t 1 = t.val % 2 :=
  (by decide +kernel : ∀ t : Fin grid0.N, win0_5.index t 0 = t.val / 2 ∧ win0_5.index t 1 = t.val % 2)
theorem index6 : ∀ t : Fin cfg0.N, win0_6.index t 0 = t.val / 2 ∧ win0_6.index t 1 = t.val % 2 :=
  (by decide +kernel : ∀ t : Fin grid0.N, win0_6.index t 0 = t.val / 2 ∧ win0_6.index t 1 = t.val % 2)
theorem flush4 : ∀ (q0 : Fin 16) (q1 : Fin 2), (cfg0.win 4).flush (⟨2 * q0.val + q1.val, lt_of_lt_of_eq (by omega) N_0.symm⟩ : Fin grid0.N) = true :=
  (by decide +kernel : ∀ (q0 : Fin 16) (q1 : Fin 2), win0_4.flush (⟨2 * q0.val + q1.val, lt_of_lt_of_eq (by omega) N_0.symm⟩ : Fin grid0.N) = true)
theorem flush5 : ∀ (q0 : Fin 16) (q1 : Fin 2), (cfg0.win 5).flush (⟨2 * q0.val + q1.val, lt_of_lt_of_eq (by omega) N_0.symm⟩ : Fin grid0.N) = true :=
  (by decide +kernel : ∀ (q0 : Fin 16) (q1 : Fin 2), win0_5.flush (⟨2 * q0.val + q1.val, lt_of_lt_of_eq (by omega) N_0.symm⟩ : Fin grid0.N) = true)
theorem flush6 : ∀ (q0 : Fin 16) (q1 : Fin 2), (cfg0.win 6).flush (⟨2 * q0.val + q1.val, lt_of_lt_of_eq (by omega) N_0.symm⟩ : Fin grid0.N) = true :=
  (by decide +kernel : ∀ (q0 : Fin 16) (q1 : Fin 2), win0_6.flush (⟨2 * q0.val + q1.val, lt_of_lt_of_eq (by omega) N_0.symm⟩ : Fin grid0.N) = true)

theorem lt_points (t : Fin cfg0.N) : t.val < 32 := lt_of_lt_of_eq t.isLt N_0

/-- A place of a point's block, in the array. -/
def place (t : Fin cfg0.N) (j : S512x1408.Idx) : S8192x2816.Idx :=
  ix2 ⟨512 * (t.val / 2) + (j 0).val, by have h := lt_points t; have h0 : (j 0).val < 512 := (j 0).isLt; omega⟩
    ⟨1408 * (t.val % 2) + (j 1).val, by have h1 : (j 1).val < 1408 := (j 1).isLt; omega⟩

theorem blk0 (c : Dev nD) (t : Fin cfg0.N) (j : S512x1408.Idx) (k : Fin 1024) :
    (iblk m c 0 t : FVec Ideal S512x1024 .bf16) (ix2 (j 0) k) = a0 m c (ix2 (place t j 0) k) := by
  unfold iblk
  rw [View.read_apply]
  show V m c main_arg0 _ = m (c.tc.loc main_arg0) _
  unfold V
  congr 1
  funext a
  apply Fin.ext
  match a with
  | ⟨0, _⟩ => show win0_0.index t 0 * 512 + 1 * (j 0).val = 512 * (t.val / 2) + (j 0).val; rw [(index0 t).1]; omega
  | ⟨1, _⟩ => show win0_0.index t 1 * 1024 + 1 * k.val = k.val; rw [(index0 t).2]; omega

theorem blk1 (c : Dev nD) (t : Fin cfg0.N) (j : S512x1408.Idx) (k : Fin 1024) :
    (iblk m c 1 t : FVec Ideal S512x1024 .bf16) (ix2 (j 0) k) = a0 m c (ix2 (place t j 0) k) := by
  unfold iblk
  rw [View.read_apply]
  show V m c main_arg0 _ = m (c.tc.loc main_arg0) _
  unfold V
  congr 1
  funext a
  apply Fin.ext
  match a with
  | ⟨0, _⟩ => show win0_1.index t 0 * 512 + 1 * (j 0).val = 512 * (t.val / 2) + (j 0).val; rw [(index1 t).1]; omega
  | ⟨1, _⟩ => show win0_1.index t 1 * 1024 + 1 * k.val = k.val; rw [(index1 t).2]; omega

theorem blk2 (c : Dev nD) (t : Fin cfg0.N) (j : S512x1408.Idx) (k : Fin 1024) :
    (iblk m c 2 t : FVec Ideal S1408x1024 .bf16) (ix2 (j 1) k) = a1 m c (ix2 (place t j 1) k) := by
  unfold iblk
  rw [View.read_apply]
  show V m c main_arg1 _ = m (c.tc.loc main_arg1) _
  unfold V
  congr 1
  funext a
  apply Fin.ext
  match a with
  | ⟨0, _⟩ => show win0_2.index t 0 * 1408 + 1 * (j 1).val = 1408 * (t.val % 2) + (j 1).val; rw [(index2 t).1]; omega
  | ⟨1, _⟩ => show win0_2.index t 1 * 1024 + 1 * k.val = k.val; rw [(index2 t).2]; omega

theorem blk3 (c : Dev nD) (t : Fin cfg0.N) (j : S512x1408.Idx) (k : Fin 1024) :
    (iblk m c 3 t : FVec Ideal S1408x1024 .bf16) (ix2 (j 1) k) = a2 m c (ix2 (place t j 1) k) := by
  unfold iblk
  rw [View.read_apply]
  show V m c main_arg2 _ = m (c.tc.loc main_arg2) _
  unfold V
  congr 1
  funext a
  apply Fin.ext
  match a with
  | ⟨0, _⟩ => show win0_3.index t 0 * 1408 + 1 * (j 1).val = 1408 * (t.val % 2) + (j 1).val; rw [(index3 t).1]; omega
  | ⟨1, _⟩ => show win0_3.index t 1 * 1024 + 1 * k.val = k.val; rw [(index3 t).2]; omega

/-- A point's first product is its part of the whole one. -/
theorem gate_eq (c : Dev nD) (t : Fin cfg0.N) (j : S512x1408.Idx) :
    blkProd (iblk m c 0 t) (iblk m c 2 t) j = prod (a0 m c) (a1 m c) (place t j) :=
  Finset.sum_congr rfl fun k _ => by rw [blk0, blk2]

/-- And its second. -/
theorem up_eq (c : Dev nD) (t : Fin cfg0.N) (j : S512x1408.Idx) :
    blkProd (iblk m c 1 t) (iblk m c 3 t) j = prod (a0 m c) (a2 m c) (place t j) :=
  Finset.sum_congr rfl fun k _ => by rw [blk1, blk3]

theorem hz : (![0, 0] : Fin 2 → Nat) = fun _ => 0 := by decide

theorem flushed4 (c : Dev nD) (t : Fin cfg0.N) :
    (dats m 0 c).flushed 4 t = ((cfg0.win 4).blk t).view.read (Elt Ideal) (prod (a0 m c) (a1 m c)) := by
  rw [Cert.Kernel5Ideal.Value.flushed4]
  funext y
  rw [View.read_apply]
  have hp : ((cfg0.win 4).blk t).view.emb y = place t y := by
    funext a
    apply Fin.ext
    match a with
    | ⟨0, _⟩ => show win0_4.index t 0 * 512 + 1 * (y 0).val = 512 * (t.val / 2) + (y 0).val; rw [(index4 t).1]; omega
    | ⟨1, _⟩ => show win0_4.index t 1 * 1408 + 1 * (y 1).val = 1408 * (t.val % 2) + (y 1).val; rw [(index4 t).2]; omega
  rw [hp]
  show (out0_4 (iblk m c 0 t) (iblk m c 1 t) (iblk m c 2 t) (iblk m c 3 t) : FVec Ideal S512x1408 .bf16) y = _
  unfold out0_4
  rw [View.canon_unit_zero hz]
  simp only [View.ld_unit_zero (S := S512x1024) hz, View.ld_unit_zero (S := S1408x1024) hz]
  refine (pay3_apply _ _ y).trans ?_
  rw [gate_eq]
  rfl

theorem flushed5 (c : Dev nD) (t : Fin cfg0.N) :
    (dats m 0 c).flushed 5 t = ((cfg0.win 5).blk t).view.read (Elt Ideal) (prod (a0 m c) (a2 m c)) := by
  rw [Cert.Kernel5Ideal.Value.flushed5]
  funext y
  rw [View.read_apply]
  have hp : ((cfg0.win 5).blk t).view.emb y = place t y := by
    funext a
    apply Fin.ext
    match a with
    | ⟨0, _⟩ => show win0_5.index t 0 * 512 + 1 * (y 0).val = 512 * (t.val / 2) + (y 0).val; rw [(index5 t).1]; omega
    | ⟨1, _⟩ => show win0_5.index t 1 * 1408 + 1 * (y 1).val = 1408 * (t.val % 2) + (y 1).val; rw [(index5 t).2]; omega
  rw [hp]
  show (out0_5 (iblk m c 0 t) (iblk m c 1 t) (iblk m c 2 t) (iblk m c 3 t) : FVec Ideal S512x1408 .bf16) y = _
  unfold out0_5
  rw [View.canon_unit_zero hz]
  simp only [View.ld_unit_zero (S := S512x1024) hz, View.ld_unit_zero (S := S1408x1024) hz]
  refine (pay4_apply _ _ y).trans ?_
  rw [up_eq]
  rfl

theorem flushed6 (c : Dev nD) (t : Fin cfg0.N) :
    (dats m 0 c).flushed 6 t = ((cfg0.win 6).blk t).view.read (Elt Ideal) (units (a0 m c) (a1 m c) (a2 m c)) := by
  rw [Cert.Kernel5Ideal.Value.flushed6]
  funext y
  rw [View.read_apply]
  have hp : ((cfg0.win 6).blk t).view.emb y = place t y := by
    funext a
    apply Fin.ext
    match a with
    | ⟨0, _⟩ => show win0_6.index t 0 * 512 + 1 * (y 0).val = 512 * (t.val / 2) + (y 0).val; rw [(index6 t).1]; omega
    | ⟨1, _⟩ => show win0_6.index t 1 * 1408 + 1 * (y 1).val = 1408 * (t.val % 2) + (y 1).val; rw [(index6 t).2]; omega
  rw [hp]
  show (out0_6 (iblk m c 0 t) (iblk m c 1 t) (iblk m c 2 t) (iblk m c 3 t) : FVec Ideal S512x1408 .bf16) y = _
  unfold out0_6
  rw [View.canon_unit_zero hz]
  simp only [View.ld_unit_zero (S := S512x1024) hz, View.ld_unit_zero (S := S1408x1024) hz]
  refine (pay5_apply _ _ _ _ y).trans ?_
  rw [gate_eq, up_eq]
  rfl

/-- The point whose block holds an entry. -/
def pt (i : S8192x2816.Idx) : Fin grid0.N :=
  ⟨2 * ((i 0).val / 512) + (i 1).val / 1408, lt_of_lt_of_eq (by
    have h0 : (i 0).val < 8192 := (i 0).isLt
    have h1 : (i 1).val < 2816 := (i 1).isLt
    omega) N_0.symm⟩

theorem cover4 (i : S8192x2816.Idx) : ∃ t : Fin cfg0.N, (cfg0.win 4).flush t = true ∧ i ∈ ((cfg0.win 4).blk t).view.set := by
  have h0 : (i 0).val < 8192 := (i 0).isLt
  have h1 : (i 1).val < 2816 := (i 1).isLt
  refine ⟨pt i, flush4 ⟨(i 0).val / 512, by omega⟩ ⟨(i 1).val / 1408, by omega⟩, ?_⟩
  show i ∈ ((View.whole main_v0_0).slice (win0_4.rect (pt i))).set
  rw [View.set_slice_whole, Rect.mem_set_unit]
  have e0 : win0_4.index (pt i) 0 = (2 * ((i 0).val / 512) + (i 1).val / 1408) / 2 := (index4 (pt i)).1
  have e1 : win0_4.index (pt i) 1 = (2 * ((i 0).val / 512) + (i 1).val / 1408) % 2 := (index4 (pt i)).2
  intro a
  match a with
  | ⟨0, _⟩ => show win0_4.index (pt i) 0 * 512 ≤ (i 0).val ∧ (i 0).val < win0_4.index (pt i) 0 * 512 + 512; rw [e0]; omega
  | ⟨1, _⟩ => show win0_4.index (pt i) 1 * 1408 ≤ (i 1).val ∧ (i 1).val < win0_4.index (pt i) 1 * 1408 + 1408; rw [e1]; omega

theorem cover5 (i : S8192x2816.Idx) : ∃ t : Fin cfg0.N, (cfg0.win 5).flush t = true ∧ i ∈ ((cfg0.win 5).blk t).view.set := by
  have h0 : (i 0).val < 8192 := (i 0).isLt
  have h1 : (i 1).val < 2816 := (i 1).isLt
  refine ⟨pt i, flush5 ⟨(i 0).val / 512, by omega⟩ ⟨(i 1).val / 1408, by omega⟩, ?_⟩
  show i ∈ ((View.whole main_v0_1).slice (win0_5.rect (pt i))).set
  rw [View.set_slice_whole, Rect.mem_set_unit]
  have e0 : win0_5.index (pt i) 0 = (2 * ((i 0).val / 512) + (i 1).val / 1408) / 2 := (index5 (pt i)).1
  have e1 : win0_5.index (pt i) 1 = (2 * ((i 0).val / 512) + (i 1).val / 1408) % 2 := (index5 (pt i)).2
  intro a
  match a with
  | ⟨0, _⟩ => show win0_5.index (pt i) 0 * 512 ≤ (i 0).val ∧ (i 0).val < win0_5.index (pt i) 0 * 512 + 512; rw [e0]; omega
  | ⟨1, _⟩ => show win0_5.index (pt i) 1 * 1408 ≤ (i 1).val ∧ (i 1).val < win0_5.index (pt i) 1 * 1408 + 1408; rw [e1]; omega

theorem cover6 (i : S8192x2816.Idx) : ∃ t : Fin cfg0.N, (cfg0.win 6).flush t = true ∧ i ∈ ((cfg0.win 6).blk t).view.set := by
  have h0 : (i 0).val < 8192 := (i 0).isLt
  have h1 : (i 1).val < 2816 := (i 1).isLt
  refine ⟨pt i, flush6 ⟨(i 0).val / 512, by omega⟩ ⟨(i 1).val / 1408, by omega⟩, ?_⟩
  show i ∈ ((View.whole main_v0_2).slice (win0_6.rect (pt i))).set
  rw [View.set_slice_whole, Rect.mem_set_unit]
  have e0 : win0_6.index (pt i) 0 = (2 * ((i 0).val / 512) + (i 1).val / 1408) / 2 := (index6 (pt i)).1
  have e1 : win0_6.index (pt i) 1 = (2 * ((i 0).val / 512) + (i 1).val / 1408) % 2 := (index6 (pt i)).2
  intro a
  match a with
  | ⟨0, _⟩ => show win0_6.index (pt i) 0 * 512 ≤ (i 0).val ∧ (i 0).val < win0_6.index (pt i) 0 * 512 + 512; rw [e0]; omega
  | ⟨1, _⟩ => show win0_6.index (pt i) 1 * 1408 ≤ (i 1).val ∧ (i 1).val < win0_6.index (pt i) 1 * 1408 + 1408; rw [e1]; omega

/-- The kernel's run, read. -/
theorem run : θ_run defs (onTc (τ := τ) (main (F := Ideal))) ⟨m, fun _ => 0, ρ⟩ fun r => ∀ c : Dev nD,
      r.2.mem ((c : Thread nD τ).loc main_v0_0) = prod (a0 m c) (a1 m c)
      ∧ r.2.mem ((c : Thread nD τ).loc main_v0_1) = prod (a0 m c) (a2 m c)
      ∧ r.2.mem ((c : Thread nD τ).loc main_v0_2) = units (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 4 _ (fun t _ => flushed4 m c t) cover4),
      (h c).2.1.trans ((dats m 0 c).arrAt_eq_of_cover 5 _ (fun t _ => flushed5 m c t) cover5),
      (h c).2.2.1.trans ((dats m 0 c).arrAt_eq_of_cover 6 _ (fun t _ => flushed6 m c t) cover6), (h c).2.2.2⟩)
    (Cert.Kernel5Ideal.Value.run_blocks m ρ)

end Cert.Ffn.In

namespace Cert.Ffn.In.Ref

open Idealize.ShloMosaic Idealize.ShloMosaic.TcCoe Idealize.SL.Sem
open Cert.Reference5Ideal Cert.Reference5Ideal.Gen

/-- The reference's product, entry by entry. -/
theorem dot_apply (y0 : FVec Ideal S8192x1024 .bf16) (y1 : FVec Ideal S2816x1024 .bf16) (i : S8192x2816.Idx) :
    (Host.dotGeneral dot_S8192x1024_S1024x2816_S8192x2816_1_0_0_1_n_n none (extf .f32 y0 bitsLt_bf16_f32) (transpose S1024x2816 [1, 0] (extf .f32 y1 bitsLt_bf16_f32) transposes_S2816x1024_S1024x2816_1_0) : FVec Ideal S8192x2816 .f32) i = prod y0 y1 i := by
  unfold prod
  pointwise

/-- A product's result. -/
theorem res0_eq (y0 : FVec Ideal S8192x1024 .bf16) (y1 : FVec Ideal S2816x1024 .bf16) :
    (truncf .bf16 (Host.dotGeneral dot_S8192x1024_S1024x2816_S8192x2816_1_0_0_1_n_n none (extf .f32 y0 bitsLt_bf16_f32) (transpose S1024x2816 [1, 0] (extf .f32 y1 bitsLt_bf16_f32) transposes_S2816x1024_S1024x2816_1_0)) bitsLt_bf16_f32 : FVec Ideal S8192x2816 .bf16) = prod y0 y1 := by
  funext i
  rw [← dot_apply]
  generalize (Host.dotGeneral dot_S8192x1024_S1024x2816_S8192x2816_1_0_0_1_n_n none (extf .f32 y0 bitsLt_bf16_f32) (transpose S1024x2816 [1, 0] (extf .f32 y1 bitsLt_bf16_f32) transposes_S2816x1024_S1024x2816_1_0) : FVec Ideal S8192x2816 .f32) = P
  pointwise

/-- The gated unit's. -/
theorem res2_eq (y0 : FVec Ideal S8192x1024 .bf16) (y1 y2 : FVec Ideal S2816x1024 .bf16) :
    (truncf .bf16 (mulf (mulf (Host.dotGeneral dot_S8192x1024_S1024x2816_S8192x2816_1_0_0_1_n_n none (extf .f32 y0 bitsLt_bf16_f32) (transpose S1024x2816 [1, 0] (extf .f32 y1 bitsLt_bf16_f32) transposes_S2816x1024_S1024x2816_1_0)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none (extf .f32 y0 bitsLt_bf16_f32) (transpose S1024x2816 [1, 0] (extf .f32 y1 bitsLt_bf16_f32) transposes_S2816x1024_S1024x2816_1_0))))))) (Host.dotGeneral dot_S8192x1024_S1024x2816_S8192x2816_1_0_0_1_n_n none (extf .f32 y0 bitsLt_bf16_f32) (transpose S1024x2816 [1, 0] (extf .f32 y2 bitsLt_bf16_f32) transposes_S2816x1024_S1024x2816_1_0))) bitsLt_bf16_f32 : FVec Ideal S8192x2816 .bf16) = units y0 y1 y2 := by
  funext i
  unfold units unit
  rw [← dot_apply, ← dot_apply]
  generalize (Host.dotGeneral dot_S8192x1024_S1024x2816_S8192x2816_1_0_0_1_n_n none (extf .f32 y0 bitsLt_bf16_f32) (transpose S1024x2816 [1, 0] (extf .f32 y1 bitsLt_bf16_f32) transposes_S2816x1024_S1024x2816_1_0) : FVec Ideal S8192x2816 .f32) = P
  generalize (Host.dotGeneral dot_S8192x1024_S1024x2816_S8192x2816_1_0_0_1_n_n none (extf .f32 y0 bitsLt_bf16_f32) (transpose S1024x2816 [1, 0] (extf .f32 y2 bitsLt_bf16_f32) transposes_S2816x1024_S1024x2816_1_0) : FVec Ideal S8192x2816 .f32) = Q
  unfold lgs
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = prod (m ((c.tc : Thread nD τ).loc main_arg0)) (m ((c.tc : Thread nD τ).loc main_arg1))
      ∧ r.2.mem ((c.tc : Thread nD τ).loc main_v8) = prod (m ((c.tc : Thread nD τ).loc main_arg0)) (m ((c.tc : Thread nD τ).loc main_arg2))
      ∧ r.2.mem ((c.tc : Thread nD τ).loc main_v11) = units (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (res0_eq _ _), (h c).2.1.trans (res0_eq _ _), (h c).2.2.1.trans (res2_eq _ _ _), (h c).2.2.2⟩)
    (Cert.Reference5Ideal.Value.run m ρ)

end Cert.Ffn.In.Ref

end
-- ==== Proof.FfnDown.lean ====
/- The product down of the gated unit: the kernel's result, entry by entry, and the reference's. -/
module

public import proofs.«01_k».proof.Proof.Parts
public import proofs.«01_k».proof.Proof.FfnBase
public import Idealize.ShloMosaic.Lib.Pointwise
public import Idealize.ShloMosaic.Lib.IdealHost

@[expose] public section

noncomputable section

namespace Cert.Ffn.Down

open Idealize.ShloMosaic Idealize.ShloMosaic.TcCoe Idealize.SL.Sem
open Idealize.ShloMosaic.Pipeline (Dat)
open Cert.Kernel6Ideal Cert.Kernel6Ideal.Gen

/-- A block's product at an entry. -/
def blkProd (v0 : FVec Ideal S512x1408 .bf16) (v1 : FVec Ideal S1408x1024 .bf16) (j : S512x1024.Idx) : EReal :=
  ∑ k : Fin 1408, v0 (ix2 (j 0) k) * v1 (ix2 k (j 1))

theorem pay1_apply (v0 : FVec Ideal S512x1408 .bf16) (v1 : FVec Ideal S1408x1024 .bf16) (j : S512x1024.Idx) :
    (k0_pay1 v0 v1 : FVec Ideal S512x1024 .f32) j = blkProd v0 v1 j := by
  unfold k0_pay1 blkProd
  pointwise

theorem pay2_apply (v0 : FVec Ideal S512x1408 .bf16) (v1 : FVec Ideal S1408x1024 .bf16) (j : S512x1024.Idx) :
    (k0_pay2 v0 v1 : FVec Ideal S512x1024 .f32) j = blkProd v0 v1 j := by
  unfold k0_pay2
  rw [shapeCast_self]
  exact pay1_apply v0 v1 j

theorem pay3_apply (v0 : FVec Ideal S512x1408 .bf16) (v1 : FVec Ideal S1408x1024 .bf16) (x : FVec Ideal S512x1024 .f32) (j : S512x1024.Idx) :
    (k0_pay3 v0 v1 x : FVec Ideal S512x1024 .f32) j = x j + blkProd v0 v1 j := by
  unfold k0_pay3
  rw [shapeCast_self, ← pay1_apply]
  rfl

theorem hz : (![0, 0] : Fin 2 → Nat) = fun _ => 0 := by decide

/-- A first point leaves the first product in the scratch. -/
theorem sout_A {F : FTy → Type} [FloatOps F] (c : Dev nD) (i : grid0.Coords) (a3 : Memref sig .tc .vmem S512x1408 .bf16) (h3 : a3.IsWhole)
    (a4 : Memref sig .tc .vmem S1408x1024 .bf16) (h4 : a4.IsWhole) (a5 : Memref sig .tc .vmem S512x1024 .f32) (h5 : a5.IsWhole)
    (a6 : Memref sig .tc .vmem S512x1024 .f32) (h6 : a6.IsWhole) (hc0 : cond0_0 i) (hc1 : ¬cond0_1 i) (hc2 : ¬cond0_2 i)
    (x0 : Vec F S512x1408 .bf16) (x1 : Vec F S1408x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S512x1408) hz, View.ld_unit_zero (S := S1408x1024) hz]

/-- A last one adds its own and leaves the sum in the result's block. -/
theorem out_B {F : FTy → Type} [FloatOps F] (c : Dev nD) (i : grid0.Coords) (a3 : Memref sig .tc .vmem S512x1408 .bf16) (h3 : a3.IsWhole)
    (a4 : Memref sig .tc .vmem S1408x1024 .bf16) (h4 : a4.IsWhole) (a5 : Memref sig .tc .vmem S512x1024 .f32) (h5 : a5.IsWhole)
    (a6 : Memref sig .tc .vmem S512x1024 .f32) (h6 : a6.IsWhole) (hc0 : ¬cond0_0 i) (hc1 : cond0_1 i) (hc2 : cond0_2 i)
    (x0 : Vec F S512x1408 .bf16) (x1 : Vec F S1408x1024 .bf16) (x : Vec F S512x1024 .f32) :
    out0_B_2 c i a3 h3 a4 h4 a5 h5 a6 h6 hc0 hc1 hc2 x0 x1 x = k0_pay3 x0 x1 x := by
  unfold out0_B_2
  rw [View.read_writes_eq_canon _ _ _ (cover0_B_2 c i a3 h3 a4 h4 a5 h5 a6 h6 hc0 hc1 hc2 x0 x1 x)]
  unfold kernelRun0_B
  dsimp only
  sl_unfold_words
  rw [View.canon_unit_zero hz, View.readCov_unit_zero (S := S512x1024) _ hz]
  simp only [View.readAt_eq_ld, h3.read_unread, h4.read_unread, h6.read_unread, View.ld_unit_zero (S := S512x1408) hz, View.ld_unit_zero (S := S1408x1024) hz, View.ld_unit_zero (S := S512x1024) hz]

variable (m : (ℓ : Loc nD τ sig) → Buf (Elt Ideal) ℓ) (ρ : Dev nD → PrngReg)

/-- The arguments a device holds. -/
def a0 (c : Dev nD) : FVec Ideal S8192x2816 .bf16 := m ((c : Thread nD τ).loc main_arg0)
def a1 (c : Dev nD) : FVec Ideal S2816x1024 .bf16 := m ((c : Thread nD τ).loc main_arg1)

/-- The whole product. -/
def prod (x : FVec Ideal S8192x2816 .bf16) (w : FVec Ideal S2816x1024 .bf16) : FVec Ideal S8192x1024 .f32 :=
  fun i => ∑ k : Fin 2816, x (ix2 (i 0) k) * w (ix2 k (i 1))

theorem index0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = 0 :=
  (by decide +kernel : ∀ t : Fin grid0.N, win0_2.index t 0 = t.val / 2 ∧ win0_2.index t 1 = 0)

theorem lt_points (t : Fin cfg0.N) : t.val < 32 := lt_of_lt_of_eq t.isLt N_0

/-- A place of a point's block, in the array. -/
def place (t : Fin cfg0.N) (j : S512x1024.Idx) : S8192x1024.Idx :=
  ix2 ⟨512 * (t.val / 2) + (j 0).val, by have h := lt_points t; have h0 : (j 0).val < 512 := (j 0).isLt; omega⟩ (j 1)

theorem blk0 (c : Dev nD) (t : Fin cfg0.N) (s : ℕ) (hs : t.val % 2 = s) (j : S512x1024.Idx) (k : Fin 1408) (hk : 1408 * s + k.val < 2816) :
    (iblk m c 0 t : FVec Ideal S512x1408 .bf16) (ix2 (j 0) k) = a0 m c (ix2 (place t j 0) ⟨1408 * s + k.val, hk⟩) := by
  unfold iblk
  rw [View.read_apply]
  show V m c main_arg0 _ = m (c.tc.loc main_arg0) _
  unfold V
  congr 1
  funext a
  apply Fin.ext
  match a with
  | ⟨0, _⟩ => show win0_0.index t 0 * 512 + 1 * (j 0).val = 512 * (t.val / 2) + (j 0).val; rw [(index0 t).1]; omega
  | ⟨1, _⟩ => show win0_0.index t 1 * 1408 + 1 * k.val = 1408 * s + k.val; rw [(index0 t).2]; omega

theorem blk1 (c : Dev nD) (t : Fin cfg0.N) (s : ℕ) (hs : t.val % 2 = s) (j : S512x1024.Idx) (k : Fin 1408) (hk : 1408 * s + k.val < 2816) :
    (iblk m c 1 t : FVec Ideal S1408x1024 .bf16) (ix2 k (j 1)) = a1 m c (ix2 ⟨1408 * s + k.val, hk⟩ (place t j 1)) := by
  unfold iblk
  rw [View.read_apply]
  show V m c main_arg1 _ = m (c.tc.loc main_arg1) _
  unfold V
  congr 1
  funext a
  apply Fin.ext
  match a with
  | ⟨0, _⟩ => show win0_1.index t 0 * 1408 + 1 * k.val = 1408 * s + k.val; rw [(index1 t).1]; omega
  | ⟨1, _⟩ => show win0_1.index t 1 * 1024 + 1 * (j 1).val = (j 1).val; rw [(index1 t).2]; omega

/-- A point's product is one half of the whole one. -/
theorem half_eq (c : Dev nD) (t : Fin cfg0.N) (s : ℕ) (hs : t.val % 2 = s) (hs2 : s < 2) (j : S512x1024.Idx) :
    blkProd (iblk m c 0 t) (iblk m c 1 t) j = ∑ k : Fin 1408, a0 m c (ix2 (place t j 0) ⟨1408 * s + k.val, by omega⟩) * a1 m c (ix2 ⟨1408 * s + k.val, by omega⟩ (place t j 1)) :=
  Finset.sum_congr rfl fun k _ => by rw [blk0 m c t s hs j k (by omega), blk1 m c t s hs j k (by omega)]

/-- What an odd point leaves. -/
theorem value_B (c : Dev nD) (t : Fin cfg0.N) (ht : t.val % 2 = 1) (j : S512x1024.Idx) :
    (outsAt0 m c t.val t.isLt).1 j = prod (a0 m c) (a1 m c) (place t j) := by
  have hp : t.val - 1 < cfg0.N := Nat.lt_of_le_of_lt (Nat.sub_le _ _) t.isLt
  have e : outsAt0 m c (t.val - 1) hp = _ := outsAt0_A m c ⟨t.val - 1, hp⟩ (by dsimp only; omega) (by dsimp only; omega) (by dsimp only; omega)
  rw [outsAt0_B m c t (by omega) ht ht, e]
  dsimp only
  rw [out_B, sout_A, pay3_apply, pay2_apply, half_eq m c t 1 ht (by omega), half_eq m c ⟨t.val - 1, hp⟩ 0 (by dsimp only; omega) (by omega)]
  have hq : place ⟨t.val - 1, hp⟩ j = place t j := by
    unfold place
    congr 1
    apply Fin.ext
    show 512 * ((t.val - 1) / 2) + (j 0).val = 512 * (t.val / 2) + (j 0).val
    omega
  rw [hq]
  exact (sum_two (M := EReal) 1408 2816 rfl fun k => a0 m c (ix2 (place t j 0) k) * a1 m c (ix2 k (place t j 1))).symm

theorem flushed2 (c : Dev nD) (t : Fin cfg0.N) (hf : (cfg0.win 2).flush t = true) :
    (dats m 0 c).flushed 2 t = ((cfg0.win 2).blk t).view.read (Elt Ideal) (prod (a0 m c) (a1 m c)) := by
  rw [Cert.Kernel6Ideal.Value.flushed2]
  funext y
  rw [View.read_apply]
  have hp : ((cfg0.win 2).blk t).view.emb y = place t y := by
    funext a
    apply Fin.ext
    match a with
    | ⟨0, _⟩ => show win0_2.index t 0 * 512 + 1 * (y 0).val = 512 * (t.val / 2) + (y 0).val; rw [(index2 t).1]; omega
    | ⟨1, _⟩ => show win0_2.index t 1 * 1024 + 1 * (y 1).val = (y 1).val; rw [(index2 t).2]; omega
  rw [hp]
  exact value_B m c t ((flush0_2 t).mp hf) y

/-- The point whose block holds an entry. -/
def pt (i : S8192x1024.Idx) : Fin grid0.N :=
  ⟨2 * ((i 0).val / 512) + 1, lt_of_lt_of_eq (by
    have h0 : (i 0).val < 8192 := (i 0).isLt
    omega) N_0.symm⟩

theorem cover2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  refine ⟨pt i, (flush0_2 (pt i)).mpr (show (2 * ((i 0).val / 512) + 1) % 2 = 1 by omega), ?_⟩
  show i ∈ ((View.whole main_v0).slice (win0_2.rect (pt i))).set
  rw [View.set_slice_whole, Rect.mem_set_unit]
  have e0 : win0_2.index (pt i) 0 = (2 * ((i 0).val / 512) + 1) / 2 := (index2 (pt i)).1
  have e1 : win0_2.index (pt i) 1 = 0 := (index2 (pt i)).2
  intro a
  match a with
  | ⟨0, _⟩ => show win0_2.index (pt i) 0 * 512 ≤ (i 0).val ∧ (i 0).val < win0_2.index (pt i) 0 * 512 + 512; rw [e0]; omega
  | ⟨1, _⟩ => show win0_2.index (pt i) 1 * 1024 ≤ (i 1).val ∧ (i 1).val < win0_2.index (pt i) 1 * 1024 + 1024; rw [e1]; omega

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed2 m c t hf) cover2), (h c).2⟩)
    (Cert.Kernel6Ideal.Value.run_blocks m ρ)

end Cert.Ffn.Down

namespace Cert.Ffn.Down.Ref

open Idealize.ShloMosaic Idealize.ShloMosaic.TcCoe Idealize.SL.Sem
open Cert.Reference6Ideal Cert.Reference6Ideal.Gen

/-- The reference's result. -/
theorem res_eq (y0 : FVec Ideal S8192x2816 .bf16) (y1 : FVec Ideal S2816x1024 .bf16) :
    (Host.dotGeneral dot_S8192x2816_S2816x1024_S8192x1024_1_0_0_1_n_n none (extf .f32 y0 bitsLt_bf16_f32) (extf .f32 y1 bitsLt_bf16_f32) : FVec Ideal S8192x1024 .f32) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩)
    (Cert.Reference6Ideal.Value.run m ρ)

end Cert.Ffn.Down.Ref

end
-- ==== Proof.MixBase.lean ====
/- Products of matrices over the extended reals, read entry by entry: the mixer's. -/
module

public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
-- ==== Proof.Proj.lean ====
/- The mixer's projections: the kernel's three results, entry by entry, and the reference's. -/
module

public import proofs.«01_k».proof.Proof.MixBase
public import Idealize.ShloMosaic.Lib.Pointwise
public import Idealize.ShloMosaic.Lib.IdealHost

@[expose] public section

noncomputable section

namespace Cert.Ffn.ProjSb

open Idealize.ShloMosaic Idealize.ShloMosaic.TcCoe Idealize.SL.Sem
open Idealize.ShloMosaic.Pipeline (Dat)
open Cert.Kernel7Ideal Cert.Kernel7Ideal.Gen

/-- A block's product at an entry. -/
theorem pay_apply (v0 : FVec Ideal S512x1024 .bf16) (v1 : FVec Ideal S768x1024 .bf16) (j : S512x768.Idx) :
    (k0_pay1 v0 v1 : FVec Ideal S512x768 .bf16) j = ∑ k : Fin 1024, v0 (ix2 (j 0) k) * v1 (ix2 (j 1) k) := by
  unfold k0_pay1
  pointwise

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S1536x1024 .bf16 := m ((c : Thread nD τ).loc main_arg1)

/-- The whole product. -/
def prod (x : FVec Ideal S8192x1024 .bf16) (w : FVec Ideal S1536x1024 .bf16) : FVec Ideal S8192x1536 .bf16 :=
  fun i => ∑ k : Fin 1024, x (ix2 (i 0) k) * w (ix2 (i 1) k)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 ∧ win0_2.flush t = true :=
  (by decide +kernel : ∀ t : Fin grid0.N, win0_2.index t 0 = t.val / 2 ∧ win0_2.index t 1 = t.val % 2 ∧ win0_2.flush t = true)

/-- A block of the rows, and one of the weight, at an entry. -/
theorem blk0 (c : Dev nD) (t : Fin cfg0.N) (p : Fin 512) (k : Fin 1024) (q : Fin 8192) (hq : q.val = 512 * (t.val / 2) + p.val) :
    (iblk m c 0 t : FVec Ideal S512x1024 .bf16) (ix2 p k) = a0 m c (ix2 q k) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index0 t).1]; omega
  | ⟨1, _⟩ => show win0_0.index t 1 * 1024 + 1 * k.val = k.val; rw [(index0 t).2]; omega

theorem blk1 (c : Dev nD) (t : Fin cfg0.N) (p : Fin 768) (k : Fin 1024) (q : Fin 1536) (hq : q.val = 768 * (t.val % 2) + p.val) :
    (iblk m c 1 t : FVec Ideal S768x1024 .bf16) (ix2 p k) = a1 m c (ix2 q k) := by
  unfold iblk
  rw [View.read_apply]
  show V m c main_arg1 _ = m (c.tc.loc main_arg1) _
  unfold V
  congr 1
  funext a
  apply Fin.ext
  match a with
  | ⟨0, _⟩ => show win0_1.index t 0 * 768 + 1 * p.val = q.val; rw [(index1 t).1]; omega
  | ⟨1, _⟩ => show win0_1.index t 1 * 1024 + 1 * k.val = k.val; rw [(index1 t).2]; omega

theorem hz : (![0, 0] : Fin 2 → Nat) = fun _ => 0 := by decide

/-- A point writes its block of the product. -/
theorem flushed2 (c : Dev nD) (t : Fin cfg0.N) :
    (dats m 0 c).flushed 2 t = ((cfg0.win 2).blk t).view.read (Elt Ideal) (prod (a0 m c) (a1 m c)) := by
  rw [Cert.Kernel7Ideal.Value.flushed2]
  funext y
  rw [View.read_apply]
  show (out0_2 (iblk m c 0 t) (iblk m c 1 t) : FVec Ideal S512x768 .bf16) y = _
  unfold out0_2
  rw [View.canon_unit_zero hz]
  simp only [View.ld_unit_zero (S := S512x1024) hz, View.ld_unit_zero (S := S768x1024) hz]
  refine (pay_apply _ _ y).trans (Finset.sum_congr rfl fun k _ => congrArg₂ (fun a b : EReal => a * b) (blk0 m c t _ k _ ?_) (blk1 m c t _ k _ ?_))
  · show win0_2.index t 0 * 512 + 1 * (y 0).val = _
    rw [(index2 t).1]
    omega
  · show win0_2.index t 1 * 768 + 1 * (y 1).val = _
    rw [(index2 t).2.1]
    omega

/-- Every entry is in some point's block. -/
theorem cover2 (i : S8192x1536.Idx) : ∃ t : Fin cfg0.N, (cfg0.win 2).flush t = true ∧ i ∈ ((cfg0.win 2).blk t).view.set := by
  have h0 : (i 0).val < 8192 := (i 0).isLt
  have h1 : (i 1).val < 1536 := (i 1).isLt
  have hb : 2 * ((i 0).val / 512) + (i 1).val / 768 < grid0.N := lt_of_lt_of_eq (by omega) N_0.symm
  obtain ⟨e0, e1, hf⟩ := index2 ⟨_, hb⟩
  refine ⟨⟨_, hb⟩, hf, ?_⟩
  show i ∈ ((View.whole main_v0).slice (win0_2.rect ⟨_, hb⟩)).set
  rw [View.set_slice_whole, Rect.mem_set_unit]
  intro a
  match a with
  | ⟨0, _⟩ => show win0_2.index ⟨_, hb⟩ 0 * 512 ≤ (i 0).val ∧ (i 0).val < win0_2.index ⟨_, hb⟩ 0 * 512 + 512; rw [e0]; dsimp only; omega
  | ⟨1, _⟩ => show win0_2.index ⟨_, hb⟩ 1 * 768 ≤ (i 1).val ∧ (i 1).val < win0_2.index ⟨_, hb⟩ 1 * 768 + 768; rw [e1]; dsimp only; omega

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed2 m c t) cover2), (h c).2⟩)
    (Cert.Kernel7Ideal.Value.run_blocks m ρ)

end Cert.Ffn.ProjSb

namespace Cert.Ffn.ProjSb.Ref

open Idealize.ShloMosaic Idealize.ShloMosaic.TcCoe Idealize.SL.Sem
open Cert.Reference7Ideal Cert.Reference7Ideal.Gen

/-- The reference's result. -/
theorem res_eq (y0 : FVec Ideal S8192x1024 .bf16) (y1 : FVec Ideal S1536x1024 .bf16) :
    (truncf .bf16 (Host.dotGeneral dot_S8192x1024_S1024x1536_S8192x1536_1_0_0_1_n_n none (extf .f32 y0 bitsLt_bf16_f32) (transpose S1024x1536 [1, 0] (extf .f32 y1 bitsLt_bf16_f32) transposes_S1536x1024_S1024x1536_1_0)) bitsLt_bf16_f32 : FVec Ideal S8192x1536 .bf16) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference7Ideal.Value.run m ρ)

end Cert.Ffn.ProjSb.Ref

namespace Cert.Ffn.ProjRw

open Idealize.ShloMosaic Idealize.ShloMosaic.TcCoe Idealize.SL.Sem
open Idealize.ShloMosaic.Pipeline (Dat)
open Cert.Kernel8Ideal Cert.Kernel8Ideal.Gen

/-- A block's product at an entry. -/
theorem pay_apply (v0 : FVec Ideal S512x1024 .bf16) (v1 : FVec Ideal S896x1024 .bf16) (j : S512x896.Idx) :
    (k0_pay1 v0 v1 : FVec Ideal S512x896 .f32) j = ∑ k : Fin 1024, v0 (ix2 (j 0) k) * v1 (ix2 (j 1) k) := by
  unfold k0_pay1
  pointwise

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S1792x1024 .bf16 := m ((c : Thread nD τ).loc main_arg1)

/-- The whole product. -/
def prod (x : FVec Ideal S8192x1024 .bf16) (w : FVec Ideal S1792x1024 .bf16) : FVec Ideal S8192x1792 .f32 :=
  fun i => ∑ k : Fin 1024, x (ix2 (i 0) k) * w (ix2 (i 1) k)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 ∧ win0_2.flush t = true :=
  (by decide +kernel : ∀ t : Fin grid0.N, win0_2.index t 0 = t.val / 2 ∧ win0_2.index t 1 = t.val % 2 ∧ win0_2.flush t = true)

/-- A block of the rows, and one of the weight, at an entry. -/
theorem blk0 (c : Dev nD) (t : Fin cfg0.N) (p : Fin 512) (k : Fin 1024) (q : Fin 8192) (hq : q.val = 512 * (t.val / 2) + p.val) :
    (iblk m c 0 t : FVec Ideal S512x1024 .bf16) (ix2 p k) = a0 m c (ix2 q k) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index0 t).1]; omega
  | ⟨1, _⟩ => show win0_0.index t 1 * 1024 + 1 * k.val = k.val; rw [(index0 t).2]; omega

theorem blk1 (c : Dev nD) (t : Fin cfg0.N) (p : Fin 896) (k : Fin 1024) (q : Fin 1792) (hq : q.val = 896 * (t.val % 2) + p.val) :
    (iblk m c 1 t : FVec Ideal S896x1024 .bf16) (ix2 p k) = a1 m c (ix2 q k) := by
  unfold iblk
  rw [View.read_apply]
  show V m c main_arg1 _ = m (c.tc.loc main_arg1) _
  unfold V
  congr 1
  funext a
  apply Fin.ext
  match a with
  | ⟨0, _⟩ => show win0_1.index t 0 * 896 + 1 * p.val = q.val; rw [(index1 t).1]; omega
  | ⟨1, _⟩ => show win0_1.index t 1 * 1024 + 1 * k.val = k.val; rw [(index1 t).2]; omega

theorem hz : (![0, 0] : Fin 2 → Nat) = fun _ => 0 := by decide

/-- A point writes its block of the product. -/
theorem flushed2 (c : Dev nD) (t : Fin cfg0.N) :
    (dats m 0 c).flushed 2 t = ((cfg0.win 2).blk t).view.read (Elt Ideal) (prod (a0 m c) (a1 m c)) := by
  rw [Cert.Kernel8Ideal.Value.flushed2]
  funext y
  rw [View.read_apply]
  show (out0_2 (iblk m c 0 t) (iblk m c 1 t) : FVec Ideal S512x896 .f32) y = _
  unfold out0_2
  rw [View.canon_unit_zero hz]
  simp only [View.ld_unit_zero (S := S512x1024) hz, View.ld_unit_zero (S := S896x1024) hz]
  refine (pay_apply _ _ y).trans (Finset.sum_congr rfl fun k _ => congrArg₂ (fun a b : EReal => a * b) (blk0 m c t _ k _ ?_) (blk1 m c t _ k _ ?_))
  · show win0_2.index t 0 * 512 + 1 * (y 0).val = _
    rw [(index2 t).1]
    omega
  · show win0_2.index t 1 * 896 + 1 * (y 1).val = _
    rw [(index2 t).2.1]
    omega

/-- Every entry is in some point's block. -/
theorem cover2 (i : S8192x1792.Idx) : ∃ t : Fin cfg0.N, (cfg0.win 2).flush t = true ∧ i ∈ ((cfg0.win 2).blk t).view.set := by
  have h0 : (i 0).val < 8192 := (i 0).isLt
  have h1 : (i 1).val < 1792 := (i 1).isLt
  have hb : 2 * ((i 0).val / 512) + (i 1).val / 896 < grid0.N := lt_of_lt_of_eq (by omega) N_0.symm
  obtain ⟨e0, e1, hf⟩ := index2 ⟨_, hb⟩
  refine ⟨⟨_, hb⟩, hf, ?_⟩
  show i ∈ ((View.whole main_v0).slice (win0_2.rect ⟨_, hb⟩)).set
  rw [View.set_slice_whole, Rect.mem_set_unit]
  intro a
  match a with
  | ⟨0, _⟩ => show win0_2.index ⟨_, hb⟩ 0 * 512 ≤ (i 0).val ∧ (i 0).val < win0_2.index ⟨_, hb⟩ 0 * 512 + 512; rw [e0]; dsimp only; omega
  | ⟨1, _⟩ => show win0_2.index ⟨_, hb⟩ 1 * 896 ≤ (i 1).val ∧ (i 1).val < win0_2.index ⟨_, hb⟩ 1 * 896 + 896; rw [e1]; dsimp only; omega

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed2 m c t) cover2), (h c).2⟩)
    (Cert.Kernel8Ideal.Value.run_blocks m ρ)

end Cert.Ffn.ProjRw

namespace Cert.Ffn.ProjRw.Ref

open Idealize.ShloMosaic Idealize.ShloMosaic.TcCoe Idealize.SL.Sem
open Cert.Reference8Ideal Cert.Reference8Ideal.Gen

/-- The reference's result. -/
theorem res_eq (y0 : FVec Ideal S8192x1024 .bf16) (y1 : FVec Ideal S1792x1024 .bf16) :
    (Host.dotGeneral dot_S8192x1024_S1024x1792_S8192x1792_1_0_0_1_n_n none (extf .f32 y0 bitsLt_bf16_f32) (transpose S1024x1792 [1, 0] (extf .f32 y1 bitsLt_bf16_f32) transposes_S1792x1024_S1024x1792_1_0) : FVec Ideal S8192x1792 .f32) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference8Ideal.Value.run m ρ)

end Cert.Ffn.ProjRw.Ref

namespace Cert.Ffn.ProjGate

open Idealize.ShloMosaic Idealize.ShloMosaic.TcCoe Idealize.SL.Sem
open Idealize.ShloMosaic.Pipeline (Dat)
open Cert.Kernel9Ideal Cert.Kernel9Ideal.Gen

/-- A block's product at an entry. -/
theorem pay_apply (v0 : FVec Ideal S512x1024 .bf16) (v1 : FVec Ideal S1024x1024 .bf16) (j : S512x1024.Idx) :
    (k0_pay1 v0 v1 : FVec Ideal S512x1024 .bf16) j = ∑ k : Fin 1024, v0 (ix2 (j 0) k) * v1 (ix2 (j 1) k) := by
  unfold k0_pay1
  pointwise

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S2048x1024 .bf16 := m ((c : Thread nD τ).loc main_arg1)

/-- The whole product. -/
def prod (x : FVec Ideal S8192x1024 .bf16) (w : FVec Ideal S2048x1024 .bf16) : FVec Ideal S8192x2048 .bf16 :=
  fun i => ∑ k : Fin 1024, x (ix2 (i 0) k) * w (ix2 (i 1) k)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 ∧ win0_2.flush t = true :=
  (by decide +kernel : ∀ t : Fin grid0.N, win0_2.index t 0 = t.val / 2 ∧ win0_2.index t 1 = t.val % 2 ∧ win0_2.flush t = true)

/-- A block of the rows, and one of the weight, at an entry. -/
theorem blk0 (c : Dev nD) (t : Fin cfg0.N) (p : Fin 512) (k : Fin 1024) (q : Fin 8192) (hq : q.val = 512 * (t.val / 2) + p.val) :
    (iblk m c 0 t : FVec Ideal S512x1024 .bf16) (ix2 p k) = a0 m c (ix2 q k) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index0 t).1]; omega
  | ⟨1, _⟩ => show win0_0.index t 1 * 1024 + 1 * k.val = k.val; rw [(index0 t).2]; omega

theorem blk1 (c : Dev nD) (t : Fin cfg0.N) (p : Fin 1024) (k : Fin 1024) (q : Fin 2048) (hq : q.val = 1024 * (t.val % 2) + p.val) :
    (iblk m c 1 t : FVec Ideal S1024x1024 .bf16) (ix2 p k) = a1 m c (ix2 q k) := by
  unfold iblk
  rw [View.read_apply]
  show V m c main_arg1 _ = m (c.tc.loc main_arg1) _
  unfold V
  congr 1
  funext a
  apply Fin.ext
  match a with
  | ⟨0, _⟩ => show win0_1.index t 0 * 1024 + 1 * p.val = q.val; rw [(index1 t).1]; omega
  | ⟨1, _⟩ => show win0_1.index t 1 * 1024 + 1 * k.val = k.val; rw [(index1 t).2]; omega

theorem hz : (![0, 0] : Fin 2 → Nat) = fun _ => 0 := by decide

/-- A point writes its block of the product. -/
theorem flushed2 (c : Dev nD) (t : Fin cfg0.N) :
    (dats m 0 c).flushed 2 t = ((cfg0.win 2).blk t).view.read (Elt Ideal) (prod (a0 m c) (a1 m c)) := by
  rw [Cert.Kernel9Ideal.Value.flushed2]
  funext y
  rw [View.read_apply]
  show (out0_2 (iblk m c 0 t) (iblk m c 1 t) : FVec Ideal S512x1024 .bf16) y = _
  unfold out0_2
  rw [View.canon_unit_zero hz]
  simp only [View.ld_unit_zero (S := S512x1024) hz, View.ld_unit_zero (S := S1024x1024) hz]
  refine (pay_apply _ _ y).trans (Finset.sum_congr rfl fun k _ => congrArg₂ (fun a b : EReal => a * b) (blk0 m c t _ k _ ?_) (blk1 m c t _ k _ ?_))
  · show win0_2.index t 0 * 512 + 1 * (y 0).val = _
    rw [(index2 t).1]
    omega
  · show win0_2.index t 1 * 1024 + 1 * (y 1).val = _
    rw [(index2 t).2.1]
    omega

/-- Every entry is in some point's block. -/
theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hb : 2 * ((i 0).val / 512) + (i 1).val / 1024 < grid0.N := lt_of_lt_of_eq (by omega) N_0.symm
  obtain ⟨e0, e1, hf⟩ := index2 ⟨_, hb⟩
  refine ⟨⟨_, hb⟩, hf, ?_⟩
  show i ∈ ((View.whole main_v0).slice (win0_2.rect ⟨_, hb⟩)).set
  rw [View.set_slice_whole, Rect.mem_set_unit]
  intro a
  match a with
  | ⟨0, _⟩ => show win0_2.index ⟨_, hb⟩ 0 * 512 ≤ (i 0).val ∧ (i 0).val < win0_2.index ⟨_, hb⟩ 0 * 512 + 512; rw [e0]; dsimp only; omega
  | ⟨1, _⟩ => show win0_2.index ⟨_, hb⟩ 1 * 1024 ≤ (i 1).val ∧ (i 1).val < win0_2.index ⟨_, hb⟩ 1 * 1024 + 1024; rw [e1]; dsimp only; omega

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed2 m c t) cover2), (h c).2⟩)
    (Cert.Kernel9Ideal.Value.run_blocks m ρ)

end Cert.Ffn.ProjGate

namespace Cert.Ffn.ProjGate.Ref

open Idealize.ShloMosaic Idealize.ShloMosaic.TcCoe Idealize.SL.Sem
open Cert.Reference9Ideal Cert.Reference9Ideal.Gen

/-- The reference's result. -/
theorem res_eq (y0 : FVec Ideal S8192x1024 .bf16) (y1 : FVec Ideal S2048x1024 .bf16) :
    (truncf .bf16 (Host.dotGeneral dot_S8192x1024_S1024x2048_S8192x2048_1_0_0_1_n_n none (extf .f32 y0 bitsLt_bf16_f32) (transpose S1024x2048 [1, 0] (extf .f32 y1 bitsLt_bf16_f32) transposes_S2048x1024_S1024x2048_1_0)) bitsLt_bf16_f32 : FVec Ideal S8192x2048 .bf16) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference9Ideal.Value.run m ρ)

end Cert.Ffn.ProjGate.Ref

end
-- ==== Proof.DhSb.lean ====
/- The gradient of the mixer's rows, the part of q, k and v: the kernel's result, entry by entry, and the reference's. -/
module

public import proofs.«01_k».proof.Proof.MixBase
public import Idealize.ShloMosaic.Lib.Pointwise
public import Idealize.ShloMosaic.Lib.IdealHost

@[expose] public section

noncomputable section

namespace Cert.Ffn.DhSb

open Idealize.ShloMosaic Idealize.ShloMosaic.TcCoe Idealize.SL.Sem
open Idealize.ShloMosaic.Pipeline (Dat)
open Cert.Kernel10Ideal Cert.Kernel10Ideal.Gen

/-- A block's product at an entry. -/
def blkProd (v0 : FVec Ideal S512x512 .bf16) (v1 : FVec Ideal S512x1024 .bf16) (j : S512x1024.Idx) : EReal :=
  ∑ k : Fin 512, v0 (ix2 (j 0) k) * v1 (ix2 k (j 1))

theorem pay_apply (v0 : FVec Ideal S512x512 .bf16) (v1 : FVec Ideal S512x1024 .bf16) (v3 : FVec Ideal S512x512 .bf16)
    (v4 : FVec Ideal S512x1024 .bf16) (v6 : FVec Ideal S512x512 .bf16) (v7 : FVec Ideal S512x1024 .bf16) (j : S512x1024.Idx) :
    (k0_pay1 v0 v1 v3 v4 v6 v7 : FVec Ideal S512x1024 .f32) j = blkProd v0 v1 j + blkProd v3 v4 j + blkProd v6 v7 j := by
  unfold k0_pay1 blkProd
  pointwise

variable (m : (ℓ : Loc nD τ sig) → Buf (Elt Ideal) ℓ) (ρ : Dev nD → PrngReg)

/-- The arguments a device holds. -/
def a0 (c : Dev nD) : FVec Ideal S8192x512 .bf16 := m ((c : Thread nD τ).loc main_arg0)
def a1 (c : Dev nD) : FVec Ideal S8192x512 .bf16 := m ((c : Thread nD τ).loc main_arg1)
def a2 (c : Dev nD) : FVec Ideal S8192x512 .bf16 := m ((c : Thread nD τ).loc main_arg2)
def a3 (c : Dev nD) : FVec Ideal S512x1024 .bf16 := m ((c : Thread nD τ).loc main_arg3)
def a4 (c : Dev nD) : FVec Ideal S512x1024 .bf16 := m ((c : Thread nD τ).loc main_arg4)
def a5 (c : Dev nD) : FVec Ideal S512x1024 .bf16 := m ((c : Thread nD τ).loc main_arg5)

/-- A whole product. -/
def prod (x : FVec Ideal S8192x512 .bf16) (w : FVec Ideal S512x1024 .bf16) : FVec Ideal S8192x1024 .f32 :=
  fun i => ∑ k : Fin 512, x (ix2 (i 0) k) * w (ix2 k (i 1))

/-- The three products' sum. -/
def res (x0 x1 x2 : FVec Ideal S8192x512 .bf16) (w0 w1 w2 : FVec Ideal S512x1024 .bf16) : FVec Ideal S8192x1024 .f32 :=
  fun i => prod x0 w0 i + prod x1 w1 i + prod x2 w2 i

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 ∧ win0_6.flush t = true :=
  (by decide +kernel : ∀ t : Fin grid0.N, win0_6.index t 0 = t.val ∧ win0_6.index t 1 = 0 ∧ win0_6.flush t = true)

theorem blk0 (c : Dev nD) (t : Fin cfg0.N) (p : Fin 512) (k : Fin 512) (q : Fin 8192) (hq : q.val = 512 * t.val + p.val) :
    (iblk m c 0 t : FVec Ideal S512x512 .bf16) (ix2 p k) = a0 m c (ix2 q k) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index0 t).1]; omega
  | ⟨1, _⟩ => show win0_0.index t 1 * 512 + 1 * k.val = k.val; rw [(index0 t).2]; omega

theorem blk1 (c : Dev nD) (t : Fin cfg0.N) (p : Fin 512) (k : Fin 512) (q : Fin 8192) (hq : q.val = 512 * t.val + p.val) :
    (iblk m c 1 t : FVec Ideal S512x512 .bf16) (ix2 p k) = a1 m c (ix2 q k) := by
  unfold iblk
  rw [View.read_apply]
  show V m c main_arg1 _ = m (c.tc.loc main_arg1) _
  unfold V
  congr 1
  funext a
  apply Fin.ext
  match a with
  | ⟨0, _⟩ => show win0_1.index t 0 * 512 + 1 * p.val = q.val; rw [(index1 t).1]; omega
  | ⟨1, _⟩ => show win0_1.index t 1 * 512 + 1 * k.val = k.val; rw [(index1 t).2]; omega

theorem blk2 (c : Dev nD) (t : Fin cfg0.N) (p : Fin 512) (k : Fin 512) (q : Fin 8192) (hq : q.val = 512 * t.val + p.val) :
    (iblk m c 2 t : FVec Ideal S512x512 .bf16) (ix2 p k) = a2 m c (ix2 q k) := by
  unfold iblk
  rw [View.read_apply]
  show V m c main_arg2 _ = m (c.tc.loc main_arg2) _
  unfold V
  congr 1
  funext a
  apply Fin.ext
  match a with
  | ⟨0, _⟩ => show win0_2.index t 0 * 512 + 1 * p.val = q.val; rw [(index2 t).1]; omega
  | ⟨1, _⟩ => show win0_2.index t 1 * 512 + 1 * k.val = k.val; rw [(index2 t).2]; omega

theorem blk3 (c : Dev nD) (t : Fin cfg0.N) : (iblk m c 3 t : FVec Ideal S512x1024 .bf16) = a3 m c := by
  unfold iblk
  funext j
  rw [View.read_apply]
  show V m c main_arg3 _ = m (c.tc.loc main_arg3) _
  unfold V
  congr 1
  funext a
  apply Fin.ext
  match a with
  | ⟨0, _⟩ => show win0_3.index t 0 * 512 + 1 * (j 0).val = (j 0).val; rw [(index3 t).1]; omega
  | ⟨1, _⟩ => show win0_3.index t 1 * 1024 + 1 * (j 1).val = (j 1).val; rw [(index3 t).2]; omega

theorem blk4 (c : Dev nD) (t : Fin cfg0.N) : (iblk m c 4 t : FVec Ideal S512x1024 .bf16) = a4 m c := by
  unfold iblk
  funext j
  rw [View.read_apply]
  show V m c main_arg4 _ = m (c.tc.loc main_arg4) _
  unfold V
  congr 1
  funext a
  apply Fin.ext
  match a with
  | ⟨0, _⟩ => show win0_4.index t 0 * 512 + 1 * (j 0).val = (j 0).val; rw [(index4 t).1]; omega
  | ⟨1, _⟩ => show win0_4.index t 1 * 1024 + 1 * (j 1).val = (j 1).val; rw [(index4 t).2]; omega

theorem blk5 (c : Dev nD) (t : Fin cfg0.N) : (iblk m c 5 t : FVec Ideal S512x1024 .bf16) = a5 m c := by
  unfold iblk
  funext j
  rw [View.read_apply]
  show V m c main_arg5 _ = m (c.tc.loc main_arg5) _
  unfold V
  congr 1
  funext a
  apply Fin.ext
  match a with
  | ⟨0, _⟩ => show win0_5.index t 0 * 512 + 1 * (j 0).val = (j 0).val; rw [(index5 t).1]; omega
  | ⟨1, _⟩ => show win0_5.index t 1 * 1024 + 1 * (j 1).val = (j 1).val; rw [(index5 t).2]; omega

theorem hz : (![0, 0] : Fin 2 → Nat) = fun _ => 0 := by decide

/-- A point writes its block of the result. -/
theorem flushed6 (c : Dev nD) (t : Fin cfg0.N) :
    (dats m 0 c).flushed 6 t = ((cfg0.win 6).blk t).view.read (Elt Ideal) (res (a0 m c) (a1 m c) (a2 m c) (a3 m c) (a4 m c) (a5 m c)) := by
  rw [Cert.Kernel10Ideal.Value.flushed6]
  funext y
  rw [View.read_apply]
  show (out0_6 (iblk m c 0 t) (iblk m c 1 t) (iblk m c 2 t) (iblk m c 3 t) (iblk m c 4 t) (iblk m c 5 t) : FVec Ideal S512x1024 .f32) y = _
  unfold out0_6
  rw [View.canon_unit_zero hz]
  simp only [View.ld_unit_zero (S := S512x512) hz, View.ld_unit_zero (S := S512x1024) hz]
  have e0 : (((cfg0.win 6).blk t).view.emb y 0).val = 512 * t.val + (y 0).val := by
    show win0_6.index t 0 * 512 + 1 * (y 0).val = _
    rw [(index6 t).1]
    omega
  have e1 : ((cfg0.win 6).blk t).view.emb y 1 = y 1 := Fin.ext (by
    show win0_6.index t 1 * 1024 + 1 * (y 1).val = _
    rw [(index6 t).2.1]
    omega)
  refine (pay_apply _ _ _ _ _ _ y).trans ?_
  rw [blk3, blk4, blk5]
  refine congrArg₂ (· + ·) (congrArg₂ (· + ·) ?_ ?_) ?_ <;>
    refine Finset.sum_congr rfl fun k _ => congrArg₂ (· * ·) ?_ (by rw [e1])
  · exact blk0 m c t _ k _ e0
  · exact blk1 m c t _ k _ e0
  · exact blk2 m c t _ k _ e0

/-- Every entry is in some point's block. -/
theorem cover6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hb : (i 0).val / 512 < grid0.N := lt_of_lt_of_eq (by omega) N_0.symm
  obtain ⟨e0, e1, hf⟩ := index6 ⟨_, hb⟩
  refine ⟨⟨_, hb⟩, hf, ?_⟩
  show i ∈ ((View.whole main_v0).slice (win0_6.rect ⟨_, hb⟩)).set
  rw [View.set_slice_whole, Rect.mem_set_unit]
  intro a
  match a with
  | ⟨0, _⟩ => show win0_6.index ⟨_, hb⟩ 0 * 512 ≤ (i 0).val ∧ (i 0).val < win0_6.index ⟨_, hb⟩ 0 * 512 + 512; rw [e0]; dsimp only; omega
  | ⟨1, _⟩ => show win0_6.index ⟨_, hb⟩ 1 * 1024 ≤ (i 1).val ∧ (i 1).val < win0_6.index ⟨_, hb⟩ 1 * 1024 + 1024; rw [e1]; omega

/-- The kernel's run, read. -/
theorem run : θ_run defs (onTc (τ := τ) (main (F := Ideal))) ⟨m, fun _ => 0, ρ⟩ fun r => ∀ c : Dev nD,
      r.2.mem ((c : Thread nD τ).loc main_v0) = res (a0 m c) (a1 m c) (a2 m c) (a3 m c) (a4 m c) (a5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((dats m 0 c).arrAt_eq_of_cover 6 _ (fun t _ => flushed6 m c t) cover6), (h c).2⟩)
    (Cert.Kernel10Ideal.Value.run_blocks m ρ)

end Cert.Ffn.DhSb

namespace Cert.Ffn.DhSb.Ref

open Idealize.ShloMosaic Idealize.ShloMosaic.TcCoe Idealize.SL.Sem
open Cert.Reference10Ideal Cert.Reference10Ideal.Gen

/-- A product of the reference's at an entry. -/
theorem dot_apply (x : FVec Ideal S8192x512 .bf16) (w : FVec Ideal S512x1024 .bf16) :
    ((Host.dotGeneral dot_S8192x512_S1024x512_S8192x1024_1_1_0_0_n_n none (extf .f32 x bitsLt_bf16_f32) (transpose S1024x512 [1, 0] (extf .f32 w bitsLt_bf16_f32) transposes_S512x1024_S1024x512_1_0)) : FVec Ideal S8192x1024 .f32) = prod x w := by
  funext i
  unfold prod
  pointwise

/-- The reference's result. -/
theorem res_eq (x0 x1 x2 : FVec Ideal S8192x512 .bf16) (w0 w1 w2 : FVec Ideal S512x1024 .bf16) :
    (addf (addf (Host.dotGeneral dot_S8192x512_S1024x512_S8192x1024_1_1_0_0_n_n none (extf .f32 x2 bitsLt_bf16_f32) (transpose S1024x512 [1, 0] (extf .f32 w2 bitsLt_bf16_f32) transposes_S512x1024_S1024x512_1_0)) (Host.dotGeneral dot_S8192x512_S1024x512_S8192x1024_1_1_0_0_n_n none (extf .f32 x1 bitsLt_bf16_f32) (transpose S1024x512 [1, 0] (extf .f32 w1 bitsLt_bf16_f32) transposes_S512x1024_S1024x512_1_0))) (Host.dotGeneral dot_S8192x512_S1024x512_S8192x1024_1_1_0_0_n_n none (extf .f32 x0 bitsLt_bf16_f32) (transpose S1024x512 [1, 0] (extf .f32 w0 bitsLt_bf16_f32) transposes_S512x1024_S1024x512_1_0)) : FVec Ideal S8192x1024 .f32) = res x0 x1 x2 w0 w1 w2 := by
  rw [dot_apply, dot_apply, dot_apply]
  funext i
  show prod x2 w2 i + prod x1 w1 i + prod x0 w0 i = prod x0 w0 i + prod x1 w1 i + prod x2 w2 i
  rw [add_comm (prod x2 w2 i), add_comm _ (prod x0 w0 i), ← add_assoc]

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (res_eq _ _ _ _ _ _ ), (h c).2⟩) (Cert.Reference10Ideal.Value.run m ρ)

end Cert.Ffn.DhSb.Ref

end
-- ==== Proof.DhRw.lean ====
/- The gradient of the mixer's rows, the part of the recurrence: the kernel's result, entry by entry, and the reference's. -/
module

public import proofs.«01_k».proof.Proof.Parts
public import proofs.«01_k».proof.Proof.MixBase
public import Idealize.ShloMosaic.Lib.Pointwise
public import Idealize.ShloMosaic.Lib.IdealHost

@[expose] public section

noncomputable section

namespace Cert.Ffn.DhRw

open Idealize.ShloMosaic Idealize.ShloMosaic.TcCoe Idealize.SL.Sem
open Idealize.ShloMosaic.Pipeline (Dat)
open Cert.Kernel11Ideal Cert.Kernel11Ideal.Gen

/-- A block's product at an entry. -/
def blkProd (v0 : FVec Ideal S512x896 .bf16) (v1 : FVec Ideal S896x1024 .bf16) (j : S512x1024.Idx) : EReal :=
  ∑ k : Fin 896, v0 (ix2 (j 0) k) * v1 (ix2 k (j 1))

theorem pay1_apply (v0 : FVec Ideal S512x896 .bf16) (v1 : FVec Ideal S896x1024 .bf16) (j : S512x1024.Idx) :
    (k0_pay1 v0 v1 : FVec Ideal S512x1024 .f32) j = blkProd v0 v1 j := by
  unfold k0_pay1 blkProd
  pointwise

theorem pay2_apply (v0 : FVec Ideal S512x896 .bf16) (v1 : FVec Ideal S896x1024 .bf16) (x : FVec Ideal S512x1024 .f32) (j : S512x1024.Idx) :
    (k0_pay2 v0 v1 x : FVec Ideal S512x1024 .f32) j = blkProd v0 v1 j + x j := by
  unfold k0_pay2
  rw [shapeCast_self, ← pay1_apply]
  rfl

theorem pay3_apply (v0 : FVec Ideal S512x896 .bf16) (v1 : FVec Ideal S896x1024 .bf16) (x : FVec Ideal S512x1024 .f32) (j : S512x1024.Idx) :
    (k0_pay3 v0 v1 x : FVec Ideal S512x1024 .f32) j = x j + blkProd v0 v1 j := by
  unfold k0_pay3
  rw [shapeCast_self, ← pay1_apply]
  rfl

theorem hz : (![0, 0] : Fin 2 → Nat) = fun _ => 0 := by decide

/-- A first point leaves the first product and the array's block in the scratch, a last one adds its own product and leaves
    the sum in the result's block. -/
theorem step_A {F : FTy → Type} [FloatOps F] (m : (ℓ : Loc nD τ sig) → Buf (Elt F) ℓ) (c : Dev nD) (t : Fin cfg0.N)
    (h0 : t.val % 2 = 0) (h1 : ¬t.val % 2 = 1) (h2 : ¬t.val % 2 = 1) :
    (outsAt0 m c t.val t.isLt).2 = k0_pay2 (iblk m c 0 t) (iblk m c 1 t) (iblk m c 2 t) := by
  rw [outsAt0_A m c t h0 h1 h2]
  dsimp only
  unfold sout0_A_0
  rw [View.read_writes_eq_canon _ _ _ (scover0_A_0 _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x896) hz, View.ld_unit_zero (S := S896x1024) hz, View.ld_unit_zero (S := S512x1024) hz]

theorem step_B {F : FTy → Type} [FloatOps F] (m : (ℓ : Loc nD τ sig) → Buf (Elt F) ℓ) (c : Dev nD) (t : Fin cfg0.N)
    (h0 : ¬t.val % 2 = 0) (h1 : t.val % 2 = 1) (h2 : t.val % 2 = 1) :
    (outsAt0 m c t.val t.isLt).1 = k0_pay3 (iblk m c 0 t) (iblk m c 1 t) (outsAt0 m c (t.val - 1) (Nat.lt_of_le_of_lt (Nat.sub_le _ _) t.isLt)).2 := by
  rw [outsAt0_B m c t h0 h1 h2]
  dsimp only
  unfold out0_B_3
  rw [View.read_writes_eq_canon _ _ _ (cover0_B_3 _ _ _ _ _ _ _ _ _ _ _ _ _ _ _ _ _ _ _)]
  unfold kernelRun0_B
  dsimp only
  sl_unfold_words
  rw [View.canon_unit_zero hz, View.readCov_unit_zero (S := S512x1024) _ hz]
  simp only [View.readAt_eq_ld, (hs0_0 t).read_unread, (hs0_1 t).read_unread, (Memref.isWhole_whole _).read_unread, View.ld_unit_zero (S := S512x896) hz, View.ld_unit_zero (S := S896x1024) hz, View.ld_unit_zero (S := S512x1024) hz]

variable (m : (ℓ : Loc nD τ sig) → Buf (Elt Ideal) ℓ) (ρ : Dev nD → PrngReg)

/-- The arguments a device holds. -/
def a0 (c : Dev nD) : FVec Ideal S8192x1792 .bf16 := m ((c : Thread nD τ).loc main_arg0)
def a1 (c : Dev nD) : FVec Ideal S1792x1024 .bf16 := m ((c : Thread nD τ).loc main_arg1)
def a2 (c : Dev nD) : FVec Ideal S8192x1024 .f32 := m ((c : Thread nD τ).loc main_arg2)

/-- A whole product. -/
def prod (x : FVec Ideal S8192x1792 .bf16) (w : FVec Ideal S1792x1024 .bf16) : FVec Ideal S8192x1024 .f32 :=
  fun i => ∑ k : Fin 1792, x (ix2 (i 0) k) * w (ix2 k (i 1))

/-- The product added to an array. -/
def res (x : FVec Ideal S8192x1792 .bf16) (w : FVec Ideal S1792x1024 .bf16) (d : FVec Ideal S8192x1024 .f32) : FVec Ideal S8192x1024 .f32 :=
  fun i => prod x w i + d i

theorem index0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = 0 :=
  (by decide +kernel : ∀ t : Fin grid0.N, win0_2.index t 0 = t.val / 2 ∧ win0_2.index t 1 = 0)
theorem index3 : ∀ t : Fin cfg0.N, win0_3.index t 0 = t.val / 2 ∧ win0_3.index t 1 = 0 :=
  (by decide +kernel : ∀ t : Fin grid0.N, win0_3.index t 0 = t.val / 2 ∧ win0_3.index t 1 = 0)

/-- A block of each argument, at an entry. -/
theorem blk0 (c : Dev nD) (t : Fin cfg0.N) (p : Fin 512) (k : Fin 896) (q : Fin 8192) (r : Fin 1792)
    (hq : q.val = 512 * (t.val / 2) + p.val) (hr : r.val = 896 * (t.val % 2) + k.val) :
    (iblk m c 0 t : FVec Ideal S512x896 .bf16) (ix2 p k) = a0 m c (ix2 q r) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index0 t).1]; omega
  | ⟨1, _⟩ => show win0_0.index t 1 * 896 + 1 * k.val = r.val; rw [(index0 t).2]; omega

theorem blk1 (c : Dev nD) (t : Fin cfg0.N) (k : Fin 896) (p : Fin 1024) (r : Fin 1792) (hr : r.val = 896 * (t.val % 2) + k.val) :
    (iblk m c 1 t : FVec Ideal S896x1024 .bf16) (ix2 k p) = a1 m c (ix2 r p) := by
  unfold iblk
  rw [View.read_apply]
  show V m c main_arg1 _ = m (c.tc.loc main_arg1) _
  unfold V
  congr 1
  funext a
  apply Fin.ext
  match a with
  | ⟨0, _⟩ => show win0_1.index t 0 * 896 + 1 * k.val = r.val; rw [(index1 t).1]; omega
  | ⟨1, _⟩ => show win0_1.index t 1 * 1024 + 1 * p.val = p.val; rw [(index1 t).2]; omega

theorem blk2 (c : Dev nD) (t : Fin cfg0.N) (j : S512x1024.Idx) (i : S8192x1024.Idx)
    (h0 : (i 0).val = 512 * (t.val / 2) + (j 0).val) (h1 : (i 1).val = (j 1).val) :
    (iblk m c 2 t : FVec Ideal S512x1024 .f32) j = a2 m c i := by
  unfold iblk
  rw [View.read_apply]
  show V m c main_arg2 _ = m (c.tc.loc main_arg2) _
  unfold V
  congr 1
  funext a
  apply Fin.ext
  match a with
  | ⟨0, _⟩ => show win0_2.index t 0 * 512 + 1 * (j 0).val = (i 0).val; rw [(index2 t).1]; omega
  | ⟨1, _⟩ => show win0_2.index t 1 * 1024 + 1 * (j 1).val = (i 1).val; rw [(index2 t).2]; omega

/-- A point's product is one half of the whole one. -/
theorem half_eq (c : Dev nD) (t : Fin cfg0.N) (s : ℕ) (hs : t.val % 2 = s) (hs2 : s < 2) (j : S512x1024.Idx) (i : S8192x1024.Idx)
    (h0 : (i 0).val = 512 * (t.val / 2) + (j 0).val) (h1 : i 1 = j 1) :
    blkProd (iblk m c 0 t) (iblk m c 1 t) j = ∑ k : Fin 896, a0 m c (ix2 (i 0) ⟨896 * s + k.val, by omega⟩) * a1 m c (ix2 ⟨896 * s + k.val, by omega⟩ (i 1)) := by
  subst hs
  refine Finset.sum_congr rfl fun k _ => congrArg₂ (· * ·) (blk0 m c t _ k _ _ h0 rfl) ?_
  rw [h1]
  exact blk1 m c t k _ _ rfl

/-- What an odd point leaves. -/
theorem value_B (c : Dev nD) (t : Fin cfg0.N) (ht : t.val % 2 = 1) (j : S512x1024.Idx) (i : S8192x1024.Idx)
    (h0 : (i 0).val = 512 * (t.val / 2) + (j 0).val) (h1 : i 1 = j 1) :
    (outsAt0 m c t.val t.isLt).1 j = res (a0 m c) (a1 m c) (a2 m c) i := by
  have hp : t.val - 1 < cfg0.N := Nat.lt_of_le_of_lt (Nat.sub_le _ _) t.isLt
  have h0' : (i 0).val = 512 * ((t.val - 1) / 2) + (j 0).val := by omega
  have e : (outsAt0 m c (t.val - 1) hp).2 j = _ := congrFun (step_A m c ⟨t.val - 1, hp⟩ (by dsimp only; omega) (by dsimp only; omega) (by dsimp only; omega)) j
  rw [pay2_apply, half_eq m c ⟨t.val - 1, hp⟩ 0 (by dsimp only; omega) (by omega) j i h0' h1, blk2 m c ⟨t.val - 1, hp⟩ j i h0' (congrArg Fin.val h1)] at e
  rw [step_B m c t (by omega) ht ht, pay3_apply, e, half_eq m c t 1 ht (by omega) j i h0 h1]
  unfold res prod
  rw [sum_two (M := EReal) 896 1792 rfl fun k => a0 m c (ix2 (i 0) k) * a1 m c (ix2 k (i 1))]
  exact add_right_comm _ _ _

theorem flushed3 (c : Dev nD) (t : Fin cfg0.N) (hf : (cfg0.win 3).flush t = true) :
    (dats m 0 c).flushed 3 t = ((cfg0.win 3).blk t).view.read (Elt Ideal) (res (a0 m c) (a1 m c) (a2 m c)) := by
  rw [Cert.Kernel11Ideal.Value.flushed3]
  funext y
  rw [View.read_apply]
  refine value_B m c t ((flush0_3 t).mp hf) y _ ?_ (Fin.ext ?_)
  · show win0_3.index t 0 * 512 + 1 * (y 0).val = _
    rw [(index3 t).1]
    omega
  · show win0_3.index t 1 * 1024 + 1 * (y 1).val = _
    rw [(index3 t).2]
    omega

/-- The kernel's run, read. -/
theorem run : θ_run defs (onTc (τ := τ) (main (F := Ideal))) ⟨m, fun _ => 0, ρ⟩ fun r => ∀ c : Dev nD,
      r.2.mem ((c : Thread nD τ).loc main_v0) = res (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t hf => flushed3 m c t hf)
      fun i => (Cert.Kernel11Ideal.Value.covered_iff3 i).2 ⟨Nat.zero_le _, (i 0).isLt, Nat.zero_le _, (i 1).isLt⟩), (h c).2⟩)
    (Cert.Kernel11Ideal.Value.run_blocks m ρ)

end Cert.Ffn.DhRw

namespace Cert.Ffn.DhRw.Ref

open Idealize.ShloMosaic Idealize.ShloMosaic.TcCoe Idealize.SL.Sem
open Cert.Reference11Ideal Cert.Reference11Ideal.Gen

/-- The reference's result. -/
theorem res_eq (x : FVec Ideal S8192x1792 .bf16) (w : FVec Ideal S1792x1024 .bf16) (d : FVec Ideal S8192x1024 .f32) :
    (addf d (Host.dotGeneral dot_S8192x1792_S1024x1792_S8192x1024_1_1_0_0_n_n none (extf .f32 x bitsLt_bf16_f32) (transpose S1024x1792 [1, 0] (extf .f32 w bitsLt_bf16_f32) transposes_S1792x1024_S1024x1792_1_0)) : FVec Ideal S8192x1024 .f32) = res x w d := by
  funext i
  unfold res
  rw [add_comm]
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = res (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (res_eq _ _ _ ), (h c).2⟩) (Cert.Reference11Ideal.Value.run m ρ)

end Cert.Ffn.DhRw.Ref

end
-- ==== Proof.DhGate.lean ====
/- The gradient of the mixer's rows, the part of the two gates: the kernel's result, entry by entry, and the reference's. -/
module

public import proofs.«01_k».proof.Proof.MixBase
public import Idealize.ShloMosaic.Lib.Pointwise
public import Idealize.ShloMosaic.Lib.IdealHost

@[expose] public section

noncomputable section

namespace Cert.Ffn.DhGate

open Idealize.ShloMosaic Idealize.ShloMosaic.TcCoe Idealize.SL.Sem
open Idealize.ShloMosaic.Pipeline (Dat)
open Cert.Kernel12Ideal Cert.Kernel12Ideal.Gen

/-- A block's product at an entry. -/
def blkProd (v0 : FVec Ideal S512x1024 .bf16) (v1 : FVec Ideal S1024x1024 .bf16) (j : S512x1024.Idx) : EReal :=
  ∑ k : Fin 1024, v0 (ix2 (j 0) k) * v1 (ix2 k (j 1))

theorem pay_apply (v0 : FVec Ideal S512x1024 .bf16) (v1 : FVec Ideal S1024x1024 .bf16) (v3 : FVec Ideal S512x1024 .bf16)
    (v4 : FVec Ideal S1024x1024 .bf16) (v7 : FVec Ideal S512x1024 .f32) (j : S512x1024.Idx) :
    (k0_pay1 v0 v1 v3 v4 v7 : FVec Ideal S512x1024 .f32) j = blkProd v0 v1 j + blkProd v3 v4 j + v7 j := by
  unfold k0_pay1 blkProd
  pointwise

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S8192x1024 .bf16 := m ((c : Thread nD τ).loc main_arg1)
def a2 (c : Dev nD) : FVec Ideal S1024x1024 .bf16 := m ((c : Thread nD τ).loc main_arg2)
def a3 (c : Dev nD) : FVec Ideal S1024x1024 .bf16 := m ((c : Thread nD τ).loc main_arg3)
def a4 (c : Dev nD) : FVec Ideal S8192x1024 .f32 := m ((c : Thread nD τ).loc main_arg4)

/-- A whole product. -/
def prod (x : FVec Ideal S8192x1024 .bf16) (w : FVec Ideal S1024x1024 .bf16) : FVec Ideal S8192x1024 .f32 :=
  fun i => ∑ k : Fin 1024, x (ix2 (i 0) k) * w (ix2 k (i 1))

/-- The two products added to an array. -/
def res (x0 x1 : FVec Ideal S8192x1024 .bf16) (w0 w1 : FVec Ideal S1024x1024 .bf16) (d : FVec Ideal S8192x1024 .f32) : FVec Ideal S8192x1024 .f32 :=
  fun i => prod x0 w0 i + prod x1 w1 i + d i

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 ∧ win0_5.flush t = true :=
  (by decide +kernel : ∀ t : Fin grid0.N, win0_5.index t 0 = t.val ∧ win0_5.index t 1 = 0 ∧ win0_5.flush t = true)

theorem blk0 (c : Dev nD) (t : Fin cfg0.N) (p : Fin 512) (k : Fin 1024) (q : Fin 8192) (hq : q.val = 512 * t.val + p.val) :
    (iblk m c 0 t : FVec Ideal S512x1024 .bf16) (ix2 p k) = a0 m c (ix2 q k) := by
  unfold iblk
  rw [View.read_apply]
  show V m c main_arg0 _ = m (c.tc.loc main_arg0) _
  unfold V
  congr 1
  funext a
  apply Fin.ext
  match a with
  | ⟨0, _⟩ => show win0_0.index t 0 * 512 + 1 * p.val = q.val; rw [(index0 t).1]; omega
  | ⟨1, _⟩ => show win0_0.index t 1 * 1024 + 1 * k.val = k.val; rw [(index0 t).2]; omega

theorem blk1 (c : Dev nD) (t : Fin cfg0.N) (p : Fin 512) (k : Fin 1024) (q : Fin 8192) (hq : q.val = 512 * t.val + p.val) :
    (iblk m c 1 t : FVec Ideal S512x1024 .bf16) (ix2 p k) = a1 m c (ix2 q k) := by
  unfold iblk
  rw [View.read_apply]
  show V m c main_arg1 _ = m (c.tc.loc main_arg1) _
  unfold V
  congr 1
  funext a
  apply Fin.ext
  match a with
  | ⟨0, _⟩ => show win0_1.index t 0 * 512 + 1 * p.val = q.val; rw [(index1 t).1]; omega
  | ⟨1, _⟩ => show win0_1.index t 1 * 1024 + 1 * k.val = k.val; rw [(index1 t).2]; omega

theorem blk2 (c : Dev nD) (t : Fin cfg0.N) : (iblk m c 2 t : FVec Ideal S1024x1024 .bf16) = a2 m c := by
  unfold iblk
  funext j
  rw [View.read_apply]
  show V m c main_arg2 _ = m (c.tc.loc main_arg2) _
  unfold V
  congr 1
  funext a
  apply Fin.ext
  match a with
  | ⟨0, _⟩ => show win0_2.index t 0 * 1024 + 1 * (j 0).val = (j 0).val; rw [(index2 t).1]; omega
  | ⟨1, _⟩ => show win0_2.index t 1 * 1024 + 1 * (j 1).val = (j 1).val; rw [(index2 t).2]; omega

theorem blk3 (c : Dev nD) (t : Fin cfg0.N) : (iblk m c 3 t : FVec Ideal S1024x1024 .bf16) = a3 m c := by
  unfold iblk
  funext j
  rw [View.read_apply]
  show V m c main_arg3 _ = m (c.tc.loc main_arg3) _
  unfold V
  congr 1
  funext a
  apply Fin.ext
  match a with
  | ⟨0, _⟩ => show win0_3.index t 0 * 1024 + 1 * (j 0).val = (j 0).val; rw [(index3 t).1]; omega
  | ⟨1, _⟩ => show win0_3.index t 1 * 1024 + 1 * (j 1).val = (j 1).val; rw [(index3 t).2]; omega

theorem blk4 (c : Dev nD) (t : Fin cfg0.N) (p : Fin 512) (k : Fin 1024) (q : Fin 8192) (hq : q.val = 512 * t.val + p.val) :
    (iblk m c 4 t : FVec Ideal S512x1024 .f32) (ix2 p k) = a4 m c (ix2 q k) := by
  unfold iblk
  rw [View.read_apply]
  show V m c main_arg4 _ = m (c.tc.loc main_arg4) _
  unfold V
  congr 1
  funext a
  apply Fin.ext
  match a with
  | ⟨0, _⟩ => show win0_4.index t 0 * 512 + 1 * p.val = q.val; rw [(index4 t).1]; omega
  | ⟨1, _⟩ => show win0_4.index t 1 * 1024 + 1 * k.val = k.val; rw [(index4 t).2]; omega

theorem hz : (![0, 0] : Fin 2 → Nat) = fun _ => 0 := by decide

/-- A point writes its block of the result. -/
theorem flushed5 (c : Dev nD) (t : Fin cfg0.N) :
    (dats m 0 c).flushed 5 t = ((cfg0.win 5).blk t).view.read (Elt Ideal) (res (a0 m c) (a1 m c) (a2 m c) (a3 m c) (a4 m c)) := by
  rw [Cert.Kernel12Ideal.Value.flushed5]
  funext y
  rw [View.read_apply]
  show (out0_5 (iblk m c 0 t) (iblk m c 1 t) (iblk m c 2 t) (iblk m c 3 t) (iblk m c 4 t) : FVec Ideal S512x1024 .f32) y = _
  unfold out0_5
  rw [View.canon_unit_zero hz]
  simp only [View.ld_unit_zero (S := S512x1024) hz, View.ld_unit_zero (S := S1024x1024) hz]
  have e0 : (((cfg0.win 5).blk t).view.emb y 0).val = 512 * t.val + (y 0).val := by
    show win0_5.index t 0 * 512 + 1 * (y 0).val = _
    rw [(index5 t).1]
    omega
  have e1 : ((cfg0.win 5).blk t).view.emb y 1 = y 1 := Fin.ext (by
    show win0_5.index t 1 * 1024 + 1 * (y 1).val = _
    rw [(index5 t).2.1]
    omega)
  refine (pay_apply _ _ _ _ _ y).trans ?_
  rw [blk2, blk3]
  refine congrArg₂ (· + ·) (congrArg₂ (· + ·) ?_ ?_) ?_
  · exact Finset.sum_congr rfl fun k _ => congrArg₂ (· * ·) (blk0 m c t _ k _ e0) (by rw [e1])
  · exact Finset.sum_congr rfl fun k _ => congrArg₂ (· * ·) (blk1 m c t _ k _ e0) (by rw [e1])
  · refine (congrArg _ (ix2_eta y).symm).trans ((blk4 m c t (y 0) (y 1) _ e0).trans (congrArg _ ?_))
    refine Eq.trans ?_ (ix2_eta _)
    rw [e1]

/-- Every entry is in some point's block. -/
theorem cover5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hb : (i 0).val / 512 < grid0.N := lt_of_lt_of_eq (by omega) N_0.symm
  obtain ⟨e0, e1, hf⟩ := index5 ⟨_, hb⟩
  refine ⟨⟨_, hb⟩, hf, ?_⟩
  show i ∈ ((View.whole main_v0).slice (win0_5.rect ⟨_, hb⟩)).set
  rw [View.set_slice_whole, Rect.mem_set_unit]
  intro a
  match a with
  | ⟨0, _⟩ => show win0_5.index ⟨_, hb⟩ 0 * 512 ≤ (i 0).val ∧ (i 0).val < win0_5.index ⟨_, hb⟩ 0 * 512 + 512; rw [e0]; dsimp only; omega
  | ⟨1, _⟩ => show win0_5.index ⟨_, hb⟩ 1 * 1024 ≤ (i 1).val ∧ (i 1).val < win0_5.index ⟨_, hb⟩ 1 * 1024 + 1024; rw [e1]; omega

/-- The kernel's run, read. -/
theorem run : θ_run defs (onTc (τ := τ) (main (F := Ideal))) ⟨m, fun _ => 0, ρ⟩ fun r => ∀ c : Dev nD,
      r.2.mem ((c : Thread nD τ).loc main_v0) = res (a0 m c) (a1 m c) (a2 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed5 m c t) cover5), (h c).2⟩)
    (Cert.Kernel12Ideal.Value.run_blocks m ρ)

end Cert.Ffn.DhGate

namespace Cert.Ffn.DhGate.Ref

open Idealize.ShloMosaic Idealize.ShloMosaic.TcCoe Idealize.SL.Sem
open Cert.Reference12Ideal Cert.Reference12Ideal.Gen

/-- A product of the reference's at an entry. -/
theorem dot_apply (x : FVec Ideal S8192x1024 .bf16) (w : FVec Ideal S1024x1024 .bf16) :
    ((Host.dotGeneral dot_S8192x1024_S1024x1024_S8192x1024_1_1_0_0_n_n none (extf .f32 x bitsLt_bf16_f32) (transpose S1024x1024 [1, 0] (extf .f32 w bitsLt_bf16_f32) transposes_S1024x1024_S1024x1024_1_0)) : FVec Ideal S8192x1024 .f32) = prod x w := by
  funext i
  unfold prod
  pointwise

/-- The reference's result. -/
theorem res_eq (x0 x1 : FVec Ideal S8192x1024 .bf16) (w0 w1 : FVec Ideal S1024x1024 .bf16) (d : FVec Ideal S8192x1024 .f32) :
    (addf d (addf (Host.dotGeneral dot_S8192x1024_S1024x1024_S8192x1024_1_1_0_0_n_n none (extf .f32 x1 bitsLt_bf16_f32) (transpose S1024x1024 [1, 0] (extf .f32 w1 bitsLt_bf16_f32) transposes_S1024x1024_S1024x1024_1_0)) (Host.dotGeneral dot_S8192x1024_S1024x1024_S8192x1024_1_1_0_0_n_n none (extf .f32 x0 bitsLt_bf16_f32) (transpose S1024x1024 [1, 0] (extf .f32 w0 bitsLt_bf16_f32) transposes_S1024x1024_S1024x1024_1_0))) : FVec Ideal S8192x1024 .f32) = res x0 x1 w0 w1 d := by
  rw [dot_apply, dot_apply]
  funext i
  show d i + (prod x1 w1 i + prod x0 w0 i) = prod x0 w0 i + prod x1 w1 i + d i
  rw [add_comm (prod x1 w1 i), add_comm (d i)]

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (res_eq _ _ _ _ _ ), (h c).2⟩) (Cert.Reference12Ideal.Value.run m ρ)

end Cert.Ffn.DhGate.Ref

end
-- ==== Proof.GinQ.lean ====
/- The gradient of the weights of q, k or v: the kernel's result, entry by entry, and the reference's. -/
module

public import proofs.«01_k».proof.Proof.Parts
public import proofs.«01_k».proof.Proof.Steps
public import proofs.«01_k».proof.Proof.MixBase
public import Idealize.ShloMosaic.Lib.Pointwise
public import Idealize.ShloMosaic.Lib.IdealHost

@[expose] public section

noncomputable section

namespace Cert.Ffn.GinQ
open Idealize.ShloMosaic Idealize.ShloMosaic.TcCoe Idealize.SL.Sem
open Idealize.ShloMosaic.Pipeline (Dat)
open Cert.Kernel13Ideal Cert.Kernel13Ideal.Gen

/-- A block's product at an entry. -/
def blkProd (v0 : FVec Ideal S512x512 .bf16) (v1 : FVec Ideal S512x1024 .bf16) (j : S512x1024.Idx) : EReal :=
  ∑ k : Fin 512, v0 (ix2 k (j 0)) * v1 (ix2 k (j 1))

theorem pay1_apply (v0 : FVec Ideal S512x512 .bf16) (v1 : FVec Ideal S512x1024 .bf16) (j : S512x1024.Idx) :
    (k0_pay1 v0 v1 : FVec Ideal S512x1024 .f32) j = blkProd v0 v1 j := by
  unfold k0_pay1 blkProd
  pointwise

theorem pay2_apply (v0 : FVec Ideal S512x512 .bf16) (v1 : FVec Ideal S512x1024 .bf16) (j : S512x1024.Idx) :
    (k0_pay2 v0 v1 : FVec Ideal S512x1024 .f32) j = blkProd v0 v1 j := by
  unfold k0_pay2
  rw [shapeCast_self]
  exact pay1_apply v0 v1 j

theorem pay3_apply (v0 : FVec Ideal S512x512 .bf16) (v1 : FVec Ideal S512x1024 .bf16) (x : FVec Ideal S512x1024 .f32) (j : S512x1024.Idx) :
    (k0_pay3 v0 v1 x : FVec Ideal S512x1024 .f32) j = x j + blkProd v0 v1 j := by
  unfold k0_pay3
  rw [shapeCast_self, ← pay1_apply]
  rfl

theorem hz : (![0, 0] : Fin 2 → Nat) = fun _ => 0 := by decide

/-- A first point leaves the first product in the scratch, a middle one adds its own there, the last one adds its own and
    leaves the sum in the result's block. -/
theorem step_A {F : FTy → Type} [FloatOps F] (m : (ℓ : Loc nD τ sig) → Buf (Elt F) ℓ) (c : Dev nD) (t : Fin cfg0.N)
    (h0 : t.val % 16 = 0) (h1 : ¬1 ≤ t.val) (h2 : ¬t.val % 16 = 15) :
    (outsAt0 m c t.val t.isLt).2 = k0_pay2 (iblk m c 0 t) (iblk m c 1 t) := by
  rw [outsAt0_A m c t h0 h1 h2]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, View.ld_unit_zero (S := S512x512) hz, View.ld_unit_zero (S := S512x1024) hz]

theorem step_B {F : FTy → Type} [FloatOps F] (m : (ℓ : Loc nD τ sig) → Buf (Elt F) ℓ) (c : Dev nD) (t : Fin cfg0.N)
    (h0 : ¬t.val % 16 = 0) (h1 : 1 ≤ t.val) (h2 : ¬t.val % 16 = 15) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S512x512) hz, View.ld_unit_zero (S := S512x1024) hz, View.ld_unit_zero (S := S512x1024) hz]

theorem step_C {F : FTy → Type} [FloatOps F] (m : (ℓ : Loc nD τ sig) → Buf (Elt F) ℓ) (c : Dev nD) (t : Fin cfg0.N)
    (h0 : ¬t.val % 16 = 0) (h1 : 1 ≤ t.val) (h2 : t.val % 16 = 15) :
    (outsAt0 m c t.val t.isLt).1 = k0_pay3 (iblk m c 0 t) (iblk m c 1 t) (outsAt0 m c (t.val - 1) (Nat.lt_of_le_of_lt (Nat.sub_le _ _) t.isLt)).2 := by
  rw [outsAt0_C m c t h0 h1 h2]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz, View.readCov_unit_zero (S := S512x1024) _ hz]
  simp only [View.readAt_eq_ld, (hs0_0 t).read_unread, (hs0_1 t).read_unread, (Memref.isWhole_whole _).read_unread, View.ld_unit_zero (S := S512x512) hz, View.ld_unit_zero (S := S512x1024) hz, View.ld_unit_zero (S := S512x1024) hz]

variable (m : (ℓ : Loc nD τ sig) → Buf (Elt Ideal) ℓ) (ρ : Dev nD → PrngReg)

/-- The arguments a device holds. -/
def a0 (c : Dev nD) : FVec Ideal S8192x512 .bf16 := m ((c : Thread nD τ).loc main_arg0)
def a1 (c : Dev nD) : FVec Ideal S8192x1024 .bf16 := m ((c : Thread nD τ).loc main_arg1)

/-- The whole product. -/
def prod (x : FVec Ideal S8192x512 .bf16) (h : FVec Ideal S8192x1024 .bf16) : FVec Ideal S512x1024 .f32 :=
  fun i => ∑ k : Fin 8192, x (ix2 k (i 0)) * h (ix2 k (i 1))

/-- A place of a block of the result, in the array. -/
def place (b : Fin 1) (j : S512x1024.Idx) : S512x1024.Idx :=
  ix2 ⟨512 * b.val + (j 0).val, by have h := b.isLt; have h0 : (j 0).val < 512 := (j 0).isLt; omega⟩ (j 1)

/-- One of its sixteen parts, over 512 rows, at a place of a block. -/
def part (x : FVec Ideal S8192x512 .bf16) (h : FVec Ideal S8192x1024 .bf16) (b s : ℕ) (j : S512x1024.Idx) : EReal :=
  if hs : b < 1 ∧ s < 16 then
    ∑ k : Fin 512, x (ix2 ⟨512 * s + k.val, by omega⟩ (place ⟨b, hs.1⟩ j 0)) * h (ix2 ⟨512 * s + k.val, by omega⟩ (place ⟨b, hs.1⟩ j 1))
  else 0

/-- The sixteen make the whole. -/
theorem sum_part (x : FVec Ideal S8192x512 .bf16) (h : FVec Ideal S8192x1024 .bf16) (b : ℕ) (hb : b < 1) (j : S512x1024.Idx) :
    ∑ s ∈ Finset.range 16, part x h b s j = prod x h (place ⟨b, hb⟩ j) := by
  rw [Finset.sum_range]
  refine Eq.trans ?_ (sum_parts (M := EReal) 16 512 8192 rfl fun k => x (ix2 k (place ⟨b, hb⟩ j 0)) * h (ix2 k (place ⟨b, hb⟩ j 1))).symm
  exact Finset.sum_congr rfl fun s _ => dif_pos ⟨hb, s.isLt⟩

theorem index0 : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)
theorem index1 : ∀ t : Fin cfg0.N, win0_1.index t 0 = t.val % 16 ∧ win0_1.index t 1 = 0 :=
  (by decide +kernel : ∀ t : Fin grid0.N, win0_1.index t 0 = t.val % 16 ∧ win0_1.index t 1 = 0)
theorem index2 : ∀ t : Fin cfg0.N, win0_2.index t 0 = t.val / 16 ∧ win0_2.index t 1 = 0 :=
  (by decide +kernel : ∀ t : Fin grid0.N, win0_2.index t 0 = t.val / 16 ∧ win0_2.index t 1 = 0)

theorem lt_points (t : Fin cfg0.N) : t.val < 16 := lt_of_lt_of_eq t.isLt N_0

/-- A block of either argument, at an entry. -/
theorem blk0 (c : Dev nD) (t : Fin cfg0.N) (k : Fin 512) (p : Fin 512) (q : Fin 8192) (r : Fin 512)
    (hq : q.val = 512 * (t.val % 16) + k.val) (hr : r.val = 512 * (t.val / 16) + p.val) :
    (iblk m c 0 t : FVec Ideal S512x512 .bf16) (ix2 k p) = a0 m c (ix2 q r) := by
  unfold iblk
  rw [View.read_apply]
  show V m c main_arg0 _ = m (c.tc.loc main_arg0) _
  unfold V
  congr 1
  funext a
  apply Fin.ext
  match a with
  | ⟨0, _⟩ => show win0_0.index t 0 * 512 + 1 * k.val = q.val; rw [(index0 t).1]; omega
  | ⟨1, _⟩ => show win0_0.index t 1 * 512 + 1 * p.val = r.val; rw [(index0 t).2]; omega

theorem blk1 (c : Dev nD) (t : Fin cfg0.N) (k : Fin 512) (p : Fin 1024) (q : Fin 8192) (hq : q.val = 512 * (t.val % 16) + k.val) :
    (iblk m c 1 t : FVec Ideal S512x1024 .bf16) (ix2 k p) = a1 m c (ix2 q p) := by
  unfold iblk
  rw [View.read_apply]
  show V m c main_arg1 _ = m (c.tc.loc main_arg1) _
  unfold V
  congr 1
  funext a
  apply Fin.ext
  match a with
  | ⟨0, _⟩ => show win0_1.index t 0 * 512 + 1 * k.val = q.val; rw [(index1 t).1]; omega
  | ⟨1, _⟩ => show win0_1.index t 1 * 1024 + 1 * p.val = p.val; rw [(index1 t).2]; omega

/-- A point's product is one part of the whole one. -/
theorem part_eq (c : Dev nD) (t : Fin cfg0.N) (j : S512x1024.Idx) :
    blkProd (iblk m c 0 t) (iblk m c 1 t) j = part (a0 m c) (a1 m c) (t.val / 16) (t.val % 16) j := by
  have h := lt_points t
  unfold part
  rw [dif_pos ⟨by omega, by omega⟩]
  exact Finset.sum_congr rfl fun k _ => congrArg₂ (· * ·) (blk0 m c t k _ _ _ rfl rfl) (blk1 m c t k _ _ rfl)

/-- What a last point leaves. -/
theorem value_C (c : Dev nD) (t : Fin cfg0.N) (ht : t.val % 16 = 15) (hb : t.val / 16 < 1) (j : S512x1024.Idx) :
    (outsAt0 m c t.val t.isLt).1 j = prod (a0 m c) (a1 m c) (place ⟨t.val / 16, hb⟩ j) := by
  have hl := lt_points t
  have hp : t.val - 1 < cfg0.N := Nat.lt_of_le_of_lt (Nat.sub_le _ _) t.isLt
  have e : (t.val - 1) % 16 + 1 = 15 := by omega
  have e' : (t.val - 1) / 16 = t.val / 16 := by omega
  have g := gathered (M := EReal) cfg0.N (fun n h j => (outsAt0 m c n h).2 j) (part (a0 m c) (a1 m c))
    (fun n h h0 j => by
      have hn := lt_points ⟨n, h⟩
      dsimp only at hn ⊢
      have s := congrFun (step_A m c ⟨n, h⟩ h0 (by dsimp only; omega) (by dsimp only; omega)) j
      rw [pay2_apply, part_eq] at s
      dsimp only at s
      rw [h0] at s
      exact s)
    (fun n h h0 hl j => by
      have s := congrFun (step_B m c ⟨n, h⟩ h0 (by dsimp only; omega) (by dsimp only; omega)) j
      rw [pay3_apply, part_eq] at s
      exact s)
    j (t.val - 1) hp (by omega)
  rw [step_C m c t (by omega) (by omega) ht, pay3_apply, part_eq, g, ht, e, e', ← sum_part]
  exact (Finset.sum_range_succ _ 15).symm

theorem flushed2 (c : Dev nD) (t : Fin cfg0.N) (hf : (cfg0.win 2).flush t = true) :
    (dats m 0 c).flushed 2 t = ((cfg0.win 2).blk t).view.read (Elt Ideal) (prod (a0 m c) (a1 m c)) := by
  rw [Cert.Kernel13Ideal.Value.flushed2]
  funext y
  rw [View.read_apply]
  have hl := lt_points t
  have hb : t.val / 16 < 1 := by omega
  have hp : ((cfg0.win 2).blk t).view.emb y = place ⟨t.val / 16, hb⟩ y := by
    funext a
    apply Fin.ext
    match a with
    | ⟨0, _⟩ => show win0_2.index t 0 * 512 + 1 * (y 0).val = 512 * (t.val / 16) + (y 0).val; rw [(index2 t).1]; omega
    | ⟨1, _⟩ => show win0_2.index t 1 * 1024 + 1 * (y 1).val = (y 1).val; rw [(index2 t).2]; omega
  rw [hp]
  have e := value_C m c t ((flush0_2 t).mp hf) hb y
  generalize prod (a0 m c) (a1 m c) = P at e ⊢
  exact e

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed2 m c t hf)
      fun i => (Cert.Kernel13Ideal.Value.covered_iff2 i).2 ⟨Nat.zero_le _, (i 0).isLt, Nat.zero_le _, (i 1).isLt⟩), (h c).2⟩)
    (Cert.Kernel13Ideal.Value.run_blocks m ρ)

end Cert.Ffn.GinQ

namespace Cert.Ffn.GinQ.Ref
open Idealize.ShloMosaic Idealize.ShloMosaic.TcCoe Idealize.SL.Sem
open Cert.Reference13Ideal Cert.Reference13Ideal.Gen

/-- The reference's result. -/
theorem res_eq (y0 : FVec Ideal S8192x512 .bf16) (y1 : FVec Ideal S8192x1024 .bf16) :
    (transpose S512x1024 [1, 0] (transpose S1024x512 [1, 0] (Host.dotGeneral dot_S8192x512_S8192x1024_S512x1024_0_0_1_1_n_n none (extf .f32 y0 bitsLt_bf16_f32) (extf .f32 y1 bitsLt_bf16_f32)) transposes_S512x1024_S1024x512_1_0) transposes_S1024x512_S512x1024_1_0 : FVec Ideal S512x1024 .f32) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference13Ideal.Value.run m ρ)

end Cert.Ffn.GinQ.Ref

end
-- ==== Proof.GinRw.lean ====
/- The gradient of the weights of the recurrence's projections: the kernel's result, entry by entry, and the reference's. -/
module

public import proofs.«01_k».proof.Proof.Parts
public import proofs.«01_k».proof.Proof.Steps
public import proofs.«01_k».proof.Proof.MixBase
public import Idealize.ShloMosaic.Lib.Pointwise
public import Idealize.ShloMosaic.Lib.IdealHost

@[expose] public section

noncomputable section

namespace Cert.Ffn.GinRw
open Idealize.ShloMosaic Idealize.ShloMosaic.TcCoe Idealize.SL.Sem
open Idealize.ShloMosaic.Pipeline (Dat)
open Cert.Kernel14Ideal Cert.Kernel14Ideal.Gen

/-- A block's product at an entry. -/
def blkProd (v0 : FVec Ideal S512x896 .bf16) (v1 : FVec Ideal S512x1024 .bf16) (j : S896x1024.Idx) : EReal :=
  ∑ k : Fin 512, v0 (ix2 k (j 0)) * v1 (ix2 k (j 1))

theorem pay1_apply (v0 : FVec Ideal S512x896 .bf16) (v1 : FVec Ideal S512x1024 .bf16) (j : S896x1024.Idx) :
    (k0_pay1 v0 v1 : FVec Ideal S896x1024 .f32) j = blkProd v0 v1 j := by
  unfold k0_pay1 blkProd
  pointwise

theorem pay2_apply (v0 : FVec Ideal S512x896 .bf16) (v1 : FVec Ideal S512x1024 .bf16) (j : S896x1024.Idx) :
    (k0_pay2 v0 v1 : FVec Ideal S896x1024 .f32) j = blkProd v0 v1 j := by
  unfold k0_pay2
  rw [shapeCast_self]
  exact pay1_apply v0 v1 j

theorem pay3_apply (v0 : FVec Ideal S512x896 .bf16) (v1 : FVec Ideal S512x1024 .bf16) (x : FVec Ideal S896x1024 .f32) (j : S896x1024.Idx) :
    (k0_pay3 v0 v1 x : FVec Ideal S896x1024 .f32) j = x j + blkProd v0 v1 j := by
  unfold k0_pay3
  rw [shapeCast_self, ← pay1_apply]
  rfl

theorem hz : (![0, 0] : Fin 2 → Nat) = fun _ => 0 := by decide

/-- A first point leaves the first product in the scratch, a middle one adds its own there, the last one adds its own and
    leaves the sum in the result's block. -/
theorem step_A {F : FTy → Type} [FloatOps F] (m : (ℓ : Loc nD τ sig) → Buf (Elt F) ℓ) (c : Dev nD) (t : Fin cfg0.N)
    (h0 : t.val % 16 = 0) (h1 : ¬1 ≤ t.val % 16) (h2 : ¬t.val % 16 = 15) :
    (outsAt0 m c t.val t.isLt).2 = k0_pay2 (iblk m c 0 t) (iblk m c 1 t) := by
  rw [outsAt0_A m c t h0 h1 h2]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, View.ld_unit_zero (S := S512x896) hz, View.ld_unit_zero (S := S512x1024) hz]

theorem step_B {F : FTy → Type} [FloatOps F] (m : (ℓ : Loc nD τ sig) → Buf (Elt F) ℓ) (c : Dev nD) (t : Fin cfg0.N)
    (h0 : ¬t.val % 16 = 0) (h1 : 1 ≤ t.val % 16) (h2 : ¬t.val % 16 = 15) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S512x896) hz, View.ld_unit_zero (S := S512x1024) hz, View.ld_unit_zero (S := S896x1024) hz]

theorem step_C {F : FTy → Type} [FloatOps F] (m : (ℓ : Loc nD τ sig) → Buf (Elt F) ℓ) (c : Dev nD) (t : Fin cfg0.N)
    (h0 : ¬t.val % 16 = 0) (h1 : 1 ≤ t.val % 16) (h2 : t.val % 16 = 15) :
    (outsAt0 m c t.val t.isLt).1 = k0_pay3 (iblk m c 0 t) (iblk m c 1 t) (outsAt0 m c (t.val - 1) (Nat.lt_of_le_of_lt (Nat.sub_le _ _) t.isLt)).2 := by
  rw [outsAt0_C m c t h0 h1 h2]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz, View.readCov_unit_zero (S := S896x1024) _ hz]
  simp only [View.readAt_eq_ld, (hs0_0 t).read_unread, (hs0_1 t).read_unread, (Memref.isWhole_whole _).read_unread, View.ld_unit_zero (S := S512x896) hz, View.ld_unit_zero (S := S512x1024) hz, View.ld_unit_zero (S := S896x1024) hz]

variable (m : (ℓ : Loc nD τ sig) → Buf (Elt Ideal) ℓ) (ρ : Dev nD → PrngReg)

/-- The arguments a device holds. -/
def a0 (c : Dev nD) : FVec Ideal S8192x1792 .bf16 := m ((c : Thread nD τ).loc main_arg0)
def a1 (c : Dev nD) : FVec Ideal S8192x1024 .bf16 := m ((c : Thread nD τ).loc main_arg1)

/-- The whole product. -/
def prod (x : FVec Ideal S8192x1792 .bf16) (h : FVec Ideal S8192x1024 .bf16) : FVec Ideal S1792x1024 .f32 :=
  fun i => ∑ k : Fin 8192, x (ix2 k (i 0)) * h (ix2 k (i 1))

/-- A place of a block of the result, in the array. -/
def place (b : Fin 2) (j : S896x1024.Idx) : S1792x1024.Idx :=
  ix2 ⟨896 * b.val + (j 0).val, by have h := b.isLt; have h0 : (j 0).val < 896 := (j 0).isLt; omega⟩ (j 1)

/-- One of its sixteen parts, over 512 rows, at a place of a block. -/
def part (x : FVec Ideal S8192x1792 .bf16) (h : FVec Ideal S8192x1024 .bf16) (b s : ℕ) (j : S896x1024.Idx) : EReal :=
  if hs : b < 2 ∧ s < 16 then
    ∑ k : Fin 512, x (ix2 ⟨512 * s + k.val, by omega⟩ (place ⟨b, hs.1⟩ j 0)) * h (ix2 ⟨512 * s + k.val, by omega⟩ (place ⟨b, hs.1⟩ j 1))
  else 0

/-- The sixteen make the whole. -/
theorem sum_part (x : FVec Ideal S8192x1792 .bf16) (h : FVec Ideal S8192x1024 .bf16) (b : ℕ) (hb : b < 2) (j : S896x1024.Idx) :
    ∑ s ∈ Finset.range 16, part x h b s j = prod x h (place ⟨b, hb⟩ j) := by
  rw [Finset.sum_range]
  refine Eq.trans ?_ (sum_parts (M := EReal) 16 512 8192 rfl fun k => x (ix2 k (place ⟨b, hb⟩ j 0)) * h (ix2 k (place ⟨b, hb⟩ j 1))).symm
  exact Finset.sum_congr rfl fun s _ => dif_pos ⟨hb, s.isLt⟩

theorem index0 : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)
theorem index1 : ∀ t : Fin cfg0.N, win0_1.index t 0 = t.val % 16 ∧ win0_1.index t 1 = 0 :=
  (by decide +kernel : ∀ t : Fin grid0.N, win0_1.index t 0 = t.val % 16 ∧ win0_1.index t 1 = 0)
theorem index2 : ∀ t : Fin cfg0.N, win0_2.index t 0 = t.val / 16 ∧ win0_2.index t 1 = 0 :=
  (by decide +kernel : ∀ t : Fin grid0.N, win0_2.index t 0 = t.val / 16 ∧ win0_2.index t 1 = 0)

theorem lt_points (t : Fin cfg0.N) : t.val < 32 := lt_of_lt_of_eq t.isLt N_0

/-- A block of either argument, at an entry. -/
theorem blk0 (c : Dev nD) (t : Fin cfg0.N) (k : Fin 512) (p : Fin 896) (q : Fin 8192) (r : Fin 1792)
    (hq : q.val = 512 * (t.val % 16) + k.val) (hr : r.val = 896 * (t.val / 16) + p.val) :
    (iblk m c 0 t : FVec Ideal S512x896 .bf16) (ix2 k p) = a0 m c (ix2 q r) := by
  unfold iblk
  rw [View.read_apply]
  show V m c main_arg0 _ = m (c.tc.loc main_arg0) _
  unfold V
  congr 1
  funext a
  apply Fin.ext
  match a with
  | ⟨0, _⟩ => show win0_0.index t 0 * 512 + 1 * k.val = q.val; rw [(index0 t).1]; omega
  | ⟨1, _⟩ => show win0_0.index t 1 * 896 + 1 * p.val = r.val; rw [(index0 t).2]; omega

theorem blk1 (c : Dev nD) (t : Fin cfg0.N) (k : Fin 512) (p : Fin 1024) (q : Fin 8192) (hq : q.val = 512 * (t.val % 16) + k.val) :
    (iblk m c 1 t : FVec Ideal S512x1024 .bf16) (ix2 k p) = a1 m c (ix2 q p) := by
  unfold iblk
  rw [View.read_apply]
  show V m c main_arg1 _ = m (c.tc.loc main_arg1) _
  unfold V
  congr 1
  funext a
  apply Fin.ext
  match a with
  | ⟨0, _⟩ => show win0_1.index t 0 * 512 + 1 * k.val = q.val; rw [(index1 t).1]; omega
  | ⟨1, _⟩ => show win0_1.index t 1 * 1024 + 1 * p.val = p.val; rw [(index1 t).2]; omega

/-- A point's product is one part of the whole one. -/
theorem part_eq (c : Dev nD) (t : Fin cfg0.N) (j : S896x1024.Idx) :
    blkProd (iblk m c 0 t) (iblk m c 1 t) j = part (a0 m c) (a1 m c) (t.val / 16) (t.val % 16) j := by
  have h := lt_points t
  unfold part
  rw [dif_pos ⟨by omega, by omega⟩]
  exact Finset.sum_congr rfl fun k _ => congrArg₂ (· * ·) (blk0 m c t k _ _ _ rfl rfl) (blk1 m c t k _ _ rfl)

/-- What a last point leaves. -/
theorem value_C (c : Dev nD) (t : Fin cfg0.N) (ht : t.val % 16 = 15) (hb : t.val / 16 < 2) (j : S896x1024.Idx) :
    (outsAt0 m c t.val t.isLt).1 j = prod (a0 m c) (a1 m c) (place ⟨t.val / 16, hb⟩ j) := by
  have hl := lt_points t
  have hp : t.val - 1 < cfg0.N := Nat.lt_of_le_of_lt (Nat.sub_le _ _) t.isLt
  have e : (t.val - 1) % 16 + 1 = 15 := by omega
  have e' : (t.val - 1) / 16 = t.val / 16 := by omega
  have g := gathered (M := EReal) cfg0.N (fun n h j => (outsAt0 m c n h).2 j) (part (a0 m c) (a1 m c))
    (fun n h h0 j => by
      have hn := lt_points ⟨n, h⟩
      dsimp only at hn ⊢
      have s := congrFun (step_A m c ⟨n, h⟩ h0 (by dsimp only; omega) (by dsimp only; omega)) j
      rw [pay2_apply, part_eq] at s
      dsimp only at s
      rw [h0] at s
      exact s)
    (fun n h h0 hl j => by
      have s := congrFun (step_B m c ⟨n, h⟩ h0 (by dsimp only; omega) (by dsimp only; omega)) j
      rw [pay3_apply, part_eq] at s
      exact s)
    j (t.val - 1) hp (by omega)
  rw [step_C m c t (by omega) (by omega) ht, pay3_apply, part_eq, g, ht, e, e', ← sum_part]
  exact (Finset.sum_range_succ _ 15).symm

theorem flushed2 (c : Dev nD) (t : Fin cfg0.N) (hf : (cfg0.win 2).flush t = true) :
    (dats m 0 c).flushed 2 t = ((cfg0.win 2).blk t).view.read (Elt Ideal) (prod (a0 m c) (a1 m c)) := by
  rw [Cert.Kernel14Ideal.Value.flushed2]
  funext y
  rw [View.read_apply]
  have hl := lt_points t
  have hb : t.val / 16 < 2 := by omega
  have hp : ((cfg0.win 2).blk t).view.emb y = place ⟨t.val / 16, hb⟩ y := by
    funext a
    apply Fin.ext
    match a with
    | ⟨0, _⟩ => show win0_2.index t 0 * 896 + 1 * (y 0).val = 896 * (t.val / 16) + (y 0).val; rw [(index2 t).1]; omega
    | ⟨1, _⟩ => show win0_2.index t 1 * 1024 + 1 * (y 1).val = (y 1).val; rw [(index2 t).2]; omega
  rw [hp]
  have e := value_C m c t ((flush0_2 t).mp hf) hb y
  generalize prod (a0 m c) (a1 m c) = P at e ⊢
  exact e

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed2 m c t hf)
      fun i => (Cert.Kernel14Ideal.Value.covered_iff2 i).2 ⟨Nat.zero_le _, (i 0).isLt, Nat.zero_le _, (i 1).isLt⟩), (h c).2⟩)
    (Cert.Kernel14Ideal.Value.run_blocks m ρ)

end Cert.Ffn.GinRw

namespace Cert.Ffn.GinRw.Ref
open Idealize.ShloMosaic Idealize.ShloMosaic.TcCoe Idealize.SL.Sem
open Cert.Reference14Ideal Cert.Reference14Ideal.Gen

/-- The reference's result. -/
theorem res_eq (y0 : FVec Ideal S8192x1792 .bf16) (y1 : FVec Ideal S8192x1024 .bf16) :
    (transpose S1792x1024 [1, 0] (transpose S1024x1792 [1, 0] (Host.dotGeneral dot_S8192x1792_S8192x1024_S1792x1024_0_0_1_1_n_n none (extf .f32 y0 bitsLt_bf16_f32) (extf .f32 y1 bitsLt_bf16_f32)) transposes_S1792x1024_S1024x1792_1_0) transposes_S1024x1792_S1792x1024_1_0 : FVec Ideal S1792x1024 .f32) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference14Ideal.Value.run m ρ)

end Cert.Ffn.GinRw.Ref

end
-- ==== Proof.GinGate.lean ====
/- The gradient of a gate's weights, or of the mixer's last weight: the kernel's result, entry by entry, and the reference's. -/
module

public import proofs.«01_k».proof.Proof.Parts
public import proofs.«01_k».proof.Proof.Steps
public import proofs.«01_k».proof.Proof.MixBase
public import Idealize.ShloMosaic.Lib.Pointwise
public import Idealize.ShloMosaic.Lib.IdealHost

@[expose] public section

noncomputable section

namespace Cert.Ffn.GinGate
open Idealize.ShloMosaic Idealize.ShloMosaic.TcCoe Idealize.SL.Sem
open Idealize.ShloMosaic.Pipeline (Dat)
open Cert.Kernel15Ideal Cert.Kernel15Ideal.Gen

/-- A block's product at an entry. -/
def blkProd (v0 : FVec Ideal S512x1024 .bf16) (v1 : FVec Ideal S512x1024 .bf16) (j : S1024x1024.Idx) : EReal :=
  ∑ k : Fin 512, v0 (ix2 k (j 0)) * v1 (ix2 k (j 1))

theorem pay1_apply (v0 : FVec Ideal S512x1024 .bf16) (v1 : FVec Ideal S512x1024 .bf16) (j : S1024x1024.Idx) :
    (k0_pay1 v0 v1 : FVec Ideal S1024x1024 .f32) j = blkProd v0 v1 j := by
  unfold k0_pay1 blkProd
  pointwise

theorem pay2_apply (v0 : FVec Ideal S512x1024 .bf16) (v1 : FVec Ideal S512x1024 .bf16) (j : S1024x1024.Idx) :
    (k0_pay2 v0 v1 : FVec Ideal S1024x1024 .f32) j = blkProd v0 v1 j := by
  unfold k0_pay2
  rw [shapeCast_self]
  exact pay1_apply v0 v1 j

theorem pay3_apply (v0 : FVec Ideal S512x1024 .bf16) (v1 : FVec Ideal S512x1024 .bf16) (x : FVec Ideal S1024x1024 .f32) (j : S1024x1024.Idx) :
    (k0_pay3 v0 v1 x : FVec Ideal S1024x1024 .f32) j = x j + blkProd v0 v1 j := by
  unfold k0_pay3
  rw [shapeCast_self, ← pay1_apply]
  rfl

theorem hz : (![0, 0] : Fin 2 → Nat) = fun _ => 0 := by decide

/-- A first point leaves the first product in the scratch, a middle one adds its own there, the last one adds its own and
    leaves the sum in the result's block. -/
theorem step_A {F : FTy → Type} [FloatOps F] (m : (ℓ : Loc nD τ sig) → Buf (Elt F) ℓ) (c : Dev nD) (t : Fin cfg0.N)
    (h0 : t.val % 16 = 0) (h1 : ¬1 ≤ t.val) (h2 : ¬t.val % 16 = 15) :
    (outsAt0 m c t.val t.isLt).2 = k0_pay2 (iblk m c 0 t) (iblk m c 1 t) := by
  rw [outsAt0_A m c t h0 h1 h2]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, View.ld_unit_zero (S := S512x1024) hz, View.ld_unit_zero (S := S512x1024) hz]

theorem step_B {F : FTy → Type} [FloatOps F] (m : (ℓ : Loc nD τ sig) → Buf (Elt F) ℓ) (c : Dev nD) (t : Fin cfg0.N)
    (h0 : ¬t.val % 16 = 0) (h1 : 1 ≤ t.val) (h2 : ¬t.val % 16 = 15) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S512x1024) hz, View.ld_unit_zero (S := S512x1024) hz, View.ld_unit_zero (S := S1024x1024) hz]

theorem step_C {F : FTy → Type} [FloatOps F] (m : (ℓ : Loc nD τ sig) → Buf (Elt F) ℓ) (c : Dev nD) (t : Fin cfg0.N)
    (h0 : ¬t.val % 16 = 0) (h1 : 1 ≤ t.val) (h2 : t.val % 16 = 15) :
    (outsAt0 m c t.val t.isLt).1 = k0_pay3 (iblk m c 0 t) (iblk m c 1 t) (outsAt0 m c (t.val - 1) (Nat.lt_of_le_of_lt (Nat.sub_le _ _) t.isLt)).2 := by
  rw [outsAt0_C m c t h0 h1 h2]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread, View.ld_unit_zero (S := S512x1024) hz, View.ld_unit_zero (S := S512x1024) hz, View.ld_unit_zero (S := S1024x1024) hz]

variable (m : (ℓ : Loc nD τ sig) → Buf (Elt Ideal) ℓ) (ρ : Dev nD → PrngReg)

/-- The arguments a device holds. -/
def a0 (c : Dev nD) : FVec Ideal S8192x1024 .bf16 := m ((c : Thread nD τ).loc main_arg0)
def a1 (c : Dev nD) : FVec Ideal S8192x1024 .bf16 := m ((c : Thread nD τ).loc main_arg1)

/-- The whole product. -/
def prod (x : FVec Ideal S8192x1024 .bf16) (h : FVec Ideal S8192x1024 .bf16) : FVec Ideal S1024x1024 .f32 :=
  fun i => ∑ k : Fin 8192, x (ix2 k (i 0)) * h (ix2 k (i 1))

/-- A place of a block of the result, in the array. -/
def place (b : Fin 1) (j : S1024x1024.Idx) : S1024x1024.Idx :=
  ix2 ⟨1024 * b.val + (j 0).val, by have h := b.isLt; have h0 : (j 0).val < 1024 := (j 0).isLt; omega⟩ (j 1)

/-- One of its sixteen parts, over 512 rows, at a place of a block. -/
def part (x : FVec Ideal S8192x1024 .bf16) (h : FVec Ideal S8192x1024 .bf16) (b s : ℕ) (j : S1024x1024.Idx) : EReal :=
  if hs : b < 1 ∧ s < 16 then
    ∑ k : Fin 512, x (ix2 ⟨512 * s + k.val, by omega⟩ (place ⟨b, hs.1⟩ j 0)) * h (ix2 ⟨512 * s + k.val, by omega⟩ (place ⟨b, hs.1⟩ j 1))
  else 0

/-- The sixteen make the whole. -/
theorem sum_part (x : FVec Ideal S8192x1024 .bf16) (h : FVec Ideal S8192x1024 .bf16) (b : ℕ) (hb : b < 1) (j : S1024x1024.Idx) :
    ∑ s ∈ Finset.range 16, part x h b s j = prod x h (place ⟨b, hb⟩ j) := by
  rw [Finset.sum_range]
  refine Eq.trans ?_ (sum_parts (M := EReal) 16 512 8192 rfl fun k => x (ix2 k (place ⟨b, hb⟩ j 0)) * h (ix2 k (place ⟨b, hb⟩ j 1))).symm
  exact Finset.sum_congr rfl fun s _ => dif_pos ⟨hb, s.isLt⟩

theorem index0 : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)
theorem index1 : ∀ t : Fin cfg0.N, win0_1.index t 0 = t.val % 16 ∧ win0_1.index t 1 = 0 :=
  (by decide +kernel : ∀ t : Fin grid0.N, win0_1.index t 0 = t.val % 16 ∧ win0_1.index t 1 = 0)
theorem index2 : ∀ t : Fin cfg0.N, win0_2.index t 0 = t.val / 16 ∧ win0_2.index t 1 = 0 :=
  (by decide +kernel : ∀ t : Fin grid0.N, win0_2.index t 0 = t.val / 16 ∧ win0_2.index t 1 = 0)

theorem lt_points (t : Fin cfg0.N) : t.val < 16 := lt_of_lt_of_eq t.isLt N_0

/-- A block of either argument, at an entry. -/
theorem blk0 (c : Dev nD) (t : Fin cfg0.N) (k : Fin 512) (p : Fin 1024) (q : Fin 8192) (r : Fin 1024)
    (hq : q.val = 512 * (t.val % 16) + k.val) (hr : r.val = 1024 * (t.val / 16) + p.val) :
    (iblk m c 0 t : FVec Ideal S512x1024 .bf16) (ix2 k p) = a0 m c (ix2 q r) := by
  unfold iblk
  rw [View.read_apply]
  show V m c main_arg0 _ = m (c.tc.loc main_arg0) _
  unfold V
  congr 1
  funext a
  apply Fin.ext
  match a with
  | ⟨0, _⟩ => show win0_0.index t 0 * 512 + 1 * k.val = q.val; rw [(index0 t).1]; omega
  | ⟨1, _⟩ => show win0_0.index t 1 * 1024 + 1 * p.val = r.val; rw [(index0 t).2]; omega

theorem blk1 (c : Dev nD) (t : Fin cfg0.N) (k : Fin 512) (p : Fin 1024) (q : Fin 8192) (hq : q.val = 512 * (t.val % 16) + k.val) :
    (iblk m c 1 t : FVec Ideal S512x1024 .bf16) (ix2 k p) = a1 m c (ix2 q p) := by
  unfold iblk
  rw [View.read_apply]
  show V m c main_arg1 _ = m (c.tc.loc main_arg1) _
  unfold V
  congr 1
  funext a
  apply Fin.ext
  match a with
  | ⟨0, _⟩ => show win0_1.index t 0 * 512 + 1 * k.val = q.val; rw [(index1 t).1]; omega
  | ⟨1, _⟩ => show win0_1.index t 1 * 1024 + 1 * p.val = p.val; rw [(index1 t).2]; omega

/-- A point's product is one part of the whole one. -/
theorem part_eq (c : Dev nD) (t : Fin cfg0.N) (j : S1024x1024.Idx) :
    blkProd (iblk m c 0 t) (iblk m c 1 t) j = part (a0 m c) (a1 m c) (t.val / 16) (t.val % 16) j := by
  have h := lt_points t
  unfold part
  rw [dif_pos ⟨by omega, by omega⟩]
  exact Finset.sum_congr rfl fun k _ => congrArg₂ (· * ·) (blk0 m c t k _ _ _ rfl rfl) (blk1 m c t k _ _ rfl)

/-- What a last point leaves. -/
theorem value_C (c : Dev nD) (t : Fin cfg0.N) (ht : t.val % 16 = 15) (hb : t.val / 16 < 1) (j : S1024x1024.Idx) :
    (outsAt0 m c t.val t.isLt).1 j = prod (a0 m c) (a1 m c) (place ⟨t.val / 16, hb⟩ j) := by
  have hl := lt_points t
  have hp : t.val - 1 < cfg0.N := Nat.lt_of_le_of_lt (Nat.sub_le _ _) t.isLt
  have e : (t.val - 1) % 16 + 1 = 15 := by omega
  have e' : (t.val - 1) / 16 = t.val / 16 := by omega
  have g := gathered (M := EReal) cfg0.N (fun n h j => (outsAt0 m c n h).2 j) (part (a0 m c) (a1 m c))
    (fun n h h0 j => by
      have hn := lt_points ⟨n, h⟩
      dsimp only at hn ⊢
      have s := congrFun (step_A m c ⟨n, h⟩ h0 (by dsimp only; omega) (by dsimp only; omega)) j
      rw [pay2_apply, part_eq] at s
      dsimp only at s
      rw [h0] at s
      exact s)
    (fun n h h0 hl j => by
      have s := congrFun (step_B m c ⟨n, h⟩ h0 (by dsimp only; omega) (by dsimp only; omega)) j
      rw [pay3_apply, part_eq] at s
      exact s)
    j (t.val - 1) hp (by omega)
  rw [step_C m c t (by omega) (by omega) ht, pay3_apply, part_eq, g, ht, e, e', ← sum_part]
  exact (Finset.sum_range_succ _ 15).symm

theorem flushed2 (c : Dev nD) (t : Fin cfg0.N) (hf : (cfg0.win 2).flush t = true) :
    (dats m 0 c).flushed 2 t = ((cfg0.win 2).blk t).view.read (Elt Ideal) (prod (a0 m c) (a1 m c)) := by
  rw [Cert.Kernel15Ideal.Value.flushed2]
  funext y
  rw [View.read_apply]
  have hl := lt_points t
  have hb : t.val / 16 < 1 := by omega
  have hp : ((cfg0.win 2).blk t).view.emb y = place ⟨t.val / 16, hb⟩ y := by
    funext a
    apply Fin.ext
    match a with
    | ⟨0, _⟩ => show win0_2.index t 0 * 1024 + 1 * (y 0).val = 1024 * (t.val / 16) + (y 0).val; rw [(index2 t).1]; omega
    | ⟨1, _⟩ => show win0_2.index t 1 * 1024 + 1 * (y 1).val = (y 1).val; rw [(index2 t).2]; omega
  rw [hp]
  have e := value_C m c t ((flush0_2 t).mp hf) hb y
  generalize prod (a0 m c) (a1 m c) = P at e ⊢
  exact e

/-- The kernel's run, read. -/
theorem run : θ_run defs (onTc (τ := τ) (main (F := Ideal))) ⟨m, fun _ => 0, ρ⟩ fun r => ∀ c : Dev nD,
      r.2.mem ((c : Thread nD τ).loc main_v0) = prod (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t hf => flushed2 m c t hf)
      fun i => (Cert.Kernel15Ideal.Value.covered_iff2 i).2 ⟨Nat.zero_le _, (i 0).isLt, Nat.zero_le _, (i 1).isLt⟩), (h c).2⟩)
    (Cert.Kernel15Ideal.Value.run_blocks m ρ)

end Cert.Ffn.GinGate

namespace Cert.Ffn.GinGate.Ref
open Idealize.ShloMosaic Idealize.ShloMosaic.TcCoe Idealize.SL.Sem
open Cert.Reference15Ideal Cert.Reference15Ideal.Gen

/-- The reference's result. -/
theorem res_eq (y0 : FVec Ideal S8192x1024 .bf16) (y1 : FVec Ideal S8192x1024 .bf16) :
    (transpose S1024x1024 [1, 0] (transpose S1024x1024 [1, 0] (Host.dotGeneral dot_S8192x1024_S8192x1024_S1024x1024_0_0_1_1_n_n none (extf .f32 y0 bitsLt_bf16_f32) (extf .f32 y1 bitsLt_bf16_f32)) transposes_S1024x1024_S1024x1024_1_0) transposes_S1024x1024_S1024x1024_1_0 : FVec Ideal S1024x1024 .f32) = prod y0 y1 := by
  funext i
  unfold prod
  pointwise

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (res_eq _ _), (h c).2⟩) (Cert.Reference15Ideal.Value.run m ρ)

end Cert.Ffn.GinGate.Ref

end
-- ==== Proof.Adam.lean ====
/- One entry of the optimiser's step: the kernel multiplies with the reciprocals of the moments' corrections, the reference divides. -/
module

public import Idealize.ShloMosaic.PureOps.Ideal
public import Idealize.ShloMosaic.PureOps.IdealRules
public import Idealize.ShloMosaic.Lib.IdealHost

@[expose] public section

noncomputable section

namespace Cert.Adam

open Idealize.ShloMosaic

/-- The two corrections by which the reference divides. -/
theorem ofBits_d1 : Ideal.ofBits .f32 0x3F26BD02#32 = ((5463681 / 8388608 : ℝ) : EReal) := by
  simp [Ideal.ofBits, Ideal.ieee, -EReal.coe_mul]; norm_num

theorem ofBits_d2 : Ideal.ofBits .f32 0x3C231ACC#32 = ((2672307 / 268435456 : ℝ) : EReal) := by
  simp [Ideal.ofBits, Ideal.ieee, -EReal.coe_mul]; norm_num

/-- Dividing by either is multiplying with its reciprocal, for every extended real. -/
theorem div_d1 (x : EReal) : Ideal.div x (Ideal.ofBits .f32 0x3F26BD02#32) = x * ((8388608 / 5463681 : ℝ) : EReal) := by
  rw [ofBits_d1, Ideal.div_coe (by norm_num)]
  norm_num

theorem div_d2 (x : EReal) : Ideal.div x (Ideal.ofBits .f32 0x3C231ACC#32) = x * ((268435456 / 2672307 : ℝ) : EReal) := by
  rw [ofBits_d2, Ideal.div_coe (by norm_num)]
  norm_num

/-- The change of a weight `w` with first moment `m` and second moment `v`, both before their corrections: as the reference takes it,
    and as the kernel takes it from the two reciprocals `c1` and `c2`. -/
theorem change (c1 c2 : EReal) (h1 : c1 = ((8388608 / 5463681 : ℝ) : EReal)) (h2 : c2 = ((268435456 / 2672307 : ℝ) : EReal))
    (lr eps wd w m v : Ideal .f32) :
    FloatOps.mulf lr (FloatOps.addf (FloatOps.hostDivf (FloatOps.hostDivf m (Scalar.ofBits .f32 0x3F26BD02#32))
        (FloatOps.addf (FloatOps.hostUnary .sqrt (FloatOps.hostDivf v (Scalar.ofBits .f32 0x3C231ACC#32))) eps)) (FloatOps.mulf wd w))
      = FloatOps.mulf lr (FloatOps.addf (FloatOps.divf (FloatOps.mulf m c1)
        (FloatOps.addf (FloatOps.sqrt (FloatOps.mulf v c2)) eps)) (FloatOps.mulf wd w)) := by
  have e1 : FloatOps.hostDivf m (Scalar.ofBits .f32 0x3F26BD02#32) = FloatOps.mulf m c1 := h1 ▸ div_d1 m
  have e2 : FloatOps.hostDivf v (Scalar.ofBits .f32 0x3C231ACC#32) = FloatOps.mulf v c2 := h2 ▸ div_d2 v
  rw [e1, e2]
  rfl

end Cert.Adam

end
-- ==== Proof.AdamCalls.lean ====
/- The optimiser's step of every weight: the seven shapes in which the kernel takes it. -/
module

public import proofs.«01_k».proof.Defs
public import proofs.«01_k».proof.Proof.Adam
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import Idealize.ShloMosaic.Adequacy
public import Idealize.ShloMosaic.Init
public import Idealize.ShloMosaic.Lib.Quiescent

@[expose] public section

noncomputable section

namespace Cert.Adam

open Idealize.ShloMosaic Idealize.ShloMosaic.TcCoe Idealize.SL.Sem

/-- Of `w_in`: the reference's frame, of its run; -/
theorem frame16 : Cert.quiescent_Reference16Ideal := fun m g _ =>
  (θ_run Cert.Reference16Ideal.defs _ _).mono (fun r h => ⟨fun c => (h c).2.2.2,
    Idealize.ShloMosaic.sem_eq_zero_of_no_sems (by decide) r.2⟩) (Cert.Reference16Ideal.Value.run (F := Ideal) m g)

/-- the two named constants; -/
theorem named16 : Cert.preserves_Kernel16_Kernel16Ideal :=
  ⟨IdealRules.named_const.statement _ "c1" .f32 _ _ rfl, IdealRules.named_const.statement _ "c2" .f32 _ _ rfl⟩

/-- and the kernel and the reference leave the same three arrays. -/
theorem values16 : Cert.algebraic_Kernel16Ideal_Reference16Ideal := fun m g m' g' _ hag =>
  ⟨_, _, _, Cert.Kernel16Ideal.Value.run (F := Ideal) m g,
    (θ_run Cert.Reference16Ideal.defs _ _).mono (fun r h c => by
      obtain ⟨e0, e1, e2, er⟩ := h c
      obtain ⟨q0, q1, q2, q3⟩ := hag c
      rw [q0, q1, q2, q3] at e0
      rw [q1, q2] at e1
      rw [q1, q3] at e2
      exact ⟨e0.trans (funext fun i => change _ _ (IdealRules.named_const.ideal_named_scalar _ _ _ _ rfl)
        (IdealRules.named_const.ideal_named_scalar _ _ _ _ rfl) _ _ _ _ _ _), e1, e2, er⟩)
    (Cert.Reference16Ideal.Value.run (F := Ideal) m' g')⟩

/-- Of the feed-forward block's three weights: the reference's frame, of its run; -/
theorem frame17 : Cert.quiescent_Reference17Ideal := fun m g _ =>
  (θ_run Cert.Reference17Ideal.defs _ _).mono (fun r h => ⟨fun c => (h c).2.2.2,
    Idealize.ShloMosaic.sem_eq_zero_of_no_sems (by decide) r.2⟩) (Cert.Reference17Ideal.Value.run (F := Ideal) m g)

/-- the two named constants; -/
theorem named17 : Cert.preserves_Kernel17_Kernel17Ideal :=
  ⟨IdealRules.named_const.statement _ "c1" .f32 _ _ rfl, IdealRules.named_const.statement _ "c2" .f32 _ _ rfl⟩

/-- and the kernel and the reference leave the same three arrays. -/
theorem values17 : Cert.algebraic_Kernel17Ideal_Reference17Ideal := fun m g m' g' _ hag =>
  ⟨_, _, _, Cert.Kernel17Ideal.Value.run (F := Ideal) m g,
    (θ_run Cert.Reference17Ideal.defs _ _).mono (fun r h c => by
      obtain ⟨e0, e1, e2, er⟩ := h c
      obtain ⟨q0, q1, q2, q3⟩ := hag c
      rw [q0, q1, q2, q3] at e0
      rw [q1, q2] at e1
      rw [q1, q3] at e2
      exact ⟨e0.trans (funext fun i => change _ _ (IdealRules.named_const.ideal_named_scalar _ _ _ _ rfl)
        (IdealRules.named_const.ideal_named_scalar _ _ _ _ rfl) _ _ _ _ _ _), e1, e2, er⟩)
    (Cert.Reference17Ideal.Value.run (F := Ideal) m' g')⟩

/-- Of `w_o`: the reference's frame, of its run; -/
theorem frame18 : Cert.quiescent_Reference18Ideal := fun m g _ =>
  (θ_run Cert.Reference18Ideal.defs _ _).mono (fun r h => ⟨fun c => (h c).2.2.2,
    Idealize.ShloMosaic.sem_eq_zero_of_no_sems (by decide) r.2⟩) (Cert.Reference18Ideal.Value.run (F := Ideal) m g)

/-- the two named constants; -/
theorem named18 : Cert.preserves_Kernel18_Kernel18Ideal :=
  ⟨IdealRules.named_const.statement _ "c1" .f32 _ _ rfl, IdealRules.named_const.statement _ "c2" .f32 _ _ rfl⟩

/-- and the kernel and the reference leave the same three arrays. -/
theorem values18 : Cert.algebraic_Kernel18Ideal_Reference18Ideal := fun m g m' g' _ hag =>
  ⟨_, _, _, Cert.Kernel18Ideal.Value.run (F := Ideal) m g,
    (θ_run Cert.Reference18Ideal.defs _ _).mono (fun r h c => by
      obtain ⟨e0, e1, e2, er⟩ := h c
      obtain ⟨q0, q1, q2, q3⟩ := hag c
      rw [q0, q1, q2, q3] at e0
      rw [q1, q2] at e1
      rw [q1, q3] at e2
      exact ⟨e0.trans (funext fun i => change _ _ (IdealRules.named_const.ideal_named_scalar _ _ _ _ rfl)
        (IdealRules.named_const.ideal_named_scalar _ _ _ _ rfl) _ _ _ _ _ _), e1, e2, er⟩)
    (Cert.Reference18Ideal.Value.run (F := Ideal) m' g')⟩

/-- Of the two output projections' weights: the reference's frame, of its run; -/
theorem frame19 : Cert.quiescent_Reference19Ideal := fun m g _ =>
  (θ_run Cert.Reference19Ideal.defs _ _).mono (fun r h => ⟨fun c => (h c).2.2.2,
    Idealize.ShloMosaic.sem_eq_zero_of_no_sems (by decide) r.2⟩) (Cert.Reference19Ideal.Value.run (F := Ideal) m g)

/-- the two named constants; -/
theorem named19 : Cert.preserves_Kernel19_Kernel19Ideal :=
  ⟨IdealRules.named_const.statement _ "c1" .f32 _ _ rfl, IdealRules.named_const.statement _ "c2" .f32 _ _ rfl⟩

/-- and the kernel and the reference leave the same three arrays. -/
theorem values19 : Cert.algebraic_Kernel19Ideal_Reference19Ideal := fun m g m' g' _ hag =>
  ⟨_, _, _, Cert.Kernel19Ideal.Value.run (F := Ideal) m g,
    (θ_run Cert.Reference19Ideal.defs _ _).mono (fun r h c => by
      obtain ⟨e0, e1, e2, er⟩ := h c
      obtain ⟨q0, q1, q2, q3⟩ := hag c
      rw [q0, q1, q2, q3] at e0
      rw [q1, q2] at e1
      rw [q1, q3] at e2
      exact ⟨e0.trans (funext fun i => change _ _ (IdealRules.named_const.ideal_named_scalar _ _ _ _ rfl)
        (IdealRules.named_const.ideal_named_scalar _ _ _ _ rfl) _ _ _ _ _ _), e1, e2, er⟩)
    (Cert.Reference19Ideal.Value.run (F := Ideal) m' g')⟩

/-- Of `g_up`: the reference's frame, of its run; -/
theorem frame20 : Cert.quiescent_Reference20Ideal := fun m g _ =>
  (θ_run Cert.Reference20Ideal.defs _ _).mono (fun r h => ⟨fun c => (h c).2.2.2,
    Idealize.ShloMosaic.sem_eq_zero_of_no_sems (by decide) r.2⟩) (Cert.Reference20Ideal.Value.run (F := Ideal) m g)

/-- the two named constants; -/
theorem named20 : Cert.preserves_Kernel20_Kernel20Ideal :=
  ⟨IdealRules.named_const.statement _ "c1" .f32 _ _ rfl, IdealRules.named_const.statement _ "c2" .f32 _ _ rfl⟩

/-- and the kernel and the reference leave the same three arrays. -/
theorem values20 : Cert.algebraic_Kernel20Ideal_Reference20Ideal := fun m g m' g' _ hag =>
  ⟨_, _, _, Cert.Kernel20Ideal.Value.run (F := Ideal) m g,
    (θ_run Cert.Reference20Ideal.defs _ _).mono (fun r h c => by
      obtain ⟨e0, e1, e2, er⟩ := h c
      obtain ⟨q0, q1, q2, q3⟩ := hag c
      rw [q0, q1, q2, q3] at e0
      rw [q1, q2] at e1
      rw [q1, q3] at e2
      exact ⟨e0.trans (funext fun i => change _ _ (IdealRules.named_const.ideal_named_scalar _ _ _ _ rfl)
        (IdealRules.named_const.ideal_named_scalar _ _ _ _ rfl) _ _ _ _ _ _), e1, e2, er⟩)
    (Cert.Reference20Ideal.Value.run (F := Ideal) m' g')⟩

/-- Of `w_up` and `a_up`: the reference's frame, of its run; -/
theorem frame21 : Cert.quiescent_Reference21Ideal := fun m g _ =>
  (θ_run Cert.Reference21Ideal.defs _ _).mono (fun r h => ⟨fun c => (h c).2.2.2,
    Idealize.ShloMosaic.sem_eq_zero_of_no_sems (by decide) r.2⟩) (Cert.Reference21Ideal.Value.run (F := Ideal) m g)

/-- the two named constants; -/
theorem named21 : Cert.preserves_Kernel21_Kernel21Ideal :=
  ⟨IdealRules.named_const.statement _ "c1" .f32 _ _ rfl, IdealRules.named_const.statement _ "c2" .f32 _ _ rfl⟩

/-- and the kernel and the reference leave the same three arrays. -/
theorem values21 : Cert.algebraic_Kernel21Ideal_Reference21Ideal := fun m g m' g' _ hag =>
  ⟨_, _, _, Cert.Kernel21Ideal.Value.run (F := Ideal) m g,
    (θ_run Cert.Reference21Ideal.defs _ _).mono (fun r h c => by
      obtain ⟨e0, e1, e2, er⟩ := h c
      obtain ⟨q0, q1, q2, q3⟩ := hag c
      rw [q0, q1, q2, q3] at e0
      rw [q1, q2] at e1
      rw [q1, q3] at e2
      exact ⟨e0.trans (funext fun i => change _ _ (IdealRules.named_const.ideal_named_scalar _ _ _ _ rfl)
        (IdealRules.named_const.ideal_named_scalar _ _ _ _ rfl) _ _ _ _ _ _), e1, e2, er⟩)
    (Cert.Reference21Ideal.Value.run (F := Ideal) m' g')⟩

/-- Of the small vectors, packed: the reference's frame, of its run; -/
theorem frame22 : Cert.quiescent_Reference22Ideal := fun m g _ =>
  (θ_run Cert.Reference22Ideal.defs _ _).mono (fun r h => ⟨fun c => (h c).2.2.2,
    Idealize.ShloMosaic.sem_eq_zero_of_no_sems (by decide) r.2⟩) (Cert.Reference22Ideal.Value.run (F := Ideal) m g)

/-- the two named constants; -/
theorem named22 : Cert.preserves_Kernel22_Kernel22Ideal :=
  ⟨IdealRules.named_const.statement _ "c1" .f32 _ _ rfl, IdealRules.named_const.statement _ "c2" .f32 _ _ rfl⟩

/-- and the kernel and the reference leave the same three arrays. -/
theorem values22 : Cert.algebraic_Kernel22Ideal_Reference22Ideal := fun m g m' g' _ hag =>
  ⟨_, _, _, Cert.Kernel22Ideal.Value.run (F := Ideal) m g,
    (θ_run Cert.Reference22Ideal.defs _ _).mono (fun r h c => by
      obtain ⟨e0, e1, e2, er⟩ := h c
      obtain ⟨q0, q1, q2, q3⟩ := hag c
      rw [q0, q1, q2, q3] at e0
      rw [q1, q2] at e1
      rw [q1, q3] at e2
      exact ⟨e0.trans (funext fun i => change _ _ (IdealRules.named_const.ideal_named_scalar _ _ _ _ rfl)
        (IdealRules.named_const.ideal_named_scalar _ _ _ _ rfl) _ _ _ _ _ _), e1, e2, er⟩)
    (Cert.Reference22Ideal.Value.run (F := Ideal) m' g')⟩

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Loop
public import proofs.«01_k».proof.Proof.KernelRun
public import proofs.«01_k».proof.Proof.RefRun
public import proofs.«01_k».proof.Proof.Finite
public import proofs.«01_k».proof.Proof.Gen.ReferenceIdeal.Step
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.MixOut
public import proofs.«01_k».proof.Proof.NormBack
public import proofs.«01_k».proof.Proof.FfnBack
public import proofs.«01_k».proof.Proof.FfnDh
public import proofs.«01_k».proof.Proof.FfnGw
public import proofs.«01_k».proof.Proof.FfnIn
public import proofs.«01_k».proof.Proof.FfnDown
public import proofs.«01_k».proof.Proof.Proj
public import proofs.«01_k».proof.Proof.DhSb
public import proofs.«01_k».proof.Proof.DhRw
public import proofs.«01_k».proof.Proof.DhGate
public import proofs.«01_k».proof.Proof.GinQ
public import proofs.«01_k».proof.Proof.GinRw
public import proofs.«01_k».proof.Proof.GinGate
public import proofs.«01_k».proof.Proof.AdamCalls
public import Idealize.ShloMosaic.Adequacy
public import Idealize.ShloMosaic.Init

@[expose] public section

noncomputable section

namespace Cert.Proof

open Idealize.ShloMosaic Idealize.SL.Sem Cert.Kernel

/-- The facts of the precondition's broadcasts. -/
theorem pre_facts : Cert.Pre_finite.Facts where
  bcast_S_S4x2048x512 := by decide
  bcast_S_S4x32x8x64x64 := by decide

/-- The reference's frame, of its run: the arguments end unchanged and it declares no semaphore. -/
theorem frame_reference : Cert.quiescent_ReferenceIdeal := fun m g _ =>
  (θ_run Cert.ReferenceIdeal.defs _ _).mono (fun r h => ⟨fun c => (h c).2.2.2.2.2.2,
    Idealize.ShloMosaic.sem_eq_zero_of_no_sems (by decide) r.2⟩) (Cert.ReferenceIdeal.Value.run (F := Ideal) m g)

/-- Under the precondition the arguments are finite numbers. -/
theorem finite_args [hP : Cert.Pre_finite.Facts]
    {m : (ℓ : Loc Cert.KernelIdeal.nD Cert.KernelIdeal.τ Cert.KernelIdeal.sig) → Buf (Elt Ideal) ℓ}
    (h : Cert.Pre_KernelIdeal_finite m) (c : Dev Cert.KernelIdeal.nD) : (Cert.Wkv.Kernel.args m c).Finite where
  f0 := Cert.Wkv.fini_of_pre _ _ (h c).1
  f1 := Cert.Wkv.fini_of_pre _ _ (h c).2.1
  f2 := Cert.Wkv.fini_of_pre _ _ (h c).2.2.1
  f3 := Cert.Wkv.fini_of_pre _ _ (h c).2.2.2.1
  f4 := Cert.Wkv.fini_of_pre _ _ (h c).2.2.2.2.1
  f5 := Cert.Wkv.fini_of_pre _ _ (h c).2.2.2.2.2.1
  f6 := Cert.Wkv.fini_of_pre _ _ (h c).2.2.2.2.2.2.1
  f7 := Cert.Wkv.fini_of_pre _ _ (h c).2.2.2.2.2.2.2

/-- One head of the arguments, on one device. -/
def head (m : (ℓ : Loc Cert.KernelIdeal.nD Cert.KernelIdeal.τ Cert.KernelIdeal.sig) → Buf (Elt Ideal) ℓ)
    (c : Dev Cert.KernelIdeal.nD) : Fin 4 → Fin 8 → Cert.Wkv.Head := (Cert.Wkv.Kernel.args m c).head

/-- The states the reference's loop goes through. -/
def trips (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.Wkv.Loop.initState m c
  | n + 1 => Cert.ReferenceIdeal.Step.step n (trips m c n)

/-- After the last trip, from arguments that are the kernel's. -/
theorem trips_inv (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hf : (Cert.Wkv.Kernel.args m c).Finite)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.Wkv.Ref.Inv (head m c) 4096 (trips m' c 4096) := by
  refine Cert.Wkv.Ref.iter_inv ?_ (fun n => rfl) 4096 (le_refl _)
  have e : trips m' c 0 = Cert.ReferenceIdeal.Step.init (Cert.Wkv.Kernel.args m c).x0 (Cert.Wkv.Kernel.args m c).x1
      (Cert.Wkv.Kernel.args m c).x2 (Cert.Wkv.Kernel.args m c).x3 (Cert.Wkv.Kernel.args m c).x4 (Cert.Wkv.Kernel.args m c).x5
      (Cert.Wkv.Kernel.args m c).x6 (Cert.Wkv.Kernel.args m c).x7 := by
    show Cert.Wkv.Loop.initState m' c = _
    unfold Cert.Wkv.Loop.initState
    rw [h0, h1, h2, h3, h4, h5, h6, h7]
    rfl
  rw [e]
  exact Cert.Wkv.Ref.inv_init _ hf

/-- The kernel and the reference leave the same arrays: the gradients of every head. -/
theorem values [hP : Cert.Pre_finite.Facts] : Cert.algebraic_KernelIdeal_ReferenceIdeal_pre_finite := fun m g m' g' hpre hag =>
  have inv := fun c => trips_inv m m' c (finite_args hpre c) (hag c).1 (hag c).2.1 (hag c).2.2.1 (hag c).2.2.2.1 (hag c).2.2.2.2.1 (hag c).2.2.2.2.2.1 (hag c).2.2.2.2.2.2.1 (hag c).2.2.2.2.2.2.2
  ⟨fun c => Cert.Wkv.lay fun b h => (head m c b h).gr, fun c => Cert.Wkv.lay fun b h => (head m c b h).glw, fun c => Cert.Wkv.lay fun b h => (head m c b h).gk, fun c => Cert.Wkv.lay fun b h => (head m c b h).gv, fun c => Cert.Wkv.lay fun b h => (head m c b h).gkap, fun c => Cert.Wkv.lay fun b h => (head m c b h).ga,
    Cert.Wkv.Kernel.run m g (finite_args hpre),
    (θ_run Cert.ReferenceIdeal.defs _ _).mono (fun r h c => ⟨(h c).1.trans (Cert.Wkv.Ref.res13 (inv c)), (h c).2.1.trans (Cert.Wkv.Ref.res14 (inv c)), (h c).2.2.1.trans (Cert.Wkv.Ref.res15 (inv c)), (h c).2.2.2.1.trans (Cert.Wkv.Ref.res16 (inv c)), (h c).2.2.2.2.1.trans (Cert.Wkv.Ref.res17 (inv c)), (h c).2.2.2.2.2.1.trans (Cert.Wkv.Ref.res18 (inv c)), (h c).2.2.2.2.2.2⟩)
      (Cert.Wkv.Loop.run_iter m' g' (trips m') (fun _ => rfl) (fun _ _ => rfl))⟩

/-- Of the gradient back through the gated unit: the reference's frame, of its run. -/
theorem frame_reference2 : Cert.quiescent_Reference2Ideal := fun m g _ =>
  (θ_run Cert.Reference2Ideal.defs _ _).mono (fun r h => ⟨fun c => (h c).2.2,
    Idealize.ShloMosaic.sem_eq_zero_of_no_sems (by decide) r.2⟩) (Cert.Reference2Ideal.Value.run (F := Ideal) m g)

/-- And the kernel and the reference leave the same arrays. -/
theorem values2 : Cert.algebraic_Kernel2Ideal_Reference2Ideal := fun m g m' g' _ hag =>
  ⟨fun c => Cert.Ffn.Back.res0 (Cert.Ffn.Back.a0 m c) (Cert.Ffn.Back.a1 m c) (Cert.Ffn.Back.a2 m c) (Cert.Ffn.Back.a3 m c), fun c => Cert.Ffn.Back.res1 (Cert.Ffn.Back.a0 m c) (Cert.Ffn.Back.a1 m c) (Cert.Ffn.Back.a2 m c),
    Cert.Ffn.Back.run m g,
    (θ_run Cert.Reference2Ideal.defs _ _).mono (fun r h c => ⟨(h c).1.trans (congr (congr (congr (congrArg (Cert.Ffn.Back.res0) ((hag c).1)) ((hag c).2.1)) ((hag c).2.2.1)) ((hag c).2.2.2)), (h c).2.1.trans (congr (congr (congrArg (Cert.Ffn.Back.res1) ((hag c).1)) ((hag c).2.1)) ((hag c).2.2.1)), (h c).2.2⟩) (Cert.Ffn.Back.Ref.run m' g')⟩

/-- Of the gradient of the unit's input rows: the reference's frame, of its run. -/
theorem frame_reference3 : Cert.quiescent_Reference3Ideal := fun m g _ =>
  (θ_run Cert.Reference3Ideal.defs _ _).mono (fun r h => ⟨fun c => (h c).2,
    Idealize.ShloMosaic.sem_eq_zero_of_no_sems (by decide) r.2⟩) (Cert.Reference3Ideal.Value.run (F := Ideal) m g)

/-- And the kernel and the reference leave the same arrays. -/
theorem values3 : Cert.algebraic_Kernel3Ideal_Reference3Ideal := fun m g m' g' _ hag =>
  ⟨fun c => Cert.Ffn.Dh.res (Cert.Ffn.Dh.a0 m c) (Cert.Ffn.Dh.a1 m c) (Cert.Ffn.Dh.a2 m c) (Cert.Ffn.Dh.a3 m c),
    Cert.Ffn.Dh.run m g,
    (θ_run Cert.Reference3Ideal.defs _ _).mono (fun r h c => ⟨(h c).1.trans (congr (congr (congr (congrArg (Cert.Ffn.Dh.res) ((hag c).1)) ((hag c).2.1)) ((hag c).2.2.1)) ((hag c).2.2.2)), (h c).2⟩) (Cert.Ffn.Dh.Ref.run m' g')⟩

/-- Of a weight's gradient: the reference's frame, of its run. -/
theorem frame_reference4 : Cert.quiescent_Reference4Ideal := fun m g _ =>
  (θ_run Cert.Reference4Ideal.defs _ _).mono (fun r h => ⟨fun c => (h c).2,
    Idealize.ShloMosaic.sem_eq_zero_of_no_sems (by decide) r.2⟩) (Cert.Reference4Ideal.Value.run (F := Ideal) m g)

/-- And the kernel and the reference leave the same arrays. -/
theorem values4 : Cert.algebraic_Kernel4Ideal_Reference4Ideal := fun m g m' g' _ hag =>
  ⟨fun c => Cert.Ffn.Gw.prod (Cert.Ffn.Gw.a0 m c) (Cert.Ffn.Gw.a1 m c),
    Cert.Ffn.Gw.run m g,
    (θ_run Cert.Reference4Ideal.defs _ _).mono (fun r h c => ⟨(h c).1.trans (congr (congrArg (Cert.Ffn.Gw.prod) ((hag c).1)) ((hag c).2)), (h c).2⟩) (Cert.Ffn.Gw.Ref.run m' g')⟩

/-- Of the gated unit: the reference's frame, of its run. -/
theorem frame_reference5 : Cert.quiescent_Reference5Ideal := fun m g _ =>
  (θ_run Cert.Reference5Ideal.defs _ _).mono (fun r h => ⟨fun c => (h c).2.2.2,
    Idealize.ShloMosaic.sem_eq_zero_of_no_sems (by decide) r.2⟩) (Cert.Reference5Ideal.Value.run (F := Ideal) m g)

/-- And the kernel and the reference leave the same arrays. -/
theorem values5 : Cert.algebraic_Kernel5Ideal_Reference5Ideal := fun m g m' g' _ hag =>
  ⟨fun c => Cert.Ffn.In.prod (Cert.Ffn.In.a0 m c) (Cert.Ffn.In.a1 m c), fun c => Cert.Ffn.In.prod (Cert.Ffn.In.a0 m c) (Cert.Ffn.In.a2 m c), fun c => Cert.Ffn.In.units (Cert.Ffn.In.a0 m c) (Cert.Ffn.In.a1 m c) (Cert.Ffn.In.a2 m c),
    Cert.Ffn.In.run m g,
    (θ_run Cert.Reference5Ideal.defs _ _).mono (fun r h c => ⟨(h c).1.trans (congr (congrArg (Cert.Ffn.In.prod) ((hag c).1)) ((hag c).2.1)), (h c).2.1.trans (congr (congrArg (Cert.Ffn.In.prod) ((hag c).1)) ((hag c).2.2)), (h c).2.2.1.trans (congr (congr (congrArg (Cert.Ffn.In.units) ((hag c).1)) ((hag c).2.1)) ((hag c).2.2)), (h c).2.2.2⟩) (Cert.Ffn.In.Ref.run m' g')⟩

/-- Of the product down: the reference's frame, of its run. -/
theorem frame_reference6 : Cert.quiescent_Reference6Ideal := fun m g _ =>
  (θ_run Cert.Reference6Ideal.defs _ _).mono (fun r h => ⟨fun c => (h c).2,
    Idealize.ShloMosaic.sem_eq_zero_of_no_sems (by decide) r.2⟩) (Cert.Reference6Ideal.Value.run (F := Ideal) m g)

/-- And the kernel and the reference leave the same arrays. -/
theorem values6 : Cert.algebraic_Kernel6Ideal_Reference6Ideal := fun m g m' g' _ hag =>
  ⟨fun c => Cert.Ffn.Down.prod (Cert.Ffn.Down.a0 m c) (Cert.Ffn.Down.a1 m c),
    Cert.Ffn.Down.run m g,
    (θ_run Cert.Reference6Ideal.defs _ _).mono (fun r h c => ⟨(h c).1.trans (congr (congrArg (Cert.Ffn.Down.prod) ((hag c).1)) ((hag c).2)), (h c).2⟩) (Cert.Ffn.Down.Ref.run m' g')⟩

/-- Of the projections to q, k and v: the reference's frame, of its run. -/
theorem frame_reference7 : Cert.quiescent_Reference7Ideal := fun m g _ =>
  (θ_run Cert.Reference7Ideal.defs _ _).mono (fun r h => ⟨fun c => (h c).2,
    Idealize.ShloMosaic.sem_eq_zero_of_no_sems (by decide) r.2⟩) (Cert.Reference7Ideal.Value.run (F := Ideal) m g)

/-- And the kernel and the reference leave the same array. -/
theorem values7 : Cert.algebraic_Kernel7Ideal_Reference7Ideal := fun m g m' g' _ hag =>
  ⟨fun c => Cert.Ffn.ProjSb.prod (Cert.Ffn.ProjSb.a0 m c) (Cert.Ffn.ProjSb.a1 m c),
    Cert.Ffn.ProjSb.run m g,
    (θ_run Cert.Reference7Ideal.defs _ _).mono (fun r h c => ⟨(h c).1.trans (congr (congrArg Cert.Ffn.ProjSb.prod ((hag c).1)) ((hag c).2)), (h c).2⟩) (Cert.Ffn.ProjSb.Ref.run m' g')⟩

/-- Of the projections of the recurrence: the reference's frame, of its run. -/
theorem frame_reference8 : Cert.quiescent_Reference8Ideal := fun m g _ =>
  (θ_run Cert.Reference8Ideal.defs _ _).mono (fun r h => ⟨fun c => (h c).2,
    Idealize.ShloMosaic.sem_eq_zero_of_no_sems (by decide) r.2⟩) (Cert.Reference8Ideal.Value.run (F := Ideal) m g)

/-- And the kernel and the reference leave the same array. -/
theorem values8 : Cert.algebraic_Kernel8Ideal_Reference8Ideal := fun m g m' g' _ hag =>
  ⟨fun c => Cert.Ffn.ProjRw.prod (Cert.Ffn.ProjRw.a0 m c) (Cert.Ffn.ProjRw.a1 m c),
    Cert.Ffn.ProjRw.run m g,
    (θ_run Cert.Reference8Ideal.defs _ _).mono (fun r h c => ⟨(h c).1.trans (congr (congrArg Cert.Ffn.ProjRw.prod ((hag c).1)) ((hag c).2)), (h c).2⟩) (Cert.Ffn.ProjRw.Ref.run m' g')⟩

/-- Of the projections of the two gates: the reference's frame, of its run. -/
theorem frame_reference9 : Cert.quiescent_Reference9Ideal := fun m g _ =>
  (θ_run Cert.Reference9Ideal.defs _ _).mono (fun r h => ⟨fun c => (h c).2,
    Idealize.ShloMosaic.sem_eq_zero_of_no_sems (by decide) r.2⟩) (Cert.Reference9Ideal.Value.run (F := Ideal) m g)

/-- And the kernel and the reference leave the same array. -/
theorem values9 : Cert.algebraic_Kernel9Ideal_Reference9Ideal := fun m g m' g' _ hag =>
  ⟨fun c => Cert.Ffn.ProjGate.prod (Cert.Ffn.ProjGate.a0 m c) (Cert.Ffn.ProjGate.a1 m c),
    Cert.Ffn.ProjGate.run m g,
    (θ_run Cert.Reference9Ideal.defs _ _).mono (fun r h c => ⟨(h c).1.trans (congr (congrArg Cert.Ffn.ProjGate.prod ((hag c).1)) ((hag c).2)), (h c).2⟩) (Cert.Ffn.ProjGate.Ref.run m' g')⟩

/-- Of the gradient of the mixer's rows, the part of the attention: the reference's frame, of its run. -/
theorem frame_reference10 : Cert.quiescent_Reference10Ideal := fun m g _ =>
  (θ_run Cert.Reference10Ideal.defs _ _).mono (fun r h => ⟨fun c => (h c).2,
    Idealize.ShloMosaic.sem_eq_zero_of_no_sems (by decide) r.2⟩) (Cert.Reference10Ideal.Value.run (F := Ideal) m g)

/-- And the kernel and the reference leave the same array. -/
theorem values10 : Cert.algebraic_Kernel10Ideal_Reference10Ideal := fun m g m' g' _ hag =>
  ⟨fun c => Cert.Ffn.DhSb.res (Cert.Ffn.DhSb.a0 m c) (Cert.Ffn.DhSb.a1 m c) (Cert.Ffn.DhSb.a2 m c) (Cert.Ffn.DhSb.a3 m c) (Cert.Ffn.DhSb.a4 m c) (Cert.Ffn.DhSb.a5 m c),
    Cert.Ffn.DhSb.run m g,
    (θ_run Cert.Reference10Ideal.defs _ _).mono (fun r h c => ⟨(h c).1.trans (congr (congr (congr (congr (congr (congrArg Cert.Ffn.DhSb.res ((hag c).1)) ((hag c).2.1)) ((hag c).2.2.1)) ((hag c).2.2.2.1)) ((hag c).2.2.2.2.1)) ((hag c).2.2.2.2.2)), (h c).2⟩) (Cert.Ffn.DhSb.Ref.run m' g')⟩

/-- Of its part of the recurrence: the reference's frame, of its run. -/
theorem frame_reference11 : Cert.quiescent_Reference11Ideal := fun m g _ =>
  (θ_run Cert.Reference11Ideal.defs _ _).mono (fun r h => ⟨fun c => (h c).2,
    Idealize.ShloMosaic.sem_eq_zero_of_no_sems (by decide) r.2⟩) (Cert.Reference11Ideal.Value.run (F := Ideal) m g)

/-- And the kernel and the reference leave the same array. -/
theorem values11 : Cert.algebraic_Kernel11Ideal_Reference11Ideal := fun m g m' g' _ hag =>
  ⟨fun c => Cert.Ffn.DhRw.res (Cert.Ffn.DhRw.a0 m c) (Cert.Ffn.DhRw.a1 m c) (Cert.Ffn.DhRw.a2 m c),
    Cert.Ffn.DhRw.run m g,
    (θ_run Cert.Reference11Ideal.defs _ _).mono (fun r h c => ⟨(h c).1.trans (congr (congr (congrArg Cert.Ffn.DhRw.res ((hag c).1)) ((hag c).2.1)) ((hag c).2.2)), (h c).2⟩) (Cert.Ffn.DhRw.Ref.run m' g')⟩

/-- Of its part of the gates: the reference's frame, of its run. -/
theorem frame_reference12 : Cert.quiescent_Reference12Ideal := fun m g _ =>
  (θ_run Cert.Reference12Ideal.defs _ _).mono (fun r h => ⟨fun c => (h c).2,
    Idealize.ShloMosaic.sem_eq_zero_of_no_sems (by decide) r.2⟩) (Cert.Reference12Ideal.Value.run (F := Ideal) m g)

/-- And the kernel and the reference leave the same array. -/
theorem values12 : Cert.algebraic_Kernel12Ideal_Reference12Ideal := fun m g m' g' _ hag =>
  ⟨fun c => Cert.Ffn.DhGate.res (Cert.Ffn.DhGate.a0 m c) (Cert.Ffn.DhGate.a1 m c) (Cert.Ffn.DhGate.a2 m c) (Cert.Ffn.DhGate.a3 m c) (Cert.Ffn.DhGate.a4 m c),
    Cert.Ffn.DhGate.run m g,
    (θ_run Cert.Reference12Ideal.defs _ _).mono (fun r h c => ⟨(h c).1.trans (congr (congr (congr (congr (congrArg Cert.Ffn.DhGate.res ((hag c).1)) ((hag c).2.1)) ((hag c).2.2.1)) ((hag c).2.2.2.1)) ((hag c).2.2.2.2)), (h c).2⟩) (Cert.Ffn.DhGate.Ref.run m' g')⟩

/-- Of the gradient of the weights of q, k or v: the reference's frame, of its run. -/
theorem frame_reference13 : Cert.quiescent_Reference13Ideal := fun m g _ =>
  (θ_run Cert.Reference13Ideal.defs _ _).mono (fun r h => ⟨fun c => (h c).2,
    Idealize.ShloMosaic.sem_eq_zero_of_no_sems (by decide) r.2⟩) (Cert.Reference13Ideal.Value.run (F := Ideal) m g)

/-- And the kernel and the reference leave the same array. -/
theorem values13 : Cert.algebraic_Kernel13Ideal_Reference13Ideal := fun m g m' g' _ hag =>
  ⟨fun c => Cert.Ffn.GinQ.prod (Cert.Ffn.GinQ.a0 m c) (Cert.Ffn.GinQ.a1 m c),
    Cert.Ffn.GinQ.run m g,
    (θ_run Cert.Reference13Ideal.defs _ _).mono (fun r h c => ⟨(h c).1.trans (congr (congrArg Cert.Ffn.GinQ.prod ((hag c).1)) ((hag c).2)), (h c).2⟩) (Cert.Ffn.GinQ.Ref.run m' g')⟩

/-- Of the gradient of the recurrence's weights: the reference's frame, of its run. -/
theorem frame_reference14 : Cert.quiescent_Reference14Ideal := fun m g _ =>
  (θ_run Cert.Reference14Ideal.defs _ _).mono (fun r h => ⟨fun c => (h c).2,
    Idealize.ShloMosaic.sem_eq_zero_of_no_sems (by decide) r.2⟩) (Cert.Reference14Ideal.Value.run (F := Ideal) m g)

/-- And the kernel and the reference leave the same array. -/
theorem values14 : Cert.algebraic_Kernel14Ideal_Reference14Ideal := fun m g m' g' _ hag =>
  ⟨fun c => Cert.Ffn.GinRw.prod (Cert.Ffn.GinRw.a0 m c) (Cert.Ffn.GinRw.a1 m c),
    Cert.Ffn.GinRw.run m g,
    (θ_run Cert.Reference14Ideal.defs _ _).mono (fun r h c => ⟨(h c).1.trans (congr (congrArg Cert.Ffn.GinRw.prod ((hag c).1)) ((hag c).2)), (h c).2⟩) (Cert.Ffn.GinRw.Ref.run m' g')⟩

/-- Of the gradient of a gate's weights: the reference's frame, of its run. -/
theorem frame_reference15 : Cert.quiescent_Reference15Ideal := fun m g _ =>
  (θ_run Cert.Reference15Ideal.defs _ _).mono (fun r h => ⟨fun c => (h c).2,
    Idealize.ShloMosaic.sem_eq_zero_of_no_sems (by decide) r.2⟩) (Cert.Reference15Ideal.Value.run (F := Ideal) m g)

/-- And the kernel and the reference leave the same array. -/
theorem values15 : Cert.algebraic_Kernel15Ideal_Reference15Ideal := fun m g m' g' _ hag =>
  ⟨fun c => Cert.Ffn.GinGate.prod (Cert.Ffn.GinGate.a0 m c) (Cert.Ffn.GinGate.a1 m c),
    Cert.Ffn.GinGate.run m g,
    (θ_run Cert.Reference15Ideal.defs _ _).mono (fun r h c => ⟨(h c).1.trans (congr (congrArg Cert.Ffn.GinGate.prod ((hag c).1)) ((hag c).2)), (h c).2⟩) (Cert.Ffn.GinGate.Ref.run m' g')⟩

theorem frame_reference23 : Cert.quiescent_Reference23Ideal := fun m g _ =>
  (θ_run Cert.Reference23Ideal.defs _ _).mono (fun r h => ⟨fun c => (h c).2,
    Idealize.ShloMosaic.sem_eq_zero_of_no_sems (by decide) r.2⟩) (Cert.Reference23Ideal.Value.run (F := Ideal) m g)

theorem values23 : Cert.algebraic_Kernel23Ideal_Reference23Ideal := fun m g m' g' _ hag =>
  ⟨fun c => Cert.Mix.OutSb.prod (Cert.Mix.OutSb.a0 m c) (Cert.Mix.OutSb.a1 m c),
    Cert.Mix.OutSb.run m g,
    (θ_run Cert.Reference23Ideal.defs _ _).mono (fun r h c => ⟨(h c).1.trans (congr (congrArg Cert.Mix.OutSb.prod ((hag c).1)) ((hag c).2)), (h c).2⟩) (Cert.Mix.OutSb.Ref.run m' g')⟩

theorem frame_reference24 : Cert.quiescent_Reference24Ideal := fun m g _ =>
  (θ_run Cert.Reference24Ideal.defs _ _).mono (fun r h => ⟨fun c => (h c).2,
    Idealize.ShloMosaic.sem_eq_zero_of_no_sems (by decide) r.2⟩) (Cert.Reference24Ideal.Value.run (F := Ideal) m g)

theorem values24 : Cert.algebraic_Kernel24Ideal_Reference24Ideal := fun m g m' g' _ hag =>
  ⟨fun c => Cert.Mix.Last.prod (Cert.Mix.Last.a0 m c) (Cert.Mix.Last.a1 m c),
    Cert.Mix.Last.run m g,
    (θ_run Cert.Reference24Ideal.defs _ _).mono (fun r h c => ⟨(h c).1.trans (congr (congrArg Cert.Mix.Last.prod ((hag c).1)) ((hag c).2)), (h c).2⟩) (Cert.Mix.Last.Ref.run m' g')⟩

theorem frame_reference25 : Cert.quiescent_Reference25Ideal := fun m g _ =>
  (θ_run Cert.Reference25Ideal.defs _ _).mono (fun r h => ⟨fun c => (h c).2,
    Idealize.ShloMosaic.sem_eq_zero_of_no_sems (by decide) r.2⟩) (Cert.Reference25Ideal.Value.run (F := Ideal) m g)

theorem values25 : Cert.algebraic_Kernel25Ideal_Reference25Ideal := fun m g m' g' _ hag =>
  ⟨fun c => Cert.Mix.LastBack.prod (Cert.Mix.LastBack.a0 m c) (Cert.Mix.LastBack.a1 m c),
    Cert.Mix.LastBack.run m g,
    (θ_run Cert.Reference25Ideal.defs _ _).mono (fun r h c => ⟨(h c).1.trans (congr (congrArg Cert.Mix.LastBack.prod ((hag c).1)) ((hag c).2)), (h c).2⟩) (Cert.Mix.LastBack.Ref.run m' g')⟩

theorem frame_reference26 : Cert.quiescent_Reference26Ideal := fun m g _ =>
  (θ_run Cert.Reference26Ideal.defs _ _).mono (fun r h => ⟨fun c => (h c).2,
    Idealize.ShloMosaic.sem_eq_zero_of_no_sems (by decide) r.2⟩) (Cert.Reference26Ideal.Value.run (F := Ideal) m g)

theorem values26 : Cert.algebraic_Kernel26Ideal_Reference26Ideal := fun m g m' g' _ hag =>
  ⟨fun c => Cert.Mix.OutBack.prod (Cert.Mix.OutBack.a0 m c) (Cert.Mix.OutBack.a1 m c),
    Cert.Mix.OutBack.run m g,
    (θ_run Cert.Reference26Ideal.defs _ _).mono (fun r h c => ⟨(h c).1.trans (congr (congrArg Cert.Mix.OutBack.prod ((hag c).1)) ((hag c).2)), (h c).2⟩) (Cert.Mix.OutBack.Ref.run m' g')⟩

theorem frame_reference27 : Cert.quiescent_Reference27Ideal := fun m g _ =>
  (θ_run Cert.Reference27Ideal.defs _ _).mono (fun r h => ⟨fun c => (h c).2.2,
    Idealize.ShloMosaic.sem_eq_zero_of_no_sems (by decide) r.2⟩) (Cert.Reference27Ideal.Value.run (F := Ideal) m g)

theorem values27 : Cert.algebraic_Kernel27Ideal_Reference27Ideal := fun m g m' g' _ hag =>
  ⟨fun c => Cert.NormBack.gradX (Cert.NormBack.a0 m c) (Cert.NormBack.a1 m c) (Cert.NormBack.a2 m c) (Cert.NormBack.a3 m c),
    fun c => Cert.NormBack.gradG (Cert.NormBack.a0 m c) (Cert.NormBack.a2 m c),
    Cert.NormBack.run m g,
    (θ_run Cert.Reference27Ideal.defs _ _).mono (fun r h c =>
      ⟨(h c).1.trans (congr (congr (congr (congrArg Cert.NormBack.gradX (hag c).1) (hag c).2.1) (hag c).2.2.1) (hag c).2.2.2),
        (h c).2.1.trans (congr (congrArg Cert.NormBack.gradG (hag c).1) (hag c).2.2.1), (h c).2.2⟩) (Cert.NormBack.Ref.run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  pre_facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  fun m g _ => Cert.Kernel9.Gen.frame m g, fun m g _ => Cert.Kernel9Ideal.Gen.frame m g, frame_reference9,
  fun m g _ => Cert.Kernel10.Gen.frame m g, fun m g _ => Cert.Kernel10Ideal.Gen.frame m g, frame_reference10,
  fun m g _ => Cert.Kernel11.Gen.frame m g, fun m g _ => Cert.Kernel11Ideal.Gen.frame m g, frame_reference11,
  fun m g _ => Cert.Kernel12.Gen.frame m g, fun m g _ => Cert.Kernel12Ideal.Gen.frame m g, frame_reference12,
  fun m g _ => Cert.Kernel13.Gen.frame m g, fun m g _ => Cert.Kernel13Ideal.Gen.frame m g, frame_reference13,
  fun m g _ => Cert.Kernel14.Gen.frame m g, fun m g _ => Cert.Kernel14Ideal.Gen.frame m g, frame_reference14,
  fun m g _ => Cert.Kernel15.Gen.frame m g, fun m g _ => Cert.Kernel15Ideal.Gen.frame m g, frame_reference15,
  fun m g _ => Cert.Kernel16.Gen.frame m g, fun m g _ => Cert.Kernel16Ideal.Gen.frame m g, Cert.Adam.frame16,
  fun m g _ => Cert.Kernel17.Gen.frame m g, fun m g _ => Cert.Kernel17Ideal.Gen.frame m g, Cert.Adam.frame17,
  fun m g _ => Cert.Kernel18.Gen.frame m g, fun m g _ => Cert.Kernel18Ideal.Gen.frame m g, Cert.Adam.frame18,
  fun m g _ => Cert.Kernel19.Gen.frame m g, fun m g _ => Cert.Kernel19Ideal.Gen.frame m g, Cert.Adam.frame19,
  fun m g _ => Cert.Kernel20.Gen.frame m g, fun m g _ => Cert.Kernel20Ideal.Gen.frame m g, Cert.Adam.frame20,
  fun m g _ => Cert.Kernel21.Gen.frame m g, fun m g _ => Cert.Kernel21Ideal.Gen.frame m g, Cert.Adam.frame21,
  fun m g _ => Cert.Kernel22.Gen.frame m g, fun m g _ => Cert.Kernel22Ideal.Gen.frame m g, Cert.Adam.frame22,
  fun m g _ => Cert.Kernel23.Gen.frame m g, fun m g _ => Cert.Kernel23Ideal.Gen.frame m g, frame_reference23,
  fun m g _ => Cert.Kernel24.Gen.frame m g, fun m g _ => Cert.Kernel24Ideal.Gen.frame m g, frame_reference24,
  fun m g _ => Cert.Kernel25.Gen.frame m g, fun m g _ => Cert.Kernel25Ideal.Gen.frame m g, frame_reference25,
  fun m g _ => Cert.Kernel26.Gen.frame m g, fun m g _ => Cert.Kernel26Ideal.Gen.frame m g, frame_reference26,
  fun m g _ => Cert.Kernel27.Gen.frame m g, fun m g _ => Cert.Kernel27Ideal.Gen.frame m g, frame_reference27,
  trivial, values (hP := pre_facts),
  trivial, values2, trivial, values3, trivial, values4, trivial, values5, trivial, values6,
  trivial, values7, trivial, values8, trivial, values9, trivial, values10, trivial, values11, trivial, values12, trivial, values13, trivial, values14, trivial, values15,
  Cert.Adam.named16, Cert.Adam.values16,
  Cert.Adam.named17, Cert.Adam.values17,
  Cert.Adam.named18, Cert.Adam.values18,
  Cert.Adam.named19, Cert.Adam.values19,
  Cert.Adam.named20, Cert.Adam.values20,
  Cert.Adam.named21, Cert.Adam.values21,
  Cert.Adam.named22, Cert.Adam.values22,
  trivial, values23,
  trivial, values24,
  trivial, values25,
  trivial, values26,
  trivial, values27⟩

end Cert.Proof

end
